-- ==== Defs.lean ====
def Pre_KernelV (m : (ℓ : Loc Cert.KernelV.nD Cert.KernelV.τ Cert.KernelV.sig) → Buf (Elt Bits) ℓ) : Prop :=
  True

def Pre_KernelVIdeal (m : (ℓ : Loc Cert.KernelVIdeal.nD Cert.KernelVIdeal.τ Cert.KernelVIdeal.sig) → Buf (Elt Ideal) ℓ) : Prop :=
  True

def Pre_KernelVIdeal_finite_v [hPre_finite_v : Cert.Pre_finite_v.Facts] (m : (ℓ : Loc Cert.KernelVIdeal.nD Cert.KernelVIdeal.τ Cert.KernelVIdeal.sig) → Buf (Elt Ideal) ℓ) : Prop :=
  ∀ c : Dev Cert.KernelVIdeal.nD,
    (Cert.Pre_finite_v.fn (F := Ideal) (m ((c.tc : Thread Cert.KernelVIdeal.nD Cert.KernelVIdeal.τ).loc Cert.KernelVIdeal.main_arg0)) (m ((c.tc : Thread Cert.KernelVIdeal.nD Cert.KernelVIdeal.τ).loc Cert.KernelVIdeal.main_arg1)) (m ((c.tc : Thread Cert.KernelVIdeal.nD Cert.KernelVIdeal.τ).loc Cert.KernelVIdeal.main_arg2)) (m ((c.tc : Thread Cert.KernelVIdeal.nD Cert.KernelVIdeal.τ).loc Cert.KernelVIdeal.main_arg3)) (m ((c.tc : Thread Cert.KernelVIdeal.nD Cert.KernelVIdeal.τ).loc Cert.KernelVIdeal.main_arg4)) (m ((c.tc : Thread Cert.KernelVIdeal.nD Cert.KernelVIdeal.τ).loc Cert.KernelVIdeal.main_arg5)) (m ((c.tc : Thread Cert.KernelVIdeal.nD Cert.KernelVIdeal.τ).loc Cert.KernelVIdeal.main_arg6))) = (fun _ => 1#1)

def Pre_ReferenceVIdeal (m : (ℓ : Loc Cert.ReferenceVIdeal.nD Cert.ReferenceVIdeal.τ Cert.ReferenceVIdeal.sig) → Buf (Elt Ideal) ℓ) : Prop :=
  True

def Pre_ReferenceVIdeal_finite_v [hPre_finite_v : Cert.Pre_finite_v.Facts] (m : (ℓ : Loc Cert.ReferenceVIdeal.nD Cert.ReferenceVIdeal.τ Cert.ReferenceVIdeal.sig) → Buf (Elt Ideal) ℓ) : Prop :=
  ∀ c : Dev Cert.ReferenceVIdeal.nD,
    (Cert.Pre_finite_v.fn (F := Ideal) (m ((c.tc : Thread Cert.ReferenceVIdeal.nD Cert.ReferenceVIdeal.τ).loc Cert.ReferenceVIdeal.main_arg0)) (m ((c.tc : Thread Cert.ReferenceVIdeal.nD Cert.ReferenceVIdeal.τ).loc Cert.ReferenceVIdeal.main_arg1)) (m ((c.tc : Thread Cert.ReferenceVIdeal.nD Cert.ReferenceVIdeal.τ).loc Cert.ReferenceVIdeal.main_arg2)) (m ((c.tc : Thread Cert.ReferenceVIdeal.nD Cert.ReferenceVIdeal.τ).loc Cert.ReferenceVIdeal.main_arg3)) (m ((c.tc : Thread Cert.ReferenceVIdeal.nD Cert.ReferenceVIdeal.τ).loc Cert.ReferenceVIdeal.main_arg4)) (m ((c.tc : Thread Cert.ReferenceVIdeal.nD Cert.ReferenceVIdeal.τ).loc Cert.ReferenceVIdeal.main_arg5)) (m ((c.tc : Thread Cert.ReferenceVIdeal.nD Cert.ReferenceVIdeal.τ).loc Cert.ReferenceVIdeal.main_arg6))) = (fun _ => 1#1)

def Pre_KernelU (m : (ℓ : Loc Cert.KernelU.nD Cert.KernelU.τ Cert.KernelU.sig) → Buf (Elt Bits) ℓ) : Prop :=
  True

def Pre_KernelUIdeal (m : (ℓ : Loc Cert.KernelUIdeal.nD Cert.KernelUIdeal.τ Cert.KernelUIdeal.sig) → Buf (Elt Ideal) ℓ) : Prop :=
  True

def Pre_KernelUIdeal_finite_u [hPre_finite_u : Cert.Pre_finite_u.Facts] (m : (ℓ : Loc Cert.KernelUIdeal.nD Cert.KernelUIdeal.τ Cert.KernelUIdeal.sig) → Buf (Elt Ideal) ℓ) : Prop :=
  ∀ c : Dev Cert.KernelUIdeal.nD,
    (Cert.Pre_finite_u.fn (F := Ideal) (m ((c.tc : Thread Cert.KernelUIdeal.nD Cert.KernelUIdeal.τ).loc Cert.KernelUIdeal.main_arg0)) (m ((c.tc : Thread Cert.KernelUIdeal.nD Cert.KernelUIdeal.τ).loc Cert.KernelUIdeal.main_arg1)) (m ((c.tc : Thread Cert.KernelUIdeal.nD Cert.KernelUIdeal.τ).loc Cert.KernelUIdeal.main_arg2)) (m ((c.tc : Thread Cert.KernelUIdeal.nD Cert.KernelUIdeal.τ).loc Cert.KernelUIdeal.main_arg3)) (m ((c.tc : Thread Cert.KernelUIdeal.nD Cert.KernelUIdeal.τ).loc Cert.KernelUIdeal.main_arg4)) (m ((c.tc : Thread Cert.KernelUIdeal.nD Cert.KernelUIdeal.τ).loc Cert.KernelUIdeal.main_arg5)) (m ((c.tc : Thread Cert.KernelUIdeal.nD Cert.KernelUIdeal.τ).loc Cert.KernelUIdeal.main_arg6)) (m ((c.tc : Thread Cert.KernelUIdeal.nD Cert.KernelUIdeal.τ).loc Cert.KernelUIdeal.main_arg7)) (m ((c.tc : Thread Cert.KernelUIdeal.nD Cert.KernelUIdeal.τ).loc Cert.KernelUIdeal.main_arg8)) (m ((c.tc : Thread Cert.KernelUIdeal.nD Cert.KernelUIdeal.τ).loc Cert.KernelUIdeal.main_arg9))) = (fun _ => 1#1)

def Pre_ReferenceUIdeal (m : (ℓ : Loc Cert.ReferenceUIdeal.nD Cert.ReferenceUIdeal.τ Cert.ReferenceUIdeal.sig) → Buf (Elt Ideal) ℓ) : Prop :=
  True

def Pre_ReferenceUIdeal_finite_u [hPre_finite_u : Cert.Pre_finite_u.Facts] (m : (ℓ : Loc Cert.ReferenceUIdeal.nD Cert.ReferenceUIdeal.τ Cert.ReferenceUIdeal.sig) → Buf (Elt Ideal) ℓ) : Prop :=
  ∀ c : Dev Cert.ReferenceUIdeal.nD,
    (Cert.Pre_finite_u.fn (F := Ideal) (m ((c.tc : Thread Cert.ReferenceUIdeal.nD Cert.ReferenceUIdeal.τ).loc Cert.ReferenceUIdeal.main_arg0)) (m ((c.tc : Thread Cert.ReferenceUIdeal.nD Cert.ReferenceUIdeal.τ).loc Cert.ReferenceUIdeal.main_arg1)) (m ((c.tc : Thread Cert.ReferenceUIdeal.nD Cert.ReferenceUIdeal.τ).loc Cert.ReferenceUIdeal.main_arg2)) (m ((c.tc : Thread Cert.ReferenceUIdeal.nD Cert.ReferenceUIdeal.τ).loc Cert.ReferenceUIdeal.main_arg3)) (m ((c.tc : Thread Cert.ReferenceUIdeal.nD Cert.ReferenceUIdeal.τ).loc Cert.ReferenceUIdeal.main_arg4)) (m ((c.tc : Thread Cert.ReferenceUIdeal.nD Cert.ReferenceUIdeal.τ).loc Cert.ReferenceUIdeal.main_arg5)) (m ((c.tc : Thread Cert.ReferenceUIdeal.nD Cert.ReferenceUIdeal.τ).loc Cert.ReferenceUIdeal.main_arg6)) (m ((c.tc : Thread Cert.ReferenceUIdeal.nD Cert.ReferenceUIdeal.τ).loc Cert.ReferenceUIdeal.main_arg7)) (m ((c.tc : Thread Cert.ReferenceUIdeal.nD Cert.ReferenceUIdeal.τ).loc Cert.ReferenceUIdeal.main_arg8)) (m ((c.tc : Thread Cert.ReferenceUIdeal.nD Cert.ReferenceUIdeal.τ).loc Cert.ReferenceUIdeal.main_arg9))) = (fun _ => 1#1)

def Pre_KernelD (m : (ℓ : Loc Cert.KernelD.nD Cert.KernelD.τ Cert.KernelD.sig) → Buf (Elt Bits) ℓ) : Prop :=
  True

def Pre_KernelDIdeal (m : (ℓ : Loc Cert.KernelDIdeal.nD Cert.KernelDIdeal.τ Cert.KernelDIdeal.sig) → Buf (Elt Ideal) ℓ) : Prop :=
  True

def Pre_KernelDIdeal_finite_d [hPre_finite_d : Cert.Pre_finite_d.Facts] (m : (ℓ : Loc Cert.KernelDIdeal.nD Cert.KernelDIdeal.τ Cert.KernelDIdeal.sig) → Buf (Elt Ideal) ℓ) : Prop :=
  ∀ c : Dev Cert.KernelDIdeal.nD,
    (Cert.Pre_finite_d.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4))) = (fun _ => 1#1)

def Pre_ReferenceDIdeal (m : (ℓ : Loc Cert.ReferenceDIdeal.nD Cert.ReferenceDIdeal.τ Cert.ReferenceDIdeal.sig) → Buf (Elt Ideal) ℓ) : Prop :=
  True

def Pre_ReferenceDIdeal_finite_d [hPre_finite_d : Cert.Pre_finite_d.Facts] (m : (ℓ : Loc Cert.ReferenceDIdeal.nD Cert.ReferenceDIdeal.τ Cert.ReferenceDIdeal.sig) → Buf (Elt Ideal) ℓ) : Prop :=
  ∀ c : Dev Cert.ReferenceDIdeal.nD,
    (Cert.Pre_finite_d.fn (F := Ideal) (m ((c.tc : Thread Cert.ReferenceDIdeal.nD Cert.ReferenceDIdeal.τ).loc Cert.ReferenceDIdeal.main_arg0)) (m ((c.tc : Thread Cert.ReferenceDIdeal.nD Cert.ReferenceDIdeal.τ).loc Cert.ReferenceDIdeal.main_arg1)) (m ((c.tc : Thread Cert.ReferenceDIdeal.nD Cert.ReferenceDIdeal.τ).loc Cert.ReferenceDIdeal.main_arg2)) (m ((c.tc : Thread Cert.ReferenceDIdeal.nD Cert.ReferenceDIdeal.τ).loc Cert.ReferenceDIdeal.main_arg3)) (m ((c.tc : Thread Cert.ReferenceDIdeal.nD Cert.ReferenceDIdeal.τ).loc Cert.ReferenceDIdeal.main_arg4))) = (fun _ => 1#1)

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_KernelAIdeal_finite_a [hPre_finite_a : Cert.Pre_finite_a.Facts] (m : (ℓ : Loc Cert.KernelAIdeal.nD Cert.KernelAIdeal.τ Cert.KernelAIdeal.sig) → Buf (Elt Ideal) ℓ) : Prop :=
  ∀ c : Dev Cert.KernelAIdeal.nD,
    (Cert.Pre_finite_a.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3))) = (fun _ => 1#1)

def Pre_ReferenceAIdeal (m : (ℓ : Loc Cert.ReferenceAIdeal.nD Cert.ReferenceAIdeal.τ Cert.ReferenceAIdeal.sig) → Buf (Elt Ideal) ℓ) : Prop :=
  True

def Pre_ReferenceAIdeal_finite_a [hPre_finite_a : Cert.Pre_finite_a.Facts] (m : (ℓ : Loc Cert.ReferenceAIdeal.nD Cert.ReferenceAIdeal.τ Cert.ReferenceAIdeal.sig) → Buf (Elt Ideal) ℓ) : Prop :=
  ∀ c : Dev Cert.ReferenceAIdeal.nD,
    (Cert.Pre_finite_a.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3))) = (fun _ => 1#1)

def Pre_KernelM (m : (ℓ : Loc Cert.KernelM.nD Cert.KernelM.τ Cert.KernelM.sig) → Buf (Elt Bits) ℓ) : Prop :=
  True

def Pre_KernelMIdeal (m : (ℓ : Loc Cert.KernelMIdeal.nD Cert.KernelMIdeal.τ Cert.KernelMIdeal.sig) → Buf (Elt Ideal) ℓ) : Prop :=
  True

def Pre_KernelMIdeal_finite_m [hPre_finite_m : Cert.Pre_finite_m.Facts] (m : (ℓ : Loc Cert.KernelMIdeal.nD Cert.KernelMIdeal.τ Cert.KernelMIdeal.sig) → Buf (Elt Ideal) ℓ) : Prop :=
  ∀ c : Dev Cert.KernelMIdeal.nD,
    (Cert.Pre_finite_m.fn (F := Ideal) (m ((c.tc : Thread Cert.KernelMIdeal.nD Cert.KernelMIdeal.τ).loc Cert.KernelMIdeal.main_arg0)) (m ((c.tc : Thread Cert.KernelMIdeal.nD Cert.KernelMIdeal.τ).loc Cert.KernelMIdeal.main_arg1)) (m ((c.tc : Thread Cert.KernelMIdeal.nD Cert.KernelMIdeal.τ).loc Cert.KernelMIdeal.main_arg2)) (m ((c.tc : Thread Cert.KernelMIdeal.nD Cert.KernelMIdeal.τ).loc Cert.KernelMIdeal.main_arg3)) (m ((c.tc : Thread Cert.KernelMIdeal.nD Cert.KernelMIdeal.τ).loc Cert.KernelMIdeal.main_arg4))) = (fun _ => 1#1)

def Pre_ReferenceMIdeal (m : (ℓ : Loc Cert.ReferenceMIdeal.nD Cert.ReferenceMIdeal.τ Cert.ReferenceMIdeal.sig) → Buf (Elt Ideal) ℓ) : Prop :=
  True

def Pre_ReferenceMIdeal_finite_m [hPre_finite_m : Cert.Pre_finite_m.Facts] (m : (ℓ : Loc Cert.ReferenceMIdeal.nD Cert.ReferenceMIdeal.τ Cert.ReferenceMIdeal.sig) → Buf (Elt Ideal) ℓ) : Prop :=
  ∀ c : Dev Cert.ReferenceMIdeal.nD,
    (Cert.Pre_finite_m.fn (F := Ideal) (m ((c.tc : Thread Cert.ReferenceMIdeal.nD Cert.ReferenceMIdeal.τ).loc Cert.ReferenceMIdeal.main_arg0)) (m ((c.tc : Thread Cert.ReferenceMIdeal.nD Cert.ReferenceMIdeal.τ).loc Cert.ReferenceMIdeal.main_arg1)) (m ((c.tc : Thread Cert.ReferenceMIdeal.nD Cert.ReferenceMIdeal.τ).loc Cert.ReferenceMIdeal.main_arg2)) (m ((c.tc : Thread Cert.ReferenceMIdeal.nD Cert.ReferenceMIdeal.τ).loc Cert.ReferenceMIdeal.main_arg3)) (m ((c.tc : Thread Cert.ReferenceMIdeal.nD Cert.ReferenceMIdeal.τ).loc Cert.ReferenceMIdeal.main_arg4))) = (fun _ => 1#1)

def Pre_KernelF (m : (ℓ : Loc Cert.KernelF.nD Cert.KernelF.τ Cert.KernelF.sig) → Buf (Elt Bits) ℓ) : Prop :=
  True

def Pre_KernelFIdeal (m : (ℓ : Loc Cert.KernelFIdeal.nD Cert.KernelFIdeal.τ Cert.KernelFIdeal.sig) → Buf (Elt Ideal) ℓ) : Prop :=
  True

def Pre_KernelFIdeal_finite_f [hPre_finite_f : Cert.Pre_finite_f.Facts] (m : (ℓ : Loc Cert.KernelFIdeal.nD Cert.KernelFIdeal.τ Cert.KernelFIdeal.sig) → Buf (Elt Ideal) ℓ) : Prop :=
  ∀ c : Dev Cert.KernelFIdeal.nD,
    (Cert.Pre_finite_f.fn (F := Ideal) (m ((c.tc : Thread Cert.KernelFIdeal.nD Cert.KernelFIdeal.τ).loc Cert.KernelFIdeal.main_arg0)) (m ((c.tc : Thread Cert.KernelFIdeal.nD Cert.KernelFIdeal.τ).loc Cert.KernelFIdeal.main_arg1)) (m ((c.tc : Thread Cert.KernelFIdeal.nD Cert.KernelFIdeal.τ).loc Cert.KernelFIdeal.main_arg2)) (m ((c.tc : Thread Cert.KernelFIdeal.nD Cert.KernelFIdeal.τ).loc Cert.KernelFIdeal.main_arg3)) (m ((c.tc : Thread Cert.KernelFIdeal.nD Cert.KernelFIdeal.τ).loc Cert.KernelFIdeal.main_arg4)) (m ((c.tc : Thread Cert.KernelFIdeal.nD Cert.KernelFIdeal.τ).loc Cert.KernelFIdeal.main_arg5)) (m ((c.tc : Thread Cert.KernelFIdeal.nD Cert.KernelFIdeal.τ).loc Cert.KernelFIdeal.main_arg6))) = (fun _ => 1#1)

def Pre_ReferenceFIdeal (m : (ℓ : Loc Cert.ReferenceFIdeal.nD Cert.ReferenceFIdeal.τ Cert.ReferenceFIdeal.sig) → Buf (Elt Ideal) ℓ) : Prop :=
  True

def Pre_ReferenceFIdeal_finite_f [hPre_finite_f : Cert.Pre_finite_f.Facts] (m : (ℓ : Loc Cert.ReferenceFIdeal.nD Cert.ReferenceFIdeal.τ Cert.ReferenceFIdeal.sig) → Buf (Elt Ideal) ℓ) : Prop :=
  ∀ c : Dev Cert.ReferenceFIdeal.nD,
    (Cert.Pre_finite_f.fn (F := Ideal) (m ((c.tc : Thread Cert.ReferenceFIdeal.nD Cert.ReferenceFIdeal.τ).loc Cert.ReferenceFIdeal.main_arg0)) (m ((c.tc : Thread Cert.ReferenceFIdeal.nD Cert.ReferenceFIdeal.τ).loc Cert.ReferenceFIdeal.main_arg1)) (m ((c.tc : Thread Cert.ReferenceFIdeal.nD Cert.ReferenceFIdeal.τ).loc Cert.ReferenceFIdeal.main_arg2)) (m ((c.tc : Thread Cert.ReferenceFIdeal.nD Cert.ReferenceFIdeal.τ).loc Cert.ReferenceFIdeal.main_arg3)) (m ((c.tc : Thread Cert.ReferenceFIdeal.nD Cert.ReferenceFIdeal.τ).loc Cert.ReferenceFIdeal.main_arg4)) (m ((c.tc : Thread Cert.ReferenceFIdeal.nD Cert.ReferenceFIdeal.τ).loc Cert.ReferenceFIdeal.main_arg5)) (m ((c.tc : Thread Cert.ReferenceFIdeal.nD Cert.ReferenceFIdeal.τ).loc Cert.ReferenceFIdeal.main_arg6))) = (fun _ => 1#1)

def Pre_KernelT (m : (ℓ : Loc Cert.KernelT.nD Cert.KernelT.τ Cert.KernelT.sig) → Buf (Elt Bits) ℓ) : Prop :=
  True

def Pre_KernelTIdeal (m : (ℓ : Loc Cert.KernelTIdeal.nD Cert.KernelTIdeal.τ Cert.KernelTIdeal.sig) → Buf (Elt Ideal) ℓ) : Prop :=
  True

def Pre_KernelTIdeal_finite_t [hPre_finite_t : Cert.Pre_finite_t.Facts] (m : (ℓ : Loc Cert.KernelTIdeal.nD Cert.KernelTIdeal.τ Cert.KernelTIdeal.sig) → Buf (Elt Ideal) ℓ) : Prop :=
  ∀ c : Dev Cert.KernelTIdeal.nD,
    (Cert.Pre_finite_t.fn (F := Ideal) (m ((c.tc : Thread Cert.KernelTIdeal.nD Cert.KernelTIdeal.τ).loc Cert.KernelTIdeal.main_arg0)) (m ((c.tc : Thread Cert.KernelTIdeal.nD Cert.KernelTIdeal.τ).loc Cert.KernelTIdeal.main_arg1)) (m ((c.tc : Thread Cert.KernelTIdeal.nD Cert.KernelTIdeal.τ).loc Cert.KernelTIdeal.main_arg2))) = (fun _ => 1#1)

def Pre_ReferenceTIdeal (m : (ℓ : Loc Cert.ReferenceTIdeal.nD Cert.ReferenceTIdeal.τ Cert.ReferenceTIdeal.sig) → Buf (Elt Ideal) ℓ) : Prop :=
  True

def Pre_ReferenceTIdeal_finite_t [hPre_finite_t : Cert.Pre_finite_t.Facts] (m : (ℓ : Loc Cert.ReferenceTIdeal.nD Cert.ReferenceTIdeal.τ Cert.ReferenceTIdeal.sig) → Buf (Elt Ideal) ℓ) : Prop :=
  ∀ c : Dev Cert.ReferenceTIdeal.nD,
    (Cert.Pre_finite_t.fn (F := Ideal) (m ((c.tc : Thread Cert.ReferenceTIdeal.nD Cert.ReferenceTIdeal.τ).loc Cert.ReferenceTIdeal.main_arg0)) (m ((c.tc : Thread Cert.ReferenceTIdeal.nD Cert.ReferenceTIdeal.τ).loc Cert.ReferenceTIdeal.main_arg1)) (m ((c.tc : Thread Cert.ReferenceTIdeal.nD Cert.ReferenceTIdeal.τ).loc Cert.ReferenceTIdeal.main_arg2))) = (fun _ => 1#1)

def Pre_KernelX (m : (ℓ : Loc Cert.KernelX.nD Cert.KernelX.τ Cert.KernelX.sig) → Buf (Elt Bits) ℓ) : Prop :=
  True

def Pre_KernelXIdeal (m : (ℓ : Loc Cert.KernelXIdeal.nD Cert.KernelXIdeal.τ Cert.KernelXIdeal.sig) → Buf (Elt Ideal) ℓ) : Prop :=
  True

def Pre_ReferenceXIdeal (m : (ℓ : Loc Cert.ReferenceXIdeal.nD Cert.ReferenceXIdeal.τ Cert.ReferenceXIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelI (m : (ℓ : Loc Cert.KernelI.nD Cert.KernelI.τ Cert.KernelI.sig) → Buf (Elt Bits) ℓ) : Prop :=
  True

def Pre_KernelIIdeal (m : (ℓ : Loc Cert.KernelIIdeal.nD Cert.KernelIIdeal.τ Cert.KernelIIdeal.sig) → Buf (Elt Ideal) ℓ) : Prop :=
  True

def Pre_ReferenceIIdeal (m : (ℓ : Loc Cert.ReferenceIIdeal.nD Cert.ReferenceIIdeal.τ Cert.ReferenceIIdeal.sig) → Buf (Elt Ideal) ℓ) : Prop :=
  True

def Pre_KernelL (m : (ℓ : Loc Cert.KernelL.nD Cert.KernelL.τ Cert.KernelL.sig) → Buf (Elt Bits) ℓ) : Prop :=
  True

def Pre_KernelLIdeal (m : (ℓ : Loc Cert.KernelLIdeal.nD Cert.KernelLIdeal.τ Cert.KernelLIdeal.sig) → Buf (Elt Ideal) ℓ) : Prop :=
  True

def Pre_KernelLIdeal_finite_l [hPre_finite_l : Cert.Pre_finite_l.Facts] (m : (ℓ : Loc Cert.KernelLIdeal.nD Cert.KernelLIdeal.τ Cert.KernelLIdeal.sig) → Buf (Elt Ideal) ℓ) : Prop :=
  ∀ c : Dev Cert.KernelLIdeal.nD,
    (Cert.Pre_finite_l.fn (F := Ideal) (m ((c.tc : Thread Cert.KernelLIdeal.nD Cert.KernelLIdeal.τ).loc Cert.KernelLIdeal.main_arg0))) = (fun _ => 1#1)

def Pre_ReferenceLIdeal (m : (ℓ : Loc Cert.ReferenceLIdeal.nD Cert.ReferenceLIdeal.τ Cert.ReferenceLIdeal.sig) → Buf (Elt Ideal) ℓ) : Prop :=
  True

def Pre_ReferenceLIdeal_finite_l [hPre_finite_l : Cert.Pre_finite_l.Facts] (m : (ℓ : Loc Cert.ReferenceLIdeal.nD Cert.ReferenceLIdeal.τ Cert.ReferenceLIdeal.sig) → Buf (Elt Ideal) ℓ) : Prop :=
  ∀ c : Dev Cert.ReferenceLIdeal.nD,
    (Cert.Pre_finite_l.fn (F := Ideal) (m ((c.tc : Thread Cert.ReferenceLIdeal.nD Cert.ReferenceLIdeal.τ).loc Cert.ReferenceLIdeal.main_arg0))) = (fun _ => 1#1)

def Pre_KernelP (m : (ℓ : Loc Cert.KernelP.nD Cert.KernelP.τ Cert.KernelP.sig) → Buf (Elt Bits) ℓ) : Prop :=
  True

def Pre_KernelPIdeal (m : (ℓ : Loc Cert.KernelPIdeal.nD Cert.KernelPIdeal.τ Cert.KernelPIdeal.sig) → Buf (Elt Ideal) ℓ) : Prop :=
  True

def Pre_ReferencePIdeal (m : (ℓ : Loc Cert.ReferencePIdeal.nD Cert.ReferencePIdeal.τ Cert.ReferencePIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_ReferenceBIdeal (m : (ℓ : Loc Cert.ReferenceBIdeal.nD Cert.ReferenceBIdeal.τ Cert.ReferenceBIdeal.sig) → Buf (Elt Ideal) ℓ) : Prop :=
  True

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_ReferenceCIdeal (m : (ℓ : Loc Cert.ReferenceCIdeal.nD Cert.ReferenceCIdeal.τ Cert.ReferenceCIdeal.sig) → Buf (Elt Ideal) ℓ) : Prop :=
  True

def Pre_KernelS (m : (ℓ : Loc Cert.KernelS.nD Cert.KernelS.τ Cert.KernelS.sig) → Buf (Elt Bits) ℓ) : Prop :=
  True

def Pre_KernelSIdeal (m : (ℓ : Loc Cert.KernelSIdeal.nD Cert.KernelSIdeal.τ Cert.KernelSIdeal.sig) → Buf (Elt Ideal) ℓ) : Prop :=
  True

def Pre_KernelSIdeal_finite_s [hPre_finite_s : Cert.Pre_finite_s.Facts] (m : (ℓ : Loc Cert.KernelSIdeal.nD Cert.KernelSIdeal.τ Cert.KernelSIdeal.sig) → Buf (Elt Ideal) ℓ) : Prop :=
  ∀ c : Dev Cert.KernelSIdeal.nD,
    (Cert.Pre_finite_s.fn (F := Ideal) (m ((c.tc : Thread Cert.KernelSIdeal.nD Cert.KernelSIdeal.τ).loc Cert.KernelSIdeal.main_arg0)) (m ((c.tc : Thread Cert.KernelSIdeal.nD Cert.KernelSIdeal.τ).loc Cert.KernelSIdeal.main_arg1)) (m ((c.tc : Thread Cert.KernelSIdeal.nD Cert.KernelSIdeal.τ).loc Cert.KernelSIdeal.main_arg2)) (m ((c.tc : Thread Cert.KernelSIdeal.nD Cert.KernelSIdeal.τ).loc Cert.KernelSIdeal.main_arg3)) (m ((c.tc : Thread Cert.KernelSIdeal.nD Cert.KernelSIdeal.τ).loc Cert.KernelSIdeal.main_arg4)) (m ((c.tc : Thread Cert.KernelSIdeal.nD Cert.KernelSIdeal.τ).loc Cert.KernelSIdeal.main_arg5)) (m ((c.tc : Thread Cert.KernelSIdeal.nD Cert.KernelSIdeal.τ).loc Cert.KernelSIdeal.main_arg6)) (m ((c.tc : Thread Cert.KernelSIdeal.nD Cert.KernelSIdeal.τ).loc Cert.KernelSIdeal.main_arg7))) = (fun _ => 1#1)

def Pre_ReferenceSIdeal (m : (ℓ : Loc Cert.ReferenceSIdeal.nD Cert.ReferenceSIdeal.τ Cert.ReferenceSIdeal.sig) → Buf (Elt Ideal) ℓ) : Prop :=
  True

def Pre_ReferenceSIdeal_finite_s [hPre_finite_s : Cert.Pre_finite_s.Facts] (m : (ℓ : Loc Cert.ReferenceSIdeal.nD Cert.ReferenceSIdeal.τ Cert.ReferenceSIdeal.sig) → Buf (Elt Ideal) ℓ) : Prop :=
  ∀ c : Dev Cert.ReferenceSIdeal.nD,
    (Cert.Pre_finite_s.fn (F := Ideal) (m ((c.tc : Thread Cert.ReferenceSIdeal.nD Cert.ReferenceSIdeal.τ).loc Cert.ReferenceSIdeal.main_arg0)) (m ((c.tc : Thread Cert.ReferenceSIdeal.nD Cert.ReferenceSIdeal.τ).loc Cert.ReferenceSIdeal.main_arg1)) (m ((c.tc : Thread Cert.ReferenceSIdeal.nD Cert.ReferenceSIdeal.τ).loc Cert.ReferenceSIdeal.main_arg2)) (m ((c.tc : Thread Cert.ReferenceSIdeal.nD Cert.ReferenceSIdeal.τ).loc Cert.ReferenceSIdeal.main_arg3)) (m ((c.tc : Thread Cert.ReferenceSIdeal.nD Cert.ReferenceSIdeal.τ).loc Cert.ReferenceSIdeal.main_arg4)) (m ((c.tc : Thread Cert.ReferenceSIdeal.nD Cert.ReferenceSIdeal.τ).loc Cert.ReferenceSIdeal.main_arg5)) (m ((c.tc : Thread Cert.ReferenceSIdeal.nD Cert.ReferenceSIdeal.τ).loc Cert.ReferenceSIdeal.main_arg6)) (m ((c.tc : Thread Cert.ReferenceSIdeal.nD Cert.ReferenceSIdeal.τ).loc Cert.ReferenceSIdeal.main_arg7))) = (fun _ => 1#1)

def Pre_KernelG (m : (ℓ : Loc Cert.KernelG.nD Cert.KernelG.τ Cert.KernelG.sig) → Buf (Elt Bits) ℓ) : Prop :=
  True

def Pre_KernelH (m : (ℓ : Loc Cert.KernelH.nD Cert.KernelH.τ Cert.KernelH.sig) → Buf (Elt Bits) ℓ) : Prop :=
  True

def Pre_KernelHIdeal (m : (ℓ : Loc Cert.KernelHIdeal.nD Cert.KernelHIdeal.τ Cert.KernelHIdeal.sig) → Buf (Elt Ideal) ℓ) : Prop :=
  True

def quiescent_KernelV [hKernelV : Cert.KernelV.Facts] : Prop :=
  ∀ (m : (ℓ : Loc Cert.KernelV.nD Cert.KernelV.τ Cert.KernelV.sig) → Buf (Elt Bits) ℓ) (g : Dev Cert.KernelV.nD → PrngReg), Pre_KernelV m →
    θ_run (Cert.KernelV.defs (F := Bits)) (onTc (τ := Cert.KernelV.τ) (Cert.KernelV.main (F := Bits))) ⟨m, fun _ => 0, g⟩ (fun r => (∀ c : Dev Cert.KernelV.nD,
      r.2.mem ((c.tc : Thread Cert.KernelV.nD Cert.KernelV.τ).loc Cert.KernelV.main_arg0) = m ((c.tc : Thread Cert.KernelV.nD Cert.KernelV.τ).loc Cert.KernelV.main_arg0)
      ∧ r.2.mem ((c.tc : Thread Cert.KernelV.nD Cert.KernelV.τ).loc Cert.KernelV.main_arg1) = m ((c.tc : Thread Cert.KernelV.nD Cert.KernelV.τ).loc Cert.KernelV.main_arg1)
      ∧ r.2.mem ((c.tc : Thread Cert.KernelV.nD Cert.KernelV.τ).loc Cert.KernelV.main_arg2) = m ((c.tc : Thread Cert.KernelV.nD Cert.KernelV.τ).loc Cert.KernelV.main_arg2)
      ∧ r.2.mem ((c.tc : Thread Cert.KernelV.nD Cert.KernelV.τ).loc Cert.KernelV.main_arg3) = m ((c.tc : Thread Cert.KernelV.nD Cert.KernelV.τ).loc Cert.KernelV.main_arg3)
      ∧ r.2.mem ((c.tc : Thread Cert.KernelV.nD Cert.KernelV.τ).loc Cert.KernelV.main_arg4) = m ((c.tc : Thread Cert.KernelV.nD Cert.KernelV.τ).loc Cert.KernelV.main_arg4)
      ∧ r.2.mem ((c.tc : Thread Cert.KernelV.nD Cert.KernelV.τ).loc Cert.KernelV.main_arg5) = m ((c.tc : Thread Cert.KernelV.nD Cert.KernelV.τ).loc Cert.KernelV.main_arg5)
      ∧ r.2.mem ((c.tc : Thread Cert.KernelV.nD Cert.KernelV.τ).loc Cert.KernelV.main_arg6) = m ((c.tc : Thread Cert.KernelV.nD Cert.KernelV.τ).loc Cert.KernelV.main_arg6))
      ∧ r.2.sem = fun _ => 0)

def quiescent_KernelVIdeal [hKernelVIdeal : Cert.KernelVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg), Pre_KernelVIdeal m →
    θ_run (Cert.KernelVIdeal.defs (F := Ideal)) (onTc (τ := Cert.KernelVIdeal.τ) (Cert.KernelVIdeal.main (F := Ideal))) ⟨m, fun _ => 0, g⟩ (fun r => (∀ c : Dev Cert.KernelVIdeal.nD,
      r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
      ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1)
      ∧ r.2.mem ((c.tc : Thread Cert.KernelVIdeal.nD Cert.KernelVIdeal.τ).loc Cert.KernelVIdeal.main_arg2) = m ((c.tc : Thread Cert.KernelVIdeal.nD Cert.KernelVIdeal.τ).loc Cert.KernelVIdeal.main_arg2)
      ∧ r.2.mem ((c.tc : Thread Cert.KernelVIdeal.nD Cert.KernelVIdeal.τ).loc Cert.KernelVIdeal.main_arg3) = m ((c.tc : Thread Cert.KernelVIdeal.nD Cert.KernelVIdeal.τ).loc Cert.KernelVIdeal.main_arg3)
      ∧ r.2.mem ((c.tc : Thread Cert.KernelVIdeal.nD Cert.KernelVIdeal.τ).loc Cert.KernelVIdeal.main_arg4) = m ((c.tc : Thread Cert.KernelVIdeal.nD Cert.KernelVIdeal.τ).loc Cert.KernelVIdeal.main_arg4)
      ∧ r.2.mem ((c.tc : Thread Cert.KernelVIdeal.nD Cert.KernelVIdeal.τ).loc Cert.KernelVIdeal.main_arg5) = m ((c.tc : Thread Cert.KernelVIdeal.nD Cert.KernelVIdeal.τ).loc Cert.KernelVIdeal.main_arg5)
      ∧ r.2.mem ((c.tc : Thread Cert.KernelVIdeal.nD Cert.KernelVIdeal.τ).loc Cert.KernelVIdeal.main_arg6) = m ((c.tc : Thread Cert.KernelVIdeal.nD Cert.KernelVIdeal.τ).loc Cert.KernelVIdeal.main_arg6))
      ∧ r.2.sem = fun _ => 0)

def quiescent_KernelVIdeal_pre_finite_v [hKernelVIdeal : Cert.KernelVIdeal.Facts] [hPre_finite_v : Cert.Pre_finite_v.Facts] : Prop :=
  ∀ (m : (ℓ : Loc Cert.KernelVIdeal.nD Cert.KernelVIdeal.τ Cert.KernelVIdeal.sig) → Buf (Elt Ideal) ℓ) (g : Dev Cert.KernelVIdeal.nD → PrngReg), Pre_KernelVIdeal_finite_v m →
    θ_run (Cert.KernelVIdeal.defs (F := Ideal)) (onTc (τ := Cert.KernelVIdeal.τ) (Cert.KernelVIdeal.main (F := Ideal))) ⟨m, fun _ => 0, g⟩ (fun r => (∀ c : Dev Cert.KernelVIdeal.nD,
      r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
      ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1)
      ∧ r.2.mem ((c.tc : Thread Cert.KernelVIdeal.nD Cert.KernelVIdeal.τ).loc Cert.KernelVIdeal.main_arg2) = m ((c.tc : Thread Cert.KernelVIdeal.nD Cert.KernelVIdeal.τ).loc Cert.KernelVIdeal.main_arg2)
      ∧ r.2.mem ((c.tc : Thread Cert.KernelVIdeal.nD Cert.KernelVIdeal.τ).loc Cert.KernelVIdeal.main_arg3) = m ((c.tc : Thread Cert.KernelVIdeal.nD Cert.KernelVIdeal.τ).loc Cert.KernelVIdeal.main_arg3)
      ∧ r.2.mem ((c.tc : Thread Cert.KernelVIdeal.nD Cert.KernelVIdeal.τ).loc Cert.KernelVIdeal.main_arg4) = m ((c.tc : Thread Cert.KernelVIdeal.nD Cert.KernelVIdeal.τ).loc Cert.KernelVIdeal.main_arg4)
      ∧ r.2.mem ((c.tc : Thread Cert.KernelVIdeal.nD Cert.KernelVIdeal.τ).loc Cert.KernelVIdeal.main_arg5) = m ((c.tc : Thread Cert.KernelVIdeal.nD Cert.KernelVIdeal.τ).loc Cert.KernelVIdeal.main_arg5)
      ∧ r.2.mem ((c.tc : Thread Cert.KernelVIdeal.nD Cert.KernelVIdeal.τ).loc Cert.KernelVIdeal.main_arg6) = m ((c.tc : Thread Cert.KernelVIdeal.nD Cert.KernelVIdeal.τ).loc Cert.KernelVIdeal.main_arg6))
      ∧ r.2.sem = fun _ => 0)

def quiescent_ReferenceVIdeal [hReferenceVIdeal : Cert.ReferenceVIdeal.Facts] : Prop :=
  ∀ (m : (ℓ : Loc Cert.ReferenceVIdeal.nD Cert.ReferenceVIdeal.τ Cert.ReferenceVIdeal.sig) → Buf (Elt Ideal) ℓ) (g : Dev Cert.ReferenceVIdeal.nD → PrngReg), Pre_ReferenceVIdeal m →
    θ_run (Cert.ReferenceVIdeal.defs (F := Ideal)) (onTc (τ := Cert.ReferenceVIdeal.τ) (Cert.ReferenceVIdeal.main (F := Ideal))) ⟨m, fun _ => 0, g⟩ (fun r => (∀ c : Dev Cert.ReferenceVIdeal.nD,
      r.2.mem ((c.tc : Thread Cert.ReferenceVIdeal.nD Cert.ReferenceVIdeal.τ).loc Cert.ReferenceVIdeal.main_arg0) = m ((c.tc : Thread Cert.ReferenceVIdeal.nD Cert.ReferenceVIdeal.τ).loc Cert.ReferenceVIdeal.main_arg0)
      ∧ r.2.mem ((c.tc : Thread Cert.ReferenceVIdeal.nD Cert.ReferenceVIdeal.τ).loc Cert.ReferenceVIdeal.main_arg1) = m ((c.tc : Thread Cert.ReferenceVIdeal.nD Cert.ReferenceVIdeal.τ).loc Cert.ReferenceVIdeal.main_arg1)
      ∧ r.2.mem ((c.tc : Thread Cert.ReferenceVIdeal.nD Cert.ReferenceVIdeal.τ).loc Cert.ReferenceVIdeal.main_arg2) = m ((c.tc : Thread Cert.ReferenceVIdeal.nD Cert.ReferenceVIdeal.τ).loc Cert.ReferenceVIdeal.main_arg2)
      ∧ r.2.mem ((c.tc : Thread Cert.ReferenceVIdeal.nD Cert.ReferenceVIdeal.τ).loc Cert.ReferenceVIdeal.main_arg3) = m ((c.tc : Thread Cert.ReferenceVIdeal.nD Cert.ReferenceVIdeal.τ).loc Cert.ReferenceVIdeal.main_arg3)
      ∧ r.2.mem ((c.tc : Thread Cert.ReferenceVIdeal.nD Cert.ReferenceVIdeal.τ).loc Cert.ReferenceVIdeal.main_arg4) = m ((c.tc : Thread Cert.ReferenceVIdeal.nD Cert.ReferenceVIdeal.τ).loc Cert.ReferenceVIdeal.main_arg4)
      ∧ r.2.mem ((c.tc : Thread Cert.ReferenceVIdeal.nD Cert.ReferenceVIdeal.τ).loc Cert.ReferenceVIdeal.main_arg5) = m ((c.tc : Thread Cert.ReferenceVIdeal.nD Cert.ReferenceVIdeal.τ).loc Cert.ReferenceVIdeal.main_arg5)
      ∧ r.2.mem ((c.tc : Thread Cert.ReferenceVIdeal.nD Cert.ReferenceVIdeal.τ).loc Cert.ReferenceVIdeal.main_arg6) = m ((c.tc : Thread Cert.ReferenceVIdeal.nD Cert.ReferenceVIdeal.τ).loc Cert.ReferenceVIdeal.main_arg6))
      ∧ r.2.sem = fun _ => 0)

def quiescent_ReferenceVIdeal_pre_finite_v [hReferenceVIdeal : Cert.ReferenceVIdeal.Facts] [hPre_finite_v : Cert.Pre_finite_v.Facts] : Prop :=
  ∀ (m : (ℓ : Loc Cert.ReferenceVIdeal.nD Cert.ReferenceVIdeal.τ Cert.ReferenceVIdeal.sig) → Buf (Elt Ideal) ℓ) (g : Dev Cert.ReferenceVIdeal.nD → PrngReg), Pre_ReferenceVIdeal_finite_v m →
    θ_run (Cert.ReferenceVIdeal.defs (F := Ideal)) (onTc (τ := Cert.ReferenceVIdeal.τ) (Cert.ReferenceVIdeal.main (F := Ideal))) ⟨m, fun _ => 0, g⟩ (fun r => (∀ c : Dev Cert.ReferenceVIdeal.nD,
      r.2.mem ((c.tc : Thread Cert.ReferenceVIdeal.nD Cert.ReferenceVIdeal.τ).loc Cert.ReferenceVIdeal.main_arg0) = m ((c.tc : Thread Cert.ReferenceVIdeal.nD Cert.ReferenceVIdeal.τ).loc Cert.ReferenceVIdeal.main_arg0)
      ∧ r.2.mem ((c.tc : Thread Cert.ReferenceVIdeal.nD Cert.ReferenceVIdeal.τ).loc Cert.ReferenceVIdeal.main_arg1) = m ((c.tc : Thread Cert.ReferenceVIdeal.nD Cert.ReferenceVIdeal.τ).loc Cert.ReferenceVIdeal.main_arg1)
      ∧ r.2.mem ((c.tc : Thread Cert.ReferenceVIdeal.nD Cert.ReferenceVIdeal.τ).loc Cert.ReferenceVIdeal.main_arg2) = m ((c.tc : Thread Cert.ReferenceVIdeal.nD Cert.ReferenceVIdeal.τ).loc Cert.ReferenceVIdeal.main_arg2)
      ∧ r.2.mem ((c.tc : Thread Cert.ReferenceVIdeal.nD Cert.ReferenceVIdeal.τ).loc Cert.ReferenceVIdeal.main_arg3) = m ((c.tc : Thread Cert.ReferenceVIdeal.nD Cert.ReferenceVIdeal.τ).loc Cert.ReferenceVIdeal.main_arg3)
      ∧ r.2.mem ((c.tc : Thread Cert.ReferenceVIdeal.nD Cert.ReferenceVIdeal.τ).loc Cert.ReferenceVIdeal.main_arg4) = m ((c.tc : Thread Cert.ReferenceVIdeal.nD Cert.ReferenceVIdeal.τ).loc Cert.ReferenceVIdeal.main_arg4)
      ∧ r.2.mem ((c.tc : Thread Cert.ReferenceVIdeal.nD Cert.ReferenceVIdeal.τ).loc Cert.ReferenceVIdeal.main_arg5) = m ((c.tc : Thread Cert.ReferenceVIdeal.nD Cert.ReferenceVIdeal.τ).loc Cert.ReferenceVIdeal.main_arg5)
      ∧ r.2.mem ((c.tc : Thread Cert.ReferenceVIdeal.nD Cert.ReferenceVIdeal.τ).loc Cert.ReferenceVIdeal.main_arg6) = m ((c.tc : Thread Cert.ReferenceVIdeal.nD Cert.ReferenceVIdeal.τ).loc Cert.ReferenceVIdeal.main_arg6))
      ∧ r.2.sem = fun _ => 0)

def quiescent_KernelU [hKernelU : Cert.KernelU.Facts] : Prop :=
  ∀ (m : (ℓ : Loc Cert.KernelU.nD Cert.KernelU.τ Cert.KernelU.sig) → Buf (Elt Bits) ℓ) (g : Dev Cert.KernelU.nD → PrngReg), Pre_KernelU m →
    θ_run (Cert.KernelU.defs (F := Bits)) (onTc (τ := Cert.KernelU.τ) (Cert.KernelU.main (F := Bits))) ⟨m, fun _ => 0, g⟩ (fun r => (∀ c : Dev Cert.KernelU.nD,
      r.2.mem ((c.tc : Thread Cert.KernelU.nD Cert.KernelU.τ).loc Cert.KernelU.main_arg0) = m ((c.tc : Thread Cert.KernelU.nD Cert.KernelU.τ).loc Cert.KernelU.main_arg0)
      ∧ r.2.mem ((c.tc : Thread Cert.KernelU.nD Cert.KernelU.τ).loc Cert.KernelU.main_arg1) = m ((c.tc : Thread Cert.KernelU.nD Cert.KernelU.τ).loc Cert.KernelU.main_arg1)
      ∧ r.2.mem ((c.tc : Thread Cert.KernelU.nD Cert.KernelU.τ).loc Cert.KernelU.main_arg2) = m ((c.tc : Thread Cert.KernelU.nD Cert.KernelU.τ).loc Cert.KernelU.main_arg2)
      ∧ r.2.mem ((c.tc : Thread Cert.KernelU.nD Cert.KernelU.τ).loc Cert.KernelU.main_arg3) = m ((c.tc : Thread Cert.KernelU.nD Cert.KernelU.τ).loc Cert.KernelU.main_arg3)
      ∧ r.2.mem ((c.tc : Thread Cert.KernelU.nD Cert.KernelU.τ).loc Cert.KernelU.main_arg4) = m ((c.tc : Thread Cert.KernelU.nD Cert.KernelU.τ).loc Cert.KernelU.main_arg4)
      ∧ r.2.mem ((c.tc : Thread Cert.KernelU.nD Cert.KernelU.τ).loc Cert.KernelU.main_arg5) = m ((c.tc : Thread Cert.KernelU.nD Cert.KernelU.τ).loc Cert.KernelU.main_arg5)
      ∧ r.2.mem ((c.tc : Thread Cert.KernelU.nD Cert.KernelU.τ).loc Cert.KernelU.main_arg6) = m ((c.tc : Thread Cert.KernelU.nD Cert.KernelU.τ).loc Cert.KernelU.main_arg6)
      ∧ r.2.mem ((c.tc : Thread Cert.KernelU.nD Cert.KernelU.τ).loc Cert.KernelU.main_arg7) = m ((c.tc : Thread Cert.KernelU.nD Cert.KernelU.τ).loc Cert.KernelU.main_arg7)
      ∧ r.2.mem ((c.tc : Thread Cert.KernelU.nD Cert.KernelU.τ).loc Cert.KernelU.main_arg8) = m ((c.tc : Thread Cert.KernelU.nD Cert.KernelU.τ).loc Cert.KernelU.main_arg8)
      ∧ r.2.mem ((c.tc : Thread Cert.KernelU.nD Cert.KernelU.τ).loc Cert.KernelU.main_arg9) = m ((c.tc : Thread Cert.KernelU.nD Cert.KernelU.τ).loc Cert.KernelU.main_arg9))
      ∧ r.2.sem = fun _ => 0)

def quiescent_KernelUIdeal [hKernelUIdeal : Cert.KernelUIdeal.Facts] : Prop :=
  ∀ (m : (ℓ : Loc Cert.KernelUIdeal.nD Cert.KernelUIdeal.τ Cert.KernelUIdeal.sig) → Buf (Elt Ideal) ℓ) (g : Dev Cert.KernelUIdeal.nD → PrngReg), Pre_KernelUIdeal m →
    θ_run (Cert.KernelUIdeal.defs (F := Ideal)) (onTc (τ := Cert.KernelUIdeal.τ) (Cert.KernelUIdeal.main (F := Ideal))) ⟨m, fun _ => 0, g⟩ (fun r => (∀ c : Dev Cert.KernelUIdeal.nD,
      r.2.mem ((c.tc : Thread Cert.KernelUIdeal.nD Cert.KernelUIdeal.τ).loc Cert.KernelUIdeal.main_arg0) = m ((c.tc : Thread Cert.KernelUIdeal.nD Cert.KernelUIdeal.τ).loc Cert.KernelUIdeal.main_arg0)
      ∧ r.2.mem ((c.tc : Thread Cert.KernelUIdeal.nD Cert.KernelUIdeal.τ).loc Cert.KernelUIdeal.main_arg1) = m ((c.tc : Thread Cert.KernelUIdeal.nD Cert.KernelUIdeal.τ).loc Cert.KernelUIdeal.main_arg1)
      ∧ r.2.mem ((c.tc : Thread Cert.KernelUIdeal.nD Cert.KernelUIdeal.τ).loc Cert.KernelUIdeal.main_arg2) = m ((c.tc : Thread Cert.KernelUIdeal.nD Cert.KernelUIdeal.τ).loc Cert.KernelUIdeal.main_arg2)
      ∧ r.2.mem ((c.tc : Thread Cert.KernelUIdeal.nD Cert.KernelUIdeal.τ).loc Cert.KernelUIdeal.main_arg3) = m ((c.tc : Thread Cert.KernelUIdeal.nD Cert.KernelUIdeal.τ).loc Cert.KernelUIdeal.main_arg3)
      ∧ r.2.mem ((c.tc : Thread Cert.KernelUIdeal.nD Cert.KernelUIdeal.τ).loc Cert.KernelUIdeal.main_arg4) = m ((c.tc : Thread Cert.KernelUIdeal.nD Cert.KernelUIdeal.τ).loc Cert.KernelUIdeal.main_arg4)
      ∧ r.2.mem ((c.tc : Thread Cert.KernelUIdeal.nD Cert.KernelUIdeal.τ).loc Cert.KernelUIdeal.main_arg5) = m ((c.tc : Thread Cert.KernelUIdeal.nD Cert.KernelUIdeal.τ).loc Cert.KernelUIdeal.main_arg5)
      ∧ r.2.mem ((c.tc : Thread Cert.KernelUIdeal.nD Cert.KernelUIdeal.τ).loc Cert.KernelUIdeal.main_arg6) = m ((c.tc : Thread Cert.KernelUIdeal.nD Cert.KernelUIdeal.τ).loc Cert.KernelUIdeal.main_arg6)
      ∧ r.2.mem ((c.tc : Thread Cert.KernelUIdeal.nD Cert.KernelUIdeal.τ).loc Cert.KernelUIdeal.main_arg7) = m ((c.tc : Thread Cert.KernelUIdeal.nD Cert.KernelUIdeal.τ).loc Cert.KernelUIdeal.main_arg7)
      ∧ r.2.mem ((c.tc : Thread Cert.KernelUIdeal.nD Cert.KernelUIdeal.τ).loc Cert.KernelUIdeal.main_arg8) = m ((c.tc : Thread Cert.KernelUIdeal.nD Cert.KernelUIdeal.τ).loc Cert.KernelUIdeal.main_arg8)
      ∧ r.2.mem ((c.tc : Thread Cert.KernelUIdeal.nD Cert.KernelUIdeal.τ).loc Cert.KernelUIdeal.main_arg9) = m ((c.tc : Thread Cert.KernelUIdeal.nD Cert.KernelUIdeal.τ).loc Cert.KernelUIdeal.main_arg9))
      ∧ r.2.sem = fun _ => 0)

def quiescent_KernelUIdeal_pre_finite_u [hKernelUIdeal : Cert.KernelUIdeal.Facts] [hPre_finite_u : Cert.Pre_finite_u.Facts] : Prop :=
  ∀ (m : (ℓ : Loc Cert.KernelUIdeal.nD Cert.KernelUIdeal.τ Cert.KernelUIdeal.sig) → Buf (Elt Ideal) ℓ) (g : Dev Cert.KernelUIdeal.nD → PrngReg), Pre_KernelUIdeal_finite_u m →
    θ_run (Cert.KernelUIdeal.defs (F := Ideal)) (onTc (τ := Cert.KernelUIdeal.τ) (Cert.KernelUIdeal.main (F := Ideal))) ⟨m, fun _ => 0, g⟩ (fun r => (∀ c : Dev Cert.KernelUIdeal.nD,
      r.2.mem ((c.tc : Thread Cert.KernelUIdeal.nD Cert.KernelUIdeal.τ).loc Cert.KernelUIdeal.main_arg0) = m ((c.tc : Thread Cert.KernelUIdeal.nD Cert.KernelUIdeal.τ).loc Cert.KernelUIdeal.main_arg0)
      ∧ r.2.mem ((c.tc : Thread Cert.KernelUIdeal.nD Cert.KernelUIdeal.τ).loc Cert.KernelUIdeal.main_arg1) = m ((c.tc : Thread Cert.KernelUIdeal.nD Cert.KernelUIdeal.τ).loc Cert.KernelUIdeal.main_arg1)
      ∧ r.2.mem ((c.tc : Thread Cert.KernelUIdeal.nD Cert.KernelUIdeal.τ).loc Cert.KernelUIdeal.main_arg2) = m ((c.tc : Thread Cert.KernelUIdeal.nD Cert.KernelUIdeal.τ).loc Cert.KernelUIdeal.main_arg2)
      ∧ r.2.mem ((c.tc : Thread Cert.KernelUIdeal.nD Cert.KernelUIdeal.τ).loc Cert.KernelUIdeal.main_arg3) = m ((c.tc : Thread Cert.KernelUIdeal.nD Cert.KernelUIdeal.τ).loc Cert.KernelUIdeal.main_arg3)
      ∧ r.2.mem ((c.tc : Thread Cert.KernelUIdeal.nD Cert.KernelUIdeal.τ).loc Cert.KernelUIdeal.main_arg4) = m ((c.tc : Thread Cert.KernelUIdeal.nD Cert.KernelUIdeal.τ).loc Cert.KernelUIdeal.main_arg4)
      ∧ r.2.mem ((c.tc : Thread Cert.KernelUIdeal.nD Cert.KernelUIdeal.τ).loc Cert.KernelUIdeal.main_arg5) = m ((c.tc : Thread Cert.KernelUIdeal.nD Cert.KernelUIdeal.τ).loc Cert.KernelUIdeal.main_arg5)
      ∧ r.2.mem ((c.tc : Thread Cert.KernelUIdeal.nD Cert.KernelUIdeal.τ).loc Cert.KernelUIdeal.main_arg6) = m ((c.tc : Thread Cert.KernelUIdeal.nD Cert.KernelUIdeal.τ).loc Cert.KernelUIdeal.main_arg6)
      ∧ r.2.mem ((c.tc : Thread Cert.KernelUIdeal.nD Cert.KernelUIdeal.τ).loc Cert.KernelUIdeal.main_arg7) = m ((c.tc : Thread Cert.KernelUIdeal.nD Cert.KernelUIdeal.τ).loc Cert.KernelUIdeal.main_arg7)
      ∧ r.2.mem ((c.tc : Thread Cert.KernelUIdeal.nD Cert.KernelUIdeal.τ).loc Cert.KernelUIdeal.main_arg8) = m ((c.tc : Thread Cert.KernelUIdeal.nD Cert.KernelUIdeal.τ).loc Cert.KernelUIdeal.main_arg8)
      ∧ r.2.mem ((c.tc : Thread Cert.KernelUIdeal.nD Cert.KernelUIdeal.τ).loc Cert.KernelUIdeal.main_arg9) = m ((c.tc : Thread Cert.KernelUIdeal.nD Cert.KernelUIdeal.τ).loc Cert.KernelUIdeal.main_arg9))
      ∧ r.2.sem = fun _ => 0)

def quiescent_ReferenceUIdeal [hReferenceUIdeal : Cert.ReferenceUIdeal.Facts] : Prop :=
  ∀ (m : (ℓ : Loc Cert.ReferenceUIdeal.nD Cert.ReferenceUIdeal.τ Cert.ReferenceUIdeal.sig) → Buf (Elt Ideal) ℓ) (g : Dev Cert.ReferenceUIdeal.nD → PrngReg), Pre_ReferenceUIdeal m →
    θ_run (Cert.ReferenceUIdeal.defs (F := Ideal)) (onTc (τ := Cert.ReferenceUIdeal.τ) (Cert.ReferenceUIdeal.main (F := Ideal))) ⟨m, fun _ => 0, g⟩ (fun r => (∀ c : Dev Cert.ReferenceUIdeal.nD,
      r.2.mem ((c.tc : Thread Cert.ReferenceUIdeal.nD Cert.ReferenceUIdeal.τ).loc Cert.ReferenceUIdeal.main_arg0) = m ((c.tc : Thread Cert.ReferenceUIdeal.nD Cert.ReferenceUIdeal.τ).loc Cert.ReferenceUIdeal.main_arg0)
      ∧ r.2.mem ((c.tc : Thread Cert.ReferenceUIdeal.nD Cert.ReferenceUIdeal.τ).loc Cert.ReferenceUIdeal.main_arg1) = m ((c.tc : Thread Cert.ReferenceUIdeal.nD Cert.ReferenceUIdeal.τ).loc Cert.ReferenceUIdeal.main_arg1)
      ∧ r.2.mem ((c.tc : Thread Cert.ReferenceUIdeal.nD Cert.ReferenceUIdeal.τ).loc Cert.ReferenceUIdeal.main_arg2) = m ((c.tc : Thread Cert.ReferenceUIdeal.nD Cert.ReferenceUIdeal.τ).loc Cert.ReferenceUIdeal.main_arg2)
      ∧ r.2.mem ((c.tc : Thread Cert.ReferenceUIdeal.nD Cert.ReferenceUIdeal.τ).loc Cert.ReferenceUIdeal.main_arg3) = m ((c.tc : Thread Cert.ReferenceUIdeal.nD Cert.ReferenceUIdeal.τ).loc Cert.ReferenceUIdeal.main_arg3)
      ∧ r.2.mem ((c.tc : Thread Cert.ReferenceUIdeal.nD Cert.ReferenceUIdeal.τ).loc Cert.ReferenceUIdeal.main_arg4) = m ((c.tc : Thread Cert.ReferenceUIdeal.nD Cert.ReferenceUIdeal.τ).loc Cert.ReferenceUIdeal.main_arg4)
      ∧ r.2.mem ((c.tc : Thread Cert.ReferenceUIdeal.nD Cert.ReferenceUIdeal.τ).loc Cert.ReferenceUIdeal.main_arg5) = m ((c.tc : Thread Cert.ReferenceUIdeal.nD Cert.ReferenceUIdeal.τ).loc Cert.ReferenceUIdeal.main_arg5)
      ∧ r.2.mem ((c.tc : Thread Cert.ReferenceUIdeal.nD Cert.ReferenceUIdeal.τ).loc Cert.ReferenceUIdeal.main_arg6) = m ((c.tc : Thread Cert.ReferenceUIdeal.nD Cert.ReferenceUIdeal.τ).loc Cert.ReferenceUIdeal.main_arg6)
      ∧ r.2.mem ((c.tc : Thread Cert.ReferenceUIdeal.nD Cert.ReferenceUIdeal.τ).loc Cert.ReferenceUIdeal.main_arg7) = m ((c.tc : Thread Cert.ReferenceUIdeal.nD Cert.ReferenceUIdeal.τ).loc Cert.ReferenceUIdeal.main_arg7)
      ∧ r.2.mem ((c.tc : Thread Cert.ReferenceUIdeal.nD Cert.ReferenceUIdeal.τ).loc Cert.ReferenceUIdeal.main_arg8) = m ((c.tc : Thread Cert.ReferenceUIdeal.nD Cert.ReferenceUIdeal.τ).loc Cert.ReferenceUIdeal.main_arg8)
      ∧ r.2.mem ((c.tc : Thread Cert.ReferenceUIdeal.nD Cert.ReferenceUIdeal.τ).loc Cert.ReferenceUIdeal.main_arg9) = m ((c.tc : Thread Cert.ReferenceUIdeal.nD Cert.ReferenceUIdeal.τ).loc Cert.ReferenceUIdeal.main_arg9))
      ∧ r.2.sem = fun _ => 0)

def quiescent_ReferenceUIdeal_pre_finite_u [hReferenceUIdeal : Cert.ReferenceUIdeal.Facts] [hPre_finite_u : Cert.Pre_finite_u.Facts] : Prop :=
  ∀ (m : (ℓ : Loc Cert.ReferenceUIdeal.nD Cert.ReferenceUIdeal.τ Cert.ReferenceUIdeal.sig) → Buf (Elt Ideal) ℓ) (g : Dev Cert.ReferenceUIdeal.nD → PrngReg), Pre_ReferenceUIdeal_finite_u m →
    θ_run (Cert.ReferenceUIdeal.defs (F := Ideal)) (onTc (τ := Cert.ReferenceUIdeal.τ) (Cert.ReferenceUIdeal.main (F := Ideal))) ⟨m, fun _ => 0, g⟩ (fun r => (∀ c : Dev Cert.ReferenceUIdeal.nD,
      r.2.mem ((c.tc : Thread Cert.ReferenceUIdeal.nD Cert.ReferenceUIdeal.τ).loc Cert.ReferenceUIdeal.main_arg0) = m ((c.tc : Thread Cert.ReferenceUIdeal.nD Cert.ReferenceUIdeal.τ).loc Cert.ReferenceUIdeal.main_arg0)
      ∧ r.2.mem ((c.tc : Thread Cert.ReferenceUIdeal.nD Cert.ReferenceUIdeal.τ).loc Cert.ReferenceUIdeal.main_arg1) = m ((c.tc : Thread Cert.ReferenceUIdeal.nD Cert.ReferenceUIdeal.τ).loc Cert.ReferenceUIdeal.main_arg1)
      ∧ r.2.mem ((c.tc : Thread Cert.ReferenceUIdeal.nD Cert.ReferenceUIdeal.τ).loc Cert.ReferenceUIdeal.main_arg2) = m ((c.tc : Thread Cert.ReferenceUIdeal.nD Cert.ReferenceUIdeal.τ).loc Cert.ReferenceUIdeal.main_arg2)
      ∧ r.2.mem ((c.tc : Thread Cert.ReferenceUIdeal.nD Cert.ReferenceUIdeal.τ).loc Cert.ReferenceUIdeal.main_arg3) = m ((c.tc : Thread Cert.ReferenceUIdeal.nD Cert.ReferenceUIdeal.τ).loc Cert.ReferenceUIdeal.main_arg3)
      ∧ r.2.mem ((c.tc : Thread Cert.ReferenceUIdeal.nD Cert.ReferenceUIdeal.τ).loc Cert.ReferenceUIdeal.main_arg4) = m ((c.tc : Thread Cert.ReferenceUIdeal.nD Cert.ReferenceUIdeal.τ).loc Cert.ReferenceUIdeal.main_arg4)
      ∧ r.2.mem ((c.tc : Thread Cert.ReferenceUIdeal.nD Cert.ReferenceUIdeal.τ).loc Cert.ReferenceUIdeal.main_arg5) = m ((c.tc : Thread Cert.ReferenceUIdeal.nD Cert.ReferenceUIdeal.τ).loc Cert.ReferenceUIdeal.main_arg5)
      ∧ r.2.mem ((c.tc : Thread Cert.ReferenceUIdeal.nD Cert.ReferenceUIdeal.τ).loc Cert.ReferenceUIdeal.main_arg6) = m ((c.tc : Thread Cert.ReferenceUIdeal.nD Cert.ReferenceUIdeal.τ).loc Cert.ReferenceUIdeal.main_arg6)
      ∧ r.2.mem ((c.tc : Thread Cert.ReferenceUIdeal.nD Cert.ReferenceUIdeal.τ).loc Cert.ReferenceUIdeal.main_arg7) = m ((c.tc : Thread Cert.ReferenceUIdeal.nD Cert.ReferenceUIdeal.τ).loc Cert.ReferenceUIdeal.main_arg7)
      ∧ r.2.mem ((c.tc : Thread Cert.ReferenceUIdeal.nD Cert.ReferenceUIdeal.τ).loc Cert.ReferenceUIdeal.main_arg8) = m ((c.tc : Thread Cert.ReferenceUIdeal.nD Cert.ReferenceUIdeal.τ).loc Cert.ReferenceUIdeal.main_arg8)
      ∧ r.2.mem ((c.tc : Thread Cert.ReferenceUIdeal.nD Cert.ReferenceUIdeal.τ).loc Cert.ReferenceUIdeal.main_arg9) = m ((c.tc : Thread Cert.ReferenceUIdeal.nD Cert.ReferenceUIdeal.τ).loc Cert.ReferenceUIdeal.main_arg9))
      ∧ r.2.sem = fun _ => 0)

def quiescent_KernelD [hKernelD : Cert.KernelD.Facts] : Prop :=
  ∀ (m : (ℓ : Loc Cert.KernelD.nD Cert.KernelD.τ Cert.KernelD.sig) → Buf (Elt Bits) ℓ) (g : Dev Cert.KernelD.nD → PrngReg), Pre_KernelD m →
    θ_run (Cert.KernelD.defs (F := Bits)) (onTc (τ := Cert.KernelD.τ) (Cert.KernelD.main (F := Bits))) ⟨m, fun _ => 0, g⟩ (fun r => (∀ c : Dev Cert.KernelD.nD,
      r.2.mem ((c.tc : Thread Cert.KernelD.nD Cert.KernelD.τ).loc Cert.KernelD.main_arg0) = m ((c.tc : Thread Cert.KernelD.nD Cert.KernelD.τ).loc Cert.KernelD.main_arg0)
      ∧ r.2.mem ((c.tc : Thread Cert.KernelD.nD Cert.KernelD.τ).loc Cert.KernelD.main_arg1) = m ((c.tc : Thread Cert.KernelD.nD Cert.KernelD.τ).loc Cert.KernelD.main_arg1)
      ∧ r.2.mem ((c.tc : Thread Cert.KernelD.nD Cert.KernelD.τ).loc Cert.KernelD.main_arg2) = m ((c.tc : Thread Cert.KernelD.nD Cert.KernelD.τ).loc Cert.KernelD.main_arg2)
      ∧ r.2.mem ((c.tc : Thread Cert.KernelD.nD Cert.KernelD.τ).loc Cert.KernelD.main_arg3) = m ((c.tc : Thread Cert.KernelD.nD Cert.KernelD.τ).loc Cert.KernelD.main_arg3)
      ∧ r.2.mem ((c.tc : Thread Cert.KernelD.nD Cert.KernelD.τ).loc Cert.KernelD.main_arg4) = m ((c.tc : Thread Cert.KernelD.nD Cert.KernelD.τ).loc Cert.KernelD.main_arg4))
      ∧ r.2.sem = fun _ => 0)

def quiescent_KernelDIdeal [hKernelDIdeal : Cert.KernelDIdeal.Facts] : Prop :=
  ∀ (m : (ℓ : Loc Cert.KernelDIdeal.nD Cert.KernelDIdeal.τ Cert.KernelDIdeal.sig) → Buf (Elt Ideal) ℓ) (g : Dev Cert.KernelDIdeal.nD → PrngReg), Pre_KernelDIdeal m →
    θ_run (Cert.KernelDIdeal.defs (F := Ideal)) (onTc (τ := Cert.KernelDIdeal.τ) (Cert.KernelDIdeal.main (F := Ideal))) ⟨m, fun _ => 0, g⟩ (fun r => (∀ c : Dev Cert.KernelDIdeal.nD,
      r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
      ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
      ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2)
      ∧ r.2.mem ((c.tc : Thread Cert.KernelDIdeal.nD Cert.KernelDIdeal.τ).loc Cert.KernelDIdeal.main_arg3) = m ((c.tc : Thread Cert.KernelDIdeal.nD Cert.KernelDIdeal.τ).loc Cert.KernelDIdeal.main_arg3)
      ∧ r.2.mem ((c.tc : Thread Cert.KernelDIdeal.nD Cert.KernelDIdeal.τ).loc Cert.KernelDIdeal.main_arg4) = m ((c.tc : Thread Cert.KernelDIdeal.nD Cert.KernelDIdeal.τ).loc Cert.KernelDIdeal.main_arg4))
      ∧ r.2.sem = fun _ => 0)

def quiescent_KernelDIdeal_pre_finite_d [hKernelDIdeal : Cert.KernelDIdeal.Facts] [hPre_finite_d : Cert.Pre_finite_d.Facts] : Prop :=
  ∀ (m : (ℓ : Loc Cert.KernelDIdeal.nD Cert.KernelDIdeal.τ Cert.KernelDIdeal.sig) → Buf (Elt Ideal) ℓ) (g : Dev Cert.KernelDIdeal.nD → PrngReg), Pre_KernelDIdeal_finite_d m →
    θ_run (Cert.KernelDIdeal.defs (F := Ideal)) (onTc (τ := Cert.KernelDIdeal.τ) (Cert.KernelDIdeal.main (F := Ideal))) ⟨m, fun _ => 0, g⟩ (fun r => (∀ c : Dev Cert.KernelDIdeal.nD,
      r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
      ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
      ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2)
      ∧ r.2.mem ((c.tc : Thread Cert.KernelDIdeal.nD Cert.KernelDIdeal.τ).loc Cert.KernelDIdeal.main_arg3) = m ((c.tc : Thread Cert.KernelDIdeal.nD Cert.KernelDIdeal.τ).loc Cert.KernelDIdeal.main_arg3)
      ∧ r.2.mem ((c.tc : Thread Cert.KernelDIdeal.nD Cert.KernelDIdeal.τ).loc Cert.KernelDIdeal.main_arg4) = m ((c.tc : Thread Cert.KernelDIdeal.nD Cert.KernelDIdeal.τ).loc Cert.KernelDIdeal.main_arg4))
      ∧ r.2.sem = fun _ => 0)

def quiescent_ReferenceDIdeal [hReferenceDIdeal : Cert.ReferenceDIdeal.Facts] : Prop :=
  ∀ (m : (ℓ : Loc Cert.ReferenceDIdeal.nD Cert.ReferenceDIdeal.τ Cert.ReferenceDIdeal.sig) → Buf (Elt Ideal) ℓ) (g : Dev Cert.ReferenceDIdeal.nD → PrngReg), Pre_ReferenceDIdeal m →
    θ_run (Cert.ReferenceDIdeal.defs (F := Ideal)) (onTc (τ := Cert.ReferenceDIdeal.τ) (Cert.ReferenceDIdeal.main (F := Ideal))) ⟨m, fun _ => 0, g⟩ (fun r => (∀ c : Dev Cert.ReferenceDIdeal.nD,
      r.2.mem ((c.tc : Thread Cert.ReferenceDIdeal.nD Cert.ReferenceDIdeal.τ).loc Cert.ReferenceDIdeal.main_arg0) = m ((c.tc : Thread Cert.ReferenceDIdeal.nD Cert.ReferenceDIdeal.τ).loc Cert.ReferenceDIdeal.main_arg0)
      ∧ r.2.mem ((c.tc : Thread Cert.ReferenceDIdeal.nD Cert.ReferenceDIdeal.τ).loc Cert.ReferenceDIdeal.main_arg1) = m ((c.tc : Thread Cert.ReferenceDIdeal.nD Cert.ReferenceDIdeal.τ).loc Cert.ReferenceDIdeal.main_arg1)
      ∧ r.2.mem ((c.tc : Thread Cert.ReferenceDIdeal.nD Cert.ReferenceDIdeal.τ).loc Cert.ReferenceDIdeal.main_arg2) = m ((c.tc : Thread Cert.ReferenceDIdeal.nD Cert.ReferenceDIdeal.τ).loc Cert.ReferenceDIdeal.main_arg2)
      ∧ r.2.mem ((c.tc : Thread Cert.ReferenceDIdeal.nD Cert.ReferenceDIdeal.τ).loc Cert.ReferenceDIdeal.main_arg3) = m ((c.tc : Thread Cert.ReferenceDIdeal.nD Cert.ReferenceDIdeal.τ).loc Cert.ReferenceDIdeal.main_arg3)
      ∧ r.2.mem ((c.tc : Thread Cert.ReferenceDIdeal.nD Cert.ReferenceDIdeal.τ).loc Cert.ReferenceDIdeal.main_arg4) = m ((c.tc : Thread Cert.ReferenceDIdeal.nD Cert.ReferenceDIdeal.τ).loc Cert.ReferenceDIdeal.main_arg4))
      ∧ r.2.sem = fun _ => 0)

def quiescent_ReferenceDIdeal_pre_finite_d [hReferenceDIdeal : Cert.ReferenceDIdeal.Facts] [hPre_finite_d : Cert.Pre_finite_d.Facts] : Prop :=
  ∀ (m : (ℓ : Loc Cert.ReferenceDIdeal.nD Cert.ReferenceDIdeal.τ Cert.ReferenceDIdeal.sig) → Buf (Elt Ideal) ℓ) (g : Dev Cert.ReferenceDIdeal.nD → PrngReg), Pre_ReferenceDIdeal_finite_d m →
    θ_run (Cert.ReferenceDIdeal.defs (F := Ideal)) (onTc (τ := Cert.ReferenceDIdeal.τ) (Cert.ReferenceDIdeal.main (F := Ideal))) ⟨m, fun _ => 0, g⟩ (fun r => (∀ c : Dev Cert.ReferenceDIdeal.nD,
      r.2.mem ((c.tc : Thread Cert.ReferenceDIdeal.nD Cert.ReferenceDIdeal.τ).loc Cert.ReferenceDIdeal.main_arg0) = m ((c.tc : Thread Cert.ReferenceDIdeal.nD Cert.ReferenceDIdeal.τ).loc Cert.ReferenceDIdeal.main_arg0)
      ∧ r.2.mem ((c.tc : Thread Cert.ReferenceDIdeal.nD Cert.ReferenceDIdeal.τ).loc Cert.ReferenceDIdeal.main_arg1) = m ((c.tc : Thread Cert.ReferenceDIdeal.nD Cert.ReferenceDIdeal.τ).loc Cert.ReferenceDIdeal.main_arg1)
      ∧ r.2.mem ((c.tc : Thread Cert.ReferenceDIdeal.nD Cert.ReferenceDIdeal.τ).loc Cert.ReferenceDIdeal.main_arg2) = m ((c.tc : Thread Cert.ReferenceDIdeal.nD Cert.ReferenceDIdeal.τ).loc Cert.ReferenceDIdeal.main_arg2)
      ∧ r.2.mem ((c.tc : Thread Cert.ReferenceDIdeal.nD Cert.ReferenceDIdeal.τ).loc Cert.ReferenceDIdeal.main_arg3) = m ((c.tc : Thread Cert.ReferenceDIdeal.nD Cert.ReferenceDIdeal.τ).loc Cert.ReferenceDIdeal.main_arg3)
      ∧ r.2.mem ((c.tc : Thread Cert.ReferenceDIdeal.nD Cert.ReferenceDIdeal.τ).loc Cert.ReferenceDIdeal.main_arg4) = m ((c.tc : Thread Cert.ReferenceDIdeal.nD Cert.ReferenceDIdeal.τ).loc Cert.ReferenceDIdeal.main_arg4))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2)
      ∧ r.2.mem ((c.tc : Thread Cert.KernelA.nD Cert.KernelA.τ).loc Cert.KernelA.main_arg3) = m ((c.tc : Thread Cert.KernelA.nD Cert.KernelA.τ).loc Cert.KernelA.main_arg3))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3))
      ∧ r.2.sem = fun _ => 0)

def quiescent_KernelAIdeal_pre_finite_a [hKernelAIdeal : Cert.KernelAIdeal.Facts] [hPre_finite_a : Cert.Pre_finite_a.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal_finite_a m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3))
      ∧ r.2.sem = fun _ => 0)

def quiescent_ReferenceAIdeal_pre_finite_a [hReferenceAIdeal : Cert.ReferenceAIdeal.Facts] [hPre_finite_a : Cert.Pre_finite_a.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal_finite_a m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3))
      ∧ r.2.sem = fun _ => 0)

def quiescent_KernelM [hKernelM : Cert.KernelM.Facts] : Prop :=
  ∀ (m : (ℓ : Loc Cert.KernelM.nD Cert.KernelM.τ Cert.KernelM.sig) → Buf (Elt Bits) ℓ) (g : Dev Cert.KernelM.nD → PrngReg), Pre_KernelM m →
    θ_run (Cert.KernelM.defs (F := Bits)) (onTc (τ := Cert.KernelM.τ) (Cert.KernelM.main (F := Bits))) ⟨m, fun _ => 0, g⟩ (fun r => (∀ c : Dev Cert.KernelM.nD,
      r.2.mem ((c.tc : Thread Cert.KernelM.nD Cert.KernelM.τ).loc Cert.KernelM.main_arg0) = m ((c.tc : Thread Cert.KernelM.nD Cert.KernelM.τ).loc Cert.KernelM.main_arg0)
      ∧ r.2.mem ((c.tc : Thread Cert.KernelM.nD Cert.KernelM.τ).loc Cert.KernelM.main_arg1) = m ((c.tc : Thread Cert.KernelM.nD Cert.KernelM.τ).loc Cert.KernelM.main_arg1)
      ∧ r.2.mem ((c.tc : Thread Cert.KernelM.nD Cert.KernelM.τ).loc Cert.KernelM.main_arg2) = m ((c.tc : Thread Cert.KernelM.nD Cert.KernelM.τ).loc Cert.KernelM.main_arg2)
      ∧ r.2.mem ((c.tc : Thread Cert.KernelM.nD Cert.KernelM.τ).loc Cert.KernelM.main_arg3) = m ((c.tc : Thread Cert.KernelM.nD Cert.KernelM.τ).loc Cert.KernelM.main_arg3)
      ∧ r.2.mem ((c.tc : Thread Cert.KernelM.nD Cert.KernelM.τ).loc Cert.KernelM.main_arg4) = m ((c.tc : Thread Cert.KernelM.nD Cert.KernelM.τ).loc Cert.KernelM.main_arg4))
      ∧ r.2.sem = fun _ => 0)

def quiescent_KernelMIdeal [hKernelMIdeal : Cert.KernelMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg), Pre_KernelMIdeal m →
    θ_run (Cert.KernelMIdeal.defs (F := Ideal)) (onTc (τ := Cert.KernelMIdeal.τ) (Cert.KernelMIdeal.main (F := Ideal))) ⟨m, fun _ => 0, g⟩ (fun r => (∀ c : Dev Cert.KernelMIdeal.nD,
      r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
      ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
      ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
      ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
      ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4))
      ∧ r.2.sem = fun _ => 0)

def quiescent_KernelMIdeal_pre_finite_m [hKernelMIdeal : Cert.KernelMIdeal.Facts] [hPre_finite_m : Cert.Pre_finite_m.Facts] : Prop :=
  ∀ (m : (ℓ : Loc Cert.KernelMIdeal.nD Cert.KernelMIdeal.τ Cert.KernelMIdeal.sig) → Buf (Elt Ideal) ℓ) (g : Dev Cert.KernelMIdeal.nD → PrngReg), Pre_KernelMIdeal_finite_m m →
    θ_run (Cert.KernelMIdeal.defs (F := Ideal)) (onTc (τ := Cert.KernelMIdeal.τ) (Cert.KernelMIdeal.main (F := Ideal))) ⟨m, fun _ => 0, g⟩ (fun r => (∀ c : Dev Cert.KernelMIdeal.nD,
      r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
      ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
      ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
      ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
      ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4))
      ∧ r.2.sem = fun _ => 0)

def quiescent_ReferenceMIdeal [hReferenceMIdeal : Cert.ReferenceMIdeal.Facts] : Prop :=
  ∀ (m : (ℓ : Loc Cert.ReferenceMIdeal.nD Cert.ReferenceMIdeal.τ Cert.ReferenceMIdeal.sig) → Buf (Elt Ideal) ℓ) (g : Dev Cert.ReferenceMIdeal.nD → PrngReg), Pre_ReferenceMIdeal m →
    θ_run (Cert.ReferenceMIdeal.defs (F := Ideal)) (onTc (τ := Cert.ReferenceMIdeal.τ) (Cert.ReferenceMIdeal.main (F := Ideal))) ⟨m, fun _ => 0, g⟩ (fun r => (∀ c : Dev Cert.ReferenceMIdeal.nD,
      r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0)
      ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1)
      ∧ r.2.mem ((c.tc : Thread Cert.ReferenceMIdeal.nD Cert.ReferenceMIdeal.τ).loc Cert.ReferenceMIdeal.main_arg2) = m ((c.tc : Thread Cert.ReferenceMIdeal.nD Cert.ReferenceMIdeal.τ).loc Cert.ReferenceMIdeal.main_arg2)
      ∧ r.2.mem ((c.tc : Thread Cert.ReferenceMIdeal.nD Cert.ReferenceMIdeal.τ).loc Cert.ReferenceMIdeal.main_arg3) = m ((c.tc : Thread Cert.ReferenceMIdeal.nD Cert.ReferenceMIdeal.τ).loc Cert.ReferenceMIdeal.main_arg3)
      ∧ r.2.mem ((c.tc : Thread Cert.ReferenceMIdeal.nD Cert.ReferenceMIdeal.τ).loc Cert.ReferenceMIdeal.main_arg4) = m ((c.tc : Thread Cert.ReferenceMIdeal.nD Cert.ReferenceMIdeal.τ).loc Cert.ReferenceMIdeal.main_arg4))
      ∧ r.2.sem = fun _ => 0)

def quiescent_ReferenceMIdeal_pre_finite_m [hReferenceMIdeal : Cert.ReferenceMIdeal.Facts] [hPre_finite_m : Cert.Pre_finite_m.Facts] : Prop :=
  ∀ (m : (ℓ : Loc Cert.ReferenceMIdeal.nD Cert.ReferenceMIdeal.τ Cert.ReferenceMIdeal.sig) → Buf (Elt Ideal) ℓ) (g : Dev Cert.ReferenceMIdeal.nD → PrngReg), Pre_ReferenceMIdeal_finite_m m →
    θ_run (Cert.ReferenceMIdeal.defs (F := Ideal)) (onTc (τ := Cert.ReferenceMIdeal.τ) (Cert.ReferenceMIdeal.main (F := Ideal))) ⟨m, fun _ => 0, g⟩ (fun r => (∀ c : Dev Cert.ReferenceMIdeal.nD,
      r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0)
      ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1)
      ∧ r.2.mem ((c.tc : Thread Cert.ReferenceMIdeal.nD Cert.ReferenceMIdeal.τ).loc Cert.ReferenceMIdeal.main_arg2) = m ((c.tc : Thread Cert.ReferenceMIdeal.nD Cert.ReferenceMIdeal.τ).loc Cert.ReferenceMIdeal.main_arg2)
      ∧ r.2.mem ((c.tc : Thread Cert.ReferenceMIdeal.nD Cert.ReferenceMIdeal.τ).loc Cert.ReferenceMIdeal.main_arg3) = m ((c.tc : Thread Cert.ReferenceMIdeal.nD Cert.ReferenceMIdeal.τ).loc Cert.ReferenceMIdeal.main_arg3)
      ∧ r.2.mem ((c.tc : Thread Cert.ReferenceMIdeal.nD Cert.ReferenceMIdeal.τ).loc Cert.ReferenceMIdeal.main_arg4) = m ((c.tc : Thread Cert.ReferenceMIdeal.nD Cert.ReferenceMIdeal.τ).loc Cert.ReferenceMIdeal.main_arg4))
      ∧ r.2.sem = fun _ => 0)

def quiescent_KernelF [hKernelF : Cert.KernelF.Facts] : Prop :=
  ∀ (m : (ℓ : Loc Cert.KernelF.nD Cert.KernelF.τ Cert.KernelF.sig) → Buf (Elt Bits) ℓ) (g : Dev Cert.KernelF.nD → PrngReg), Pre_KernelF m →
    θ_run (Cert.KernelF.defs (F := Bits)) (onTc (τ := Cert.KernelF.τ) (Cert.KernelF.main (F := Bits))) ⟨m, fun _ => 0, g⟩ (fun r => (∀ c : Dev Cert.KernelF.nD,
      r.2.mem ((c.tc : Thread Cert.KernelF.nD Cert.KernelF.τ).loc Cert.KernelF.main_arg0) = m ((c.tc : Thread Cert.KernelF.nD Cert.KernelF.τ).loc Cert.KernelF.main_arg0)
      ∧ r.2.mem ((c.tc : Thread Cert.KernelF.nD Cert.KernelF.τ).loc Cert.KernelF.main_arg1) = m ((c.tc : Thread Cert.KernelF.nD Cert.KernelF.τ).loc Cert.KernelF.main_arg1)
      ∧ r.2.mem ((c.tc : Thread Cert.KernelF.nD Cert.KernelF.τ).loc Cert.KernelF.main_arg2) = m ((c.tc : Thread Cert.KernelF.nD Cert.KernelF.τ).loc Cert.KernelF.main_arg2)
      ∧ r.2.mem ((c.tc : Thread Cert.KernelF.nD Cert.KernelF.τ).loc Cert.KernelF.main_arg3) = m ((c.tc : Thread Cert.KernelF.nD Cert.KernelF.τ).loc Cert.KernelF.main_arg3)
      ∧ r.2.mem ((c.tc : Thread Cert.KernelF.nD Cert.KernelF.τ).loc Cert.KernelF.main_arg4) = m ((c.tc : Thread Cert.KernelF.nD Cert.KernelF.τ).loc Cert.KernelF.main_arg4)
      ∧ r.2.mem ((c.tc : Thread Cert.KernelF.nD Cert.KernelF.τ).loc Cert.KernelF.main_arg5) = m ((c.tc : Thread Cert.KernelF.nD Cert.KernelF.τ).loc Cert.KernelF.main_arg5)
      ∧ r.2.mem ((c.tc : Thread Cert.KernelF.nD Cert.KernelF.τ).loc Cert.KernelF.main_arg6) = m ((c.tc : Thread Cert.KernelF.nD Cert.KernelF.τ).loc Cert.KernelF.main_arg6))
      ∧ r.2.sem = fun _ => 0)

def quiescent_KernelFIdeal [hKernelFIdeal : Cert.KernelFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
      ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3)
      ∧ r.2.mem ((c.tc : Thread Cert.KernelFIdeal.nD Cert.KernelFIdeal.τ).loc Cert.KernelFIdeal.main_arg4) = m ((c.tc : Thread Cert.KernelFIdeal.nD Cert.KernelFIdeal.τ).loc Cert.KernelFIdeal.main_arg4)
      ∧ r.2.mem ((c.tc : Thread Cert.KernelFIdeal.nD Cert.KernelFIdeal.τ).loc Cert.KernelFIdeal.main_arg5) = m ((c.tc : Thread Cert.KernelFIdeal.nD Cert.KernelFIdeal.τ).loc Cert.KernelFIdeal.main_arg5)
      ∧ r.2.mem ((c.tc : Thread Cert.KernelFIdeal.nD Cert.KernelFIdeal.τ).loc Cert.KernelFIdeal.main_arg6) = m ((c.tc : Thread Cert.KernelFIdeal.nD Cert.KernelFIdeal.τ).loc Cert.KernelFIdeal.main_arg6))
      ∧ r.2.sem = fun _ => 0)

def quiescent_KernelFIdeal_pre_finite_f [hKernelFIdeal : Cert.KernelFIdeal.Facts] [hPre_finite_f : Cert.Pre_finite_f.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal_finite_f m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
      ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3)
      ∧ r.2.mem ((c.tc : Thread Cert.KernelFIdeal.nD Cert.KernelFIdeal.τ).loc Cert.KernelFIdeal.main_arg4) = m ((c.tc : Thread Cert.KernelFIdeal.nD Cert.KernelFIdeal.τ).loc Cert.KernelFIdeal.main_arg4)
      ∧ r.2.mem ((c.tc : Thread Cert.KernelFIdeal.nD Cert.KernelFIdeal.τ).loc Cert.KernelFIdeal.main_arg5) = m ((c.tc : Thread Cert.KernelFIdeal.nD Cert.KernelFIdeal.τ).loc Cert.KernelFIdeal.main_arg5)
      ∧ r.2.mem ((c.tc : Thread Cert.KernelFIdeal.nD Cert.KernelFIdeal.τ).loc Cert.KernelFIdeal.main_arg6) = m ((c.tc : Thread Cert.KernelFIdeal.nD Cert.KernelFIdeal.τ).loc Cert.KernelFIdeal.main_arg6))
      ∧ r.2.sem = fun _ => 0)

def quiescent_ReferenceFIdeal [hReferenceFIdeal : Cert.ReferenceFIdeal.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2)
      ∧ r.2.mem ((c.tc : Thread Cert.ReferenceFIdeal.nD Cert.ReferenceFIdeal.τ).loc Cert.ReferenceFIdeal.main_arg3) = m ((c.tc : Thread Cert.ReferenceFIdeal.nD Cert.ReferenceFIdeal.τ).loc Cert.ReferenceFIdeal.main_arg3)
      ∧ r.2.mem ((c.tc : Thread Cert.ReferenceFIdeal.nD Cert.ReferenceFIdeal.τ).loc Cert.ReferenceFIdeal.main_arg4) = m ((c.tc : Thread Cert.ReferenceFIdeal.nD Cert.ReferenceFIdeal.τ).loc Cert.ReferenceFIdeal.main_arg4)
      ∧ r.2.mem ((c.tc : Thread Cert.ReferenceFIdeal.nD Cert.ReferenceFIdeal.τ).loc Cert.ReferenceFIdeal.main_arg5) = m ((c.tc : Thread Cert.ReferenceFIdeal.nD Cert.ReferenceFIdeal.τ).loc Cert.ReferenceFIdeal.main_arg5)
      ∧ r.2.mem ((c.tc : Thread Cert.ReferenceFIdeal.nD Cert.ReferenceFIdeal.τ).loc Cert.ReferenceFIdeal.main_arg6) = m ((c.tc : Thread Cert.ReferenceFIdeal.nD Cert.ReferenceFIdeal.τ).loc Cert.ReferenceFIdeal.main_arg6))
      ∧ r.2.sem = fun _ => 0)

def quiescent_ReferenceFIdeal_pre_finite_f [hReferenceFIdeal : Cert.ReferenceFIdeal.Facts] [hPre_finite_f : Cert.Pre_finite_f.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal_finite_f m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2)
      ∧ r.2.mem ((c.tc : Thread Cert.ReferenceFIdeal.nD Cert.ReferenceFIdeal.τ).loc Cert.ReferenceFIdeal.main_arg3) = m ((c.tc : Thread Cert.ReferenceFIdeal.nD Cert.ReferenceFIdeal.τ).loc Cert.ReferenceFIdeal.main_arg3)
      ∧ r.2.mem ((c.tc : Thread Cert.ReferenceFIdeal.nD Cert.ReferenceFIdeal.τ).loc Cert.ReferenceFIdeal.main_arg4) = m ((c.tc : Thread Cert.ReferenceFIdeal.nD Cert.ReferenceFIdeal.τ).loc Cert.ReferenceFIdeal.main_arg4)
      ∧ r.2.mem ((c.tc : Thread Cert.ReferenceFIdeal.nD Cert.ReferenceFIdeal.τ).loc Cert.ReferenceFIdeal.main_arg5) = m ((c.tc : Thread Cert.ReferenceFIdeal.nD Cert.ReferenceFIdeal.τ).loc Cert.ReferenceFIdeal.main_arg5)
      ∧ r.2.mem ((c.tc : Thread Cert.ReferenceFIdeal.nD Cert.ReferenceFIdeal.τ).loc Cert.ReferenceFIdeal.main_arg6) = m ((c.tc : Thread Cert.ReferenceFIdeal.nD Cert.ReferenceFIdeal.τ).loc Cert.ReferenceFIdeal.main_arg6))
      ∧ r.2.sem = fun _ => 0)

def quiescent_KernelT [hKernelT : Cert.KernelT.Facts] : Prop :=
  ∀ (m : (ℓ : Loc Cert.KernelT.nD Cert.KernelT.τ Cert.KernelT.sig) → Buf (Elt Bits) ℓ) (g : Dev Cert.KernelT.nD → PrngReg), Pre_KernelT m →
    θ_run (Cert.KernelT.defs (F := Bits)) (onTc (τ := Cert.KernelT.τ) (Cert.KernelT.main (F := Bits))) ⟨m, fun _ => 0, g⟩ (fun r => (∀ c : Dev Cert.KernelT.nD,
      r.2.mem ((c.tc : Thread Cert.KernelT.nD Cert.KernelT.τ).loc Cert.KernelT.main_arg0) = m ((c.tc : Thread Cert.KernelT.nD Cert.KernelT.τ).loc Cert.KernelT.main_arg0)
      ∧ r.2.mem ((c.tc : Thread Cert.KernelT.nD Cert.KernelT.τ).loc Cert.KernelT.main_arg1) = m ((c.tc : Thread Cert.KernelT.nD Cert.KernelT.τ).loc Cert.KernelT.main_arg1)
      ∧ r.2.mem ((c.tc : Thread Cert.KernelT.nD Cert.KernelT.τ).loc Cert.KernelT.main_arg2) = m ((c.tc : Thread Cert.KernelT.nD Cert.KernelT.τ).loc Cert.KernelT.main_arg2))
      ∧ r.2.sem = fun _ => 0)

def quiescent_KernelTIdeal [hKernelTIdeal : Cert.KernelTIdeal.Facts] : Prop :=
  ∀ (m : (ℓ : Loc Cert.KernelTIdeal.nD Cert.KernelTIdeal.τ Cert.KernelTIdeal.sig) → Buf (Elt Ideal) ℓ) (g : Dev Cert.KernelTIdeal.nD → PrngReg), Pre_KernelTIdeal m →
    θ_run (Cert.KernelTIdeal.defs (F := Ideal)) (onTc (τ := Cert.KernelTIdeal.τ) (Cert.KernelTIdeal.main (F := Ideal))) ⟨m, fun _ => 0, g⟩ (fun r => (∀ c : Dev Cert.KernelTIdeal.nD,
      r.2.mem ((c.tc : Thread Cert.KernelTIdeal.nD Cert.KernelTIdeal.τ).loc Cert.KernelTIdeal.main_arg0) = m ((c.tc : Thread Cert.KernelTIdeal.nD Cert.KernelTIdeal.τ).loc Cert.KernelTIdeal.main_arg0)
      ∧ r.2.mem ((c.tc : Thread Cert.KernelTIdeal.nD Cert.KernelTIdeal.τ).loc Cert.KernelTIdeal.main_arg1) = m ((c.tc : Thread Cert.KernelTIdeal.nD Cert.KernelTIdeal.τ).loc Cert.KernelTIdeal.main_arg1)
      ∧ r.2.mem ((c.tc : Thread Cert.KernelTIdeal.nD Cert.KernelTIdeal.τ).loc Cert.KernelTIdeal.main_arg2) = m ((c.tc : Thread Cert.KernelTIdeal.nD Cert.KernelTIdeal.τ).loc Cert.KernelTIdeal.main_arg2))
      ∧ r.2.sem = fun _ => 0)

def quiescent_KernelTIdeal_pre_finite_t [hKernelTIdeal : Cert.KernelTIdeal.Facts] [hPre_finite_t : Cert.Pre_finite_t.Facts] : Prop :=
  ∀ (m : (ℓ : Loc Cert.KernelTIdeal.nD Cert.KernelTIdeal.τ Cert.KernelTIdeal.sig) → Buf (Elt Ideal) ℓ) (g : Dev Cert.KernelTIdeal.nD → PrngReg), Pre_KernelTIdeal_finite_t m →
    θ_run (Cert.KernelTIdeal.defs (F := Ideal)) (onTc (τ := Cert.KernelTIdeal.τ) (Cert.KernelTIdeal.main (F := Ideal))) ⟨m, fun _ => 0, g⟩ (fun r => (∀ c : Dev Cert.KernelTIdeal.nD,
      r.2.mem ((c.tc : Thread Cert.KernelTIdeal.nD Cert.KernelTIdeal.τ).loc Cert.KernelTIdeal.main_arg0) = m ((c.tc : Thread Cert.KernelTIdeal.nD Cert.KernelTIdeal.τ).loc Cert.KernelTIdeal.main_arg0)
      ∧ r.2.mem ((c.tc : Thread Cert.KernelTIdeal.nD Cert.KernelTIdeal.τ).loc Cert.KernelTIdeal.main_arg1) = m ((c.tc : Thread Cert.KernelTIdeal.nD Cert.KernelTIdeal.τ).loc Cert.KernelTIdeal.main_arg1)
      ∧ r.2.mem ((c.tc : Thread Cert.KernelTIdeal.nD Cert.KernelTIdeal.τ).loc Cert.KernelTIdeal.main_arg2) = m ((c.tc : Thread Cert.KernelTIdeal.nD Cert.KernelTIdeal.τ).loc Cert.KernelTIdeal.main_arg2))
      ∧ r.2.sem = fun _ => 0)

def quiescent_ReferenceTIdeal [hReferenceTIdeal : Cert.ReferenceTIdeal.Facts] : Prop :=
  ∀ (m : (ℓ : Loc Cert.ReferenceTIdeal.nD Cert.ReferenceTIdeal.τ Cert.ReferenceTIdeal.sig) → Buf (Elt Ideal) ℓ) (g : Dev Cert.ReferenceTIdeal.nD → PrngReg), Pre_ReferenceTIdeal m →
    θ_run (Cert.ReferenceTIdeal.defs (F := Ideal)) (onTc (τ := Cert.ReferenceTIdeal.τ) (Cert.ReferenceTIdeal.main (F := Ideal))) ⟨m, fun _ => 0, g⟩ (fun r => (∀ c : Dev Cert.ReferenceTIdeal.nD,
      r.2.mem ((c.tc : Thread Cert.ReferenceTIdeal.nD Cert.ReferenceTIdeal.τ).loc Cert.ReferenceTIdeal.main_arg0) = m ((c.tc : Thread Cert.ReferenceTIdeal.nD Cert.ReferenceTIdeal.τ).loc Cert.ReferenceTIdeal.main_arg0)
      ∧ r.2.mem ((c.tc : Thread Cert.ReferenceTIdeal.nD Cert.ReferenceTIdeal.τ).loc Cert.ReferenceTIdeal.main_arg1) = m ((c.tc : Thread Cert.ReferenceTIdeal.nD Cert.ReferenceTIdeal.τ).loc Cert.ReferenceTIdeal.main_arg1)
      ∧ r.2.mem ((c.tc : Thread Cert.ReferenceTIdeal.nD Cert.ReferenceTIdeal.τ).loc Cert.ReferenceTIdeal.main_arg2) = m ((c.tc : Thread Cert.ReferenceTIdeal.nD Cert.ReferenceTIdeal.τ).loc Cert.ReferenceTIdeal.main_arg2))
      ∧ r.2.sem = fun _ => 0)

def quiescent_ReferenceTIdeal_pre_finite_t [hReferenceTIdeal : Cert.ReferenceTIdeal.Facts] [hPre_finite_t : Cert.Pre_finite_t.Facts] : Prop :=
  ∀ (m : (ℓ : Loc Cert.ReferenceTIdeal.nD Cert.ReferenceTIdeal.τ Cert.ReferenceTIdeal.sig) → Buf (Elt Ideal) ℓ) (g : Dev Cert.ReferenceTIdeal.nD → PrngReg), Pre_ReferenceTIdeal_finite_t m →
    θ_run (Cert.ReferenceTIdeal.defs (F := Ideal)) (onTc (τ := Cert.ReferenceTIdeal.τ) (Cert.ReferenceTIdeal.main (F := Ideal))) ⟨m, fun _ => 0, g⟩ (fun r => (∀ c : Dev Cert.ReferenceTIdeal.nD,
      r.2.mem ((c.tc : Thread Cert.ReferenceTIdeal.nD Cert.ReferenceTIdeal.τ).loc Cert.ReferenceTIdeal.main_arg0) = m ((c.tc : Thread Cert.ReferenceTIdeal.nD Cert.ReferenceTIdeal.τ).loc Cert.ReferenceTIdeal.main_arg0)
      ∧ r.2.mem ((c.tc : Thread Cert.ReferenceTIdeal.nD Cert.ReferenceTIdeal.τ).loc Cert.ReferenceTIdeal.main_arg1) = m ((c.tc : Thread Cert.ReferenceTIdeal.nD Cert.ReferenceTIdeal.τ).loc Cert.ReferenceTIdeal.main_arg1)
      ∧ r.2.mem ((c.tc : Thread Cert.ReferenceTIdeal.nD Cert.ReferenceTIdeal.τ).loc Cert.ReferenceTIdeal.main_arg2) = m ((c.tc : Thread Cert.ReferenceTIdeal.nD Cert.ReferenceTIdeal.τ).loc Cert.ReferenceTIdeal.main_arg2))
      ∧ r.2.sem = fun _ => 0)

def quiescent_KernelX [hKernelX : Cert.KernelX.Facts] : Prop :=
  ∀ (m : (ℓ : Loc Cert.KernelX.nD Cert.KernelX.τ Cert.KernelX.sig) → Buf (Elt Bits) ℓ) (g : Dev Cert.KernelX.nD → PrngReg), Pre_KernelX m →
    θ_run (Cert.KernelX.defs (F := Bits)) (onTc (τ := Cert.KernelX.τ) (Cert.KernelX.main (F := Bits))) ⟨m, fun _ => 0, g⟩ (fun r => (∀ c : Dev Cert.KernelX.nD,
      r.2.mem ((c.tc : Thread Cert.KernelX.nD Cert.KernelX.τ).loc Cert.KernelX.main_arg0) = m ((c.tc : Thread Cert.KernelX.nD Cert.KernelX.τ).loc Cert.KernelX.main_arg0)
      ∧ r.2.mem ((c.tc : Thread Cert.KernelX.nD Cert.KernelX.τ).loc Cert.KernelX.main_arg1) = m ((c.tc : Thread Cert.KernelX.nD Cert.KernelX.τ).loc Cert.KernelX.main_arg1))
      ∧ r.2.sem = fun _ => 0)

def quiescent_KernelXIdeal [hKernelXIdeal : Cert.KernelXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
      ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1))
      ∧ r.2.sem = fun _ => 0)

def quiescent_ReferenceXIdeal [hReferenceXIdeal : Cert.ReferenceXIdeal.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0)
      ∧ r.2.mem ((c.tc : Thread Cert.ReferenceXIdeal.nD Cert.ReferenceXIdeal.τ).loc Cert.ReferenceXIdeal.main_arg1) = m ((c.tc : Thread Cert.ReferenceXIdeal.nD Cert.ReferenceXIdeal.τ).loc Cert.ReferenceXIdeal.main_arg1))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2)
      ∧ r.2.mem ((c.tc : Thread Cert.KernelO.nD Cert.KernelO.τ).loc Cert.KernelO.main_arg3) = m ((c.tc : Thread Cert.KernelO.nD Cert.KernelO.τ).loc Cert.KernelO.main_arg3)
      ∧ r.2.mem ((c.tc : Thread Cert.KernelO.nD Cert.KernelO.τ).loc Cert.KernelO.main_arg4) = m ((c.tc : Thread Cert.KernelO.nD Cert.KernelO.τ).loc Cert.KernelO.main_arg4)
      ∧ r.2.mem ((c.tc : Thread Cert.KernelO.nD Cert.KernelO.τ).loc Cert.KernelO.main_arg5) = m ((c.tc : Thread Cert.KernelO.nD Cert.KernelO.τ).loc Cert.KernelO.main_arg5)
      ∧ r.2.mem ((c.tc : Thread Cert.KernelO.nD Cert.KernelO.τ).loc Cert.KernelO.main_arg6) = m ((c.tc : Thread Cert.KernelO.nD Cert.KernelO.τ).loc Cert.KernelO.main_arg6))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
      ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
      ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5)
      ∧ r.2.mem ((c.tc : Thread Cert.KernelOIdeal.nD Cert.KernelOIdeal.τ).loc Cert.KernelOIdeal.main_arg6) = m ((c.tc : Thread Cert.KernelOIdeal.nD Cert.KernelOIdeal.τ).loc Cert.KernelOIdeal.main_arg6))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2)
      ∧ r.2.mem ((c.tc : Thread Cert.ReferenceOIdeal.nD Cert.ReferenceOIdeal.τ).loc Cert.ReferenceOIdeal.main_arg3) = m ((c.tc : Thread Cert.ReferenceOIdeal.nD Cert.ReferenceOIdeal.τ).loc Cert.ReferenceOIdeal.main_arg3)
      ∧ r.2.mem ((c.tc : Thread Cert.ReferenceOIdeal.nD Cert.ReferenceOIdeal.τ).loc Cert.ReferenceOIdeal.main_arg4) = m ((c.tc : Thread Cert.ReferenceOIdeal.nD Cert.ReferenceOIdeal.τ).loc Cert.ReferenceOIdeal.main_arg4)
      ∧ r.2.mem ((c.tc : Thread Cert.ReferenceOIdeal.nD Cert.ReferenceOIdeal.τ).loc Cert.ReferenceOIdeal.main_arg5) = m ((c.tc : Thread Cert.ReferenceOIdeal.nD Cert.ReferenceOIdeal.τ).loc Cert.ReferenceOIdeal.main_arg5)
      ∧ r.2.mem ((c.tc : Thread Cert.ReferenceOIdeal.nD Cert.ReferenceOIdeal.τ).loc Cert.ReferenceOIdeal.main_arg6) = m ((c.tc : Thread Cert.ReferenceOIdeal.nD Cert.ReferenceOIdeal.τ).loc Cert.ReferenceOIdeal.main_arg6))
      ∧ r.2.sem = fun _ => 0)

def quiescent_KernelI [hKernelI : Cert.KernelI.Facts] : Prop :=
  ∀ (m : (ℓ : Loc Cert.KernelI.nD Cert.KernelI.τ Cert.KernelI.sig) → Buf (Elt Bits) ℓ) (g : Dev Cert.KernelI.nD → PrngReg), Pre_KernelI m →
    θ_run (Cert.KernelI.defs (F := Bits)) (onTc (τ := Cert.KernelI.τ) (Cert.KernelI.main (F := Bits))) ⟨m, fun _ => 0, g⟩ (fun r => (∀ c : Dev Cert.KernelI.nD,
      r.2.mem ((c.tc : Thread Cert.KernelI.nD Cert.KernelI.τ).loc Cert.KernelI.main_arg0) = m ((c.tc : Thread Cert.KernelI.nD Cert.KernelI.τ).loc Cert.KernelI.main_arg0)
      ∧ r.2.mem ((c.tc : Thread Cert.KernelI.nD Cert.KernelI.τ).loc Cert.KernelI.main_arg1) = m ((c.tc : Thread Cert.KernelI.nD Cert.KernelI.τ).loc Cert.KernelI.main_arg1)
      ∧ r.2.mem ((c.tc : Thread Cert.KernelI.nD Cert.KernelI.τ).loc Cert.KernelI.main_arg2) = m ((c.tc : Thread Cert.KernelI.nD Cert.KernelI.τ).loc Cert.KernelI.main_arg2)
      ∧ r.2.mem ((c.tc : Thread Cert.KernelI.nD Cert.KernelI.τ).loc Cert.KernelI.main_arg3) = m ((c.tc : Thread Cert.KernelI.nD Cert.KernelI.τ).loc Cert.KernelI.main_arg3)
      ∧ r.2.mem ((c.tc : Thread Cert.KernelI.nD Cert.KernelI.τ).loc Cert.KernelI.main_arg4) = m ((c.tc : Thread Cert.KernelI.nD Cert.KernelI.τ).loc Cert.KernelI.main_arg4))
      ∧ r.2.sem = fun _ => 0)

def quiescent_KernelIIdeal [hKernelIIdeal : Cert.KernelIIdeal.Facts] : Prop :=
  ∀ (m : (ℓ : Loc Cert.KernelIIdeal.nD Cert.KernelIIdeal.τ Cert.KernelIIdeal.sig) → Buf (Elt Ideal) ℓ) (g : Dev Cert.KernelIIdeal.nD → PrngReg), Pre_KernelIIdeal m →
    θ_run (Cert.KernelIIdeal.defs (F := Ideal)) (onTc (τ := Cert.KernelIIdeal.τ) (Cert.KernelIIdeal.main (F := Ideal))) ⟨m, fun _ => 0, g⟩ (fun r => (∀ c : Dev Cert.KernelIIdeal.nD,
      r.2.mem ((c.tc : Thread Cert.KernelIIdeal.nD Cert.KernelIIdeal.τ).loc Cert.KernelIIdeal.main_arg0) = m ((c.tc : Thread Cert.KernelIIdeal.nD Cert.KernelIIdeal.τ).loc Cert.KernelIIdeal.main_arg0)
      ∧ r.2.mem ((c.tc : Thread Cert.KernelIIdeal.nD Cert.KernelIIdeal.τ).loc Cert.KernelIIdeal.main_arg1) = m ((c.tc : Thread Cert.KernelIIdeal.nD Cert.KernelIIdeal.τ).loc Cert.KernelIIdeal.main_arg1)
      ∧ r.2.mem ((c.tc : Thread Cert.KernelIIdeal.nD Cert.KernelIIdeal.τ).loc Cert.KernelIIdeal.main_arg2) = m ((c.tc : Thread Cert.KernelIIdeal.nD Cert.KernelIIdeal.τ).loc Cert.KernelIIdeal.main_arg2)
      ∧ r.2.mem ((c.tc : Thread Cert.KernelIIdeal.nD Cert.KernelIIdeal.τ).loc Cert.KernelIIdeal.main_arg3) = m ((c.tc : Thread Cert.KernelIIdeal.nD Cert.KernelIIdeal.τ).loc Cert.KernelIIdeal.main_arg3)
      ∧ r.2.mem ((c.tc : Thread Cert.KernelIIdeal.nD Cert.KernelIIdeal.τ).loc Cert.KernelIIdeal.main_arg4) = m ((c.tc : Thread Cert.KernelIIdeal.nD Cert.KernelIIdeal.τ).loc Cert.KernelIIdeal.main_arg4))
      ∧ r.2.sem = fun _ => 0)

def quiescent_ReferenceIIdeal [hReferenceIIdeal : Cert.ReferenceIIdeal.Facts] : Prop :=
  ∀ (m : (ℓ : Loc Cert.ReferenceIIdeal.nD Cert.ReferenceIIdeal.τ Cert.ReferenceIIdeal.sig) → Buf (Elt Ideal) ℓ) (g : Dev Cert.ReferenceIIdeal.nD → PrngReg), Pre_ReferenceIIdeal m →
    θ_run (Cert.ReferenceIIdeal.defs (F := Ideal)) (onTc (τ := Cert.ReferenceIIdeal.τ) (Cert.ReferenceIIdeal.main (F := Ideal))) ⟨m, fun _ => 0, g⟩ (fun r => (∀ c : Dev Cert.ReferenceIIdeal.nD,
      r.2.mem ((c.tc : Thread Cert.ReferenceIIdeal.nD Cert.ReferenceIIdeal.τ).loc Cert.ReferenceIIdeal.main_arg0) = m ((c.tc : Thread Cert.ReferenceIIdeal.nD Cert.ReferenceIIdeal.τ).loc Cert.ReferenceIIdeal.main_arg0)
      ∧ r.2.mem ((c.tc : Thread Cert.ReferenceIIdeal.nD Cert.ReferenceIIdeal.τ).loc Cert.ReferenceIIdeal.main_arg1) = m ((c.tc : Thread Cert.ReferenceIIdeal.nD Cert.ReferenceIIdeal.τ).loc Cert.ReferenceIIdeal.main_arg1)
      ∧ r.2.mem ((c.tc : Thread Cert.ReferenceIIdeal.nD Cert.ReferenceIIdeal.τ).loc Cert.ReferenceIIdeal.main_arg2) = m ((c.tc : Thread Cert.ReferenceIIdeal.nD Cert.ReferenceIIdeal.τ).loc Cert.ReferenceIIdeal.main_arg2)
      ∧ r.2.mem ((c.tc : Thread Cert.ReferenceIIdeal.nD Cert.ReferenceIIdeal.τ).loc Cert.ReferenceIIdeal.main_arg3) = m ((c.tc : Thread Cert.ReferenceIIdeal.nD Cert.ReferenceIIdeal.τ).loc Cert.ReferenceIIdeal.main_arg3)
      ∧ r.2.mem ((c.tc : Thread Cert.ReferenceIIdeal.nD Cert.ReferenceIIdeal.τ).loc Cert.ReferenceIIdeal.main_arg4) = m ((c.tc : Thread Cert.ReferenceIIdeal.nD Cert.ReferenceIIdeal.τ).loc Cert.ReferenceIIdeal.main_arg4))
      ∧ r.2.sem = fun _ => 0)

def quiescent_KernelL [hKernelL : Cert.KernelL.Facts] : Prop :=
  ∀ (m : (ℓ : Loc Cert.KernelL.nD Cert.KernelL.τ Cert.KernelL.sig) → Buf (Elt Bits) ℓ) (g : Dev Cert.KernelL.nD → PrngReg), Pre_KernelL m →
    θ_run (Cert.KernelL.defs (F := Bits)) (onTc (τ := Cert.KernelL.τ) (Cert.KernelL.main (F := Bits))) ⟨m, fun _ => 0, g⟩ (fun r => (∀ c : Dev Cert.KernelL.nD,
      r.2.mem ((c.tc : Thread Cert.KernelL.nD Cert.KernelL.τ).loc Cert.KernelL.main_arg0) = m ((c.tc : Thread Cert.KernelL.nD Cert.KernelL.τ).loc Cert.KernelL.main_arg0))
      ∧ r.2.sem = fun _ => 0)

def quiescent_KernelLIdeal [hKernelLIdeal : Cert.KernelLIdeal.Facts] : Prop :=
  ∀ (m : (ℓ : Loc Cert.KernelLIdeal.nD Cert.KernelLIdeal.τ Cert.KernelLIdeal.sig) → Buf (Elt Ideal) ℓ) (g : Dev Cert.KernelLIdeal.nD → PrngReg), Pre_KernelLIdeal m →
    θ_run (Cert.KernelLIdeal.defs (F := Ideal)) (onTc (τ := Cert.KernelLIdeal.τ) (Cert.KernelLIdeal.main (F := Ideal))) ⟨m, fun _ => 0, g⟩ (fun r => (∀ c : Dev Cert.KernelLIdeal.nD,
      r.2.mem ((c.tc : Thread Cert.KernelLIdeal.nD Cert.KernelLIdeal.τ).loc Cert.KernelLIdeal.main_arg0) = m ((c.tc : Thread Cert.KernelLIdeal.nD Cert.KernelLIdeal.τ).loc Cert.KernelLIdeal.main_arg0))
      ∧ r.2.sem = fun _ => 0)

def quiescent_KernelLIdeal_pre_finite_l [hKernelLIdeal : Cert.KernelLIdeal.Facts] [hPre_finite_l : Cert.Pre_finite_l.Facts] : Prop :=
  ∀ (m : (ℓ : Loc Cert.KernelLIdeal.nD Cert.KernelLIdeal.τ Cert.KernelLIdeal.sig) → Buf (Elt Ideal) ℓ) (g : Dev Cert.KernelLIdeal.nD → PrngReg), Pre_KernelLIdeal_finite_l m →
    θ_run (Cert.KernelLIdeal.defs (F := Ideal)) (onTc (τ := Cert.KernelLIdeal.τ) (Cert.KernelLIdeal.main (F := Ideal))) ⟨m, fun _ => 0, g⟩ (fun r => (∀ c : Dev Cert.KernelLIdeal.nD,
      r.2.mem ((c.tc : Thread Cert.KernelLIdeal.nD Cert.KernelLIdeal.τ).loc Cert.KernelLIdeal.main_arg0) = m ((c.tc : Thread Cert.KernelLIdeal.nD Cert.KernelLIdeal.τ).loc Cert.KernelLIdeal.main_arg0))
      ∧ r.2.sem = fun _ => 0)

def quiescent_ReferenceLIdeal [hReferenceLIdeal : Cert.ReferenceLIdeal.Facts] : Prop :=
  ∀ (m : (ℓ : Loc Cert.ReferenceLIdeal.nD Cert.ReferenceLIdeal.τ Cert.ReferenceLIdeal.sig) → Buf (Elt Ideal) ℓ) (g : Dev Cert.ReferenceLIdeal.nD → PrngReg), Pre_ReferenceLIdeal m →
    θ_run (Cert.ReferenceLIdeal.defs (F := Ideal)) (onTc (τ := Cert.ReferenceLIdeal.τ) (Cert.ReferenceLIdeal.main (F := Ideal))) ⟨m, fun _ => 0, g⟩ (fun r => (∀ c : Dev Cert.ReferenceLIdeal.nD,
      r.2.mem ((c.tc : Thread Cert.ReferenceLIdeal.nD Cert.ReferenceLIdeal.τ).loc Cert.ReferenceLIdeal.main_arg0) = m ((c.tc : Thread Cert.ReferenceLIdeal.nD Cert.ReferenceLIdeal.τ).loc Cert.ReferenceLIdeal.main_arg0))
      ∧ r.2.sem = fun _ => 0)

def quiescent_ReferenceLIdeal_pre_finite_l [hReferenceLIdeal : Cert.ReferenceLIdeal.Facts] [hPre_finite_l : Cert.Pre_finite_l.Facts] : Prop :=
  ∀ (m : (ℓ : Loc Cert.ReferenceLIdeal.nD Cert.ReferenceLIdeal.τ Cert.ReferenceLIdeal.sig) → Buf (Elt Ideal) ℓ) (g : Dev Cert.ReferenceLIdeal.nD → PrngReg), Pre_ReferenceLIdeal_finite_l m →
    θ_run (Cert.ReferenceLIdeal.defs (F := Ideal)) (onTc (τ := Cert.ReferenceLIdeal.τ) (Cert.ReferenceLIdeal.main (F := Ideal))) ⟨m, fun _ => 0, g⟩ (fun r => (∀ c : Dev Cert.ReferenceLIdeal.nD,
      r.2.mem ((c.tc : Thread Cert.ReferenceLIdeal.nD Cert.ReferenceLIdeal.τ).loc Cert.ReferenceLIdeal.main_arg0) = m ((c.tc : Thread Cert.ReferenceLIdeal.nD Cert.ReferenceLIdeal.τ).loc Cert.ReferenceLIdeal.main_arg0))
      ∧ r.2.sem = fun _ => 0)

def quiescent_KernelP [hKernelP : Cert.KernelP.Facts] : Prop :=
  ∀ (m : (ℓ : Loc Cert.KernelP.nD Cert.KernelP.τ Cert.KernelP.sig) → Buf (Elt Bits) ℓ) (g : Dev Cert.KernelP.nD → PrngReg), Pre_KernelP m →
    θ_run (Cert.KernelP.defs (F := Bits)) (onTc (τ := Cert.KernelP.τ) (Cert.KernelP.main (F := Bits))) ⟨m, fun _ => 0, g⟩ (fun r => (∀ c : Dev Cert.KernelP.nD,
      r.2.mem ((c.tc : Thread Cert.KernelP.nD Cert.KernelP.τ).loc Cert.KernelP.main_arg0) = m ((c.tc : Thread Cert.KernelP.nD Cert.KernelP.τ).loc Cert.KernelP.main_arg0)
      ∧ r.2.mem ((c.tc : Thread Cert.KernelP.nD Cert.KernelP.τ).loc Cert.KernelP.main_arg1) = m ((c.tc : Thread Cert.KernelP.nD Cert.KernelP.τ).loc Cert.KernelP.main_arg1))
      ∧ r.2.sem = fun _ => 0)

def quiescent_KernelPIdeal [hKernelPIdeal : Cert.KernelPIdeal.Facts] : Prop :=
  ∀ (m : (ℓ : Loc Cert.KernelPIdeal.nD Cert.KernelPIdeal.τ Cert.KernelPIdeal.sig) → Buf (Elt Ideal) ℓ) (g : Dev Cert.KernelPIdeal.nD → PrngReg), Pre_KernelPIdeal m →
    θ_run (Cert.KernelPIdeal.defs (F := Ideal)) (onTc (τ := Cert.KernelPIdeal.τ) (Cert.KernelPIdeal.main (F := Ideal))) ⟨m, fun _ => 0, g⟩ (fun r => (∀ c : Dev Cert.KernelPIdeal.nD,
      r.2.mem ((c.tc : Thread Cert.KernelPIdeal.nD Cert.KernelPIdeal.τ).loc Cert.KernelPIdeal.main_arg0) = m ((c.tc : Thread Cert.KernelPIdeal.nD Cert.KernelPIdeal.τ).loc Cert.KernelPIdeal.main_arg0)
      ∧ r.2.mem ((c.tc : Thread Cert.KernelPIdeal.nD Cert.KernelPIdeal.τ).loc Cert.KernelPIdeal.main_arg1) = m ((c.tc : Thread Cert.KernelPIdeal.nD Cert.KernelPIdeal.τ).loc Cert.KernelPIdeal.main_arg1))
      ∧ r.2.sem = fun _ => 0)

def quiescent_ReferencePIdeal [hReferencePIdeal : Cert.ReferencePIdeal.Facts] : Prop :=
  ∀ (m : (ℓ : Loc Cert.ReferencePIdeal.nD Cert.ReferencePIdeal.τ Cert.ReferencePIdeal.sig) → Buf (Elt Ideal) ℓ) (g : Dev Cert.ReferencePIdeal.nD → PrngReg), Pre_ReferencePIdeal m →
    θ_run (Cert.ReferencePIdeal.defs (F := Ideal)) (onTc (τ := Cert.ReferencePIdeal.τ) (Cert.ReferencePIdeal.main (F := Ideal))) ⟨m, fun _ => 0, g⟩ (fun r => (∀ c : Dev Cert.ReferencePIdeal.nD,
      r.2.mem ((c.tc : Thread Cert.ReferencePIdeal.nD Cert.ReferencePIdeal.τ).loc Cert.ReferencePIdeal.main_arg0) = m ((c.tc : Thread Cert.ReferencePIdeal.nD Cert.ReferencePIdeal.τ).loc Cert.ReferencePIdeal.main_arg0)
      ∧ r.2.mem ((c.tc : Thread Cert.ReferencePIdeal.nD Cert.ReferencePIdeal.τ).loc Cert.ReferencePIdeal.main_arg1) = m ((c.tc : Thread Cert.ReferencePIdeal.nD Cert.ReferencePIdeal.τ).loc Cert.ReferencePIdeal.main_arg1))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1)
      ∧ r.2.mem ((c.tc : Thread Cert.KernelQ.nD Cert.KernelQ.τ).loc Cert.KernelQ.main_arg2) = m ((c.tc : Thread Cert.KernelQ.nD Cert.KernelQ.τ).loc Cert.KernelQ.main_arg2))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
      ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1)
      ∧ r.2.mem ((c.tc : Thread Cert.ReferenceQIdeal.nD Cert.ReferenceQIdeal.τ).loc Cert.ReferenceQIdeal.main_arg2) = m ((c.tc : Thread Cert.ReferenceQIdeal.nD Cert.ReferenceQIdeal.τ).loc Cert.ReferenceQIdeal.main_arg2))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2)
      ∧ r.2.mem ((c.tc : Thread Cert.KernelB.nD Cert.KernelB.τ).loc Cert.KernelB.main_arg3) = m ((c.tc : Thread Cert.KernelB.nD Cert.KernelB.τ).loc Cert.KernelB.main_arg3))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1)
      ∧ r.2.mem ((c.tc : Thread Cert.KernelC.nD Cert.KernelC.τ).loc Cert.KernelC.main_arg2) = m ((c.tc : Thread Cert.KernelC.nD Cert.KernelC.τ).loc Cert.KernelC.main_arg2)
      ∧ r.2.mem ((c.tc : Thread Cert.KernelC.nD Cert.KernelC.τ).loc Cert.KernelC.main_arg3) = m ((c.tc : Thread Cert.KernelC.nD Cert.KernelC.τ).loc Cert.KernelC.main_arg3))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2)
      ∧ r.2.mem ((c.tc : Thread Cert.ReferenceCIdeal.nD Cert.ReferenceCIdeal.τ).loc Cert.ReferenceCIdeal.main_arg3) = m ((c.tc : Thread Cert.ReferenceCIdeal.nD Cert.ReferenceCIdeal.τ).loc Cert.ReferenceCIdeal.main_arg3))
      ∧ r.2.sem = fun _ => 0)

def quiescent_KernelS [hKernelS : Cert.KernelS.Facts] : Prop :=
  ∀ (m : (ℓ : Loc Cert.KernelS.nD Cert.KernelS.τ Cert.KernelS.sig) → Buf (Elt Bits) ℓ) (g : Dev Cert.KernelS.nD → PrngReg), Pre_KernelS m →
    θ_run (Cert.KernelS.defs (F := Bits)) (onTc (τ := Cert.KernelS.τ) (Cert.KernelS.main (F := Bits))) ⟨m, fun _ => 0, g⟩ (fun r => (∀ c : Dev Cert.KernelS.nD,
      r.2.mem ((c.tc : Thread Cert.KernelS.nD Cert.KernelS.τ).loc Cert.KernelS.main_arg0) = m ((c.tc : Thread Cert.KernelS.nD Cert.KernelS.τ).loc Cert.KernelS.main_arg0)
      ∧ r.2.mem ((c.tc : Thread Cert.KernelS.nD Cert.KernelS.τ).loc Cert.KernelS.main_arg1) = m ((c.tc : Thread Cert.KernelS.nD Cert.KernelS.τ).loc Cert.KernelS.main_arg1)
      ∧ r.2.mem ((c.tc : Thread Cert.KernelS.nD Cert.KernelS.τ).loc Cert.KernelS.main_arg2) = m ((c.tc : Thread Cert.KernelS.nD Cert.KernelS.τ).loc Cert.KernelS.main_arg2)
      ∧ r.2.mem ((c.tc : Thread Cert.KernelS.nD Cert.KernelS.τ).loc Cert.KernelS.main_arg3) = m ((c.tc : Thread Cert.KernelS.nD Cert.KernelS.τ).loc Cert.KernelS.main_arg3)
      ∧ r.2.mem ((c.tc : Thread Cert.KernelS.nD Cert.KernelS.τ).loc Cert.KernelS.main_arg4) = m ((c.tc : Thread Cert.KernelS.nD Cert.KernelS.τ).loc Cert.KernelS.main_arg4)
      ∧ r.2.mem ((c.tc : Thread Cert.KernelS.nD Cert.KernelS.τ).loc Cert.KernelS.main_arg5) = m ((c.tc : Thread Cert.KernelS.nD Cert.KernelS.τ).loc Cert.KernelS.main_arg5)
      ∧ r.2.mem ((c.tc : Thread Cert.KernelS.nD Cert.KernelS.τ).loc Cert.KernelS.main_arg6) = m ((c.tc : Thread Cert.KernelS.nD Cert.KernelS.τ).loc Cert.KernelS.main_arg6)
      ∧ r.2.mem ((c.tc : Thread Cert.KernelS.nD Cert.KernelS.τ).loc Cert.KernelS.main_arg7) = m ((c.tc : Thread Cert.KernelS.nD Cert.KernelS.τ).loc Cert.KernelS.main_arg7))
      ∧ r.2.sem = fun _ => 0)

def quiescent_KernelSIdeal [hKernelSIdeal : Cert.KernelSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg), Pre_KernelSIdeal m →
    θ_run (Cert.KernelSIdeal.defs (F := Ideal)) (onTc (τ := Cert.KernelSIdeal.τ) (Cert.KernelSIdeal.main (F := Ideal))) ⟨m, fun _ => 0, g⟩ (fun r => (∀ c : Dev Cert.KernelSIdeal.nD,
      r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
      ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
      ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2)
      ∧ r.2.mem ((c.tc : Thread Cert.KernelSIdeal.nD Cert.KernelSIdeal.τ).loc Cert.KernelSIdeal.main_arg3) = m ((c.tc : Thread Cert.KernelSIdeal.nD Cert.KernelSIdeal.τ).loc Cert.KernelSIdeal.main_arg3)
      ∧ r.2.mem ((c.tc : Thread Cert.KernelSIdeal.nD Cert.KernelSIdeal.τ).loc Cert.KernelSIdeal.main_arg4) = m ((c.tc : Thread Cert.KernelSIdeal.nD Cert.KernelSIdeal.τ).loc Cert.KernelSIdeal.main_arg4)
      ∧ r.2.mem ((c.tc : Thread Cert.KernelSIdeal.nD Cert.KernelSIdeal.τ).loc Cert.KernelSIdeal.main_arg5) = m ((c.tc : Thread Cert.KernelSIdeal.nD Cert.KernelSIdeal.τ).loc Cert.KernelSIdeal.main_arg5)
      ∧ r.2.mem ((c.tc : Thread Cert.KernelSIdeal.nD Cert.KernelSIdeal.τ).loc Cert.KernelSIdeal.main_arg6) = m ((c.tc : Thread Cert.KernelSIdeal.nD Cert.KernelSIdeal.τ).loc Cert.KernelSIdeal.main_arg6)
      ∧ r.2.mem ((c.tc : Thread Cert.KernelSIdeal.nD Cert.KernelSIdeal.τ).loc Cert.KernelSIdeal.main_arg7) = m ((c.tc : Thread Cert.KernelSIdeal.nD Cert.KernelSIdeal.τ).loc Cert.KernelSIdeal.main_arg7))
      ∧ r.2.sem = fun _ => 0)

def quiescent_KernelSIdeal_pre_finite_s [hKernelSIdeal : Cert.KernelSIdeal.Facts] [hPre_finite_s : Cert.Pre_finite_s.Facts] : Prop :=
  ∀ (m : (ℓ : Loc Cert.KernelSIdeal.nD Cert.KernelSIdeal.τ Cert.KernelSIdeal.sig) → Buf (Elt Ideal) ℓ) (g : Dev Cert.KernelSIdeal.nD → PrngReg), Pre_KernelSIdeal_finite_s m →
    θ_run (Cert.KernelSIdeal.defs (F := Ideal)) (onTc (τ := Cert.KernelSIdeal.τ) (Cert.KernelSIdeal.main (F := Ideal))) ⟨m, fun _ => 0, g⟩ (fun r => (∀ c : Dev Cert.KernelSIdeal.nD,
      r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
      ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
      ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2)
      ∧ r.2.mem ((c.tc : Thread Cert.KernelSIdeal.nD Cert.KernelSIdeal.τ).loc Cert.KernelSIdeal.main_arg3) = m ((c.tc : Thread Cert.KernelSIdeal.nD Cert.KernelSIdeal.τ).loc Cert.KernelSIdeal.main_arg3)
      ∧ r.2.mem ((c.tc : Thread Cert.KernelSIdeal.nD Cert.KernelSIdeal.τ).loc Cert.KernelSIdeal.main_arg4) = m ((c.tc : Thread Cert.KernelSIdeal.nD Cert.KernelSIdeal.τ).loc Cert.KernelSIdeal.main_arg4)
      ∧ r.2.mem ((c.tc : Thread Cert.KernelSIdeal.nD Cert.KernelSIdeal.τ).loc Cert.KernelSIdeal.main_arg5) = m ((c.tc : Thread Cert.KernelSIdeal.nD Cert.KernelSIdeal.τ).loc Cert.KernelSIdeal.main_arg5)
      ∧ r.2.mem ((c.tc : Thread Cert.KernelSIdeal.nD Cert.KernelSIdeal.τ).loc Cert.KernelSIdeal.main_arg6) = m ((c.tc : Thread Cert.KernelSIdeal.nD Cert.KernelSIdeal.τ).loc Cert.KernelSIdeal.main_arg6)
      ∧ r.2.mem ((c.tc : Thread Cert.KernelSIdeal.nD Cert.KernelSIdeal.τ).loc Cert.KernelSIdeal.main_arg7) = m ((c.tc : Thread Cert.KernelSIdeal.nD Cert.KernelSIdeal.τ).loc Cert.KernelSIdeal.main_arg7))
      ∧ r.2.sem = fun _ => 0)

def quiescent_ReferenceSIdeal [hReferenceSIdeal : Cert.ReferenceSIdeal.Facts] : Prop :=
  ∀ (m : (ℓ : Loc Cert.ReferenceSIdeal.nD Cert.ReferenceSIdeal.τ Cert.ReferenceSIdeal.sig) → Buf (Elt Ideal) ℓ) (g : Dev Cert.ReferenceSIdeal.nD → PrngReg), Pre_ReferenceSIdeal m →
    θ_run (Cert.ReferenceSIdeal.defs (F := Ideal)) (onTc (τ := Cert.ReferenceSIdeal.τ) (Cert.ReferenceSIdeal.main (F := Ideal))) ⟨m, fun _ => 0, g⟩ (fun r => (∀ c : Dev Cert.ReferenceSIdeal.nD,
      r.2.mem ((c.tc : Thread Cert.ReferenceSIdeal.nD Cert.ReferenceSIdeal.τ).loc Cert.ReferenceSIdeal.main_arg0) = m ((c.tc : Thread Cert.ReferenceSIdeal.nD Cert.ReferenceSIdeal.τ).loc Cert.ReferenceSIdeal.main_arg0)
      ∧ r.2.mem ((c.tc : Thread Cert.ReferenceSIdeal.nD Cert.ReferenceSIdeal.τ).loc Cert.ReferenceSIdeal.main_arg1) = m ((c.tc : Thread Cert.ReferenceSIdeal.nD Cert.ReferenceSIdeal.τ).loc Cert.ReferenceSIdeal.main_arg1)
      ∧ r.2.mem ((c.tc : Thread Cert.ReferenceSIdeal.nD Cert.ReferenceSIdeal.τ).loc Cert.ReferenceSIdeal.main_arg2) = m ((c.tc : Thread Cert.ReferenceSIdeal.nD Cert.ReferenceSIdeal.τ).loc Cert.ReferenceSIdeal.main_arg2)
      ∧ r.2.mem ((c.tc : Thread Cert.ReferenceSIdeal.nD Cert.ReferenceSIdeal.τ).loc Cert.ReferenceSIdeal.main_arg3) = m ((c.tc : Thread Cert.ReferenceSIdeal.nD Cert.ReferenceSIdeal.τ).loc Cert.ReferenceSIdeal.main_arg3)
      ∧ r.2.mem ((c.tc : Thread Cert.ReferenceSIdeal.nD Cert.ReferenceSIdeal.τ).loc Cert.ReferenceSIdeal.main_arg4) = m ((c.tc : Thread Cert.ReferenceSIdeal.nD Cert.ReferenceSIdeal.τ).loc Cert.ReferenceSIdeal.main_arg4)
      ∧ r.2.mem ((c.tc : Thread Cert.ReferenceSIdeal.nD Cert.ReferenceSIdeal.τ).loc Cert.ReferenceSIdeal.main_arg5) = m ((c.tc : Thread Cert.ReferenceSIdeal.nD Cert.ReferenceSIdeal.τ).loc Cert.ReferenceSIdeal.main_arg5)
      ∧ r.2.mem ((c.tc : Thread Cert.ReferenceSIdeal.nD Cert.ReferenceSIdeal.τ).loc Cert.ReferenceSIdeal.main_arg6) = m ((c.tc : Thread Cert.ReferenceSIdeal.nD Cert.ReferenceSIdeal.τ).loc Cert.ReferenceSIdeal.main_arg6)
      ∧ r.2.mem ((c.tc : Thread Cert.ReferenceSIdeal.nD Cert.ReferenceSIdeal.τ).loc Cert.ReferenceSIdeal.main_arg7) = m ((c.tc : Thread Cert.ReferenceSIdeal.nD Cert.ReferenceSIdeal.τ).loc Cert.ReferenceSIdeal.main_arg7))
      ∧ r.2.sem = fun _ => 0)

def quiescent_ReferenceSIdeal_pre_finite_s [hReferenceSIdeal : Cert.ReferenceSIdeal.Facts] [hPre_finite_s : Cert.Pre_finite_s.Facts] : Prop :=
  ∀ (m : (ℓ : Loc Cert.ReferenceSIdeal.nD Cert.ReferenceSIdeal.τ Cert.ReferenceSIdeal.sig) → Buf (Elt Ideal) ℓ) (g : Dev Cert.ReferenceSIdeal.nD → PrngReg), Pre_ReferenceSIdeal_finite_s m →
    θ_run (Cert.ReferenceSIdeal.defs (F := Ideal)) (onTc (τ := Cert.ReferenceSIdeal.τ) (Cert.ReferenceSIdeal.main (F := Ideal))) ⟨m, fun _ => 0, g⟩ (fun r => (∀ c : Dev Cert.ReferenceSIdeal.nD,
      r.2.mem ((c.tc : Thread Cert.ReferenceSIdeal.nD Cert.ReferenceSIdeal.τ).loc Cert.ReferenceSIdeal.main_arg0) = m ((c.tc : Thread Cert.ReferenceSIdeal.nD Cert.ReferenceSIdeal.τ).loc Cert.ReferenceSIdeal.main_arg0)
      ∧ r.2.mem ((c.tc : Thread Cert.ReferenceSIdeal.nD Cert.ReferenceSIdeal.τ).loc Cert.ReferenceSIdeal.main_arg1) = m ((c.tc : Thread Cert.ReferenceSIdeal.nD Cert.ReferenceSIdeal.τ).loc Cert.ReferenceSIdeal.main_arg1)
      ∧ r.2.mem ((c.tc : Thread Cert.ReferenceSIdeal.nD Cert.ReferenceSIdeal.τ).loc Cert.ReferenceSIdeal.main_arg2) = m ((c.tc : Thread Cert.ReferenceSIdeal.nD Cert.ReferenceSIdeal.τ).loc Cert.ReferenceSIdeal.main_arg2)
      ∧ r.2.mem ((c.tc : Thread Cert.ReferenceSIdeal.nD Cert.ReferenceSIdeal.τ).loc Cert.ReferenceSIdeal.main_arg3) = m ((c.tc : Thread Cert.ReferenceSIdeal.nD Cert.ReferenceSIdeal.τ).loc Cert.ReferenceSIdeal.main_arg3)
      ∧ r.2.mem ((c.tc : Thread Cert.ReferenceSIdeal.nD Cert.ReferenceSIdeal.τ).loc Cert.ReferenceSIdeal.main_arg4) = m ((c.tc : Thread Cert.ReferenceSIdeal.nD Cert.ReferenceSIdeal.τ).loc Cert.ReferenceSIdeal.main_arg4)
      ∧ r.2.mem ((c.tc : Thread Cert.ReferenceSIdeal.nD Cert.ReferenceSIdeal.τ).loc Cert.ReferenceSIdeal.main_arg5) = m ((c.tc : Thread Cert.ReferenceSIdeal.nD Cert.ReferenceSIdeal.τ).loc Cert.ReferenceSIdeal.main_arg5)
      ∧ r.2.mem ((c.tc : Thread Cert.ReferenceSIdeal.nD Cert.ReferenceSIdeal.τ).loc Cert.ReferenceSIdeal.main_arg6) = m ((c.tc : Thread Cert.ReferenceSIdeal.nD Cert.ReferenceSIdeal.τ).loc Cert.ReferenceSIdeal.main_arg6)
      ∧ r.2.mem ((c.tc : Thread Cert.ReferenceSIdeal.nD Cert.ReferenceSIdeal.τ).loc Cert.ReferenceSIdeal.main_arg7) = m ((c.tc : Thread Cert.ReferenceSIdeal.nD Cert.ReferenceSIdeal.τ).loc Cert.ReferenceSIdeal.main_arg7))
      ∧ r.2.sem = fun _ => 0)

def quiescent_KernelG [hKernelG : Cert.KernelG.Facts] : Prop :=
  ∀ (m : (ℓ : Loc Cert.KernelG.nD Cert.KernelG.τ Cert.KernelG.sig) → Buf (Elt Bits) ℓ) (g : Dev Cert.KernelG.nD → PrngReg), Pre_KernelG m →
    θ_run (Cert.KernelG.defs (F := Bits)) (onTc (τ := Cert.KernelG.τ) (Cert.KernelG.main (F := Bits))) ⟨m, fun _ => 0, g⟩ (fun r => (∀ c : Dev Cert.KernelG.nD,
      r.2.mem ((c.tc : Thread Cert.KernelG.nD Cert.KernelG.τ).loc Cert.KernelG.main_arg0) = m ((c.tc : Thread Cert.KernelG.nD Cert.KernelG.τ).loc Cert.KernelG.main_arg0)
      ∧ r.2.mem ((c.tc : Thread Cert.KernelG.nD Cert.KernelG.τ).loc Cert.KernelG.main_arg1) = m ((c.tc : Thread Cert.KernelG.nD Cert.KernelG.τ).loc Cert.KernelG.main_arg1)
      ∧ r.2.mem ((c.tc : Thread Cert.KernelG.nD Cert.KernelG.τ).loc Cert.KernelG.main_arg2) = m ((c.tc : Thread Cert.KernelG.nD Cert.KernelG.τ).loc Cert.KernelG.main_arg2)
      ∧ r.2.mem ((c.tc : Thread Cert.KernelG.nD Cert.KernelG.τ).loc Cert.KernelG.main_arg3) = m ((c.tc : Thread Cert.KernelG.nD Cert.KernelG.τ).loc Cert.KernelG.main_arg3))
      ∧ r.2.sem = fun _ => 0)

def quiescent_KernelH [hKernelH : Cert.KernelH.Facts] : Prop :=
  ∀ (m : (ℓ : Loc Cert.KernelH.nD Cert.KernelH.τ Cert.KernelH.sig) → Buf (Elt Bits) ℓ) (g : Dev Cert.KernelH.nD → PrngReg), Pre_KernelH m →
    θ_run (Cert.KernelH.defs (F := Bits)) (onTc (τ := Cert.KernelH.τ) (Cert.KernelH.main (F := Bits))) ⟨m, fun _ => 0, g⟩ (fun r => (∀ c : Dev Cert.KernelH.nD,
      r.2.mem ((c.tc : Thread Cert.KernelH.nD Cert.KernelH.τ).loc Cert.KernelH.main_arg0) = m ((c.tc : Thread Cert.KernelH.nD Cert.KernelH.τ).loc Cert.KernelH.main_arg0)
      ∧ r.2.mem ((c.tc : Thread Cert.KernelH.nD Cert.KernelH.τ).loc Cert.KernelH.main_arg1) = m ((c.tc : Thread Cert.KernelH.nD Cert.KernelH.τ).loc Cert.KernelH.main_arg1)
      ∧ r.2.mem ((c.tc : Thread Cert.KernelH.nD Cert.KernelH.τ).loc Cert.KernelH.main_arg2) = m ((c.tc : Thread Cert.KernelH.nD Cert.KernelH.τ).loc Cert.KernelH.main_arg2)
      ∧ r.2.mem ((c.tc : Thread Cert.KernelH.nD Cert.KernelH.τ).loc Cert.KernelH.main_arg3) = m ((c.tc : Thread Cert.KernelH.nD Cert.KernelH.τ).loc Cert.KernelH.main_arg3)
      ∧ r.2.mem ((c.tc : Thread Cert.KernelH.nD Cert.KernelH.τ).loc Cert.KernelH.main_arg4) = m ((c.tc : Thread Cert.KernelH.nD Cert.KernelH.τ).loc Cert.KernelH.main_arg4)
      ∧ r.2.mem ((c.tc : Thread Cert.KernelH.nD Cert.KernelH.τ).loc Cert.KernelH.main_arg5) = m ((c.tc : Thread Cert.KernelH.nD Cert.KernelH.τ).loc Cert.KernelH.main_arg5))
      ∧ r.2.sem = fun _ => 0)

def quiescent_KernelHIdeal [hKernelHIdeal : Cert.KernelHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg), Pre_KernelHIdeal m →
    θ_run (Cert.KernelHIdeal.defs (F := Ideal)) (onTc (τ := Cert.KernelHIdeal.τ) (Cert.KernelHIdeal.main (F := Ideal))) ⟨m, fun _ => 0, g⟩ (fun r => (∀ c : Dev Cert.KernelHIdeal.nD,
      r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
      ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1)
      ∧ r.2.mem ((c.tc : Thread Cert.KernelHIdeal.nD Cert.KernelHIdeal.τ).loc Cert.KernelHIdeal.main_arg2) = m ((c.tc : Thread Cert.KernelHIdeal.nD Cert.KernelHIdeal.τ).loc Cert.KernelHIdeal.main_arg2)
      ∧ r.2.mem ((c.tc : Thread Cert.KernelHIdeal.nD Cert.KernelHIdeal.τ).loc Cert.KernelHIdeal.main_arg3) = m ((c.tc : Thread Cert.KernelHIdeal.nD Cert.KernelHIdeal.τ).loc Cert.KernelHIdeal.main_arg3)
      ∧ r.2.mem ((c.tc : Thread Cert.KernelHIdeal.nD Cert.KernelHIdeal.τ).loc Cert.KernelHIdeal.main_arg4) = m ((c.tc : Thread Cert.KernelHIdeal.nD Cert.KernelHIdeal.τ).loc Cert.KernelHIdeal.main_arg4)
      ∧ r.2.mem ((c.tc : Thread Cert.KernelHIdeal.nD Cert.KernelHIdeal.τ).loc Cert.KernelHIdeal.main_arg5) = m ((c.tc : Thread Cert.KernelHIdeal.nD Cert.KernelHIdeal.τ).loc Cert.KernelHIdeal.main_arg5))
      ∧ r.2.sem = fun _ => 0)

def preserves_KernelV_KernelVIdeal : Prop :=
  True

def algebraic_KernelVIdeal_ReferenceVIdeal_pre_finite_v [hKernelVIdeal : Cert.KernelVIdeal.Facts] [hReferenceVIdeal : Cert.ReferenceVIdeal.Facts] [hPre_finite_v : Cert.Pre_finite_v.Facts] : Prop :=
  ∀ (m : (ℓ : Loc Cert.KernelVIdeal.nD Cert.KernelVIdeal.τ Cert.KernelVIdeal.sig) → Buf (Elt Ideal) ℓ) (g : Dev Cert.KernelVIdeal.nD → PrngReg)
    (m' : (ℓ : Loc Cert.ReferenceVIdeal.nD Cert.ReferenceVIdeal.τ Cert.ReferenceVIdeal.sig) → Buf (Elt Ideal) ℓ) (g' : Dev Cert.ReferenceVIdeal.nD → PrngReg), Pre_KernelVIdeal_finite_v m →
    (∀ c : Dev Cert.KernelVIdeal.nD,
      m' ((c.tc : Thread Cert.ReferenceVIdeal.nD Cert.ReferenceVIdeal.τ).loc Cert.ReferenceVIdeal.main_arg0) = m ((c.tc : Thread Cert.KernelVIdeal.nD Cert.KernelVIdeal.τ).loc Cert.KernelVIdeal.main_arg0)
      ∧ m' ((c.tc : Thread Cert.ReferenceVIdeal.nD Cert.ReferenceVIdeal.τ).loc Cert.ReferenceVIdeal.main_arg1) = m ((c.tc : Thread Cert.KernelVIdeal.nD Cert.KernelVIdeal.τ).loc Cert.KernelVIdeal.main_arg1)
      ∧ m' ((c.tc : Thread Cert.ReferenceVIdeal.nD Cert.ReferenceVIdeal.τ).loc Cert.ReferenceVIdeal.main_arg2) = m ((c.tc : Thread Cert.KernelVIdeal.nD Cert.KernelVIdeal.τ).loc Cert.KernelVIdeal.main_arg2)
      ∧ m' ((c.tc : Thread Cert.ReferenceVIdeal.nD Cert.ReferenceVIdeal.τ).loc Cert.ReferenceVIdeal.main_arg3) = m ((c.tc : Thread Cert.KernelVIdeal.nD Cert.KernelVIdeal.τ).loc Cert.KernelVIdeal.main_arg3)
      ∧ m' ((c.tc : Thread Cert.ReferenceVIdeal.nD Cert.ReferenceVIdeal.τ).loc Cert.ReferenceVIdeal.main_arg4) = m ((c.tc : Thread Cert.KernelVIdeal.nD Cert.KernelVIdeal.τ).loc Cert.KernelVIdeal.main_arg4)
      ∧ m' ((c.tc : Thread Cert.ReferenceVIdeal.nD Cert.ReferenceVIdeal.τ).loc Cert.ReferenceVIdeal.main_arg5) = m ((c.tc : Thread Cert.KernelVIdeal.nD Cert.KernelVIdeal.τ).loc Cert.KernelVIdeal.main_arg5)
      ∧ m' ((c.tc : Thread Cert.ReferenceVIdeal.nD Cert.ReferenceVIdeal.τ).loc Cert.ReferenceVIdeal.main_arg6) = m ((c.tc : Thread Cert.KernelVIdeal.nD Cert.KernelVIdeal.τ).loc Cert.KernelVIdeal.main_arg6)) →
    ∃ (v0 : (c : Dev Cert.KernelVIdeal.nD) → Buf (Elt Ideal) ((c.tc : Thread Cert.KernelVIdeal.nD Cert.KernelVIdeal.τ).loc Cert.KernelVIdeal.main_v8_0)) (v1 : (c : Dev Cert.KernelVIdeal.nD) → Buf (Elt Ideal) ((c.tc : Thread Cert.KernelVIdeal.nD Cert.KernelVIdeal.τ).loc Cert.KernelVIdeal.main_v8_1)) (v2 : (c : Dev Cert.KernelVIdeal.nD) → Buf (Elt Ideal) ((c.tc : Thread Cert.KernelVIdeal.nD Cert.KernelVIdeal.τ).loc Cert.KernelVIdeal.main_v8_2)),
      θ_run (Cert.KernelVIdeal.defs (F := Ideal)) (onTc (τ := Cert.KernelVIdeal.τ) (Cert.KernelVIdeal.main (F := Ideal))) ⟨m, fun _ => 0, g⟩ (fun r => ∀ c : Dev Cert.KernelVIdeal.nD,
          r.2.mem ((c.tc : Thread Cert.KernelVIdeal.nD Cert.KernelVIdeal.τ).loc Cert.KernelVIdeal.main_v8_0) = v0 c
          ∧ r.2.mem ((c.tc : Thread Cert.KernelVIdeal.nD Cert.KernelVIdeal.τ).loc Cert.KernelVIdeal.main_v8_1) = v1 c
          ∧ r.2.mem ((c.tc : Thread Cert.KernelVIdeal.nD Cert.KernelVIdeal.τ).loc Cert.KernelVIdeal.main_v8_2) = v2 c
          ∧ r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
          ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1)
          ∧ r.2.mem ((c.tc : Thread Cert.KernelVIdeal.nD Cert.KernelVIdeal.τ).loc Cert.KernelVIdeal.main_arg2) = m ((c.tc : Thread Cert.KernelVIdeal.nD Cert.KernelVIdeal.τ).loc Cert.KernelVIdeal.main_arg2)
          ∧ r.2.mem ((c.tc : Thread Cert.KernelVIdeal.nD Cert.KernelVIdeal.τ).loc Cert.KernelVIdeal.main_arg3) = m ((c.tc : Thread Cert.KernelVIdeal.nD Cert.KernelVIdeal.τ).loc Cert.KernelVIdeal.main_arg3)
          ∧ r.2.mem ((c.tc : Thread Cert.KernelVIdeal.nD Cert.KernelVIdeal.τ).loc Cert.KernelVIdeal.main_arg4) = m ((c.tc : Thread Cert.KernelVIdeal.nD Cert.KernelVIdeal.τ).loc Cert.KernelVIdeal.main_arg4)
          ∧ r.2.mem ((c.tc : Thread Cert.KernelVIdeal.nD Cert.KernelVIdeal.τ).loc Cert.KernelVIdeal.main_arg5) = m ((c.tc : Thread Cert.KernelVIdeal.nD Cert.KernelVIdeal.τ).loc Cert.KernelVIdeal.main_arg5)
          ∧ r.2.mem ((c.tc : Thread Cert.KernelVIdeal.nD Cert.KernelVIdeal.τ).loc Cert.KernelVIdeal.main_arg6) = m ((c.tc : Thread Cert.KernelVIdeal.nD Cert.KernelVIdeal.τ).loc Cert.KernelVIdeal.main_arg6))
      ∧ θ_run (Cert.ReferenceVIdeal.defs (F := Ideal)) (onTc (τ := Cert.ReferenceVIdeal.τ) (Cert.ReferenceVIdeal.main (F := Ideal))) ⟨m', fun _ => 0, g'⟩ (fun r => ∀ c : Dev Cert.ReferenceVIdeal.nD,
          r.2.mem ((c.tc : Thread Cert.ReferenceVIdeal.nD Cert.ReferenceVIdeal.τ).loc Cert.ReferenceVIdeal.main_v44) = v0 c
          ∧ r.2.mem ((c.tc : Thread Cert.ReferenceVIdeal.nD Cert.ReferenceVIdeal.τ).loc Cert.ReferenceVIdeal.main_v46) = v1 c
          ∧ r.2.mem ((c.tc : Thread Cert.ReferenceVIdeal.nD Cert.ReferenceVIdeal.τ).loc Cert.ReferenceVIdeal.main_v45) = v2 c
          ∧ r.2.mem ((c.tc : Thread Cert.ReferenceVIdeal.nD Cert.ReferenceVIdeal.τ).loc Cert.ReferenceVIdeal.main_arg0) = m' ((c.tc : Thread Cert.ReferenceVIdeal.nD Cert.ReferenceVIdeal.τ).loc Cert.ReferenceVIdeal.main_arg0)
          ∧ r.2.mem ((c.tc : Thread Cert.ReferenceVIdeal.nD Cert.ReferenceVIdeal.τ).loc Cert.ReferenceVIdeal.main_arg1) = m' ((c.tc : Thread Cert.ReferenceVIdeal.nD Cert.ReferenceVIdeal.τ).loc Cert.ReferenceVIdeal.main_arg1)
          ∧ r.2.mem ((c.tc : Thread Cert.ReferenceVIdeal.nD Cert.ReferenceVIdeal.τ).loc Cert.ReferenceVIdeal.main_arg2) = m' ((c.tc : Thread Cert.ReferenceVIdeal.nD Cert.ReferenceVIdeal.τ).loc Cert.ReferenceVIdeal.main_arg2)
          ∧ r.2.mem ((c.tc : Thread Cert.ReferenceVIdeal.nD Cert.ReferenceVIdeal.τ).loc Cert.ReferenceVIdeal.main_arg3) = m' ((c.tc : Thread Cert.ReferenceVIdeal.nD Cert.ReferenceVIdeal.τ).loc Cert.ReferenceVIdeal.main_arg3)
          ∧ r.2.mem ((c.tc : Thread Cert.ReferenceVIdeal.nD Cert.ReferenceVIdeal.τ).loc Cert.ReferenceVIdeal.main_arg4) = m' ((c.tc : Thread Cert.ReferenceVIdeal.nD Cert.ReferenceVIdeal.τ).loc Cert.ReferenceVIdeal.main_arg4)
          ∧ r.2.mem ((c.tc : Thread Cert.ReferenceVIdeal.nD Cert.ReferenceVIdeal.τ).loc Cert.ReferenceVIdeal.main_arg5) = m' ((c.tc : Thread Cert.ReferenceVIdeal.nD Cert.ReferenceVIdeal.τ).loc Cert.ReferenceVIdeal.main_arg5)
          ∧ r.2.mem ((c.tc : Thread Cert.ReferenceVIdeal.nD Cert.ReferenceVIdeal.τ).loc Cert.ReferenceVIdeal.main_arg6) = m' ((c.tc : Thread Cert.ReferenceVIdeal.nD Cert.ReferenceVIdeal.τ).loc Cert.ReferenceVIdeal.main_arg6))

def preserves_KernelU_KernelUIdeal : Prop :=
  True

def algebraic_KernelUIdeal_ReferenceUIdeal_pre_finite_u [hKernelUIdeal : Cert.KernelUIdeal.Facts] [hReferenceUIdeal : Cert.ReferenceUIdeal.Facts] [hPre_finite_u : Cert.Pre_finite_u.Facts] : Prop :=
  ∀ (m : (ℓ : Loc Cert.KernelUIdeal.nD Cert.KernelUIdeal.τ Cert.KernelUIdeal.sig) → Buf (Elt Ideal) ℓ) (g : Dev Cert.KernelUIdeal.nD → PrngReg)
    (m' : (ℓ : Loc Cert.ReferenceUIdeal.nD Cert.ReferenceUIdeal.τ Cert.ReferenceUIdeal.sig) → Buf (Elt Ideal) ℓ) (g' : Dev Cert.ReferenceUIdeal.nD → PrngReg), Pre_KernelUIdeal_finite_u m →
    (∀ c : Dev Cert.KernelUIdeal.nD,
      m' ((c.tc : Thread Cert.ReferenceUIdeal.nD Cert.ReferenceUIdeal.τ).loc Cert.ReferenceUIdeal.main_arg0) = m ((c.tc : Thread Cert.KernelUIdeal.nD Cert.KernelUIdeal.τ).loc Cert.KernelUIdeal.main_arg0)
      ∧ m' ((c.tc : Thread Cert.ReferenceUIdeal.nD Cert.ReferenceUIdeal.τ).loc Cert.ReferenceUIdeal.main_arg1) = m ((c.tc : Thread Cert.KernelUIdeal.nD Cert.KernelUIdeal.τ).loc Cert.KernelUIdeal.main_arg1)
      ∧ m' ((c.tc : Thread Cert.ReferenceUIdeal.nD Cert.ReferenceUIdeal.τ).loc Cert.ReferenceUIdeal.main_arg2) = m ((c.tc : Thread Cert.KernelUIdeal.nD Cert.KernelUIdeal.τ).loc Cert.KernelUIdeal.main_arg2)
      ∧ m' ((c.tc : Thread Cert.ReferenceUIdeal.nD Cert.ReferenceUIdeal.τ).loc Cert.ReferenceUIdeal.main_arg3) = m ((c.tc : Thread Cert.KernelUIdeal.nD Cert.KernelUIdeal.τ).loc Cert.KernelUIdeal.main_arg3)
      ∧ m' ((c.tc : Thread Cert.ReferenceUIdeal.nD Cert.ReferenceUIdeal.τ).loc Cert.ReferenceUIdeal.main_arg4) = m ((c.tc : Thread Cert.KernelUIdeal.nD Cert.KernelUIdeal.τ).loc Cert.KernelUIdeal.main_arg4)
      ∧ m' ((c.tc : Thread Cert.ReferenceUIdeal.nD Cert.ReferenceUIdeal.τ).loc Cert.ReferenceUIdeal.main_arg5) = m ((c.tc : Thread Cert.KernelUIdeal.nD Cert.KernelUIdeal.τ).loc Cert.KernelUIdeal.main_arg5)
      ∧ m' ((c.tc : Thread Cert.ReferenceUIdeal.nD Cert.ReferenceUIdeal.τ).loc Cert.ReferenceUIdeal.main_arg6) = m ((c.tc : Thread Cert.KernelUIdeal.nD Cert.KernelUIdeal.τ).loc Cert.KernelUIdeal.main_arg6)
      ∧ m' ((c.tc : Thread Cert.ReferenceUIdeal.nD Cert.ReferenceUIdeal.τ).loc Cert.ReferenceUIdeal.main_arg7) = m ((c.tc : Thread Cert.KernelUIdeal.nD Cert.KernelUIdeal.τ).loc Cert.KernelUIdeal.main_arg7)
      ∧ m' ((c.tc : Thread Cert.ReferenceUIdeal.nD Cert.ReferenceUIdeal.τ).loc Cert.ReferenceUIdeal.main_arg8) = m ((c.tc : Thread Cert.KernelUIdeal.nD Cert.KernelUIdeal.τ).loc Cert.KernelUIdeal.main_arg8)
      ∧ m' ((c.tc : Thread Cert.ReferenceUIdeal.nD Cert.ReferenceUIdeal.τ).loc Cert.ReferenceUIdeal.main_arg9) = m ((c.tc : Thread Cert.KernelUIdeal.nD Cert.KernelUIdeal.τ).loc Cert.KernelUIdeal.main_arg9)) →
    ∃ (v0 : (c : Dev Cert.KernelUIdeal.nD) → Buf (Elt Ideal) ((c.tc : Thread Cert.KernelUIdeal.nD Cert.KernelUIdeal.τ).loc Cert.KernelUIdeal.main_v10_0)) (v1 : (c : Dev Cert.KernelUIdeal.nD) → Buf (Elt Ideal) ((c.tc : Thread Cert.KernelUIdeal.nD Cert.KernelUIdeal.τ).loc Cert.KernelUIdeal.main_v10_1)),
      θ_run (Cert.KernelUIdeal.defs (F := Ideal)) (onTc (τ := Cert.KernelUIdeal.τ) (Cert.KernelUIdeal.main (F := Ideal))) ⟨m, fun _ => 0, g⟩ (fun r => ∀ c : Dev Cert.KernelUIdeal.nD,
          r.2.mem ((c.tc : Thread Cert.KernelUIdeal.nD Cert.KernelUIdeal.τ).loc Cert.KernelUIdeal.main_v10_0) = v0 c
          ∧ r.2.mem ((c.tc : Thread Cert.KernelUIdeal.nD Cert.KernelUIdeal.τ).loc Cert.KernelUIdeal.main_v10_1) = v1 c
          ∧ r.2.mem ((c.tc : Thread Cert.KernelUIdeal.nD Cert.KernelUIdeal.τ).loc Cert.KernelUIdeal.main_arg0) = m ((c.tc : Thread Cert.KernelUIdeal.nD Cert.KernelUIdeal.τ).loc Cert.KernelUIdeal.main_arg0)
          ∧ r.2.mem ((c.tc : Thread Cert.KernelUIdeal.nD Cert.KernelUIdeal.τ).loc Cert.KernelUIdeal.main_arg1) = m ((c.tc : Thread Cert.KernelUIdeal.nD Cert.KernelUIdeal.τ).loc Cert.KernelUIdeal.main_arg1)
          ∧ r.2.mem ((c.tc : Thread Cert.KernelUIdeal.nD Cert.KernelUIdeal.τ).loc Cert.KernelUIdeal.main_arg2) = m ((c.tc : Thread Cert.KernelUIdeal.nD Cert.KernelUIdeal.τ).loc Cert.KernelUIdeal.main_arg2)
          ∧ r.2.mem ((c.tc : Thread Cert.KernelUIdeal.nD Cert.KernelUIdeal.τ).loc Cert.KernelUIdeal.main_arg3) = m ((c.tc : Thread Cert.KernelUIdeal.nD Cert.KernelUIdeal.τ).loc Cert.KernelUIdeal.main_arg3)
          ∧ r.2.mem ((c.tc : Thread Cert.KernelUIdeal.nD Cert.KernelUIdeal.τ).loc Cert.KernelUIdeal.main_arg4) = m ((c.tc : Thread Cert.KernelUIdeal.nD Cert.KernelUIdeal.τ).loc Cert.KernelUIdeal.main_arg4)
          ∧ r.2.mem ((c.tc : Thread Cert.KernelUIdeal.nD Cert.KernelUIdeal.τ).loc Cert.KernelUIdeal.main_arg5) = m ((c.tc : Thread Cert.KernelUIdeal.nD Cert.KernelUIdeal.τ).loc Cert.KernelUIdeal.main_arg5)
          ∧ r.2.mem ((c.tc : Thread Cert.KernelUIdeal.nD Cert.KernelUIdeal.τ).loc Cert.KernelUIdeal.main_arg6) = m ((c.tc : Thread Cert.KernelUIdeal.nD Cert.KernelUIdeal.τ).loc Cert.KernelUIdeal.main_arg6)
          ∧ r.2.mem ((c.tc : Thread Cert.KernelUIdeal.nD Cert.KernelUIdeal.τ).loc Cert.KernelUIdeal.main_arg7) = m ((c.tc : Thread Cert.KernelUIdeal.nD Cert.KernelUIdeal.τ).loc Cert.KernelUIdeal.main_arg7)
          ∧ r.2.mem ((c.tc : Thread Cert.KernelUIdeal.nD Cert.KernelUIdeal.τ).loc Cert.KernelUIdeal.main_arg8) = m ((c.tc : Thread Cert.KernelUIdeal.nD Cert.KernelUIdeal.τ).loc Cert.KernelUIdeal.main_arg8)
          ∧ r.2.mem ((c.tc : Thread Cert.KernelUIdeal.nD Cert.KernelUIdeal.τ).loc Cert.KernelUIdeal.main_arg9) = m ((c.tc : Thread Cert.KernelUIdeal.nD Cert.KernelUIdeal.τ).loc Cert.KernelUIdeal.main_arg9))
      ∧ θ_run (Cert.ReferenceUIdeal.defs (F := Ideal)) (onTc (τ := Cert.ReferenceUIdeal.τ) (Cert.ReferenceUIdeal.main (F := Ideal))) ⟨m', fun _ => 0, g'⟩ (fun r => ∀ c : Dev Cert.ReferenceUIdeal.nD,
          r.2.mem ((c.tc : Thread Cert.ReferenceUIdeal.nD Cert.ReferenceUIdeal.τ).loc Cert.ReferenceUIdeal.main_v53) = v0 c
          ∧ r.2.mem ((c.tc : Thread Cert.ReferenceUIdeal.nD Cert.ReferenceUIdeal.τ).loc Cert.ReferenceUIdeal.main_v51) = v1 c
          ∧ r.2.mem ((c.tc : Thread Cert.ReferenceUIdeal.nD Cert.ReferenceUIdeal.τ).loc Cert.ReferenceUIdeal.main_arg0) = m' ((c.tc : Thread Cert.ReferenceUIdeal.nD Cert.ReferenceUIdeal.τ).loc Cert.ReferenceUIdeal.main_arg0)
          ∧ r.2.mem ((c.tc : Thread Cert.ReferenceUIdeal.nD Cert.ReferenceUIdeal.τ).loc Cert.ReferenceUIdeal.main_arg1) = m' ((c.tc : Thread Cert.ReferenceUIdeal.nD Cert.ReferenceUIdeal.τ).loc Cert.ReferenceUIdeal.main_arg1)
          ∧ r.2.mem ((c.tc : Thread Cert.ReferenceUIdeal.nD Cert.ReferenceUIdeal.τ).loc Cert.ReferenceUIdeal.main_arg2) = m' ((c.tc : Thread Cert.ReferenceUIdeal.nD Cert.ReferenceUIdeal.τ).loc Cert.ReferenceUIdeal.main_arg2)
          ∧ r.2.mem ((c.tc : Thread Cert.ReferenceUIdeal.nD Cert.ReferenceUIdeal.τ).loc Cert.ReferenceUIdeal.main_arg3) = m' ((c.tc : Thread Cert.ReferenceUIdeal.nD Cert.ReferenceUIdeal.τ).loc Cert.ReferenceUIdeal.main_arg3)
          ∧ r.2.mem ((c.tc : Thread Cert.ReferenceUIdeal.nD Cert.ReferenceUIdeal.τ).loc Cert.ReferenceUIdeal.main_arg4) = m' ((c.tc : Thread Cert.ReferenceUIdeal.nD Cert.ReferenceUIdeal.τ).loc Cert.ReferenceUIdeal.main_arg4)
          ∧ r.2.mem ((c.tc : Thread Cert.ReferenceUIdeal.nD Cert.ReferenceUIdeal.τ).loc Cert.ReferenceUIdeal.main_arg5) = m' ((c.tc : Thread Cert.ReferenceUIdeal.nD Cert.ReferenceUIdeal.τ).loc Cert.ReferenceUIdeal.main_arg5)
          ∧ r.2.mem ((c.tc : Thread Cert.ReferenceUIdeal.nD Cert.ReferenceUIdeal.τ).loc Cert.ReferenceUIdeal.main_arg6) = m' ((c.tc : Thread Cert.ReferenceUIdeal.nD Cert.ReferenceUIdeal.τ).loc Cert.ReferenceUIdeal.main_arg6)
          ∧ r.2.mem ((c.tc : Thread Cert.ReferenceUIdeal.nD Cert.ReferenceUIdeal.τ).loc Cert.ReferenceUIdeal.main_arg7) = m' ((c.tc : Thread Cert.ReferenceUIdeal.nD Cert.ReferenceUIdeal.τ).loc Cert.ReferenceUIdeal.main_arg7)
          ∧ r.2.mem ((c.tc : Thread Cert.ReferenceUIdeal.nD Cert.ReferenceUIdeal.τ).loc Cert.ReferenceUIdeal.main_arg8) = m' ((c.tc : Thread Cert.ReferenceUIdeal.nD Cert.ReferenceUIdeal.τ).loc Cert.ReferenceUIdeal.main_arg8)
          ∧ r.2.mem ((c.tc : Thread Cert.ReferenceUIdeal.nD Cert.ReferenceUIdeal.τ).loc Cert.ReferenceUIdeal.main_arg9) = m' ((c.tc : Thread Cert.ReferenceUIdeal.nD Cert.ReferenceUIdeal.τ).loc Cert.ReferenceUIdeal.main_arg9))

def preserves_KernelD_KernelDIdeal : Prop :=
  True

def algebraic_KernelDIdeal_ReferenceDIdeal_pre_finite_d [hKernelDIdeal : Cert.KernelDIdeal.Facts] [hReferenceDIdeal : Cert.ReferenceDIdeal.Facts] [hPre_finite_d : Cert.Pre_finite_d.Facts] : Prop :=
  ∀ (m : (ℓ : Loc Cert.KernelDIdeal.nD Cert.KernelDIdeal.τ Cert.KernelDIdeal.sig) → Buf (Elt Ideal) ℓ) (g : Dev Cert.KernelDIdeal.nD → PrngReg)
    (m' : (ℓ : Loc Cert.ReferenceDIdeal.nD Cert.ReferenceDIdeal.τ Cert.ReferenceDIdeal.sig) → Buf (Elt Ideal) ℓ) (g' : Dev Cert.ReferenceDIdeal.nD → PrngReg), Pre_KernelDIdeal_finite_d m →
    (∀ c : Dev Cert.KernelDIdeal.nD,
      m' ((c.tc : Thread Cert.ReferenceDIdeal.nD Cert.ReferenceDIdeal.τ).loc Cert.ReferenceDIdeal.main_arg0) = m ((c.tc : Thread Cert.KernelDIdeal.nD Cert.KernelDIdeal.τ).loc Cert.KernelDIdeal.main_arg0)
      ∧ m' ((c.tc : Thread Cert.ReferenceDIdeal.nD Cert.ReferenceDIdeal.τ).loc Cert.ReferenceDIdeal.main_arg1) = m ((c.tc : Thread Cert.KernelDIdeal.nD Cert.KernelDIdeal.τ).loc Cert.KernelDIdeal.main_arg1)
      ∧ m' ((c.tc : Thread Cert.ReferenceDIdeal.nD Cert.ReferenceDIdeal.τ).loc Cert.ReferenceDIdeal.main_arg2) = m ((c.tc : Thread Cert.KernelDIdeal.nD Cert.KernelDIdeal.τ).loc Cert.KernelDIdeal.main_arg2)
      ∧ m' ((c.tc : Thread Cert.ReferenceDIdeal.nD Cert.ReferenceDIdeal.τ).loc Cert.ReferenceDIdeal.main_arg3) = m ((c.tc : Thread Cert.KernelDIdeal.nD Cert.KernelDIdeal.τ).loc Cert.KernelDIdeal.main_arg3)
      ∧ m' ((c.tc : Thread Cert.ReferenceDIdeal.nD Cert.ReferenceDIdeal.τ).loc Cert.ReferenceDIdeal.main_arg4) = m ((c.tc : Thread Cert.KernelDIdeal.nD Cert.KernelDIdeal.τ).loc Cert.KernelDIdeal.main_arg4)) →
    ∃ (v0 : (c : Dev Cert.KernelDIdeal.nD) → Buf (Elt Ideal) ((c.tc : Thread Cert.KernelDIdeal.nD Cert.KernelDIdeal.τ).loc Cert.KernelDIdeal.main_v5_0)) (v1 : (c : Dev Cert.KernelDIdeal.nD) → Buf (Elt Ideal) ((c.tc : Thread Cert.KernelDIdeal.nD Cert.KernelDIdeal.τ).loc Cert.KernelDIdeal.main_v5_1)) (v2 : (c : Dev Cert.KernelDIdeal.nD) → Buf (Elt Ideal) ((c.tc : Thread Cert.KernelDIdeal.nD Cert.KernelDIdeal.τ).loc Cert.KernelDIdeal.main_v5_2)) (v3 : (c : Dev Cert.KernelDIdeal.nD) → Buf (Elt Ideal) ((c.tc : Thread Cert.KernelDIdeal.nD Cert.KernelDIdeal.τ).loc Cert.KernelDIdeal.main_v5_3)),
      θ_run (Cert.KernelDIdeal.defs (F := Ideal)) (onTc (τ := Cert.KernelDIdeal.τ) (Cert.KernelDIdeal.main (F := Ideal))) ⟨m, fun _ => 0, g⟩ (fun r => ∀ c : Dev Cert.KernelDIdeal.nD,
          r.2.mem ((c.tc : Thread Cert.KernelDIdeal.nD Cert.KernelDIdeal.τ).loc Cert.KernelDIdeal.main_v5_0) = v0 c
          ∧ r.2.mem ((c.tc : Thread Cert.KernelDIdeal.nD Cert.KernelDIdeal.τ).loc Cert.KernelDIdeal.main_v5_1) = v1 c
          ∧ r.2.mem ((c.tc : Thread Cert.KernelDIdeal.nD Cert.KernelDIdeal.τ).loc Cert.KernelDIdeal.main_v5_2) = v2 c
          ∧ r.2.mem ((c.tc : Thread Cert.KernelDIdeal.nD Cert.KernelDIdeal.τ).loc Cert.KernelDIdeal.main_v5_3) = v3 c
          ∧ r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
          ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
          ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2)
          ∧ r.2.mem ((c.tc : Thread Cert.KernelDIdeal.nD Cert.KernelDIdeal.τ).loc Cert.KernelDIdeal.main_arg3) = m ((c.tc : Thread Cert.KernelDIdeal.nD Cert.KernelDIdeal.τ).loc Cert.KernelDIdeal.main_arg3)
          ∧ r.2.mem ((c.tc : Thread Cert.KernelDIdeal.nD Cert.KernelDIdeal.τ).loc Cert.KernelDIdeal.main_arg4) = m ((c.tc : Thread Cert.KernelDIdeal.nD Cert.KernelDIdeal.τ).loc Cert.KernelDIdeal.main_arg4))
      ∧ θ_run (Cert.ReferenceDIdeal.defs (F := Ideal)) (onTc (τ := Cert.ReferenceDIdeal.τ) (Cert.ReferenceDIdeal.main (F := Ideal))) ⟨m', fun _ => 0, g'⟩ (fun r => ∀ c : Dev Cert.ReferenceDIdeal.nD,
          r.2.mem ((c.tc : Thread Cert.ReferenceDIdeal.nD Cert.ReferenceDIdeal.τ).loc Cert.ReferenceDIdeal.main_v54) = v0 c
          ∧ r.2.mem ((c.tc : Thread Cert.ReferenceDIdeal.nD Cert.ReferenceDIdeal.τ).loc Cert.ReferenceDIdeal.main_v79) = v1 c
          ∧ r.2.mem ((c.tc : Thread Cert.ReferenceDIdeal.nD Cert.ReferenceDIdeal.τ).loc Cert.ReferenceDIdeal.main_v80) = v2 c
          ∧ r.2.mem ((c.tc : Thread Cert.ReferenceDIdeal.nD Cert.ReferenceDIdeal.τ).loc Cert.ReferenceDIdeal.main_v81) = v3 c
          ∧ r.2.mem ((c.tc : Thread Cert.ReferenceDIdeal.nD Cert.ReferenceDIdeal.τ).loc Cert.ReferenceDIdeal.main_arg0) = m' ((c.tc : Thread Cert.ReferenceDIdeal.nD Cert.ReferenceDIdeal.τ).loc Cert.ReferenceDIdeal.main_arg0)
          ∧ r.2.mem ((c.tc : Thread Cert.ReferenceDIdeal.nD Cert.ReferenceDIdeal.τ).loc Cert.ReferenceDIdeal.main_arg1) = m' ((c.tc : Thread Cert.ReferenceDIdeal.nD Cert.ReferenceDIdeal.τ).loc Cert.ReferenceDIdeal.main_arg1)
          ∧ r.2.mem ((c.tc : Thread Cert.ReferenceDIdeal.nD Cert.ReferenceDIdeal.τ).loc Cert.ReferenceDIdeal.main_arg2) = m' ((c.tc : Thread Cert.ReferenceDIdeal.nD Cert.ReferenceDIdeal.τ).loc Cert.ReferenceDIdeal.main_arg2)
          ∧ r.2.mem ((c.tc : Thread Cert.ReferenceDIdeal.nD Cert.ReferenceDIdeal.τ).loc Cert.ReferenceDIdeal.main_arg3) = m' ((c.tc : Thread Cert.ReferenceDIdeal.nD Cert.ReferenceDIdeal.τ).loc Cert.ReferenceDIdeal.main_arg3)
          ∧ r.2.mem ((c.tc : Thread Cert.ReferenceDIdeal.nD Cert.ReferenceDIdeal.τ).loc Cert.ReferenceDIdeal.main_arg4) = m' ((c.tc : Thread Cert.ReferenceDIdeal.nD Cert.ReferenceDIdeal.τ).loc Cert.ReferenceDIdeal.main_arg4))

def preserves_KernelA_KernelAIdeal : Prop :=
  IdealRules.named_const.Statement Cert.KernelAIdeal.κ "mask" .f32 0xF149F2CA#32 ⊥

def algebraic_KernelAIdeal_ReferenceAIdeal_pre_finite_a [hKernelAIdeal : Cert.KernelAIdeal.Facts] [hReferenceAIdeal : Cert.ReferenceAIdeal.Facts] [hPre_finite_a : Cert.Pre_finite_a.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal_finite_a m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)
      ∧ m' ((c.tc : Thread Cert.ReferenceAIdeal.nD Cert.ReferenceAIdeal.τ).loc Cert.ReferenceAIdeal.main_arg3) = m ((c.tc : Thread Cert.KernelAIdeal.nD Cert.KernelAIdeal.τ).loc Cert.KernelAIdeal.main_arg3)) →
    ∃ (v0 : (c : Dev Cert.KernelAIdeal.nD) → Buf (Elt Ideal) ((c.tc : Thread Cert.KernelAIdeal.nD Cert.KernelAIdeal.τ).loc Cert.KernelAIdeal.main_v0_0)) (v1 : (c : Dev Cert.KernelAIdeal.nD) → Buf (Elt Ideal) ((c.tc : Thread Cert.KernelAIdeal.nD Cert.KernelAIdeal.τ).loc Cert.KernelAIdeal.main_v0_1)) (v2 : (c : Dev Cert.KernelAIdeal.nD) → Buf (Elt Ideal) ((c.tc : Thread Cert.KernelAIdeal.nD Cert.KernelAIdeal.τ).loc Cert.KernelAIdeal.main_v0_2)) (v3 : (c : Dev Cert.KernelAIdeal.nD) → Buf (Elt Ideal) ((c.tc : Thread Cert.KernelAIdeal.nD Cert.KernelAIdeal.τ).loc Cert.KernelAIdeal.main_v0_3)) (v4 : (c : Dev Cert.KernelAIdeal.nD) → Buf (Elt Ideal) ((c.tc : Thread Cert.KernelAIdeal.nD Cert.KernelAIdeal.τ).loc Cert.KernelAIdeal.main_v0_4)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v0_0) = v0 c
          ∧ r.2.mem ((c.tc : Thread Cert.KernelAIdeal.nD Cert.KernelAIdeal.τ).loc Cert.KernelAIdeal.main_v0_1) = v1 c
          ∧ r.2.mem ((c.tc : Thread Cert.KernelAIdeal.nD Cert.KernelAIdeal.τ).loc Cert.KernelAIdeal.main_v0_2) = v2 c
          ∧ r.2.mem ((c.tc : Thread Cert.KernelAIdeal.nD Cert.KernelAIdeal.τ).loc Cert.KernelAIdeal.main_v0_3) = v3 c
          ∧ r.2.mem ((c.tc : Thread Cert.KernelAIdeal.nD Cert.KernelAIdeal.τ).loc Cert.KernelAIdeal.main_v0_4) = v4 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
          ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v182) = v0 c
          ∧ r.2.mem ((c.tc : Thread Cert.ReferenceAIdeal.nD Cert.ReferenceAIdeal.τ).loc Cert.ReferenceAIdeal.main_v184) = v1 c
          ∧ r.2.mem ((c.tc : Thread Cert.ReferenceAIdeal.nD Cert.ReferenceAIdeal.τ).loc Cert.ReferenceAIdeal.main_v186) = v2 c
          ∧ r.2.mem ((c.tc : Thread Cert.ReferenceAIdeal.nD Cert.ReferenceAIdeal.τ).loc Cert.ReferenceAIdeal.main_v187) = v3 c
          ∧ r.2.mem ((c.tc : Thread Cert.ReferenceAIdeal.nD Cert.ReferenceAIdeal.τ).loc Cert.ReferenceAIdeal.main_v188) = v4 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2)
          ∧ r.2.mem ((c.tc : Thread Cert.ReferenceAIdeal.nD Cert.ReferenceAIdeal.τ).loc Cert.ReferenceAIdeal.main_arg3) = m' ((c.tc : Thread Cert.ReferenceAIdeal.nD Cert.ReferenceAIdeal.τ).loc Cert.ReferenceAIdeal.main_arg3))

def preserves_KernelM_KernelMIdeal : Prop :=
  True

def algebraic_KernelMIdeal_ReferenceMIdeal_pre_finite_m [hKernelMIdeal : Cert.KernelMIdeal.Facts] [hReferenceMIdeal : Cert.ReferenceMIdeal.Facts] [hPre_finite_m : Cert.Pre_finite_m.Facts] : Prop :=
  ∀ (m : (ℓ : Loc Cert.KernelMIdeal.nD Cert.KernelMIdeal.τ Cert.KernelMIdeal.sig) → Buf (Elt Ideal) ℓ) (g : Dev Cert.KernelMIdeal.nD → PrngReg)
    (m' : (ℓ : Loc Cert.ReferenceMIdeal.nD Cert.ReferenceMIdeal.τ Cert.ReferenceMIdeal.sig) → Buf (Elt Ideal) ℓ) (g' : Dev Cert.ReferenceMIdeal.nD → PrngReg), Pre_KernelMIdeal_finite_m m →
    (∀ c : Dev Cert.KernelMIdeal.nD,
      m' ((c.tc : Thread Cert.ReferenceMIdeal.nD Cert.ReferenceMIdeal.τ).loc Cert.ReferenceMIdeal.main_arg0) = m ((c.tc : Thread Cert.KernelMIdeal.nD Cert.KernelMIdeal.τ).loc Cert.KernelMIdeal.main_arg0)
      ∧ m' ((c.tc : Thread Cert.ReferenceMIdeal.nD Cert.ReferenceMIdeal.τ).loc Cert.ReferenceMIdeal.main_arg1) = m ((c.tc : Thread Cert.KernelMIdeal.nD Cert.KernelMIdeal.τ).loc Cert.KernelMIdeal.main_arg1)
      ∧ m' ((c.tc : Thread Cert.ReferenceMIdeal.nD Cert.ReferenceMIdeal.τ).loc Cert.ReferenceMIdeal.main_arg2) = m ((c.tc : Thread Cert.KernelMIdeal.nD Cert.KernelMIdeal.τ).loc Cert.KernelMIdeal.main_arg2)
      ∧ m' ((c.tc : Thread Cert.ReferenceMIdeal.nD Cert.ReferenceMIdeal.τ).loc Cert.ReferenceMIdeal.main_arg3) = m ((c.tc : Thread Cert.KernelMIdeal.nD Cert.KernelMIdeal.τ).loc Cert.KernelMIdeal.main_arg3)
      ∧ m' ((c.tc : Thread Cert.ReferenceMIdeal.nD Cert.ReferenceMIdeal.τ).loc Cert.ReferenceMIdeal.main_arg4) = m ((c.tc : Thread Cert.KernelMIdeal.nD Cert.KernelMIdeal.τ).loc Cert.KernelMIdeal.main_arg4)) →
    ∃ (v0 : (c : Dev Cert.KernelMIdeal.nD) → Buf (Elt Ideal) ((c.tc : Thread Cert.KernelMIdeal.nD Cert.KernelMIdeal.τ).loc Cert.KernelMIdeal.main_v3_0)) (v1 : (c : Dev Cert.KernelMIdeal.nD) → Buf (Elt Ideal) ((c.tc : Thread Cert.KernelMIdeal.nD Cert.KernelMIdeal.τ).loc Cert.KernelMIdeal.main_v3_1)) (v2 : (c : Dev Cert.KernelMIdeal.nD) → Buf (Elt Ideal) ((c.tc : Thread Cert.KernelMIdeal.nD Cert.KernelMIdeal.τ).loc Cert.KernelMIdeal.main_v3_2)) (v3 : (c : Dev Cert.KernelMIdeal.nD) → Buf (Elt Ideal) ((c.tc : Thread Cert.KernelMIdeal.nD Cert.KernelMIdeal.τ).loc Cert.KernelMIdeal.main_v3_3)),
      θ_run (Cert.KernelMIdeal.defs (F := Ideal)) (onTc (τ := Cert.KernelMIdeal.τ) (Cert.KernelMIdeal.main (F := Ideal))) ⟨m, fun _ => 0, g⟩ (fun r => ∀ c : Dev Cert.KernelMIdeal.nD,
          r.2.mem ((c.tc : Thread Cert.KernelMIdeal.nD Cert.KernelMIdeal.τ).loc Cert.KernelMIdeal.main_v3_0) = v0 c
          ∧ r.2.mem ((c.tc : Thread Cert.KernelMIdeal.nD Cert.KernelMIdeal.τ).loc Cert.KernelMIdeal.main_v3_1) = v1 c
          ∧ r.2.mem ((c.tc : Thread Cert.KernelMIdeal.nD Cert.KernelMIdeal.τ).loc Cert.KernelMIdeal.main_v3_2) = v2 c
          ∧ r.2.mem ((c.tc : Thread Cert.KernelMIdeal.nD Cert.KernelMIdeal.τ).loc Cert.KernelMIdeal.main_v3_3) = v3 c
          ∧ r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
          ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
          ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
          ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
          ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4))
      ∧ θ_run (Cert.ReferenceMIdeal.defs (F := Ideal)) (onTc (τ := Cert.ReferenceMIdeal.τ) (Cert.ReferenceMIdeal.main (F := Ideal))) ⟨m', fun _ => 0, g'⟩ (fun r => ∀ c : Dev Cert.ReferenceMIdeal.nD,
          r.2.mem ((c.tc : Thread Cert.ReferenceMIdeal.nD Cert.ReferenceMIdeal.τ).loc Cert.ReferenceMIdeal.main_v53) = v0 c
          ∧ r.2.mem ((c.tc : Thread Cert.ReferenceMIdeal.nD Cert.ReferenceMIdeal.τ).loc Cert.ReferenceMIdeal.main_v54) = v1 c
          ∧ r.2.mem ((c.tc : Thread Cert.ReferenceMIdeal.nD Cert.ReferenceMIdeal.τ).loc Cert.ReferenceMIdeal.main_v27) = v2 c
          ∧ r.2.mem ((c.tc : Thread Cert.ReferenceMIdeal.nD Cert.ReferenceMIdeal.τ).loc Cert.ReferenceMIdeal.main_v52) = v3 c
          ∧ r.2.mem ((c.tc : Thread Cert.ReferenceMIdeal.nD Cert.ReferenceMIdeal.τ).loc Cert.ReferenceMIdeal.main_arg0) = m' ((c.tc : Thread Cert.ReferenceMIdeal.nD Cert.ReferenceMIdeal.τ).loc Cert.ReferenceMIdeal.main_arg0)
          ∧ r.2.mem ((c.tc : Thread Cert.ReferenceMIdeal.nD Cert.ReferenceMIdeal.τ).loc Cert.ReferenceMIdeal.main_arg1) = m' ((c.tc : Thread Cert.ReferenceMIdeal.nD Cert.ReferenceMIdeal.τ).loc Cert.ReferenceMIdeal.main_arg1)
          ∧ r.2.mem ((c.tc : Thread Cert.ReferenceMIdeal.nD Cert.ReferenceMIdeal.τ).loc Cert.ReferenceMIdeal.main_arg2) = m' ((c.tc : Thread Cert.ReferenceMIdeal.nD Cert.ReferenceMIdeal.τ).loc Cert.ReferenceMIdeal.main_arg2)
          ∧ r.2.mem ((c.tc : Thread Cert.ReferenceMIdeal.nD Cert.ReferenceMIdeal.τ).loc Cert.ReferenceMIdeal.main_arg3) = m' ((c.tc : Thread Cert.ReferenceMIdeal.nD Cert.ReferenceMIdeal.τ).loc Cert.ReferenceMIdeal.main_arg3)
          ∧ r.2.mem ((c.tc : Thread Cert.ReferenceMIdeal.nD Cert.ReferenceMIdeal.τ).loc Cert.ReferenceMIdeal.main_arg4) = m' ((c.tc : Thread Cert.ReferenceMIdeal.nD Cert.ReferenceMIdeal.τ).loc Cert.ReferenceMIdeal.main_arg4))

def preserves_KernelF_KernelFIdeal : Prop :=
  True

def algebraic_KernelFIdeal_ReferenceFIdeal_pre_finite_f [hKernelFIdeal : Cert.KernelFIdeal.Facts] [hReferenceFIdeal : Cert.ReferenceFIdeal.Facts] [hPre_finite_f : Cert.Pre_finite_f.Facts] : Prop :=
  ∀ (m : (ℓ : Loc Cert.KernelFIdeal.nD Cert.KernelFIdeal.τ Cert.KernelFIdeal.sig) → Buf (Elt Ideal) ℓ) (g : Dev Cert.KernelFIdeal.nD → PrngReg)
    (m' : (ℓ : Loc Cert.ReferenceFIdeal.nD Cert.ReferenceFIdeal.τ Cert.ReferenceFIdeal.sig) → Buf (Elt Ideal) ℓ) (g' : Dev Cert.ReferenceFIdeal.nD → PrngReg), Pre_KernelFIdeal_finite_f m →
    (∀ c : Dev Cert.KernelFIdeal.nD,
      m' ((c.tc : Thread Cert.ReferenceFIdeal.nD Cert.ReferenceFIdeal.τ).loc Cert.ReferenceFIdeal.main_arg0) = m ((c.tc : Thread Cert.KernelFIdeal.nD Cert.KernelFIdeal.τ).loc Cert.KernelFIdeal.main_arg0)
      ∧ m' ((c.tc : Thread Cert.ReferenceFIdeal.nD Cert.ReferenceFIdeal.τ).loc Cert.ReferenceFIdeal.main_arg1) = m ((c.tc : Thread Cert.KernelFIdeal.nD Cert.KernelFIdeal.τ).loc Cert.KernelFIdeal.main_arg1)
      ∧ m' ((c.tc : Thread Cert.ReferenceFIdeal.nD Cert.ReferenceFIdeal.τ).loc Cert.ReferenceFIdeal.main_arg2) = m ((c.tc : Thread Cert.KernelFIdeal.nD Cert.KernelFIdeal.τ).loc Cert.KernelFIdeal.main_arg2)
      ∧ m' ((c.tc : Thread Cert.ReferenceFIdeal.nD Cert.ReferenceFIdeal.τ).loc Cert.ReferenceFIdeal.main_arg3) = m ((c.tc : Thread Cert.KernelFIdeal.nD Cert.KernelFIdeal.τ).loc Cert.KernelFIdeal.main_arg3)
      ∧ m' ((c.tc : Thread Cert.ReferenceFIdeal.nD Cert.ReferenceFIdeal.τ).loc Cert.ReferenceFIdeal.main_arg4) = m ((c.tc : Thread Cert.KernelFIdeal.nD Cert.KernelFIdeal.τ).loc Cert.KernelFIdeal.main_arg4)
      ∧ m' ((c.tc : Thread Cert.ReferenceFIdeal.nD Cert.ReferenceFIdeal.τ).loc Cert.ReferenceFIdeal.main_arg5) = m ((c.tc : Thread Cert.KernelFIdeal.nD Cert.KernelFIdeal.τ).loc Cert.KernelFIdeal.main_arg5)
      ∧ m' ((c.tc : Thread Cert.ReferenceFIdeal.nD Cert.ReferenceFIdeal.τ).loc Cert.ReferenceFIdeal.main_arg6) = m ((c.tc : Thread Cert.KernelFIdeal.nD Cert.KernelFIdeal.τ).loc Cert.KernelFIdeal.main_arg6)) →
    ∃ (v0 : (c : Dev Cert.KernelFIdeal.nD) → Buf (Elt Ideal) ((c.tc : Thread Cert.KernelFIdeal.nD Cert.KernelFIdeal.τ).loc Cert.KernelFIdeal.main_v39_0)) (v1 : (c : Dev Cert.KernelFIdeal.nD) → Buf (Elt Ideal) ((c.tc : Thread Cert.KernelFIdeal.nD Cert.KernelFIdeal.τ).loc Cert.KernelFIdeal.main_v39_1)) (v2 : (c : Dev Cert.KernelFIdeal.nD) → Buf (Elt Ideal) ((c.tc : Thread Cert.KernelFIdeal.nD Cert.KernelFIdeal.τ).loc Cert.KernelFIdeal.main_v39_2)) (v3 : (c : Dev Cert.KernelFIdeal.nD) → Buf (Elt Ideal) ((c.tc : Thread Cert.KernelFIdeal.nD Cert.KernelFIdeal.τ).loc Cert.KernelFIdeal.main_v39_3)),
      θ_run (Cert.KernelFIdeal.defs (F := Ideal)) (onTc (τ := Cert.KernelFIdeal.τ) (Cert.KernelFIdeal.main (F := Ideal))) ⟨m, fun _ => 0, g⟩ (fun r => ∀ c : Dev Cert.KernelFIdeal.nD,
          r.2.mem ((c.tc : Thread Cert.KernelFIdeal.nD Cert.KernelFIdeal.τ).loc Cert.KernelFIdeal.main_v39_0) = v0 c
          ∧ r.2.mem ((c.tc : Thread Cert.KernelFIdeal.nD Cert.KernelFIdeal.τ).loc Cert.KernelFIdeal.main_v39_1) = v1 c
          ∧ r.2.mem ((c.tc : Thread Cert.KernelFIdeal.nD Cert.KernelFIdeal.τ).loc Cert.KernelFIdeal.main_v39_2) = v2 c
          ∧ r.2.mem ((c.tc : Thread Cert.KernelFIdeal.nD Cert.KernelFIdeal.τ).loc Cert.KernelFIdeal.main_v39_3) = v3 c
          ∧ r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
          ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
          ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
          ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3)
          ∧ r.2.mem ((c.tc : Thread Cert.KernelFIdeal.nD Cert.KernelFIdeal.τ).loc Cert.KernelFIdeal.main_arg4) = m ((c.tc : Thread Cert.KernelFIdeal.nD Cert.KernelFIdeal.τ).loc Cert.KernelFIdeal.main_arg4)
          ∧ r.2.mem ((c.tc : Thread Cert.KernelFIdeal.nD Cert.KernelFIdeal.τ).loc Cert.KernelFIdeal.main_arg5) = m ((c.tc : Thread Cert.KernelFIdeal.nD Cert.KernelFIdeal.τ).loc Cert.KernelFIdeal.main_arg5)
          ∧ r.2.mem ((c.tc : Thread Cert.KernelFIdeal.nD Cert.KernelFIdeal.τ).loc Cert.KernelFIdeal.main_arg6) = m ((c.tc : Thread Cert.KernelFIdeal.nD Cert.KernelFIdeal.τ).loc Cert.KernelFIdeal.main_arg6))
      ∧ θ_run (Cert.ReferenceFIdeal.defs (F := Ideal)) (onTc (τ := Cert.ReferenceFIdeal.τ) (Cert.ReferenceFIdeal.main (F := Ideal))) ⟨m', fun _ => 0, g'⟩ (fun r => ∀ c : Dev Cert.ReferenceFIdeal.nD,
          r.2.mem ((c.tc : Thread Cert.ReferenceFIdeal.nD Cert.ReferenceFIdeal.τ).loc Cert.ReferenceFIdeal.main_v78) = v0 c
          ∧ r.2.mem ((c.tc : Thread Cert.ReferenceFIdeal.nD Cert.ReferenceFIdeal.τ).loc Cert.ReferenceFIdeal.main_v79) = v1 c
          ∧ r.2.mem ((c.tc : Thread Cert.ReferenceFIdeal.nD Cert.ReferenceFIdeal.τ).loc Cert.ReferenceFIdeal.main_v81) = v2 c
          ∧ r.2.mem ((c.tc : Thread Cert.ReferenceFIdeal.nD Cert.ReferenceFIdeal.τ).loc Cert.ReferenceFIdeal.main_v76) = v3 c
          ∧ r.2.mem ((c.tc : Thread Cert.ReferenceFIdeal.nD Cert.ReferenceFIdeal.τ).loc Cert.ReferenceFIdeal.main_arg0) = m' ((c.tc : Thread Cert.ReferenceFIdeal.nD Cert.ReferenceFIdeal.τ).loc Cert.ReferenceFIdeal.main_arg0)
          ∧ r.2.mem ((c.tc : Thread Cert.ReferenceFIdeal.nD Cert.ReferenceFIdeal.τ).loc Cert.ReferenceFIdeal.main_arg1) = m' ((c.tc : Thread Cert.ReferenceFIdeal.nD Cert.ReferenceFIdeal.τ).loc Cert.ReferenceFIdeal.main_arg1)
          ∧ r.2.mem ((c.tc : Thread Cert.ReferenceFIdeal.nD Cert.ReferenceFIdeal.τ).loc Cert.ReferenceFIdeal.main_arg2) = m' ((c.tc : Thread Cert.ReferenceFIdeal.nD Cert.ReferenceFIdeal.τ).loc Cert.ReferenceFIdeal.main_arg2)
          ∧ r.2.mem ((c.tc : Thread Cert.ReferenceFIdeal.nD Cert.ReferenceFIdeal.τ).loc Cert.ReferenceFIdeal.main_arg3) = m' ((c.tc : Thread Cert.ReferenceFIdeal.nD Cert.ReferenceFIdeal.τ).loc Cert.ReferenceFIdeal.main_arg3)
          ∧ r.2.mem ((c.tc : Thread Cert.ReferenceFIdeal.nD Cert.ReferenceFIdeal.τ).loc Cert.ReferenceFIdeal.main_arg4) = m' ((c.tc : Thread Cert.ReferenceFIdeal.nD Cert.ReferenceFIdeal.τ).loc Cert.ReferenceFIdeal.main_arg4)
          ∧ r.2.mem ((c.tc : Thread Cert.ReferenceFIdeal.nD Cert.ReferenceFIdeal.τ).loc Cert.ReferenceFIdeal.main_arg5) = m' ((c.tc : Thread Cert.ReferenceFIdeal.nD Cert.ReferenceFIdeal.τ).loc Cert.ReferenceFIdeal.main_arg5)
          ∧ r.2.mem ((c.tc : Thread Cert.ReferenceFIdeal.nD Cert.ReferenceFIdeal.τ).loc Cert.ReferenceFIdeal.main_arg6) = m' ((c.tc : Thread Cert.ReferenceFIdeal.nD Cert.ReferenceFIdeal.τ).loc Cert.ReferenceFIdeal.main_arg6))

def preserves_KernelT_KernelTIdeal : Prop :=
  IdealRules.named_const.Statement Cert.KernelTIdeal.κ "mask" .f32 0xF149F2CA#32 ⊥

def algebraic_KernelTIdeal_ReferenceTIdeal_pre_finite_t [hKernelTIdeal : Cert.KernelTIdeal.Facts] [hReferenceTIdeal : Cert.ReferenceTIdeal.Facts] [hPre_finite_t : Cert.Pre_finite_t.Facts] : Prop :=
  ∀ (m : (ℓ : Loc Cert.KernelTIdeal.nD Cert.KernelTIdeal.τ Cert.KernelTIdeal.sig) → Buf (Elt Ideal) ℓ) (g : Dev Cert.KernelTIdeal.nD → PrngReg)
    (m' : (ℓ : Loc Cert.ReferenceTIdeal.nD Cert.ReferenceTIdeal.τ Cert.ReferenceTIdeal.sig) → Buf (Elt Ideal) ℓ) (g' : Dev Cert.ReferenceTIdeal.nD → PrngReg), Pre_KernelTIdeal_finite_t m →
    (∀ c : Dev Cert.KernelTIdeal.nD,
      m' ((c.tc : Thread Cert.ReferenceTIdeal.nD Cert.ReferenceTIdeal.τ).loc Cert.ReferenceTIdeal.main_arg0) = m ((c.tc : Thread Cert.KernelTIdeal.nD Cert.KernelTIdeal.τ).loc Cert.KernelTIdeal.main_arg0)
      ∧ m' ((c.tc : Thread Cert.ReferenceTIdeal.nD Cert.ReferenceTIdeal.τ).loc Cert.ReferenceTIdeal.main_arg1) = m ((c.tc : Thread Cert.KernelTIdeal.nD Cert.KernelTIdeal.τ).loc Cert.KernelTIdeal.main_arg1)
      ∧ m' ((c.tc : Thread Cert.ReferenceTIdeal.nD Cert.ReferenceTIdeal.τ).loc Cert.ReferenceTIdeal.main_arg2) = m ((c.tc : Thread Cert.KernelTIdeal.nD Cert.KernelTIdeal.τ).loc Cert.KernelTIdeal.main_arg2)) →
    ∃ (v0 : (c : Dev Cert.KernelTIdeal.nD) → Buf (Elt Ideal) ((c.tc : Thread Cert.KernelTIdeal.nD Cert.KernelTIdeal.τ).loc Cert.KernelTIdeal.main_v0)),
      θ_run (Cert.KernelTIdeal.defs (F := Ideal)) (onTc (τ := Cert.KernelTIdeal.τ) (Cert.KernelTIdeal.main (F := Ideal))) ⟨m, fun _ => 0, g⟩ (fun r => ∀ c : Dev Cert.KernelTIdeal.nD,
          r.2.mem ((c.tc : Thread Cert.KernelTIdeal.nD Cert.KernelTIdeal.τ).loc Cert.KernelTIdeal.main_v0) = v0 c
          ∧ r.2.mem ((c.tc : Thread Cert.KernelTIdeal.nD Cert.KernelTIdeal.τ).loc Cert.KernelTIdeal.main_arg0) = m ((c.tc : Thread Cert.KernelTIdeal.nD Cert.KernelTIdeal.τ).loc Cert.KernelTIdeal.main_arg0)
          ∧ r.2.mem ((c.tc : Thread Cert.KernelTIdeal.nD Cert.KernelTIdeal.τ).loc Cert.KernelTIdeal.main_arg1) = m ((c.tc : Thread Cert.KernelTIdeal.nD Cert.KernelTIdeal.τ).loc Cert.KernelTIdeal.main_arg1)
          ∧ r.2.mem ((c.tc : Thread Cert.KernelTIdeal.nD Cert.KernelTIdeal.τ).loc Cert.KernelTIdeal.main_arg2) = m ((c.tc : Thread Cert.KernelTIdeal.nD Cert.KernelTIdeal.τ).loc Cert.KernelTIdeal.main_arg2))
      ∧ θ_run (Cert.ReferenceTIdeal.defs (F := Ideal)) (onTc (τ := Cert.ReferenceTIdeal.τ) (Cert.ReferenceTIdeal.main (F := Ideal))) ⟨m', fun _ => 0, g'⟩ (fun r => ∀ c : Dev Cert.ReferenceTIdeal.nD,
          r.2.mem ((c.tc : Thread Cert.ReferenceTIdeal.nD Cert.ReferenceTIdeal.τ).loc Cert.ReferenceTIdeal.main_v81) = v0 c
          ∧ r.2.mem ((c.tc : Thread Cert.ReferenceTIdeal.nD Cert.ReferenceTIdeal.τ).loc Cert.ReferenceTIdeal.main_arg0) = m' ((c.tc : Thread Cert.ReferenceTIdeal.nD Cert.ReferenceTIdeal.τ).loc Cert.ReferenceTIdeal.main_arg0)
          ∧ r.2.mem ((c.tc : Thread Cert.ReferenceTIdeal.nD Cert.ReferenceTIdeal.τ).loc Cert.ReferenceTIdeal.main_arg1) = m' ((c.tc : Thread Cert.ReferenceTIdeal.nD Cert.ReferenceTIdeal.τ).loc Cert.ReferenceTIdeal.main_arg1)
          ∧ r.2.mem ((c.tc : Thread Cert.ReferenceTIdeal.nD Cert.ReferenceTIdeal.τ).loc Cert.ReferenceTIdeal.main_arg2) = m' ((c.tc : Thread Cert.ReferenceTIdeal.nD Cert.ReferenceTIdeal.τ).loc Cert.ReferenceTIdeal.main_arg2))

def preserves_KernelX_KernelXIdeal : Prop :=
  True

def algebraic_KernelXIdeal_ReferenceXIdeal [hKernelXIdeal : Cert.KernelXIdeal.Facts] [hReferenceXIdeal : Cert.ReferenceXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg)
    (m' : (ℓ : Loc Cert.ReferenceXIdeal.nD Cert.ReferenceXIdeal.τ Cert.ReferenceXIdeal.sig) → Buf (Elt Ideal) ℓ) (g' : Dev Cert.ReferenceXIdeal.nD → PrngReg), Pre_KernelXIdeal m →
    (∀ c : Dev Cert.KernelXIdeal.nD,
      m' ((c.tc : Thread Cert.ReferenceXIdeal.nD Cert.ReferenceXIdeal.τ).loc Cert.ReferenceXIdeal.main_arg0) = m ((c.tc : Thread Cert.KernelXIdeal.nD Cert.KernelXIdeal.τ).loc Cert.KernelXIdeal.main_arg0)
      ∧ m' ((c.tc : Thread Cert.ReferenceXIdeal.nD Cert.ReferenceXIdeal.τ).loc Cert.ReferenceXIdeal.main_arg1) = m ((c.tc : Thread Cert.KernelXIdeal.nD Cert.KernelXIdeal.τ).loc Cert.KernelXIdeal.main_arg1)) →
    ∃ (v0 : (c : Dev Cert.KernelXIdeal.nD) → Buf (Elt Ideal) ((c.tc : Thread Cert.KernelXIdeal.nD Cert.KernelXIdeal.τ).loc Cert.KernelXIdeal.main_v0)),
      θ_run (Cert.KernelXIdeal.defs (F := Ideal)) (onTc (τ := Cert.KernelXIdeal.τ) (Cert.KernelXIdeal.main (F := Ideal))) ⟨m, fun _ => 0, g⟩ (fun r => ∀ c : Dev Cert.KernelXIdeal.nD,
          r.2.mem ((c.tc : Thread Cert.KernelXIdeal.nD Cert.KernelXIdeal.τ).loc Cert.KernelXIdeal.main_v0) = v0 c
          ∧ r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
          ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1))
      ∧ θ_run (Cert.ReferenceXIdeal.defs (F := Ideal)) (onTc (τ := Cert.ReferenceXIdeal.τ) (Cert.ReferenceXIdeal.main (F := Ideal))) ⟨m', fun _ => 0, g'⟩ (fun r => ∀ c : Dev Cert.ReferenceXIdeal.nD,
          r.2.mem ((c.tc : Thread Cert.ReferenceXIdeal.nD Cert.ReferenceXIdeal.τ).loc Cert.ReferenceXIdeal.main_v14) = v0 c
          ∧ r.2.mem ((c.tc : Thread Cert.ReferenceXIdeal.nD Cert.ReferenceXIdeal.τ).loc Cert.ReferenceXIdeal.main_arg0) = m' ((c.tc : Thread Cert.ReferenceXIdeal.nD Cert.ReferenceXIdeal.τ).loc Cert.ReferenceXIdeal.main_arg0)
          ∧ r.2.mem ((c.tc : Thread Cert.ReferenceXIdeal.nD Cert.ReferenceXIdeal.τ).loc Cert.ReferenceXIdeal.main_arg1) = m' ((c.tc : Thread Cert.ReferenceXIdeal.nD Cert.ReferenceXIdeal.τ).loc Cert.ReferenceXIdeal.main_arg1))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)
      ∧ m' ((c.tc : Thread Cert.ReferenceOIdeal.nD Cert.ReferenceOIdeal.τ).loc Cert.ReferenceOIdeal.main_arg3) = m ((c.tc : Thread Cert.KernelOIdeal.nD Cert.KernelOIdeal.τ).loc Cert.KernelOIdeal.main_arg3)
      ∧ m' ((c.tc : Thread Cert.ReferenceOIdeal.nD Cert.ReferenceOIdeal.τ).loc Cert.ReferenceOIdeal.main_arg4) = m ((c.tc : Thread Cert.KernelOIdeal.nD Cert.KernelOIdeal.τ).loc Cert.KernelOIdeal.main_arg4)
      ∧ m' ((c.tc : Thread Cert.ReferenceOIdeal.nD Cert.ReferenceOIdeal.τ).loc Cert.ReferenceOIdeal.main_arg5) = m ((c.tc : Thread Cert.KernelOIdeal.nD Cert.KernelOIdeal.τ).loc Cert.KernelOIdeal.main_arg5)
      ∧ m' ((c.tc : Thread Cert.ReferenceOIdeal.nD Cert.ReferenceOIdeal.τ).loc Cert.ReferenceOIdeal.main_arg6) = m ((c.tc : Thread Cert.KernelOIdeal.nD Cert.KernelOIdeal.τ).loc Cert.KernelOIdeal.main_arg6)) →
    ∃ (v0 : (c : Dev Cert.KernelOIdeal.nD) → Buf (Elt Ideal) ((c.tc : Thread Cert.KernelOIdeal.nD Cert.KernelOIdeal.τ).loc Cert.KernelOIdeal.main_v2_0)) (v1 : (c : Dev Cert.KernelOIdeal.nD) → Buf (Elt Ideal) ((c.tc : Thread Cert.KernelOIdeal.nD Cert.KernelOIdeal.τ).loc Cert.KernelOIdeal.main_v2_1)) (v2 : (c : Dev Cert.KernelOIdeal.nD) → Buf (Elt Ideal) ((c.tc : Thread Cert.KernelOIdeal.nD Cert.KernelOIdeal.τ).loc Cert.KernelOIdeal.main_v2_2)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v2_0) = v0 c
          ∧ r.2.mem ((c.tc : Thread Cert.KernelOIdeal.nD Cert.KernelOIdeal.τ).loc Cert.KernelOIdeal.main_v2_1) = v1 c
          ∧ r.2.mem ((c.tc : Thread Cert.KernelOIdeal.nD Cert.KernelOIdeal.τ).loc Cert.KernelOIdeal.main_v2_2) = v2 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
          ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
          ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
          ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5)
          ∧ r.2.mem ((c.tc : Thread Cert.KernelOIdeal.nD Cert.KernelOIdeal.τ).loc Cert.KernelOIdeal.main_arg6) = m ((c.tc : Thread Cert.KernelOIdeal.nD Cert.KernelOIdeal.τ).loc Cert.KernelOIdeal.main_arg6))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v21) = v0 c
          ∧ r.2.mem ((c.tc : Thread Cert.ReferenceOIdeal.nD Cert.ReferenceOIdeal.τ).loc Cert.ReferenceOIdeal.main_v36) = v1 c
          ∧ r.2.mem ((c.tc : Thread Cert.ReferenceOIdeal.nD Cert.ReferenceOIdeal.τ).loc Cert.ReferenceOIdeal.main_v37) = v2 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2)
          ∧ r.2.mem ((c.tc : Thread Cert.ReferenceOIdeal.nD Cert.ReferenceOIdeal.τ).loc Cert.ReferenceOIdeal.main_arg3) = m' ((c.tc : Thread Cert.ReferenceOIdeal.nD Cert.ReferenceOIdeal.τ).loc Cert.ReferenceOIdeal.main_arg3)
          ∧ r.2.mem ((c.tc : Thread Cert.ReferenceOIdeal.nD Cert.ReferenceOIdeal.τ).loc Cert.ReferenceOIdeal.main_arg4) = m' ((c.tc : Thread Cert.ReferenceOIdeal.nD Cert.ReferenceOIdeal.τ).loc Cert.ReferenceOIdeal.main_arg4)
          ∧ r.2.mem ((c.tc : Thread Cert.ReferenceOIdeal.nD Cert.ReferenceOIdeal.τ).loc Cert.ReferenceOIdeal.main_arg5) = m' ((c.tc : Thread Cert.ReferenceOIdeal.nD Cert.ReferenceOIdeal.τ).loc Cert.ReferenceOIdeal.main_arg5)
          ∧ r.2.mem ((c.tc : Thread Cert.ReferenceOIdeal.nD Cert.ReferenceOIdeal.τ).loc Cert.ReferenceOIdeal.main_arg6) = m' ((c.tc : Thread Cert.ReferenceOIdeal.nD Cert.ReferenceOIdeal.τ).loc Cert.ReferenceOIdeal.main_arg6))

def preserves_KernelI_KernelIIdeal : Prop :=
  True

def algebraic_KernelIIdeal_ReferenceIIdeal [hKernelIIdeal : Cert.KernelIIdeal.Facts] [hReferenceIIdeal : Cert.ReferenceIIdeal.Facts] : Prop :=
  ∀ (m : (ℓ : Loc Cert.KernelIIdeal.nD Cert.KernelIIdeal.τ Cert.KernelIIdeal.sig) → Buf (Elt Ideal) ℓ) (g : Dev Cert.KernelIIdeal.nD → PrngReg)
    (m' : (ℓ : Loc Cert.ReferenceIIdeal.nD Cert.ReferenceIIdeal.τ Cert.ReferenceIIdeal.sig) → Buf (Elt Ideal) ℓ) (g' : Dev Cert.ReferenceIIdeal.nD → PrngReg), Pre_KernelIIdeal m →
    (∀ c : Dev Cert.KernelIIdeal.nD,
      m' ((c.tc : Thread Cert.ReferenceIIdeal.nD Cert.ReferenceIIdeal.τ).loc Cert.ReferenceIIdeal.main_arg0) = m ((c.tc : Thread Cert.KernelIIdeal.nD Cert.KernelIIdeal.τ).loc Cert.KernelIIdeal.main_arg0)
      ∧ m' ((c.tc : Thread Cert.ReferenceIIdeal.nD Cert.ReferenceIIdeal.τ).loc Cert.ReferenceIIdeal.main_arg1) = m ((c.tc : Thread Cert.KernelIIdeal.nD Cert.KernelIIdeal.τ).loc Cert.KernelIIdeal.main_arg1)
      ∧ m' ((c.tc : Thread Cert.ReferenceIIdeal.nD Cert.ReferenceIIdeal.τ).loc Cert.ReferenceIIdeal.main_arg2) = m ((c.tc : Thread Cert.KernelIIdeal.nD Cert.KernelIIdeal.τ).loc Cert.KernelIIdeal.main_arg2)
      ∧ m' ((c.tc : Thread Cert.ReferenceIIdeal.nD Cert.ReferenceIIdeal.τ).loc Cert.ReferenceIIdeal.main_arg3) = m ((c.tc : Thread Cert.KernelIIdeal.nD Cert.KernelIIdeal.τ).loc Cert.KernelIIdeal.main_arg3)
      ∧ m' ((c.tc : Thread Cert.ReferenceIIdeal.nD Cert.ReferenceIIdeal.τ).loc Cert.ReferenceIIdeal.main_arg4) = m ((c.tc : Thread Cert.KernelIIdeal.nD Cert.KernelIIdeal.τ).loc Cert.KernelIIdeal.main_arg4)) →
    ∃ (v0 : (c : Dev Cert.KernelIIdeal.nD) → Buf (Elt Ideal) ((c.tc : Thread Cert.KernelIIdeal.nD Cert.KernelIIdeal.τ).loc Cert.KernelIIdeal.main_v10_0)) (v1 : (c : Dev Cert.KernelIIdeal.nD) → Buf (Elt Ideal) ((c.tc : Thread Cert.KernelIIdeal.nD Cert.KernelIIdeal.τ).loc Cert.KernelIIdeal.main_v10_1)) (v2 : (c : Dev Cert.KernelIIdeal.nD) → Buf (Elt Ideal) ((c.tc : Thread Cert.KernelIIdeal.nD Cert.KernelIIdeal.τ).loc Cert.KernelIIdeal.main_v10_2)) (v3 : (c : Dev Cert.KernelIIdeal.nD) → Buf (Elt Ideal) ((c.tc : Thread Cert.KernelIIdeal.nD Cert.KernelIIdeal.τ).loc Cert.KernelIIdeal.main_v10_3)),
      θ_run (Cert.KernelIIdeal.defs (F := Ideal)) (onTc (τ := Cert.KernelIIdeal.τ) (Cert.KernelIIdeal.main (F := Ideal))) ⟨m, fun _ => 0, g⟩ (fun r => ∀ c : Dev Cert.KernelIIdeal.nD,
          r.2.mem ((c.tc : Thread Cert.KernelIIdeal.nD Cert.KernelIIdeal.τ).loc Cert.KernelIIdeal.main_v10_0) = v0 c
          ∧ r.2.mem ((c.tc : Thread Cert.KernelIIdeal.nD Cert.KernelIIdeal.τ).loc Cert.KernelIIdeal.main_v10_1) = v1 c
          ∧ r.2.mem ((c.tc : Thread Cert.KernelIIdeal.nD Cert.KernelIIdeal.τ).loc Cert.KernelIIdeal.main_v10_2) = v2 c
          ∧ r.2.mem ((c.tc : Thread Cert.KernelIIdeal.nD Cert.KernelIIdeal.τ).loc Cert.KernelIIdeal.main_v10_3) = v3 c
          ∧ r.2.mem ((c.tc : Thread Cert.KernelIIdeal.nD Cert.KernelIIdeal.τ).loc Cert.KernelIIdeal.main_arg0) = m ((c.tc : Thread Cert.KernelIIdeal.nD Cert.KernelIIdeal.τ).loc Cert.KernelIIdeal.main_arg0)
          ∧ r.2.mem ((c.tc : Thread Cert.KernelIIdeal.nD Cert.KernelIIdeal.τ).loc Cert.KernelIIdeal.main_arg1) = m ((c.tc : Thread Cert.KernelIIdeal.nD Cert.KernelIIdeal.τ).loc Cert.KernelIIdeal.main_arg1)
          ∧ r.2.mem ((c.tc : Thread Cert.KernelIIdeal.nD Cert.KernelIIdeal.τ).loc Cert.KernelIIdeal.main_arg2) = m ((c.tc : Thread Cert.KernelIIdeal.nD Cert.KernelIIdeal.τ).loc Cert.KernelIIdeal.main_arg2)
          ∧ r.2.mem ((c.tc : Thread Cert.KernelIIdeal.nD Cert.KernelIIdeal.τ).loc Cert.KernelIIdeal.main_arg3) = m ((c.tc : Thread Cert.KernelIIdeal.nD Cert.KernelIIdeal.τ).loc Cert.KernelIIdeal.main_arg3)
          ∧ r.2.mem ((c.tc : Thread Cert.KernelIIdeal.nD Cert.KernelIIdeal.τ).loc Cert.KernelIIdeal.main_arg4) = m ((c.tc : Thread Cert.KernelIIdeal.nD Cert.KernelIIdeal.τ).loc Cert.KernelIIdeal.main_arg4))
      ∧ θ_run (Cert.ReferenceIIdeal.defs (F := Ideal)) (onTc (τ := Cert.ReferenceIIdeal.τ) (Cert.ReferenceIIdeal.main (F := Ideal))) ⟨m', fun _ => 0, g'⟩ (fun r => ∀ c : Dev Cert.ReferenceIIdeal.nD,
          r.2.mem ((c.tc : Thread Cert.ReferenceIIdeal.nD Cert.ReferenceIIdeal.τ).loc Cert.ReferenceIIdeal.main_v31) = v0 c
          ∧ r.2.mem ((c.tc : Thread Cert.ReferenceIIdeal.nD Cert.ReferenceIIdeal.τ).loc Cert.ReferenceIIdeal.main_v32) = v1 c
          ∧ r.2.mem ((c.tc : Thread Cert.ReferenceIIdeal.nD Cert.ReferenceIIdeal.τ).loc Cert.ReferenceIIdeal.main_v30) = v2 c
          ∧ r.2.mem ((c.tc : Thread Cert.ReferenceIIdeal.nD Cert.ReferenceIIdeal.τ).loc Cert.ReferenceIIdeal.main_v35) = v3 c
          ∧ r.2.mem ((c.tc : Thread Cert.ReferenceIIdeal.nD Cert.ReferenceIIdeal.τ).loc Cert.ReferenceIIdeal.main_arg0) = m' ((c.tc : Thread Cert.ReferenceIIdeal.nD Cert.ReferenceIIdeal.τ).loc Cert.ReferenceIIdeal.main_arg0)
          ∧ r.2.mem ((c.tc : Thread Cert.ReferenceIIdeal.nD Cert.ReferenceIIdeal.τ).loc Cert.ReferenceIIdeal.main_arg1) = m' ((c.tc : Thread Cert.ReferenceIIdeal.nD Cert.ReferenceIIdeal.τ).loc Cert.ReferenceIIdeal.main_arg1)
          ∧ r.2.mem ((c.tc : Thread Cert.ReferenceIIdeal.nD Cert.ReferenceIIdeal.τ).loc Cert.ReferenceIIdeal.main_arg2) = m' ((c.tc : Thread Cert.ReferenceIIdeal.nD Cert.ReferenceIIdeal.τ).loc Cert.ReferenceIIdeal.main_arg2)
          ∧ r.2.mem ((c.tc : Thread Cert.ReferenceIIdeal.nD Cert.ReferenceIIdeal.τ).loc Cert.ReferenceIIdeal.main_arg3) = m' ((c.tc : Thread Cert.ReferenceIIdeal.nD Cert.ReferenceIIdeal.τ).loc Cert.ReferenceIIdeal.main_arg3)
          ∧ r.2.mem ((c.tc : Thread Cert.ReferenceIIdeal.nD Cert.ReferenceIIdeal.τ).loc Cert.ReferenceIIdeal.main_arg4) = m' ((c.tc : Thread Cert.ReferenceIIdeal.nD Cert.ReferenceIIdeal.τ).loc Cert.ReferenceIIdeal.main_arg4))

def preserves_KernelL_KernelLIdeal : Prop :=
  True

def algebraic_KernelLIdeal_ReferenceLIdeal_pre_finite_l [hKernelLIdeal : Cert.KernelLIdeal.Facts] [hReferenceLIdeal : Cert.ReferenceLIdeal.Facts] [hPre_finite_l : Cert.Pre_finite_l.Facts] : Prop :=
  ∀ (m : (ℓ : Loc Cert.KernelLIdeal.nD Cert.KernelLIdeal.τ Cert.KernelLIdeal.sig) → Buf (Elt Ideal) ℓ) (g : Dev Cert.KernelLIdeal.nD → PrngReg)
    (m' : (ℓ : Loc Cert.ReferenceLIdeal.nD Cert.ReferenceLIdeal.τ Cert.ReferenceLIdeal.sig) → Buf (Elt Ideal) ℓ) (g' : Dev Cert.ReferenceLIdeal.nD → PrngReg), Pre_KernelLIdeal_finite_l m →
    (∀ c : Dev Cert.KernelLIdeal.nD,
      m' ((c.tc : Thread Cert.ReferenceLIdeal.nD Cert.ReferenceLIdeal.τ).loc Cert.ReferenceLIdeal.main_arg0) = m ((c.tc : Thread Cert.KernelLIdeal.nD Cert.KernelLIdeal.τ).loc Cert.KernelLIdeal.main_arg0)) →
    ∃ (v0 : (c : Dev Cert.KernelLIdeal.nD) → Buf (Elt Ideal) ((c.tc : Thread Cert.KernelLIdeal.nD Cert.KernelLIdeal.τ).loc Cert.KernelLIdeal.main_v0)),
      θ_run (Cert.KernelLIdeal.defs (F := Ideal)) (onTc (τ := Cert.KernelLIdeal.τ) (Cert.KernelLIdeal.main (F := Ideal))) ⟨m, fun _ => 0, g⟩ (fun r => ∀ c : Dev Cert.KernelLIdeal.nD,
          r.2.mem ((c.tc : Thread Cert.KernelLIdeal.nD Cert.KernelLIdeal.τ).loc Cert.KernelLIdeal.main_v0) = v0 c
          ∧ r.2.mem ((c.tc : Thread Cert.KernelLIdeal.nD Cert.KernelLIdeal.τ).loc Cert.KernelLIdeal.main_arg0) = m ((c.tc : Thread Cert.KernelLIdeal.nD Cert.KernelLIdeal.τ).loc Cert.KernelLIdeal.main_arg0))
      ∧ θ_run (Cert.ReferenceLIdeal.defs (F := Ideal)) (onTc (τ := Cert.ReferenceLIdeal.τ) (Cert.ReferenceLIdeal.main (F := Ideal))) ⟨m', fun _ => 0, g'⟩ (fun r => ∀ c : Dev Cert.ReferenceLIdeal.nD,
          r.2.mem ((c.tc : Thread Cert.ReferenceLIdeal.nD Cert.ReferenceLIdeal.τ).loc Cert.ReferenceLIdeal.main_v12) = v0 c
          ∧ r.2.mem ((c.tc : Thread Cert.ReferenceLIdeal.nD Cert.ReferenceLIdeal.τ).loc Cert.ReferenceLIdeal.main_arg0) = m' ((c.tc : Thread Cert.ReferenceLIdeal.nD Cert.ReferenceLIdeal.τ).loc Cert.ReferenceLIdeal.main_arg0))

def preserves_KernelP_KernelPIdeal : Prop :=
  True

def algebraic_KernelPIdeal_ReferencePIdeal [hKernelPIdeal : Cert.KernelPIdeal.Facts] [hReferencePIdeal : Cert.ReferencePIdeal.Facts] : Prop :=
  ∀ (m : (ℓ : Loc Cert.KernelPIdeal.nD Cert.KernelPIdeal.τ Cert.KernelPIdeal.sig) → Buf (Elt Ideal) ℓ) (g : Dev Cert.KernelPIdeal.nD → PrngReg)
    (m' : (ℓ : Loc Cert.ReferencePIdeal.nD Cert.ReferencePIdeal.τ Cert.ReferencePIdeal.sig) → Buf (Elt Ideal) ℓ) (g' : Dev Cert.ReferencePIdeal.nD → PrngReg), Pre_KernelPIdeal m →
    (∀ c : Dev Cert.KernelPIdeal.nD,
      m' ((c.tc : Thread Cert.ReferencePIdeal.nD Cert.ReferencePIdeal.τ).loc Cert.ReferencePIdeal.main_arg0) = m ((c.tc : Thread Cert.KernelPIdeal.nD Cert.KernelPIdeal.τ).loc Cert.KernelPIdeal.main_arg0)
      ∧ m' ((c.tc : Thread Cert.ReferencePIdeal.nD Cert.ReferencePIdeal.τ).loc Cert.ReferencePIdeal.main_arg1) = m ((c.tc : Thread Cert.KernelPIdeal.nD Cert.KernelPIdeal.τ).loc Cert.KernelPIdeal.main_arg1)) →
    ∃ (v0 : (c : Dev Cert.KernelPIdeal.nD) → Buf (Elt Ideal) ((c.tc : Thread Cert.KernelPIdeal.nD Cert.KernelPIdeal.τ).loc Cert.KernelPIdeal.main_v4_0)) (v1 : (c : Dev Cert.KernelPIdeal.nD) → Buf (Elt Ideal) ((c.tc : Thread Cert.KernelPIdeal.nD Cert.KernelPIdeal.τ).loc Cert.KernelPIdeal.main_v4_1)) (v2 : (c : Dev Cert.KernelPIdeal.nD) → Buf (Elt Ideal) ((c.tc : Thread Cert.KernelPIdeal.nD Cert.KernelPIdeal.τ).loc Cert.KernelPIdeal.main_v4_2)) (v3 : (c : Dev Cert.KernelPIdeal.nD) → Buf (Elt Ideal) ((c.tc : Thread Cert.KernelPIdeal.nD Cert.KernelPIdeal.τ).loc Cert.KernelPIdeal.main_v4_3)) (v4 : (c : Dev Cert.KernelPIdeal.nD) → Buf (Elt Ideal) ((c.tc : Thread Cert.KernelPIdeal.nD Cert.KernelPIdeal.τ).loc Cert.KernelPIdeal.main_v4_4)),
      θ_run (Cert.KernelPIdeal.defs (F := Ideal)) (onTc (τ := Cert.KernelPIdeal.τ) (Cert.KernelPIdeal.main (F := Ideal))) ⟨m, fun _ => 0, g⟩ (fun r => ∀ c : Dev Cert.KernelPIdeal.nD,
          r.2.mem ((c.tc : Thread Cert.KernelPIdeal.nD Cert.KernelPIdeal.τ).loc Cert.KernelPIdeal.main_v4_0) = v0 c
          ∧ r.2.mem ((c.tc : Thread Cert.KernelPIdeal.nD Cert.KernelPIdeal.τ).loc Cert.KernelPIdeal.main_v4_1) = v1 c
          ∧ r.2.mem ((c.tc : Thread Cert.KernelPIdeal.nD Cert.KernelPIdeal.τ).loc Cert.KernelPIdeal.main_v4_2) = v2 c
          ∧ r.2.mem ((c.tc : Thread Cert.KernelPIdeal.nD Cert.KernelPIdeal.τ).loc Cert.KernelPIdeal.main_v4_3) = v3 c
          ∧ r.2.mem ((c.tc : Thread Cert.KernelPIdeal.nD Cert.KernelPIdeal.τ).loc Cert.KernelPIdeal.main_v4_4) = v4 c
          ∧ r.2.mem ((c.tc : Thread Cert.KernelPIdeal.nD Cert.KernelPIdeal.τ).loc Cert.KernelPIdeal.main_arg0) = m ((c.tc : Thread Cert.KernelPIdeal.nD Cert.KernelPIdeal.τ).loc Cert.KernelPIdeal.main_arg0)
          ∧ r.2.mem ((c.tc : Thread Cert.KernelPIdeal.nD Cert.KernelPIdeal.τ).loc Cert.KernelPIdeal.main_arg1) = m ((c.tc : Thread Cert.KernelPIdeal.nD Cert.KernelPIdeal.τ).loc Cert.KernelPIdeal.main_arg1))
      ∧ θ_run (Cert.ReferencePIdeal.defs (F := Ideal)) (onTc (τ := Cert.ReferencePIdeal.τ) (Cert.ReferencePIdeal.main (F := Ideal))) ⟨m', fun _ => 0, g'⟩ (fun r => ∀ c : Dev Cert.ReferencePIdeal.nD,
          r.2.mem ((c.tc : Thread Cert.ReferencePIdeal.nD Cert.ReferencePIdeal.τ).loc Cert.ReferencePIdeal.main_v2) = v0 c
          ∧ r.2.mem ((c.tc : Thread Cert.ReferencePIdeal.nD Cert.ReferencePIdeal.τ).loc Cert.ReferencePIdeal.main_v3) = v1 c
          ∧ r.2.mem ((c.tc : Thread Cert.ReferencePIdeal.nD Cert.ReferencePIdeal.τ).loc Cert.ReferencePIdeal.main_v4) = v2 c
          ∧ r.2.mem ((c.tc : Thread Cert.ReferencePIdeal.nD Cert.ReferencePIdeal.τ).loc Cert.ReferencePIdeal.main_v5) = v3 c
          ∧ r.2.mem ((c.tc : Thread Cert.ReferencePIdeal.nD Cert.ReferencePIdeal.τ).loc Cert.ReferencePIdeal.main_v6) = v4 c
          ∧ r.2.mem ((c.tc : Thread Cert.ReferencePIdeal.nD Cert.ReferencePIdeal.τ).loc Cert.ReferencePIdeal.main_arg0) = m' ((c.tc : Thread Cert.ReferencePIdeal.nD Cert.ReferencePIdeal.τ).loc Cert.ReferencePIdeal.main_arg0)
          ∧ r.2.mem ((c.tc : Thread Cert.ReferencePIdeal.nD Cert.ReferencePIdeal.τ).loc Cert.ReferencePIdeal.main_arg1) = m' ((c.tc : Thread Cert.ReferencePIdeal.nD Cert.ReferencePIdeal.τ).loc Cert.ReferencePIdeal.main_arg1))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)
      ∧ m' ((c.tc : Thread Cert.ReferenceQIdeal.nD Cert.ReferenceQIdeal.τ).loc Cert.ReferenceQIdeal.main_arg2) = m ((c.tc : Thread Cert.KernelQIdeal.nD Cert.KernelQIdeal.τ).loc Cert.KernelQIdeal.main_arg2)) →
    ∃ (v0 : (c : Dev Cert.KernelQIdeal.nD) → Buf (Elt Ideal) ((c.tc : Thread Cert.KernelQIdeal.nD Cert.KernelQIdeal.τ).loc Cert.KernelQIdeal.main_v2)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v2) = v0 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
          ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v6) = v0 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1)
          ∧ r.2.mem ((c.tc : Thread Cert.ReferenceQIdeal.nD Cert.ReferenceQIdeal.τ).loc Cert.ReferenceQIdeal.main_arg2) = m' ((c.tc : Thread Cert.ReferenceQIdeal.nD Cert.ReferenceQIdeal.τ).loc Cert.ReferenceQIdeal.main_arg2))

def preserves_KernelB_KernelBIdeal : Prop :=
  True

def algebraic_KernelBIdeal_ReferenceBIdeal [hKernelBIdeal : Cert.KernelBIdeal.Facts] [hReferenceBIdeal : Cert.ReferenceBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)
      ∧ m' ((c.tc : Thread Cert.ReferenceBIdeal.nD Cert.ReferenceBIdeal.τ).loc Cert.ReferenceBIdeal.main_arg3) = m ((c.tc : Thread Cert.KernelBIdeal.nD Cert.KernelBIdeal.τ).loc Cert.KernelBIdeal.main_arg3)) →
    ∃ (v0 : (c : Dev Cert.KernelBIdeal.nD) → Buf (Elt Ideal) ((c.tc : Thread Cert.KernelBIdeal.nD Cert.KernelBIdeal.τ).loc Cert.KernelBIdeal.main_v4_0)) (v1 : (c : Dev Cert.KernelBIdeal.nD) → Buf (Elt Ideal) ((c.tc : Thread Cert.KernelBIdeal.nD Cert.KernelBIdeal.τ).loc Cert.KernelBIdeal.main_v4_1)) (v2 : (c : Dev Cert.KernelBIdeal.nD) → Buf (Elt Ideal) ((c.tc : Thread Cert.KernelBIdeal.nD Cert.KernelBIdeal.τ).loc Cert.KernelBIdeal.main_v4_2)) (v3 : (c : Dev Cert.KernelBIdeal.nD) → Buf (Elt Ideal) ((c.tc : Thread Cert.KernelBIdeal.nD Cert.KernelBIdeal.τ).loc Cert.KernelBIdeal.main_v4_3)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v4_0) = v0 c
          ∧ r.2.mem ((c.tc : Thread Cert.KernelBIdeal.nD Cert.KernelBIdeal.τ).loc Cert.KernelBIdeal.main_v4_1) = v1 c
          ∧ r.2.mem ((c.tc : Thread Cert.KernelBIdeal.nD Cert.KernelBIdeal.τ).loc Cert.KernelBIdeal.main_v4_2) = v2 c
          ∧ r.2.mem ((c.tc : Thread Cert.KernelBIdeal.nD Cert.KernelBIdeal.τ).loc Cert.KernelBIdeal.main_v4_3) = v3 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
          ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v1) = v0 c
          ∧ r.2.mem ((c.tc : Thread Cert.ReferenceBIdeal.nD Cert.ReferenceBIdeal.τ).loc Cert.ReferenceBIdeal.main_v27) = v1 c
          ∧ r.2.mem ((c.tc : Thread Cert.ReferenceBIdeal.nD Cert.ReferenceBIdeal.τ).loc Cert.ReferenceBIdeal.main_v8) = v2 c
          ∧ r.2.mem ((c.tc : Thread Cert.ReferenceBIdeal.nD Cert.ReferenceBIdeal.τ).loc Cert.ReferenceBIdeal.main_v14) = v3 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2)
          ∧ r.2.mem ((c.tc : Thread Cert.ReferenceBIdeal.nD Cert.ReferenceBIdeal.τ).loc Cert.ReferenceBIdeal.main_arg3) = m' ((c.tc : Thread Cert.ReferenceBIdeal.nD Cert.ReferenceBIdeal.τ).loc Cert.ReferenceBIdeal.main_arg3))

def preserves_KernelC_KernelCIdeal : Prop :=
  True

def algebraic_KernelCIdeal_ReferenceCIdeal [hKernelCIdeal : Cert.KernelCIdeal.Facts] [hReferenceCIdeal : Cert.ReferenceCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)
      ∧ m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2)
      ∧ m' ((c.tc : Thread Cert.ReferenceCIdeal.nD Cert.ReferenceCIdeal.τ).loc Cert.ReferenceCIdeal.main_arg3) = m ((c.tc : Thread Cert.KernelCIdeal.nD Cert.KernelCIdeal.τ).loc Cert.KernelCIdeal.main_arg3)) →
    ∃ (v0 : (c : Dev Cert.KernelCIdeal.nD) → Buf (Elt Ideal) ((c.tc : Thread Cert.KernelCIdeal.nD Cert.KernelCIdeal.τ).loc Cert.KernelCIdeal.main_v0_0)) (v1 : (c : Dev Cert.KernelCIdeal.nD) → Buf (Elt Ideal) ((c.tc : Thread Cert.KernelCIdeal.nD Cert.KernelCIdeal.τ).loc Cert.KernelCIdeal.main_v0_1)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v0_0) = v0 c
          ∧ r.2.mem ((c.tc : Thread Cert.KernelCIdeal.nD Cert.KernelCIdeal.τ).loc Cert.KernelCIdeal.main_v0_1) = v1 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
          ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
          ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v7) = v0 c
          ∧ r.2.mem ((c.tc : Thread Cert.ReferenceCIdeal.nD Cert.ReferenceCIdeal.τ).loc Cert.ReferenceCIdeal.main_v15) = v1 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1)
          ∧ r.2.mem ((c.tc : Thread Cert.ReferenceCIdeal.nD Cert.ReferenceCIdeal.τ).loc Cert.ReferenceCIdeal.main_arg2) = m' ((c.tc : Thread Cert.ReferenceCIdeal.nD Cert.ReferenceCIdeal.τ).loc Cert.ReferenceCIdeal.main_arg2)
          ∧ r.2.mem ((c.tc : Thread Cert.ReferenceCIdeal.nD Cert.ReferenceCIdeal.τ).loc Cert.ReferenceCIdeal.main_arg3) = m' ((c.tc : Thread Cert.ReferenceCIdeal.nD Cert.ReferenceCIdeal.τ).loc Cert.ReferenceCIdeal.main_arg3))

def preserves_KernelS_KernelSIdeal : Prop :=
  True

def algebraic_KernelSIdeal_ReferenceSIdeal_pre_finite_s [hKernelSIdeal : Cert.KernelSIdeal.Facts] [hReferenceSIdeal : Cert.ReferenceSIdeal.Facts] [hPre_finite_s : Cert.Pre_finite_s.Facts] : Prop :=
  ∀ (m : (ℓ : Loc Cert.KernelSIdeal.nD Cert.KernelSIdeal.τ Cert.KernelSIdeal.sig) → Buf (Elt Ideal) ℓ) (g : Dev Cert.KernelSIdeal.nD → PrngReg)
    (m' : (ℓ : Loc Cert.ReferenceSIdeal.nD Cert.ReferenceSIdeal.τ Cert.ReferenceSIdeal.sig) → Buf (Elt Ideal) ℓ) (g' : Dev Cert.ReferenceSIdeal.nD → PrngReg), Pre_KernelSIdeal_finite_s m →
    (∀ c : Dev Cert.KernelSIdeal.nD,
      m' ((c.tc : Thread Cert.ReferenceSIdeal.nD Cert.ReferenceSIdeal.τ).loc Cert.ReferenceSIdeal.main_arg0) = m ((c.tc : Thread Cert.KernelSIdeal.nD Cert.KernelSIdeal.τ).loc Cert.KernelSIdeal.main_arg0)
      ∧ m' ((c.tc : Thread Cert.ReferenceSIdeal.nD Cert.ReferenceSIdeal.τ).loc Cert.ReferenceSIdeal.main_arg1) = m ((c.tc : Thread Cert.KernelSIdeal.nD Cert.KernelSIdeal.τ).loc Cert.KernelSIdeal.main_arg1)
      ∧ m' ((c.tc : Thread Cert.ReferenceSIdeal.nD Cert.ReferenceSIdeal.τ).loc Cert.ReferenceSIdeal.main_arg2) = m ((c.tc : Thread Cert.KernelSIdeal.nD Cert.KernelSIdeal.τ).loc Cert.KernelSIdeal.main_arg2)
      ∧ m' ((c.tc : Thread Cert.ReferenceSIdeal.nD Cert.ReferenceSIdeal.τ).loc Cert.ReferenceSIdeal.main_arg3) = m ((c.tc : Thread Cert.KernelSIdeal.nD Cert.KernelSIdeal.τ).loc Cert.KernelSIdeal.main_arg3)
      ∧ m' ((c.tc : Thread Cert.ReferenceSIdeal.nD Cert.ReferenceSIdeal.τ).loc Cert.ReferenceSIdeal.main_arg4) = m ((c.tc : Thread Cert.KernelSIdeal.nD Cert.KernelSIdeal.τ).loc Cert.KernelSIdeal.main_arg4)
      ∧ m' ((c.tc : Thread Cert.ReferenceSIdeal.nD Cert.ReferenceSIdeal.τ).loc Cert.ReferenceSIdeal.main_arg5) = m ((c.tc : Thread Cert.KernelSIdeal.nD Cert.KernelSIdeal.τ).loc Cert.KernelSIdeal.main_arg5)
      ∧ m' ((c.tc : Thread Cert.ReferenceSIdeal.nD Cert.ReferenceSIdeal.τ).loc Cert.ReferenceSIdeal.main_arg6) = m ((c.tc : Thread Cert.KernelSIdeal.nD Cert.KernelSIdeal.τ).loc Cert.KernelSIdeal.main_arg6)
      ∧ m' ((c.tc : Thread Cert.ReferenceSIdeal.nD Cert.ReferenceSIdeal.τ).loc Cert.ReferenceSIdeal.main_arg7) = m ((c.tc : Thread Cert.KernelSIdeal.nD Cert.KernelSIdeal.τ).loc Cert.KernelSIdeal.main_arg7)) →
    ∃ (v0 : (c : Dev Cert.KernelSIdeal.nD) → Buf (Elt Ideal) ((c.tc : Thread Cert.KernelSIdeal.nD Cert.KernelSIdeal.τ).loc Cert.KernelSIdeal.main_v6_0)) (v1 : (c : Dev Cert.KernelSIdeal.nD) → Buf (Elt Ideal) ((c.tc : Thread Cert.KernelSIdeal.nD Cert.KernelSIdeal.τ).loc Cert.KernelSIdeal.main_v6_1)) (v2 : (c : Dev Cert.KernelSIdeal.nD) → Buf (Elt Ideal) ((c.tc : Thread Cert.KernelSIdeal.nD Cert.KernelSIdeal.τ).loc Cert.KernelSIdeal.main_v6_2)) (v3 : (c : Dev Cert.KernelSIdeal.nD) → Buf (Elt Ideal) ((c.tc : Thread Cert.KernelSIdeal.nD Cert.KernelSIdeal.τ).loc Cert.KernelSIdeal.main_v6_3)) (v4 : (c : Dev Cert.KernelSIdeal.nD) → Buf (Elt Ideal) ((c.tc : Thread Cert.KernelSIdeal.nD Cert.KernelSIdeal.τ).loc Cert.KernelSIdeal.main_v6_4)),
      θ_run (Cert.KernelSIdeal.defs (F := Ideal)) (onTc (τ := Cert.KernelSIdeal.τ) (Cert.KernelSIdeal.main (F := Ideal))) ⟨m, fun _ => 0, g⟩ (fun r => ∀ c : Dev Cert.KernelSIdeal.nD,
          r.2.mem ((c.tc : Thread Cert.KernelSIdeal.nD Cert.KernelSIdeal.τ).loc Cert.KernelSIdeal.main_v6_0) = v0 c
          ∧ r.2.mem ((c.tc : Thread Cert.KernelSIdeal.nD Cert.KernelSIdeal.τ).loc Cert.KernelSIdeal.main_v6_1) = v1 c
          ∧ r.2.mem ((c.tc : Thread Cert.KernelSIdeal.nD Cert.KernelSIdeal.τ).loc Cert.KernelSIdeal.main_v6_2) = v2 c
          ∧ r.2.mem ((c.tc : Thread Cert.KernelSIdeal.nD Cert.KernelSIdeal.τ).loc Cert.KernelSIdeal.main_v6_3) = v3 c
          ∧ r.2.mem ((c.tc : Thread Cert.KernelSIdeal.nD Cert.KernelSIdeal.τ).loc Cert.KernelSIdeal.main_v6_4) = v4 c
          ∧ r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
          ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
          ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2)
          ∧ r.2.mem ((c.tc : Thread Cert.KernelSIdeal.nD Cert.KernelSIdeal.τ).loc Cert.KernelSIdeal.main_arg3) = m ((c.tc : Thread Cert.KernelSIdeal.nD Cert.KernelSIdeal.τ).loc Cert.KernelSIdeal.main_arg3)
          ∧ r.2.mem ((c.tc : Thread Cert.KernelSIdeal.nD Cert.KernelSIdeal.τ).loc Cert.KernelSIdeal.main_arg4) = m ((c.tc : Thread Cert.KernelSIdeal.nD Cert.KernelSIdeal.τ).loc Cert.KernelSIdeal.main_arg4)
          ∧ r.2.mem ((c.tc : Thread Cert.KernelSIdeal.nD Cert.KernelSIdeal.τ).loc Cert.KernelSIdeal.main_arg5) = m ((c.tc : Thread Cert.KernelSIdeal.nD Cert.KernelSIdeal.τ).loc Cert.KernelSIdeal.main_arg5)
          ∧ r.2.mem ((c.tc : Thread Cert.KernelSIdeal.nD Cert.KernelSIdeal.τ).loc Cert.KernelSIdeal.main_arg6) = m ((c.tc : Thread Cert.KernelSIdeal.nD Cert.KernelSIdeal.τ).loc Cert.KernelSIdeal.main_arg6)
          ∧ r.2.mem ((c.tc : Thread Cert.KernelSIdeal.nD Cert.KernelSIdeal.τ).loc Cert.KernelSIdeal.main_arg7) = m ((c.tc : Thread Cert.KernelSIdeal.nD Cert.KernelSIdeal.τ).loc Cert.KernelSIdeal.main_arg7))
      ∧ θ_run (Cert.ReferenceSIdeal.defs (F := Ideal)) (onTc (τ := Cert.ReferenceSIdeal.τ) (Cert.ReferenceSIdeal.main (F := Ideal))) ⟨m', fun _ => 0, g'⟩ (fun r => ∀ c : Dev Cert.ReferenceSIdeal.nD,
          r.2.mem ((c.tc : Thread Cert.ReferenceSIdeal.nD Cert.ReferenceSIdeal.τ).loc Cert.ReferenceSIdeal.main_v51) = v0 c
          ∧ r.2.mem ((c.tc : Thread Cert.ReferenceSIdeal.nD Cert.ReferenceSIdeal.τ).loc Cert.ReferenceSIdeal.main_v77) = v1 c
          ∧ r.2.mem ((c.tc : Thread Cert.ReferenceSIdeal.nD Cert.ReferenceSIdeal.τ).loc Cert.ReferenceSIdeal.main_v58) = v2 c
          ∧ r.2.mem ((c.tc : Thread Cert.ReferenceSIdeal.nD Cert.ReferenceSIdeal.τ).loc Cert.ReferenceSIdeal.main_v64) = v3 c
          ∧ r.2.mem ((c.tc : Thread Cert.ReferenceSIdeal.nD Cert.ReferenceSIdeal.τ).loc Cert.ReferenceSIdeal.main_v78) = v4 c
          ∧ r.2.mem ((c.tc : Thread Cert.ReferenceSIdeal.nD Cert.ReferenceSIdeal.τ).loc Cert.ReferenceSIdeal.main_arg0) = m' ((c.tc : Thread Cert.ReferenceSIdeal.nD Cert.ReferenceSIdeal.τ).loc Cert.ReferenceSIdeal.main_arg0)
          ∧ r.2.mem ((c.tc : Thread Cert.ReferenceSIdeal.nD Cert.ReferenceSIdeal.τ).loc Cert.ReferenceSIdeal.main_arg1) = m' ((c.tc : Thread Cert.ReferenceSIdeal.nD Cert.ReferenceSIdeal.τ).loc Cert.ReferenceSIdeal.main_arg1)
          ∧ r.2.mem ((c.tc : Thread Cert.ReferenceSIdeal.nD Cert.ReferenceSIdeal.τ).loc Cert.ReferenceSIdeal.main_arg2) = m' ((c.tc : Thread Cert.ReferenceSIdeal.nD Cert.ReferenceSIdeal.τ).loc Cert.ReferenceSIdeal.main_arg2)
          ∧ r.2.mem ((c.tc : Thread Cert.ReferenceSIdeal.nD Cert.ReferenceSIdeal.τ).loc Cert.ReferenceSIdeal.main_arg3) = m' ((c.tc : Thread Cert.ReferenceSIdeal.nD Cert.ReferenceSIdeal.τ).loc Cert.ReferenceSIdeal.main_arg3)
          ∧ r.2.mem ((c.tc : Thread Cert.ReferenceSIdeal.nD Cert.ReferenceSIdeal.τ).loc Cert.ReferenceSIdeal.main_arg4) = m' ((c.tc : Thread Cert.ReferenceSIdeal.nD Cert.ReferenceSIdeal.τ).loc Cert.ReferenceSIdeal.main_arg4)
          ∧ r.2.mem ((c.tc : Thread Cert.ReferenceSIdeal.nD Cert.ReferenceSIdeal.τ).loc Cert.ReferenceSIdeal.main_arg5) = m' ((c.tc : Thread Cert.ReferenceSIdeal.nD Cert.ReferenceSIdeal.τ).loc Cert.ReferenceSIdeal.main_arg5)
          ∧ r.2.mem ((c.tc : Thread Cert.ReferenceSIdeal.nD Cert.ReferenceSIdeal.τ).loc Cert.ReferenceSIdeal.main_arg6) = m' ((c.tc : Thread Cert.ReferenceSIdeal.nD Cert.ReferenceSIdeal.τ).loc Cert.ReferenceSIdeal.main_arg6)
          ∧ r.2.mem ((c.tc : Thread Cert.ReferenceSIdeal.nD Cert.ReferenceSIdeal.τ).loc Cert.ReferenceSIdeal.main_arg7) = m' ((c.tc : Thread Cert.ReferenceSIdeal.nD Cert.ReferenceSIdeal.τ).loc Cert.ReferenceSIdeal.main_arg7))

def preserves_KernelH_KernelHIdeal : Prop :=
  True

def Claim : Prop :=
  ∃ (hKernelV : Cert.KernelV.Facts) (hKernelVIdeal : Cert.KernelVIdeal.Facts) (hReferenceVIdeal : Cert.ReferenceVIdeal.Facts) (hKernelU : Cert.KernelU.Facts) (hKernelUIdeal : Cert.KernelUIdeal.Facts) (hReferenceUIdeal : Cert.ReferenceUIdeal.Facts) (hKernelD : Cert.KernelD.Facts) (hKernelDIdeal : Cert.KernelDIdeal.Facts) (hReferenceDIdeal : Cert.ReferenceDIdeal.Facts) (hKernelA : Cert.KernelA.Facts) (hKernelAIdeal : Cert.KernelAIdeal.Facts) (hReferenceAIdeal : Cert.ReferenceAIdeal.Facts) (hKernelM : Cert.KernelM.Facts) (hKernelMIdeal : Cert.KernelMIdeal.Facts) (hReferenceMIdeal : Cert.ReferenceMIdeal.Facts) (hKernelF : Cert.KernelF.Facts) (hKernelFIdeal : Cert.KernelFIdeal.Facts) (hReferenceFIdeal : Cert.ReferenceFIdeal.Facts) (hKernelT : Cert.KernelT.Facts) (hKernelTIdeal : Cert.KernelTIdeal.Facts) (hReferenceTIdeal : Cert.ReferenceTIdeal.Facts) (hKernelX : Cert.KernelX.Facts) (hKernelXIdeal : Cert.KernelXIdeal.Facts) (hReferenceXIdeal : Cert.ReferenceXIdeal.Facts) (hKernelO : Cert.KernelO.Facts) (hKernelOIdeal : Cert.KernelOIdeal.Facts) (hReferenceOIdeal : Cert.ReferenceOIdeal.Facts) (hKernelI : Cert.KernelI.Facts) (hKernelIIdeal : Cert.KernelIIdeal.Facts) (hReferenceIIdeal : Cert.ReferenceIIdeal.Facts) (hKernelL : Cert.KernelL.Facts) (hKernelLIdeal : Cert.KernelLIdeal.Facts) (hReferenceLIdeal : Cert.ReferenceLIdeal.Facts) (hKernelP : Cert.KernelP.Facts) (hKernelPIdeal : Cert.KernelPIdeal.Facts) (hReferencePIdeal : Cert.ReferencePIdeal.Facts) (hKernelQ : Cert.KernelQ.Facts) (hKernelQIdeal : Cert.KernelQIdeal.Facts) (hReferenceQIdeal : Cert.ReferenceQIdeal.Facts) (hKernelB : Cert.KernelB.Facts) (hKernelBIdeal : Cert.KernelBIdeal.Facts) (hReferenceBIdeal : Cert.ReferenceBIdeal.Facts) (hKernelC : Cert.KernelC.Facts) (hKernelCIdeal : Cert.KernelCIdeal.Facts) (hReferenceCIdeal : Cert.ReferenceCIdeal.Facts) (hKernelS : Cert.KernelS.Facts) (hKernelSIdeal : Cert.KernelSIdeal.Facts) (hReferenceSIdeal : Cert.ReferenceSIdeal.Facts) (hKernelG : Cert.KernelG.Facts) (hKernelH : Cert.KernelH.Facts) (hKernelHIdeal : Cert.KernelHIdeal.Facts) (hPre_finite_v : Cert.Pre_finite_v.Facts) (hPre_finite_u : Cert.Pre_finite_u.Facts) (hPre_finite_d : Cert.Pre_finite_d.Facts) (hPre_finite_a : Cert.Pre_finite_a.Facts) (hPre_finite_m : Cert.Pre_finite_m.Facts) (hPre_finite_f : Cert.Pre_finite_f.Facts) (hPre_finite_t : Cert.Pre_finite_t.Facts) (hPre_finite_l : Cert.Pre_finite_l.Facts) (hPre_finite_s : Cert.Pre_finite_s.Facts),
    quiescent_KernelV (hKernelV := hKernelV)
    ∧ quiescent_KernelVIdeal (hKernelVIdeal := hKernelVIdeal)
    ∧ quiescent_KernelVIdeal_pre_finite_v (hKernelVIdeal := hKernelVIdeal) (hPre_finite_v := hPre_finite_v)
    ∧ quiescent_ReferenceVIdeal (hReferenceVIdeal := hReferenceVIdeal)
    ∧ quiescent_ReferenceVIdeal_pre_finite_v (hReferenceVIdeal := hReferenceVIdeal) (hPre_finite_v := hPre_finite_v)
    ∧ quiescent_KernelU (hKernelU := hKernelU)
    ∧ quiescent_KernelUIdeal (hKernelUIdeal := hKernelUIdeal)
    ∧ quiescent_KernelUIdeal_pre_finite_u (hKernelUIdeal := hKernelUIdeal) (hPre_finite_u := hPre_finite_u)
    ∧ quiescent_ReferenceUIdeal (hReferenceUIdeal := hReferenceUIdeal)
    ∧ quiescent_ReferenceUIdeal_pre_finite_u (hReferenceUIdeal := hReferenceUIdeal) (hPre_finite_u := hPre_finite_u)
    ∧ quiescent_KernelD (hKernelD := hKernelD)
    ∧ quiescent_KernelDIdeal (hKernelDIdeal := hKernelDIdeal)
    ∧ quiescent_KernelDIdeal_pre_finite_d (hKernelDIdeal := hKernelDIdeal) (hPre_finite_d := hPre_finite_d)
    ∧ quiescent_ReferenceDIdeal (hReferenceDIdeal := hReferenceDIdeal)
    ∧ quiescent_ReferenceDIdeal_pre_finite_d (hReferenceDIdeal := hReferenceDIdeal) (hPre_finite_d := hPre_finite_d)
    ∧ quiescent_KernelA (hKernelA := hKernelA)
    ∧ quiescent_KernelAIdeal (hKernelAIdeal := hKernelAIdeal)
    ∧ quiescent_KernelAIdeal_pre_finite_a (hKernelAIdeal := hKernelAIdeal) (hPre_finite_a := hPre_finite_a)
    ∧ quiescent_ReferenceAIdeal (hReferenceAIdeal := hReferenceAIdeal)
    ∧ quiescent_ReferenceAIdeal_pre_finite_a (hReferenceAIdeal := hReferenceAIdeal) (hPre_finite_a := hPre_finite_a)
    ∧ quiescent_KernelM (hKernelM := hKernelM)
    ∧ quiescent_KernelMIdeal (hKernelMIdeal := hKernelMIdeal)
    ∧ quiescent_KernelMIdeal_pre_finite_m (hKernelMIdeal := hKernelMIdeal) (hPre_finite_m := hPre_finite_m)
    ∧ quiescent_ReferenceMIdeal (hReferenceMIdeal := hReferenceMIdeal)
    ∧ quiescent_ReferenceMIdeal_pre_finite_m (hReferenceMIdeal := hReferenceMIdeal) (hPre_finite_m := hPre_finite_m)
    ∧ quiescent_KernelF (hKernelF := hKernelF)
    ∧ quiescent_KernelFIdeal (hKernelFIdeal := hKernelFIdeal)
    ∧ quiescent_KernelFIdeal_pre_finite_f (hKernelFIdeal := hKernelFIdeal) (hPre_finite_f := hPre_finite_f)
    ∧ quiescent_ReferenceFIdeal (hReferenceFIdeal := hReferenceFIdeal)
    ∧ quiescent_ReferenceFIdeal_pre_finite_f (hReferenceFIdeal := hReferenceFIdeal) (hPre_finite_f := hPre_finite_f)
    ∧ quiescent_KernelT (hKernelT := hKernelT)
    ∧ quiescent_KernelTIdeal (hKernelTIdeal := hKernelTIdeal)
    ∧ quiescent_KernelTIdeal_pre_finite_t (hKernelTIdeal := hKernelTIdeal) (hPre_finite_t := hPre_finite_t)
    ∧ quiescent_ReferenceTIdeal (hReferenceTIdeal := hReferenceTIdeal)
    ∧ quiescent_ReferenceTIdeal_pre_finite_t (hReferenceTIdeal := hReferenceTIdeal) (hPre_finite_t := hPre_finite_t)
    ∧ quiescent_KernelX (hKernelX := hKernelX)
    ∧ quiescent_KernelXIdeal (hKernelXIdeal := hKernelXIdeal)
    ∧ quiescent_ReferenceXIdeal (hReferenceXIdeal := hReferenceXIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelI (hKernelI := hKernelI)
    ∧ quiescent_KernelIIdeal (hKernelIIdeal := hKernelIIdeal)
    ∧ quiescent_ReferenceIIdeal (hReferenceIIdeal := hReferenceIIdeal)
    ∧ quiescent_KernelL (hKernelL := hKernelL)
    ∧ quiescent_KernelLIdeal (hKernelLIdeal := hKernelLIdeal)
    ∧ quiescent_KernelLIdeal_pre_finite_l (hKernelLIdeal := hKernelLIdeal) (hPre_finite_l := hPre_finite_l)
    ∧ quiescent_ReferenceLIdeal (hReferenceLIdeal := hReferenceLIdeal)
    ∧ quiescent_ReferenceLIdeal_pre_finite_l (hReferenceLIdeal := hReferenceLIdeal) (hPre_finite_l := hPre_finite_l)
    ∧ quiescent_KernelP (hKernelP := hKernelP)
    ∧ quiescent_KernelPIdeal (hKernelPIdeal := hKernelPIdeal)
    ∧ quiescent_ReferencePIdeal (hReferencePIdeal := hReferencePIdeal)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelB (hKernelB := hKernelB)
    ∧ quiescent_KernelBIdeal (hKernelBIdeal := hKernelBIdeal)
    ∧ quiescent_ReferenceBIdeal (hReferenceBIdeal := hReferenceBIdeal)
    ∧ quiescent_KernelC (hKernelC := hKernelC)
    ∧ quiescent_KernelCIdeal (hKernelCIdeal := hKernelCIdeal)
    ∧ quiescent_ReferenceCIdeal (hReferenceCIdeal := hReferenceCIdeal)
    ∧ quiescent_KernelS (hKernelS := hKernelS)
    ∧ quiescent_KernelSIdeal (hKernelSIdeal := hKernelSIdeal)
    ∧ quiescent_KernelSIdeal_pre_finite_s (hKernelSIdeal := hKernelSIdeal) (hPre_finite_s := hPre_finite_s)
    ∧ quiescent_ReferenceSIdeal (hReferenceSIdeal := hReferenceSIdeal)
    ∧ quiescent_ReferenceSIdeal_pre_finite_s (hReferenceSIdeal := hReferenceSIdeal) (hPre_finite_s := hPre_finite_s)
    ∧ quiescent_KernelG (hKernelG := hKernelG)
    ∧ quiescent_KernelH (hKernelH := hKernelH)
    ∧ quiescent_KernelHIdeal (hKernelHIdeal := hKernelHIdeal)
    ∧ preserves_KernelV_KernelVIdeal
    ∧ algebraic_KernelVIdeal_ReferenceVIdeal_pre_finite_v (hKernelVIdeal := hKernelVIdeal) (hReferenceVIdeal := hReferenceVIdeal) (hPre_finite_v := hPre_finite_v)
    ∧ preserves_KernelU_KernelUIdeal
    ∧ algebraic_KernelUIdeal_ReferenceUIdeal_pre_finite_u (hKernelUIdeal := hKernelUIdeal) (hReferenceUIdeal := hReferenceUIdeal) (hPre_finite_u := hPre_finite_u)
    ∧ preserves_KernelD_KernelDIdeal
    ∧ algebraic_KernelDIdeal_ReferenceDIdeal_pre_finite_d (hKernelDIdeal := hKernelDIdeal) (hReferenceDIdeal := hReferenceDIdeal) (hPre_finite_d := hPre_finite_d)
    ∧ preserves_KernelA_KernelAIdeal
    ∧ algebraic_KernelAIdeal_ReferenceAIdeal_pre_finite_a (hKernelAIdeal := hKernelAIdeal) (hReferenceAIdeal := hReferenceAIdeal) (hPre_finite_a := hPre_finite_a)
    ∧ preserves_KernelM_KernelMIdeal
    ∧ algebraic_KernelMIdeal_ReferenceMIdeal_pre_finite_m (hKernelMIdeal := hKernelMIdeal) (hReferenceMIdeal := hReferenceMIdeal) (hPre_finite_m := hPre_finite_m)
    ∧ preserves_KernelF_KernelFIdeal
    ∧ algebraic_KernelFIdeal_ReferenceFIdeal_pre_finite_f (hKernelFIdeal := hKernelFIdeal) (hReferenceFIdeal := hReferenceFIdeal) (hPre_finite_f := hPre_finite_f)
    ∧ preserves_KernelT_KernelTIdeal
    ∧ algebraic_KernelTIdeal_ReferenceTIdeal_pre_finite_t (hKernelTIdeal := hKernelTIdeal) (hReferenceTIdeal := hReferenceTIdeal) (hPre_finite_t := hPre_finite_t)
    ∧ preserves_KernelX_KernelXIdeal
    ∧ algebraic_KernelXIdeal_ReferenceXIdeal (hKernelXIdeal := hKernelXIdeal) (hReferenceXIdeal := hReferenceXIdeal)
    ∧ preserves_KernelO_KernelOIdeal
    ∧ algebraic_KernelOIdeal_ReferenceOIdeal (hKernelOIdeal := hKernelOIdeal) (hReferenceOIdeal := hReferenceOIdeal)
    ∧ preserves_KernelI_KernelIIdeal
    ∧ algebraic_KernelIIdeal_ReferenceIIdeal (hKernelIIdeal := hKernelIIdeal) (hReferenceIIdeal := hReferenceIIdeal)
    ∧ preserves_KernelL_KernelLIdeal
    ∧ algebraic_KernelLIdeal_ReferenceLIdeal_pre_finite_l (hKernelLIdeal := hKernelLIdeal) (hReferenceLIdeal := hReferenceLIdeal) (hPre_finite_l := hPre_finite_l)
    ∧ preserves_KernelP_KernelPIdeal
    ∧ algebraic_KernelPIdeal_ReferencePIdeal (hKernelPIdeal := hKernelPIdeal) (hReferencePIdeal := hReferencePIdeal)
    ∧ preserves_KernelQ_KernelQIdeal
    ∧ algebraic_KernelQIdeal_ReferenceQIdeal (hKernelQIdeal := hKernelQIdeal) (hReferenceQIdeal := hReferenceQIdeal)
    ∧ preserves_KernelB_KernelBIdeal
    ∧ algebraic_KernelBIdeal_ReferenceBIdeal (hKernelBIdeal := hKernelBIdeal) (hReferenceBIdeal := hReferenceBIdeal)
    ∧ preserves_KernelC_KernelCIdeal
    ∧ algebraic_KernelCIdeal_ReferenceCIdeal (hKernelCIdeal := hKernelCIdeal) (hReferenceCIdeal := hReferenceCIdeal)
    ∧ preserves_KernelS_KernelSIdeal
    ∧ algebraic_KernelSIdeal_ReferenceSIdeal_pre_finite_s (hKernelSIdeal := hKernelSIdeal) (hReferenceSIdeal := hReferenceSIdeal) (hPre_finite_s := hPre_finite_s)
    ∧ preserves_KernelH_KernelHIdeal
-- ==== Pre_finite_a.lean ====
abbrev S4096x768 : Shape := ⟨2, ![4096, 768]⟩
abbrev S1x768 : Shape := ⟨2, ![1, 768]⟩
abbrev S1x8 : Shape := ⟨2, ![1, 8]⟩
abbrev S4096x512 : Shape := ⟨2, ![4096, 512]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S1x768 : S_.BroadcastsInDim S1x768 (![] : Fin 0 → Fin S1x768.rank)
  reducesTo_S1x768_S_d0_1 : S1x768.ReducesTo [0, 1] S_
  bcast_S_S1x8 : S_.BroadcastsInDim S1x8 (![] : Fin 0 → Fin S1x8.rank)
  reducesTo_S1x8_S_d0_1 : S1x8.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S4096x768 .f32) (main_arg1 : FVec F S1x768 .f32) (main_arg2 : FVec F S1x8 .f32) (main_arg3 : FVec F S4096x512 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S1x768 .f32 := Host.absf main_arg1
  let main_cst_0 : FVec F S_ .f32 := constant S_ .f32 0x7F800000#32
  let main_v5 : FVec F S1x768 .f32 := broadcastInDim S1x768 ![] bcast_S_S1x768 main_cst_0
  let main_v6 : IVec S1x768 1 := cmpf .olt main_v4 main_v5
  let main_c_1 : IVec S_ 1 := constantI S_ 1 1#1
  let main_v7 : IVec S_ 1 := (fun x v => Host.reduce IntOp.andi x v reducesTo_S1x768_S_d0_1 h_S_) main_v6 main_c_1
  let main_v8 : IVec S_ 1 := andi main_v3 main_v7
  let main_v9 : FVec F S1x8 .f32 := Host.absf main_arg2
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_c_3 : IVec S_ 1 := constantI S_ 1 1#1
  let main_v12 : IVec S_ 1 := (fun x v => Host.reduce IntOp.andi x v reducesTo_S1x8_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== Pre_finite_d.lean ====
abbrev S4096x1024 : Shape := ⟨2, ![4096, 1024]⟩
abbrev S4096x2816 : Shape := ⟨2, ![4096, 2816]⟩
abbrev S1x2816x1024 : Shape := ⟨3, ![1, 2816, 1024]⟩
abbrev S1024 : Shape := ⟨1, ![1024]⟩
abbrev S1x4096x1024 : Shape := ⟨3, ![1, 4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2816 : S_.BroadcastsInDim S4096x2816 (![] : Fin 0 → Fin S4096x2816.rank)
  reducesTo_S4096x2816_S_d0_1 : S4096x2816.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1024 : S_.BroadcastsInDim S1024 (![] : Fin 0 → Fin S1024.rank)
  reducesTo_S1024_S_d0 : S1024.ReducesTo [0] S_
  bcast_S_S1x4096x1024 : S_.BroadcastsInDim S1x4096x1024 (![] : Fin 0 → Fin S1x4096x1024.rank)
  reducesTo_S1x4096x1024_S_d0_1_2 : S1x4096x1024.ReducesTo [0, 1, 2] S_

variable [Facts]

def fn_part1 {F : FTy → Type} [FloatOps F] (main_arg4 : FVec F S1x4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1x4096x1024 .f32 := Host.absf main_arg4
  let main_cst_6 : FVec F S_ .f32 := constant S_ .f32 0x7F800000#32
  let main_v20 : FVec F S1x4096x1024 .f32 := broadcastInDim S1x4096x1024 ![] bcast_S_S1x4096x1024 main_cst_6
  let main_v21 : IVec S1x4096x1024 1 := cmpf .olt main_v19 main_v20
  let main_c_7 : IVec S_ 1 := constantI S_ 1 1#1
  let main_v22 : IVec S_ 1 := (fun x v => Host.reduce IntOp.andi x v reducesTo_S1x4096x1024_S_d0_1_2 h_S_) main_v21 main_c_7
  let main_v23 : IVec S_ 1 := andi main_v18 main_v22
  main_v23

def fn {F : FTy → Type} [FloatOps F] (main_arg0 : FVec F S4096x1024 .f32) (main_arg1 : FVec F S4096x2816 .f32) (main_arg2 : FVec F S1x2816x1024 .f32) (main_arg3 : FVec F S1024 .f32) (main_arg4 : FVec F S1x4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2816 .f32 := Host.absf main_arg1
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : IVec S_ 1 := andi main_v3 main_v7
  let main_v9 : FVec F S1x2816x1024 .f32 := Host.absf main_arg2
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  let main_c_3 : IVec S_ 1 := constantI S_ 1 1#1
  let main_v12 : IVec S_ 1 := (fun x v => Host.reduce IntOp.andi x v reducesTo_S1x2816x1024_S_d0_1_2 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Pre_finite_f.lean ====
abbrev S4096x1024 : Shape := ⟨2, ![4096, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x3x2816 : S_.BroadcastsInDim S1x3x2816 (![] : Fin 0 → Fin S1x3x2816.rank)
  reducesTo_S1x3x2816_S_d0_1_2 : S1x3x2816.ReducesTo [0, 1, 2] S_
  bcast_S_S1x2816 : S_.BroadcastsInDim S1x2816 (![] : Fin 0 → Fin S1x2816.rank)
  reducesTo_S1x2816_S_d0_1 : S1x2816.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x2816 .f32) (main_arg5 : FVec F S1x2816x1024 .f32) (main_arg6 : FVec F S4096x1024 .f32) (main_v13 : IVec S_ 1) (main_v16 : IVec S1x3x2816 1) : IVec S_ 1 :=
  let main_c_5 : IVec S_ 1 := constantI S_ 1 1#1
  let main_v17 : IVec S_ 1 := (fun x v => Host.reduce IntOp.andi x v reducesTo_S1x3x2816_S_d0_1_2 h_S_) main_v16 main_c_5
  let main_v18 : IVec S_ 1 := andi main_v13 main_v17
  let main_v19 : FVec F S1x2816 .f32 := Host.absf main_arg4
  let main_cst_6 : FVec F S_ .f32 := constant S_ .f32 0x7F800000#32
  let main_v20 : FVec F S1x2816 .f32 := broadcastInDim S1x2816 ![] bcast_S_S1x2816 main_cst_6
  let main_v21 : IVec S1x2816 1 := cmpf .olt main_v19 main_v20
  let main_c_7 : IVec S_ 1 := constantI S_ 1 1#1
  let main_v22 : IVec S_ 1 := (fun x v => Host.reduce IntOp.andi x v reducesTo_S1x2816_S_d0_1 h_S_) main_v21 main_c_7
  let main_v23 : IVec S_ 1 := andi main_v18 main_v22
  let main_v24 : FVec F S1x2816x1024 .f32 := Host.absf main_arg5
  let main_cst_8 : FVec F S_ .f32 := constant S_ .f32 0x7F800000#32
  let main_v25 : FVec F S1x2816x1024 .f32 := broadcastInDim S1x2816x1024 ![] bcast_S_S1x2816x1024 main_cst_8
  let main_v26 : IVec S1x2816x1024 1 := cmpf .olt main_v24 main_v25
  let main_c_9 : IVec S_ 1 := constantI S_ 1 1#1
  let main_v27 : IVec S_ 1 := (fun x v => Host.reduce IntOp.andi x v reducesTo_S1x2816x1024_S_d0_1_2 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  main_v33

def fn {F : FTy → Type} [FloatOps F] (main_arg0 : FVec F S4096x1024 .f32) (main_arg1 : FVec F S1x1024x2816 .f32) (main_arg2 : FVec F S1x1024x2816 .f32) (main_arg3 : FVec F S1x3x2816 .f32) (main_arg4 : FVec F S1x2816 .f32) (main_arg5 : FVec F S1x2816x1024 .f32) (main_arg6 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024x2816 .f32 := Host.absf main_arg1
  let main_cst_0 : FVec F S_ .f32 := constant S_ .f32 0x7F800000#32
  let main_v5 : FVec F S1x1024x2816 .f32 := broadcastInDim S1x1024x2816 ![] bcast_S_S1x1024x2816 main_cst_0
  let main_v6 : IVec S1x1024x2816 1 := cmpf .olt main_v4 main_v5
  let main_c_1 : IVec S_ 1 := constantI S_ 1 1#1
  let main_v7 : IVec S_ 1 := (fun x v => Host.reduce IntOp.andi x v reducesTo_S1x1024x2816_S_d0_1_2 h_S_) main_v6 main_c_1
  let main_v8 : IVec S_ 1 := andi main_v3 main_v7
  let main_v9 : FVec F S1x1024x2816 .f32 := Host.absf main_arg2
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_c_3 : IVec S_ 1 := constantI S_ 1 1#1
  let main_v12 : IVec S_ 1 := (fun x v => Host.reduce IntOp.andi x v reducesTo_S1x1024x2816_S_d0_1_2 h_S_) main_v11 main_c_3
  let main_v13 : IVec S_ 1 := andi main_v8 main_v12
  let main_v14 : FVec F S1x3x2816 .f32 := Host.absf main_arg3
  let main_cst_4 : FVec F S_ .f32 := constant S_ .f32 0x7F800000#32
  let main_v15 : FVec F S1x3x2816 .f32 := broadcastInDim S1x3x2816 ![] bcast_S_S1x3x2816 main_cst_4
  let main_v16 : IVec S1x3x2816 1 := cmpf .olt main_v14 main_v15
  fn_part1 (F := F) main_arg4 main_arg5 main_arg6 main_v13 main_v16
-- ==== Pre_finite_l.lean ====
abbrev S2x512 : Shape := ⟨2, ![2, 512]⟩
abbrev S_ : Shape := ⟨0, ![]⟩

class Facts : Prop where
  bcast_S_S2x512 : S_.BroadcastsInDim S2x512 (![] : Fin 0 → Fin S2x512.rank)
  reducesTo_S2x512_S_d0_1 : S2x512.ReducesTo [0, 1] S_
  h_S_ : 0 < S_.numel

variable [Facts]

def fn {F : FTy → Type} [FloatOps F] (main_arg0 : FVec F S2x512 .f32) : IVec S_ 1 :=
  let main_v0 : FVec F S2x512 .f32 := Host.absf main_arg0
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  let main_c : IVec S_ 1 := constantI S_ 1 1#1
  let main_v3 : IVec S_ 1 := (fun x v => Host.reduce IntOp.andi x v reducesTo_S2x512_S_d0_1 h_S_) main_v2 main_c
  main_v3
-- ==== Pre_finite_m.lean ====
abbrev S4096x512 : Shape := ⟨2, ![4096, 512]⟩
abbrev S1x128 : Shape := ⟨2, ![1, 128]⟩
abbrev S1x1024x1024 : Shape := ⟨3, ![1, 1024, 1024]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v13 : IVec S_ 1) (main_v16 : IVec S1x1024x1024 1) : IVec S_ 1 :=
  let main_c_5 : IVec S_ 1 := constantI S_ 1 1#1
  let main_v17 : IVec S_ 1 := (fun x v => Host.reduce IntOp.andi x v reducesTo_S1x1024x1024_S_d0_1_2 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x512 .f32) (main_arg1 : FVec F S4096x512 .f32) (main_arg2 : FVec F S1x128 .f32) (main_arg3 : FVec F S1x1024x1024 .f32) (main_arg4 : FVec F S4096x1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1x1024x1024 .f32 := Host.absf main_arg3
  let main_cst_4 : FVec F S_ .f32 := constant S_ .f32 0x7F800000#32
  let main_v15 : FVec F S1x1024x1024 .f32 := broadcastInDim S1x1024x1024 ![] bcast_S_S1x1024x1024 main_cst_4
  let main_v16 : IVec S1x1024x1024 1 := cmpf .olt main_v14 main_v15
  fn_part1 (F := F) main_arg4 main_v13 main_v16
-- ==== Pre_finite_s.lean ====
abbrev S8x24x128 : Shape := ⟨3, ![8, 24, 128]⟩
abbrev S8x512 : Shape := ⟨2, ![8, 512]⟩
abbrev S8x128x128 : Shape := ⟨3, ![8, 128, 128]⟩
abbrev S24x128 : Shape := ⟨2, ![24, 128]⟩
abbrev S2x512 : Shape := ⟨2, ![2, 512]⟩
abbrev S128x128 : Shape := ⟨2, ![128, 128]⟩
abbrev S160x128 : Shape := ⟨2, ![160, 128]⟩
abbrev S_ : Shape := ⟨0, ![]⟩

class Facts : Prop where
  bcast_S_S8x512 : S_.BroadcastsInDim S8x512 (![] : Fin 0 → Fin S8x512.rank)
  reducesTo_S8x512_S_d0_1 : S8x512.ReducesTo [0, 1] S_
  h_S_ : 0 < S_.numel
  bcast_S_S2x512 : S_.BroadcastsInDim S2x512 (![] : Fin 0 → Fin S2x512.rank)
  reducesTo_S2x512_S_d0_1 : S2x512.ReducesTo [0, 1] S_

variable [Facts]

def fn {F : FTy → Type} [FloatOps F] (main_arg0 : FVec F S8x24x128 .f32) (main_arg1 : FVec F S8x512 .f32) (main_arg2 : FVec F S8x128x128 .f32) (main_arg3 : FVec F S24x128 .f32) (main_arg4 : FVec F S2x512 .f32) (main_arg5 : FVec F S128x128 .f32) (main_arg6 : FVec F S160x128 .f32) (main_arg7 : FVec F S160x128 .f32) : IVec S_ 1 :=
  let main_v0 : FVec F S8x512 .f32 := Host.absf main_arg1
  let main_cst : FVec F S_ .f32 := constant S_ .f32 0x7F800000#32
  let main_v1 : FVec F S8x512 .f32 := broadcastInDim S8x512 ![] bcast_S_S8x512 main_cst
  let main_v2 : IVec S8x512 1 := cmpf .olt main_v0 main_v1
  let main_c : IVec S_ 1 := constantI S_ 1 1#1
  let main_v3 : IVec S_ 1 := (fun x v => Host.reduce IntOp.andi x v reducesTo_S8x512_S_d0_1 h_S_) main_v2 main_c
  let main_v4 : FVec F S2x512 .f32 := Host.absf main_arg4
  let main_cst_0 : FVec F S_ .f32 := constant S_ .f32 0x7F800000#32
  let main_v5 : FVec F S2x512 .f32 := broadcastInDim S2x512 ![] bcast_S_S2x512 main_cst_0
  let main_v6 : IVec S2x512 1 := cmpf .olt main_v4 main_v5
  let main_c_1 : IVec S_ 1 := constantI S_ 1 1#1
  let main_v7 : IVec S_ 1 := (fun x v => Host.reduce IntOp.andi x v reducesTo_S2x512_S_d0_1 h_S_) main_v6 main_c_1
  let main_v8 : IVec S_ 1 := andi main_v3 main_v7
  main_v8
-- ==== Pre_finite_t.lean ====
abbrev S4096x768 : Shape := ⟨2, ![4096, 768]⟩
abbrev S1x768 : Shape := ⟨2, ![1, 768]⟩
abbrev S1x8 : Shape := ⟨2, ![1, 8]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S1x768 : S_.BroadcastsInDim S1x768 (![] : Fin 0 → Fin S1x768.rank)
  reducesTo_S1x768_S_d0_1 : S1x768.ReducesTo [0, 1] S_
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S4096x768 .f32) (main_arg1 : FVec F S1x768 .f32) (main_arg2 : FVec F S1x8 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S1x768 .f32 := Host.absf main_arg1
  let main_cst_0 : FVec F S_ .f32 := constant S_ .f32 0x7F800000#32
  let main_v5 : FVec F S1x768 .f32 := broadcastInDim S1x768 ![] bcast_S_S1x768 main_cst_0
  let main_v6 : IVec S1x768 1 := cmpf .olt main_v4 main_v5
  let main_c_1 : IVec S_ 1 := constantI S_ 1 1#1
  let main_v7 : IVec S_ 1 := (fun x v => Host.reduce IntOp.andi x v reducesTo_S1x768_S_d0_1 h_S_) main_v6 main_c_1
  let main_v8 : IVec S_ 1 := andi main_v3 main_v7
  let main_v9 : FVec F S1x8 .f32 := Host.absf main_arg2
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_c_3 : IVec S_ 1 := constantI S_ 1 1#1
  let main_v12 : IVec S_ 1 := (fun x v => Host.reduce IntOp.andi x v reducesTo_S1x8_S_d0_1 h_S_) main_v11 main_c_3
  let main_v13 : IVec S_ 1 := andi main_v8 main_v12
  main_v13
-- ==== Pre_finite_u.lean ====
abbrev S1x4096x1024 : Shape := ⟨3, ![1, 4096, 1024]⟩
abbrev S1x1024 : Shape := ⟨2, ![1, 1024]⟩
abbrev S1x1024x2816 : Shape := ⟨3, ![1, 1024, 2816]⟩
abbrev S4096x1024 : Shape := ⟨2, ![4096, 1024]⟩
abbrev S4096x512 : Shape := ⟨2, ![4096, 512]⟩
abbrev S4096x256 : Shape := ⟨2, ![4096, 256]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S4096x512 : S_.BroadcastsInDim S4096x512 (![] : Fin 0 → Fin S4096x512.rank)
  reducesTo_S4096x512_S_d0_1 : S4096x512.ReducesTo [0, 1] S_
  bcast_S_S4096x256 : S_.BroadcastsInDim S4096x256 (![] : Fin 0 → Fin S4096x256.rank)
  reducesTo_S4096x256_S_d0_1 : S4096x256.ReducesTo [0, 1] S_

variable [Facts]

def fn_part2 {F : FTy → Type} [FloatOps F] (main_arg8 : FVec F S4096x512 .f32) (main_arg9 : FVec F S4096x256 .f32) (main_v33 : IVec S_ 1) : IVec S_ 1 :=
  let main_v34 : FVec F S4096x512 .f32 := Host.absf main_arg8
  let main_cst_12 : FVec F S_ .f32 := constant S_ .f32 0x7F800000#32
  let main_v35 : FVec F S4096x512 .f32 := broadcastInDim S4096x512 ![] bcast_S_S4096x512 main_cst_12
  let main_v36 : IVec S4096x512 1 := cmpf .olt main_v34 main_v35
  let main_c_13 : IVec S_ 1 := constantI S_ 1 1#1
  let main_v37 : IVec S_ 1 := (fun x v => Host.reduce IntOp.andi x v reducesTo_S4096x512_S_d0_1 h_S_) main_v36 main_c_13
  let main_v38 : IVec S_ 1 := andi main_v33 main_v37
  let main_v39 : FVec F S4096x256 .f32 := Host.absf main_arg9
  let main_cst_14 : FVec F S_ .f32 := constant S_ .f32 0x7F800000#32
  let main_v40 : FVec F S4096x256 .f32 := broadcastInDim S4096x256 ![] bcast_S_S4096x256 main_cst_14
  let main_v41 : IVec S4096x256 1 := cmpf .olt main_v39 main_v40
  let main_c_15 : IVec S_ 1 := constantI S_ 1 1#1
  let main_v42 : IVec S_ 1 := (fun x v => Host.reduce IntOp.andi x v reducesTo_S4096x256_S_d0_1 h_S_) main_v41 main_c_15
  let main_v43 : IVec S_ 1 := andi main_v38 main_v42
  main_v43

def fn_part1 {F : FTy → Type} [FloatOps F] (main_arg5 : FVec F S4096x512 .f32) (main_arg6 : FVec F S4096x512 .f32) (main_arg7 : FVec F S4096x512 .f32) (main_arg8 : FVec F S4096x512 .f32) (main_arg9 : FVec F S4096x256 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S4096x512 .f32 := Host.absf main_arg5
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  let main_v24 : FVec F S4096x512 .f32 := Host.absf main_arg6
  let main_cst_8 : FVec F S_ .f32 := constant S_ .f32 0x7F800000#32
  let main_v25 : FVec F S4096x512 .f32 := broadcastInDim S4096x512 ![] bcast_S_S4096x512 main_cst_8
  let main_v26 : IVec S4096x512 1 := cmpf .olt main_v24 main_v25
  let main_c_9 : IVec S_ 1 := constantI S_ 1 1#1
  let main_v27 : IVec S_ 1 := (fun x v => Host.reduce IntOp.andi x v reducesTo_S4096x512_S_d0_1 h_S_) main_v26 main_c_9
  let main_v28 : IVec S_ 1 := andi main_v23 main_v27
  let main_v29 : FVec F S4096x512 .f32 := Host.absf main_arg7
  let main_cst_10 : FVec F S_ .f32 := constant S_ .f32 0x7F800000#32
  let main_v30 : FVec F S4096x512 .f32 := broadcastInDim S4096x512 ![] bcast_S_S4096x512 main_cst_10
  let main_v31 : IVec S4096x512 1 := cmpf .olt main_v29 main_v30
  let main_c_11 : IVec S_ 1 := constantI S_ 1 1#1
  let main_v32 : IVec S_ 1 := (fun x v => Host.reduce IntOp.andi x v reducesTo_S4096x512_S_d0_1 h_S_) main_v31 main_c_11
  let main_v33 : IVec S_ 1 := andi main_v28 main_v32
  fn_part2 (F := F) main_arg8 main_arg9 main_v33

def fn {F : FTy → Type} [FloatOps F] (main_arg0 : FVec F S1x4096x1024 .f32) (main_arg1 : FVec F S1x1024 .f32) (main_arg2 : FVec F S1x1024x2816 .f32) (main_arg3 : FVec F S4096x1024 .f32) (main_arg4 : FVec F S4096x512 .f32) (main_arg5 : FVec F S4096x512 .f32) (main_arg6 : FVec F S4096x512 .f32) (main_arg7 : FVec F S4096x512 .f32) (main_arg8 : FVec F S4096x512 .f32) (main_arg9 : FVec F S4096x256 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2816 .f32 := Host.absf main_arg2
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_c_3 : IVec S_ 1 := constantI S_ 1 1#1
  let main_v12 : IVec S_ 1 := (fun x v => Host.reduce IntOp.andi x v reducesTo_S1x1024x2816_S_d0_1_2 h_S_) main_v11 main_c_3
  let main_v13 : IVec S_ 1 := andi main_v8 main_v12
  let main_v14 : FVec F S4096x512 .f32 := Host.absf main_arg4
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg5 main_arg6 main_arg7 main_arg8 main_arg9 main_v13 main_v16
-- ==== Pre_finite_v.lean ====
abbrev S4096x1024 : Shape := ⟨2, ![4096, 1024]⟩
abbrev S1x1024 : Shape := ⟨2, ![1, 1024]⟩
abbrev S1x1024x2816 : Shape := ⟨3, ![1, 1024, 2816]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S4096x2816 : S_.BroadcastsInDim S4096x2816 (![] : Fin 0 → Fin S4096x2816.rank)
  reducesTo_S4096x2816_S_d0_1 : S4096x2816.ReducesTo [0, 1] S_

variable [Facts]

def fn_part1 {F : FTy → Type} [FloatOps F] (main_arg5 : FVec F S4096x2816 .f32) (main_arg6 : FVec F S4096x2816 .f32) (main_v13 : IVec S_ 1) (main_v16 : IVec S1x1024x2816 1) : IVec S_ 1 :=
  let main_c_5 : IVec S_ 1 := constantI S_ 1 1#1
  let main_v17 : IVec S_ 1 := (fun x v => Host.reduce IntOp.andi x v reducesTo_S1x1024x2816_S_d0_1_2 h_S_) main_v16 main_c_5
  let main_v18 : IVec S_ 1 := andi main_v13 main_v17
  let main_v19 : FVec F S4096x2816 .f32 := Host.absf main_arg5
  let main_cst_6 : FVec F S_ .f32 := constant S_ .f32 0x7F800000#32
  let main_v20 : FVec F S4096x2816 .f32 := broadcastInDim S4096x2816 ![] bcast_S_S4096x2816 main_cst_6
  let main_v21 : IVec S4096x2816 1 := cmpf .olt main_v19 main_v20
  let main_c_7 : IVec S_ 1 := constantI S_ 1 1#1
  let main_v22 : IVec S_ 1 := (fun x v => Host.reduce IntOp.andi x v reducesTo_S4096x2816_S_d0_1 h_S_) main_v21 main_c_7
  let main_v23 : IVec S_ 1 := andi main_v18 main_v22
  let main_v24 : FVec F S4096x2816 .f32 := Host.absf main_arg6
  let main_cst_8 : FVec F S_ .f32 := constant S_ .f32 0x7F800000#32
  let main_v25 : FVec F S4096x2816 .f32 := broadcastInDim S4096x2816 ![] bcast_S_S4096x2816 main_cst_8
  let main_v26 : IVec S4096x2816 1 := cmpf .olt main_v24 main_v25
  let main_c_9 : IVec S_ 1 := constantI S_ 1 1#1
  let main_v27 : IVec S_ 1 := (fun x v => Host.reduce IntOp.andi x v reducesTo_S4096x2816_S_d0_1 h_S_) main_v26 main_c_9
  let main_v28 : IVec S_ 1 := andi main_v23 main_v27
  main_v28

def fn {F : FTy → Type} [FloatOps F] (main_arg0 : FVec F S4096x1024 .f32) (main_arg1 : FVec F S1x1024 .f32) (main_arg2 : FVec F S1x1024x2816 .f32) (main_arg3 : FVec F S1x1024x2816 .f32) (main_arg4 : FVec F S4096x1024 .f32) (main_arg5 : FVec F S4096x2816 .f32) (main_arg6 : FVec F S4096x2816 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2816 .f32 := Host.absf main_arg2
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_c_3 : IVec S_ 1 := constantI S_ 1 1#1
  let main_v12 : IVec S_ 1 := (fun x v => Host.reduce IntOp.andi x v reducesTo_S1x1024x2816_S_d0_1_2 h_S_) main_v11 main_c_3
  let main_v13 : IVec S_ 1 := andi main_v8 main_v12
  let main_v14 : FVec F S1x1024x2816 .f32 := Host.absf main_arg3
  let main_cst_4 : FVec F S_ .f32 := constant S_ .f32 0x7F800000#32
  let main_v15 : FVec F S1x1024x2816 .f32 := broadcastInDim S1x1024x2816 ![] bcast_S_S1x1024x2816 main_cst_4
  let main_v16 : IVec S1x1024x2816 1 := cmpf .olt main_v14 main_v15
  fn_part1 (F := F) main_arg5 main_arg6 main_v13 main_v16
-- ==== KernelV.lean ====
abbrev S4096x1024 : Shape := ⟨2, ![4096, 1024]⟩
abbrev S1x1024 : Shape := ⟨2, ![1, 1024]⟩
abbrev S1x1024x2816 : Shape := ⟨3, ![1, 1024, 2816]⟩
abbrev S4096x2816 : Shape := ⟨2, ![4096, 2816]⟩
abbrev S1024x2816 : Shape := ⟨2, ![1024, 2816]⟩
abbrev S2816x1024 : Shape := ⟨2, ![2816, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 18
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .bf16⟩
  | .hbm, ⟨8, _⟩ => ⟨S4096x2816, .bf16⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S1024x2816, .f32⟩
  | .hbm, ⟨13, _⟩ => ⟨S2816x1024, .f32⟩
  | .hbm, ⟨14, _⟩ => ⟨S2816x1024, .bf16⟩
  | .hbm, ⟨15, _⟩ => ⟨S4096x1024, .f32⟩
  | .hbm, ⟨16, _⟩ => ⟨S4096x1024, .bf16⟩
  | .hbm, ⟨17, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceVIdeal.lean ====
abbrev S4096x1024 : Shape := ⟨2, ![4096, 1024]⟩
abbrev S1x1024 : Shape := ⟨2, ![1, 1024]⟩
abbrev S1x1024x2816 : Shape := ⟨3, ![1, 1024, 2816]⟩
abbrev S4096x2816 : Shape := ⟨2, ![4096, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1024x2816, .f32⟩
  | .hbm, ⟨29, _⟩ => ⟨S4096x2816, .f32⟩
  | .hbm, ⟨30, _⟩ => ⟨S1024x2816, .f32⟩
  | .hbm, ⟨31, _⟩ => ⟨S4096x2816, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | .hbm, ⟨62, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== KernelU.lean ====
abbrev S1x4096x1024 : Shape := ⟨3, ![1, 4096, 1024]⟩
abbrev S1x1024 : Shape := ⟨2, ![1, 1024]⟩
abbrev S1x1024x2816 : Shape := ⟨3, ![1, 1024, 2816]⟩
abbrev S4096x1024 : Shape := ⟨2, ![4096, 1024]⟩
abbrev S4096x512 : Shape := ⟨2, ![4096, 512]⟩
abbrev S4096x256 : Shape := ⟨2, ![4096, 256]⟩
abbrev S1024x2816 : Shape := ⟨2, ![1024, 2816]⟩
abbrev S2816x1024 : Shape := ⟨2, ![2816, 1024]⟩
abbrev S512x512 : Shape := ⟨2, ![512, 512]⟩
abbrev S512x256 : Shape := ⟨2, ![512, 256]⟩
abbrev S512x1024 : Shape := ⟨2, ![512, 1024]⟩
abbrev S256x1024 : Shape := ⟨2, ![256, 1024]⟩
abbrev S512 : Shape := ⟨1, ![512]⟩
abbrev S512x1 : Shape := ⟨2, ![512, 1]⟩
abbrev S1024 : Shape := ⟨1, ![1024]⟩

abbrev nBuf : Space → Nat
  | .hbm => 22
  | .vmem => 21
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2816, .f32⟩
  | .hbm, ⟨3, _⟩ => ⟨S4096x1024, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x256, .f32⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S4096x512, .bf16⟩
  | .hbm, ⟨15, _⟩ => ⟨S4096x256, .bf16⟩
  | .hbm, ⟨16, _⟩ => ⟨S1024x2816, .f32⟩
  | .hbm, ⟨17, _⟩ => ⟨S2816x1024, .f32⟩
  | .hbm, ⟨18, _⟩ => ⟨S2816x1024, .bf16⟩
  | .hbm, ⟨19, _⟩ => ⟨S4096x1024, .f32⟩
  | .hbm, ⟨20, _⟩ => ⟨S4096x1024, .f32⟩
  | .hbm, ⟨21, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x256, .bf16⟩
  | .local _ .vmem, ⟨11, _⟩ => ⟨S512x256, .bf16⟩
  | .local _ .vmem, ⟨12, _⟩ => ⟨S2816x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceUIdeal.lean ====
abbrev S1x4096x1024 : Shape := ⟨3, ![1, 4096, 1024]⟩
abbrev S1x1024 : Shape := ⟨2, ![1, 1024]⟩
abbrev S1x1024x2816 : Shape := ⟨3, ![1, 1024, 2816]⟩
abbrev S4096x1024 : Shape := ⟨2, ![4096, 1024]⟩
abbrev S4096x512 : Shape := ⟨2, ![4096, 512]⟩
abbrev S4096x256 : Shape := ⟨2, ![4096, 256]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S4096x768 : Shape := ⟨2, ![4096, 768]⟩

abbrev nBuf : Space → Nat
  | .hbm => 73
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2816, .f32⟩
  | .hbm, ⟨3, _⟩ => ⟨S4096x1024, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x256, .f32⟩
  | .hbm, ⟨10, _⟩ => ⟨S4096x1024, .f32⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1024x2816, .f32⟩
  | .hbm, ⟨33, _⟩ => ⟨S4096x2816, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x768, .f32⟩
  | .hbm, ⟨39, _⟩ => ⟨S4096x512, .f32⟩
  | .hbm, ⟨40, _⟩ => ⟨S4096x256, .f32⟩
  | .hbm, ⟨41, _⟩ => ⟨S4096x768, .f32⟩
  | .hbm, ⟨42, _⟩ => ⟨S4096x2816, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S1x1024, .f32⟩
  | .hbm, ⟨71, _⟩ => ⟨S1x4096x1024, .f32⟩
  | .hbm, ⟨72, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== KernelD.lean ====
abbrev S4096x1024 : Shape := ⟨2, ![4096, 1024]⟩
abbrev S4096x2816 : Shape := ⟨2, ![4096, 2816]⟩
abbrev S1x2816x1024 : Shape := ⟨3, ![1, 2816, 1024]⟩
abbrev S1024 : Shape := ⟨1, ![1024]⟩
abbrev S1x4096x1024 : Shape := ⟨3, ![1, 4096, 1024]⟩
abbrev S2816x1024 : Shape := ⟨2, ![2816, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S1x2816x1024, .f32⟩
  | .hbm, ⟨3, _⟩ => ⟨S1024, .f32⟩
  | .hbm, ⟨4, _⟩ => ⟨S1x4096x1024, .f32⟩
  | .hbm, ⟨5, _⟩ => ⟨S4096x2816, .bf16⟩
  | .hbm, ⟨6, _⟩ => ⟨S2816x1024, .f32⟩
  | .hbm, ⟨7, _⟩ => ⟨S2816x1024, .bf16⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S1x1024, .f32⟩
  | .hbm, ⟨13, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceDIdeal.lean ====
abbrev S4096x1024 : Shape := ⟨2, ![4096, 1024]⟩
abbrev S4096x2816 : Shape := ⟨2, ![4096, 2816]⟩
abbrev S1x2816x1024 : Shape := ⟨3, ![1, 2816, 1024]⟩
abbrev S1024 : Shape := ⟨1, ![1024]⟩
abbrev S1x4096x1024 : Shape := ⟨3, ![1, 4096, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 110
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S1x2816x1024, .f32⟩
  | .hbm, ⟨3, _⟩ => ⟨S1024, .f32⟩
  | .hbm, ⟨4, _⟩ => ⟨S1x4096x1024, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S2816x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S4096x1, .f32⟩
  | .hbm, ⟨91, _⟩ => ⟨S4096x1024, .f32⟩
  | .hbm, ⟨92, _⟩ => ⟨S4096x1024, .f32⟩
  | .hbm, ⟨93, _⟩ => ⟨S1x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S_, .f32⟩
  | .hbm, ⟨100, _⟩ => ⟨S4096x1024, .f32⟩
  | .hbm, ⟨101, _⟩ => ⟨S4096x1024, .f32⟩
  | .hbm, ⟨102, _⟩ => ⟨S_, .f32⟩
  | .hbm, ⟨103, _⟩ => ⟨S1024, .f32⟩
  | .hbm, ⟨104, _⟩ => ⟨S_, .f32⟩
  | .hbm, ⟨105, _⟩ => ⟨S1024, .f32⟩
  | .hbm, ⟨106, _⟩ => ⟨S1024, .f32⟩
  | .hbm, ⟨107, _⟩ => ⟨S4096x1024, .bf16⟩
  | .hbm, ⟨108, _⟩ => ⟨S1x1024, .f32⟩
  | .hbm, ⟨109, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_cst_18 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_19 : Ref sig .tc := ⟨.hbm, 99, rfl⟩
abbrev main_v74 : Ref sig .tc := ⟨.hbm, 100, rfl⟩
abbrev main_v75 : Ref sig .tc := ⟨.hbm, 101, rfl⟩
abbrev main_cst_20 : Ref sig .tc := ⟨.hbm, 102, rfl⟩
abbrev main_v76 : Ref sig .tc := ⟨.hbm, 103, rfl⟩
abbrev main_cst_21 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩

abbrev nD : Nat := 1
abbrev τ : Topo := Topo.v7x

variable {F : FTy → Type} [FloatOps F]
-- ==== KernelA.lean ====
abbrev S4096x768 : Shape := ⟨2, ![4096, 768]⟩
abbrev S1x768 : Shape := ⟨2, ![1, 768]⟩
abbrev S1x8 : Shape := ⟨2, ![1, 8]⟩
abbrev S4096x512 : Shape := ⟨2, ![4096, 512]⟩
abbrev S4096x256 : Shape := ⟨2, ![4096, 256]⟩
abbrev S8x128 : Shape := ⟨2, ![8, 128]⟩
abbrev S1x512 : Shape := ⟨2, ![1, 512]⟩
abbrev S1x256 : Shape := ⟨2, ![1, 256]⟩
abbrev S128x768 : Shape := ⟨2, ![128, 768]⟩
abbrev S128x512 : Shape := ⟨2, ![128, 512]⟩
abbrev S128x256 : Shape := ⟨2, ![128, 256]⟩
abbrev S256x512 : Shape := ⟨2, ![256, 512]⟩
abbrev S256x64 : Shape := ⟨2, ![256, 64]⟩
abbrev S128x64 : Shape := ⟨2, ![128, 64]⟩
abbrev S1x64 : Shape := ⟨2, ![1, 64]⟩
abbrev S512x64 : Shape := ⟨2, ![512, 64]⟩
abbrev S1x1 : Shape := ⟨2, ![1, 1]⟩
abbrev S1x128 : Shape := ⟨2, ![1, 128]⟩
abbrev S512 : Shape := ⟨1, ![512]⟩
abbrev S1 : Shape := ⟨1, ![1]⟩
abbrev S256 : Shape := ⟨1, ![256]⟩

abbrev nBuf : Space → Nat
  | .hbm => 9
  | .vmem => 15
  | .smem => 1
  | _ => 0

abbrev bufTy : (tb : Table) → Fin (tcTables nBuf tb) → BufTy
  | .hbm, ⟨0, _⟩ => ⟨S4096x768, .f32⟩
  | .hbm, ⟨1, _⟩ => ⟨S1x768, .f32⟩
  | .hbm, ⟨2, _⟩ => ⟨S1x8, .f32⟩
  | .hbm, ⟨3, _⟩ => ⟨S4096x512, .f32⟩
  | .hbm, ⟨4, _⟩ => ⟨S4096x512, .bf16⟩
  | .hbm, ⟨5, _⟩ => ⟨S4096x256, .bf16⟩
  | .hbm, ⟨6, _⟩ => ⟨S8x128, .f32⟩
  | .hbm, ⟨7, _⟩ => ⟨S1x512, .f32⟩
  | .hbm, ⟨8, _⟩ => ⟨S1x256, .f32⟩
  | .local _ .vmem, ⟨0, _⟩ => ⟨S128x768, .f32⟩
  | .local _ .vmem, ⟨1, _⟩ => ⟨S128x768, .f32⟩
  | .local _ .vmem, ⟨2, _⟩ => ⟨S128x768, .f32⟩
  | .local _ .vmem, ⟨3, _⟩ => ⟨S128x768, .f32⟩
  | .local _ .vmem, ⟨4, _⟩ => ⟨S1x768, .f32⟩
  | .local _ .vmem, ⟨5, _⟩ => ⟨S128x512, .f32⟩
  | .local _ .vmem, ⟨6, _⟩ => ⟨S128x512, .f32⟩
  | .local _ .vmem, ⟨7, _⟩ => ⟨S128x512, .bf16⟩
  | .local _ .vmem, ⟨8, _⟩ => ⟨S128x512, .bf16⟩
  | .local _ .vmem, ⟨9, _⟩ => ⟨S128x256, .bf16⟩
  | .local _ .vmem, ⟨10, _⟩ => ⟨S128x256, .bf16⟩
  | .local _ .vmem, ⟨11, _⟩ => ⟨S8x128, .f32⟩
  | .local _ .vmem, ⟨12, _⟩ => ⟨S1x512, .f32⟩
  | .local _ .vmem, ⟨13, _⟩ => ⟨S1x256, .f32⟩
  | .local _ .vmem, ⟨14, _⟩ => ⟨S128x256, .f32⟩
  | .local _ .smem, ⟨0, _⟩ => ⟨S1x8, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelAIdeal.lean ====
variable {F : FTy → Type} [FloatOps F] [Named F]
def κ : String → Option EReal := fun
  | "mask" => some ⊥
  | _ => none
-- ==== ReferenceAIdeal.lean ====
abbrev S4096x768 : Shape := ⟨2, ![4096, 768]⟩
abbrev S1x768 : Shape := ⟨2, ![1, 768]⟩
abbrev S1x8 : Shape := ⟨2, ![1, 8]⟩
abbrev S4096x512 : Shape := ⟨2, ![4096, 512]⟩
abbrev S768 : Shape := ⟨1, ![768]⟩
abbrev S4096x128 : Shape := ⟨2, ![4096, 128]⟩
abbrev S4096x8x64 : Shape := ⟨3, ![4096, 8, 64]⟩
abbrev S4096x2x64 : Shape := ⟨3, ![4096, 2, 64]⟩
abbrev S8 : Shape := ⟨1, ![8]⟩
abbrev S32x128x2x4x64 : Shape := ⟨5, ![32, 128, 2, 4, 64]⟩
abbrev S_ : Shape := ⟨0, ![]⟩
abbrev S128x2x64 : Shape := ⟨3, ![128, 2, 64]⟩
abbrev S4224x2x64 : Shape := ⟨3, ![4224, 2, 64]⟩
abbrev S33x128x2x64 : Shape := ⟨4, ![33, 128, 2, 64]⟩
abbrev S32x128x2x64 : Shape := ⟨4, ![32, 128, 2, 64]⟩
abbrev S32x256x2x64 : Shape := ⟨4, ![32, 256, 2, 64]⟩
abbrev S32x2x256x128x4 : Shape := ⟨5, ![32, 2, 256, 128, 4]⟩
abbrev S32x2x4x128x256 : Shape := ⟨5, ![32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S32x1x1x128x256 : Shape := ⟨5, ![32, 1, 1, 128, 256]⟩
abbrev S2x4 : Shape := ⟨2, ![2, 4]⟩
abbrev S1x2x4x1x1 : Shape := ⟨5, ![1, 2, 4, 1, 1]⟩
abbrev S32x2x4x128 : Shape := ⟨4, ![32, 2, 4, 128]⟩
abbrev S32x2x4x128x1 : Shape := ⟨5, ![32, 2, 4, 128, 1]⟩
abbrev S32x2x64x4x128 : Shape := ⟨5, ![32, 2, 64, 4, 128]⟩
abbrev S32x2x64x256 : Shape := ⟨4, ![32, 2, 64, 256]⟩
abbrev S2x4x1 : Shape := ⟨3, ![2, 4, 1]⟩
abbrev S32x2x128x4x64 : Shape := ⟨5, ![32, 2, 128, 4, 64]⟩
abbrev S32x2x256x64 : Shape := ⟨4, ![32, 2, 256, 64]⟩
abbrev S4096x256 : Shape := ⟨2, ![4096, 256]⟩
abbrev S8x1 : Shape := ⟨2, ![8, 1]⟩
abbrev S8x128 : Shape := ⟨2, ![8, 128]⟩
abbrev S1x512 : Shape := ⟨2, ![1, 512]⟩

abbrev nBuf : Space → Nat
  | .hbm => 236
  | .vmem => 0
  | .smem => 0
  | _ => 0

abbrev hbmTy0_0 (i : Nat) : BufTy := match i % 128 with
  | 0 => ⟨S4096x768, .f32⟩
  | 1 => ⟨S1x768, .f32⟩
  | 2 => ⟨S1x8, .f32⟩
  | 3 => ⟨S4096x512, .f32⟩
  | 4 => ⟨S768, .f32⟩
  | 5 => ⟨S1x768, .f32⟩
  | 6 => ⟨S4096x768, .f32⟩
  | 7 => ⟨S4096x768, .f32⟩
  | 8 => ⟨S4096x512, .f32⟩
  | 9 => ⟨S4096x128, .f32⟩
  | 10 => ⟨S4096x128, .f32⟩
  | 11 => ⟨S4096x8x64, .f32⟩
  | 12 => ⟨S4096x2x64, .f32⟩
  | 13 => ⟨S4096x2x64, .f32⟩
  | 14 => ⟨S8, .f32⟩
  | 15 => ⟨S32x128x2x4x64, .f32⟩
  | 16 => ⟨S_, .f32⟩
  | 17 => ⟨S128x2x64, .f32⟩
  | 18 => ⟨S4224x2x64, .f32⟩
  | 19 => ⟨S_, .f32⟩
  | 20 => ⟨S128x2x64, .f32⟩
  | 21 => ⟨S33x128x2x64, .f32⟩
  | 22 => ⟨S32x128x2x64, .f32⟩
  | 23 => ⟨S32x128x2x64, .f32⟩
  | 24 => ⟨S32x256x2x64, .f32⟩
  | 25 => ⟨S_, .f32⟩
  | 26 => ⟨S128x2x64, .f32⟩
  | 27 => ⟨S4224x2x64, .f32⟩
  | 28 => ⟨S_, .f32⟩
  | 29 => ⟨S128x2x64, .f32⟩
  | 30 => ⟨S33x128x2x64, .f32⟩
  | 31 => ⟨S32x128x2x64, .f32⟩
  | 32 => ⟨S32x128x2x64, .f32⟩
  | 33 => ⟨S32x256x2x64, .f32⟩
  | 34 => ⟨S32x2x256x128x4, .f32⟩
  | 35 => ⟨S32x2x4x128x256, .f32⟩
  | 36 => ⟨S_, .f32⟩
  | 37 => ⟨S32x2x4x128x256, .f32⟩
  | 38 => ⟨S32x2x4x128x256, .f32⟩
  | 39 => ⟨S128, .i32⟩
  | 40 => ⟨S128x1, .i32⟩
  | 41 => ⟨S256, .i32⟩
  | 42 => ⟨S1x256, .i32⟩
  | 43 => ⟨S_, .i32⟩
  | 44 => ⟨S128x1, .i32⟩
  | 45 => ⟨S128x1, .i32⟩
  | 46 => ⟨S128x256, .i32⟩
  | 47 => ⟨S128x256, .i32⟩
  | 48 => ⟨S128x256, .i32⟩
  | 49 => ⟨S_, .i32⟩
  | 50 => ⟨S128x256, .i32⟩
  | 51 => ⟨S128x256, .i1⟩
  | 52 => ⟨S_, .i32⟩
  | 53 => ⟨S128x256, .i32⟩
  | 54 => ⟨S128x256, .i1⟩
  | 55 => ⟨S128x256, .i1⟩
  | 56 => ⟨S32, .i32⟩
  | 57 => ⟨S32x1, .i32⟩
  | 58 => ⟨S_, .i32⟩
  | 59 => ⟨S32x1, .i32⟩
  | 60 => ⟨S32x1, .i32⟩
  | 61 => ⟨S256, .i32⟩
  | 62 => ⟨S1x256, .i32⟩
  | 63 => ⟨S32x256, .i32⟩
  | 64 => ⟨S32x256, .i32⟩
  | 65 => ⟨S32x256, .i32⟩
  | 66 => ⟨S_, .i32⟩
  | 67 => ⟨S32x256, .i32⟩
  | 68 => ⟨S32x256, .i32⟩
  | 69 => ⟨S1x128x256, .i1⟩
  | 70 => ⟨S_, .i32⟩
  | 71 => ⟨S32x256, .i32⟩
  | 72 => ⟨S32x256, .i1⟩
  | 73 => ⟨S32x1x256, .i1⟩
  | 74 => ⟨S32x128x256, .i1⟩
  | 75 => ⟨S32x128x256, .i1⟩
  | 76 => ⟨S32x128x256, .i1⟩
  | 77 => ⟨S32x1x1x128x256, .i1⟩
  | 78 => ⟨S_, .f32⟩
  | 79 => ⟨S_, .f32⟩
  | 80 => ⟨S32x2x4x128x256, .i1⟩
  | 81 => ⟨S32x2x4x128x256, .f32⟩
  | 82 => ⟨S32x2x4x128x256, .f32⟩
  | 83 => ⟨S_, .f32⟩
  | 84 => ⟨S32x2x4x128x256, .f32⟩
  | 85 => ⟨S2x4, .f32⟩
  | 86 => ⟨S1x2x4x1x1, .f32⟩
  | 87 => ⟨S_, .f32⟩
  | 88 => ⟨S32x2x4x128, .f32⟩
  | 89 => ⟨S32x2x4x128x1, .f32⟩
  | 90 => ⟨S32x2x4x128x256, .f32⟩
  | 91 => ⟨S32x2x4x128x256, .i1⟩
  | 92 => ⟨S32x2x4x128x256, .f32⟩
  | 93 => ⟨S_, .f32⟩
  | 94 => ⟨S32x2x4x128, .f32⟩
  | 95 => ⟨S32x2x4x128x1, .f32⟩
  | 96 => ⟨S32x2x4x128x1, .f32⟩
  | 97 => ⟨S32x2x4x128x1, .f32⟩
  | 98 => ⟨S32x2x4x128x1, .f32⟩
  | 99 => ⟨S32x2x4x128x1, .i1⟩
  | 100 => ⟨S32x2x4x128x1, .f32⟩
  | 101 => ⟨S32x2x4x128x1, .i1⟩
  | 102 => ⟨S_, .f32⟩
  | 103 => ⟨S32x2x4x128x1, .f32⟩
  | 104 => ⟨S_, .f32⟩
  | 105 => ⟨S32x2x4x128x1, .f32⟩
  | 106 => ⟨S_, .f32⟩
  | 107 => ⟨S32x2x4x128x1, .f32⟩
  | 108 => ⟨S32x2x4x128x1, .f32⟩
  | 109 => ⟨S32x2x4x128x1, .f32⟩
  | 110 => ⟨S32x2x4x128x1, .f32⟩
  | 111 => ⟨S32x2x4x128x1, .i1⟩
  | 112 => ⟨S32x2x4x128x1, .f32⟩
  | 113 => ⟨S32x2x4x128x1, .i1⟩
  | 114 => ⟨S_, .f32⟩
  | 115 => ⟨S32x2x4x128x1, .f32⟩
  | 116 => ⟨S_, .f32⟩
  | 117 => ⟨S32x2x4x128x1, .f32⟩
  | 118 => ⟨S_, .f32⟩
  | 119 => ⟨S32x2x4x128x1, .f32⟩
  | 120 => ⟨S32x2x4x128x1, .f32⟩
  | 121 => ⟨S32x2x4x128x1, .f32⟩
  | 122 => ⟨S32x2x4x128x256, .f32⟩
  | 123 => ⟨S32x2x4x128x256, .f32⟩
  | 124 => ⟨S32x2x4x128x256, .f32⟩
  | 125 => ⟨S_, .f32⟩
  | 126 => ⟨S32x2x4x128, .f32⟩
  | 127 => ⟨S32x2x4x128x1, .f32⟩
  | _ => ⟨S4096x768, .f32⟩

abbrev hbmTy0_1 (i : Nat) : BufTy := match i % 128 with
  | 0 => ⟨S32x2x4x128x1, .f32⟩
  | 1 => ⟨S32x2x4x128x1, .f32⟩
  | 2 => ⟨S32x2x4x128x1, .f32⟩
  | 3 => ⟨S32x2x4x128x1, .f32⟩
  | 4 => ⟨S32x2x4x128x256, .f32⟩
  | 5 => ⟨S32x2x4x128x256, .f32⟩
  | 6 => ⟨S32x2x4x128x1, .f32⟩
  | 7 => ⟨S_, .f32⟩
  | 8 => ⟨S32x2x4x128x1, .f32⟩
  | 9 => ⟨S32x2x4x128x1, .f32⟩
  | 10 => ⟨S32x2x64x4x128, .f32⟩
  | 11 => ⟨S32x128x2x4x64, .f32⟩
  | 12 => ⟨S4096x512, .f32⟩
  | 13 => ⟨S32x128x2x4x64, .f32⟩
  | 14 => ⟨S32x2x64x4x128, .f32⟩
  | 15 => ⟨S32x2x4x128x256, .f32⟩
  | 16 => ⟨S32x2x64x256, .f32⟩
  | 17 => ⟨S32x256x2x64, .f32⟩
  | 18 => ⟨S32x2x4x128x256, .f32⟩
  | 19 => ⟨S32x2x4x128x256, .f32⟩
  | 20 => ⟨S32x2x4x128x256, .f32⟩
  | 21 => ⟨S_, .f32⟩
  | 22 => ⟨S32x2x4x128, .f32⟩
  | 23 => ⟨S32x2x4x128x1, .f32⟩
  | 24 => ⟨S32x2x4x128x1, .f32⟩
  | 25 => ⟨S32x2x4x128x256, .f32⟩
  | 26 => ⟨S32x2x4x128x256, .f32⟩
  | 27 => ⟨S32x2x4x128x1, .f32⟩
  | 28 => ⟨S_, .f32⟩
  | 29 => ⟨S2x4x1, .f32⟩
  | 30 => ⟨S1x2x4x1x1, .f32⟩
  | 31 => ⟨S32x2x4x128x1, .f32⟩
  | 32 => ⟨S_, .f32⟩
  | 33 => ⟨S32x2x4x128, .f32⟩
  | 34 => ⟨S32x2x4x128x256, .f32⟩
  | 35 => ⟨S32x2x4x128x256, .f32⟩
  | 36 => ⟨S32x2x4x128x256, .f32⟩
  | 37 => ⟨S32x2x4x128x256, .f32⟩
  | 38 => ⟨S_, .f32⟩
  | 39 => ⟨S32x2x4x128, .f32⟩
  | 40 => ⟨S32x2x4x128x1, .f32⟩
  | 41 => ⟨S32x2x4x128x1, .f32⟩
  | 42 => ⟨S32x2x4x128x1, .f32⟩
  | 43 => ⟨S_, .f32⟩
  | 44 => ⟨S2x4x1, .f32⟩
  | 45 => ⟨S1x2x4x1x1, .f32⟩
  | 46 => ⟨S1x2x4x1x1, .f32⟩
  | 47 => ⟨S32x2x4x128x1, .f32⟩
  | 48 => ⟨S_, .f32⟩
  | 49 => ⟨S32x2x4x128, .f32⟩
  | 50 => ⟨S32x2x4x128, .f32⟩
  | 51 => ⟨S32x2x4x128x256, .f32⟩
  | 52 => ⟨S32x2x4x128x256, .f32⟩
  | 53 => ⟨S32x2x4x128x256, .f32⟩
  | 54 => ⟨S_, .f32⟩
  | 55 => ⟨S2x4, .f32⟩
  | 56 => ⟨S8, .f32⟩
  | 57 => ⟨S_, .f32⟩
  | 58 => ⟨S32x2x4x128x256, .f32⟩
  | 59 => ⟨S32x2x4x128x256, .f32⟩
  | 60 => ⟨S_, .f32⟩
  | 61 => ⟨S32x2x4x128x256, .f32⟩
  | 62 => ⟨S32x2x4x128x256, .f32⟩
  | 63 => ⟨S32x2x256x128x4, .f32⟩
  | 64 => ⟨S32x2x128x4x64, .f32⟩
  | 65 => ⟨S32x128x2x4x64, .f32⟩
  | 66 => ⟨S32x2x256x64, .f32⟩
  | 67 => ⟨S32x256x2x64, .f32⟩
  | 68 => ⟨S32x128x2x64, .f32⟩
  | 69 => ⟨S32x128x2x64, .f32⟩
  | 70 => ⟨S_, .f32⟩
  | 71 => ⟨S33x128x2x64, .f32⟩
  | 72 => ⟨S_, .f32⟩
  | 73 => ⟨S33x128x2x64, .f32⟩
  | 74 => ⟨S33x128x2x64, .f32⟩
  | 75 => ⟨S4224x2x64, .f32⟩
  | 76 => ⟨S128x2x64, .f32⟩
  | 77 => ⟨S4096x2x64, .f32⟩
  | 78 => ⟨S32x128x2x64, .f32⟩
  | 79 => ⟨S32x128x2x64, .f32⟩
  | 80 => ⟨S_, .f32⟩
  | 81 => ⟨S33x128x2x64, .f32⟩
  | 82 => ⟨S_, .f32⟩
  | 83 => ⟨S33x128x2x64, .f32⟩
  | 84 => ⟨S33x128x2x64, .f32⟩
  | 85 => ⟨S4224x2x64, .f32⟩
  | 86 => ⟨S128x2x64, .f32⟩
  | 87 => ⟨S4096x2x64, .f32⟩
  | 88 => ⟨S4096x8x64, .f32⟩
  | 89 => ⟨S1x8, .f32⟩
  | 90 => ⟨S4096x128, .f32⟩
  | 91 => ⟨S4096x128, .f32⟩
  | 92 => ⟨S4096x512, .f32⟩
  | 93 => ⟨S4096x768, .f32⟩
  | 94 => ⟨S_, .f32⟩
  | 95 => ⟨S768, .f32⟩
  | 96 => ⟨S1x768, .f32⟩
  | 97 => ⟨S_, .f32⟩
  | 98 => ⟨S768, .f32⟩
  | 99 => ⟨S1x768, .f32⟩
  | 100 => ⟨S4096x512, .f32⟩
  | 101 => ⟨S4096x512, .bf16⟩
  | 102 => ⟨S4096x256, .f32⟩
  | 103 => ⟨S4096x256, .bf16⟩
  | 104 => ⟨S8x1, .f32⟩
  | 105 => ⟨S8x128, .f32⟩
  | 106 => ⟨S1x512, .f32⟩
  | 107 => ⟨S1x256, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_v40 : Ref sig .tc := ⟨.hbm, 51, rfl⟩
abbrev main_c_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_c_7 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_c_8 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_9 : Ref sig .tc := ⟨.hbm, 78, rfl⟩
abbrev main_call0_v0 : Ref sig .tc := ⟨.hbm, 79, rfl⟩
abbrev main_v63_1 : Ref sig .tc := ⟨.hbm, 80, rfl⟩
abbrev main_call0_v2 : Ref sig .tc := ⟨.hbm, 81, rfl⟩
abbrev main_v63_0 : Ref sig .tc := ⟨.hbm, 82, rfl⟩
abbrev main_call0_cst : Ref sig .tc := ⟨.hbm, 83, rfl⟩
abbrev main_v63_2 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_11 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_12 : Ref sig .tc := ⟨.hbm, 102, rfl⟩
abbrev main_v79 : Ref sig .tc := ⟨.hbm, 103, rfl⟩
abbrev main_cst_13 : Ref sig .tc := ⟨.hbm, 104, rfl⟩
abbrev main_v80 : Ref sig .tc := ⟨.hbm, 105, rfl⟩
abbrev main_cst_14 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_15 : Ref sig .tc := ⟨.hbm, 114, rfl⟩
abbrev main_v88 : Ref sig .tc := ⟨.hbm, 115, rfl⟩
abbrev main_cst_16 : Ref sig .tc := ⟨.hbm, 116, rfl⟩
abbrev main_v89 : Ref sig .tc := ⟨.hbm, 117, rfl⟩
abbrev main_cst_17 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_18 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_19 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_cst_20 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_21 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_cst_22 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_cst_23 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_cst_24 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_cst_25 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_cst_26 : Ref sig .tc := ⟨.hbm, 182, rfl⟩
abbrev main_v145 : Ref sig .tc := ⟨.hbm, 183, rfl⟩
abbrev main_v146 : Ref sig .tc := ⟨.hbm, 184, rfl⟩
abbrev main_call1_cst : Ref sig .tc := ⟨.hbm, 185, rfl⟩
abbrev main_call1_v0 : Ref sig .tc := ⟨.hbm, 186, rfl⟩
abbrev main_v147 : Ref sig .tc := ⟨.hbm, 187, rfl⟩
abbrev main_cst_27 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_cst_28 : Ref sig .tc := ⟨.hbm, 198, rfl⟩
abbrev main_v157 : Ref sig .tc := ⟨.hbm, 199, rfl⟩
abbrev main_cst_29 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_cst_30 : Ref sig .tc := ⟨.hbm, 208, rfl⟩
abbrev main_v165 : Ref sig .tc := ⟨.hbm, 209, rfl⟩
abbrev main_cst_31 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_cst_32 : Ref sig .tc := ⟨.hbm, 222, rfl⟩
abbrev main_v177 : Ref sig .tc := ⟨.hbm, 223, rfl⟩
abbrev main_v178 : Ref sig .tc := ⟨.hbm, 224, rfl⟩
abbrev main_cst_33 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩

abbrev nD : Nat := 1
abbrev τ : Topo := Topo.v7x

variable {F : FTy → Type} [FloatOps F]
-- ==== KernelM.lean ====
abbrev S4096x512 : Shape := ⟨2, ![4096, 512]⟩
abbrev S1x128 : Shape := ⟨2, ![1, 128]⟩
abbrev S1x1024x1024 : Shape := ⟨3, ![1, 1024, 1024]⟩
abbrev S4096x1024 : Shape := ⟨2, ![4096, 1024]⟩
abbrev S1024x1024 : Shape := ⟨2, ![1024, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 12
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x128, .f32⟩
  | .hbm, ⟨3, _⟩ => ⟨S1x1024x1024, .f32⟩
  | .hbm, ⟨4, _⟩ => ⟨S4096x1024, .f32⟩
  | .hbm, ⟨5, _⟩ => ⟨S4096x1024, .bf16⟩
  | .hbm, ⟨6, _⟩ => ⟨S1024x1024, .f32⟩
  | .hbm, ⟨7, _⟩ => ⟨S1024x1024, .bf16⟩
  | .hbm, ⟨8, _⟩ => ⟨S4096x512, .f32⟩
  | .hbm, ⟨9, _⟩ => ⟨S4096x512, .bf16⟩
  | .hbm, ⟨10, _⟩ => ⟨S4096x512, .f32⟩
  | .hbm, ⟨11, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x128, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S1x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceMIdeal.lean ====
abbrev S4096x512 : Shape := ⟨2, ![4096, 512]⟩
abbrev S1x128 : Shape := ⟨2, ![1, 128]⟩
abbrev S1x1024x1024 : Shape := ⟨3, ![1, 1024, 1024]⟩
abbrev S4096x1024 : Shape := ⟨2, ![4096, 1024]⟩
abbrev S_ : Shape := ⟨0, ![]⟩
abbrev S4096x4x128 : Shape := ⟨3, ![4096, 4, 128]⟩
abbrev S128 : Shape := ⟨1, ![128]⟩
abbrev S4096x4 : Shape := ⟨2, ![4096, 4]⟩
abbrev S4096x4x1 : Shape := ⟨3, ![4096, 4, 1]⟩
abbrev S1x1x128 : Shape := ⟨3, ![1, 1, 128]⟩
abbrev S1024x1024 : Shape := ⟨2, ![1024, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x128, .f32⟩
  | .hbm, ⟨3, _⟩ => ⟨S1x1024x1024, .f32⟩
  | .hbm, ⟨4, _⟩ => ⟨S4096x1024, .f32⟩
  | .hbm, ⟨5, _⟩ => ⟨S_, .f32⟩
  | .hbm, ⟨6, _⟩ => ⟨S4096x512, .f32⟩
  | .hbm, ⟨7, _⟩ => ⟨S4096x4x128, .f32⟩
  | .hbm, ⟨8, _⟩ => ⟨S128, .f32⟩
  | .hbm, ⟨9, _⟩ => ⟨S4096x4x128, .f32⟩
  | .hbm, ⟨10, _⟩ => ⟨S_, .f32⟩
  | .hbm, ⟨11, _⟩ => ⟨S4096x4, .f32⟩
  | .hbm, ⟨12, _⟩ => ⟨S4096x4x1, .f32⟩
  | .hbm, ⟨13, _⟩ => ⟨S_, .f32⟩
  | .hbm, ⟨14, _⟩ => ⟨S4096x4x1, .f32⟩
  | .hbm, ⟨15, _⟩ => ⟨S4096x4x1, .f32⟩
  | .hbm, ⟨16, _⟩ => ⟨S_, .f32⟩
  | .hbm, ⟨17, _⟩ => ⟨S4096x4x1, .f32⟩
  | .hbm, ⟨18, _⟩ => ⟨S4096x4x1, .f32⟩
  | .hbm, ⟨19, _⟩ => ⟨S4096x4x1, .f32⟩
  | .hbm, ⟨20, _⟩ => ⟨S4096x4x1, .f32⟩
  | .hbm, ⟨21, _⟩ => ⟨S_, .f32⟩
  | .hbm, ⟨22, _⟩ => ⟨S4096x4x1, .f32⟩
  | .hbm, ⟨23, _⟩ => ⟨S4096x4x1, .f32⟩
  | .hbm, ⟨24, _⟩ => ⟨S4096x4x128, .f32⟩
  | .hbm, ⟨25, _⟩ => ⟨S4096x4x128, .f32⟩
  | .hbm, ⟨26, _⟩ => ⟨S1x1x128, .f32⟩
  | .hbm, ⟨27, _⟩ => ⟨S4096x4x128, .f32⟩
  | .hbm, ⟨28, _⟩ => ⟨S4096x4x128, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x1024, .f32⟩
  | .hbm, ⟨45, _⟩ => ⟨S1024x1024, .f32⟩
  | .hbm, ⟨46, _⟩ => ⟨S4096x1024, .f32⟩
  | .hbm, ⟨47, _⟩ => ⟨S4096x1024, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x4x128, .f32⟩
  | .hbm, ⟨57, _⟩ => ⟨S4096x4x128, .f32⟩
  | .hbm, ⟨58, _⟩ => ⟨S_, .f32⟩
  | .hbm, ⟨59, _⟩ => ⟨S128, .f32⟩
  | .hbm, ⟨60, _⟩ => ⟨S1x1x128, .f32⟩
  | .hbm, ⟨61, _⟩ => ⟨S4096x4x128, .f32⟩
  | .hbm, ⟨62, _⟩ => ⟨S4096x4x128, .f32⟩
  | .hbm, ⟨63, _⟩ => ⟨S_, .f32⟩
  | .hbm, ⟨64, _⟩ => ⟨S128, .f32⟩
  | .hbm, ⟨65, _⟩ => ⟨S4096x4x128, .f32⟩
  | .hbm, ⟨66, _⟩ => ⟨S_, .f32⟩
  | .hbm, ⟨67, _⟩ => ⟨S4096x4, .f32⟩
  | .hbm, ⟨68, _⟩ => ⟨S4096x4x1, .f32⟩
  | .hbm, ⟨69, _⟩ => ⟨S4096x4x128, .f32⟩
  | .hbm, ⟨70, _⟩ => ⟨S4096x4x128, .f32⟩
  | .hbm, ⟨71, _⟩ => ⟨S4096x4x1, .f32⟩
  | .hbm, ⟨72, _⟩ => ⟨S_, .f32⟩
  | .hbm, ⟨73, _⟩ => ⟨S4096x4x1, .f32⟩
  | .hbm, ⟨74, _⟩ => ⟨S4096x4x1, .f32⟩
  | .hbm, ⟨75, _⟩ => ⟨S_, .f32⟩
  | .hbm, ⟨76, _⟩ => ⟨S4096x4, .f32⟩
  | .hbm, ⟨77, _⟩ => ⟨S4096x4x128, .f32⟩
  | .hbm, ⟨78, _⟩ => ⟨S4096x4x128, .f32⟩
  | .hbm, ⟨79, _⟩ => ⟨S4096x4x128, .f32⟩
  | .hbm, ⟨80, _⟩ => ⟨S4096x4x128, .f32⟩
  | .hbm, ⟨81, _⟩ => ⟨S4096x4x128, .f32⟩
  | .hbm, ⟨82, _⟩ => ⟨S1x128, .f32⟩
  | .hbm, ⟨83, _⟩ => ⟨S4096x512, .f32⟩
  | .hbm, ⟨84, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v20_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v20_1 : Ref sig .tc := ⟨.hbm, 41, rfl⟩
abbrev main_v20_0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩

abbrev nD : Nat := 1
abbrev τ : Topo := Topo.v7x

variable {F : FTy → Type} [FloatOps F]
-- ==== KernelF.lean ====
abbrev S4096x1024 : Shape := ⟨2, ![4096, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024x2816 : Shape := ⟨2, ![1024, 2816]⟩
abbrev S4096x2816 : Shape := ⟨2, ![4096, 2816]⟩
abbrev S3x2816 : Shape := ⟨2, ![3, 2816]⟩
abbrev S2816 : Shape := ⟨1, ![2816]⟩
abbrev S_ : Shape := ⟨0, ![]⟩
abbrev S2x2816 : Shape := ⟨2, ![2, 2816]⟩
abbrev S4098x2816 : Shape := ⟨2, ![4098, 2816]⟩
abbrev S5x2816 : Shape := ⟨2, ![5, 2816]⟩
abbrev S8x2816 : Shape := ⟨2, ![8, 2816]⟩
abbrev S2816x1024 : Shape := ⟨2, ![2816, 1024]⟩
abbrev S512x1024 : Shape := ⟨2, ![512, 1024]⟩
abbrev S1408x1024 : Shape := ⟨2, ![1408, 1024]⟩
abbrev S512x1408 : Shape := ⟨2, ![512, 1408]⟩
abbrev S8x1408 : Shape := ⟨2, ![8, 1408]⟩
abbrev S1x1408 : Shape := ⟨2, ![1, 1408]⟩
abbrev S520x1408 : Shape := ⟨2, ![520, 1408]⟩
abbrev S1408 : Shape := ⟨1, ![1408]⟩
abbrev S5x1408 : Shape := ⟨2, ![5, 1408]⟩

abbrev nBuf : Space → Nat
  | .hbm => 52
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1x1024x2816, .f32⟩
  | .hbm, ⟨2, _⟩ => ⟨S1x1024x2816, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S4096x1024, .f32⟩
  | .hbm, ⟨7, _⟩ => ⟨S1024x2816, .f32⟩
  | .hbm, ⟨8, _⟩ => ⟨S4096x2816, .f32⟩
  | .hbm, ⟨9, _⟩ => ⟨S1024x2816, .f32⟩
  | .hbm, ⟨10, _⟩ => ⟨S4096x2816, .f32⟩
  | .hbm, ⟨11, _⟩ => ⟨S3x2816, .f32⟩
  | .hbm, ⟨12, _⟩ => ⟨S2816, .f32⟩
  | .hbm, ⟨13, _⟩ => ⟨S_, .f32⟩
  | .hbm, ⟨14, _⟩ => ⟨S2x2816, .f32⟩
  | .hbm, ⟨15, _⟩ => ⟨S4098x2816, .f32⟩
  | .hbm, ⟨16, _⟩ => ⟨S4096x2816, .f32⟩
  | .hbm, ⟨17, _⟩ => ⟨S1x2816, .f32⟩
  | .hbm, ⟨18, _⟩ => ⟨S2816, .f32⟩
  | .hbm, ⟨19, _⟩ => ⟨S1x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S1x2816, .f32⟩
  | .hbm, ⟨24, _⟩ => ⟨S2816, .f32⟩
  | .hbm, ⟨25, _⟩ => ⟨S1x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S1x2816, .f32⟩
  | .hbm, ⟨31, _⟩ => ⟨S2816, .f32⟩
  | .hbm, ⟨32, _⟩ => ⟨S1x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S1x2816, .f32⟩
  | .hbm, ⟨37, _⟩ => ⟨S4096x2816, .f32⟩
  | .hbm, ⟨38, _⟩ => ⟨S4096x2816, .f32⟩
  | .hbm, ⟨39, _⟩ => ⟨S3x2816, .f32⟩
  | .hbm, ⟨40, _⟩ => ⟨S_, .f32⟩
  | .hbm, ⟨41, _⟩ => ⟨S5x2816, .f32⟩
  | .hbm, ⟨42, _⟩ => ⟨S8x2816, .f32⟩
  | .hbm, ⟨43, _⟩ => ⟨S4096x1024, .bf16⟩
  | .hbm, ⟨44, _⟩ => ⟨S2816x1024, .f32⟩
  | .hbm, ⟨45, _⟩ => ⟨S2816x1024, .bf16⟩
  | .hbm, ⟨46, _⟩ => ⟨S4096x2816, .bf16⟩
  | .hbm, ⟨47, _⟩ => ⟨S4096x2816, .bf16⟩
  | .hbm, ⟨48, _⟩ => ⟨S4096x2816, .bf16⟩
  | .hbm, ⟨49, _⟩ => ⟨S4096x2816, .bf16⟩
  | .hbm, ⟨50, _⟩ => ⟨S8x2816, .f32⟩
  | .hbm, ⟨51, _⟩ => ⟨S1x2816, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .f32⟩
  | .local _ .vmem, ⟨9, _⟩ => ⟨S512x1408, .f32⟩
  | .local _ .vmem, ⟨10, _⟩ => ⟨S8x1408, .f32⟩
  | .local _ .vmem, ⟨11, _⟩ => ⟨S8x1408, .f32⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S8x1408, .f32⟩
  | .local _ .vmem, ⟨17, _⟩ => ⟨S8x1408, .f32⟩
  | .local _ .vmem, ⟨18, _⟩ => ⟨S1x1408, .f32⟩
  | .local _ .vmem, ⟨19, _⟩ => ⟨S1x1408, .f32⟩
  | .local _ .vmem, ⟨20, _⟩ => ⟨S8x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_0 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39_0 : Ref sig .tc := ⟨.hbm, 48, rfl⟩
abbrev main_v39_1 : Ref sig .tc := ⟨.hbm, 49, rfl⟩
abbrev main_v39_2 : Ref sig .tc := ⟨.hbm, 50, rfl⟩
abbrev main_v39_3 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceFIdeal.lean ====
abbrev S4096x1024 : Shape := ⟨2, ![4096, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024x2816 : Shape := ⟨2, ![1024, 2816]⟩
abbrev S4096x2816 : Shape := ⟨2, ![4096, 2816]⟩
abbrev S3x2816 : Shape := ⟨2, ![3, 2816]⟩
abbrev S2816 : Shape := ⟨1, ![2816]⟩
abbrev S_ : Shape := ⟨0, ![]⟩
abbrev S2x2816 : Shape := ⟨2, ![2, 2816]⟩
abbrev S4098x2816 : Shape := ⟨2, ![4098, 2816]⟩
abbrev S2816x1024 : Shape := ⟨2, ![2816, 1024]⟩
abbrev S8x2816 : Shape := ⟨2, ![8, 2816]⟩

abbrev nBuf : Space → Nat
  | .hbm => 122
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x2816, .f32⟩
  | .hbm, ⟨2, _⟩ => ⟨S1x1024x2816, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S4096x1024, .f32⟩
  | .hbm, ⟨7, _⟩ => ⟨S1024x2816, .f32⟩
  | .hbm, ⟨8, _⟩ => ⟨S4096x2816, .f32⟩
  | .hbm, ⟨9, _⟩ => ⟨S1024x2816, .f32⟩
  | .hbm, ⟨10, _⟩ => ⟨S4096x2816, .f32⟩
  | .hbm, ⟨11, _⟩ => ⟨S3x2816, .f32⟩
  | .hbm, ⟨12, _⟩ => ⟨S2816, .f32⟩
  | .hbm, ⟨13, _⟩ => ⟨S_, .f32⟩
  | .hbm, ⟨14, _⟩ => ⟨S2x2816, .f32⟩
  | .hbm, ⟨15, _⟩ => ⟨S4098x2816, .f32⟩
  | .hbm, ⟨16, _⟩ => ⟨S_, .f32⟩
  | .hbm, ⟨17, _⟩ => ⟨S2x2816, .f32⟩
  | .hbm, ⟨18, _⟩ => ⟨S4096x2816, .f32⟩
  | .hbm, ⟨19, _⟩ => ⟨S1x2816, .f32⟩
  | .hbm, ⟨20, _⟩ => ⟨S2816, .f32⟩
  | .hbm, ⟨21, _⟩ => ⟨S1x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S1x2816, .f32⟩
  | .hbm, ⟨26, _⟩ => ⟨S2816, .f32⟩
  | .hbm, ⟨27, _⟩ => ⟨S1x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S1x2816, .f32⟩
  | .hbm, ⟨33, _⟩ => ⟨S2816, .f32⟩
  | .hbm, ⟨34, _⟩ => ⟨S1x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S1x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S_, .f32⟩
  | .hbm, ⟨47, _⟩ => ⟨S4096x2816, .f32⟩
  | .hbm, ⟨48, _⟩ => ⟨S4096x2816, .f32⟩
  | .hbm, ⟨49, _⟩ => ⟨S_, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S2816x1024, .f32⟩
  | .hbm, ⟨56, _⟩ => ⟨S4096x1024, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S4096x2816, .f32⟩
  | .hbm, ⟨63, _⟩ => ⟨S4096x2816, .f32⟩
  | .hbm, ⟨64, _⟩ => ⟨S_, .f32⟩
  | .hbm, ⟨65, _⟩ => ⟨S2816, .f32⟩
  | .hbm, ⟨66, _⟩ => ⟨S1x2816, .f32⟩
  | .hbm, ⟨67, _⟩ => ⟨S_, .f32⟩
  | .hbm, ⟨68, _⟩ => ⟨S2816, .f32⟩
  | .hbm, ⟨69, _⟩ => ⟨S4096x2816, .f32⟩
  | .hbm, ⟨70, _⟩ => ⟨S_, .f32⟩
  | .hbm, ⟨71, _⟩ => ⟨S2816, .f32⟩
  | .hbm, ⟨72, _⟩ => ⟨S1x2816, .f32⟩
  | .hbm, ⟨73, _⟩ => ⟨S4096x2816, .f32⟩
  | .hbm, ⟨74, _⟩ => ⟨S4096x2816, .f32⟩
  | .hbm, ⟨75, _⟩ => ⟨S_, .f32⟩
  | .hbm, ⟨76, _⟩ => ⟨S2816, .f32⟩
  | .hbm, ⟨77, _⟩ => ⟨S1x2816, .f32⟩
  | .hbm, ⟨78, _⟩ => ⟨S_, .f32⟩
  | .hbm, ⟨79, _⟩ => ⟨S3x2816, .f32⟩
  | .hbm, ⟨80, _⟩ => ⟨S_, .f32⟩
  | .hbm, ⟨81, _⟩ => ⟨S4098x2816, .f32⟩
  | .hbm, ⟨82, _⟩ => ⟨S4096x2816, .f32⟩
  | .hbm, ⟨83, _⟩ => ⟨S_, .f32⟩
  | .hbm, ⟨84, _⟩ => ⟨S2816, .f32⟩
  | .hbm, ⟨85, _⟩ => ⟨S1x2816, .f32⟩
  | .hbm, ⟨86, _⟩ => ⟨S4096x2816, .f32⟩
  | .hbm, ⟨87, _⟩ => ⟨S4096x2816, .f32⟩
  | .hbm, ⟨88, _⟩ => ⟨S_, .f32⟩
  | .hbm, ⟨89, _⟩ => ⟨S2816, .f32⟩
  | .hbm, ⟨90, _⟩ => ⟨S1x2816, .f32⟩
  | .hbm, ⟨91, _⟩ => ⟨S_, .f32⟩
  | .hbm, ⟨92, _⟩ => ⟨S3x2816, .f32⟩
  | .hbm, ⟨93, _⟩ => ⟨S3x2816, .f32⟩
  | .hbm, ⟨94, _⟩ => ⟨S_, .f32⟩
  | .hbm, ⟨95, _⟩ => ⟨S4098x2816, .f32⟩
  | .hbm, ⟨96, _⟩ => ⟨S4098x2816, .f32⟩
  | .hbm, ⟨97, _⟩ => ⟨S4096x2816, .f32⟩
  | .hbm, ⟨98, _⟩ => ⟨S_, .f32⟩
  | .hbm, ⟨99, _⟩ => ⟨S2816, .f32⟩
  | .hbm, ⟨100, _⟩ => ⟨S1x2816, .f32⟩
  | .hbm, ⟨101, _⟩ => ⟨S4096x2816, .f32⟩
  | .hbm, ⟨102, _⟩ => ⟨S4096x2816, .f32⟩
  | .hbm, ⟨103, _⟩ => ⟨S_, .f32⟩
  | .hbm, ⟨104, _⟩ => ⟨S2816, .f32⟩
  | .hbm, ⟨105, _⟩ => ⟨S1x2816, .f32⟩
  | .hbm, ⟨106, _⟩ => ⟨S_, .f32⟩
  | .hbm, ⟨107, _⟩ => ⟨S3x2816, .f32⟩
  | .hbm, ⟨108, _⟩ => ⟨S3x2816, .f32⟩
  | .hbm, ⟨109, _⟩ => ⟨S_, .f32⟩
  | .hbm, ⟨110, _⟩ => ⟨S4098x2816, .f32⟩
  | .hbm, ⟨111, _⟩ => ⟨S4098x2816, .f32⟩
  | .hbm, ⟨112, _⟩ => ⟨S2x2816, .f32⟩
  | .hbm, ⟨113, _⟩ => ⟨S4096x2816, .f32⟩
  | .hbm, ⟨114, _⟩ => ⟨S1x2816, .f32⟩
  | .hbm, ⟨115, _⟩ => ⟨S1x3x2816, .f32⟩
  | .hbm, ⟨116, _⟩ => ⟨S4096x2816, .bf16⟩
  | .hbm, ⟨117, _⟩ => ⟨S4096x2816, .bf16⟩
  | .hbm, ⟨118, _⟩ => ⟨S3x2816, .f32⟩
  | .hbm, ⟨119, _⟩ => ⟨S_, .i32⟩
  | .hbm, ⟨120, _⟩ => ⟨S_, .f32⟩
  | .hbm, ⟨121, _⟩ => ⟨S8x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v32_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v32_1 : Ref sig .tc := ⟨.hbm, 52, rfl⟩
abbrev main_v32_0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v39 : Ref sig .tc := ⟨.hbm, 63, rfl⟩
abbrev main_cst_1 : Ref sig .tc := ⟨.hbm, 64, rfl⟩
abbrev main_v40 : Ref sig .tc := ⟨.hbm, 65, rfl⟩
abbrev main_v41 : Ref sig .tc := ⟨.hbm, 66, rfl⟩
abbrev main_cst_2 : Ref sig .tc := ⟨.hbm, 67, rfl⟩
abbrev main_v42 : Ref sig .tc := ⟨.hbm, 68, rfl⟩
abbrev main_v43 : Ref sig .tc := ⟨.hbm, 69, rfl⟩
abbrev main_cst_3 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_4 : Ref sig .tc := ⟨.hbm, 75, rfl⟩
abbrev main_v48 : Ref sig .tc := ⟨.hbm, 76, rfl⟩
abbrev main_v49 : Ref sig .tc := ⟨.hbm, 77, rfl⟩
abbrev main_cst_5 : Ref sig .tc := ⟨.hbm, 78, rfl⟩
abbrev main_v50 : Ref sig .tc := ⟨.hbm, 79, rfl⟩
abbrev main_cst_6 : Ref sig .tc := ⟨.hbm, 80, rfl⟩
abbrev main_v51 : Ref sig .tc := ⟨.hbm, 81, rfl⟩
abbrev main_v52 : Ref sig .tc := ⟨.hbm, 82, rfl⟩
abbrev main_cst_7 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_8 : Ref sig .tc := ⟨.hbm, 88, rfl⟩
abbrev main_v57 : Ref sig .tc := ⟨.hbm, 89, rfl⟩
abbrev main_v58 : Ref sig .tc := ⟨.hbm, 90, rfl⟩
abbrev main_cst_9 : Ref sig .tc := ⟨.hbm, 91, rfl⟩
abbrev main_v59 : Ref sig .tc := ⟨.hbm, 92, rfl⟩
abbrev main_v60 : Ref sig .tc := ⟨.hbm, 93, rfl⟩
abbrev main_cst_10 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_11 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_v69 : Ref sig .tc := ⟨.hbm, 105, rfl⟩
abbrev main_cst_13 : Ref sig .tc := ⟨.hbm, 106, rfl⟩
abbrev main_v70 : Ref sig .tc := ⟨.hbm, 107, rfl⟩
abbrev main_v71 : Ref sig .tc := ⟨.hbm, 108, rfl⟩
abbrev main_cst_14 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_c : Ref sig .tc := ⟨.hbm, 119, rfl⟩
abbrev main_call2_v0 : Ref sig .tc := ⟨.hbm, 120, rfl⟩
abbrev main_v81 : Ref sig .tc := ⟨.hbm, 121, rfl⟩

abbrev nD : Nat := 1
abbrev τ : Topo := Topo.v7x

variable {F : FTy → Type} [FloatOps F]
-- ==== KernelT.lean ====
abbrev S4096x768 : Shape := ⟨2, ![4096, 768]⟩
abbrev S1x768 : Shape := ⟨2, ![1, 768]⟩
abbrev S1x8 : Shape := ⟨2, ![1, 8]⟩
abbrev S4096x512 : Shape := ⟨2, ![4096, 512]⟩
abbrev S128x768 : Shape := ⟨2, ![128, 768]⟩
abbrev S128x512 : Shape := ⟨2, ![128, 512]⟩
abbrev S192x256 : Shape := ⟨2, ![192, 256]⟩
abbrev S128x64 : Shape := ⟨2, ![128, 64]⟩
abbrev S1x64 : Shape := ⟨2, ![1, 64]⟩
abbrev S512x64 : Shape := ⟨2, ![512, 64]⟩
abbrev S256x64 : Shape := ⟨2, ![256, 64]⟩
abbrev S64x64 : Shape := ⟨2, ![64, 64]⟩
abbrev S192x64 : Shape := ⟨2, ![192, 64]⟩
abbrev S1x1 : Shape := ⟨2, ![1, 1]⟩
abbrev S1x256 : Shape := ⟨2, ![1, 256]⟩
abbrev S256 : Shape := ⟨1, ![256]⟩

abbrev nBuf : Space → Nat
  | .hbm => 4
  | .vmem => 7
  | .smem => 1
  | _ => 0

abbrev bufTy : (tb : Table) → Fin (tcTables nBuf tb) → BufTy
  | .hbm, ⟨0, _⟩ => ⟨S4096x768, .f32⟩
  | .hbm, ⟨1, _⟩ => ⟨S1x768, .f32⟩
  | .hbm, ⟨2, _⟩ => ⟨S1x8, .f32⟩
  | .hbm, ⟨3, _⟩ => ⟨S4096x512, .f32⟩
  | .local _ .vmem, ⟨0, _⟩ => ⟨S128x768, .f32⟩
  | .local _ .vmem, ⟨1, _⟩ => ⟨S128x768, .f32⟩
  | .local _ .vmem, ⟨2, _⟩ => ⟨S128x768, .f32⟩
  | .local _ .vmem, ⟨3, _⟩ => ⟨S128x768, .f32⟩
  | .local _ .vmem, ⟨4, _⟩ => ⟨S1x768, .f32⟩
  | .local _ .vmem, ⟨5, _⟩ => ⟨S128x512, .f32⟩
  | .local _ .vmem, ⟨6, _⟩ => ⟨S128x512, .f32⟩
  | .local _ .smem, ⟨0, _⟩ => ⟨S1x8, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelTIdeal.lean ====
variable {F : FTy → Type} [FloatOps F] [Named F]
def κ : String → Option EReal := fun
  | "mask" => some ⊥
  | _ => none
-- ==== ReferenceTIdeal.lean ====
abbrev S4096x768 : Shape := ⟨2, ![4096, 768]⟩
abbrev S1x768 : Shape := ⟨2, ![1, 768]⟩
abbrev S1x8 : Shape := ⟨2, ![1, 8]⟩
abbrev S768 : Shape := ⟨1, ![768]⟩
abbrev S4096x512 : Shape := ⟨2, ![4096, 512]⟩
abbrev S4096x128 : Shape := ⟨2, ![4096, 128]⟩
abbrev S4096x8x64 : Shape := ⟨3, ![4096, 8, 64]⟩
abbrev S4096x2x64 : Shape := ⟨3, ![4096, 2, 64]⟩
abbrev S8 : Shape := ⟨1, ![8]⟩
abbrev S32x128x2x4x64 : Shape := ⟨5, ![32, 128, 2, 4, 64]⟩
abbrev S_ : Shape := ⟨0, ![]⟩
abbrev S128x2x64 : Shape := ⟨3, ![128, 2, 64]⟩
abbrev S4224x2x64 : Shape := ⟨3, ![4224, 2, 64]⟩
abbrev S33x128x2x64 : Shape := ⟨4, ![33, 128, 2, 64]⟩
abbrev S32x128x2x64 : Shape := ⟨4, ![32, 128, 2, 64]⟩
abbrev S32x256x2x64 : Shape := ⟨4, ![32, 256, 2, 64]⟩
abbrev S32x2x256x128x4 : Shape := ⟨5, ![32, 2, 256, 128, 4]⟩
abbrev S32x2x4x128x256 : Shape := ⟨5, ![32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S32x1x1x128x256 : Shape := ⟨5, ![32, 1, 1, 128, 256]⟩
abbrev S2x4 : Shape := ⟨2, ![2, 4]⟩
abbrev S1x2x4x1x1 : Shape := ⟨5, ![1, 2, 4, 1, 1]⟩
abbrev S32x2x4x128 : Shape := ⟨4, ![32, 2, 4, 128]⟩
abbrev S32x2x4x128x1 : Shape := ⟨5, ![32, 2, 4, 128, 1]⟩
abbrev S32x2x64x4x128 : Shape := ⟨5, ![32, 2, 64, 4, 128]⟩

abbrev nBuf : Space → Nat
  | .hbm => 100
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S1x768, .f32⟩
  | .hbm, ⟨2, _⟩ => ⟨S1x8, .f32⟩
  | .hbm, ⟨3, _⟩ => ⟨S768, .f32⟩
  | .hbm, ⟨4, _⟩ => ⟨S1x768, .f32⟩
  | .hbm, ⟨5, _⟩ => ⟨S4096x768, .f32⟩
  | .hbm, ⟨6, _⟩ => ⟨S4096x768, .f32⟩
  | .hbm, ⟨7, _⟩ => ⟨S4096x512, .f32⟩
  | .hbm, ⟨8, _⟩ => ⟨S4096x128, .f32⟩
  | .hbm, ⟨9, _⟩ => ⟨S4096x128, .f32⟩
  | .hbm, ⟨10, _⟩ => ⟨S4096x8x64, .f32⟩
  | .hbm, ⟨11, _⟩ => ⟨S4096x2x64, .f32⟩
  | .hbm, ⟨12, _⟩ => ⟨S4096x2x64, .f32⟩
  | .hbm, ⟨13, _⟩ => ⟨S8, .f32⟩
  | .hbm, ⟨14, _⟩ => ⟨S32x128x2x4x64, .f32⟩
  | .hbm, ⟨15, _⟩ => ⟨S_, .f32⟩
  | .hbm, ⟨16, _⟩ => ⟨S128x2x64, .f32⟩
  | .hbm, ⟨17, _⟩ => ⟨S4224x2x64, .f32⟩
  | .hbm, ⟨18, _⟩ => ⟨S33x128x2x64, .f32⟩
  | .hbm, ⟨19, _⟩ => ⟨S32x128x2x64, .f32⟩
  | .hbm, ⟨20, _⟩ => ⟨S32x128x2x64, .f32⟩
  | .hbm, ⟨21, _⟩ => ⟨S32x256x2x64, .f32⟩
  | .hbm, ⟨22, _⟩ => ⟨S_, .f32⟩
  | .hbm, ⟨23, _⟩ => ⟨S128x2x64, .f32⟩
  | .hbm, ⟨24, _⟩ => ⟨S4224x2x64, .f32⟩
  | .hbm, ⟨25, _⟩ => ⟨S33x128x2x64, .f32⟩
  | .hbm, ⟨26, _⟩ => ⟨S32x128x2x64, .f32⟩
  | .hbm, ⟨27, _⟩ => ⟨S32x128x2x64, .f32⟩
  | .hbm, ⟨28, _⟩ => ⟨S32x256x2x64, .f32⟩
  | .hbm, ⟨29, _⟩ => ⟨S32x2x256x128x4, .f32⟩
  | .hbm, ⟨30, _⟩ => ⟨S32x2x4x128x256, .f32⟩
  | .hbm, ⟨31, _⟩ => ⟨S_, .f32⟩
  | .hbm, ⟨32, _⟩ => ⟨S32x2x4x128x256, .f32⟩
  | .hbm, ⟨33, _⟩ => ⟨S32x2x4x128x256, .f32⟩
  | .hbm, ⟨34, _⟩ => ⟨S128, .i32⟩
  | .hbm, ⟨35, _⟩ => ⟨S128x1, .i32⟩
  | .hbm, ⟨36, _⟩ => ⟨S256, .i32⟩
  | .hbm, ⟨37, _⟩ => ⟨S1x256, .i32⟩
  | .hbm, ⟨38, _⟩ => ⟨S_, .i32⟩
  | .hbm, ⟨39, _⟩ => ⟨S128x1, .i32⟩
  | .hbm, ⟨40, _⟩ => ⟨S128x1, .i32⟩
  | .hbm, ⟨41, _⟩ => ⟨S128x256, .i32⟩
  | .hbm, ⟨42, _⟩ => ⟨S128x256, .i32⟩
  | .hbm, ⟨43, _⟩ => ⟨S128x256, .i32⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S_, .i32⟩
  | .hbm, ⟨48, _⟩ => ⟨S128x256, .i32⟩
  | .hbm, ⟨49, _⟩ => ⟨S128x256, .i1⟩
  | .hbm, ⟨50, _⟩ => ⟨S128x256, .i1⟩
  | .hbm, ⟨51, _⟩ => ⟨S32, .i32⟩
  | .hbm, ⟨52, _⟩ => ⟨S32x1, .i32⟩
  | .hbm, ⟨53, _⟩ => ⟨S_, .i32⟩
  | .hbm, ⟨54, _⟩ => ⟨S32x1, .i32⟩
  | .hbm, ⟨55, _⟩ => ⟨S32x1, .i32⟩
  | .hbm, ⟨56, _⟩ => ⟨S256, .i32⟩
  | .hbm, ⟨57, _⟩ => ⟨S1x256, .i32⟩
  | .hbm, ⟨58, _⟩ => ⟨S32x256, .i32⟩
  | .hbm, ⟨59, _⟩ => ⟨S32x256, .i32⟩
  | .hbm, ⟨60, _⟩ => ⟨S32x256, .i32⟩
  | .hbm, ⟨61, _⟩ => ⟨S_, .i32⟩
  | .hbm, ⟨62, _⟩ => ⟨S32x256, .i32⟩
  | .hbm, ⟨63, _⟩ => ⟨S32x256, .i32⟩
  | .hbm, ⟨64, _⟩ => ⟨S1x128x256, .i1⟩
  | .hbm, ⟨65, _⟩ => ⟨S_, .i32⟩
  | .hbm, ⟨66, _⟩ => ⟨S32x256, .i32⟩
  | .hbm, ⟨67, _⟩ => ⟨S32x256, .i1⟩
  | .hbm, ⟨68, _⟩ => ⟨S32x1x256, .i1⟩
  | .hbm, ⟨69, _⟩ => ⟨S32x128x256, .i1⟩
  | .hbm, ⟨70, _⟩ => ⟨S32x128x256, .i1⟩
  | .hbm, ⟨71, _⟩ => ⟨S32x128x256, .i1⟩
  | .hbm, ⟨72, _⟩ => ⟨S32x1x1x128x256, .i1⟩
  | .hbm, ⟨73, _⟩ => ⟨S_, .f32⟩
  | .hbm, ⟨74, _⟩ => ⟨S_, .f32⟩
  | .hbm, ⟨75, _⟩ => ⟨S32x2x4x128x256, .i1⟩
  | .hbm, ⟨76, _⟩ => ⟨S32x2x4x128x256, .f32⟩
  | .hbm, ⟨77, _⟩ => ⟨S32x2x4x128x256, .f32⟩
  | .hbm, ⟨78, _⟩ => ⟨S2x4, .f32⟩
  | .hbm, ⟨79, _⟩ => ⟨S1x2x4x1x1, .f32⟩
  | .hbm, ⟨80, _⟩ => ⟨S_, .f32⟩
  | .hbm, ⟨81, _⟩ => ⟨S32x2x4x128, .f32⟩
  | .hbm, ⟨82, _⟩ => ⟨S32x2x4x128x1, .f32⟩
  | .hbm, ⟨83, _⟩ => ⟨S32x2x4x128x1, .f32⟩
  | .hbm, ⟨84, _⟩ => ⟨S32x2x4x128x1, .f32⟩
  | .hbm, ⟨85, _⟩ => ⟨S32x2x4x128x256, .f32⟩
  | .hbm, ⟨86, _⟩ => ⟨S32x2x4x128x256, .f32⟩
  | .hbm, ⟨87, _⟩ => ⟨S32x2x4x128x256, .f32⟩
  | .hbm, ⟨88, _⟩ => ⟨S_, .f32⟩
  | .hbm, ⟨89, _⟩ => ⟨S32x2x4x128, .f32⟩
  | .hbm, ⟨90, _⟩ => ⟨S32x2x4x128x1, .f32⟩
  | .hbm, ⟨91, _⟩ => ⟨S32x2x4x128x1, .f32⟩
  | .hbm, ⟨92, _⟩ => ⟨S32x2x4x128x1, .f32⟩
  | .hbm, ⟨93, _⟩ => ⟨S32x2x4x128x1, .f32⟩
  | .hbm, ⟨94, _⟩ => ⟨S32x2x4x128x1, .f32⟩
  | .hbm, ⟨95, _⟩ => ⟨S32x2x4x128x256, .f32⟩
  | .hbm, ⟨96, _⟩ => ⟨S32x2x4x128x256, .f32⟩
  | .hbm, ⟨97, _⟩ => ⟨S32x2x64x4x128, .f32⟩
  | .hbm, ⟨98, _⟩ => ⟨S32x128x2x4x64, .f32⟩
  | .hbm, ⟨99, _⟩ => ⟨S4096x512, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_2 : Ref sig .tc := ⟨.hbm, 44, rfl⟩
abbrev main_v37 : Ref sig .tc := ⟨.hbm, 45, rfl⟩
abbrev main_v38 : Ref sig .tc := ⟨.hbm, 46, rfl⟩
abbrev main_c_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_c_4 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_c_5 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_c_6 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_7 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_8 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_9 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩

abbrev nD : Nat := 1
abbrev τ : Topo := Topo.v7x

variable {F : FTy → Type} [FloatOps F]
-- ==== KernelX.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceXIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== KernelO.lean ====
abbrev S4096x512 : Shape := ⟨2, ![4096, 512]⟩
abbrev S1x128 : Shape := ⟨2, ![1, 128]⟩
abbrev S1x1024x1024 : Shape := ⟨3, ![1, 1024, 1024]⟩
abbrev S4096x1024 : Shape := ⟨2, ![4096, 1024]⟩
abbrev S1x1024 : Shape := ⟨2, ![1, 1024]⟩
abbrev S1024x1024 : Shape := ⟨2, ![1024, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 12
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S1x128, .f32⟩
  | .hbm, ⟨4, _⟩ => ⟨S1x1024x1024, .f32⟩
  | .hbm, ⟨5, _⟩ => ⟨S4096x1024, .f32⟩
  | .hbm, ⟨6, _⟩ => ⟨S1x1024, .f32⟩
  | .hbm, ⟨7, _⟩ => ⟨S1024x1024, .f32⟩
  | .hbm, ⟨8, _⟩ => ⟨S1024x1024, .bf16⟩
  | .hbm, ⟨9, _⟩ => ⟨S4096x1024, .f32⟩
  | .hbm, ⟨10, _⟩ => ⟨S4096x1024, .bf16⟩
  | .hbm, ⟨11, _⟩ => ⟨S4096x1024, .bf16⟩
  | .local _ .vmem, ⟨0, _⟩ => ⟨S1024x1024, .bf16⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x128, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceOIdeal.lean ====
abbrev S4096x512 : Shape := ⟨2, ![4096, 512]⟩
abbrev S1x128 : Shape := ⟨2, ![1, 128]⟩
abbrev S1x1024x1024 : Shape := ⟨3, ![1, 1024, 1024]⟩
abbrev S4096x1024 : Shape := ⟨2, ![4096, 1024]⟩
abbrev S1x1024 : Shape := ⟨2, ![1, 1024]⟩
abbrev S4096x4x128 : Shape := ⟨3, ![4096, 4, 128]⟩
abbrev S128 : Shape := ⟨1, ![128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S1024x1024 : Shape := ⟨2, ![1024, 1024]⟩
abbrev S1024 : Shape := ⟨1, ![1024]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S1x128, .f32⟩
  | .hbm, ⟨4, _⟩ => ⟨S1x1024x1024, .f32⟩
  | .hbm, ⟨5, _⟩ => ⟨S4096x1024, .f32⟩
  | .hbm, ⟨6, _⟩ => ⟨S1x1024, .f32⟩
  | .hbm, ⟨7, _⟩ => ⟨S4096x4x128, .f32⟩
  | .hbm, ⟨8, _⟩ => ⟨S128, .f32⟩
  | .hbm, ⟨9, _⟩ => ⟨S4096x4x128, .f32⟩
  | .hbm, ⟨10, _⟩ => ⟨S_, .f32⟩
  | .hbm, ⟨11, _⟩ => ⟨S4096x4, .f32⟩
  | .hbm, ⟨12, _⟩ => ⟨S4096x4x1, .f32⟩
  | .hbm, ⟨13, _⟩ => ⟨S_, .f32⟩
  | .hbm, ⟨14, _⟩ => ⟨S4096x4x1, .f32⟩
  | .hbm, ⟨15, _⟩ => ⟨S4096x4x1, .f32⟩
  | .hbm, ⟨16, _⟩ => ⟨S_, .f32⟩
  | .hbm, ⟨17, _⟩ => ⟨S4096x4x1, .f32⟩
  | .hbm, ⟨18, _⟩ => ⟨S4096x4x1, .f32⟩
  | .hbm, ⟨19, _⟩ => ⟨S4096x4x1, .f32⟩
  | .hbm, ⟨20, _⟩ => ⟨S4096x4x128, .f32⟩
  | .hbm, ⟨21, _⟩ => ⟨S4096x4x128, .f32⟩
  | .hbm, ⟨22, _⟩ => ⟨S1x1x128, .f32⟩
  | .hbm, ⟨23, _⟩ => ⟨S4096x4x128, .f32⟩
  | .hbm, ⟨24, _⟩ => ⟨S4096x4x128, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x1024, .f32⟩
  | .hbm, ⟨37, _⟩ => ⟨S1024x1024, .f32⟩
  | .hbm, ⟨38, _⟩ => ⟨S4096x1024, .f32⟩
  | .hbm, ⟨39, _⟩ => ⟨S4096x1024, .f32⟩
  | .hbm, ⟨40, _⟩ => ⟨S1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .bf16⟩
  | .hbm, ⟨58, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== KernelI.lean ====
abbrev S4096x1024 : Shape := ⟨2, ![4096, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S3x2816 : Shape := ⟨2, ![3, 2816]⟩
abbrev S_ : Shape := ⟨0, ![]⟩
abbrev S5x2816 : Shape := ⟨2, ![5, 2816]⟩
abbrev S8x2816 : Shape := ⟨2, ![8, 2816]⟩
abbrev S1024x2816 : Shape := ⟨2, ![1024, 2816]⟩
abbrev S2816x1024 : Shape := ⟨2, ![2816, 1024]⟩
abbrev S4096x2816 : Shape := ⟨2, ![4096, 2816]⟩
abbrev S256x1024 : Shape := ⟨2, ![256, 1024]⟩
abbrev S256x2816 : Shape := ⟨2, ![256, 2816]⟩
abbrev S264x2816 : Shape := ⟨2, ![264, 2816]⟩

abbrev nBuf : Space → Nat
  | .hbm => 20
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024x2816, .f32⟩
  | .hbm, ⟨2, _⟩ => ⟨S1x1024x2816, .f32⟩
  | .hbm, ⟨3, _⟩ => ⟨S1x3x2816, .f32⟩
  | .hbm, ⟨4, _⟩ => ⟨S1x2816, .f32⟩
  | .hbm, ⟨5, _⟩ => ⟨S3x2816, .f32⟩
  | .hbm, ⟨6, _⟩ => ⟨S_, .f32⟩
  | .hbm, ⟨7, _⟩ => ⟨S5x2816, .f32⟩
  | .hbm, ⟨8, _⟩ => ⟨S8x2816, .f32⟩
  | .hbm, ⟨9, _⟩ => ⟨S4096x1024, .bf16⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S1024x2816, .f32⟩
  | .hbm, ⟨14, _⟩ => ⟨S2816x1024, .f32⟩
  | .hbm, ⟨15, _⟩ => ⟨S2816x1024, .bf16⟩
  | .hbm, ⟨16, _⟩ => ⟨S4096x2816, .bf16⟩
  | .hbm, ⟨17, _⟩ => ⟨S4096x2816, .bf16⟩
  | .hbm, ⟨18, _⟩ => ⟨S4096x2816, .f32⟩
  | .hbm, ⟨19, _⟩ => ⟨S4096x2816, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S2816x1024, .bf16⟩
  | .local _ .vmem, ⟨4, _⟩ => ⟨S8x2816, .f32⟩
  | .local _ .vmem, ⟨5, _⟩ => ⟨S1x2816, .f32⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .f32⟩
  | .local _ .vmem, ⟨11, _⟩ => ⟨S256x2816, .f32⟩
  | .local _ .vmem, ⟨12, _⟩ => ⟨S256x2816, .bf16⟩
  | .local _ .vmem, ⟨13, _⟩ => ⟨S256x2816, .bf16⟩
  | .local _ .vmem, ⟨14, _⟩ => ⟨S8x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIIdeal.lean ====
abbrev S4096x1024 : Shape := ⟨2, ![4096, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1024x2816 : Shape := ⟨2, ![1024, 2816]⟩
abbrev S4096x2816 : Shape := ⟨2, ![4096, 2816]⟩
abbrev S3x2816 : Shape := ⟨2, ![3, 2816]⟩
abbrev S2816 : Shape := ⟨1, ![2816]⟩
abbrev S_ : Shape := ⟨0, ![]⟩
abbrev S2x2816 : Shape := ⟨2, ![2, 2816]⟩
abbrev S4098x2816 : Shape := ⟨2, ![4098, 2816]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x2816, .f32⟩
  | .hbm, ⟨2, _⟩ => ⟨S1x1024x2816, .f32⟩
  | .hbm, ⟨3, _⟩ => ⟨S1x3x2816, .f32⟩
  | .hbm, ⟨4, _⟩ => ⟨S1x2816, .f32⟩
  | .hbm, ⟨5, _⟩ => ⟨S1024x2816, .f32⟩
  | .hbm, ⟨6, _⟩ => ⟨S4096x2816, .f32⟩
  | .hbm, ⟨7, _⟩ => ⟨S1024x2816, .f32⟩
  | .hbm, ⟨8, _⟩ => ⟨S4096x2816, .f32⟩
  | .hbm, ⟨9, _⟩ => ⟨S3x2816, .f32⟩
  | .hbm, ⟨10, _⟩ => ⟨S2816, .f32⟩
  | .hbm, ⟨11, _⟩ => ⟨S_, .f32⟩
  | .hbm, ⟨12, _⟩ => ⟨S2x2816, .f32⟩
  | .hbm, ⟨13, _⟩ => ⟨S4098x2816, .f32⟩
  | .hbm, ⟨14, _⟩ => ⟨S4096x2816, .f32⟩
  | .hbm, ⟨15, _⟩ => ⟨S1x2816, .f32⟩
  | .hbm, ⟨16, _⟩ => ⟨S2816, .f32⟩
  | .hbm, ⟨17, _⟩ => ⟨S1x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S1x2816, .f32⟩
  | .hbm, ⟨22, _⟩ => ⟨S2816, .f32⟩
  | .hbm, ⟨23, _⟩ => ⟨S1x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S1x2816, .f32⟩
  | .hbm, ⟨29, _⟩ => ⟨S2816, .f32⟩
  | .hbm, ⟨30, _⟩ => ⟨S1x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S1x2816, .f32⟩
  | .hbm, ⟨35, _⟩ => ⟨S4096x2816, .f32⟩
  | .hbm, ⟨36, _⟩ => ⟨S4096x2816, .f32⟩
  | .hbm, ⟨37, _⟩ => ⟨S4096x2816, .bf16⟩
  | .hbm, ⟨38, _⟩ => ⟨S4096x2816, .bf16⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S_, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== KernelL.lean ====
abbrev S2x512 : Shape := ⟨2, ![2, 512]⟩
abbrev S1x512 : Shape := ⟨2, ![1, 512]⟩

abbrev nBuf : Space → Nat
  | .hbm => 2
  | .vmem => 2
  | .smem => 0
  | _ => 0

abbrev bufTy : (tb : Table) → Fin (tcTables nBuf tb) → BufTy
  | .hbm, ⟨0, _⟩ => ⟨S2x512, .f32⟩
  | .hbm, ⟨1, _⟩ => ⟨S1x512, .f32⟩
  | .local _ .vmem, ⟨0, _⟩ => ⟨S2x512, .f32⟩
  | .local _ .vmem, ⟨1, _⟩ => ⟨S1x512, .f32⟩
  | _, _ => ⟨S2x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceLIdeal.lean ====
abbrev S2x512 : Shape := ⟨2, ![2, 512]⟩
abbrev S_ : Shape := ⟨0, ![]⟩
abbrev S512 : Shape := ⟨1, ![512]⟩
abbrev S1x512 : Shape := ⟨2, ![1, 512]⟩

abbrev nBuf : Space → Nat
  | .hbm => 19
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S2x512, .f32⟩
  | .hbm, ⟨8, _⟩ => ⟨S2x512, .f32⟩
  | .hbm, ⟨9, _⟩ => ⟨S2x512, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S_, .f32⟩
  | .hbm, ⟨17, _⟩ => ⟨S2x512, .f32⟩
  | .hbm, ⟨18, _⟩ => ⟨S1x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== KernelP.lean ====
abbrev S4096x1024 : Shape := ⟨2, ![4096, 1024]⟩
abbrev S1x1024x2816 : Shape := ⟨3, ![1, 1024, 2816]⟩
abbrev S1024x2816 : Shape := ⟨2, ![1024, 2816]⟩
abbrev S2816x1024 : Shape := ⟨2, ![2816, 1024]⟩
abbrev S4096x512 : Shape := ⟨2, ![4096, 512]⟩
abbrev S4096x768 : Shape := ⟨2, ![4096, 768]⟩
abbrev S512x1024 : Shape := ⟨2, ![512, 1024]⟩
abbrev S512x512 : Shape := ⟨2, ![512, 512]⟩
abbrev S512x768 : Shape := ⟨2, ![512, 768]⟩
abbrev S512x2816 : Shape := ⟨2, ![512, 2816]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024x2816, .f32⟩
  | .hbm, ⟨2, _⟩ => ⟨S4096x1024, .bf16⟩
  | .hbm, ⟨3, _⟩ => ⟨S1024x2816, .f32⟩
  | .hbm, ⟨4, _⟩ => ⟨S2816x1024, .f32⟩
  | .hbm, ⟨5, _⟩ => ⟨S2816x1024, .bf16⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x768, .f32⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x768, .f32⟩
  | .local _ .vmem, ⟨12, _⟩ => ⟨S512x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev main_v4_3 : Ref sig .tc := ⟨.hbm, 9, rfl⟩
abbrev main_v4_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferencePIdeal.lean ====
abbrev S4096x1024 : Shape := ⟨2, ![4096, 1024]⟩
abbrev S1x1024x2816 : Shape := ⟨3, ![1, 1024, 2816]⟩
abbrev S1024x2816 : Shape := ⟨2, ![1024, 2816]⟩
abbrev S4096x2816 : Shape := ⟨2, ![4096, 2816]⟩
abbrev S4096x512 : Shape := ⟨2, ![4096, 512]⟩
abbrev S4096x768 : Shape := ⟨2, ![4096, 768]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x2816, .f32⟩
  | .hbm, ⟨2, _⟩ => ⟨S1024x2816, .f32⟩
  | .hbm, ⟨3, _⟩ => ⟨S4096x2816, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x768, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== KernelQ.lean ====
abbrev S4096x2816 : Shape := ⟨2, ![4096, 2816]⟩
abbrev S1x2816x1024 : Shape := ⟨3, ![1, 2816, 1024]⟩
abbrev S4096x1024 : Shape := ⟨2, ![4096, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S1x2816x1024, .f32⟩
  | .hbm, ⟨2, _⟩ => ⟨S4096x1024, .f32⟩
  | .hbm, ⟨3, _⟩ => ⟨S4096x2816, .bf16⟩
  | .hbm, ⟨4, _⟩ => ⟨S4096x1024, .bf16⟩
  | .hbm, ⟨5, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceQIdeal.lean ====
abbrev S4096x2816 : Shape := ⟨2, ![4096, 2816]⟩
abbrev S1x2816x1024 : Shape := ⟨3, ![1, 2816, 1024]⟩
abbrev S4096x1024 : Shape := ⟨2, ![4096, 1024]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S1x2816x1024, .f32⟩
  | .hbm, ⟨2, _⟩ => ⟨S4096x1024, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S1x2816x1024, .f32⟩
  | .hbm, ⟨8, _⟩ => ⟨S2816x1024, .f32⟩
  | .hbm, ⟨9, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelB.lean ====
abbrev S1x704x1024 : Shape := ⟨3, ![1, 704, 1024]⟩
abbrev S704x1024 : Shape := ⟨2, ![704, 1024]⟩
abbrev S352x1024 : Shape := ⟨2, ![352, 1024]⟩

abbrev nBuf : Space → Nat
  | .hbm => 12
  | .vmem => 16
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceBIdeal.lean ====
abbrev S1x704x1024 : Shape := ⟨3, ![1, 704, 1024]⟩
abbrev S704x1024 : Shape := ⟨2, ![704, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S_, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S_, .f32⟩
  | .hbm, ⟨39, _⟩ => ⟨S704x1024, .f32⟩
  | .hbm, ⟨40, _⟩ => ⟨S704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== KernelC.lean ====
abbrev S2816x1024 : Shape := ⟨2, ![2816, 1024]⟩
abbrev S1024x1024 : Shape := ⟨2, ![1024, 1024]⟩
abbrev S1408x1024 : Shape := ⟨2, ![1408, 1024]⟩
abbrev S512x1024 : Shape := ⟨2, ![512, 1024]⟩
abbrev S176x1024 : Shape := ⟨2, ![176, 1024]⟩
abbrev S64x1024 : Shape := ⟨2, ![64, 1024]⟩

abbrev nBuf : Space → Nat
  | .hbm => 6
  | .vmem => 12
  | .smem => 0
  | _ => 0

abbrev bufTy : (tb : Table) → Fin (tcTables nBuf tb) → BufTy
  | .hbm, ⟨0, _⟩ => ⟨S2816x1024, .bf16⟩
  | .hbm, ⟨1, _⟩ => ⟨S1024x1024, .bf16⟩
  | .hbm, ⟨2, _⟩ => ⟨S1408x1024, .bf16⟩
  | .hbm, ⟨3, _⟩ => ⟨S512x1024, .bf16⟩
  | .hbm, ⟨4, _⟩ => ⟨S1408x1024, .bf16⟩
  | .hbm, ⟨5, _⟩ => ⟨S512x1024, .bf16⟩
  | .local _ .vmem, ⟨0, _⟩ => ⟨S176x1024, .bf16⟩
  | .local _ .vmem, ⟨1, _⟩ => ⟨S176x1024, .bf16⟩
  | .local _ .vmem, ⟨2, _⟩ => ⟨S64x1024, .bf16⟩
  | .local _ .vmem, ⟨3, _⟩ => ⟨S64x1024, .bf16⟩
  | .local _ .vmem, ⟨4, _⟩ => ⟨S176x1024, .bf16⟩
  | .local _ .vmem, ⟨5, _⟩ => ⟨S176x1024, .bf16⟩
  | .local _ .vmem, ⟨6, _⟩ => ⟨S64x1024, .bf16⟩
  | .local _ .vmem, ⟨7, _⟩ => ⟨S64x1024, .bf16⟩
  | .local _ .vmem, ⟨8, _⟩ => ⟨S176x1024, .bf16⟩
  | .local _ .vmem, ⟨9, _⟩ => ⟨S176x1024, .bf16⟩
  | .local _ .vmem, ⟨10, _⟩ => ⟨S64x1024, .bf16⟩
  | .local _ .vmem, ⟨11, _⟩ => ⟨S64x1024, .bf16⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c2_i32_0 : BitVec 32 := 2#32
  let v2 : BitVec 32 := Scalar.muli v1 c2_i32_0
  let v3 : BitVec 32 := Scalar.addi v2 arg1
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c2_i32_0 : BitVec 32 := 2#32
  let v2 : BitVec 32 := Scalar.muli v1 c2_i32_0
  let v3 : BitVec 32 := Scalar.addi v2 arg1
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceCIdeal.lean ====
abbrev S2816x1024 : Shape := ⟨2, ![2816, 1024]⟩
abbrev S1024x1024 : Shape := ⟨2, ![1024, 1024]⟩
abbrev S1408x1024 : Shape := ⟨2, ![1408, 1024]⟩
abbrev S512x1024 : Shape := ⟨2, ![512, 1024]⟩
abbrev S4x2x352x1024 : Shape := ⟨4, ![4, 2, 352, 1024]⟩
abbrev S4x1x352x1024 : Shape := ⟨4, ![4, 1, 352, 1024]⟩
abbrev S4x352x1024 : Shape := ⟨3, ![4, 352, 1024]⟩
abbrev S4x2x128x1024 : Shape := ⟨4, ![4, 2, 128, 1024]⟩
abbrev S4x1x128x1024 : Shape := ⟨4, ![4, 1, 128, 1024]⟩
abbrev S4x128x1024 : Shape := ⟨3, ![4, 128, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S1024x1024, .bf16⟩
  | .hbm, ⟨2, _⟩ => ⟨S1408x1024, .bf16⟩
  | .hbm, ⟨3, _⟩ => ⟨S512x1024, .bf16⟩
  | .hbm, ⟨4, _⟩ => ⟨S4x2x352x1024, .bf16⟩
  | .hbm, ⟨5, _⟩ => ⟨S4x1x352x1024, .bf16⟩
  | .hbm, ⟨6, _⟩ => ⟨S4x352x1024, .bf16⟩
  | .hbm, ⟨7, _⟩ => ⟨S1408x1024, .bf16⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .bf16⟩
  | .hbm, ⟨12, _⟩ => ⟨S4x2x128x1024, .bf16⟩
  | .hbm, ⟨13, _⟩ => ⟨S4x1x128x1024, .bf16⟩
  | .hbm, ⟨14, _⟩ => ⟨S4x128x1024, .bf16⟩
  | .hbm, ⟨15, _⟩ => ⟨S512x1024, .bf16⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S512x1024, .bf16⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== KernelS.lean ====
abbrev S8x24x128 : Shape := ⟨3, ![8, 24, 128]⟩
abbrev S8x512 : Shape := ⟨2, ![8, 512]⟩
abbrev S8x128x128 : Shape := ⟨3, ![8, 128, 128]⟩
abbrev S24x128 : Shape := ⟨2, ![24, 128]⟩
abbrev S2x512 : Shape := ⟨2, ![2, 512]⟩
abbrev S128x128 : Shape := ⟨2, ![128, 128]⟩
abbrev S160x128 : Shape := ⟨2, ![160, 128]⟩
abbrev S8x4x128 : Shape := ⟨3, ![8, 4, 128]⟩
abbrev S_ : Shape := ⟨0, ![]⟩
abbrev S8x160x128 : Shape := ⟨3, ![8, 160, 128]⟩
abbrev S8x128 : Shape := ⟨2, ![8, 128]⟩
abbrev S1x160x128 : Shape := ⟨3, ![1, 160, 128]⟩
abbrev S8 : Shape := ⟨1, ![8]⟩
abbrev S8x1 : Shape := ⟨2, ![8, 1]⟩
abbrev S1 : Shape := ⟨1, ![1]⟩
abbrev S1x1 : Shape := ⟨2, ![1, 1]⟩

abbrev nBuf : Space → Nat
  | .hbm => 21
  | .vmem => 9
  | .smem => 0
  | _ => 0

abbrev bufTy : (tb : Table) → Fin (tcTables nBuf tb) → BufTy
  | .hbm, ⟨0, _⟩ => ⟨S8x24x128, .f32⟩
  | .hbm, ⟨1, _⟩ => ⟨S8x512, .f32⟩
  | .hbm, ⟨2, _⟩ => ⟨S8x128x128, .f32⟩
  | .hbm, ⟨3, _⟩ => ⟨S24x128, .f32⟩
  | .hbm, ⟨4, _⟩ => ⟨S2x512, .f32⟩
  | .hbm, ⟨5, _⟩ => ⟨S128x128, .f32⟩
  | .hbm, ⟨6, _⟩ => ⟨S160x128, .f32⟩
  | .hbm, ⟨7, _⟩ => ⟨S160x128, .f32⟩
  | .hbm, ⟨8, _⟩ => ⟨S8x4x128, .f32⟩
  | .hbm, ⟨9, _⟩ => ⟨S_, .f32⟩
  | .hbm, ⟨10, _⟩ => ⟨S8x4x128, .f32⟩
  | .hbm, ⟨11, _⟩ => ⟨S8x160x128, .f32⟩
  | .hbm, ⟨12, _⟩ => ⟨S8x128, .f32⟩
  | .hbm, ⟨13, _⟩ => ⟨S160x128, .f32⟩
  | .hbm, ⟨14, _⟩ => ⟨S_, .f32⟩
  | .hbm, ⟨15, _⟩ => ⟨S8x128, .f32⟩
  | .hbm, ⟨16, _⟩ => ⟨S160x128, .f32⟩
  | .hbm, ⟨17, _⟩ => ⟨S160x128, .f32⟩
  | .hbm, ⟨18, _⟩ => ⟨S160x128, .f32⟩
  | .hbm, ⟨19, _⟩ => ⟨S160x128, .f32⟩
  | .hbm, ⟨20, _⟩ => ⟨S8x128, .f32⟩
  | .local _ .vmem, ⟨0, _⟩ => ⟨S8x160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S160x128, .f32⟩
  | .local _ .vmem, ⟨6, _⟩ => ⟨S160x128, .f32⟩
  | .local _ .vmem, ⟨7, _⟩ => ⟨S160x128, .f32⟩
  | .local _ .vmem, ⟨8, _⟩ => ⟨S8x128, .f32⟩
  | _, _ => ⟨S8x24x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S160x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceSIdeal.lean ====
abbrev S8x24x128 : Shape := ⟨3, ![8, 24, 128]⟩
abbrev S8x512 : Shape := ⟨2, ![8, 512]⟩
abbrev S8x128x128 : Shape := ⟨3, ![8, 128, 128]⟩
abbrev S24x128 : Shape := ⟨2, ![24, 128]⟩
abbrev S2x512 : Shape := ⟨2, ![2, 512]⟩
abbrev S128x128 : Shape := ⟨2, ![128, 128]⟩
abbrev S160x128 : Shape := ⟨2, ![160, 128]⟩
abbrev S_ : Shape := ⟨0, ![]⟩
abbrev S512 : Shape := ⟨1, ![512]⟩
abbrev S1x512 : Shape := ⟨2, ![1, 512]⟩
abbrev S8x128 : Shape := ⟨2, ![8, 128]⟩

abbrev nBuf : Space → Nat
  | .hbm => 117
  | .vmem => 0
  | .smem => 0
  | _ => 0

abbrev bufTy : (tb : Table) → Fin (tcTables nBuf tb) → BufTy
  | .hbm, ⟨0, _⟩ => ⟨S8x24x128, .f32⟩
  | .hbm, ⟨1, _⟩ => ⟨S8x512, .f32⟩
  | .hbm, ⟨2, _⟩ => ⟨S8x128x128, .f32⟩
  | .hbm, ⟨3, _⟩ => ⟨S24x128, .f32⟩
  | .hbm, ⟨4, _⟩ => ⟨S2x512, .f32⟩
  | .hbm, ⟨5, _⟩ => ⟨S128x128, .f32⟩
  | .hbm, ⟨6, _⟩ => ⟨S160x128, .f32⟩
  | .hbm, ⟨7, _⟩ => ⟨S160x128, .f32⟩
  | .hbm, ⟨8, _⟩ => ⟨S_, .f32⟩
  | .hbm, ⟨9, _⟩ => ⟨S24x128, .f32⟩
  | .hbm, ⟨10, _⟩ => ⟨S_, .f32⟩
  | .hbm, ⟨11, _⟩ => ⟨S128x128, .f32⟩
  | .hbm, ⟨12, _⟩ => ⟨S_, .f32⟩
  | .hbm, ⟨13, _⟩ => ⟨S512, .f32⟩
  | .hbm, ⟨14, _⟩ => ⟨S1x512, .f32⟩
  | .hbm, ⟨15, _⟩ => ⟨S2x512, .f32⟩
  | .hbm, ⟨16, _⟩ => ⟨S2x512, .i1⟩
  | .hbm, ⟨17, _⟩ => ⟨S2x512, .f32⟩
  | .hbm, ⟨18, _⟩ => ⟨S_, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .i1⟩
  | .hbm, ⟨26, _⟩ => ⟨S_, .f32⟩
  | .hbm, ⟨27, _⟩ => ⟨S512, .f32⟩
  | .hbm, ⟨28, _⟩ => ⟨S512, .i1⟩
  | .hbm, ⟨29, _⟩ => ⟨S_, .f32⟩
  | .hbm, ⟨30, _⟩ => ⟨S512, .f32⟩
  | .hbm, ⟨31, _⟩ => ⟨S_, .f32⟩
  | .hbm, ⟨32, _⟩ => ⟨S512, .f32⟩
  | .hbm, ⟨33, _⟩ => ⟨S_, .f32⟩
  | .hbm, ⟨34, _⟩ => ⟨S512, .f32⟩
  | .hbm, ⟨35, _⟩ => ⟨S512, .f32⟩
  | .hbm, ⟨36, _⟩ => ⟨S512, .f32⟩
  | .hbm, ⟨37, _⟩ => ⟨S1x512, .f32⟩
  | .hbm, ⟨38, _⟩ => ⟨S2x512, .f32⟩
  | .hbm, ⟨39, _⟩ => ⟨S2x512, .f32⟩
  | .hbm, ⟨40, _⟩ => ⟨S2x512, .f32⟩
  | .hbm, ⟨41, _⟩ => ⟨S_, .f32⟩
  | .hbm, ⟨42, _⟩ => ⟨S512, .f32⟩
  | .hbm, ⟨43, _⟩ => ⟨S1x512, .f32⟩
  | .hbm, ⟨44, _⟩ => ⟨S2x512, .f32⟩
  | .hbm, ⟨45, _⟩ => ⟨S2x512, .f32⟩
  | .hbm, ⟨46, _⟩ => ⟨S1x512, .f32⟩
  | .hbm, ⟨47, _⟩ => ⟨S_, .f32⟩
  | .hbm, ⟨48, _⟩ => ⟨S1x512, .f32⟩
  | .hbm, ⟨49, _⟩ => ⟨S1x512, .f32⟩
  | .hbm, ⟨50, _⟩ => ⟨S_, .f32⟩
  | .hbm, ⟨51, _⟩ => ⟨S_, .f32⟩
  | .hbm, ⟨52, _⟩ => ⟨S2x512, .f32⟩
  | .hbm, ⟨53, _⟩ => ⟨S1x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S_, .f32⟩
  | .hbm, ⟨58, _⟩ => ⟨S2x512, .f32⟩
  | .hbm, ⟨59, _⟩ => ⟨S_, .f32⟩
  | .hbm, ⟨60, _⟩ => ⟨S_, .f32⟩
  | .hbm, ⟨61, _⟩ => ⟨S2x512, .f32⟩
  | .hbm, ⟨62, _⟩ => ⟨S2x512, .f32⟩
  | .hbm, ⟨63, _⟩ => ⟨S2x512, .f32⟩
  | .hbm, ⟨64, _⟩ => ⟨S2x512, .f32⟩
  | .hbm, ⟨65, _⟩ => ⟨S_, .f32⟩
  | .hbm, ⟨66, _⟩ => ⟨S512, .f32⟩
  | .hbm, ⟨67, _⟩ => ⟨S1x512, .f32⟩
  | .hbm, ⟨68, _⟩ => ⟨S1x512, .f32⟩
  | .hbm, ⟨69, _⟩ => ⟨S2x512, .f32⟩
  | .hbm, ⟨70, _⟩ => ⟨S2x512, .f32⟩
  | .hbm, ⟨71, _⟩ => ⟨S_, .f32⟩
  | .hbm, ⟨72, _⟩ => ⟨S512, .f32⟩
  | .hbm, ⟨73, _⟩ => ⟨S2x512, .f32⟩
  | .hbm, ⟨74, _⟩ => ⟨S2x512, .f32⟩
  | .hbm, ⟨75, _⟩ => ⟨S2x512, .f32⟩
  | .hbm, ⟨76, _⟩ => ⟨S8x128, .f32⟩
  | .hbm, ⟨77, _⟩ => ⟨S_, .f32⟩
  | .hbm, ⟨78, _⟩ => ⟨S_, .f32⟩
  | .hbm, ⟨79, _⟩ => ⟨S8x128, .f32⟩
  | .hbm, ⟨80, _⟩ => ⟨S160x128, .f32⟩
  | .hbm, ⟨81, _⟩ => ⟨S8x128, .f32⟩
  | .hbm, ⟨82, _⟩ => ⟨S160x128, .f32⟩
  | .hbm, ⟨83, _⟩ => ⟨S_, .f32⟩
  | .hbm, ⟨84, _⟩ => ⟨S160x128, .f32⟩
  | .hbm, ⟨85, _⟩ => ⟨S160x128, .f32⟩
  | .hbm, ⟨86, _⟩ => ⟨S_, .f32⟩
  | .hbm, ⟨87, _⟩ => ⟨S160x128, .f32⟩
  | .hbm, ⟨88, _⟩ => ⟨S160x128, .f32⟩
  | .hbm, ⟨89, _⟩ => ⟨S160x128, .f32⟩
  | .hbm, ⟨90, _⟩ => ⟨S_, .f32⟩
  | .hbm, ⟨91, _⟩ => ⟨S160x128, .f32⟩
  | .hbm, ⟨92, _⟩ => ⟨S160x128, .f32⟩
  | .hbm, ⟨93, _⟩ => ⟨S160x128, .f32⟩
  | .hbm, ⟨94, _⟩ => ⟨S_, .f32⟩
  | .hbm, ⟨95, _⟩ => ⟨S160x128, .f32⟩
  | .hbm, ⟨96, _⟩ => ⟨S160x128, .f32⟩
  | .hbm, ⟨97, _⟩ => ⟨S160x128, .f32⟩
  | .hbm, ⟨98, _⟩ => ⟨S_, .f32⟩
  | .hbm, ⟨99, _⟩ => ⟨S160x128, .f32⟩
  | .hbm, ⟨100, _⟩ => ⟨S160x128, .f32⟩
  | .hbm, ⟨101, _⟩ => ⟨S_, .f32⟩
  | .hbm, ⟨102, _⟩ => ⟨S160x128, .f32⟩
  | .hbm, ⟨103, _⟩ => ⟨S160x128, .f32⟩
  | .hbm, ⟨104, _⟩ => ⟨S160x128, .f32⟩
  | .hbm, ⟨105, _⟩ => ⟨S_, .f32⟩
  | .hbm, ⟨106, _⟩ => ⟨S160x128, .f32⟩
  | .hbm, ⟨107, _⟩ => ⟨S160x128, .f32⟩
  | .hbm, ⟨108, _⟩ => ⟨S160x128, .f32⟩
  | .hbm, ⟨109, _⟩ => ⟨S_, .f32⟩
  | .hbm, ⟨110, _⟩ => ⟨S160x128, .f32⟩
  | .hbm, ⟨111, _⟩ => ⟨S160x128, .f32⟩
  | .hbm, ⟨112, _⟩ => ⟨S160x128, .f32⟩
  | .hbm, ⟨113, _⟩ => ⟨S_, .f32⟩
  | .hbm, ⟨114, _⟩ => ⟨S160x128, .f32⟩
  | .hbm, ⟨115, _⟩ => ⟨S160x128, .f32⟩
  | .hbm, ⟨116, _⟩ => ⟨S8x128, .f32⟩
  | _, _ => ⟨S8x24x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_v11 : Ref sig .tc := ⟨.hbm, 25, rfl⟩
abbrev main_cst_5 : Ref sig .tc := ⟨.hbm, 26, rfl⟩
abbrev main_v12 : Ref sig .tc := ⟨.hbm, 27, rfl⟩
abbrev main_v13 : Ref sig .tc := ⟨.hbm, 28, rfl⟩
abbrev main_cst_6 : Ref sig .tc := ⟨.hbm, 29, rfl⟩
abbrev main_v14 : Ref sig .tc := ⟨.hbm, 30, rfl⟩
abbrev main_cst_7 : Ref sig .tc := ⟨.hbm, 31, rfl⟩
abbrev main_v15 : Ref sig .tc := ⟨.hbm, 32, rfl⟩
abbrev main_cst_8 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_9 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_10 : Ref sig .tc := ⟨.hbm, 47, rfl⟩
abbrev main_v28 : Ref sig .tc := ⟨.hbm, 48, rfl⟩
abbrev main_v29 : Ref sig .tc := ⟨.hbm, 49, rfl⟩
abbrev main_call0_call0_cst : Ref sig .tc := ⟨.hbm, 50, rfl⟩
abbrev main_call0_call0_v0 : Ref sig .tc := ⟨.hbm, 51, rfl⟩
abbrev main_v30 : Ref sig .tc := ⟨.hbm, 52, rfl⟩
abbrev main_v31 : Ref sig .tc := ⟨.hbm, 53, rfl⟩
abbrev main_cst_11 : Ref sig .tc := ⟨.hbm, 54, rfl⟩
abbrev main_v32 : Ref sig .tc := ⟨.hbm, 55, rfl⟩
abbrev main_v33 : Ref sig .tc := ⟨.hbm, 56, rfl⟩
abbrev main_cst_12 : Ref sig .tc := ⟨.hbm, 57, rfl⟩
abbrev main_v34 : Ref sig .tc := ⟨.hbm, 58, rfl⟩
abbrev main_call1_call0_cst : Ref sig .tc := ⟨.hbm, 59, rfl⟩
abbrev main_call1_call0_v0 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_13 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_14 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_15 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_16 : Ref sig .tc := ⟨.hbm, 83, rfl⟩
abbrev main_v54 : Ref sig .tc := ⟨.hbm, 84, rfl⟩
abbrev main_v55 : Ref sig .tc := ⟨.hbm, 85, rfl⟩
abbrev main_cst_17 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_18 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_19 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_20 : Ref sig .tc := ⟨.hbm, 98, rfl⟩
abbrev main_v65 : Ref sig .tc := ⟨.hbm, 99, rfl⟩
abbrev main_v66 : Ref sig .tc := ⟨.hbm, 100, rfl⟩
abbrev main_cst_21 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_22 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_23 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_24 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩

abbrev nD : Nat := 1
abbrev τ : Topo := Topo.v7x

variable {F : FTy → Type} [FloatOps F]
-- ==== KernelG.lean ====
abbrev S4096x512 : Shape := ⟨2, ![4096, 512]⟩
abbrev S1x512 : Shape := ⟨2, ![1, 512]⟩
abbrev S64x128x512 : Shape := ⟨3, ![64, 128, 512]⟩
abbrev S512x512 : Shape := ⟨2, ![512, 512]⟩
abbrev S8x128x512 : Shape := ⟨3, ![8, 128, 512]⟩
abbrev S128x512 : Shape := ⟨2, ![128, 512]⟩
abbrev S8x4x64x128 : Shape := ⟨4, ![8, 4, 64, 128]⟩
abbrev S1x128x512 : Shape := ⟨3, ![1, 128, 512]⟩
abbrev S64x128 : Shape := ⟨2, ![64, 128]⟩
abbrev S1x128 : Shape := ⟨2, ![1, 128]⟩
abbrev S1x1x64x128 : Shape := ⟨4, ![1, 1, 64, 128]⟩
abbrev S128x128 : Shape := ⟨2, ![128, 128]⟩
abbrev S64x64 : Shape := ⟨2, ![64, 64]⟩
abbrev S8x64 : Shape := ⟨2, ![8, 64]⟩
abbrev S8x128 : Shape := ⟨2, ![8, 128]⟩
abbrev S56x128 : Shape := ⟨2, ![56, 128]⟩
abbrev S16x128 : Shape := ⟨2, ![16, 128]⟩
abbrev S48x128 : Shape := ⟨2, ![48, 128]⟩
abbrev S24x128 : Shape := ⟨2, ![24, 128]⟩
abbrev S40x128 : Shape := ⟨2, ![40, 128]⟩
abbrev S32x128 : Shape := ⟨2, ![32, 128]⟩
abbrev S64 : Shape := ⟨1, ![64]⟩
abbrev S64x1 : Shape := ⟨2, ![64, 1]⟩
abbrev S64x512 : Shape := ⟨2, ![64, 512]⟩

abbrev nBuf : Space → Nat
  | .hbm => 6
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S4096x512, .f32⟩
  | .hbm, ⟨5, _⟩ => ⟨S64x128x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S8x128x512, .f32⟩
  | .local _ .vmem, ⟨10, _⟩ => ⟨S8x128x512, .f32⟩
  | .local _ .vmem, ⟨11, _⟩ => ⟨S128x512, .f32⟩
  | .local _ .vmem, ⟨12, _⟩ => ⟨S8x4x64x128, .f32⟩
  | .local _ .vmem, ⟨13, _⟩ => ⟨S8x4x64x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelH.lean ====
abbrev S4096x512 : Shape := ⟨2, ![4096, 512]⟩
abbrev S1x512 : Shape := ⟨2, ![1, 512]⟩
abbrev S64x128x512 : Shape := ⟨3, ![64, 128, 512]⟩
abbrev S256x512 : Shape := ⟨2, ![256, 512]⟩
abbrev S4x128x512 : Shape := ⟨3, ![4, 128, 512]⟩
abbrev S128x512 : Shape := ⟨2, ![128, 512]⟩
abbrev S4x4x64x128 : Shape := ⟨4, ![4, 4, 64, 128]⟩
abbrev S1x128x512 : Shape := ⟨3, ![1, 128, 512]⟩
abbrev S64x128 : Shape := ⟨2, ![64, 128]⟩
abbrev S1x128 : Shape := ⟨2, ![1, 128]⟩
abbrev S1x1x64x128 : Shape := ⟨4, ![1, 1, 64, 128]⟩
abbrev S128x128 : Shape := ⟨2, ![128, 128]⟩
abbrev S64x64 : Shape := ⟨2, ![64, 64]⟩
abbrev S8x64 : Shape := ⟨2, ![8, 64]⟩
abbrev S8x128 : Shape := ⟨2, ![8, 128]⟩
abbrev S64 : Shape := ⟨1, ![64]⟩
abbrev S64x1 : Shape := ⟨2, ![64, 1]⟩
abbrev S128 : Shape := ⟨1, ![128]⟩
abbrev S64x512 : Shape := ⟨2, ![64, 512]⟩

abbrev nBuf : Space → Nat
  | .hbm => 10
  | .vmem => 21
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S64x128x512, .f32⟩
  | .hbm, ⟨5, _⟩ => ⟨S4096x512, .f32⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S4x128x512, .f32⟩
  | .local _ .vmem, ⟨8, _⟩ => ⟨S4x128x512, .f32⟩
  | .local _ .vmem, ⟨9, _⟩ => ⟨S256x512, .f32⟩
  | .local _ .vmem, ⟨10, _⟩ => ⟨S256x512, .f32⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S1x512, .f32⟩
  | .local _ .vmem, ⟨18, _⟩ => ⟨S128x512, .f32⟩
  | .local _ .vmem, ⟨19, _⟩ => ⟨S4x4x64x128, .f32⟩
  | .local _ .vmem, ⟨20, _⟩ => ⟨S4x4x64x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Proof.RealLift.lean ====
/- Finite extended reals: the real number a finite array entry is, the arithmetic of such entries, and
   what a precondition "all entries are below infinity in absolute value" says of the entries. -/
module

public import Idealize.ShloMosaic.PureOps
public import Idealize.ShloMosaic.Lib.StableHlo
public import Idealize.ShloMosaic.Lib.Pointwise
public import Idealize.ShloMosaic.Lib.ReduceAll

@[expose] public section

set_option maxRecDepth 16384

noncomputable section

namespace Cert.RealLift

open Idealize.ShloMosaic

/-- A finite sum of reals, read as an extended real, is the sum of the extended reals. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Division of two reals with a nonzero divisor. -/
theorem coe_div (a : ℝ) {b : ℝ} (h : b ≠ 0) : Ideal.div (a : EReal) (b : EReal) = ((a / b : ℝ) : EReal) := by
  rw [Ideal.div_coe h, ← EReal.coe_mul, mul_one_div]

/-- The reciprocal square root of a positive real. -/
theorem coe_rsqrt {a : ℝ} (h : 0 < a) : Ideal.rsqrt (a : EReal) = (((Real.sqrt a)⁻¹ : ℝ) : EReal) := by
  rw [Ideal.rsqrt_coe, if_neg (not_lt.mpr h.le), if_neg h.ne']

/-- The pattern of 1024. -/
theorem bits_1024 : Ideal.ofBits .f32 0x44800000#32 = ((1024 : ℝ) : EReal) := by
  have e1 : (BitVec.extractLsb' 23 8 0x44800000#32).toNat = 137 := by decide
  have e2 : (BitVec.extractLsb' 0 23 0x44800000#32).toNat = 0 := by decide
  have e3 : (BitVec.extractLsb' (8 + 23) 1 0x44800000#32 == 1#1) = false := by decide
  simp only [Ideal.ofBits, Ideal.ieee, e1, e2, e3]
  norm_num

theorem bits_half : Ideal.ofBits .f32 0x3F000000#32 = ((1 / 2 : ℝ) : EReal) := by
  have e1 : (BitVec.extractLsb' 23 8 0x3F000000#32).toNat = 126 := by decide
  have e2 : (BitVec.extractLsb' 0 23 0x3F000000#32).toNat = 0 := by decide
  have e3 : (BitVec.extractLsb' (8 + 23) 1 0x3F000000#32 == 1#1) = false := by decide
  simp only [Ideal.ofBits, Ideal.ieee, e1, e2, e3]
  norm_num

theorem bits_two : Ideal.ofBits .f32 0x40000000#32 = ((2 : ℝ) : EReal) := by
  have e1 : (BitVec.extractLsb' 23 8 0x40000000#32).toNat = 128 := by decide
  have e2 : (BitVec.extractLsb' 0 23 0x40000000#32).toNat = 0 := by decide
  have e3 : (BitVec.extractLsb' (8 + 23) 1 0x40000000#32 == 1#1) = false := by decide
  simp only [Ideal.ofBits, Ideal.ieee, e1, e2, e3]
  norm_num

/-- The pattern of one part in 1024. -/
theorem bits_mean : Ideal.ofBits .f32 0x3A800000#32 = ((1 / 1024 : ℝ) : EReal) := by
  have e1 : (BitVec.extractLsb' 23 8 0x3A800000#32).toNat = 117 := by decide
  have e2 : (BitVec.extractLsb' 0 23 0x3A800000#32).toNat = 0 := by decide
  have e3 : (BitVec.extractLsb' (8 + 23) 1 0x3A800000#32 == 1#1) = false := by decide
  simp only [Ideal.ofBits, Ideal.ieee, e1, e2, e3]
  norm_num

/-- The pattern of half a part in 1024. -/
theorem bits_half_mean : Ideal.ofBits .f32 0x3A000000#32 = ((1 / 2048 : ℝ) : EReal) := by
  have e1 : (BitVec.extractLsb' 23 8 0x3A000000#32).toNat = 116 := by decide
  have e2 : (BitVec.extractLsb' 0 23 0x3A000000#32).toNat = 0 := by decide
  have e3 : (BitVec.extractLsb' (8 + 23) 1 0x3A000000#32 == 1#1) = false := by decide
  simp only [Ideal.ofBits, Ideal.ieee, e1, e2, e3]
  norm_num

/-- The pattern of 128. -/
theorem bits_128 : Ideal.ofBits .f32 0x43000000#32 = ((128 : ℝ) : EReal) := by
  have e1 : (BitVec.extractLsb' 23 8 0x43000000#32).toNat = 134 := by decide
  have e2 : (BitVec.extractLsb' 0 23 0x43000000#32).toNat = 0 := by decide
  have e3 : (BitVec.extractLsb' (8 + 23) 1 0x43000000#32 == 1#1) = false := by decide
  simp only [Ideal.ofBits, Ideal.ieee, e1, e2, e3]
  norm_num

theorem bits_one : Ideal.ofBits .f32 0x3F800000#32 = 1 := by
  have e1 : (BitVec.extractLsb' 23 8 0x3F800000#32).toNat = 127 := by decide
  have e2 : (BitVec.extractLsb' 0 23 0x3F800000#32).toNat = 0 := by decide
  have e3 : (BitVec.extractLsb' (8 + 23) 1 0x3F800000#32 == 1#1) = false := by decide
  simp only [Ideal.ofBits, Ideal.ieee, e1, e2, e3]
  norm_num

/-- The pattern of minus one half. -/
theorem bits_neg_half : Ideal.ofBits .f32 0xBF000000#32 = ((-(1 / 2) : ℝ) : EReal) := by
  have e1 : (BitVec.extractLsb' 23 8 0xBF000000#32).toNat = 126 := by decide
  have e2 : (BitVec.extractLsb' 0 23 0xBF000000#32).toNat = 0 := by decide
  have e3 : (BitVec.extractLsb' (8 + 23) 1 0xBF000000#32 == 1#1) = true := by decide
  simp only [Ideal.ofBits, Ideal.ieee, e1, e2, e3]
  norm_num

/-- The small number added to a mean square before its root is taken: the pattern's exact value. -/
def eps : ℝ := (8388608 + 407485 : ℝ) * (2 : ℝ) ^ (-43 : ℤ)

theorem eps_pos : 0 < eps := by unfold eps; positivity

theorem bits_eps : Ideal.ofBits .f32 0x358637BD#32 = ((eps : ℝ) : EReal) := by
  have e1 : (BitVec.extractLsb' 23 8 0x358637BD#32).toNat = 107 := by decide
  have e2 : (BitVec.extractLsb' 0 23 0x358637BD#32).toNat = 407485 := by decide
  have e3 : (BitVec.extractLsb' (8 + 23) 1 0x358637BD#32 == 1#1) = false := by decide
  simp only [Ideal.ofBits, Ideal.ieee, e1, e2, e3]
  unfold eps
  norm_num

theorem bits_inf : Ideal.ofBits .f32 0x7F800000#32 = ⊤ := by
  have e1 : (BitVec.extractLsb' 23 8 0x7F800000#32).toNat = 255 := by decide
  have e2 : (BitVec.extractLsb' 0 23 0x7F800000#32).toNat = 0 := by decide
  have e3 : (BitVec.extractLsb' (8 + 23) 1 0x7F800000#32 == 1#1) = false := by decide
  simp only [Ideal.ofBits, Ideal.ieee, e1, e2, e3]
  norm_num

/-- An extended real that is a real number. -/
def IsR (x : EReal) : Prop := x = ((x.toReal : ℝ) : EReal)

theorem IsR.coe (r : ℝ) : IsR (r : EReal) := by unfold IsR; rw [EReal.toReal_coe]

theorem IsR.of {x : EReal} {r : ℝ} (h : x = (r : EReal)) : IsR x := h ▸ IsR.coe r

theorem IsR.add {x y : EReal} (hx : IsR x) (hy : IsR y) : IsR (x + y) := by
  rw [hx, hy, ← EReal.coe_add]; exact IsR.coe _

theorem IsR.sub {x y : EReal} (hx : IsR x) (hy : IsR y) : IsR (x - y) := by
  rw [hx, hy, ← EReal.coe_sub]; exact IsR.coe _

theorem IsR.mul {x y : EReal} (hx : IsR x) (hy : IsR y) : IsR (x * y) := by
  rw [hx, hy, ← EReal.coe_mul]; exact IsR.coe _

theorem IsR.sum {ι : Type} (s : Finset ι) {f : ι → EReal} (h : ∀ i, IsR (f i)) : IsR (∑ i ∈ s, f i) := by
  rw [Finset.sum_congr rfl fun i _ => h i, coe_sum]; exact IsR.coe _

/-- An entry whose absolute value compares below infinity is the coercion of its real value. -/
theorem coe_of_abs_lt {x : EReal} (h : Ideal.cmp .olt (max x (-x)) ⊤ = 1#1) : IsR x := by
  have h' : max x (-x) < ⊤ := by
    by_contra hc
    simp [Ideal.cmp, hc] at h
  rw [max_lt_iff] at h'
  refine (EReal.coe_toReal h'.1.ne ?_).symm
  rintro rfl
  simp at h'

/-- The finiteness test of a whole array: its "and" over all entries is one, so each entry is a real. -/
theorem entries_real {s t u w : Shape} {axes : List (Fin s.rank)} [Subsingleton t.Idx] (x : FVec Ideal s .f32)
    (b : Fin w.rank → Fin s.rank) (hb : w.BroadcastsInDim s b) (init : u.Idx → BitVec 1) (h : s.ReducesTo axes t)
    (hu : 0 < u.numel) (j : t.Idx)
    (hone : Host.reduce IntOp.andi (cmpf .olt (Host.absf x) (broadcastInDim s b hb (constant (F := Ideal) w .f32 0x7F800000#32)))
      init h hu j = 1#1) (i : s.Idx) : IsR (x i) := by
  have h1 := Host.reduce_andi_all _ _ h hu j hone i
  refine coe_of_abs_lt ?_
  rw [← bits_inf]
  exact h1

theorem andi_one {a b : BitVec 1} (h : IntOp.andi a b = 1#1) : a = 1#1 ∧ b = 1#1 := by
  revert a b; simp only [IntOp.andi]; decide

theorem mul_sum_real {ι : Type} [Fintype ι] (c : ℝ) (f : ι → EReal) (hf : ∀ i, IsR (f i)) :
    ((c : ℝ) : EReal) * ∑ i, f i = ∑ i, f i * ((c : ℝ) : EReal) := by
  obtain ⟨g, rfl⟩ : ∃ g : ι → ℝ, f = fun i => ((g i : ℝ) : EReal) := ⟨fun i => (f i).toReal, funext fun i => hf i⟩
  simp only [← EReal.coe_mul, coe_sum]
  rw [Finset.mul_sum]
  exact congrArg _ (Finset.sum_congr rfl fun i _ => mul_comm _ _)

end Cert.RealLift

end
-- ==== Proof.RmsReal.lean ====
/- The backward pass of a root-mean-square norm over rows of `n` entries, over the reals: the form that
   multiplies the normalised row by the mean of the cotangent against it, and the form reverse-mode
   differentiation of the norm writes, are one function. -/
module

public import proofs.«01_k».proof.Proof.RealLift

@[expose] public section

set_option maxRecDepth 16384

noncomputable section

namespace Cert.RmsReal

open Idealize.ShloMosaic Cert.RealLift

variable {n : ℕ}

/-- The mean of squares of a row, plus the small number. -/
def ms (x : Fin n → ℝ) : ℝ := (∑ k, x k * x k) / n + eps

theorem ms_pos (x : Fin n → ℝ) : 0 < ms x := by
  have : 0 ≤ ∑ k, x k * x k := Finset.sum_nonneg fun k _ => mul_self_nonneg _
  have h := eps_pos
  have h2 : (0 : ℝ) ≤ n := n.cast_nonneg
  have h3 := div_nonneg this h2
  unfold ms; linarith

/-- The reciprocal root mean square of a row. -/
def rinv (x : Fin n → ℝ) : ℝ := (Real.sqrt (ms x))⁻¹

theorem rinv_sq (x : Fin n → ℝ) : rinv x * rinv x * ms x = 1 := by
  have h := ms_pos x
  have h2 := Real.mul_self_sqrt h.le
  have h3 : Real.sqrt (ms x) ≠ 0 := (Real.sqrt_pos.mpr h).ne'
  unfold rinv
  rw [← mul_inv, h2, inv_mul_cancel₀ h.ne']

/-- The gradient of a row `x` normalised and scaled by `w`, at the cotangent `d`. -/
def dx (x w d : Fin n → ℝ) (j : Fin n) : ℝ :=
  rinv x * (d j * w j - x j * rinv x * ((∑ l, d l * w l * (x l * rinv x)) / n))

/-- The factor with which reverse-mode differentiation sends the row back through its mean square. -/
def cvjp (x w d : Fin n → ℝ) : ℝ := (∑ l, x l * (d l * w l)) * (-(1 / 2) * (rinv x / ms x)) / n

/-- The reverse-mode gradient is the kernel's. -/
theorem dx_eq (x w d : Fin n → ℝ) (j : Fin n) :
    d j * w j * rinv x + x j * cvjp x w d + cvjp x w d * x j = dx x w d j := by
  have h := rinv_sq x
  have hm := (ms_pos x).ne'
  have hd : rinv x / ms x = rinv x * rinv x * rinv x := by
    rw [div_eq_iff hm]; linear_combination (-rinv x) * h
  have hs : ∑ l, d l * w l * (x l * rinv x) = rinv x * ∑ l, x l * (d l * w l) := by
    rw [Finset.mul_sum]; exact Finset.sum_congr rfl fun l _ => by ring
  unfold cvjp dx
  rw [hd, hs]; ring

instance : Fact (Ideal.ofBits .f32 0x44800000#32 = (((1024 : ℕ) : ℝ) : EReal)) := ⟨bits_1024.trans (by norm_num)⟩

instance : Fact (Ideal.ofBits .f32 0x43000000#32 = (((128 : ℕ) : ℝ) : EReal)) := ⟨bits_128.trans (by norm_num)⟩

/-- The kernel's term for the reciprocal root mean square, at a finite row. -/
theorem rsqrt_row {B : EReal} [hn : NeZero n] [hB : Fact (B = ((n : ℝ) : EReal))] (a : Fin n → EReal) (x : Fin n → ℝ) (h : ∀ k, a k = ((x k : ℝ) : EReal)) :
    Ideal.rsqrt (Ideal.div (∑ k, a k * a k) B + Ideal.ofBits .f32 0x358637BD#32)
      = ((rinv x : ℝ) : EReal) := by
  simp only [h, ← EReal.coe_mul, coe_sum, hB.out, bits_eps]
  rw [coe_div _ (Nat.cast_ne_zero.mpr hn.out), ← EReal.coe_add]
  exact coe_rsqrt (ms_pos x)

/-- The mean square of a finite row, as the mean's own term. -/
theorem ms_row {B : EReal} [hn : NeZero n] [hB : Fact (B = ((n : ℝ) : EReal))] (a : Fin n → EReal) (x : Fin n → ℝ) (h : ∀ k, a k = ((x k : ℝ) : EReal)) :
    Ideal.div (∑ k, a k * a k) B + Ideal.ofBits .f32 0x358637BD#32
      = ((ms x : ℝ) : EReal) := by
  simp only [h, ← EReal.coe_mul, coe_sum, hB.out, bits_eps]
  rw [coe_div _ (Nat.cast_ne_zero.mpr hn.out), ← EReal.coe_add]
  rfl

/-- The kernel's gradient term at finite rows. -/
theorem dx_kernel {B : EReal} [hn : NeZero n] [hB : Fact (B = ((n : ℝ) : EReal))] (a b e : Fin n → EReal) (x w d : Fin n → ℝ) (ha : ∀ k, a k = ((x k : ℝ) : EReal))
    (hb : ∀ k, b k = ((w k : ℝ) : EReal)) (he : ∀ k, e k = ((d k : ℝ) : EReal)) (R : EReal) (hR : R = ((rinv x : ℝ) : EReal))
    (j : Fin n) :
    R * (e j * b j - a j * R * Ideal.div (∑ l, e l * b l * (a l * R)) B)
      = ((dx x w d j : ℝ) : EReal) := by
  subst hR
  simp only [ha, hb, he, ← EReal.coe_mul, coe_sum, hB.out]
  rw [coe_div _ (Nat.cast_ne_zero.mpr hn.out), ← EReal.coe_mul, ← EReal.coe_sub, ← EReal.coe_mul]
  rfl

/-- The reverse-mode factor at finite rows. -/
theorem cvjp_row {B : EReal} [hn : NeZero n] [hB : Fact (B = ((n : ℝ) : EReal))] (a b e : Fin n → EReal) (x w d : Fin n → ℝ) (ha : ∀ k, a k = ((x k : ℝ) : EReal))
    (hb : ∀ k, b k = ((w k : ℝ) : EReal)) (he : ∀ k, e k = ((d k : ℝ) : EReal)) (R M : EReal)
    (hR : R = ((rinv x : ℝ) : EReal)) (hM : M = ((ms x : ℝ) : EReal)) :
    Ideal.div ((∑ l, a l * (e l * b l)) * (Ideal.ofBits .f32 0xBF000000#32 * Ideal.div R M)) B
      = ((cvjp x w d : ℝ) : EReal) := by
  subst hR hM
  simp only [ha, hb, he, ← EReal.coe_mul, coe_sum, hB.out, bits_neg_half]
  rw [coe_div _ (ms_pos x).ne', ← EReal.coe_mul, ← EReal.coe_mul, coe_div _ (Nat.cast_ne_zero.mpr hn.out)]
  rfl

/-- The reverse-mode gradient of a row, added to a cotangent of its own, at finite rows. -/
theorem dx_vjp (a b e : Fin n → EReal) (x w d : Fin n → ℝ) (ha : ∀ k, a k = ((x k : ℝ) : EReal))
    (hb : ∀ k, b k = ((w k : ℝ) : EReal)) (he : ∀ k, e k = ((d k : ℝ) : EReal)) (R C h : EReal)
    (hR : R = ((rinv x : ℝ) : EReal)) (hC : C = ((cvjp x w d : ℝ) : EReal)) (j : Fin n) :
    h + e j * b j * R + a j * C + C * a j = h + ((dx x w d j : ℝ) : EReal) := by
  subst hR hC
  rw [add_assoc, add_assoc, ha, hb, he, ← dx_eq]
  push_cast
  rw [add_assoc]

end Cert.RmsReal

end
-- ==== Proof.NormV.lean ====
/- The gradient of the feed-forward norm and of the two products it feeds: the kernel's blocks are the
   reverse-mode gradient of the reference, under the precondition that the arrays the norm reads are finite. -/
module

public import proofs.«01_k».proof.Proof.Gen.KernelVIdeal.Value
public import proofs.«01_k».proof.Proof.Gen.ReferenceVIdeal.Read
public import proofs.«01_k».proof.Proof.RmsReal
public import Idealize.ShloMosaic.Lib.Pipeline.ValueKit

@[expose] public section

set_option maxRecDepth 16384

noncomputable section

namespace Cert.NormV

open Idealize.ShloMosaic Idealize.ShloMosaic.TcCoe Idealize.SL.Sem
open Idealize.ShloMosaic.Pipeline (Dat)
open Cert.KernelVIdeal Cert.KernelVIdeal.Gen Cert.RealLift Cert.RmsReal
open Cert.ReferenceVIdeal.Read

/-! ## The reference at an index -/

section Ref

variable (x0 x4 : FVec Ideal S4096x1024 .f32) (x1 : FVec Ideal S1x1024 .f32) (x2 x3 : FVec Ideal S1x1024x2816 .f32)
  (x5 x6 : FVec Ideal S4096x2816 .f32)

theorem v23_apply (r : Fin 4096) (j : Fin 1024) : val_main_v23 (F := Ideal) x2 x3 x5 x6 (ix2 r j)
    = ∑ k, x6 (ix2 r k) * x3 (ix3 0 j k) + ∑ k, x5 (ix2 r k) * x2 (ix3 0 j k) := by
  pointwise [val_main_v23, val_main_v22, val_main_v21, val_main_v19, val_main_v17]

theorem v23_real (h2 : ∀ i, IsR (x2 i)) (h3 : ∀ i, IsR (x3 i)) (h5 : ∀ i, IsR (x5 i)) (h6 : ∀ i, IsR (x6 i)) (r : Fin 4096)
    (j : Fin 1024) : IsR (val_main_v23 (F := Ideal) x2 x3 x5 x6 (ix2 r j)) := by
  rw [v23_apply]
  exact (IsR.sum _ fun k => (h6 _).mul (h3 _)).add (IsR.sum _ fun k => (h5 _).mul (h2 _))

theorem v44_apply (r : Fin 4096) (j : Fin 1024) (x w d : Fin 1024 → ℝ)
    (hx : ∀ k, x0 (ix2 r k) = ((x k : ℝ) : EReal)) (hw : ∀ k, x1 (ix2 0 k) = ((w k : ℝ) : EReal))
    (hd : ∀ k, val_main_v23 (F := Ideal) x2 x3 x5 x6 (ix2 r k) = ((d k : ℝ) : EReal)) :
    val_main_v44 (F := Ideal) x0 x1 x2 x3 x4 x5 x6 (ix2 r j) = x4 (ix2 r j) + ((dx x w d j : ℝ) : EReal) := by
  pointwise [val_main_v44, val_main_v43, val_main_v42, val_main_v41, val_main_v40, val_main_v39, val_main_v38, val_main_v37,
    val_main_v36, val_main_v35, val_main_v34, val_main_v33, val_main_v32, val_main_v31, val_main_v30, val_main_v28, val_main_v27,
    val_main_v14, val_main_v0, val_main_v11, val_main_v10, val_main_v9, val_main_v8, val_main_v7, val_main_v6, val_main_v5,
    val_main_v4, val_main_v3, val_main_v2, val_main_v1, val_main_cst, val_main_cst_0, val_main_cst_1, val_main_cst_2,
    val_main_cst_3, val_main_cst_4, val_main_cst_5, val_main_cst_6, val_main_cst_7]
  simp only [Finset.univ_unique, Finset.sum_singleton]
  exact dx_vjp (fun k => x0 (ix2 r k)) (fun k => x1 (ix2 0 k)) (fun k => val_main_v23 (F := Ideal) x2 x3 x5 x6 (ix2 r k))
    x w d hx hw hd _ _ _ (rsqrt_row _ x hx)
    (cvjp_row (fun k => x0 (ix2 r k)) (fun k => x1 (ix2 0 k)) (fun k => val_main_v23 (F := Ideal) x2 x3 x5 x6 (ix2 r k))
      x w d hx hw hd _ _ (rsqrt_row _ x hx) (ms_row _ x hx)) j

theorem v45_apply (j : Fin 1024) : val_main_v45 (F := Ideal) x0 x2 x3 x5 x6 (ix2 0 j)
    = ∑ r : Fin 4096, x0 (ix2 r j) * Ideal.rsqrt (Ideal.div (∑ k, x0 (ix2 r k) * x0 (ix2 r k)) (Ideal.ofBits .f32 0x44800000#32)
        + Ideal.ofBits .f32 0x358637BD#32) * val_main_v23 (F := Ideal) x2 x3 x5 x6 (ix2 r j) := by
  pointwise [val_main_v45, val_main_v29, val_main_v26, val_main_v25, val_main_v24, val_main_v13, val_main_v12,  val_main_v8,
    val_main_v7, val_main_v6, val_main_v5, val_main_v4, val_main_v3, val_main_v2,val_main_v1,
    val_main_cst, val_main_cst_0, val_main_cst_1, val_main_cst_2, val_main_cst_3, val_main_cst_4]
  simp only [Finset.univ_unique, Finset.sum_singleton]

end Ref

/-! ## The kernel's block at an index -/

section Ker

theorem pay5_apply (v3 v5 : FVec Ideal S512x2816 .bf16) (v7 v10 : FVec Ideal S2816x1024 .bf16) (r : Fin 512) (j : Fin 1024) :
    k0_pay5 (F := Ideal) v3 v5 v7 v10 (ix2 r j) = ∑ k, v3 (ix2 r k) * v7 (ix2 k j) + ∑ k, v5 (ix2 r k) * v10 (ix2 k j) := by
  pointwise [k0_pay5]

theorem pay1_apply (v0 v1 : FVec Ideal S512x1024 .f32) (v2 : FVec Ideal S1x1024 .f32) (v3 v5 : FVec Ideal S512x2816 .bf16)
    (v7 v10 : FVec Ideal S2816x1024 .bf16) (r : Fin 512) (j : Fin 1024) (x w d : Fin 1024 → ℝ)
    (hx : ∀ k, v0 (ix2 r k) = ((x k : ℝ) : EReal)) (hw : ∀ k, v2 (ix2 0 k) = ((w k : ℝ) : EReal))
    (hd : ∀ k, k0_pay5 (F := Ideal) v3 v5 v7 v10 (ix2 r k) = ((d k : ℝ) : EReal)) :
    k0_pay1 (F := Ideal) v1 (k0_pay8 (F := Ideal) v0 v2 v3 v5 v7 v10) (ix2 r j) = v1 (ix2 r j) + ((dx x w d j : ℝ) : EReal) := by
  pointwise [k0_pay1, k0_pay8, k0_pay7, k0_pay6]
  rw [add_comm]
  exact congrArg (v1 (ix2 r j) + ·) (dx_kernel (fun k => v0 (ix2 r k)) (fun k => v2 (ix2 0 k))
    (fun k => k0_pay5 (F := Ideal) v3 v5 v7 v10 (ix2 r k)) x w d hx hw hd _ (rsqrt_row _ x hx) j)

theorem pay3_apply (j : S1x1024.Idx) : k0_pay3 (F := Ideal) j = 0 := by pointwise [k0_pay3]

theorem pay4_apply (v0 : FVec Ideal S512x1024 .f32) (v3 v5 : FVec Ideal S512x2816 .bf16) (v7 v10 : FVec Ideal S2816x1024 .bf16)
    (v46 : FVec Ideal S1x1024 .f32) (j : S1x1024.Idx) :
    k0_pay4 (F := Ideal) (k0_pay9 (F := Ideal) v0 v3 v5 v7 v10) v46 j
      = v46 j + ∑ r : Fin 512, k0_pay5 (F := Ideal) v3 v5 v7 v10 (ix2 r (j 1)) * (v0 (ix2 r (j 1)) *
        Ideal.rsqrt (Ideal.div (∑ k, v0 (ix2 r k) * v0 (ix2 r k)) (Ideal.ofBits .f32 0x44800000#32)
        + Ideal.ofBits .f32 0x358637BD#32)) := by
  idx_vars j
  pointwise [k0_pay4, k0_pay9, k0_pay7, k0_pay6]

end Ker

/-! ## The blocks of the arrays, and the outputs after the run -/

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![t.val, 0] ∧ win0_8.index t = ![t.val, 0] ∧ win0_9.index t = ![0, 0] :=
  (by decide +kernel : ∀ t : Fin grid0.N, _)

/-- The product of the block's cotangents with the two weights is the reference's row. -/
theorem pay5_block (c : Dev nD) (t : Fin cfg0.N) (r : Fin 512) (R : Fin 4096) (hR : (R : ℕ) = 512 * t.val + r) (j : Fin 1024) :
    k0_pay5 (F := Ideal) (iblk m c 0 t) (iblk m c 1 t) (iblk m c 2 t) (iblk m c 3 t) (ix2 r j)
      = val_main_v23 (F := Ideal) (m ((c : Thread nD τ).loc main_arg2)) (m ((c : Thread nD τ).loc main_arg3))
        (m ((c : Thread nD τ).loc main_arg5)) (m ((c : Thread nD τ).loc main_arg6)) (ix2 R j) := by
  rw [v23_apply, pay5_apply, add_comm]
  blk_point [iblk, V, idx t]

/-- Every entry of the arrays the norm and the products read is a real number. -/
structure Real (c : Dev nD) : Prop where
  h0 : ∀ i, IsR (m ((c : Thread nD τ).loc main_arg0) i)
  h1 : ∀ i, IsR (m ((c : Thread nD τ).loc main_arg1) i)
  h2 : ∀ i, IsR (m ((c : Thread nD τ).loc main_arg2) i)
  h3 : ∀ i, IsR (m ((c : Thread nD τ).loc main_arg3) i)
  h5 : ∀ i, IsR (m ((c : Thread nD τ).loc main_arg5) i)
  h6 : ∀ i, IsR (m ((c : Thread nD τ).loc main_arg6) i)

theorem pay1_block (c : Dev nD) (hf : Real m c) (t : Fin cfg0.N) (r : Fin 512) (R : Fin 4096) (hR : (R : ℕ) = 512 * t.val + r) (j : Fin 1024) :
    k0_pay1 (F := Ideal) (iblk m c 5 t) (k0_pay8 (F := Ideal) (iblk m c 4 t) (iblk m c 6 t) (iblk m c 0 t) (iblk m c 1 t)
      (iblk m c 2 t) (iblk m c 3 t)) (ix2 r j)
      = val_main_v44 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (ix2 R j) := by
  have e4 : ∀ k : Fin 1024, (show FVec Ideal S512x1024 .f32 from iblk m c 4 t) (ix2 r k) = m ((c : Thread nD τ).loc main_arg0) (ix2 R k) := fun k => by
    blk_point [iblk, V, idx t]
  have e5 : (show FVec Ideal S512x1024 .f32 from iblk m c 5 t) (ix2 r j) = m ((c : Thread nD τ).loc main_arg4) (ix2 R j) := by
    blk_point [iblk, V, idx t]
  have e6 : ∀ k : Fin 1024, (show FVec Ideal S1x1024 .f32 from iblk m c 6 t) (ix2 0 k) = m ((c : Thread nD τ).loc main_arg1) (ix2 0 k) := fun k => by
    blk_point [iblk, V, idx t]
  rw [v44_apply _ _ _ _ _ _ _ R j _ _ _ (fun k => hf.h0 (ix2 R k)) (fun k => hf.h1 (ix2 0 k))
    (fun k => v23_real _ _ _ _ hf.h2 hf.h3 hf.h5 hf.h6 R k)]
  rw [pay1_apply _ _ _ _ _ _ _ r j _ _ _ (fun k => (e4 k).trans (hf.h0 (ix2 R k))) (fun k => (e6 k).trans (hf.h1 (ix2 0 k)))
    (fun k => (pay5_block m c t r R hR k).trans (v23_real _ _ _ _ hf.h2 hf.h3 hf.h5 hf.h6 R k))]
  exact congrArg (· + _) e5

theorem emb7 (t : Fin cfg0.N) (y0 : Fin 512) (y1 : Fin 1024) (R : Fin 4096) (hR : (R : ℕ) = 512 * t.val + y0) :
    ((View.whole main_v8_0).slice (win0_7.rect t)).emb (ix2 y0 y1) = ix2 R y1 := by
  blk_ext [idx t]

theorem emb8 (t : Fin cfg0.N) (y0 : Fin 512) (y1 : Fin 1024) (R : Fin 4096) (hR : (R : ℕ) = 512 * t.val + y0) :
    ((View.whole main_v8_1).slice (win0_8.rect t)).emb (ix2 y0 y1) = ix2 R y1 := by
  blk_ext [idx t]

theorem row_lt (t : Fin cfg0.N) (y0 : Fin 512) : 512 * t.val + y0 < 4096 := by
  have h : t.val < 8 := lt_of_lt_of_eq t.isLt N_0
  omega

theorem final7 (c : Dev nD) (hf : Real m c) : (dats m 0 c).arrAt 7 (cfgs 0).N
      = val_main_v44 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 7 _ (by decide +kernel) fun t hw y => ?_
  idx_vars y
  blk_simp [idx t]
  rw [after0_7]
  by_cases h : t.val % 8 = 0
  · rw [outsAt0_A m c t h]; frame_out
    rw [emb7 t y0 y1 ⟨_, row_lt t y0⟩ rfl]
    exact pay1_block m c hf t _ _ rfl _
  · rw [outsAt0_B m c t h]; frame_out
    rw [emb7 t y0 y1 ⟨_, row_lt t y0⟩ rfl]
    exact pay1_block m c hf t _ _ rfl _

theorem final8 (c : Dev nD) (hf : Real m c) : (dats m 0 c).arrAt 8 (cfgs 0).N
      = val_main_v46 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 8 _ (by decide +kernel) fun t hw y => ?_
  idx_vars y
  blk_simp [idx t]
  rw [after0_8]
  by_cases h : t.val % 8 = 0
  · rw [outsAt0_A m c t h]; frame_out
    rw [emb8 t y0 y1 ⟨_, row_lt t y0⟩ rfl]
    exact pay1_block m c hf t _ _ rfl _
  · rw [outsAt0_B m c t h]; frame_out
    rw [emb8 t y0 y1 ⟨_, row_lt t y0⟩ rfl]
    exact pay1_block m c hf t _ _ rfl _

theorem final9 (c : Dev nD) : (dats m 0 c).arrAt 9 (cfgs 0).N
      = val_main_v45 (F := Ideal) (m ((c : Thread nD τ).loc main_arg0)) (m ((c : Thread nD τ).loc main_arg2))
        (m ((c : Thread nD τ).loc main_arg3)) (m ((c : Thread nD τ).loc main_arg5)) (m ((c : Thread nD τ).loc main_arg6)) := by
  refine (dats m 0 c).arrAt_eq_of_after_last 9 t0_7 (by decide +kernel) _ fun j => ?_
  blk_simp
  rw [after0_9, Pipeline.eq_sum_fin_of_reset_step_apply_last (fun n h => (outsAt0 m c n h).2.2) 8 (fun _ => 0) _
    (fun t h j => by rw [outsAt0_A m c t h]; frame_out; rw [pay4_apply, pay3_apply])
    (fun t h j => by rw [outsAt0_B m c t h]; frame_out; rw [pay4_apply])
    (le_of_eq N_0) t0_7 rfl j, zero_add]
  idx_vars j
  obtain rfl : j0 = 0 := Subsingleton.elim _ _
  rw [v45_apply]
  refine Fin.sum_mul_add_congr fun t r hl => ?_
  have e4 : ∀ k : Fin 1024, (show FVec Ideal S512x1024 .f32 from iblk m c 4 t) (ix2 r k)
      = m ((c : Thread nD τ).loc main_arg0) (ix2 ⟨t.val * 512 + r.val, hl⟩ k) := fun k => by
    blk_point [iblk, V, idx t]
  have e5 := pay5_block m c t r ⟨t.val * 512 + r.val, hl⟩ (by simp; omega) j1
  rw [e5]
  refine (mul_comm (_ : EReal) _).trans (congrArg (fun z : EReal => z * _) ?_)
  simp only [← e4]

end Cert.NormV

end
-- ==== Proof.ClaimV.lean ====
/- The claims of the feed-forward norm's gradient: what the precondition says of the arguments, the
   reference's run, and the equality of the two programs' results. -/
module

public import proofs.«01_k».proof.Defs
public import proofs.«01_k».proof.Proof.NormV
public import proofs.«01_k».proof.Proof.Gen.KernelVIdeal.Value
public import proofs.«01_k».proof.Proof.Gen.ReferenceVIdeal.Run
public import proofs.«01_k».proof.Proof.Gen.Pre_finite_v
public import Idealize.ShloMosaic.Lib.Claim
public import Idealize.ShloMosaic.Lib.Quiescent

@[expose] public section

set_option maxRecDepth 16384

noncomputable section

namespace Cert.ClaimV

open Idealize.ShloMosaic Idealize.ShloMosaic.TcCoe Idealize.SL.Sem Cert.RealLift

theorem real_of_pre (m : (ℓ : Loc Cert.KernelVIdeal.nD Cert.KernelVIdeal.τ Cert.KernelVIdeal.sig) → Buf (Elt Ideal) ℓ)
    (hpre : Pre_KernelVIdeal_finite_v m) (c : Dev Cert.KernelVIdeal.nD) : Cert.NormV.Real m c := by
  have h := congrFun (hpre c) ix0
  dsimp only [Cert.Pre_finite_v.fn, Cert.Pre_finite_v.fn_part1] at h
  obtain ⟨h, a6⟩ := andi_one h
  obtain ⟨h, a5⟩ := andi_one h
  obtain ⟨h, a3⟩ := andi_one h
  obtain ⟨h, a2⟩ := andi_one h
  obtain ⟨a0, a1⟩ := andi_one h
  exact ⟨entries_real _ _ _ _ _ _ _ a0, entries_real _ _ _ _ _ _ _ a1, entries_real _ _ _ _ _ _ _ a2, entries_real _ _ _ _ _ _ _ a3,
    entries_real _ _ _ _ _ _ _ a5, entries_real _ _ _ _ _ _ _ a6⟩

theorem algebraic : algebraic_KernelVIdeal_ReferenceVIdeal_pre_finite_v := by
  pair_intro
  · run_from Cert.KernelVIdeal.Value.run_blocks m g
  · run_from Cert.ReferenceVIdeal.Value.run m' g'
    · obtain ⟨h0, h1, h2, h3, h4, h5, h6⟩ := hagree c
      rw [Cert.ReferenceVIdeal.Read.val_main_v44_eq, h0, h1, h2, h3, h4, h5, h6]
      exact (Cert.NormV.final7 m c (real_of_pre m hpre c)).symm
    · obtain ⟨h0, h1, h2, h3, h4, h5, h6⟩ := hagree c
      rw [Cert.ReferenceVIdeal.Read.val_main_v46_eq, h0, h1, h2, h3, h4, h5, h6]
      exact (Cert.NormV.final8 m c (real_of_pre m hpre c)).symm
    · exact (Cert.NormV.final9 m c).symm

/-- The reference leaves its arguments alone, and declares no counter. -/
theorem frameRef : quiescent_ReferenceVIdeal := fun m g _ =>
  (θ_run Cert.ReferenceVIdeal.defs _ _).mono (fun r h => ⟨fun c => (h c).2.2.2, sem_eq_zero_of_no_sems (by decide) r.2⟩)
    (Cert.ReferenceVIdeal.Value.run m g)

theorem frameRefPre : quiescent_ReferenceVIdeal_pre_finite_v := fun m g _ => frameRef m g trivial

end Cert.ClaimV

end
-- ==== Proof.NormU.lean ====
/- The gradient of the sequence-mixing norm behind the input projection, block by block, against the
   reverse-mode gradient of the reference's own lines. -/
module

public import proofs.«01_k».proof.Proof.Gen.KernelUIdeal.Value
public import proofs.«01_k».proof.Proof.Gen.ReferenceUIdeal.Read
public import proofs.«01_k».proof.Proof.RmsReal
public import Idealize.ShloMosaic.Lib.Pipeline.ValueKit

@[expose] public section

set_option maxRecDepth 16384

noncomputable section

namespace Cert.NormU

open Idealize.ShloMosaic Idealize.ShloMosaic.TcCoe Idealize.SL.Sem
open Idealize.ShloMosaic.Pipeline (Dat)
open Cert.KernelUIdeal Cert.KernelUIdeal.Gen Cert.RealLift Cert.RmsReal
open Cert.ReferenceUIdeal.Read

/-- A sum over an initial and a final part of its range. -/
theorem sum_parts {n : ℕ} (a b : ℕ) (h : n = a + b) (f : Fin n → EReal) :
    ∑ k, f k = ∑ k : Fin a, f ⟨k.val, by omega⟩ + ∑ k : Fin b, f ⟨a + k.val, by omega⟩ := by
  subst h
  exact Fin.sum_univ_add f

section Ref
variable (x0 : FVec Ideal S1x4096x1024 .f32) (x1 : FVec Ideal S1x1024 .f32) (x2 : FVec Ideal S1x1024x2816 .f32)
  (x3 : FVec Ideal S4096x1024 .f32) (x4 x5 x6 x7 x8 : FVec Ideal S4096x512 .f32) (x9 : FVec Ideal S4096x256 .f32)

theorem v29_apply (r : Fin 4096) (j : Fin 1024) : val_main_v29 (F := Ideal) x2 x4 x5 x6 x7 x8 x9 (ix2 r j)
    = ∑ k : Fin 512, x4 (ix2 r k) * x2 (ix3 0 j ⟨k.val, by omega⟩)
      + (∑ k : Fin 512, x5 (ix2 r k) * x2 (ix3 0 j ⟨512 + k.val, by omega⟩)
      + (∑ k : Fin 512, x6 (ix2 r k) * x2 (ix3 0 j ⟨1024 + k.val, by omega⟩)
      + (∑ k : Fin 512, x7 (ix2 r k) * x2 (ix3 0 j ⟨1536 + k.val, by omega⟩)
      + (∑ k : Fin 512, x8 (ix2 r k) * x2 (ix3 0 j ⟨2048 + k.val, by omega⟩)
      + ∑ k : Fin 256, x9 (ix2 r k) * x2 (ix3 0 j ⟨2560 + k.val, by omega⟩))))) := by
  pointwise [val_main_v29, val_main_v18, val_main_v28, val_main_v27]
  rw [sum_parts 512 2304 rfl, sum_parts 512 1792 rfl, sum_parts 512 1280 rfl, sum_parts 512 768 rfl, sum_parts 512 256 rfl]
  refine congrArg₂ (· + ·) ?_ (congrArg₂ (· + ·) ?_ (congrArg₂ (· + ·) ?_ (congrArg₂ (· + ·) ?_ (congrArg₂ (· + ·) ?_ ?_))))
  all_goals
    refine Finset.sum_congr rfl fun k _ => ?_
    have hk := k.isLt
    repeat (first | rw [dif_pos (by simp only [Fin.val_mk]; omega)] | rw [dif_neg (by simp only [Fin.val_mk]; omega)])
    try (congr 3 <;> simp only [Fin.ext_iff] <;> omega)

theorem v29_real (h2 : ∀ i, IsR (x2 i)) (h4 : ∀ i, IsR (x4 i)) (h5 : ∀ i, IsR (x5 i)) (h6 : ∀ i, IsR (x6 i))
    (h7 : ∀ i, IsR (x7 i)) (h8 : ∀ i, IsR (x8 i)) (h9 : ∀ i, IsR (x9 i)) (r : Fin 4096) (j : Fin 1024) :
    IsR (val_main_v29 (F := Ideal) x2 x4 x5 x6 x7 x8 x9 (ix2 r j)) := by
  rw [v29_apply]
  exact (IsR.sum _ fun k => (h4 _).mul (h2 _)).add ((IsR.sum _ fun k => (h5 _).mul (h2 _)).add
    ((IsR.sum _ fun k => (h6 _).mul (h2 _)).add ((IsR.sum _ fun k => (h7 _).mul (h2 _)).add
    ((IsR.sum _ fun k => (h8 _).mul (h2 _)).add (IsR.sum _ fun k => (h9 _).mul (h2 _))))))

theorem v53_apply (r : Fin 4096) (j : Fin 1024) (x w d : Fin 1024 → ℝ)
    (hx : ∀ k, x0 (ix3 0 r k) = ((x k : ℝ) : EReal)) (hw : ∀ k, x1 (ix2 0 k) = ((w k : ℝ) : EReal))
    (hd : ∀ k, val_main_v29 (F := Ideal) x2 x4 x5 x6 x7 x8 x9 (ix2 r k) = ((d k : ℝ) : EReal)) :
    val_main_v53 (F := Ideal) x0 x1 x2 x3 x4 x5 x6 x7 x8 x9 (ix2 r j) = x3 (ix2 r j) + ((dx x w d j : ℝ) : EReal) := by
  pointwise [val_main_v53, val_main_v52, val_main_v50, val_main_v49, val_main_v48, val_main_v47, val_main_v46,
    val_main_v45, val_main_v44, val_main_v43, val_main_v42, val_main_v41, val_main_v40, val_main_v39, val_main_v38, val_main_v37,
    val_main_v36, val_main_v34, val_main_v33, val_main_v15, val_main_v1, val_main_v0,
    val_main_v12, val_main_v11, val_main_v10, val_main_v9, val_main_v8, val_main_v7, val_main_v6, val_main_v5,
    val_main_v4, val_main_v3, val_main_v2, val_main_cst, val_main_cst_0, val_main_cst_1, val_main_cst_2,
    val_main_cst_3, val_main_cst_4, val_main_cst_5, val_main_cst_6, val_main_cst_7]
  simp only [Finset.univ_unique, Finset.sum_singleton]
  exact dx_vjp (fun k => x0 (ix3 0 r k)) (fun k => x1 (ix2 0 k)) (fun k => val_main_v29 (F := Ideal) x2 x4 x5 x6 x7 x8 x9 (ix2 r k))
    x w d hx hw hd _ _ _ (rsqrt_row _ x hx)
    (cvjp_row (fun k => x0 (ix3 0 r k)) (fun k => x1 (ix2 0 k)) (fun k => val_main_v29 (F := Ideal) x2 x4 x5 x6 x7 x8 x9 (ix2 r k))
      x w d hx hw hd _ _ (rsqrt_row _ x hx) (ms_row _ x hx)) j

theorem v51_apply (j : Fin 1024) : val_main_v51 (F := Ideal) x0 x2 x4 x5 x6 x7 x8 x9 (ix2 0 j)
    = ∑ r : Fin 4096, x0 (ix3 0 r j) * Ideal.rsqrt (Ideal.div (∑ k, x0 (ix3 0 r k) * x0 (ix3 0 r k)) (Ideal.ofBits .f32 0x44800000#32)
        + Ideal.ofBits .f32 0x358637BD#32) * val_main_v29 (F := Ideal) x2 x4 x5 x6 x7 x8 x9 (ix2 r j) := by
  pointwise [val_main_v51, val_main_v35, val_main_v32, val_main_v31, val_main_v30, val_main_v14, val_main_v13, val_main_v9, val_main_v8,
    val_main_v7, val_main_v6, val_main_v5, val_main_v4, val_main_v3, val_main_v2, val_main_v0,
    val_main_cst, val_main_cst_0, val_main_cst_1, val_main_cst_2, val_main_cst_3, val_main_cst_4]
  simp only [Finset.univ_unique, Finset.sum_singleton]

end Ref

section Ker

theorem pay8_apply (a0 a1 a2 a3 a4 : FVec Ideal S512x512 .bf16) (a5 : FVec Ideal S512x256 .bf16) (b0 b1 b2 b3 b4 : FVec Ideal S512x1024 .bf16)
    (b5 : FVec Ideal S256x1024 .bf16) (r : Fin 512) (j : Fin 1024) :
    k0_pay8 (F := Ideal) (k0_pay3 a3) (k0_pay4 a4) (k0_pay5 a5) (k0_pay6 a0 a1 a2 b0 b1 b2) (k0_pay7 b3)
      (constant S512x1024 .f32 0x00000000#32) b4 b5 (ix2 r j)
      = ∑ k : Fin 512, a0 (ix2 r k) * b0 (ix2 k j) + (∑ k : Fin 512, a1 (ix2 r k) * b1 (ix2 k j)
        + (∑ k : Fin 512, a2 (ix2 r k) * b2 (ix2 k j) + (∑ k : Fin 512, a3 (ix2 r k) * b3 (ix2 k j)
        + (∑ k : Fin 512, a4 (ix2 r k) * b4 (ix2 k j) + ∑ k : Fin 256, a5 (ix2 r k) * b5 (ix2 k j))))) := by
  pointwise [k0_pay8, k0_pay7, k0_pay6, k0_pay5, k0_pay4, k0_pay3]
  simp only [add_assoc]

theorem pay12_apply (v0 v1 : FVec Ideal S512x1024 .f32) (v2 : FVec Ideal S1x1024 .f32) (v11 v13 : FVec Ideal S512x512 .bf16)
    (v15 : FVec Ideal S512x256 .bf16) (v26 : FVec Ideal S512x1024 .f32) (v28 : FVec Ideal S512x1024 .bf16)
    (z : FVec Ideal S512x1024 .f32) (v31 : FVec Ideal S512x1024 .bf16) (v35 : FVec Ideal S256x1024 .bf16)
    (r : Fin 512) (j : Fin 1024) (x w d : Fin 1024 → ℝ)
    (hx : ∀ k, v0 (ix2 r k) = ((x k : ℝ) : EReal)) (hw : ∀ k, v2 (ix2 0 k) = ((w k : ℝ) : EReal))
    (hd : ∀ k, k0_pay8 (F := Ideal) v11 v13 v15 v26 v28 z v31 v35 (ix2 r k) = ((d k : ℝ) : EReal)) :
    k0_pay12 (F := Ideal) (k0_pay2 v0) v1 v2 v11 v13 v15 v26 v28 z v31 v35 (ix2 r j) = v1 (ix2 r j) + ((dx x w d j : ℝ) : EReal) := by
  pointwise [k0_pay12, k0_pay10, k0_pay9, k0_pay2]
  rw [add_comm]
  exact congrArg (v1 (ix2 r j) + ·) (dx_kernel (fun k => v0 (ix2 r k)) (fun k => v2 (ix2 0 k))
    (fun k => k0_pay8 (F := Ideal) v11 v13 v15 v26 v28 z v31 v35 (ix2 r k)) x w d hx hw hd _ (rsqrt_row _ x hx) j)

theorem pay1_apply (v0 : FVec Ideal S512x1024 .f32) (v11 v13 : FVec Ideal S512x512 .bf16)
    (v15 : FVec Ideal S512x256 .bf16) (v26 : FVec Ideal S512x1024 .f32) (v28 : FVec Ideal S512x1024 .bf16)
    (z : FVec Ideal S512x1024 .f32) (v31 : FVec Ideal S512x1024 .bf16) (v35 : FVec Ideal S256x1024 .bf16)
    (v46 : FVec Ideal S1x1024 .f32) (j : S1x1024.Idx) :
    k0_pay1 (F := Ideal) (k0_pay11 (F := Ideal) (k0_pay2 v0) v11 v13 v15 v26 v28 z v31 v35) v46 j
      = v46 j + ∑ r : Fin 512, k0_pay8 (F := Ideal) v11 v13 v15 v26 v28 z v31 v35 (ix2 r (j 1)) * (v0 (ix2 r (j 1)) *
        Ideal.rsqrt (Ideal.div (∑ k, v0 (ix2 r k) * v0 (ix2 r k)) (Ideal.ofBits .f32 0x44800000#32)
        + Ideal.ofBits .f32 0x358637BD#32)) := by
  idx_vars j
  pointwise [k0_pay1, k0_pay11, k0_pay10, k0_pay9, k0_pay2]

end Ker

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![t.val, 0] ∧ win0_8.index t = ![t.val, 0] ∧ win0_9.index t = ![0, 0]
    ∧ win0_10.index t = ![t.val, 0] ∧ win0_11.index t = ![0, 0] :=
  (by decide +kernel : ∀ t : Fin grid0.N, _)

/-- The product of the block's cotangents with the weight, as the body writes it. -/
abbrev prod (c : Dev nD) (t : Fin cfg0.N) : FVec Ideal S512x1024 .f32 :=
  k0_pay8 (F := Ideal) (k0_pay3 (iblk m c 3 t)) (k0_pay4 (iblk m c 4 t)) (k0_pay5 (iblk m c 5 t))
        (k0_pay6 (iblk m c 0 t) (iblk m c 1 t) (iblk m c 2 t)
          (View.ld (iblk m c 6 t) (Rect.unit ![0, 0] ![512, 1024] inb_S2816x1024_S512x1024_0_0))
          (View.ld (iblk m c 6 t) (Rect.unit ![512, 0] ![512, 1024] inb_S2816x1024_S512x1024_512_0))
          (View.ld (iblk m c 6 t) (Rect.unit ![1024, 0] ![512, 1024] inb_S2816x1024_S512x1024_1024_0)))
        (k0_pay7 (View.ld (iblk m c 6 t) (Rect.unit ![1536, 0] ![512, 1024] inb_S2816x1024_S512x1024_1536_0)))
        (constant S512x1024 FTy.f32 0#32)
        (View.ld (iblk m c 6 t) (Rect.unit ![2048, 0] ![512, 1024] inb_S2816x1024_S512x1024_2048_0))
        (View.ld (iblk m c 6 t) (Rect.unit ![2560, 0] ![256, 1024] inb_S2816x1024_S256x1024_2560_0))

theorem prod_block (c : Dev nD) (t : Fin cfg0.N) (r : Fin 512) (R : Fin 4096) (hR : (R : ℕ) = 512 * t.val + r) (j : Fin 1024) :
    prod m c t (ix2 r j)
      = val_main_v29 (F := Ideal) (m ((c : Thread nD τ).loc main_arg2)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (ix2 R j) := by
  rw [v29_apply, prod, pay8_apply]
  refine congrArg₂ (· + ·) ?_ (congrArg₂ (· + ·) ?_ (congrArg₂ (· + ·) ?_ (congrArg₂ (· + ·) ?_ (congrArg₂ (· + ·) ?_ ?_))))
  all_goals
    refine Finset.sum_congr rfl fun k _ => congrArg₂ (· * ·) (by blk_point [iblk, V, idx t]) ?_
    pointwise []
    blk_point [iblk, V, idx t]

/-- Every entry of the arrays the norm and the product read is a real number. -/
structure Real (c : Dev nD) : Prop where
  h0 : ∀ i, IsR (m ((c : Thread nD τ).loc main_arg0) i)
  h1 : ∀ i, IsR (m ((c : Thread nD τ).loc main_arg1) i)
  h2 : ∀ i, IsR (m ((c : Thread nD τ).loc main_arg2) i)
  h4 : ∀ i, IsR (m ((c : Thread nD τ).loc main_arg4) i)
  h5 : ∀ i, IsR (m ((c : Thread nD τ).loc main_arg5) i)
  h6 : ∀ i, IsR (m ((c : Thread nD τ).loc main_arg6) i)
  h7 : ∀ i, IsR (m ((c : Thread nD τ).loc main_arg7) i)
  h8 : ∀ i, IsR (m ((c : Thread nD τ).loc main_arg8) i)
  h9 : ∀ i, IsR (m ((c : Thread nD τ).loc main_arg9) i)

theorem pay12_block (c : Dev nD) (hf : Real m c) (t : Fin cfg0.N) (r : Fin 512) (R : Fin 4096) (hR : (R : ℕ) = 512 * t.val + r) (j : Fin 1024) :
    k0_pay12 (F := Ideal) (k0_pay2 (iblk m c 7 t)) (iblk m c 8 t) (iblk m c 9 t) (k0_pay3 (iblk m c 3 t)) (k0_pay4 (iblk m c 4 t)) (k0_pay5 (iblk m c 5 t))
        (k0_pay6 (iblk m c 0 t) (iblk m c 1 t) (iblk m c 2 t)
          (View.ld (iblk m c 6 t) (Rect.unit ![0, 0] ![512, 1024] inb_S2816x1024_S512x1024_0_0))
          (View.ld (iblk m c 6 t) (Rect.unit ![512, 0] ![512, 1024] inb_S2816x1024_S512x1024_512_0))
          (View.ld (iblk m c 6 t) (Rect.unit ![1024, 0] ![512, 1024] inb_S2816x1024_S512x1024_1024_0)))
        (k0_pay7 (View.ld (iblk m c 6 t) (Rect.unit ![1536, 0] ![512, 1024] inb_S2816x1024_S512x1024_1536_0)))
        (constant S512x1024 FTy.f32 0#32)
        (View.ld (iblk m c 6 t) (Rect.unit ![2048, 0] ![512, 1024] inb_S2816x1024_S512x1024_2048_0))
        (View.ld (iblk m c 6 t) (Rect.unit ![2560, 0] ![256, 1024] inb_S2816x1024_S256x1024_2560_0)) (ix2 r j)
      = val_main_v53 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (ix2 R j) := by
  have e7 : ∀ k : Fin 1024, (show FVec Ideal S512x1024 .f32 from iblk m c 7 t) (ix2 r k) = m ((c : Thread nD τ).loc main_arg0) (ix3 0 R k) := fun k => by
    blk_point [iblk, V, idx t]
  have e8 : (show FVec Ideal S512x1024 .f32 from iblk m c 8 t) (ix2 r j) = m ((c : Thread nD τ).loc main_arg3) (ix2 R j) := by
    blk_point [iblk, V, idx t]
  have e9 : ∀ k : Fin 1024, (show FVec Ideal S1x1024 .f32 from iblk m c 9 t) (ix2 0 k) = m ((c : Thread nD τ).loc main_arg1) (ix2 0 k) := fun k => by
    blk_point [iblk, V, idx t]
  have real := fun k => v29_real _ _ _ _ _ _ _ hf.h2 hf.h4 hf.h5 hf.h6 hf.h7 hf.h8 hf.h9 R k
  rw [v53_apply _ _ _ _ _ _ _ _ _ _ R j _ _ _ (fun k => hf.h0 (ix3 0 R k)) (fun k => hf.h1 (ix2 0 k)) real]
  rw [pay12_apply _ _ _ _ _ _ _ _ _ _ _ r j _ _ _ (fun k => (e7 k).trans (hf.h0 (ix3 0 R k))) (fun k => (e9 k).trans (hf.h1 (ix2 0 k)))
    (fun k => (prod_block m c t r R hR k).trans (real k))]
  exact congrArg (· + _) e8

theorem emb10 (t : Fin cfg0.N) (y0 : Fin 512) (y1 : Fin 1024) (R : Fin 4096) (hR : (R : ℕ) = 512 * t.val + y0) :
    ((View.whole main_v10_0).slice (win0_10.rect t)).emb (ix2 y0 y1) = ix2 R y1 := by
  blk_ext [idx t]

theorem row_lt (t : Fin cfg0.N) (y0 : Fin 512) : 512 * t.val + y0 < 4096 := by
  have h : t.val < 8 := lt_of_lt_of_eq t.isLt N_0
  omega

theorem final10 (c : Dev nD) (hf : Real m c) : (dats m 0 c).arrAt 10 (cfgs 0).N
      = val_main_v53 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) := by
  refine (dats m 0 c).arrAt_eq_of_covers 10 _ (by decide +kernel) fun t hw y => ?_
  idx_vars y
  blk_simp [idx t]
  rw [after0_10]
  by_cases h : t.val % 8 = 0
  · rw [outsAt0_A m c t h]; frame_out
    rw [emb10 t y0 y1 ⟨_, row_lt t y0⟩ rfl]
    exact pay12_block m c hf t _ _ rfl _
  · rw [outsAt0_B m c t h]; frame_out
    rw [emb10 t y0 y1 ⟨_, row_lt t y0⟩ rfl]
    exact pay12_block m c hf t _ _ rfl _

theorem final11 (c : Dev nD) : (dats m 0 c).arrAt 11 (cfgs 0).N
      = val_main_v51 (F := Ideal) (m ((c : Thread nD τ).loc main_arg0)) (m ((c : Thread nD τ).loc main_arg2))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) := by
  refine (dats m 0 c).arrAt_eq_of_after_last 11 t0_7 (by decide +kernel) _ fun j => ?_
  blk_simp
  rw [after0_11, Pipeline.eq_sum_fin_of_reset_step_apply_last (fun n h => (outsAt0 m c n h).2) 8 (fun _ => 0) _
    (fun t h j => by rw [outsAt0_A m c t h]; frame_out; rw [pay1_apply]; congr 1; pointwise [k0_pay13])
    (fun t h j => by rw [outsAt0_B m c t h]; frame_out; rw [pay1_apply])
    (le_of_eq N_0) t0_7 rfl j, zero_add]
  idx_vars j
  obtain rfl : j0 = 0 := Subsingleton.elim _ _
  rw [v51_apply]
  refine Fin.sum_mul_add_congr fun t r hl => ?_
  have e7 : ∀ k : Fin 1024, (show FVec Ideal S512x1024 .f32 from iblk m c 7 t) (ix2 r k)
      = m ((c : Thread nD τ).loc main_arg0) (ix3 0 ⟨t.val * 512 + r.val, hl⟩ k) := fun k => by
    blk_point [iblk, V, idx t]
  have e5 := prod_block m c t r ⟨t.val * 512 + r.val, hl⟩ (by simp; omega) j1
  refine (congrArg (fun z : EReal => z * _) e5).trans ?_
  refine (mul_comm (_ : EReal) _).trans (congrArg (fun z : EReal => z * _) ?_)
  simp only [← e7]

end Cert.NormU

end
-- ==== Proof.ClaimU.lean ====
/- The claims of the sequence-mixing norm's gradient: what the precondition says of the arguments, the
   reference's run, and the equality of the two programs' results. -/
module

public import proofs.«01_k».proof.Defs
public import proofs.«01_k».proof.Proof.NormU
public import proofs.«01_k».proof.Proof.Gen.KernelUIdeal.Value
public import proofs.«01_k».proof.Proof.Gen.ReferenceUIdeal.Run
public import proofs.«01_k».proof.Proof.Gen.Pre_finite_u
public import Idealize.ShloMosaic.Lib.Claim
public import Idealize.ShloMosaic.Lib.Quiescent

@[expose] public section

set_option maxRecDepth 16384

noncomputable section

namespace Cert.ClaimU

open Idealize.ShloMosaic Idealize.ShloMosaic.TcCoe Idealize.SL.Sem Cert.RealLift

theorem real_of_pre (m : (ℓ : Loc Cert.KernelUIdeal.nD Cert.KernelUIdeal.τ Cert.KernelUIdeal.sig) → Buf (Elt Ideal) ℓ)
    (hpre : Pre_KernelUIdeal_finite_u m) (c : Dev Cert.KernelUIdeal.nD) : Cert.NormU.Real m c := by
  have h := congrFun (hpre c) ix0
  dsimp only [Cert.Pre_finite_u.fn, Cert.Pre_finite_u.fn_part1] at h
  obtain ⟨h, a8⟩ := andi_one h
  obtain ⟨h, a7⟩ := andi_one h
  obtain ⟨h, a6⟩ := andi_one h
  obtain ⟨h, a5⟩ := andi_one h
  obtain ⟨h, a4⟩ := andi_one h
  obtain ⟨h, a3⟩ := andi_one h
  obtain ⟨h, a2⟩ := andi_one h
  obtain ⟨a0, a1⟩ := andi_one h
  exact ⟨entries_real _ _ _ _ _ _ _ a0, entries_real _ _ _ _ _ _ _ a1, entries_real _ _ _ _ _ _ _ a2, entries_real _ _ _ _ _ _ _ a3, entries_real _ _ _ _ _ _ _ a4, entries_real _ _ _ _ _ _ _ a5, entries_real _ _ _ _ _ _ _ a6, entries_real _ _ _ _ _ _ _ a7, entries_real _ _ _ _ _ _ _ a8⟩

theorem algebraic : algebraic_KernelUIdeal_ReferenceUIdeal_pre_finite_u := by
  pair_intro
  · run_from Cert.KernelUIdeal.Value.run_blocks m g
  · run_from Cert.ReferenceUIdeal.Value.run m' g'
    · obtain ⟨h0, h1, h2, h3, h4, h5, h6, h7, h8, h9⟩ := hagree c
      rw [Cert.ReferenceUIdeal.Read.val_main_v53_eq, h0, h1, h2, h3, h4, h5, h6, h7, h8, h9]
      exact (Cert.NormU.final10 m c (real_of_pre m hpre c)).symm
    · obtain ⟨h0, h1, h2, h3, h4, h5, h6, h7, h8, h9⟩ := hagree c
      rw [Cert.ReferenceUIdeal.Read.val_main_v51_eq]
      simp only [h0, h2, h4, h5, h6, h7, h8, h9]
      exact (Cert.NormU.final11 m c).symm

/-- The reference leaves its arguments alone, and declares no counter. -/
theorem frameRef : quiescent_ReferenceUIdeal := fun m g _ =>
  (θ_run Cert.ReferenceUIdeal.defs _ _).mono (fun r h => ⟨fun c => (h c).2.2, sem_eq_zero_of_no_sems (by decide) r.2⟩)
    (Cert.ReferenceUIdeal.Value.run m g)

theorem frameRefPre : quiescent_ReferenceUIdeal_pre_finite_u := fun m g _ => frameRef m g trivial

end Cert.ClaimU

end
-- ==== Proof.NormD.lean ====
/- The gradient of the final norm and the loss behind the down projection, block by block, against the
   reverse-mode gradient of the reference's own lines. -/
module

public import proofs.«01_k».proof.Proof.Gen.KernelDIdeal.Value
public import proofs.«01_k».proof.Proof.Gen.ReferenceDIdeal.Read
public import proofs.«01_k».proof.Proof.RmsReal
public import Idealize.ShloMosaic.Lib.Pipeline.ValueKit

@[expose] public section

set_option maxRecDepth 16384

noncomputable section

namespace Cert.NormD

open Idealize.ShloMosaic Idealize.ShloMosaic.TcCoe Idealize.SL.Sem
open Idealize.ShloMosaic.Pipeline (Dat)
open Cert.KernelDIdeal Cert.KernelDIdeal.Gen Cert.RealLift Cert.RmsReal
open Cert.ReferenceDIdeal.Read

/-! ## The reference at an index -/

section Ref

variable (x0 : FVec Ideal S4096x1024 .f32) (x1 : FVec Ideal S4096x2816 .f32) (x2 : FVec Ideal S1x2816x1024 .f32)
  (x3 : FVec Ideal S1024 .f32) (x4 : FVec Ideal S1x4096x1024 .f32)

theorem v2_apply (r : Fin 4096) (j : Fin 1024) : val_main_v2 (F := Ideal) x0 x1 x2 (ix2 r j)
    = x0 (ix2 r j) + ∑ k, x1 (ix2 r k) * x2 (ix3 0 k j) := by
  pointwise [val_main_v2, val_main_v1, val_main_v0]

theorem v2_real (h0 : ∀ i, IsR (x0 i)) (h1 : ∀ i, IsR (x1 i)) (h2 : ∀ i, IsR (x2 i)) (r : Fin 4096)
    (j : Fin 1024) : IsR (val_main_v2 (F := Ideal) x0 x1 x2 (ix2 r j)) := by
  rw [v2_apply]
  exact (h0 _).add (IsR.sum _ fun k => (h1 _).mul (h2 _))

/-- The difference to the target. -/
theorem v20_apply (r : Fin 4096) (j : Fin 1024) : val_main_v20 (F := Ideal) x0 x1 x2 x3 x4 (ix2 r j)
    = val_main_v2 (F := Ideal) x0 x1 x2 (ix2 r j) * Ideal.rsqrt (Ideal.div (∑ k, val_main_v2 (F := Ideal) x0 x1 x2 (ix2 r k)
          * val_main_v2 (F := Ideal) x0 x1 x2 (ix2 r k)) (Ideal.ofBits .f32 0x44800000#32)
        + Ideal.ofBits .f32 0x358637BD#32) * x3 (ix1 j) - x4 (ix3 0 r j) := by
  pointwise [val_main_v20, val_main_v19, val_main_v18, val_main_v17, val_main_v16, val_main_v15, val_main_v14,
    val_main_v10, val_main_v9, val_main_v8, val_main_v7, val_main_v6, val_main_v5, val_main_v4, val_main_v3,
    val_main_cst, val_main_cst_0, val_main_cst_1]
  try simp only [Finset.univ_unique, Finset.sum_singleton]

theorem v20_real (h0 : ∀ i, IsR (x0 i)) (h1 : ∀ i, IsR (x1 i)) (h2 : ∀ i, IsR (x2 i)) (h3 : ∀ i, IsR (x3 i)) (h4 : ∀ i, IsR (x4 i))
    (r : Fin 4096) (j : Fin 1024) : IsR (val_main_v20 (F := Ideal) x0 x1 x2 x3 x4 (ix2 r j)) := by
  rw [v20_apply, rsqrt_row (B := Ideal.ofBits .f32 0x44800000#32) _ _ fun k => v2_real x0 x1 x2 h0 h1 h2 r k]
  exact (((v2_real x0 x1 x2 h0 h1 h2 r j).mul (IsR.coe _)).mul (h3 _)).sub (h4 _)

/-- What reverse mode sends back into the norm: the difference over the length of a row. -/
theorem v34_apply (r : Fin 4096) (j : Fin 1024) : val_main_v34 (F := Ideal) x0 x1 x2 x3 x4 (ix2 r j)
    = val_main_v20 (F := Ideal) x0 x1 x2 x3 x4 (ix2 r j) * Ideal.ofBits .f32 0x3A800000#32 := by
  pointwise [val_main_v34, val_main_v33, val_main_v32, val_main_v31, val_main_v30, val_main_v29, val_main_v23, val_main_v22,
    val_main_cst_3, val_main_cst_8, val_main_cst_9, val_main_cst_10]
  rw [bits_half, bits_1024, bits_two, bits_mean, coe_div _ (by norm_num), ← mul_assoc, ← EReal.coe_mul, mul_comm]
  norm_num

theorem v54_apply (r : Fin 4096) (j : Fin 1024) (x w d : Fin 1024 → ℝ)
    (hx : ∀ k, val_main_v2 (F := Ideal) x0 x1 x2 (ix2 r k) = ((x k : ℝ) : EReal)) (hw : ∀ k, x3 (ix1 k) = ((w k : ℝ) : EReal))
    (hd : ∀ k, val_main_v34 (F := Ideal) x0 x1 x2 x3 x4 (ix2 r k) = ((d k : ℝ) : EReal)) :
    val_main_v54 (F := Ideal) x0 x1 x2 x3 x4 (ix2 r j) = ((dx x w d j : ℝ) : EReal) := by
  pointwise [val_main_v54, val_main_v53, val_main_v52, val_main_v51, val_main_v50, val_main_v49, val_main_v48, val_main_v47,
    val_main_v46, val_main_v45, val_main_v44, val_main_v43, val_main_v42, val_main_v41, val_main_v39, val_main_v38, val_main_v16,
    val_main_v13, val_main_v12, val_main_v11,
    val_main_v10, val_main_v9, val_main_v8, val_main_v7, val_main_v6, val_main_v5, val_main_v4, val_main_v3,
    val_main_cst, val_main_cst_0, val_main_cst_1, val_main_cst_2, val_main_cst_13, val_main_cst_14, val_main_cst_15]
  simp only [Finset.univ_unique, Finset.sum_singleton]
  refine Eq.trans ?_ ((dx_vjp (fun k => val_main_v2 (F := Ideal) x0 x1 x2 (ix2 r k)) (fun k => x3 (ix1 k))
    (fun k => val_main_v34 (F := Ideal) x0 x1 x2 x3 x4 (ix2 r k))
    x w d hx hw hd _ _ 0 (rsqrt_row (B := Ideal.ofBits .f32 0x44800000#32) _ x hx)
    (cvjp_row (B := Ideal.ofBits .f32 0x44800000#32) (fun k => val_main_v2 (F := Ideal) x0 x1 x2 (ix2 r k)) (fun k => x3 (ix1 k))
      (fun k => val_main_v34 (F := Ideal) x0 x1 x2 x3 x4 (ix2 r k))
      x w d hx hw hd _ _ (rsqrt_row (B := Ideal.ofBits .f32 0x44800000#32) _ x hx) (ms_row (B := Ideal.ofBits .f32 0x44800000#32) _ x hx)) j).trans (zero_add _))
  rw [zero_add]

theorem v79_apply (r : Fin 4096) (j : Fin 1024) : val_main_v79 (F := Ideal) x0 x1 x2 x3 x4 (ix2 r j)
    = val_main_v54 (F := Ideal) x0 x1 x2 x3 x4 (ix2 r j) := by
  pointwise [val_main_v79]

theorem v81_apply (j : Fin 1024) : val_main_v81 (F := Ideal) x0 x1 x2 x3 x4 (ix2 0 j)
    = ∑ r : Fin 4096, val_main_v2 (F := Ideal) x0 x1 x2 (ix2 r j) * Ideal.rsqrt (Ideal.div (∑ k, val_main_v2 (F := Ideal) x0 x1 x2 (ix2 r k)
          * val_main_v2 (F := Ideal) x0 x1 x2 (ix2 r k)) (Ideal.ofBits .f32 0x44800000#32)
        + Ideal.ofBits .f32 0x358637BD#32) * val_main_v34 (F := Ideal) x0 x1 x2 x3 x4 (ix2 r j) := by
  pointwise [val_main_v81, val_main_v40, val_main_v37, val_main_v36, val_main_v35, val_main_v15, val_main_v14,
    val_main_v10, val_main_v9, val_main_v8, val_main_v7, val_main_v6, val_main_v5, val_main_v4, val_main_v3,
    val_main_cst, val_main_cst_0, val_main_cst_1, val_main_cst_11, val_main_cst_12]
  simp only [Finset.univ_unique, Finset.sum_singleton]

theorem v72_eq : val_main_v72 (F := Ideal) x0 x1 x2 x3 x4 = val_main_v20 (F := Ideal) x0 x1 x2 x3 x4 := rfl

theorem v80_apply (h0 : ∀ i, IsR (x0 i)) (h1 : ∀ i, IsR (x1 i)) (h2 : ∀ i, IsR (x2 i)) (h3 : ∀ i, IsR (x3 i)) (h4 : ∀ i, IsR (x4 i))
    (j : Fin 1024) : val_main_v80 (F := Ideal) x0 x1 x2 x3 x4 (ix2 0 j)
    = ∑ r : Fin 4096, val_main_v20 (F := Ideal) x0 x1 x2 x3 x4 (ix2 r j) * val_main_v20 (F := Ideal) x0 x1 x2 x3 x4 (ix2 r j)
        * Ideal.ofBits .f32 0x3A000000#32 := by
  have e : val_main_v80 (F := Ideal) x0 x1 x2 x3 x4 (ix2 0 j) = Ideal.ofBits .f32 0x3F000000#32 *
      ∑ r : Fin 4096, Ideal.div (val_main_v72 (F := Ideal) x0 x1 x2 x3 x4 (ix2 r j) * val_main_v72 (F := Ideal) x0 x1 x2 x3 x4 (ix2 r j))
        (Ideal.ofBits .f32 0x44800000#32) := by
    pointwise [val_main_v80, val_main_v78, val_main_v77, val_main_v76, val_main_v75, val_main_v74, val_main_v73,
      val_main_cst_19, val_main_cst_20, val_main_cst_21]
    try simp only [Finset.univ_unique, Finset.sum_singleton]
  rw [e, v72_eq]
  have real := fun r => v20_real x0 x1 x2 x3 x4 h0 h1 h2 h3 h4 r j
  rw [bits_half, bits_1024, bits_half_mean, mul_sum_real]
  · refine Finset.sum_congr rfl fun r _ => ?_
    rw [real r, ← EReal.coe_mul, coe_div _ (by norm_num), ← EReal.coe_mul, ← EReal.coe_mul]
    exact congrArg _ (by ring)
  · intro r
    rw [real r, ← EReal.coe_mul, coe_div _ (by norm_num)]
    exact IsR.coe _

end Ref

/-! ## The kernel's block at an index -/

section Ker

variable (v0 v1 : FVec Ideal S512x1024 .f32) (v3 : FVec Ideal S1x1024 .f32) (v5 : FVec Ideal S512x2816 .bf16)
  (v7 : FVec Ideal S2816x1024 .bf16)

theorem pay9_apply (r : Fin 512) (j : Fin 1024) :
    k0_pay9 (F := Ideal) v0 v5 v7 (ix2 r j) = ∑ k, v5 (ix2 r k) * v7 (ix2 k j) + v0 (ix2 r j) := by
  pointwise [k0_pay9]

theorem pay13_apply (r : Fin 512) :
    k0_pay13 (F := Ideal) v0 v5 v7 (ix2 r 0) = Ideal.rsqrt (Ideal.div (∑ k, k0_pay9 (F := Ideal) v0 v5 v7 (ix2 r k)
          * k0_pay9 (F := Ideal) v0 v5 v7 (ix2 r k)) (Ideal.ofBits .f32 0x44800000#32) + Ideal.ofBits .f32 0x358637BD#32) := by
  pointwise [k0_pay13]

theorem pay10_apply (r : Fin 512) (j : Fin 1024) :
    k0_pay10 (F := Ideal) v0 v1 v3 v5 v7 (ix2 r j) = k0_pay9 (F := Ideal) v0 v5 v7 (ix2 r j)
      * Ideal.rsqrt (Ideal.div (∑ k, k0_pay9 (F := Ideal) v0 v5 v7 (ix2 r k)
          * k0_pay9 (F := Ideal) v0 v5 v7 (ix2 r k)) (Ideal.ofBits .f32 0x44800000#32) + Ideal.ofBits .f32 0x358637BD#32)
      * v3 (ix2 0 j) - v1 (ix2 r j) := by
  pointwise [k0_pay10, k0_pay8]

theorem pay12_apply (r : Fin 512) (j : Fin 1024) :
    k0_pay12 (F := Ideal) v0 v1 v3 v5 v7 (ix2 r j) = k0_pay10 (F := Ideal) v0 v1 v3 v5 v7 (ix2 r j) * Ideal.ofBits .f32 0x3A800000#32 := by
  pointwise [k0_pay12]

theorem pay8_apply (j : Fin 1024) : k0_pay8 (F := Ideal) v3 (ix2 0 j) = v3 (ix2 0 j) := by
  pointwise [k0_pay8]

theorem pay2_apply (v4 : FVec Ideal S1x1024 .f32) (v10 v30 : FVec Ideal S512x1024 .f32) (v38 : FVec Ideal S512x1 .f32) (r : Fin 512) (j : Fin 1024)
    (x w d : Fin 1024 → ℝ) (hx : ∀ k, v10 (ix2 r k) = ((x k : ℝ) : EReal)) (hw : ∀ k, v4 (ix2 0 k) = ((w k : ℝ) : EReal))
    (hd : ∀ k, v30 (ix2 r k) = ((d k : ℝ) : EReal)) (hr : v38 (ix2 r 0) = ((rinv x : ℝ) : EReal)) :
    k0_pay2 (F := Ideal) v4 v10 v30 v38 (ix2 r j) = ((dx x w d j : ℝ) : EReal) := by
  pointwise [k0_pay2, k0_pay1]
  exact dx_kernel (fun k => v10 (ix2 r k)) (fun k => v4 (ix2 0 k)) (fun k => v30 (ix2 r k)) x w d hx hw hd _ hr j

theorem pay3_apply (v4 : FVec Ideal S1x1024 .f32) (v10 v30 : FVec Ideal S512x1024 .f32) (v38 : FVec Ideal S512x1 .f32) (r : Fin 512) (j : Fin 1024) :
    k0_pay3 (F := Ideal) v4 v10 v30 v38 (ix2 r j) = k0_pay2 (F := Ideal) v4 v10 v30 v38 (ix2 r j) := by
  pointwise [k0_pay3]

theorem pay4_apply (j : S1x1024.Idx) : k0_pay4 (F := Ideal) j = 0 := by
  pointwise [k0_pay4]

theorem pay5_apply (j : S1x1024.Idx) : k0_pay5 (F := Ideal) j = 0 := by
  pointwise [k0_pay5]

theorem pay6_apply (v28 v62 : FVec Ideal S1x1024 .f32) (j : S1x1024.Idx) : k0_pay6 (F := Ideal) v28 v62 j = v62 j + v28 j := by
  pointwise [k0_pay6]

theorem pay11_apply (j : Fin 1024) (h : ∀ r, IsR (k0_pay10 (F := Ideal) v0 v1 v3 v5 v7 (ix2 r j))) :
    k0_pay11 (F := Ideal) v0 v1 v3 v5 v7 (ix2 0 j)
    = ∑ r : Fin 512, k0_pay10 (F := Ideal) v0 v1 v3 v5 v7 (ix2 r j) * k0_pay10 (F := Ideal) v0 v1 v3 v5 v7 (ix2 r j) * Ideal.ofBits .f32 0x3A000000#32 := by
  have e : k0_pay11 (F := Ideal) v0 v1 v3 v5 v7 (ix2 0 j) = Ideal.ofBits .f32 0x3A000000#32 *
      ∑ r : Fin 512, k0_pay10 (F := Ideal) v0 v1 v3 v5 v7 (ix2 r j) * k0_pay10 (F := Ideal) v0 v1 v3 v5 v7 (ix2 r j) := by
    pointwise [k0_pay11]
  rw [e, bits_half_mean, mul_sum_real _ _ fun r => (h r).mul (h r)]

theorem pay7_apply (v10 v30 : FVec Ideal S512x1024 .f32) (v38 : FVec Ideal S512x1 .f32) (v66 : FVec Ideal S1x1024 .f32) (j : Fin 1024) :
    k0_pay7 (F := Ideal) v10 v30 v38 v66 (ix2 0 j)
      = v66 (ix2 0 j) + ∑ r : Fin 512, v30 (ix2 r j) * (v10 (ix2 r j) * v38 (ix2 r 0)) := by
  pointwise [k0_pay7, k0_pay1]

end Ker

/-! ## The blocks the kernel reads -/

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

variable (m : (ℓ : Loc nD τ sig) → Buf (Elt Ideal) ℓ)

/-- Every entry of the arguments is a real number. -/
structure Real (c : Dev nD) : Prop where
  h0 : ∀ i, IsR (m ((c : Thread nD τ).loc main_arg0) i)
  h1 : ∀ i, IsR (m ((c : Thread nD τ).loc main_arg1) i)
  h2 : ∀ i, IsR (m ((c : Thread nD τ).loc main_arg2) i)
  h3 : ∀ i, IsR (m ((c : Thread nD τ).loc main_arg3) i)
  h4 : ∀ i, IsR (m ((c : Thread nD τ).loc main_arg4) i)

/-- The reference's hidden rows, difference, cotangent and gradient, at the kernel's arguments. -/
abbrev hid (c : Dev nD) : FVec Ideal S4096x1024 .f32 := val_main_v2 (F := Ideal) (m ((c : Thread nD τ).loc main_arg0)) (m ((c : Thread nD τ).loc main_arg1)) (m ((c : Thread nD τ).loc main_arg2))
abbrev err (c : Dev nD) : FVec Ideal S4096x1024 .f32 := val_main_v20 (F := Ideal) (m ((c : Thread nD τ).loc main_arg0)) (m ((c : Thread nD τ).loc main_arg1)) (m ((c : Thread nD τ).loc main_arg2))
  (m ((c : Thread nD τ).loc main_arg3)) (m ((c : Thread nD τ).loc main_arg4))
abbrev cot (c : Dev nD) : FVec Ideal S4096x1024 .f32 := val_main_v34 (F := Ideal) (m ((c : Thread nD τ).loc main_arg0)) (m ((c : Thread nD τ).loc main_arg1)) (m ((c : Thread nD τ).loc main_arg2))
  (m ((c : Thread nD τ).loc main_arg3)) (m ((c : Thread nD τ).loc main_arg4))
abbrev grad (c : Dev nD) : FVec Ideal S4096x1024 .f32 := val_main_v54 (F := Ideal) (m ((c : Thread nD τ).loc main_arg0)) (m ((c : Thread nD τ).loc main_arg1)) (m ((c : Thread nD τ).loc main_arg2))
  (m ((c : Thread nD τ).loc main_arg3)) (m ((c : Thread nD τ).loc main_arg4))

section Block

variable (c : Dev nD) (t : Fin cfg0.N) (r : Fin 512) (R : Fin 4096) (hR : (R : ℕ) = 512 * t.val + r)

include hR

theorem hid_block (j : Fin 1024) : k0_pay9 (F := Ideal) (iblk m c 2 t) (iblk m c 0 t) (iblk m c 1 t) (ix2 r j) = hid m c (ix2 R j) := by
  rw [pay9_apply, hid, v2_apply, add_comm]
  refine congrArg₂ (· + ·) ?_ (Finset.sum_congr rfl fun k _ => congrArg₂ (· * ·) ?_ ?_)
  · blk_point [iblk, V, idx t]
  · blk_point [iblk, V, idx t]
  · blk_point [iblk, V, idx t]

theorem rsqrt_block : k0_pay13 (F := Ideal) (iblk m c 2 t) (iblk m c 0 t) (iblk m c 1 t) (ix2 r 0)
    = Ideal.rsqrt (Ideal.div (∑ k, hid m c (ix2 R k) * hid m c (ix2 R k)) (Ideal.ofBits .f32 0x44800000#32) + Ideal.ofBits .f32 0x358637BD#32) := by
  rw [pay13_apply]
  simp only [hid_block m c t r R hR]

theorem err_block (j : Fin 1024) : k0_pay10 (F := Ideal) (iblk m c 2 t) (iblk m c 3 t) (iblk m c 4 t) (iblk m c 0 t) (iblk m c 1 t) (ix2 r j) = err m c (ix2 R j) := by
  rw [pay10_apply, err, v20_apply]
  simp only [hid_block m c t r R hR]
  have e3 : (show FVec Ideal S512x1024 .f32 from iblk m c 3 t) (ix2 r j) = m ((c : Thread nD τ).loc main_arg4) (ix3 0 R j) := by
    blk_point [iblk, V, idx t]
  have e4 : (show FVec Ideal S1x1024 .f32 from iblk m c 4 t) (ix2 0 j) = m ((c : Thread nD τ).loc main_arg3) (ix1 j) := by
    blk_point [iblk, V, idx t]
  exact congrArg₂ (fun a b : EReal => _ * a - b) e4 e3

theorem cot_block (j : Fin 1024) : k0_pay12 (F := Ideal) (iblk m c 2 t) (iblk m c 3 t) (iblk m c 4 t) (iblk m c 0 t) (iblk m c 1 t) (ix2 r j) = cot m c (ix2 R j) := by
  rw [pay12_apply, cot, v34_apply, err_block m c t r R hR]

theorem grad_block (hf : Real m c) (j : Fin 1024) :
    k0_pay2 (F := Ideal) (k0_pay8 (iblk m c 4 t)) (k0_pay9 (iblk m c 2 t) (iblk m c 0 t) (iblk m c 1 t))
        (k0_pay12 (iblk m c 2 t) (iblk m c 3 t) (iblk m c 4 t) (iblk m c 0 t) (iblk m c 1 t))
        (k0_pay13 (iblk m c 2 t) (iblk m c 0 t) (iblk m c 1 t)) (ix2 r j) = grad m c (ix2 R j) := by
  have hh := fun k => v2_real _ _ _ hf.h0 hf.h1 hf.h2 R k
  have he := fun k => v20_real _ _ _ _ _ hf.h0 hf.h1 hf.h2 hf.h3 hf.h4 R k
  have hc : ∀ k, IsR (cot m c (ix2 R k)) := fun k => by
    rw [cot, v34_apply, bits_mean]; exact (he k).mul (IsR.coe _)
  have e4 : ∀ k : Fin 1024, (show FVec Ideal S1x1024 .f32 from iblk m c 4 t) (ix2 0 k) = m ((c : Thread nD τ).loc main_arg3) (ix1 k) := fun k => by
    blk_point [iblk, V, idx t]
  rw [grad, v54_apply _ _ _ _ _ R j _ _ _ hh (fun k => hf.h3 (ix1 k)) hc]
  exact pay2_apply _ _ _ _ r j _ _ _ (fun k => (hid_block m c t r R hR k).trans (hh k))
    (fun k => ((pay8_apply _ k).trans (e4 k)).trans (hf.h3 (ix1 k))) (fun k => (cot_block m c t r R hR k).trans (hc k))
    ((rsqrt_block m c t r R hR).trans (rsqrt_row _ _ hh))

end Block

theorem row_lt (t : Fin cfg0.N) (y0 : Fin 512) : 512 * t.val + y0 < 4096 := by
  have h : t.val < 8 := lt_of_lt_of_eq t.isLt N_0
  omega

theorem emb5 (t : Fin cfg0.N) (y0 : Fin 512) (y1 : Fin 1024) (R : Fin 4096) (hR : (R : ℕ) = 512 * t.val + y0) :
    ((View.whole main_v5_0).slice (win0_5.rect t)).emb (ix2 y0 y1) = ix2 R y1 := by
  blk_ext [idx t]

theorem emb6 (t : Fin cfg0.N) (y0 : Fin 512) (y1 : Fin 1024) (R : Fin 4096) (hR : (R : ℕ) = 512 * t.val + y0) :
    ((View.whole main_v5_1).slice (win0_6.rect t)).emb (ix2 y0 y1) = ix2 R y1 := by
  blk_ext [idx t]

theorem final5 (c : Dev nD) (hf : Real m c) : (dats m 0 c).arrAt 5 (cfgs 0).N = grad m c := by
  refine (dats m 0 c).arrAt_eq_of_covers 5 _ (by decide +kernel) fun t hw y => ?_
  idx_vars y
  blk_simp [idx t]
  rw [after0_5]
  by_cases h : t.val % 8 = 0
  · rw [outsAt0_A m c t h]; frame_out
    rw [emb5 t y0 y1 ⟨_, row_lt t y0⟩ rfl]
    exact grad_block m c t _ _ rfl hf _
  · rw [outsAt0_B m c t h]; frame_out
    rw [emb5 t y0 y1 ⟨_, row_lt t y0⟩ rfl]
    exact grad_block m c t _ _ rfl hf _

theorem final6 (c : Dev nD) (hf : Real m c) : (dats m 0 c).arrAt 6 (cfgs 0).N
      = val_main_v79 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hw y => ?_
  idx_vars y
  blk_simp [idx t]
  rw [after0_6]
  by_cases h : t.val % 8 = 0
  · rw [outsAt0_A m c t h]; frame_out
    rw [emb6 t y0 y1 ⟨_, row_lt t y0⟩ rfl, v79_apply]
    exact (pay3_apply _ _ _ _ _ _).trans (grad_block m c t _ _ rfl hf _)
  · rw [outsAt0_B m c t h]; frame_out
    rw [emb6 t y0 y1 ⟨_, row_lt t y0⟩ rfl, v79_apply]
    exact (pay3_apply _ _ _ _ _ _).trans (grad_block m c t _ _ rfl hf _)

theorem final7 (c : Dev nD) (hf : Real m c) : (dats m 0 c).arrAt 7 (cfgs 0).N
      = val_main_v80 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0) _
    (fun t h j => by rw [outsAt0_A m c t h]; frame_out; rw [pay6_apply, pay4_apply])
    (fun t h j => by rw [outsAt0_B m c t h]; frame_out; rw [pay6_apply])
    (le_of_eq N_0) t0_7 rfl j, zero_add]
  idx_vars j
  obtain rfl : j0 = 0 := Subsingleton.elim _ _
  rw [v80_apply _ _ _ _ _ hf.h0 hf.h1 hf.h2 hf.h3 hf.h4]
  have he : ∀ R k, IsR (err m c (ix2 R k)) := fun R k => v20_real _ _ _ _ _ hf.h0 hf.h1 hf.h2 hf.h3 hf.h4 R k
  have hb := fun (t : Fin cfg0.N) (r : Fin 512) => err_block m c t r ⟨_, row_lt t r⟩ rfl j1
  simp only [pay11_apply _ _ _ _ _ _ fun r => (congrArg IsR (hb _ r)).mpr (he _ _)]
  refine Fin.sum_mul_add_congr fun t r hl => ?_
  have hb := err_block m c t r ⟨t.val * 512 + r.val, hl⟩ (by simp; omega) j1
  exact congrArg (fun z : EReal => z * z * _) hb

theorem final8 (c : Dev nD) : (dats m 0 c).arrAt 8 (cfgs 0).N
      = val_main_v81 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_after_last 8 t0_7 (by decide +kernel) _ fun j => ?_
  idx_vars j
  obtain rfl : j0 = 0 := Subsingleton.elim _ _
  blk_simp
  rw [after0_8, Pipeline.eq_sum_fin_of_reset_step_apply_last (fun n h => (outsAt0 m c n h).2.2.2) 8 (fun _ => 0)
    (fun t j => ∑ r : Fin 512, k0_pay12 (F := Ideal) (iblk m c 2 t) (iblk m c 3 t) (iblk m c 4 t) (iblk m c 0 t) (iblk m c 1 t) (ix2 r (j 1))
      * (k0_pay9 (F := Ideal) (iblk m c 2 t) (iblk m c 0 t) (iblk m c 1 t) (ix2 r (j 1)) * k0_pay13 (F := Ideal) (iblk m c 2 t) (iblk m c 0 t) (iblk m c 1 t) (ix2 r 0)))
    (fun t h j => by
      idx_vars j
      obtain rfl : j0 = 0 := Subsingleton.elim _ _
      rw [outsAt0_A m c t h]; frame_out; rw [pay7_apply, pay5_apply])
    (fun t h j => by
      idx_vars j
      obtain rfl : j0 = 0 := Subsingleton.elim _ _
      rw [outsAt0_B m c t h]; frame_out; rw [pay7_apply])
    (le_of_eq N_0) t0_7 rfl _, zero_add]
  rw [v81_apply]
  refine Fin.sum_mul_add_congr fun t r hl => ?_
  have hR : ((⟨t.val * 512 + r.val, hl⟩ : Fin 4096) : ℕ) = 512 * t.val + r := by simp; omega
  refine (mul_comm (_ : EReal) _).trans ?_
  exact congrArg₂ (fun a b : EReal => a * b) (congrArg₂ (fun a b : EReal => a * b) (hid_block m c t r _ hR j1) (rsqrt_block m c t r _ hR))
    (cot_block m c t r _ hR j1)

end Cert.NormD

end
-- ==== Proof.ClaimD.lean ====
/- The claims of the loss's gradient: what the precondition says of the arguments, the reference's run,
   and the equality of the two programs' results. -/
module

public import proofs.«01_k».proof.Defs
public import proofs.«01_k».proof.Proof.NormD
public import proofs.«01_k».proof.Proof.Gen.KernelDIdeal.Value
public import proofs.«01_k».proof.Proof.Gen.ReferenceDIdeal.Run
public import proofs.«01_k».proof.Proof.Gen.ReferenceDIdeal.Read
public import proofs.«01_k».proof.Proof.Gen.Pre_finite_d
public import Idealize.ShloMosaic.Lib.Claim
public import Idealize.ShloMosaic.Lib.Quiescent

@[expose] public section

set_option maxRecDepth 16384

noncomputable section

namespace Cert.ClaimD

open Idealize.ShloMosaic Idealize.ShloMosaic.TcCoe Idealize.SL.Sem Cert.RealLift

theorem real_of_pre (m : (ℓ : Loc Cert.KernelDIdeal.nD Cert.KernelDIdeal.τ Cert.KernelDIdeal.sig) → Buf (Elt Ideal) ℓ)
    (hpre : Pre_KernelDIdeal_finite_d m) (c : Dev Cert.KernelDIdeal.nD) : Cert.NormD.Real m c := by
  have h := congrFun (hpre c) ix0
  dsimp only [Cert.Pre_finite_d.fn, Cert.Pre_finite_d.fn_part1] at h
  obtain ⟨h, a4⟩ := andi_one h
  obtain ⟨h, a3⟩ := andi_one h
  obtain ⟨h, a2⟩ := andi_one h
  obtain ⟨a0, a1⟩ := andi_one h
  exact ⟨entries_real _ _ _ _ _ _ _ a0, entries_real _ _ _ _ _ _ _ a1, entries_real _ _ _ _ _ _ _ a2, entries_real _ _ _ _ _ _ _ a3, entries_real _ _ _ _ _ _ _ a4⟩

/-- The reference's run, each result named by the stage that computes it. -/
theorem runRef (m : (ℓ : Loc Cert.ReferenceDIdeal.nD Cert.ReferenceDIdeal.τ Cert.ReferenceDIdeal.sig) → Buf (Elt Ideal) ℓ) (ρ : Dev Cert.ReferenceDIdeal.nD → PrngReg) :
    θ_run Cert.ReferenceDIdeal.defs (onTc (τ := Cert.ReferenceDIdeal.τ) (Cert.ReferenceDIdeal.main (F := Ideal))) ⟨m, fun _ => 0, ρ⟩ fun r => ∀ c : Dev Cert.ReferenceDIdeal.nD,
      r.2.mem ((c.tc : Thread Cert.ReferenceDIdeal.nD Cert.ReferenceDIdeal.τ).loc Cert.ReferenceDIdeal.main_v54) = Cert.ReferenceDIdeal.Read.val_main_v54 (F := Ideal) (m ((c.tc : Thread Cert.ReferenceDIdeal.nD Cert.ReferenceDIdeal.τ).loc Cert.ReferenceDIdeal.main_arg0)) (m ((c.tc : Thread Cert.ReferenceDIdeal.nD Cert.ReferenceDIdeal.τ).loc Cert.ReferenceDIdeal.main_arg1)) (m ((c.tc : Thread Cert.ReferenceDIdeal.nD Cert.ReferenceDIdeal.τ).loc Cert.ReferenceDIdeal.main_arg2)) (m ((c.tc : Thread Cert.ReferenceDIdeal.nD Cert.ReferenceDIdeal.τ).loc Cert.ReferenceDIdeal.main_arg3)) (m ((c.tc : Thread Cert.ReferenceDIdeal.nD Cert.ReferenceDIdeal.τ).loc Cert.ReferenceDIdeal.main_arg4))
      ∧      r.2.mem ((c.tc : Thread Cert.ReferenceDIdeal.nD Cert.ReferenceDIdeal.τ).loc Cert.ReferenceDIdeal.main_v79) = Cert.ReferenceDIdeal.Read.val_main_v79 (F := Ideal) (m ((c.tc : Thread Cert.ReferenceDIdeal.nD Cert.ReferenceDIdeal.τ).loc Cert.ReferenceDIdeal.main_arg0)) (m ((c.tc : Thread Cert.ReferenceDIdeal.nD Cert.ReferenceDIdeal.τ).loc Cert.ReferenceDIdeal.main_arg1)) (m ((c.tc : Thread Cert.ReferenceDIdeal.nD Cert.ReferenceDIdeal.τ).loc Cert.ReferenceDIdeal.main_arg2)) (m ((c.tc : Thread Cert.ReferenceDIdeal.nD Cert.ReferenceDIdeal.τ).loc Cert.ReferenceDIdeal.main_arg3)) (m ((c.tc : Thread Cert.ReferenceDIdeal.nD Cert.ReferenceDIdeal.τ).loc Cert.ReferenceDIdeal.main_arg4))
      ∧      r.2.mem ((c.tc : Thread Cert.ReferenceDIdeal.nD Cert.ReferenceDIdeal.τ).loc Cert.ReferenceDIdeal.main_v80) = Cert.ReferenceDIdeal.Read.val_main_v80 (F := Ideal) (m ((c.tc : Thread Cert.ReferenceDIdeal.nD Cert.ReferenceDIdeal.τ).loc Cert.ReferenceDIdeal.main_arg0)) (m ((c.tc : Thread Cert.ReferenceDIdeal.nD Cert.ReferenceDIdeal.τ).loc Cert.ReferenceDIdeal.main_arg1)) (m ((c.tc : Thread Cert.ReferenceDIdeal.nD Cert.ReferenceDIdeal.τ).loc Cert.ReferenceDIdeal.main_arg2)) (m ((c.tc : Thread Cert.ReferenceDIdeal.nD Cert.ReferenceDIdeal.τ).loc Cert.ReferenceDIdeal.main_arg3)) (m ((c.tc : Thread Cert.ReferenceDIdeal.nD Cert.ReferenceDIdeal.τ).loc Cert.ReferenceDIdeal.main_arg4))
      ∧      r.2.mem ((c.tc : Thread Cert.ReferenceDIdeal.nD Cert.ReferenceDIdeal.τ).loc Cert.ReferenceDIdeal.main_v81) = Cert.ReferenceDIdeal.Read.val_main_v81 (F := Ideal) (m ((c.tc : Thread Cert.ReferenceDIdeal.nD Cert.ReferenceDIdeal.τ).loc Cert.ReferenceDIdeal.main_arg0)) (m ((c.tc : Thread Cert.ReferenceDIdeal.nD Cert.ReferenceDIdeal.τ).loc Cert.ReferenceDIdeal.main_arg1)) (m ((c.tc : Thread Cert.ReferenceDIdeal.nD Cert.ReferenceDIdeal.τ).loc Cert.ReferenceDIdeal.main_arg2)) (m ((c.tc : Thread Cert.ReferenceDIdeal.nD Cert.ReferenceDIdeal.τ).loc Cert.ReferenceDIdeal.main_arg3)) (m ((c.tc : Thread Cert.ReferenceDIdeal.nD Cert.ReferenceDIdeal.τ).loc Cert.ReferenceDIdeal.main_arg4))
      ∧r.2.mem ((c.tc : Thread Cert.ReferenceDIdeal.nD Cert.ReferenceDIdeal.τ).loc Cert.ReferenceDIdeal.main_arg0) = m ((c.tc : Thread Cert.ReferenceDIdeal.nD Cert.ReferenceDIdeal.τ).loc Cert.ReferenceDIdeal.main_arg0) ∧ r.2.mem ((c.tc : Thread Cert.ReferenceDIdeal.nD Cert.ReferenceDIdeal.τ).loc Cert.ReferenceDIdeal.main_arg1) = m ((c.tc : Thread Cert.ReferenceDIdeal.nD Cert.ReferenceDIdeal.τ).loc Cert.ReferenceDIdeal.main_arg1) ∧ r.2.mem ((c.tc : Thread Cert.ReferenceDIdeal.nD Cert.ReferenceDIdeal.τ).loc Cert.ReferenceDIdeal.main_arg2) = m ((c.tc : Thread Cert.ReferenceDIdeal.nD Cert.ReferenceDIdeal.τ).loc Cert.ReferenceDIdeal.main_arg2) ∧ r.2.mem ((c.tc : Thread Cert.ReferenceDIdeal.nD Cert.ReferenceDIdeal.τ).loc Cert.ReferenceDIdeal.main_arg3) = m ((c.tc : Thread Cert.ReferenceDIdeal.nD Cert.ReferenceDIdeal.τ).loc Cert.ReferenceDIdeal.main_arg3) ∧ r.2.mem ((c.tc : Thread Cert.ReferenceDIdeal.nD Cert.ReferenceDIdeal.τ).loc Cert.ReferenceDIdeal.main_arg4) = m ((c.tc : Thread Cert.ReferenceDIdeal.nD Cert.ReferenceDIdeal.τ).loc Cert.ReferenceDIdeal.main_arg4) :=
  (θ_run Cert.ReferenceDIdeal.defs _ _).mono (fun _ h c => ⟨(h c).1.trans (Cert.ReferenceDIdeal.Read.val_main_v54_eq m c),
    (h c).2.1.trans (Cert.ReferenceDIdeal.Read.val_main_v79_eq m c),
    (h c).2.2.1.trans (Cert.ReferenceDIdeal.Read.val_main_v80_eq (m ((c.tc : Thread Cert.ReferenceDIdeal.nD Cert.ReferenceDIdeal.τ).loc Cert.ReferenceDIdeal.main_arg0)) (m ((c.tc : Thread Cert.ReferenceDIdeal.nD Cert.ReferenceDIdeal.τ).loc Cert.ReferenceDIdeal.main_arg1)) (m ((c.tc : Thread Cert.ReferenceDIdeal.nD Cert.ReferenceDIdeal.τ).loc Cert.ReferenceDIdeal.main_arg2)) (m ((c.tc : Thread Cert.ReferenceDIdeal.nD Cert.ReferenceDIdeal.τ).loc Cert.ReferenceDIdeal.main_arg3)) (m ((c.tc : Thread Cert.ReferenceDIdeal.nD Cert.ReferenceDIdeal.τ).loc Cert.ReferenceDIdeal.main_arg4))),
    (h c).2.2.2.1.trans (Cert.ReferenceDIdeal.Read.val_main_v81_eq (m ((c.tc : Thread Cert.ReferenceDIdeal.nD Cert.ReferenceDIdeal.τ).loc Cert.ReferenceDIdeal.main_arg0)) (m ((c.tc : Thread Cert.ReferenceDIdeal.nD Cert.ReferenceDIdeal.τ).loc Cert.ReferenceDIdeal.main_arg1)) (m ((c.tc : Thread Cert.ReferenceDIdeal.nD Cert.ReferenceDIdeal.τ).loc Cert.ReferenceDIdeal.main_arg2)) (m ((c.tc : Thread Cert.ReferenceDIdeal.nD Cert.ReferenceDIdeal.τ).loc Cert.ReferenceDIdeal.main_arg3)) (m ((c.tc : Thread Cert.ReferenceDIdeal.nD Cert.ReferenceDIdeal.τ).loc Cert.ReferenceDIdeal.main_arg4))),
    (h c).2.2.2.2⟩)
    (Cert.ReferenceDIdeal.Value.run m ρ)

theorem algebraic : algebraic_KernelDIdeal_ReferenceDIdeal_pre_finite_d := by
  pair_intro
  · run_from Cert.KernelDIdeal.Value.run_blocks m g
  · run_from runRef m' g'
    · exact (Cert.NormD.final5 m c (real_of_pre m hpre c)).symm
    · exact (Cert.NormD.final6 m c (real_of_pre m hpre c)).symm
    · exact (Cert.NormD.final7 m c (real_of_pre m hpre c)).symm
    · exact (Cert.NormD.final8 m c).symm

/-- The reference leaves its arguments alone, and declares no counter. -/
theorem frameRef : quiescent_ReferenceDIdeal := fun m g _ =>
  (θ_run Cert.ReferenceDIdeal.defs _ _).mono (fun r h => ⟨fun c => (h c).2.2.2.2, sem_eq_zero_of_no_sems (by decide) r.2⟩)
    (Cert.ReferenceDIdeal.Value.run m g)

theorem frameRefPre : quiescent_ReferenceDIdeal_pre_finite_d := fun m g _ => frameRef m g trivial

end Cert.ClaimD

end
-- ==== Proof.AttnStep.lean ====
/- What one grid point of the sliding-window attention gradient computes from its blocks, value by value,
   and what it leaves in its output buffers and in the carried rows. -/
module

public import proofs.«01_k».proof.Proof.Gen.KernelAIdeal.Frame
public import proofs.«01_k».proof.Proof.Gen.KernelAIdeal.Skeleton
public import Idealize.ShloMosaic.Lib.Pipeline.ValueKit

@[expose] public section

set_option maxRecDepth 65536

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelAIdeal Cert.KernelAIdeal.Gen

variable {F : FTy → Type} [FloatOps F] [Named F]

/-- The blocks a grid point reads. -/
structure Blocks (F : FTy → Type) where
  sink : Vec F S1x8 .f32
  cur : Vec F S128x768 .f32
  prev : Vec F S128x768 .f32
  bias : Vec F S1x768 .f32
  dout : Vec F S128x512 .f32

/-- What a grid point leaves: the five output buffers and the carried rows. -/
structure Left (F : FTy → Type) where
  dq : Vec F S128x512 .bf16
  dkv : Vec F S128x256 .bf16
  dsink : Vec F S8x128 .f32
  dbq : Vec F S1x512 .f32
  dbkv : Vec F S1x256 .f32
  carry : Vec F S128x256 .f32

def e42 (n : BitVec 32) (X : Blocks F) : IVec S8x128 32 :=
  iota .tc S8x128 32 [0] iota_S8x128_d0_w32
def e46 (n : BitVec 32) (X : Blocks F) : Vec F S128x64 .f32 :=
  View.ld X.cur (Rect.unit (s := S128x768) ![0, 0] S128x64.size inb_S128x768_S128x64_0_0)
def e47 (n : BitVec 32) (X : Blocks F) : Vec F S1x64 .f32 :=
  View.ld X.bias (Rect.unit (s := S1x768) ![0, 0] S1x64.size inb_S1x768_S1x64_0_0)
def e41 (n : BitVec 32) (X : Blocks F) : IVec S256x512 1 :=
  k0_pay8 n
def e43 (n : BitVec 32) (X : Blocks F) : FVec F S8x128 .f32 :=
  k0_pay9 (F := F)
def e44 (n : BitVec 32) (X : Blocks F) : FVec F S256x64 .f32 :=
  k0_pay10 (F := F)
def e45 (n : BitVec 32) (X : Blocks F) : FVec F S256x64 .f32 :=
  k0_pay11 (F := F)
def e48 (n : BitVec 32) (X : Blocks F) : FVec F S128x64 .f32 :=
  k0_pay12 (e47 n X)
def e50 (n : BitVec 32) (X : Blocks F) : Vec F S128x64 .f32 :=
  View.ld X.cur (Rect.unit (s := S128x768) ![0, 64] S128x64.size inb_S128x768_S128x64_0_64)
def e51 (n : BitVec 32) (X : Blocks F) : Vec F S1x64 .f32 :=
  View.ld X.bias (Rect.unit (s := S1x768) ![0, 64] S1x64.size inb_S1x768_S1x64_0_64)
def e54 (n : BitVec 32) (X : Blocks F) : Vec F S128x64 .f32 :=
  View.ld X.cur (Rect.unit (s := S128x768) ![0, 128] S128x64.size inb_S128x768_S128x64_0_128)
def e55 (n : BitVec 32) (X : Blocks F) : Vec F S1x64 .f32 :=
  View.ld X.bias (Rect.unit (s := S1x768) ![0, 128] S1x64.size inb_S1x768_S1x64_0_128)
def e58 (n : BitVec 32) (X : Blocks F) : Vec F S128x64 .f32 :=
  View.ld X.cur (Rect.unit (s := S128x768) ![0, 192] S128x64.size inb_S128x768_S128x64_0_192)
def e59 (n : BitVec 32) (X : Blocks F) : Vec F S1x64 .f32 :=
  View.ld X.bias (Rect.unit (s := S1x768) ![0, 192] S1x64.size inb_S1x768_S1x64_0_192)
def e63 (n : BitVec 32) (X : Blocks F) : Vec F S128x64 .f32 :=
  View.ld X.prev (Rect.unit (s := S128x768) ![0, 512] S128x64.size inb_S128x768_S128x64_0_512)
def e64 (n : BitVec 32) (X : Blocks F) : Vec F S1x64 .f32 :=
  View.ld X.bias (Rect.unit (s := S1x768) ![0, 512] S1x64.size inb_S1x768_S1x64_0_512)
def e67 (n : BitVec 32) (X : Blocks F) : Vec F S128x64 .f32 :=
  View.ld X.cur (Rect.unit (s := S128x768) ![0, 512] S128x64.size inb_S128x768_S128x64_0_512)
def e68 (n : BitVec 32) (X : Blocks F) : Vec F S1x64 .f32 :=
  View.ld X.bias (Rect.unit (s := S1x768) ![0, 512] S1x64.size inb_S1x768_S1x64_0_512)
def e72 (n : BitVec 32) (X : Blocks F) : Vec F S128x64 .f32 :=
  View.ld X.prev (Rect.unit (s := S128x768) ![0, 640] S128x64.size inb_S128x768_S128x64_0_640)
def e73 (n : BitVec 32) (X : Blocks F) : Vec F S1x64 .f32 :=
  View.ld X.bias (Rect.unit (s := S1x768) ![0, 640] S1x64.size inb_S1x768_S1x64_0_640)
def e76 (n : BitVec 32) (X : Blocks F) : Vec F S128x64 .f32 :=
  View.ld X.cur (Rect.unit (s := S128x768) ![0, 640] S128x64.size inb_S128x768_S128x64_0_640)
def e77 (n : BitVec 32) (X : Blocks F) : Vec F S1x64 .f32 :=
  View.ld X.bias (Rect.unit (s := S1x768) ![0, 640] S1x64.size inb_S1x768_S1x64_0_640)
def e62 (n : BitVec 32) (X : Blocks F) : FVec F S512x64 .f32 :=
  k0_pay13 (e46 n X) (e48 n X) (e50 n X) (e51 n X) (e54 n X) (e55 n X) (e58 n X) (e59 n X)
def e71 (n : BitVec 32) (X : Blocks F) : FVec F S256x64 .f32 :=
  k0_pay14 (e63 n X) (e64 n X) (e67 n X) (e68 n X)
def e80 (n : BitVec 32) (X : Blocks F) : FVec F S256x64 .f32 :=
  k0_pay15 (e72 n X) (e73 n X) (e76 n X) (e77 n X)
def e88 (n : BitVec 32) (X : Blocks F) : Elt F .f32 :=
  View.ld X.sink (Rect.unit (s := S1x8) ![0, 0] S1x1.size inb_S1x8_S1x1_0_0) (Shape.Idx.first (numel1_S1x1.symm ▸ Nat.one_pos))
def e90 (n : BitVec 32) (X : Blocks F) : Elt F .f32 :=
  View.ld X.sink (Rect.unit (s := S1x8) ![0, 1] S1x1.size inb_S1x8_S1x1_0_1) (Shape.Idx.first (numel1_S1x1.symm ▸ Nat.one_pos))
def e92 (n : BitVec 32) (X : Blocks F) : Elt F .f32 :=
  View.ld X.sink (Rect.unit (s := S1x8) ![0, 2] S1x1.size inb_S1x8_S1x1_0_2) (Shape.Idx.first (numel1_S1x1.symm ▸ Nat.one_pos))
def e94 (n : BitVec 32) (X : Blocks F) : Elt F .f32 :=
  View.ld X.sink (Rect.unit (s := S1x8) ![0, 3] S1x1.size inb_S1x8_S1x1_0_3) (Shape.Idx.first (numel1_S1x1.symm ▸ Nat.one_pos))
def e113 (n : BitVec 32) (X : Blocks F) : Vec F S128x64 .f32 :=
  View.ld X.dout (Rect.unit (s := S128x512) ![0, 0] S128x64.size inb_S128x512_S128x64_0_0)
def e114 (n : BitVec 32) (X : Blocks F) : Vec F S128x64 .f32 :=
  View.ld X.dout (Rect.unit (s := S128x512) ![0, 64] S128x64.size inb_S128x512_S128x64_0_64)
def e115 (n : BitVec 32) (X : Blocks F) : Vec F S128x64 .f32 :=
  View.ld X.dout (Rect.unit (s := S128x512) ![0, 128] S128x64.size inb_S128x512_S128x64_0_128)
def e116 (n : BitVec 32) (X : Blocks F) : Vec F S128x64 .f32 :=
  View.ld X.dout (Rect.unit (s := S128x512) ![0, 192] S128x64.size inb_S128x512_S128x64_0_192)
def e111 (n : BitVec 32) (X : Blocks F) : FVec F S256x512 .f32 :=
  k0_pay22 (e41 n X) (e62 n X) (e71 n X) (e88 n X) (e90 n X) (e92 n X) (e94 n X)
def e112 (n : BitVec 32) (X : Blocks F) : FVec F S1x512 .f32 :=
  k0_pay23 (e41 n X) (e62 n X) (e71 n X) (e88 n X) (e90 n X) (e92 n X) (e94 n X)
def e117 (n : BitVec 32) (X : Blocks F) : FVec F S512x64 .f32 :=
  k0_pay24 (e113 n X) (e114 n X) (e115 n X) (e116 n X)
def e118 (n : BitVec 32) (X : Blocks F) : FVec F S256x64 .bf16 :=
  k0_pay25 (e80 n X)
def e131 (n : BitVec 32) (X : Blocks F) : FVec F S512x64 .f32 :=
  k0_pay29 (e71 n X) (e111 n X) (e117 n X) (e118 n X)
def e135 (n : BitVec 32) (X : Blocks F) : FVec F S256x64 .f32 :=
  k0_pay30 (e44 n X) (e62 n X) (e111 n X) (e117 n X) (e118 n X)
def e139 (n : BitVec 32) (X : Blocks F) : FVec F S256x64 .f32 :=
  k0_pay31 (e45 n X) (e111 n X) (e117 n X)
def e140 (n : BitVec 32) (X : Blocks F) : FVec F S1x512 .f32 :=
  k0_pay32 (e111 n X) (e112 n X) (e117 n X) (e118 n X)
def e141 (n : BitVec 32) (X : Blocks F) : FVec F S128x64 .f32 :=
  k0_pay33 (e71 n X) (e111 n X) (e117 n X) (e118 n X)
def e152 (n : BitVec 32) (X : Blocks F) : FVec F S128x64 .f32 :=
  k0_pay34 (e71 n X) (e111 n X) (e117 n X) (e118 n X)
def e162 (n : BitVec 32) (X : Blocks F) : FVec F S8x128 .f32 :=
  k0_pay35 (e42 n X) (e43 n X) (e111 n X) (e112 n X) (e117 n X) (e118 n X)
def e163 (n : BitVec 32) (X : Blocks F) : FVec F S128x64 .f32 :=
  k0_pay36 (e71 n X) (e111 n X) (e117 n X) (e118 n X)
def e165 (n : BitVec 32) (X : Blocks F) : FVec F S1 .f32 :=
  k0_pay37 (e111 n X) (e112 n X) (e117 n X) (e118 n X)
def e185 (n : BitVec 32) (X : Blocks F) : Vec F S128x64 .f32 :=
  View.ld X.cur (Rect.unit (s := S128x768) ![0, 256] S128x64.size inb_S128x768_S128x64_0_256)
def e186 (n : BitVec 32) (X : Blocks F) : Vec F S1x64 .f32 :=
  View.ld X.bias (Rect.unit (s := S1x768) ![0, 256] S1x64.size inb_S1x768_S1x64_0_256)
def e189 (n : BitVec 32) (X : Blocks F) : Vec F S128x64 .f32 :=
  View.ld X.cur (Rect.unit (s := S128x768) ![0, 320] S128x64.size inb_S128x768_S128x64_0_320)
def e190 (n : BitVec 32) (X : Blocks F) : Vec F S1x64 .f32 :=
  View.ld X.bias (Rect.unit (s := S1x768) ![0, 320] S1x64.size inb_S1x768_S1x64_0_320)
def e193 (n : BitVec 32) (X : Blocks F) : Vec F S128x64 .f32 :=
  View.ld X.cur (Rect.unit (s := S128x768) ![0, 384] S128x64.size inb_S128x768_S128x64_0_384)
def e194 (n : BitVec 32) (X : Blocks F) : Vec F S1x64 .f32 :=
  View.ld X.bias (Rect.unit (s := S1x768) ![0, 384] S1x64.size inb_S1x768_S1x64_0_384)
def e197 (n : BitVec 32) (X : Blocks F) : Vec F S128x64 .f32 :=
  View.ld X.cur (Rect.unit (s := S128x768) ![0, 448] S128x64.size inb_S128x768_S128x64_0_448)
def e198 (n : BitVec 32) (X : Blocks F) : Vec F S1x64 .f32 :=
  View.ld X.bias (Rect.unit (s := S1x768) ![0, 448] S1x64.size inb_S1x768_S1x64_0_448)
def e202 (n : BitVec 32) (X : Blocks F) : Vec F S128x64 .f32 :=
  View.ld X.prev (Rect.unit (s := S128x768) ![0, 576] S128x64.size inb_S128x768_S128x64_0_576)
def e174 (n : BitVec 32) (X : Blocks F) : FVec F S128x64 .f32 :=
  k0_pay38 (e131 n X)
def e184 (n : BitVec 32) (X : Blocks F) : FVec F S8x128 .f32 :=
  k0_pay39 (e42 n X) (e140 n X) (e162 n X) (e165 n X)
def e201 (n : BitVec 32) (X : Blocks F) : FVec F S512x64 .f32 :=
  k0_pay40 (e185 n X) (e186 n X) (e189 n X) (e190 n X) (e193 n X) (e194 n X) (e197 n X) (e198 n X)
def e203 (n : BitVec 32) (X : Blocks F) : Vec F S1x64 .f32 :=
  View.ld X.bias (Rect.unit (s := S1x768) ![0, 576] S1x64.size inb_S1x768_S1x64_0_576)
def e206 (n : BitVec 32) (X : Blocks F) : Vec F S128x64 .f32 :=
  View.ld X.cur (Rect.unit (s := S128x768) ![0, 576] S128x64.size inb_S128x768_S128x64_0_576)
def e207 (n : BitVec 32) (X : Blocks F) : Vec F S1x64 .f32 :=
  View.ld X.bias (Rect.unit (s := S1x768) ![0, 576] S1x64.size inb_S1x768_S1x64_0_576)
def e211 (n : BitVec 32) (X : Blocks F) : Vec F S128x64 .f32 :=
  View.ld X.prev (Rect.unit (s := S128x768) ![0, 704] S128x64.size inb_S128x768_S128x64_0_704)
def e212 (n : BitVec 32) (X : Blocks F) : Vec F S1x64 .f32 :=
  View.ld X.bias (Rect.unit (s := S1x768) ![0, 704] S1x64.size inb_S1x768_S1x64_0_704)
def e215 (n : BitVec 32) (X : Blocks F) : Vec F S128x64 .f32 :=
  View.ld X.cur (Rect.unit (s := S128x768) ![0, 704] S128x64.size inb_S128x768_S128x64_0_704)
def e216 (n : BitVec 32) (X : Blocks F) : Vec F S1x64 .f32 :=
  View.ld X.bias (Rect.unit (s := S1x768) ![0, 704] S1x64.size inb_S1x768_S1x64_0_704)
def e227 (n : BitVec 32) (X : Blocks F) : Elt F .f32 :=
  View.ld X.sink (Rect.unit (s := S1x8) ![0, 4] S1x1.size inb_S1x8_S1x1_0_4) (Shape.Idx.first (numel1_S1x1.symm ▸ Nat.one_pos))
def e229 (n : BitVec 32) (X : Blocks F) : Elt F .f32 :=
  View.ld X.sink (Rect.unit (s := S1x8) ![0, 5] S1x1.size inb_S1x8_S1x1_0_5) (Shape.Idx.first (numel1_S1x1.symm ▸ Nat.one_pos))
def e231 (n : BitVec 32) (X : Blocks F) : Elt F .f32 :=
  View.ld X.sink (Rect.unit (s := S1x8) ![0, 6] S1x1.size inb_S1x8_S1x1_0_6) (Shape.Idx.first (numel1_S1x1.symm ▸ Nat.one_pos))
def e233 (n : BitVec 32) (X : Blocks F) : Elt F .f32 :=
  View.ld X.sink (Rect.unit (s := S1x8) ![0, 7] S1x1.size inb_S1x8_S1x1_0_7) (Shape.Idx.first (numel1_S1x1.symm ▸ Nat.one_pos))
def e210 (n : BitVec 32) (X : Blocks F) : FVec F S256x64 .f32 :=
  k0_pay41 (e202 n X) (e203 n X) (e206 n X) (e207 n X)
def e219 (n : BitVec 32) (X : Blocks F) : FVec F S256x64 .f32 :=
  k0_pay42 (e211 n X) (e212 n X) (e215 n X) (e216 n X)
def e226 (n : BitVec 32) (X : Blocks F) : FVec F S256x512 .f32 :=
  k0_pay43 (e41 n X) (e201 n X) (e202 n X) (e203 n X) (e206 n X) (e207 n X)
def e235 (n : BitVec 32) (X : Blocks F) : FVec F S1x512 .f32 :=
  k0_pay44 (e227 n X) (e229 n X) (e231 n X) (e233 n X)
def e236 (n : BitVec 32) (X : Blocks F) : FVec F S512 .f32 :=
  k0_pay45 (e41 n X) (e201 n X) (e202 n X) (e203 n X) (e206 n X) (e207 n X)
def e252 (n : BitVec 32) (X : Blocks F) : Vec F S128x64 .f32 :=
  View.ld X.dout (Rect.unit (s := S128x512) ![0, 256] S128x64.size inb_S128x512_S128x64_0_256)
def e253 (n : BitVec 32) (X : Blocks F) : Vec F S128x64 .f32 :=
  View.ld X.dout (Rect.unit (s := S128x512) ![0, 320] S128x64.size inb_S128x512_S128x64_0_320)
def e254 (n : BitVec 32) (X : Blocks F) : Vec F S128x64 .f32 :=
  View.ld X.dout (Rect.unit (s := S128x512) ![0, 384] S128x64.size inb_S128x512_S128x64_0_384)
def e255 (n : BitVec 32) (X : Blocks F) : Vec F S128x64 .f32 :=
  View.ld X.dout (Rect.unit (s := S128x512) ![0, 448] S128x64.size inb_S128x512_S128x64_0_448)
def e270 (n : BitVec 32) (X : Blocks F) : FVec F S512x64 .f32 :=
  k0_pay55 (e210 n X) (e219 n X) (e226 n X) (e235 n X) (e236 n X) (e252 n X) (e253 n X) (e254 n X) (e255 n X)
def e274 (n : BitVec 32) (X : Blocks F) : FVec F S256x64 .f32 :=
  k0_pay56 (e44 n X) (e201 n X) (e219 n X) (e226 n X) (e235 n X) (e236 n X) (e252 n X) (e253 n X) (e254 n X) (e255 n X)
def e278 (n : BitVec 32) (X : Blocks F) : FVec F S256x64 .f32 :=
  k0_pay57 (e45 n X) (e226 n X) (e235 n X) (e236 n X) (e252 n X) (e253 n X) (e254 n X) (e255 n X)
def e279 (n : BitVec 32) (X : Blocks F) : FVec F S1x512 .f32 :=
  k0_pay58 (e219 n X) (e226 n X) (e235 n X) (e236 n X) (e252 n X) (e253 n X) (e254 n X) (e255 n X)
def e280 (n : BitVec 32) (X : Blocks F) : FVec F S128x64 .f32 :=
  k0_pay59 (e210 n X) (e219 n X) (e226 n X) (e235 n X) (e236 n X) (e252 n X) (e253 n X) (e254 n X) (e255 n X)
def e323 (n : BitVec 32) (X : Blocks F) : FVec F S8x128 .f32 :=
  k0_pay60 (e42 n X) (e184 n X) (e279 n X)
def e325 (n : BitVec 32) (X : Blocks F) : FVec F S128x512 .bf16 :=
  k0_pay61 (e141 n X) (e152 n X) (e163 n X) (e174 n X) (e270 n X) (e280 n X)
def e359 (n : BitVec 32) (X : Blocks F) : FVec F S128x256 .f32 :=
  k0_pay67 (e135 n X) (e139 n X) (e274 n X) (e278 n X)

/-- A point that computes, over the sums and the carried rows it finds. -/
def step (n : BitVec 32) (X : Blocks F) (zs : Vec F S8x128 .f32) (zq : Vec F S1x512 .f32) (zk : Vec F S1x256 .f32)
    (zc : Vec F S128x256 .f32) : Left F where
  dq := e325 n X
  dkv := k0_pay65 (e135 n X) (e139 n X) (e274 n X) (e278 n X) zc
  dsink := k0_pay62 (e323 n X) zs
  dbq := k0_pay63 (e325 n X) zq
  dbkv := k0_pay66 (e135 n X) (e139 n X) (e274 n X) (e278 n X) zc zk
  carry := k0_pay5 (e359 n X)

/-- The first point finds zeros. -/
def first (n : BitVec 32) (X : Blocks F) : Left F :=
  step n X (k0_pay2 (F := F)) (k0_pay3 (F := F)) (k0_pay4 (F := F)) (k0_pay1 (F := F))

/-- A later point finds what the one before left. -/
def next (n : BitVec 32) (X : Blocks F) (L : Left F) : Left F := step n X L.dsink L.dbq L.dbkv L.carry

/-- The last point writes the carried rows out. -/
def last (L : Left F) : Left F := { L with dkv := k0_pay6 L.carry, dbkv := k0_pay7 L.carry L.dbkv }

end Cert.Attn

end
-- ==== Proof.AttnRunA.lean ====
/- The body of the sliding-window attention gradient run once per case: the first point, a point in between and
   the last point. -/
module

public import proofs.«01_k».proof.Proof.AttnStep
public import Idealize.ShloMosaic.Lib.Ring

@[expose] public section

set_option maxRecDepth 65536

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelAIdeal Cert.KernelAIdeal.Gen

variable {F : FTy → Type} [FloatOps F] [Named F]

local notation "𝕄" => MT nD τ sig Unit (Elt F) ℕ (UR sig nD τ) ℕ

variable (c : Dev nD) (i : grid0.Coords)
  (arg1 : Memref sig .tc .smem S1x8 .f32) (harg1 : arg1.IsWhole)
  (arg2 : Memref sig .tc .vmem S128x768 .f32) (harg2 : arg2.IsWhole)
  (arg3 : Memref sig .tc .vmem S128x768 .f32) (harg3 : arg3.IsWhole)
  (arg4 : Memref sig .tc .vmem S1x768 .f32) (harg4 : arg4.IsWhole)
  (arg5 : Memref sig .tc .vmem S128x512 .f32) (harg5 : arg5.IsWhole)
  (arg6 : Memref sig .tc .vmem S128x512 .bf16) (harg6 : arg6.IsWhole)
  (arg7 : Memref sig .tc .vmem S128x256 .bf16) (harg7 : arg7.IsWhole)
  (arg8 : Memref sig .tc .vmem S8x128 .f32) (harg8 : arg8.IsWhole)
  (arg9 : Memref sig .tc .vmem S1x512 .f32) (harg9 : arg9.IsWhole)
  (arg10 : Memref sig .tc .vmem S1x256 .f32) (harg10 : arg10.IsWhole)
  (arg11 : Memref sig .tc .vmem S128x256 .f32) (harg11 : arg11.IsWhole)

set_option maxHeartbeats 2000000

/-- The first point zeroes the sums and the carried rows, then computes. -/
def runA (hc0 : k0_cond1 i = 1#1) (hc1 : k0_cond2 i = 1#1) (hc2 : ¬k0_cond3 i = 1#1)
    (x0 : Vec F S1x8 .f32) (x1 : Vec F S128x768 .f32) (x2 : Vec F S128x768 .f32) (x3 : Vec F S1x768 .f32) (x4 : Vec F S128x512 .f32) :
    Σ' (L5 : List (View.Piece (Elt F) S128x512 .bf16)), Σ' (L6 : List (View.Piece (Elt F) S128x256 .bf16)), Σ' (L7 : List (View.Piece (Elt F) S8x128 .f32)), Σ' (L8 : List (View.Piece (Elt F) S1x512 .f32)), Σ' (L9 : List (View.Piece (Elt F) S1x256 .f32)), { L10 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton]
    unfold k0_part1_skel k0_part2_skel k0_part3_skel k0_part4_skel k0_part5_skel k0_part6_skel k0_part7_skel k0_part8_skel k0_part9_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [H6]
    · iexists _; iexact H6
    isplitl [H7]
    · iexists _; iexact H7
    isplitl [H8]
    · iexists _; iexact H8
    isplitl [H9]
    · iexists _; iexact H9
    iexists _; iexact H10

end Cert.Attn

end
-- ==== Proof.AttnRunB.lean ====
/- The body of the sliding-window attention gradient run once per case: the first point, a point in between and
   the last point. -/
module

public import proofs.«01_k».proof.Proof.AttnStep
public import Idealize.ShloMosaic.Lib.Ring

@[expose] public section

set_option maxRecDepth 65536

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelAIdeal Cert.KernelAIdeal.Gen

variable {F : FTy → Type} [FloatOps F] [Named F]

local notation "𝕄" => MT nD τ sig Unit (Elt F) ℕ (UR sig nD τ) ℕ

variable (c : Dev nD) (i : grid0.Coords)
  (arg1 : Memref sig .tc .smem S1x8 .f32) (harg1 : arg1.IsWhole)
  (arg2 : Memref sig .tc .vmem S128x768 .f32) (harg2 : arg2.IsWhole)
  (arg3 : Memref sig .tc .vmem S128x768 .f32) (harg3 : arg3.IsWhole)
  (arg4 : Memref sig .tc .vmem S1x768 .f32) (harg4 : arg4.IsWhole)
  (arg5 : Memref sig .tc .vmem S128x512 .f32) (harg5 : arg5.IsWhole)
  (arg6 : Memref sig .tc .vmem S128x512 .bf16) (harg6 : arg6.IsWhole)
  (arg7 : Memref sig .tc .vmem S128x256 .bf16) (harg7 : arg7.IsWhole)
  (arg8 : Memref sig .tc .vmem S8x128 .f32) (harg8 : arg8.IsWhole)
  (arg9 : Memref sig .tc .vmem S1x512 .f32) (harg9 : arg9.IsWhole)
  (arg10 : Memref sig .tc .vmem S1x256 .f32) (harg10 : arg10.IsWhole)
  (arg11 : Memref sig .tc .vmem S128x256 .f32) (harg11 : arg11.IsWhole)

set_option maxHeartbeats 2000000

/-- A point in between computes over what the one before left. -/
def runB (hc0 : ¬k0_cond1 i = 1#1) (hc1 : k0_cond2 i = 1#1) (hc2 : ¬k0_cond3 i = 1#1)
    (x0 : Vec F S1x8 .f32) (x1 : Vec F S128x768 .f32) (x2 : Vec F S128x768 .f32) (x3 : Vec F S1x768 .f32) (x4 : Vec F S128x512 .f32) (z7 : Vec F S8x128 .f32) (z8 : Vec F S1x512 .f32) (z9 : Vec F S1x256 .f32) (z10 : Vec F S128x256 .f32) :
    Σ' (L5 : List (View.Piece (Elt F) S128x512 .bf16)), Σ' (L6 : List (View.Piece (Elt F) S128x256 .bf16)), Σ' (L7 : List (View.Piece (Elt F) S8x128 .f32)), Σ' (L8 : List (View.Piece (Elt F) S1x512 .f32)), Σ' (L9 : List (View.Piece (Elt F) S1x256 .f32)), { L10 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare z7 ∗ owns (c : Thread nD τ) arg9 fullShare z8 ∗ owns (c : Thread nD τ) arg10 fullShare z9 ∗ owns (c : Thread nD τ) arg11 fullShare z10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton]
    unfold k0_part1_skel k0_part2_skel k0_part3_skel k0_part4_skel k0_part5_skel k0_part6_skel k0_part7_skel k0_part8_skel k0_part9_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hf8; obtain rfl := harg10.eq_unread hf9; obtain rfl := harg11.eq_unread hf10
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [H6]
    · iexists _; iexact H6
    isplitl [H7]
    · iexists _; iexact H7
    isplitl [H8]
    · iexists _; iexact H8
    isplitl [H9]
    · iexists _; iexact H9
    iexists _; iexact H10

end Cert.Attn

end
-- ==== Proof.AttnRunC.lean ====
/- The body of the sliding-window attention gradient run once per case: the first point, a point in between and
   the last point. -/
module

public import proofs.«01_k».proof.Proof.AttnStep
public import Idealize.ShloMosaic.Lib.Ring

@[expose] public section

set_option maxRecDepth 65536

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelAIdeal Cert.KernelAIdeal.Gen

variable {F : FTy → Type} [FloatOps F] [Named F]

local notation "𝕄" => MT nD τ sig Unit (Elt F) ℕ (UR sig nD τ) ℕ

variable (c : Dev nD) (i : grid0.Coords)
  (arg1 : Memref sig .tc .smem S1x8 .f32) (harg1 : arg1.IsWhole)
  (arg2 : Memref sig .tc .vmem S128x768 .f32) (harg2 : arg2.IsWhole)
  (arg3 : Memref sig .tc .vmem S128x768 .f32) (harg3 : arg3.IsWhole)
  (arg4 : Memref sig .tc .vmem S1x768 .f32) (harg4 : arg4.IsWhole)
  (arg5 : Memref sig .tc .vmem S128x512 .f32) (harg5 : arg5.IsWhole)
  (arg6 : Memref sig .tc .vmem S128x512 .bf16) (harg6 : arg6.IsWhole)
  (arg7 : Memref sig .tc .vmem S128x256 .bf16) (harg7 : arg7.IsWhole)
  (arg8 : Memref sig .tc .vmem S8x128 .f32) (harg8 : arg8.IsWhole)
  (arg9 : Memref sig .tc .vmem S1x512 .f32) (harg9 : arg9.IsWhole)
  (arg10 : Memref sig .tc .vmem S1x256 .f32) (harg10 : arg10.IsWhole)
  (arg11 : Memref sig .tc .vmem S128x256 .f32) (harg11 : arg11.IsWhole)

set_option maxHeartbeats 2000000

/-- The last point writes the carried rows out and adds their column sums. -/
def runC (hc0 : ¬k0_cond1 i = 1#1) (hc1 : ¬k0_cond2 i = 1#1) (hc2 : k0_cond3 i = 1#1)
     (z9 : Vec F S1x256 .f32) (z10 : Vec F S128x256 .f32) :
    Σ' (L6 : List (View.Piece (Elt F) S128x256 .bf16)), { L9 : List (View.Piece (Elt F) S1x256 .f32) //
      ∀ (E : Set ℕ) (K : PUnit → sProp 𝕄),
        iprop((∃ d, owns (c : Thread nD τ) arg7 fullShare d) ∗ owns (c : Thread nD τ) arg10 fullShare z9 ∗ owns (c : Thread nD τ) arg11 fullShare z10
            ∗ (iprop((∃ f, arg7.view.loc (c : Thread nD τ) ↦[arg7.view.set]{fullShare} arg7.view.writes (Elt F) f L6) ∗ (∃ f, arg10.view.loc (c : Thread nD τ) ↦[arg10.view.set]{fullShare} arg10.view.writes (Elt F) f L9) ∗ owns (c : Thread nD τ) arg11 fullShare z10) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton]
    unfold k0_part1_skel k0_part2_skel k0_part3_skel k0_part4_skel k0_part5_skel k0_part6_skel k0_part7_skel k0_part8_skel k0_part9_skel
    unfold owns
    iintro ⟨⟨%d6, %f6, -, H6⟩, ⟨%f9, %hf9, H9⟩, ⟨%f10, %hf10, H10⟩, Hk⟩
    obtain rfl := harg10.eq_unread hf9; obtain rfl := harg11.eq_unread hf10
    sl_exec (disch := first | sl_exact hc0 | sl_exact hc1 | sl_exact hc2)
    sl_step
    iapply Hk
    isplitl [H6]
    · iexists _; iexact H6
    isplitl [H9]
    · iexists _; iexact H9
    iexists _; isplitr; · ipureintro; exact harg11.read_unread _
    iexact H10

end Cert.Attn

end
-- ==== Proof.AttnRead.lean ====
/- What each case of the attention gradient's body leaves in its buffers, as the values of `AttnStep`. -/
module

public import proofs.«01_k».proof.Proof.AttnRunA
public import proofs.«01_k».proof.Proof.AttnRunB
public import proofs.«01_k».proof.Proof.AttnRunC

@[expose] public section

set_option maxRecDepth 65536

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelAIdeal Cert.KernelAIdeal.Gen

variable {F : FTy → Type} [FloatOps F] [Named F]

local notation "𝕄" => MT nD τ sig Unit (Elt F) ℕ (UR sig nD τ) ℕ

variable (c : Dev nD) (i : grid0.Coords)
  (arg1 : Memref sig .tc .smem S1x8 .f32) (harg1 : arg1.IsWhole)
  (arg2 : Memref sig .tc .vmem S128x768 .f32) (harg2 : arg2.IsWhole)
  (arg3 : Memref sig .tc .vmem S128x768 .f32) (harg3 : arg3.IsWhole)
  (arg4 : Memref sig .tc .vmem S1x768 .f32) (harg4 : arg4.IsWhole)
  (arg5 : Memref sig .tc .vmem S128x512 .f32) (harg5 : arg5.IsWhole)
  (arg6 : Memref sig .tc .vmem S128x512 .bf16) (harg6 : arg6.IsWhole)
  (arg7 : Memref sig .tc .vmem S128x256 .bf16) (harg7 : arg7.IsWhole)
  (arg8 : Memref sig .tc .vmem S8x128 .f32) (harg8 : arg8.IsWhole)
  (arg9 : Memref sig .tc .vmem S1x512 .f32) (harg9 : arg9.IsWhole)
  (arg10 : Memref sig .tc .vmem S1x256 .f32) (harg10 : arg10.IsWhole)
  (arg11 : Memref sig .tc .vmem S128x256 .f32) (harg11 : arg11.IsWhole)

/-- The output buffers and the carried rows, as views through which contents are stated. -/
abbrev V5 : View sig .tc .vmem S128x512 .bf16 := (Memref.whole cc0_stg5_0 : Memref sig .tc .vmem S128x512 .bf16).view
abbrev V6 : View sig .tc .vmem S128x256 .bf16 := (Memref.whole cc0_stg6_0 : Memref sig .tc .vmem S128x256 .bf16).view
abbrev V7 : View sig .tc .vmem S8x128 .f32 := (Memref.whole cc0_stg7_0 : Memref sig .tc .vmem S8x128 .f32).view
abbrev V8 : View sig .tc .vmem S1x512 .f32 := (Memref.whole cc0_stg8_0 : Memref sig .tc .vmem S1x512 .f32).view
abbrev V9 : View sig .tc .vmem S1x256 .f32 := (Memref.whole cc0_stg9_0 : Memref sig .tc .vmem S1x256 .f32).view
abbrev V10 : View sig .tc .vmem S128x256 .f32 := (Memref.whole cc0_scratch0 : Memref sig .tc .vmem S128x256 .f32).view

set_option maxHeartbeats 400000

theorem readA5 (hc0 : k0_cond1 i = 1#1) (hc1 : k0_cond2 i = 1#1) (hc2 : ¬k0_cond3 i = 1#1)
    (x0 : Vec F S1x8 .f32) (x1 : Vec F S128x768 .f32) (x2 : Vec F S128x768 .f32) (x3 : Vec F S1x768 .f32) (x4 : Vec F S128x512 .f32) (f : arg6.view.ty.Contents (Elt F)) :
    arg6.view.read (Elt F) (arg6.view.writes (Elt F) f (runA c i arg1 harg1 arg2 harg2 arg3 harg3 arg4 harg4 arg5 harg5 arg6 harg6 arg7 harg7 arg8 harg8 arg9 harg9 arg10 harg10 arg11 harg11 hc0 hc1 hc2 x0 x1 x2 x3 x4 ).1) = (first (BitVec.ofNat 32 (i 0).val) ⟨x0, x1, x2, x3, x4⟩).dq := by
  refine (View.read_writes_of_cover _ _ V5 V5.junk _ (View.cover_of_tiledL _ S128x512.size (by sl_kernel_rfl))).trans ?_
  frame_out
  rfl

theorem readA6 (hc0 : k0_cond1 i = 1#1) (hc1 : k0_cond2 i = 1#1) (hc2 : ¬k0_cond3 i = 1#1)
    (x0 : Vec F S1x8 .f32) (x1 : Vec F S128x768 .f32) (x2 : Vec F S128x768 .f32) (x3 : Vec F S1x768 .f32) (x4 : Vec F S128x512 .f32) (f : arg7.view.ty.Contents (Elt F)) :
    arg7.view.read (Elt F) (arg7.view.writes (Elt F) f (runA c i arg1 harg1 arg2 harg2 arg3 harg3 arg4 harg4 arg5 harg5 arg6 harg6 arg7 harg7 arg8 harg8 arg9 harg9 arg10 harg10 arg11 harg11 hc0 hc1 hc2 x0 x1 x2 x3 x4 ).2.1) = (first (BitVec.ofNat 32 (i 0).val) ⟨x0, x1, x2, x3, x4⟩).dkv := by
  refine (View.read_writes_of_cover _ _ V6 V6.junk _ (View.cover_of_tiledL _ S128x256.size (by sl_kernel_rfl))).trans ?_
  frame_out
  rfl

theorem readA7 (hc0 : k0_cond1 i = 1#1) (hc1 : k0_cond2 i = 1#1) (hc2 : ¬k0_cond3 i = 1#1)
    (x0 : Vec F S1x8 .f32) (x1 : Vec F S128x768 .f32) (x2 : Vec F S128x768 .f32) (x3 : Vec F S1x768 .f32) (x4 : Vec F S128x512 .f32) (f : arg8.view.ty.Contents (Elt F)) :
    arg8.view.read (Elt F) (arg8.view.writes (Elt F) f (runA c i arg1 harg1 arg2 harg2 arg3 harg3 arg4 harg4 arg5 harg5 arg6 harg6 arg7 harg7 arg8 harg8 arg9 harg9 arg10 harg10 arg11 harg11 hc0 hc1 hc2 x0 x1 x2 x3 x4 ).2.2.1) = (first (BitVec.ofNat 32 (i 0).val) ⟨x0, x1, x2, x3, x4⟩).dsink := by
  refine (View.read_writes_of_cover _ _ V7 V7.junk _ (View.cover_of_tiledL _ S8x128.size (by sl_kernel_rfl))).trans ?_
  frame_out
  rfl

theorem readA8 (hc0 : k0_cond1 i = 1#1) (hc1 : k0_cond2 i = 1#1) (hc2 : ¬k0_cond3 i = 1#1)
    (x0 : Vec F S1x8 .f32) (x1 : Vec F S128x768 .f32) (x2 : Vec F S128x768 .f32) (x3 : Vec F S1x768 .f32) (x4 : Vec F S128x512 .f32) (f : arg9.view.ty.Contents (Elt F)) :
    arg9.view.read (Elt F) (arg9.view.writes (Elt F) f (runA c i arg1 harg1 arg2 harg2 arg3 harg3 arg4 harg4 arg5 harg5 arg6 harg6 arg7 harg7 arg8 harg8 arg9 harg9 arg10 harg10 arg11 harg11 hc0 hc1 hc2 x0 x1 x2 x3 x4 ).2.2.2.1) = (first (BitVec.ofNat 32 (i 0).val) ⟨x0, x1, x2, x3, x4⟩).dbq := by
  refine (View.read_writes_of_cover _ _ V8 V8.junk _ (View.cover_of_tiledL _ S1x512.size (by sl_kernel_rfl))).trans ?_
  frame_out
  rfl

theorem readA9 (hc0 : k0_cond1 i = 1#1) (hc1 : k0_cond2 i = 1#1) (hc2 : ¬k0_cond3 i = 1#1)
    (x0 : Vec F S1x8 .f32) (x1 : Vec F S128x768 .f32) (x2 : Vec F S128x768 .f32) (x3 : Vec F S1x768 .f32) (x4 : Vec F S128x512 .f32) (f : arg10.view.ty.Contents (Elt F)) :
    arg10.view.read (Elt F) (arg10.view.writes (Elt F) f (runA c i arg1 harg1 arg2 harg2 arg3 harg3 arg4 harg4 arg5 harg5 arg6 harg6 arg7 harg7 arg8 harg8 arg9 harg9 arg10 harg10 arg11 harg11 hc0 hc1 hc2 x0 x1 x2 x3 x4 ).2.2.2.2.1) = (first (BitVec.ofNat 32 (i 0).val) ⟨x0, x1, x2, x3, x4⟩).dbkv := by
  refine (View.read_writes_of_cover _ _ V9 V9.junk _ (View.cover_of_tiledL _ S1x256.size (by sl_kernel_rfl))).trans ?_
  frame_out
  rfl

theorem readA10 (hc0 : k0_cond1 i = 1#1) (hc1 : k0_cond2 i = 1#1) (hc2 : ¬k0_cond3 i = 1#1)
    (x0 : Vec F S1x8 .f32) (x1 : Vec F S128x768 .f32) (x2 : Vec F S128x768 .f32) (x3 : Vec F S1x768 .f32) (x4 : Vec F S128x512 .f32) (f : arg11.view.ty.Contents (Elt F)) :
    arg11.view.read (Elt F) (arg11.view.writes (Elt F) f (runA c i arg1 harg1 arg2 harg2 arg3 harg3 arg4 harg4 arg5 harg5 arg6 harg6 arg7 harg7 arg8 harg8 arg9 harg9 arg10 harg10 arg11 harg11 hc0 hc1 hc2 x0 x1 x2 x3 x4 ).2.2.2.2.2.1) = (first (BitVec.ofNat 32 (i 0).val) ⟨x0, x1, x2, x3, x4⟩).carry := by
  refine (View.read_writes_of_cover _ _ V10 V10.junk _ (View.cover_of_tiledL _ S128x256.size (by sl_kernel_rfl))).trans ?_
  frame_out
  rfl

theorem readB5 (hc0 : ¬k0_cond1 i = 1#1) (hc1 : k0_cond2 i = 1#1) (hc2 : ¬k0_cond3 i = 1#1)
    (x0 : Vec F S1x8 .f32) (x1 : Vec F S128x768 .f32) (x2 : Vec F S128x768 .f32) (x3 : Vec F S1x768 .f32) (x4 : Vec F S128x512 .f32) (z7 : Vec F S8x128 .f32) (z8 : Vec F S1x512 .f32) (z9 : Vec F S1x256 .f32) (z10 : Vec F S128x256 .f32) (f : arg6.view.ty.Contents (Elt F)) :
    arg6.view.read (Elt F) (arg6.view.writes (Elt F) f (runB c i arg1 harg1 arg2 harg2 arg3 harg3 arg4 harg4 arg5 harg5 arg6 harg6 arg7 harg7 arg8 harg8 arg9 harg9 arg10 harg10 arg11 harg11 hc0 hc1 hc2 x0 x1 x2 x3 x4 z7 z8 z9 z10).1) = (step (BitVec.ofNat 32 (i 0).val) ⟨x0, x1, x2, x3, x4⟩ z7 z8 z9 z10).dq := by
  refine (View.read_writes_of_cover _ _ V5 V5.junk _ (View.cover_of_tiledL _ S128x512.size (by sl_kernel_rfl))).trans ?_
  frame_out
  rfl

theorem readB6 (hc0 : ¬k0_cond1 i = 1#1) (hc1 : k0_cond2 i = 1#1) (hc2 : ¬k0_cond3 i = 1#1)
    (x0 : Vec F S1x8 .f32) (x1 : Vec F S128x768 .f32) (x2 : Vec F S128x768 .f32) (x3 : Vec F S1x768 .f32) (x4 : Vec F S128x512 .f32) (z7 : Vec F S8x128 .f32) (z8 : Vec F S1x512 .f32) (z9 : Vec F S1x256 .f32) (z10 : Vec F S128x256 .f32) (f : arg7.view.ty.Contents (Elt F)) :
    arg7.view.read (Elt F) (arg7.view.writes (Elt F) f (runB c i arg1 harg1 arg2 harg2 arg3 harg3 arg4 harg4 arg5 harg5 arg6 harg6 arg7 harg7 arg8 harg8 arg9 harg9 arg10 harg10 arg11 harg11 hc0 hc1 hc2 x0 x1 x2 x3 x4 z7 z8 z9 z10).2.1) = (step (BitVec.ofNat 32 (i 0).val) ⟨x0, x1, x2, x3, x4⟩ z7 z8 z9 z10).dkv := by
  refine (View.read_writes_of_cover _ _ V6 V6.junk _ (View.cover_of_tiledL _ S128x256.size (by sl_kernel_rfl))).trans ?_
  frame_out
  rfl

theorem readB7 (hc0 : ¬k0_cond1 i = 1#1) (hc1 : k0_cond2 i = 1#1) (hc2 : ¬k0_cond3 i = 1#1)
    (x0 : Vec F S1x8 .f32) (x1 : Vec F S128x768 .f32) (x2 : Vec F S128x768 .f32) (x3 : Vec F S1x768 .f32) (x4 : Vec F S128x512 .f32) (z7 : Vec F S8x128 .f32) (z8 : Vec F S1x512 .f32) (z9 : Vec F S1x256 .f32) (z10 : Vec F S128x256 .f32) (f : arg8.view.ty.Contents (Elt F)) :
    arg8.view.read (Elt F) (arg8.view.writes (Elt F) f (runB c i arg1 harg1 arg2 harg2 arg3 harg3 arg4 harg4 arg5 harg5 arg6 harg6 arg7 harg7 arg8 harg8 arg9 harg9 arg10 harg10 arg11 harg11 hc0 hc1 hc2 x0 x1 x2 x3 x4 z7 z8 z9 z10).2.2.1) = (step (BitVec.ofNat 32 (i 0).val) ⟨x0, x1, x2, x3, x4⟩ z7 z8 z9 z10).dsink := by
  refine (View.read_writes_of_cover _ _ V7 V7.junk _ (View.cover_of_tiledL _ S8x128.size (by sl_kernel_rfl))).trans ?_
  frame_out
  rfl

theorem readB8 (hc0 : ¬k0_cond1 i = 1#1) (hc1 : k0_cond2 i = 1#1) (hc2 : ¬k0_cond3 i = 1#1)
    (x0 : Vec F S1x8 .f32) (x1 : Vec F S128x768 .f32) (x2 : Vec F S128x768 .f32) (x3 : Vec F S1x768 .f32) (x4 : Vec F S128x512 .f32) (z7 : Vec F S8x128 .f32) (z8 : Vec F S1x512 .f32) (z9 : Vec F S1x256 .f32) (z10 : Vec F S128x256 .f32) (f : arg9.view.ty.Contents (Elt F)) :
    arg9.view.read (Elt F) (arg9.view.writes (Elt F) f (runB c i arg1 harg1 arg2 harg2 arg3 harg3 arg4 harg4 arg5 harg5 arg6 harg6 arg7 harg7 arg8 harg8 arg9 harg9 arg10 harg10 arg11 harg11 hc0 hc1 hc2 x0 x1 x2 x3 x4 z7 z8 z9 z10).2.2.2.1) = (step (BitVec.ofNat 32 (i 0).val) ⟨x0, x1, x2, x3, x4⟩ z7 z8 z9 z10).dbq := by
  refine (View.read_writes_of_cover _ _ V8 V8.junk _ (View.cover_of_tiledL _ S1x512.size (by sl_kernel_rfl))).trans ?_
  frame_out
  rfl

theorem readB9 (hc0 : ¬k0_cond1 i = 1#1) (hc1 : k0_cond2 i = 1#1) (hc2 : ¬k0_cond3 i = 1#1)
    (x0 : Vec F S1x8 .f32) (x1 : Vec F S128x768 .f32) (x2 : Vec F S128x768 .f32) (x3 : Vec F S1x768 .f32) (x4 : Vec F S128x512 .f32) (z7 : Vec F S8x128 .f32) (z8 : Vec F S1x512 .f32) (z9 : Vec F S1x256 .f32) (z10 : Vec F S128x256 .f32) (f : arg10.view.ty.Contents (Elt F)) :
    arg10.view.read (Elt F) (arg10.view.writes (Elt F) f (runB c i arg1 harg1 arg2 harg2 arg3 harg3 arg4 harg4 arg5 harg5 arg6 harg6 arg7 harg7 arg8 harg8 arg9 harg9 arg10 harg10 arg11 harg11 hc0 hc1 hc2 x0 x1 x2 x3 x4 z7 z8 z9 z10).2.2.2.2.1) = (step (BitVec.ofNat 32 (i 0).val) ⟨x0, x1, x2, x3, x4⟩ z7 z8 z9 z10).dbkv := by
  refine (View.read_writes_of_cover _ _ V9 V9.junk _ (View.cover_of_tiledL _ S1x256.size (by sl_kernel_rfl))).trans ?_
  frame_out
  rfl

theorem readB10 (hc0 : ¬k0_cond1 i = 1#1) (hc1 : k0_cond2 i = 1#1) (hc2 : ¬k0_cond3 i = 1#1)
    (x0 : Vec F S1x8 .f32) (x1 : Vec F S128x768 .f32) (x2 : Vec F S128x768 .f32) (x3 : Vec F S1x768 .f32) (x4 : Vec F S128x512 .f32) (z7 : Vec F S8x128 .f32) (z8 : Vec F S1x512 .f32) (z9 : Vec F S1x256 .f32) (z10 : Vec F S128x256 .f32) (f : arg11.view.ty.Contents (Elt F)) :
    arg11.view.read (Elt F) (arg11.view.writes (Elt F) f (runB c i arg1 harg1 arg2 harg2 arg3 harg3 arg4 harg4 arg5 harg5 arg6 harg6 arg7 harg7 arg8 harg8 arg9 harg9 arg10 harg10 arg11 harg11 hc0 hc1 hc2 x0 x1 x2 x3 x4 z7 z8 z9 z10).2.2.2.2.2.1) = (step (BitVec.ofNat 32 (i 0).val) ⟨x0, x1, x2, x3, x4⟩ z7 z8 z9 z10).carry := by
  refine (View.read_writes_of_cover _ _ V10 V10.junk _ (View.cover_of_tiledL _ S128x256.size (by sl_kernel_rfl))).trans ?_
  frame_out
  rfl

theorem readC6 (hc0 : ¬k0_cond1 i = 1#1) (hc1 : ¬k0_cond2 i = 1#1) (hc2 : k0_cond3 i = 1#1)
     (z5 : Vec F S128x512 .bf16) (z6 : Vec F S128x256 .bf16) (z7 : Vec F S8x128 .f32) (z8 : Vec F S1x512 .f32) (z9 : Vec F S1x256 .f32) (z10 : Vec F S128x256 .f32) (f : arg7.view.ty.Contents (Elt F)) :
    arg7.view.read (Elt F) (arg7.view.writes (Elt F) f (runC c i arg1 harg1 arg2 harg2 arg3 harg3 arg4 harg4 arg5 harg5 arg6 harg6 arg7 harg7 arg8 harg8 arg9 harg9 arg10 harg10 arg11 harg11 hc0 hc1 hc2  z9 z10).1) = (last (F := F) ⟨z5, z6, z7, z8, z9, z10⟩).dkv := by
  refine (View.read_writes_of_cover _ _ V6 V6.junk _ (View.cover_of_tiledL _ S128x256.size (by sl_kernel_rfl))).trans ?_
  frame_out
  rfl

theorem readC9 (hc0 : ¬k0_cond1 i = 1#1) (hc1 : ¬k0_cond2 i = 1#1) (hc2 : k0_cond3 i = 1#1)
     (z5 : Vec F S128x512 .bf16) (z6 : Vec F S128x256 .bf16) (z7 : Vec F S8x128 .f32) (z8 : Vec F S1x512 .f32) (z9 : Vec F S1x256 .f32) (z10 : Vec F S128x256 .f32) (f : arg10.view.ty.Contents (Elt F)) :
    arg10.view.read (Elt F) (arg10.view.writes (Elt F) f (runC c i arg1 harg1 arg2 harg2 arg3 harg3 arg4 harg4 arg5 harg5 arg6 harg6 arg7 harg7 arg8 harg8 arg9 harg9 arg10 harg10 arg11 harg11 hc0 hc1 hc2  z9 z10).2.1) = (last (F := F) ⟨z5, z6, z7, z8, z9, z10⟩).dbkv := by
  refine (View.read_writes_of_cover _ _ V9 V9.junk _ (View.cover_of_tiledL _ S1x256.size (by sl_kernel_rfl))).trans ?_
  frame_out
  rfl

end Cert.Attn

end
-- ==== Proof.AttnCert.lean ====
/- The run of the sliding-window attention gradient: what every grid point leaves, the pipeline's proof data over it and
   the frame. -/
module

public import proofs.«01_k».proof.Proof.AttnRead
public import Idealize.ShloMosaic.Lib.Pipeline.FrameBody
public import Idealize.ShloMosaic.Lib.Pipeline.TableIdle
public import Idealize.ShloMosaic.Lib.WordCmp

@[expose] public section

set_option maxRecDepth 65536

noncomputable section

namespace Cert.Attn

open Idealize.ShloMosaic.Rounds
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelAIdeal Cert.KernelAIdeal.Gen

variable {F : FTy → Type} [FloatOps F] [Named F]

local notation "𝕄" => MT nD τ sig Unit (Elt F) ℕ (UR sig nD τ) ℕ

theorem pts (t : Fin cfg0.N) : t.val < 33 := lt_of_lt_of_eq t.isLt (show cfg0.N = 33 from N_0)

/-! ## Which case a point is in, and where an output is left alone -/

theorem cond1 : ∀ t : Fin cfg0.N, k0_cond1 (grid0.coords t) = 1#1 ↔ t.val = 0 :=
  (by decide +kernel : ∀ t : Fin grid0.N, k0_cond1 (grid0.coords t) = 1#1 ↔ t.val = 0)
theorem cond2 : ∀ t : Fin cfg0.N, k0_cond2 (grid0.coords t) = 1#1 ↔ t.val < 32 :=
  (by decide +kernel : ∀ t : Fin grid0.N, k0_cond2 (grid0.coords t) = 1#1 ↔ t.val < 32)
theorem cond3 : ∀ t : Fin cfg0.N, k0_cond3 (grid0.coords t) = 1#1 ↔ t.val = 32 :=
  (by decide +kernel : ∀ t : Fin grid0.N, k0_cond3 (grid0.coords t) = 1#1 ↔ t.val = 32)

theorem idle5 : ∀ t : Fin cfg0.N, cfg0.idle 5 (grid0.coords t) = decide (t.val = 32) := by decide +kernel
theorem idle6 : ∀ t : Fin cfg0.N, cfg0.idle 6 (grid0.coords t) = false := by decide +kernel
theorem idle7 : ∀ t : Fin cfg0.N, cfg0.idle 7 (grid0.coords t) = decide (t.val = 32) := by decide +kernel
theorem idle8 : ∀ t : Fin cfg0.N, cfg0.idle 8 (grid0.coords t) = decide (t.val = 32) := by decide +kernel
theorem idle9 : ∀ t : Fin cfg0.N, cfg0.idle 9 (grid0.coords t) = false := by decide +kernel

theorem flush5_last : ∀ t : Fin cfg0.N, t.val = 32 → (cfg0.win 5).flush t = true := by decide +kernel
theorem flush7_last : ∀ t : Fin cfg0.N, t.val = 32 → (cfg0.win 7).flush t = true := by decide +kernel
theorem flush8_last : ∀ t : Fin cfg0.N, t.val = 32 → (cfg0.win 8).flush t = true := by decide +kernel

/-- Whether output 5's buffer holds nothing of this region's when position `n` is reached. -/
def unset5 (n : ℕ) : Bool := decide (n = 33 ∨ n < 32)
theorem unset5_step : ∀ t : Fin cfg0.N,
    unset5 (t.val + 1) = ((cfg0.win 5).flush t || (cfg0.idle 5 (cfg0.grid.coords t) && unset5 t.val)) := by decide +kernel
theorem fresh5 (t : Fin cfg0.N) : cfg0.fresh 5 t.val = unset5 t.val :=
  Pipeline.Cfg.fresh_tab cfg0 5 unset5 rfl unset5_step t.val (Nat.le_of_lt t.isLt)

/-- Whether output 7's buffer holds nothing of this region's when position `n` is reached. -/
def unset7 (n : ℕ) : Bool := decide (n = 33 ∨ n = 0)
theorem unset7_step : ∀ t : Fin cfg0.N,
    unset7 (t.val + 1) = ((cfg0.win 7).flush t || (cfg0.idle 7 (cfg0.grid.coords t) && unset7 t.val)) := by decide +kernel
theorem fresh7 (t : Fin cfg0.N) : cfg0.fresh 7 t.val = unset7 t.val :=
  Pipeline.Cfg.fresh_tab cfg0 7 unset7 rfl unset7_step t.val (Nat.le_of_lt t.isLt)

/-- Whether output 8's buffer holds nothing of this region's when position `n` is reached. -/
def unset8 (n : ℕ) : Bool := decide (n = 33 ∨ n = 0)
theorem unset8_step : ∀ t : Fin cfg0.N,
    unset8 (t.val + 1) = ((cfg0.win 8).flush t || (cfg0.idle 8 (cfg0.grid.coords t) && unset8 t.val)) := by decide +kernel
theorem fresh8 (t : Fin cfg0.N) : cfg0.fresh 8 t.val = unset8 t.val :=
  Pipeline.Cfg.fresh_tab cfg0 8 unset8 rfl unset8_step t.val (Nat.le_of_lt t.isLt)

/-- Whether output 9's buffer holds nothing of this region's when position `n` is reached. -/
def unset9 (n : ℕ) : Bool := decide (n = 33 ∨ n = 0)
theorem unset9_step : ∀ t : Fin cfg0.N,
    unset9 (t.val + 1) = ((cfg0.win 9).flush t || (cfg0.idle 9 (cfg0.grid.coords t) && unset9 t.val)) := by decide +kernel
theorem fresh9 (t : Fin cfg0.N) : cfg0.fresh 9 t.val = unset9 t.val :=
  Pipeline.Cfg.fresh_tab cfg0 9 unset9 rfl unset9_step t.val (Nat.le_of_lt t.isLt)

/-! ## What every point leaves -/

variable (m : (ℓ : Loc nD τ sig) → Buf (Elt F) ℓ) (ρ : Dev nD → PrngReg)

/-- The blocks point `t` reads. -/
def blocks (c : Dev nD) (t : Fin cfg0.N) : Blocks F := ⟨iblk m c 0 t, iblk m c 1 t, iblk m c 2 t, iblk m c 3 t, iblk m c 4 t⟩

abbrev num (t : Fin cfg0.N) : BitVec 32 := BitVec.ofNat 32 (grid0.coords t 0).val

/-- What the buffers hold after position `n`. -/
def left (c : Dev nD) : (n : ℕ) → n < cfg0.N → Left F
  | 0, h => first (num ⟨0, h⟩) (blocks m c ⟨0, h⟩)
  | n + 1, h => if n + 1 = 32 then last (left c n (Nat.lt_of_succ_lt h))
      else next (num ⟨n + 1, h⟩) (blocks m c ⟨n + 1, h⟩) (left c n (Nat.lt_of_succ_lt h))

theorem pred_lt (t : Fin cfg0.N) : t.val - 1 < cfg0.N := Nat.lt_of_le_of_lt (Nat.sub_le _ _) t.isLt

theorem left_first (c : Dev nD) (t : Fin cfg0.N) (h : t.val = 0) : left m c t.val t.isLt = first (num t) (blocks m c t) := by
  obtain ⟨n, hn⟩ := t
  cases n with
  | zero => rfl
  | succ n => exact absurd h (Nat.succ_ne_zero n)

theorem left_next (c : Dev nD) (t : Fin cfg0.N) (h : t.val ≠ 0) (h' : t.val ≠ 32) :
    left m c t.val t.isLt = next (num t) (blocks m c t) (left m c (t.val - 1) (pred_lt t)) := by
  obtain ⟨n, hn⟩ := t
  cases n with
  | zero => exact absurd rfl h
  | succ n => exact if_neg h'

theorem left_last (c : Dev nD) (t : Fin cfg0.N) (h : t.val = 32) :
    left m c t.val t.isLt = last (left m c (t.val - 1) (pred_lt t)) := by
  obtain ⟨n, hn⟩ := t
  cases n with
  | zero => exact absurd (show (0 : ℕ) = 32 from h) (by decide)
  | succ n => exact if_pos h

/-- The carried rows and the generator register before position `n`. -/
def inv (c : Dev nD) : (n : ℕ) → n ≤ cfg0.N → sProp 𝕄
  | 0, _ => Pipeline.ΦA spec0 c
  | n + 1, h => iprop(owns (c : Thread nD τ) (Memref.whole cc0_scratch0 : Memref sig .tc .vmem S128x256 .f32) fullShare (left m c n h).carry
      ∗ (∃ r, prngReg c r))

theorem inv_pos (c : Dev nD) (n : ℕ) (h : n ≤ cfg0.N) (hz : n ≠ 0) :
    inv m c n h = iprop(owns (c : Thread nD τ) (Memref.whole cc0_scratch0 : Memref sig .tc .vmem S128x256 .f32) fullShare
      (left m c (n - 1) (by omega)).carry ∗ (∃ r, prngReg c r)) := by
  cases n with
  | zero => exact absurd rfl hz
  | succ n => rfl

theorem inv_start (c : Dev nD) :
    (Pipeline.ΦA spec0 c : sProp 𝕄) = iprop((∃ d, owns (c : Thread nD τ)
      (Memref.whole cc0_scratch0 : Memref sig .tc .vmem S128x256 .f32) fullShare d) ∗ (∃ r, prngReg c r)) := by
  unfold Pipeline.ΦA; rw [scopedRest0_eq]; simp only [owns_whole]; try rfl

/-- The pipeline's proof data: inputs as found, outputs as `left` says. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (left m c t.val t.isLt).dq
    | ⟨6, _⟩ => (left m c t.val t.isLt).dkv
    | ⟨7, _⟩ => (left m c t.val t.isLt).dsink
    | ⟨8, _⟩ => (left m c t.val t.isLt).dbq
    | ⟨9, _⟩ => (left m c t.val t.isLt).dbkv
  Φ t := inv m c t.val (Nat.le_of_lt_succ t.isLt)
  q w := Pipeline.shareOf spec0 w
  owed _ := 0

theorem data_A (c : Dev nD) (w : Fin cfg0.W) : (data m 0 c).A w = V m c (Pipeline.arrRef spec0 w) := by
  dsimp only [data]

theorem after0 (c : Dev nD) (t : Fin cfg0.N) : (data m 0 c).after 0 t = iblk m c 0 t := by dsimp only [data]
theorem after1 (c : Dev nD) (t : Fin cfg0.N) : (data m 0 c).after 1 t = iblk m c 1 t := by dsimp only [data]
theorem after2 (c : Dev nD) (t : Fin cfg0.N) : (data m 0 c).after 2 t = iblk m c 2 t := by dsimp only [data]
theorem after3 (c : Dev nD) (t : Fin cfg0.N) : (data m 0 c).after 3 t = iblk m c 3 t := by dsimp only [data]
theorem after4 (c : Dev nD) (t : Fin cfg0.N) : (data m 0 c).after 4 t = iblk m c 4 t := by dsimp only [data]
theorem after5 (c : Dev nD) (t : Fin cfg0.N) : (data m 0 c).after 5 t = (left m c t.val t.isLt).dq := by dsimp only [data]
theorem after6 (c : Dev nD) (t : Fin cfg0.N) : (data m 0 c).after 6 t = (left m c t.val t.isLt).dkv := by dsimp only [data]
theorem after7 (c : Dev nD) (t : Fin cfg0.N) : (data m 0 c).after 7 t = (left m c t.val t.isLt).dsink := by dsimp only [data]
theorem after8 (c : Dev nD) (t : Fin cfg0.N) : (data m 0 c).after 8 t = (left m c t.val t.isLt).dbq := by dsimp only [data]
theorem after9 (c : Dev nD) (t : Fin cfg0.N) : (data m 0 c).after 9 t = (left m c t.val t.isLt).dbkv := by dsimp only [data]
theorem found0 (c : Dev nD) (t : Fin cfg0.N) (d) : (data m 0 c).before 0 t d = iblk m c 0 t :=
  before0_0_of m (data m 0 c) (data_A m c 0) (after0 m c) t d
theorem found1 (c : Dev nD) (t : Fin cfg0.N) (d) : (data m 0 c).before 1 t d = iblk m c 1 t :=
  before0_1_of m (data m 0 c) (data_A m c 1) (after1 m c) t d
theorem found2 (c : Dev nD) (t : Fin cfg0.N) (d) : (data m 0 c).before 2 t d = iblk m c 2 t :=
  before0_2_of m (data m 0 c) (data_A m c 2) (after2 m c) t d
theorem found3 (c : Dev nD) (t : Fin cfg0.N) (d) : (data m 0 c).before 3 t d = iblk m c 3 t :=
  before0_3_of m (data m 0 c) (data_A m c 3) (after3 m c) t d
theorem found4 (c : Dev nD) (t : Fin cfg0.N) (d) : (data m 0 c).before 4 t d = iblk m c 4 t :=
  before0_4_of m (data m 0 c) (data_A m c 4) (after4 m c) t d

theorem keep5 (c : Dev nD) : ∀ (t : Fin cfg0.N) (_ : t.val ≠ 0), cfg0.idle 5 (grid0.coords t) = true → cfg0.fresh 5 t.val = false →
    (data m 0 c).after 5 t = (data m 0 c).after 5 ⟨t.val - 1, by omega⟩ := by
  intro t _ hi _
  rw [idle5] at hi
  rw [after5, after5, left_last m c t (of_decide_eq_true hi)]
  rfl

theorem found5 (c : Dev nD) (t : Fin cfg0.N) (h : t.val = 32) (d) :
    (data m 0 c).before 5 t d = (left m c (t.val - 1) (pred_lt t)).dq := by
  have hN := pts t
  rw [Dat.before_out_traj _ 5 rfl (fun _ _ => rfl) (keep5 m c) t.val t rfl d,
    if_neg (by rw [fresh5, unset5]; exact fun e => absurd (of_decide_eq_true e) (by omega)), after5]

theorem keep7 (c : Dev nD) : ∀ (t : Fin cfg0.N) (_ : t.val ≠ 0), cfg0.idle 7 (grid0.coords t) = true → cfg0.fresh 7 t.val = false →
    (data m 0 c).after 7 t = (data m 0 c).after 7 ⟨t.val - 1, by omega⟩ := by
  intro t _ hi _
  rw [idle7] at hi
  rw [after7, after7, left_last m c t (of_decide_eq_true hi)]
  rfl

theorem found7 (c : Dev nD) (t : Fin cfg0.N) (h : t.val ≠ 0) (d) :
    (data m 0 c).before 7 t d = (left m c (t.val - 1) (pred_lt t)).dsink := by
  have hN := pts t
  rw [Dat.before_out_traj _ 7 rfl (fun _ _ => rfl) (keep7 m c) t.val t rfl d,
    if_neg (by rw [fresh7, unset7]; exact fun e => absurd (of_decide_eq_true e) (by omega)), after7]

theorem keep8 (c : Dev nD) : ∀ (t : Fin cfg0.N) (_ : t.val ≠ 0), cfg0.idle 8 (grid0.coords t) = true → cfg0.fresh 8 t.val = false →
    (data m 0 c).after 8 t = (data m 0 c).after 8 ⟨t.val - 1, by omega⟩ := by
  intro t _ hi _
  rw [idle8] at hi
  rw [after8, after8, left_last m c t (of_decide_eq_true hi)]
  rfl

theorem found8 (c : Dev nD) (t : Fin cfg0.N) (h : t.val ≠ 0) (d) :
    (data m 0 c).before 8 t d = (left m c (t.val - 1) (pred_lt t)).dbq := by
  have hN := pts t
  rw [Dat.before_out_traj _ 8 rfl (fun _ _ => rfl) (keep8 m c) t.val t rfl d,
    if_neg (by rw [fresh8, unset8]; exact fun e => absurd (of_decide_eq_true e) (by omega)), after8]

theorem keep9 (c : Dev nD) : ∀ (t : Fin cfg0.N) (_ : t.val ≠ 0), cfg0.idle 9 (grid0.coords t) = true → cfg0.fresh 9 t.val = false →
    (data m 0 c).after 9 t = (data m 0 c).after 9 ⟨t.val - 1, by omega⟩ := by
  intro t _ hi _
  rw [idle9] at hi
  exact absurd hi Bool.false_ne_true

theorem found9 (c : Dev nD) (t : Fin cfg0.N) (h : t.val ≠ 0) (d) :
    (data m 0 c).before 9 t d = (left m c (t.val - 1) (pred_lt t)).dbkv := by
  have hN := pts t
  rw [Dat.before_out_traj _ 9 rfl (fun _ _ => rfl) (keep9 m c) t.val t rfl d,
    if_neg (by rw [fresh9, unset9]; exact fun e => absurd (of_decide_eq_true e) (by omega)), after9]

/-! ## The body at a point -/

theorem gives0 (c : Dev nD) (t : Fin cfg0.N) : (data m 0 c).leavesExact 0 t = owns (c : Thread nD τ) (st0_0 t) fullShare (iblk m c 0 t) := by
  unfold Dat.leavesExact; rw [show cfg0.idle 0 (cfg0.grid.coords t) = false from rfl, after0]
theorem gives1 (c : Dev nD) (t : Fin cfg0.N) : (data m 0 c).leavesExact 1 t = owns (c : Thread nD τ) (st0_1 t) fullShare (iblk m c 1 t) := by
  unfold Dat.leavesExact; rw [show cfg0.idle 1 (cfg0.grid.coords t) = false from rfl, after1]
theorem gives2 (c : Dev nD) (t : Fin cfg0.N) : (data m 0 c).leavesExact 2 t = owns (c : Thread nD τ) (st0_2 t) fullShare (iblk m c 2 t) := by
  unfold Dat.leavesExact; rw [show cfg0.idle 2 (cfg0.grid.coords t) = false from rfl, after2]
theorem gives3 (c : Dev nD) (t : Fin cfg0.N) : (data m 0 c).leavesExact 3 t = owns (c : Thread nD τ) (st0_3 t) fullShare (iblk m c 3 t) := by
  unfold Dat.leavesExact; rw [show cfg0.idle 3 (cfg0.grid.coords t) = false from rfl, after3]
theorem gives4 (c : Dev nD) (t : Fin cfg0.N) : (data m 0 c).leavesExact 4 t = owns (c : Thread nD τ) (st0_4 t) fullShare (iblk m c 4 t) := by
  unfold Dat.leavesExact; rw [show cfg0.idle 4 (cfg0.grid.coords t) = false from rfl, after4]
theorem gives5 (c : Dev nD) (t : Fin cfg0.N) : (data m 0 c).leavesExact 5 t = owns (c : Thread nD τ) (st0_5 t) fullShare (left m c t.val t.isLt).dq := by
  unfold Dat.leavesExact
  by_cases h : t.val = 32
  · rw [show cfg0.idle 5 (cfg0.grid.coords t) = true from (idle5 t).trans (decide_eq_true h), flush5_last t h, after5]
  · rw [show cfg0.idle 5 (cfg0.grid.coords t) = false from (idle5 t).trans (decide_eq_false h), after5]
theorem gives6 (c : Dev nD) (t : Fin cfg0.N) : (data m 0 c).leavesExact 6 t = owns (c : Thread nD τ) (st0_6 t) fullShare (left m c t.val t.isLt).dkv := by
  unfold Dat.leavesExact; rw [show cfg0.idle 6 (cfg0.grid.coords t) = false from idle6 t, after6]
theorem gives7 (c : Dev nD) (t : Fin cfg0.N) : (data m 0 c).leavesExact 7 t = owns (c : Thread nD τ) (st0_7 t) fullShare (left m c t.val t.isLt).dsink := by
  unfold Dat.leavesExact
  by_cases h : t.val = 32
  · rw [show cfg0.idle 7 (cfg0.grid.coords t) = true from (idle7 t).trans (decide_eq_true h), flush7_last t h, after7]
  · rw [show cfg0.idle 7 (cfg0.grid.coords t) = false from (idle7 t).trans (decide_eq_false h), after7]
theorem gives8 (c : Dev nD) (t : Fin cfg0.N) : (data m 0 c).leavesExact 8 t = owns (c : Thread nD τ) (st0_8 t) fullShare (left m c t.val t.isLt).dbq := by
  unfold Dat.leavesExact
  by_cases h : t.val = 32
  · rw [show cfg0.idle 8 (cfg0.grid.coords t) = true from (idle8 t).trans (decide_eq_true h), flush8_last t h, after8]
  · rw [show cfg0.idle 8 (cfg0.grid.coords t) = false from (idle8 t).trans (decide_eq_false h), after8]
theorem gives9 (c : Dev nD) (t : Fin cfg0.N) : (data m 0 c).leavesExact 9 t = owns (c : Thread nD τ) (st0_9 t) fullShare (left m c t.val t.isLt).dbkv := by
  unfold Dat.leavesExact; rw [show cfg0.idle 9 (cfg0.grid.coords t) = false from idle9 t, after9]

/-- What the body is handed at point `t`. -/
def pre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ d, owns (c : Thread nD τ) (st0_8 t) fullShare ((data m 0 c).before 8 t d))
    ∗ (∃ d, owns (c : Thread nD τ) (st0_9 t) fullShare ((data m 0 c).before 9 t d)))

/-- What it hands back. -/
def post (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (data m 0 c).leavesExact 5 t
    ∗ (data m 0 c).leavesExact 6 t
    ∗ (data m 0 c).leavesExact 7 t
    ∗ (data m 0 c).leavesExact 8 t
    ∗ (data m 0 c).leavesExact 9 t)

set_option maxHeartbeats 4000000 in
theorem body_sound (c : Dev nD) (t : Fin cfg0.N) :
    pre m c t ⊢ wp frame (wpE (defs₀ (F := F)) Variants.none c none) Set.univ (bodyAt0 t) (fun _ => post m c t) := by
  unfold pre post bodyAt0
  simp only [found0, found1, found2, found3, found4, gives0, gives1, gives2, gives3, gives4, gives5, gives6, gives7, gives8, gives9]
  rw [show (data m 0 c).owesAt () t.succ = (data m 0 c).owesAt () t.castSucc from rfl]
  rw [show (data m 0 c).Φ t.succ = iprop(owns (c : Thread nD τ) (Memref.whole cc0_scratch0 : Memref sig .tc .vmem S128x256 .f32) fullShare
      (left m c t.val t.isLt).carry ∗ (∃ r, prngReg c r)) from rfl]
  rw [show (data m 0 c).Φ t.castSucc = inv m c t.val (Nat.le_of_lt t.isLt) from rfl]
  have hN := pts t
  by_cases h0 : t.val = 0
  · rw [show inv m c t.val (Nat.le_of_lt t.isLt) = Pipeline.ΦA spec0 c from by
      have : ∀ (n : ℕ) (h : n ≤ cfg0.N), n = 0 → inv m c n h = Pipeline.ΦA spec0 c := by
        intro n h e; subst e; rfl
      exact this _ _ h0, inv_start, left_first m c t h0]
    have c1 := (cond1 t).mpr h0
    have c2 := (cond2 t).mpr (by omega)
    have c3 : ¬k0_cond3 (grid0.coords t) = 1#1 := fun h => absurd ((cond3 t).mp h) (by omega)
    iintro ⟨⟨H10, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords t) _ _ _ _ _ _ _ _ _ _ _ _ _ _ _ _ _ _ _ _ _ _ c1 c2 c3 (iblk m c 0 t) (iblk m c 1 t) (iblk m c 2 t) (iblk m c 3 t) (iblk m c 4 t)).2.2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexact H10
    iintro ⟨H0, H1, H2, H3, H4, ⟨%e5, H5⟩, ⟨%e6, H6⟩, ⟨%e7, H7⟩, ⟨%e8, H8⟩, ⟨%e9, H9⟩, ⟨%e10, H10⟩⟩
    isplitl [H10 Hg]
    · isplitl [H10]
      · unfold owns; iexists _; isplitr
        swap; · iexact H10
        ipureintro; exact readA10 c _ _ _ _ _ _ _ _ _ _ _ _ _ _ _ _ _ _ _ _ _ _ _ _ _ _ _ _ _ _ _ _
      iexact Hg
    isplitl [Ho]; · iexact Ho
    isplitl [H0]
    · iexact H0
    isplitl [H1]
    · iexact H1
    isplitl [H2]
    · iexact H2
    isplitl [H3]
    · iexact H3
    isplitl [H4]
    · iexact H4
    isplitl [H5]
    · unfold owns; iexists _; isplitr
      swap; · iexact H5
      ipureintro; exact readA5 c _ _ _ _ _ _ _ _ _ _ _ _ _ _ _ _ _ _ _ _ _ _ _ _ _ _ _ _ _ _ _ _
    isplitl [H6]
    · unfold owns; iexists _; isplitr
      swap; · iexact H6
      ipureintro; exact readA6 c _ _ _ _ _ _ _ _ _ _ _ _ _ _ _ _ _ _ _ _ _ _ _ _ _ _ _ _ _ _ _ _
    isplitl [H7]
    · unfold owns; iexists _; isplitr
      swap; · iexact H7
      ipureintro; exact readA7 c _ _ _ _ _ _ _ _ _ _ _ _ _ _ _ _ _ _ _ _ _ _ _ _ _ _ _ _ _ _ _ _
    isplitl [H8]
    · unfold owns; iexists _; isplitr
      swap; · iexact H8
      ipureintro; exact readA8 c _ _ _ _ _ _ _ _ _ _ _ _ _ _ _ _ _ _ _ _ _ _ _ _ _ _ _ _ _ _ _ _
    unfold owns; iexists _; isplitr
    swap; · iexact H9
    ipureintro; exact readA9 c _ _ _ _ _ _ _ _ _ _ _ _ _ _ _ _ _ _ _ _ _ _ _ _ _ _ _ _ _ _ _ _
  by_cases h1 : t.val = 32
  · rw [inv_pos m c _ _ h0, left_last m c t h1]
    simp only [found5 m c t h1, found7 m c t h0, found8 m c t h0, found9 m c t h0]
    have c1 : ¬k0_cond1 (grid0.coords t) = 1#1 := fun h => absurd ((cond1 t).mp h) h0
    have c2 : ¬k0_cond2 (grid0.coords t) = 1#1 := fun h => absurd ((cond2 t).mp h) (by omega)
    have c3 := (cond3 t).mpr h1
    iintro ⟨⟨H10, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runC c (grid0.coords t) _ _ _ _ _ _ _ _ _ _ _ _ _ _ _ _ _ _ _ _ _ _ c1 c2 c3 _ _).2.2 Set.univ _)
    isplitl [H6]; · iexists _; iexact H6
    isplitl [H9]; · iexact H9
    isplitl [H10]; · iexact H10
    iintro ⟨⟨%e6, H6⟩, ⟨%e9, H9⟩, H10⟩
    isplitl [H10 Hg]
    · isplitl [H10]
      · iexact H10
      iexact Hg
    isplitl [Ho]; · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · unfold owns; iexists _; isplitr
      swap; · iexact H6
      ipureintro; exact readC6 c _ _ _ _ _ _ _ _ _ _ _ _ _ _ _ _ _ _ _ _ _ _ _ _ _ _ _ _ _ _ _ _ _
    isplitl [H7]
    · iexact H7
    isplitl [H8]
    · iexact H8
    unfold owns; iexists _; isplitr
    swap; · iexact H9
    ipureintro; exact readC9 c _ _ _ _ _ _ _ _ _ _ _ _ _ _ _ _ _ _ _ _ _ _ _ _ _ _ _ _ _ _ _ _ _
  · rw [inv_pos m c _ _ h0, left_next m c t h0 h1]
    simp only [found7 m c t h0, found8 m c t h0, found9 m c t h0]
    have c1 : ¬k0_cond1 (grid0.coords t) = 1#1 := fun h => absurd ((cond1 t).mp h) h0
    have c2 := (cond2 t).mpr (by omega)
    have c3 : ¬k0_cond3 (grid0.coords t) = 1#1 := fun h => absurd ((cond3 t).mp h) h1
    iintro ⟨⟨H10, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB c (grid0.coords t) _ _ _ _ _ _ _ _ _ _ _ _ _ _ _ _ _ _ _ _ _ _ c1 c2 c3 (iblk m c 0 t) (iblk m c 1 t) (iblk m c 2 t) (iblk m c 3 t) (iblk m c 4 t) _ _ _ _).2.2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [H8]; · iexact H8
    isplitl [H9]; · iexact H9
    isplitl [H10]; · iexact H10
    iintro ⟨H0, H1, H2, H3, H4, ⟨%e5, H5⟩, ⟨%e6, H6⟩, ⟨%e7, H7⟩, ⟨%e8, H8⟩, ⟨%e9, H9⟩, ⟨%e10, H10⟩⟩
    isplitl [H10 Hg]
    · isplitl [H10]
      · unfold owns; iexists _; isplitr
        swap; · iexact H10
        ipureintro; exact readB10 c _ _ _ _ _ _ _ _ _ _ _ _ _ _ _ _ _ _ _ _ _ _ _ _ _ _ _ _ _ _ _ _ _ _ _ _
      iexact Hg
    isplitl [Ho]; · iexact Ho
    isplitl [H0]
    · iexact H0
    isplitl [H1]
    · iexact H1
    isplitl [H2]
    · iexact H2
    isplitl [H3]
    · iexact H3
    isplitl [H4]
    · iexact H4
    isplitl [H5]
    · unfold owns; iexists _; isplitr
      swap; · iexact H5
      ipureintro; exact readB5 c _ _ _ _ _ _ _ _ _ _ _ _ _ _ _ _ _ _ _ _ _ _ _ _ _ _ _ _ _ _ _ _ _ _ _ _
    isplitl [H6]
    · unfold owns; iexists _; isplitr
      swap; · iexact H6
      ipureintro; exact readB6 c _ _ _ _ _ _ _ _ _ _ _ _ _ _ _ _ _ _ _ _ _ _ _ _ _ _ _ _ _ _ _ _ _ _ _ _
    isplitl [H7]
    · unfold owns; iexists _; isplitr
      swap; · iexact H7
      ipureintro; exact readB7 c _ _ _ _ _ _ _ _ _ _ _ _ _ _ _ _ _ _ _ _ _ _ _ _ _ _ _ _ _ _ _ _ _ _ _ _
    isplitl [H8]
    · unfold owns; iexists _; isplitr
      swap; · iexact H8
      ipureintro; exact readB8 c _ _ _ _ _ _ _ _ _ _ _ _ _ _ _ _ _ _ _ _ _ _ _ _ _ _ _ _ _ _ _ _ _ _ _ _
    unfold owns; iexists _; isplitr
    swap; · iexact H9
    ipureintro; exact readB9 c _ _ _ _ _ _ _ _ _ _ _ _ _ _ _ _ _ _ _ _ _ _ _ _ _ _ _ _ _ _ _ _ _ _ _ _

theorem body_row (t : Fin cfg0.N) : defs₀ (F := F) .tc cfg0.body (cfg0.bodyArgs t (cfg0.slots t)) = bodyAt0 t := by
  unfold defs₀; rw [Defs.onTc_tc]

theorem body_ok (c : Dev nD) : BodyObligation (data (F := F) m 0 c) (defs₀ (F := F)) Variants.none () Set.univ := fun t => by
  rw [bigSep_W0, bigSep_W0, body_row]
  exact triple_restated (body_sound m c t) rfl .rfl fun _ => .rfl

theorem enter (c : Dev nD) : Pipeline.ΦA spec0 c ⊢ (data m 0 c).Φ 0 := by
  rw [show (data m 0 c).Φ 0 = Pipeline.ΦA spec0 c from rfl]
  try exact Idealize.SL.BI.Entails.refl _

theorem leave (c : Dev nD) : (data m 0 c).Φ (Fin.last cfg0.N) ⊢ Pipeline.ΦA spec0 c := by
  rw [show (data m 0 c).Φ (Fin.last cfg0.N) = inv m c cfg0.N (Nat.le_refl _) from rfl,
    inv_pos m c _ _ (by have : cfg0.N = 33 := N_0; omega), inv_start]
  iintro ⟨H10, Hg⟩
  isplitl [H10]
  · iexists _; iexact H10
  iexact Hg

/-! ## The run and the frame -/

set_option backward.isDefEq.respectTransparency.types false in
/-- Every execution ends, with the arrays as the proof data say and every counter at zero. -/
theorem run_all : θ_run defs (onTc (τ := τ) (main (F := F))) (s₀ m ρ)
    (fun r => (Pipeline.FramePost cfgs (data m) 0 (V m)) r ∧ r.2.sem = fun _ => 0) :=
  Pipeline.θ_run_frame_track_shared (Q' := _) cfgs (data m) (0 : Fin 1) launch₀0 defs₀ Variants.none m ρ main
    (hbody := fun c => (body_ok m c).loose) (hq := fun _ _ _ => rfl)
    (howed := fun _ _ => rfl) (V := V m) (hmain := hmain m Variants.none) (hA := data_A m) (hin := enter m) (hout := leave m)

theorem run : θ_run defs (onTc (τ := τ) (main (F := F))) (s₀ m ρ) (Pipeline.FramePost cfgs (data m) 0 (V m)) :=
  (θ_run defs _ _).mono (fun _ h => h.1) (run_all m ρ)

/-- The arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (data m) (data_A m) (run m ρ)) ((θ_run defs _ _).mono (fun _ h => h.2) (run_all m ρ))

end Cert.Attn

end
-- ==== Proof.AttnFrame.lean ====
/- The frame of the kernel at its own words, carried over from the run of the module at the ideal: the two texts are the
   same but for the named constant, and the run is proved for any reading of that name. -/
module

public import proofs.«01_k».proof.Defs
public import proofs.«01_k».proof.Proof.Gen.KernelA
public import proofs.«01_k».proof.Proof.Gen.KernelA.Launch
public import proofs.«01_k».proof.Proof.AttnCert

@[expose] public section

set_option maxRecDepth 16384

noncomputable section

namespace Cert.Attn

open Idealize.ShloMosaic Idealize.ShloMosaic.TcCoe Idealize.SL.Sem

/-- At the machine's words a named constant is the literal it stands for. -/
@[reducible] def namedBits : Named Bits := ⟨fun _ _ _ b => FloatOps.ofBits _ b⟩

theorem main_same : letI := namedBits; Cert.KernelAIdeal.main (F := Bits) = Cert.KernelA.main (F := Bits) := by
  sl_kernel_rfl
theorem defs_same : letI := namedBits; Cert.KernelAIdeal.defs (F := Bits) = Cert.KernelA.defs (F := Bits) := by
  sl_kernel_rfl

theorem frame_bits (m : (ℓ : Loc Cert.KernelA.nD Cert.KernelA.τ Cert.KernelA.sig) → Buf (Elt Bits) ℓ) (g : Dev Cert.KernelA.nD → PrngReg) :
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2)
      ∧ r.2.mem ((c.tc : Thread Cert.KernelA.nD Cert.KernelA.τ).loc Cert.KernelA.main_arg3) = m ((c.tc : Thread Cert.KernelA.nD Cert.KernelA.τ).loc Cert.KernelA.main_arg3))
      ∧ r.2.sem = fun _ => 0) :=
  letI := namedBits
  by
    rw [← main_same, ← defs_same]
    exact frame (F := Bits) m g

end Cert.Attn

end
-- ==== Proof.AttnModel.lean ====
/- One query of the sliding-window attention with a sink, on real numbers: the weights of its keys, their total with the
   sink's, the probabilities and the gradient; and the extended-real forms of the same that do not depend on the number
   subtracted in the exponents. -/
module

public import proofs.«01_k».proof.Proof.RealLift

@[expose] public section

set_option maxRecDepth 65536

noncomputable section

namespace Cert.AttnModel

open Idealize.ShloMosaic Idealize.ShloMosaic.TcCoe Idealize.SL.Sem
open Cert.RealLift

variable {N : ℕ} (P : Fin N → Bool) (a : Fin N → ℝ) (z : ℝ) (d : Fin N → ℝ)

/-- The weight of a key: the exponential of its score where it is seen, zero elsewhere. -/
def wt (k : Fin N) : ℝ := if P k then Real.exp (a k) else 0
/-- The total of the weights and the sink's. -/
def tot : ℝ := (∑ k, wt P a k) + Real.exp z
/-- The probability of a key. -/
def pr (k : Fin N) : ℝ := wt P a k / tot P a z
/-- The probability of the sink. -/
def ps : ℝ := Real.exp z / tot P a z
/-- The mean of the incoming gradient under the probabilities. -/
def avg : ℝ := ∑ k, pr P a z k * d k
/-- The gradient of a key's unscaled score. -/
def gr (k : Fin N) : ℝ := pr P a z k * (d k - avg P a z d) * (1 / 8)

theorem wt_nonneg (k : Fin N) : 0 ≤ wt P a k := by
  unfold wt; split
  · exact (Real.exp_pos _).le
  · exact le_refl _

theorem tot_pos : 0 < tot P a z := by
  unfold tot
  exact add_pos_of_nonneg_of_pos (Finset.sum_nonneg fun k _ => wt_nonneg P a k) (Real.exp_pos _)

theorem sum_pr : (∑ k, pr P a z k) + ps P a z = 1 := by
  unfold pr ps
  rw [← Finset.sum_div, ← add_div]
  exact div_self (tot_pos P a z).ne'

theorem pr_unseen (k : Fin N) (h : P k = false) : pr P a z k = 0 := by
  unfold pr wt; rw [h]; simp

theorem gr_unseen (k : Fin N) (h : P k = false) : gr P a z d k = 0 := by
  unfold gr; rw [pr_unseen P a z k h]; ring

/-- Only the seen keys' scores and gradients matter. -/
theorem wt_congr {a' : Fin N → ℝ} (h : ∀ k, P k = true → a k = a' k) : wt P a = wt P a' := by
  funext k; unfold wt
  by_cases hk : P k = true
  · rw [h k hk]
  · simp [hk]

theorem pr_congr {a' : Fin N → ℝ} (h : ∀ k, P k = true → a k = a' k) : pr P a z = pr P a' z := by
  unfold pr tot; rw [wt_congr P a h]

theorem ps_congr {a' : Fin N → ℝ} (h : ∀ k, P k = true → a k = a' k) : ps P a z = ps P a' z := by
  unfold ps tot; rw [wt_congr P a h]

theorem avg_congr {a' d' : Fin N → ℝ} (h : ∀ k, P k = true → a k = a' k) (hd : ∀ k, P k = true → d k = d' k) :
    avg P a z d = avg P a' z d' := by
  unfold avg; rw [pr_congr P a z h]
  refine Finset.sum_congr rfl fun k _ => ?_
  by_cases hk : P k = true
  · rw [hd k hk]
  · rw [pr_unseen P a' z k (by simpa using hk), zero_mul, zero_mul]

theorem gr_congr {a' d' : Fin N → ℝ} (h : ∀ k, P k = true → a k = a' k) (hd : ∀ k, P k = true → d k = d' k) :
    gr P a z d = gr P a' z d' := by
  funext k
  by_cases hk : P k = true
  · unfold gr; rw [pr_congr P a z h, avg_congr P a z d h hd, hd k hk]
  · rw [gr_unseen P a z d k (by simpa using hk), gr_unseen P a' z d' k (by simpa using hk)]

/-! ## Extended reals -/

/-- A key's masked score. -/
def sc (k : Fin N) : EReal := if P k then ((a k : ℝ) : EReal) else ⊥

theorem coe_max (x y : ℝ) : ((max x y : ℝ) : EReal) = max (x : EReal) (y : EReal) :=
  (EReal.coe_strictMono.monotone).map_max

theorem fold_real (s : Finset (Fin N)) : Finset.fold max ⊥ (sc P a) s = ⊥ ∨ ∃ m : ℝ, Finset.fold max ⊥ (sc P a) s = (m : EReal) := by
  classical
  induction s using Finset.induction_on with
  | empty => exact .inl rfl
  | insert k s hk ih =>
    rw [Finset.fold_insert hk]
    unfold sc
    rcases ih with h | ⟨m, h⟩ <;> (unfold sc at h; rw [h]; split)
    · exact .inr ⟨a k, by simp⟩
    · exact .inl (by simp)
    · exact .inr ⟨max (a k) m, (coe_max _ _).symm⟩
    · exact .inr ⟨m, by simp⟩

/-- The running maximum with the sink's is a real number. -/
theorem top_real : ∃ m : ℝ, max (Finset.fold max ⊥ (sc P a) Finset.univ) (z : EReal) = (m : EReal) := by
  rcases fold_real P a Finset.univ with h | ⟨m, h⟩
  · exact ⟨z, by rw [h]; simp⟩
  · exact ⟨max m z, by rw [h]; exact (coe_max _ _).symm⟩

theorem exp_sc (m : ℝ) (k : Fin N) : Ideal.exp (sc P a k - (m : EReal)) = ((wt P a k * Real.exp (-m) : ℝ) : EReal) := by
  unfold sc wt
  split
  · rw [← EReal.coe_sub, Ideal.exp_coe, ← Real.exp_add, sub_eq_add_neg]
  · rw [EReal.bot_sub, Ideal.exp_bot, zero_mul, EReal.coe_zero]

theorem exp_sink (m : ℝ) : Ideal.exp ((z : EReal) - (m : EReal)) = ((Real.exp z * Real.exp (-m) : ℝ) : EReal) := by
  rw [← EReal.coe_sub, Ideal.exp_coe, ← Real.exp_add, sub_eq_add_neg]

theorem sum_exp (m : ℝ) : (∑ k, Ideal.exp (sc P a k - (m : EReal))) + Ideal.exp ((z : EReal) - (m : EReal))
    = ((tot P a z * Real.exp (-m) : ℝ) : EReal) := by
  rw [Finset.sum_congr rfl fun k _ => exp_sc P a m k, coe_sum, exp_sink, ← EReal.coe_add, ← Finset.sum_mul, ← add_mul]
  rfl

theorem bits_eighth : Ideal.ofBits .f32 0x3E000000#32 = ((1 / 8 : ℝ) : EReal) := by
  have e1 : (BitVec.extractLsb' 23 8 0x3E000000#32).toNat = 124 := by decide
  have e2 : (BitVec.extractLsb' 0 23 0x3E000000#32).toNat = 0 := by decide
  have e3 : (BitVec.extractLsb' (8 + 23) 1 0x3E000000#32 == 1#1) = false := by decide
  simp only [Ideal.ofBits, Ideal.ieee, e1, e2, e3]
  norm_num

theorem bits_bot : Ideal.ofBits .f32 0xFF800000#32 = ⊥ := by
  have e1 : (BitVec.extractLsb' 23 8 0xFF800000#32).toNat = 255 := by decide
  have e2 : (BitVec.extractLsb' 0 23 0xFF800000#32).toNat = 0 := by decide
  have e3 : (BitVec.extractLsb' (8 + 23) 1 0xFF800000#32 == 1#1) = true := by decide
  simp only [Ideal.ofBits, Ideal.ieee, e1, e2, e3]
  norm_num

/-! ## The gradient the general rule gives: through the quotient, the exponentials, and the maximum -/

variable (m : ℝ)

theorem scaled_ne : tot P a z * Real.exp (-m) ≠ 0 := (mul_pos (tot_pos P a z) (Real.exp_pos _)).ne'

/-- A key's probability, whichever number is subtracted. -/
theorem pr_scaled (k : Fin N) : wt P a k * Real.exp (-m) / (tot P a z * Real.exp (-m)) = pr P a z k := by
  have := (Real.exp_pos (-m)).ne'
  unfold pr; field_simp

theorem ps_scaled : Real.exp z * Real.exp (-m) / (tot P a z * Real.exp (-m)) = ps P a z := by
  have := (Real.exp_pos (-m)).ne'
  unfold ps; field_simp

theorem avg_scaled : (∑ k, d k * (1 / (tot P a z * Real.exp (-m) * (tot P a z * Real.exp (-m)))) * (wt P a k * Real.exp (-m)))
    = avg P a z d / (tot P a z * Real.exp (-m)) := by
  unfold avg
  rw [Finset.sum_div]
  refine Finset.sum_congr rfl fun k _ => ?_
  have := (Real.exp_pos (-m)).ne'
  have := (tot_pos P a z).ne'
  unfold pr; field_simp

theorem gr_scaled (k : Fin N) : (d k / (tot P a z * Real.exp (-m)) + -(avg P a z d / (tot P a z * Real.exp (-m)))) * (wt P a k * Real.exp (-m))
    = pr P a z k * (d k - avg P a z d) := by
  have := (Real.exp_pos (-m)).ne'
  have := (tot_pos P a z).ne'
  unfold pr; field_simp; ring

theorem sink_scaled : -(avg P a z d / (tot P a z * Real.exp (-m))) * (Real.exp z * Real.exp (-m)) = -(ps P a z * avg P a z d) := by
  have := (Real.exp_pos (-m)).ne'
  have := (tot_pos P a z).ne'
  unfold ps; field_simp

/-- What reaches the subtracted maximum adds up to nothing. -/
theorem max_grad : -(-(ps P a z * avg P a z d)) + ∑ k, -(pr P a z k * (d k - avg P a z d)) = 0 := by
  have h := sum_pr P a z
  have e : ∑ k, -(pr P a z k * (d k - avg P a z d)) = -(avg P a z d) + (∑ k, pr P a z k) * avg P a z d := by
    have : ∀ k, -(pr P a z k * (d k - avg P a z d)) = -(pr P a z k * d k) + pr P a z k * avg P a z d := fun k => by ring
    rw [Finset.sum_congr rfl fun k _ => this k, Finset.sum_add_distrib, Finset.sum_neg_distrib, Finset.sum_mul]
    rfl
  rw [e]
  have : ps P a z = 1 - ∑ k, pr P a z k := by linarith
  rw [this]; ring

end Cert.AttnModel

end
-- ==== Proof.AttnPay.lean ====
/- What one grid point of the sliding-window attention gradient computes, head group by head group, read at an index. -/
module

public import proofs.«01_k».proof.Proof.AttnStep
public import proofs.«01_k».proof.Proof.AttnModel

@[expose] public section

set_option maxRecDepth 65536

noncomputable section

namespace Cert.Attn

open Idealize.ShloMosaic Idealize.ShloMosaic.TcCoe Idealize.SL.Sem
open Cert.RealLift
open Cert.KernelAIdeal Cert.KernelAIdeal.Gen Cert.AttnModel

section Group

variable (M : IVec S256x512 1) (q : FVec Ideal S512x64 .f32) (k : FVec Ideal S256x64 .f32) (z0 z1 z2 z3 : Elt Ideal .f32)
variable (P : Fin 512 → Fin 256 → Bool) (Q : Fin 512 → Fin 64 → ℝ) (K : Fin 256 → Fin 64 → ℝ) (Z : Fin 512 → ℝ)

/-- A column's scores. -/
def score (Q : Fin 512 → Fin 64 → ℝ) (K : Fin 256 → Fin 64 → ℝ) (j : Fin 512) (a : Fin 256) : ℝ := (∑ c, K a c * Q j c) * (1 / 8)

theorem eq_mask (hM : ∀ a j, M (ix2 a j) = if P j a then 1#1 else 0#1) (hq : ∀ j c, q (ix2 j c) = ((Q j c : ℝ) : EReal))
    (hk : ∀ a c, k (ix2 a c) = ((K a c : ℝ) : EReal)) (a : Fin 256) (j : Fin 512) :
    k0_pay16 M q k (ix2 a j) = sc (P j) (score Q K j) a := by
  pointwise [k0_pay16]
  rw [hM a j, IdealRules.named_const.ideal_named_scalar (κ := κ) (name := "mask") _ ⊥ rfl]
  unfold sc
  split
  · rw [bits_eighth]
    simp only [hq, hk, ← EReal.coe_mul]
    rw [coe_sum, ← EReal.coe_mul]
    rfl
  · rfl

variable (hM : ∀ a j, M (ix2 a j) = if P j a then 1#1 else 0#1) (hq : ∀ j c, q (ix2 j c) = ((Q j c : ℝ) : EReal))
  (hk : ∀ a c, k (ix2 a c) = ((K a c : ℝ) : EReal)) (hz : ∀ j, k0_pay17 (F := Ideal) z0 z1 z2 z3 (ix2 0 j) = ((Z j : ℝ) : EReal))
include hM hq hk hz

theorem eq_top (j : Fin 512) : ∃ m : ℝ, k0_pay18 M q k z0 z1 z2 z3 (ix2 0 j) = (m : EReal) := by
  obtain ⟨m, h⟩ := top_real (P j) (score Q K j) (Z j)
  refine ⟨m, ?_⟩
  rw [← h]
  pointwise [k0_pay18]
  rw [hz j, bits_bot]
  congr 1
  congr 1
  funext a
  exact eq_mask M q k P Q K hM hq hk a j

theorem eq_prob (a : Fin 256) (j : Fin 512) :
    k0_pay22 M q k z0 z1 z2 z3 (ix2 a j) = ((pr (P j) (score Q K j) (Z j) a : ℝ) : EReal) := by
  obtain ⟨m, h⟩ := eq_top M q k z0 z1 z2 z3 P Q K Z hM hq hk hz j
  pointwise [k0_pay22, k0_pay21, k0_pay19, k0_pay20]
  simp only [h, hz j, eq_mask M q k P Q K hM hq hk]
  rw [sum_exp, exp_sc, ← EReal.coe_one, coe_div _ (scaled_ne _ _ _ m), ← EReal.coe_mul, ← pr_scaled _ _ _ m]
  exact congrArg (fun x : ℝ => (x : EReal)) (by ring)

theorem eq_sink (j : Fin 512) :
    k0_pay23 M q k z0 z1 z2 z3 (ix2 0 j) = ((ps (P j) (score Q K j) (Z j) : ℝ) : EReal) := by
  obtain ⟨m, h⟩ := eq_top M q k z0 z1 z2 z3 P Q K Z hM hq hk hz j
  pointwise [k0_pay23, k0_pay21, k0_pay19, k0_pay20]
  simp only [h, hz j, eq_mask M q k P Q K hM hq hk]
  rw [sum_exp, exp_sink, ← EReal.coe_one, coe_div _ (scaled_ne _ _ _ m), ← EReal.coe_mul, ← ps_scaled _ _ _ m]
  exact congrArg (fun x : ℝ => (x : EReal)) (by ring)

end Group

section Grad

variable (p : FVec Ideal S256x512 .f32) (u : FVec Ideal S1x512 .f32) (d : FVec Ideal S512x64 .f32) (w : FVec Ideal S256x64 .bf16)
variable (P : Fin 512 → Fin 256 → Bool) (A : Fin 512 → Fin 256 → ℝ) (Z : Fin 512 → ℝ) (D : Fin 512 → Fin 64 → ℝ) (V : Fin 256 → Fin 64 → ℝ)

/-- The gradient of a column's probabilities. -/
def into (D : Fin 512 → Fin 64 → ℝ) (V : Fin 256 → Fin 64 → ℝ) (j : Fin 512) (a : Fin 256) : ℝ := ∑ c, V a c * D j c

variable (hp : ∀ a j, p (ix2 a j) = ((pr (P j) (A j) (Z j) a : ℝ) : EReal))
  (hd : ∀ j c, d (ix2 j c) = ((D j c : ℝ) : EReal)) (hw : ∀ a c, w (ix2 a c) = ((V a c : ℝ) : EReal))

theorem eq_into (hd : ∀ j c, d (ix2 j c) = ((D j c : ℝ) : EReal)) (hw : ∀ a c, w (ix2 a c) = ((V a c : ℝ) : EReal))
    (a : Fin 256) (j : Fin 512) : k0_pay26 d w (ix2 a j) = ((into D V j a : ℝ) : EReal) := by
  pointwise [k0_pay26]
  simp only [hd, hw, ← EReal.coe_mul]
  rw [coe_sum]; rfl

include hp hd hw

theorem eq_avg (j : Fin 512) : k0_pay27 p d w (ix2 0 j) = ((avg (P j) (A j) (Z j) (into D V j) : ℝ) : EReal) := by
  pointwise [k0_pay27]
  simp only [hp, eq_into d w D V hd hw, ← EReal.coe_mul]
  rw [coe_sum]; rfl

theorem eq_grad (a : Fin 256) (j : Fin 512) :
    k0_pay28 p d w (ix2 a j) = ((gr (P j) (A j) (Z j) (into D V j) a : ℝ) : EReal) := by
  pointwise [k0_pay28]
  rw [hp, eq_into d w D V hd hw, eq_avg p d w P A Z D V hp hd hw, bits_eighth, ← EReal.coe_sub, ← EReal.coe_mul, ← EReal.coe_mul]
  rfl

theorem eq_dq (k : FVec Ideal S256x64 .f32) (K : Fin 256 → Fin 64 → ℝ) (hk : ∀ a c, k (ix2 a c) = ((K a c : ℝ) : EReal)) (j : Fin 512) (c : Fin 64) :
    k0_pay29 k p d w (ix2 j c) = ((∑ a, gr (P j) (A j) (Z j) (into D V j) a * K a c : ℝ) : EReal) := by
  pointwise [k0_pay29]
  simp only [eq_grad p d w P A Z D V hp hd hw, hk, ← EReal.coe_mul]
  exact coe_sum _ _

theorem eq_dk (q : FVec Ideal S512x64 .f32) (Q : Fin 512 → Fin 64 → ℝ) (hq : ∀ j c, q (ix2 j c) = ((Q j c : ℝ) : EReal)) (a : Fin 256) (c : Fin 64) :
    k0_pay30 (k0_pay10 (F := Ideal)) q p d w (ix2 a c) = ((∑ j, gr (P j) (A j) (Z j) (into D V j) a * Q j c : ℝ) : EReal) := by
  pointwise [k0_pay30, k0_pay10]
  simp only [eq_grad p d w P A Z D V hp hd hw, hq, ← EReal.coe_mul, zero_add]
  exact coe_sum _ _

omit hw in
theorem eq_dv (a : Fin 256) (c : Fin 64) :
    k0_pay31 (k0_pay11 (F := Ideal)) p d (ix2 a c) = ((∑ j, pr (P j) (A j) (Z j) a * D j c : ℝ) : EReal) := by
  pointwise [k0_pay31, k0_pay11]
  simp only [hp, hd, ← EReal.coe_mul, zero_add]
  exact coe_sum _ _

theorem eq_dsink (hu : ∀ j, u (ix2 0 j) = ((ps (P j) (A j) (Z j) : ℝ) : EReal)) (j : Fin 512) :
    k0_pay32 p u d w (ix2 0 j) = ((ps (P j) (A j) (Z j) * avg (P j) (A j) (Z j) (into D V j) : ℝ) : EReal) := by
  pointwise [k0_pay32]
  rw [hu, eq_avg p d w P A Z D V hp hd hw, ← EReal.coe_mul]

end Grad

end Cert.Attn

end
-- ==== Proof.AttnRows.lean ====
/- The real rows a sliding-window attention works on: the projections, the keys a query sees, its scores and
   probabilities; the rows before the first block, which no query sees; the mask's comparisons. -/
module

public import proofs.«01_k».proof.Proof.AttnModel
public import Idealize.ShloMosaic.Lib.Pipeline.ValueKit

@[expose] public section

set_option maxRecDepth 65536

noncomputable section

namespace Cert.Attn

open Idealize.ShloMosaic Idealize.ShloMosaic.TcCoe Idealize.SL.Sem
open Cert.RealLift Cert.AttnModel

/-- The real arrays: the packed projections (query columns, then keys, then values), their bias, the gradient of the output and the sinks. -/
structure Rows where
  T : ℕ → ℕ → ℝ
  B : ℕ → ℝ
  G : ℕ → ℕ → ℝ
  Z : ℕ → ℝ

namespace Rows

variable (W : Rows) (n g : ℕ)

/-- Column `j = 128 · head + row` of a group's queries. -/
def qm (j c : ℕ) : ℝ := W.T (128 * n + j % 128) (256 * g + 64 * (j / 128) + c) + W.B (256 * g + 64 * (j / 128) + c)
/-- The two blocks of rows a block of queries looks at, from column `o` on. -/
def km (o a c : ℕ) : ℝ := W.T (if a < 128 then 128 * (n - 1) + a else 128 * n + (a - 128)) (o + c) + W.B (o + c)
/-- The same columns of the gradient of the output. -/
def dm (j c : ℕ) : ℝ := W.G (128 * n + j % 128) (256 * g + 64 * (j / 128) + c)
/-- A column's sink. -/
def zm (j : ℕ) : ℝ := W.Z (4 * g + j / 128)
/-- The keys a query sees: its own row and the 127 before it. -/
def seen (n j : ℕ) (a : Fin 256) : Bool := decide (a.val ≤ j % 128 + 128 ∧ j % 128 < a.val ∧ (n = 0 → 128 ≤ a.val))
def scores (j : ℕ) (a : Fin 256) : ℝ := (∑ c : Fin 64, W.km n (512 + 64 * g) a c * W.qm n g j c) * (1 / 8)
def intos (j : ℕ) (a : Fin 256) : ℝ := ∑ c : Fin 64, W.km n (640 + 64 * g) a c * W.dm n g j c
def probs (j : ℕ) (a : Fin 256) : ℝ := pr (seen n j) (W.scores n g j) (W.zm g j) a
def grads (j : ℕ) (a : Fin 256) : ℝ := gr (seen n j) (W.scores n g j) (W.zm g j) (W.intos n g j) a
def dq (j c : ℕ) : ℝ := ∑ a : Fin 256, W.grads n g j a * W.km n (512 + 64 * g) a c
def dk (a : Fin 256) (c : ℕ) : ℝ := ∑ j : Fin 512, W.grads n g j a * W.qm n g j c
def dv (a : Fin 256) (c : ℕ) : ℝ := ∑ j : Fin 512, W.probs n g j a * W.dm n g j c
def ds (j : ℕ) : ℝ := ps (seen n j) (W.scores n g j) (W.zm g j) * avg (seen n j) (W.scores n g j) (W.zm g j) (W.intos n g j)

end Rows

theorem row_at {W : Rows} {R C R' C' : ℕ} (hR : R = R') (hC : C = C') :
    ((W.T R C : ℝ) : EReal) + ((W.B C : ℝ) : EReal) = ((W.T R' C' + W.B C' : ℝ) : EReal) := by
  subst hR hC; exact (EReal.coe_add _ _).symm

theorem out_at {W : Rows} {R C R' C' : ℕ} (hR : R = R') (hC : C = C') : ((W.G R C : ℝ) : EReal) = ((W.G R' C' : ℝ) : EReal) := by
  subst hR hC; rfl

theorem fold_seen (P : Fin 256 → Bool) (a : Fin 256 → ℝ) (k0 : Fin 256) (hk : P k0 = true) :
    ∃ m : ℝ, Finset.fold max ⊥ (sc P a) Finset.univ = (m : EReal) ∧ ∃ k, sc P a k = (m : EReal) := by
  have hle : ∀ k, sc P a k ≤ Finset.fold max ⊥ (sc P a) Finset.univ := fun k =>
    (Finset.le_fold_max _).mpr (.inr ⟨k, Finset.mem_univ k, le_rfl⟩)
  have h0 : sc P a k0 = ((a k0 : ℝ) : EReal) := by unfold sc; rw [if_pos hk]
  rcases fold_real P a Finset.univ with h | ⟨m, h⟩
  · have := hle k0
    rw [h, h0, le_bot_iff] at this
    exact absurd this (EReal.coe_ne_bot _)
  · refine ⟨m, h, ?_⟩
    rcases (Finset.le_fold_max (b := (⊥ : EReal)) (f := sc P a) (s := Finset.univ) (m : EReal)).mp (le_of_eq h.symm) with hb | ⟨k, _, hk'⟩
    · exact absurd (le_bot_iff.mp hb) (EReal.coe_ne_bot _)
    · exact ⟨k, le_antisymm (h ▸ hle k) hk'⟩

namespace Rows

variable (W : Rows) (n g : ℕ)

/-- The rows before the first one are zeros in the reference. -/
def kz (o a c : ℕ) : ℝ := if n = 0 ∧ a < 128 then 0 else W.km n o a c
def zscores (j : ℕ) (a : Fin 256) : ℝ := (∑ c : Fin 64, W.kz n (512 + 64 * g) a c * W.qm n g j c) * (1 / 8)
def zintos (j : ℕ) (a : Fin 256) : ℝ := ∑ c : Fin 64, W.dm n g j c * W.kz n (640 + 64 * g) a c

theorem kz_seen {j : ℕ} {a : Fin 256} (h : seen n j a = true) (o c : ℕ) : W.kz n o a c = W.km n o a c := by
  unfold seen at h
  have h' := of_decide_eq_true h
  exact if_neg fun hn => by omega

theorem zscores_seen (j : ℕ) (a : Fin 256) (h : seen n j a = true) : W.zscores n g j a = W.scores n g j a := by
  unfold zscores scores
  simp only [W.kz_seen n h]

theorem zintos_seen (j : ℕ) (a : Fin 256) (h : seen n j a = true) : W.zintos n g j a = W.intos n g j a := by
  unfold zintos intos
  simp only [W.kz_seen n h, mul_comm]

theorem zgrads (j : ℕ) : gr (seen n j) (W.zscores n g j) (W.zm g j) (W.zintos n g j) = W.grads n g j :=
  gr_congr _ _ _ _ (W.zscores_seen n g j) (W.zintos_seen n g j)
theorem zprobs (j : ℕ) : pr (seen n j) (W.zscores n g j) (W.zm g j) = W.probs n g j :=
  pr_congr _ _ _ (W.zscores_seen n g j)
theorem zds (j : ℕ) : ps (seen n j) (W.zscores n g j) (W.zm g j) * avg (seen n j) (W.zscores n g j) (W.zm g j) (W.zintos n g j) = W.ds n g j := by
  unfold ds
  rw [ps_congr _ _ _ (W.zscores_seen n g j), avg_congr _ _ _ _ (W.zscores_seen n g j) (W.zintos_seen n g j)]

theorem grads_kz (j : ℕ) (a : Fin 256) (o c : ℕ) : W.grads n g j a * W.kz n o a c = W.grads n g j a * W.km n o a c := by
  cases h : seen n j a with
  | true => rw [W.kz_seen n h]
  | false => rw [show W.grads n g j a = 0 from gr_unseen _ _ _ _ _ h, zero_mul, zero_mul]

end Rows

theorem see (n r h : ℕ) (hr : r < 128) : Rows.seen n (128 * h + r) ⟨128 + r, by omega⟩ = true := by
  unfold Rows.seen
  exact decide_eq_true (by simp only; omega)

theorem band : ∀ (r : Fin 128) (a : Fin 256), IntOp.andi
    (IntOp.cmpi CmpIPredicate.sge (IntOp.subi (IntOp.addi (BitVec.ofNat 32 r.val) 128#32) (BitVec.ofNat 32 a.val)) 0#32)
    (IntOp.cmpi CmpIPredicate.slt (IntOp.subi (IntOp.addi (BitVec.ofNat 32 r.val) 128#32) (BitVec.ofNat 32 a.val)) 128#32)
      = BitVec.ofBool (decide (a.val ≤ r.val + 128 ∧ r.val < a.val)) := by decide +kernel

theorem present : ∀ (n : Fin 32) (a : Fin 256), IntOp.cmpi CmpIPredicate.sge
    (IntOp.subi (IntOp.addi (IntOp.muli (BitVec.ofNat 32 n.val) 128#32) (BitVec.ofNat 32 a.val)) 128#32) 0#32
      = BitVec.ofBool (decide (n.val = 0 → 128 ≤ a.val)) := by decide +kernel

theorem and_bits (p q : Prop) [Decidable p] [Decidable q] :
    IntOp.andi (BitVec.ofBool (decide p)) (BitVec.ofBool (decide q)) = if decide (p ∧ q) = true then 1#1 else 0#1 := by
  by_cases hp : p <;> by_cases hq : q <;> simp only [hp, hq, and_self, and_true, true_and, and_false, false_and, decide_true, decide_false] <;> rfl

theorem sel_one (x y : EReal) : Scalar.select (1#1) x y = x := rfl
theorem sel_zero (x y : EReal) : Scalar.select (0#1) x y = y := rfl

/-! ## Half a block of queries looks at 192 of the 256 keys -/

section Part

variable {b : ℕ} (hb : b < 2)

/-- The key that is the `a`-th one of the part. -/
def at_ (a : Fin 192) : Fin 256 := ⟨64 * b + a.val, by omega⟩

theorem part_sum (f : Fin 256 → ℝ) (hf : ∀ k : Fin 256, k.val < 64 * b ∨ 64 * b + 192 ≤ k.val → f k = 0) :
    ∑ a : Fin 192, f (at_ hb a) = ∑ k, f k := by
  refine Fintype.sum_of_injective (at_ hb) (fun x y e => Fin.ext ?_) _ _ (fun k hk => hf k ?_) (fun _ => rfl)
  · have := congrArg Fin.val e
    simp only [at_] at this
    omega
  · by_contra h
    refine hk ⟨⟨k.val - 64 * b, by omega⟩, Fin.ext ?_⟩
    simp only [at_]
    omega

variable (P : Fin 256 → Bool) (A : Fin 256 → ℝ) (z : ℝ) (hP : ∀ k : Fin 256, k.val < 64 * b ∨ 64 * b + 192 ≤ k.val → P k = false)
include hP

theorem tot_part : tot (fun a => P (at_ hb a)) (fun a => A (at_ hb a)) z = tot P A z := by
  unfold tot
  refine congrArg (· + Real.exp z) ?_
  exact part_sum hb (wt P A) fun k hk => by unfold wt; rw [hP k hk]; simp

theorem out_part (v : Fin 256 → ℝ) :
    ∑ a : Fin 192, pr (fun a => P (at_ hb a)) (fun a => A (at_ hb a)) z a * v (at_ hb a) = ∑ k, pr P A z k * v k := by
  rw [← part_sum hb (fun k => pr P A z k * v k) fun k hk => by rw [pr_unseen P A z k (hP k hk), zero_mul]]
  refine Finset.sum_congr rfl fun a _ => congrArg (· * v (at_ hb a)) ?_
  unfold pr
  rw [tot_part hb P A z hP]
  rfl

end Part

theorem seen_part {b : ℕ} (n : ℕ) {j : ℕ} (h1 : 64 * b ≤ j % 128) (h2 : j % 128 < 64 * b + 64) (k : Fin 256)
    (hk : k.val < 64 * b ∨ 64 * b + 192 ≤ k.val) : Rows.seen n j k = false := by
  unfold Rows.seen
  exact decide_eq_false fun h => by omega

/-- The output of a query: the values under its probabilities. -/
def Rows.out (W : Rows) (n g j c : ℕ) : ℝ := ∑ a : Fin 256, W.probs n g j a * W.km n (640 + 64 * g) a c

end Cert.Attn

end
-- ==== Proof.AttnPoint.lean ====
/- What one grid point of the sliding-window attention gradient computes, in terms of the rows it reads. -/
module

public import proofs.«01_k».proof.Proof.AttnPay
public import proofs.«01_k».proof.Proof.AttnRows
public import Idealize.ShloMosaic.Lib.WordCmp

@[expose] public section

set_option maxRecDepth 65536

noncomputable section

namespace Cert.Attn

open Idealize.ShloMosaic Idealize.ShloMosaic.TcCoe Idealize.SL.Sem
open Cert.RealLift
open Cert.KernelAIdeal Cert.KernelAIdeal.Gen Cert.AttnModel

/-- The blocks of a point hold the rows of `W`. -/
structure Reads (X : Blocks Ideal) (n : ℕ) (W : Rows) : Prop where
  cur : ∀ r c, X.cur (ix2 r c) = ((W.T (128 * n + r.val) c.val : ℝ) : EReal)
  prev : ∀ r c, X.prev (ix2 r c) = ((W.T (128 * (n - 1) + r.val) c.val : ℝ) : EReal)
  bias : ∀ c, X.bias (ix2 0 c) = ((W.B c.val : ℝ) : EReal)
  dout : ∀ r c, X.dout (ix2 r c) = ((W.G (128 * n + r.val) c.val : ℝ) : EReal)
  sink : ∀ h, X.sink (ix2 0 h) = ((W.Z h.val : ℝ) : EReal)

theorem rem128 : ∀ j : Fin 512, IntOp.remsi ArithUnit.vector (BitVec.ofNat 32 j.val) 128#32 = BitVec.ofNat 32 (j.val % 128) := by
  decide +kernel

theorem mask_eq (t : ℕ) (ht : t < 33) (a : Fin 256) (j : Fin 512) :
    k0_pay8 (BitVec.ofNat 32 t) (ix2 a j) = if Rows.seen t j a then 1#1 else 0#1 := by
  pointwise [k0_pay8]
  rw [show Scalar.select (Scalar.cmpi CmpIPredicate.eq 128#32 0#32) 1#32 128#32 = 128#32 from rfl, rem128]
  unfold Rows.seen
  have hr : j.val % 128 < 128 := Nat.mod_lt _ (by decide)
  generalize j.val % 128 = r at hr ⊢
  have ha : a.val < 256 := a.isLt
  generalize a.val = b at ha ⊢
  rw [show IntOp.addi (BitVec.ofNat 32 b) 0#32 = BitVec.ofNat 32 b from by simp [IntOp.addi]]
  word_cmp
  have hs : (decide (r < 0) ^^ decide (128 < 0)) = false := by simp
  simp only [hs, Bool.false_eq_true, false_and, if_false]
  have h1 : (IntOp.subi (IntOp.addi (BitVec.ofNat 32 r) 128#32) (BitVec.ofNat 32 b)).toNat = (4294967296 - b + (r + 128)) % 4294967296 := by
    simp only [IntOp.subi, IntOp.addi, BitVec.toNat_sub, BitVec.toNat_add, BitVec.toNat_ofNat]
    omega
  rw [h1]
  clear h1
  have h2 : (decide ((4294967296 - b + (r + 128)) % 4294967296 < 128)) = decide (b ≤ r + 128 ∧ r < b) := by
    refine decide_eq_decide.mpr ?_
    clear hs
    by_cases hb : b ≤ r + 128
    · rw [show 4294967296 - b + (r + 128) = 4294967296 + (r + 128 - b) from by omega, Nat.add_mod_left, Nat.mod_eq_of_lt (by omega)]
      omega
    · rw [Nat.mod_eq_of_lt (by omega)]
      omega
  rw [h2]
  clear h2
  rcases Nat.eq_zero_or_pos t with h0 | h0
  · subst h0
    rw [if_neg (by decide : ¬ (0:ℕ) < 0)]
    word_cmp
    by_cases hc : b ≤ r + 128 ∧ r < b <;> by_cases hd : 128 ≤ b <;> simp [hc, hd, IntOp.andi]
  · rw [if_pos h0]
    word_cmp
    have h3 : ¬ t = 0 := by omega
    by_cases hc : b ≤ r + 128 ∧ r < b <;> simp [hc, h3, IntOp.andi]

section Point

variable {X : Blocks Ideal} {t : ℕ} {W : Rows} (ht : t < 33) (hX : Reads X t W)

include ht hX

theorem q0 (j : Fin 512) (c : Fin 64) : e62 (BitVec.ofNat 32 t) X (ix2 j c) = ((W.qm t 0 j c : ℝ) : EReal) := by
  have hj : j.val < 512 := j.isLt
  have hc : c.val < 64 := c.isLt
  pointwise [e62, k0_pay13, k0_pay12, e46, e47, e48, e50, e51, e54, e55, e58, e59]
  simp only [hX.cur, hX.bias]
  split_ifs <;> exact row_at (by omega) (by omega)

theorem q1 (j : Fin 512) (c : Fin 64) : e201 (BitVec.ofNat 32 t) X (ix2 j c) = ((W.qm t 1 j c : ℝ) : EReal) := by
  have hj : j.val < 512 := j.isLt
  have hc : c.val < 64 := c.isLt
  pointwise [e201, k0_pay40, e185, e186, e189, e190, e193, e194, e197, e198]
  simp only [hX.cur, hX.bias]
  split_ifs <;> exact row_at (by omega) (by omega)

theorem k0 (a : Fin 256) (c : Fin 64) : e71 (BitVec.ofNat 32 t) X (ix2 a c) = ((W.km t (512 + 64 * 0) a c : ℝ) : EReal) := by
  have ha : a.val < 256 := a.isLt
  have hc : c.val < 64 := c.isLt
  pointwise [e71, k0_pay14, e63, e64, e67, e68]
  simp only [hX.cur, hX.prev, hX.bias]
  split_ifs with h
  · exact row_at (by simp only [if_pos h]) (by omega)
  · exact row_at (by simp only [if_neg h]) (by omega)

theorem k1 (a : Fin 256) (c : Fin 64) : e210 (BitVec.ofNat 32 t) X (ix2 a c) = ((W.km t (512 + 64 * 1) a c : ℝ) : EReal) := by
  have ha : a.val < 256 := a.isLt
  have hc : c.val < 64 := c.isLt
  pointwise [e210, k0_pay41, e202, e203, e206, e207]
  simp only [hX.cur, hX.prev, hX.bias]
  split_ifs with h
  · exact row_at (by simp only [if_pos h]) (by omega)
  · exact row_at (by simp only [if_neg h]) (by omega)

theorem v0 (a : Fin 256) (c : Fin 64) : e80 (BitVec.ofNat 32 t) X (ix2 a c) = ((W.km t (640 + 64 * 0) a c : ℝ) : EReal) := by
  have ha : a.val < 256 := a.isLt
  have hc : c.val < 64 := c.isLt
  pointwise [e80, k0_pay15, e72, e73, e76, e77]
  simp only [hX.cur, hX.prev, hX.bias]
  split_ifs with h
  · exact row_at (by simp only [if_pos h]) (by omega)
  · exact row_at (by simp only [if_neg h]) (by omega)

theorem v1 (a : Fin 256) (c : Fin 64) : e219 (BitVec.ofNat 32 t) X (ix2 a c) = ((W.km t (640 + 64 * 1) a c : ℝ) : EReal) := by
  have ha : a.val < 256 := a.isLt
  have hc : c.val < 64 := c.isLt
  pointwise [e219, k0_pay42, e211, e212, e215, e216]
  simp only [hX.cur, hX.prev, hX.bias]
  split_ifs with h
  · exact row_at (by simp only [if_pos h]) (by omega)
  · exact row_at (by simp only [if_neg h]) (by omega)

theorem d0 (j : Fin 512) (c : Fin 64) : (k0_pay24 (F := Ideal) (e113 (BitVec.ofNat 32 t) X) (e114 (BitVec.ofNat 32 t) X) (e115 (BitVec.ofNat 32 t) X) (e116 (BitVec.ofNat 32 t) X)) (ix2 j c) = ((W.dm t 0 j c : ℝ) : EReal) := by
  have hj : j.val < 512 := j.isLt
  have hc : c.val < 64 := c.isLt
  pointwise [k0_pay24, e113, e114, e115, e116]
  simp only [hX.dout]
  split_ifs <;> exact out_at (by omega) (by omega)

theorem z0 (j : Fin 512) : (k0_pay17 (F := Ideal) (e88 (BitVec.ofNat 32 t) X) (e90 (BitVec.ofNat 32 t) X) (e92 (BitVec.ofNat 32 t) X) (e94 (BitVec.ofNat 32 t) X)) (ix2 0 j) = ((W.zm 0 j : ℝ) : EReal) := by
  have hj : j.val < 512 := j.isLt
  pointwise [k0_pay17, e88, e90, e92, e94]
  simp only [hX.sink]
  unfold Rows.zm
  split_ifs <;> exact congrArg (fun i => ((W.Z i : ℝ) : EReal)) (by omega)

theorem d1 (j : Fin 512) (c : Fin 64) : (k0_pay24 (F := Ideal) (e252 (BitVec.ofNat 32 t) X) (e253 (BitVec.ofNat 32 t) X) (e254 (BitVec.ofNat 32 t) X) (e255 (BitVec.ofNat 32 t) X)) (ix2 j c) = ((W.dm t 1 j c : ℝ) : EReal) := by
  have hj : j.val < 512 := j.isLt
  have hc : c.val < 64 := c.isLt
  pointwise [k0_pay24, e252, e253, e254, e255]
  simp only [hX.dout]
  split_ifs <;> exact out_at (by omega) (by omega)

theorem z1 (j : Fin 512) : (k0_pay17 (F := Ideal) (e227 (BitVec.ofNat 32 t) X) (e229 (BitVec.ofNat 32 t) X) (e231 (BitVec.ofNat 32 t) X) (e233 (BitVec.ofNat 32 t) X)) (ix2 0 j) = ((W.zm 1 j : ℝ) : EReal) := by
  have hj : j.val < 512 := j.isLt
  pointwise [k0_pay17, e227, e229, e231, e233]
  simp only [hX.sink]
  unfold Rows.zm
  split_ifs <;> exact congrArg (fun i => ((W.Z i : ℝ) : EReal)) (by omega)

theorem mask_at (a : Fin 256) (j : Fin 512) : e41 (BitVec.ofNat 32 t) X (ix2 a j) = if Rows.seen t j a then 1#1 else 0#1 := mask_eq t ht a j

theorem w0 (a : Fin 256) (c : Fin 64) : (k0_pay25 (F := Ideal) (e80 (BitVec.ofNat 32 t) X)) (ix2 a c) = ((W.km t (640 + 64 * 0) a c : ℝ) : EReal) := by
  pointwise [k0_pay25]
  exact v0 ht hX a c

theorem p0 (a : Fin 256) (j : Fin 512) : (k0_pay22 (F := Ideal) (e41 (BitVec.ofNat 32 t) X) (e62 (BitVec.ofNat 32 t) X) (e71 (BitVec.ofNat 32 t) X) (e88 (BitVec.ofNat 32 t) X) (e90 (BitVec.ofNat 32 t) X) (e92 (BitVec.ofNat 32 t) X) (e94 (BitVec.ofNat 32 t) X)) (ix2 a j) = ((W.probs t 0 j a : ℝ) : EReal) :=
  eq_prob _ _ _ _ _ _ _ (fun j a => Rows.seen t j a) (fun j c => W.qm t 0 j c) (fun a c => W.km t (512 + 64 * 0) a c) (fun j => W.zm 0 j) (mask_at ht hX) (q0 ht hX) (k0 ht hX) (z0 ht hX) a j

theorem u0 (j : Fin 512) : (k0_pay23 (F := Ideal) (e41 (BitVec.ofNat 32 t) X) (e62 (BitVec.ofNat 32 t) X) (e71 (BitVec.ofNat 32 t) X) (e88 (BitVec.ofNat 32 t) X) (e90 (BitVec.ofNat 32 t) X) (e92 (BitVec.ofNat 32 t) X) (e94 (BitVec.ofNat 32 t) X)) (ix2 0 j) = ((ps (Rows.seen t j) (W.scores t 0 j) (W.zm 0 j) : ℝ) : EReal) :=
  eq_sink _ _ _ _ _ _ _ (fun j a => Rows.seen t j a) (fun j c => W.qm t 0 j c) (fun a c => W.km t (512 + 64 * 0) a c) (fun j => W.zm 0 j) (mask_at ht hX) (q0 ht hX) (k0 ht hX) (z0 ht hX) j

theorem dq0 (j : Fin 512) (c : Fin 64) : e131 (BitVec.ofNat 32 t) X (ix2 j c) = ((W.dq t 0 j c : ℝ) : EReal) :=
  eq_dq (k0_pay22 (F := Ideal) (e41 (BitVec.ofNat 32 t) X) (e62 (BitVec.ofNat 32 t) X) (e71 (BitVec.ofNat 32 t) X) (e88 (BitVec.ofNat 32 t) X) (e90 (BitVec.ofNat 32 t) X) (e92 (BitVec.ofNat 32 t) X) (e94 (BitVec.ofNat 32 t) X)) (k0_pay24 (F := Ideal) (e113 (BitVec.ofNat 32 t) X) (e114 (BitVec.ofNat 32 t) X) (e115 (BitVec.ofNat 32 t) X) (e116 (BitVec.ofNat 32 t) X)) (k0_pay25 (F := Ideal) (e80 (BitVec.ofNat 32 t) X)) (fun j a => Rows.seen t j a) (fun j => W.scores t 0 j) (fun j => W.zm 0 j) (fun j c => W.dm t 0 j c) (fun a c => W.km t (640 + 64 * 0) a c) (p0 ht hX) (d0 ht hX) (w0 ht hX) (e71 (BitVec.ofNat 32 t) X) (fun a c => W.km t (512 + 64 * 0) a c) (k0 ht hX) j c

theorem dk0 (a : Fin 256) (c : Fin 64) : e135 (BitVec.ofNat 32 t) X (ix2 a c) = ((W.dk t 0 a c : ℝ) : EReal) :=
  eq_dk (k0_pay22 (F := Ideal) (e41 (BitVec.ofNat 32 t) X) (e62 (BitVec.ofNat 32 t) X) (e71 (BitVec.ofNat 32 t) X) (e88 (BitVec.ofNat 32 t) X) (e90 (BitVec.ofNat 32 t) X) (e92 (BitVec.ofNat 32 t) X) (e94 (BitVec.ofNat 32 t) X)) (k0_pay24 (F := Ideal) (e113 (BitVec.ofNat 32 t) X) (e114 (BitVec.ofNat 32 t) X) (e115 (BitVec.ofNat 32 t) X) (e116 (BitVec.ofNat 32 t) X)) (k0_pay25 (F := Ideal) (e80 (BitVec.ofNat 32 t) X)) (fun j a => Rows.seen t j a) (fun j => W.scores t 0 j) (fun j => W.zm 0 j) (fun j c => W.dm t 0 j c) (fun a c => W.km t (640 + 64 * 0) a c) (p0 ht hX) (d0 ht hX) (w0 ht hX) (e62 (BitVec.ofNat 32 t) X) (fun j c => W.qm t 0 j c) (q0 ht hX) a c

theorem dv0 (a : Fin 256) (c : Fin 64) : e139 (BitVec.ofNat 32 t) X (ix2 a c) = ((W.dv t 0 a c : ℝ) : EReal) :=
  eq_dv (k0_pay22 (F := Ideal) (e41 (BitVec.ofNat 32 t) X) (e62 (BitVec.ofNat 32 t) X) (e71 (BitVec.ofNat 32 t) X) (e88 (BitVec.ofNat 32 t) X) (e90 (BitVec.ofNat 32 t) X) (e92 (BitVec.ofNat 32 t) X) (e94 (BitVec.ofNat 32 t) X)) (k0_pay24 (F := Ideal) (e113 (BitVec.ofNat 32 t) X) (e114 (BitVec.ofNat 32 t) X) (e115 (BitVec.ofNat 32 t) X) (e116 (BitVec.ofNat 32 t) X)) (fun j a => Rows.seen t j a) (fun j => W.scores t 0 j) (fun j => W.zm 0 j) (fun j c => W.dm t 0 j c)  (p0 ht hX) (d0 ht hX) a c

theorem ds0 (j : Fin 512) : e140 (BitVec.ofNat 32 t) X (ix2 0 j) = ((W.ds t 0 j : ℝ) : EReal) :=
  eq_dsink (k0_pay22 (F := Ideal) (e41 (BitVec.ofNat 32 t) X) (e62 (BitVec.ofNat 32 t) X) (e71 (BitVec.ofNat 32 t) X) (e88 (BitVec.ofNat 32 t) X) (e90 (BitVec.ofNat 32 t) X) (e92 (BitVec.ofNat 32 t) X) (e94 (BitVec.ofNat 32 t) X)) (k0_pay23 (F := Ideal) (e41 (BitVec.ofNat 32 t) X) (e62 (BitVec.ofNat 32 t) X) (e71 (BitVec.ofNat 32 t) X) (e88 (BitVec.ofNat 32 t) X) (e90 (BitVec.ofNat 32 t) X) (e92 (BitVec.ofNat 32 t) X) (e94 (BitVec.ofNat 32 t) X)) (k0_pay24 (F := Ideal) (e113 (BitVec.ofNat 32 t) X) (e114 (BitVec.ofNat 32 t) X) (e115 (BitVec.ofNat 32 t) X) (e116 (BitVec.ofNat 32 t) X)) (k0_pay25 (F := Ideal) (e80 (BitVec.ofNat 32 t) X)) (fun j a => Rows.seen t j a) (fun j => W.scores t 0 j) (fun j => W.zm 0 j) (fun j c => W.dm t 0 j c) (fun a c => W.km t (640 + 64 * 0) a c) (p0 ht hX) (d0 ht hX) (w0 ht hX) (u0 ht hX) j

theorem w1 (a : Fin 256) (c : Fin 64) : (k0_pay25 (F := Ideal) (e219 (BitVec.ofNat 32 t) X)) (ix2 a c) = ((W.km t (640 + 64 * 1) a c : ℝ) : EReal) := by
  pointwise [k0_pay25]
  exact v1 ht hX a c

theorem p1 (a : Fin 256) (j : Fin 512) : (k0_pay22 (F := Ideal) (e41 (BitVec.ofNat 32 t) X) (e201 (BitVec.ofNat 32 t) X) (e210 (BitVec.ofNat 32 t) X) (e227 (BitVec.ofNat 32 t) X) (e229 (BitVec.ofNat 32 t) X) (e231 (BitVec.ofNat 32 t) X) (e233 (BitVec.ofNat 32 t) X)) (ix2 a j) = ((W.probs t 1 j a : ℝ) : EReal) :=
  eq_prob _ _ _ _ _ _ _ (fun j a => Rows.seen t j a) (fun j c => W.qm t 1 j c) (fun a c => W.km t (512 + 64 * 1) a c) (fun j => W.zm 1 j) (mask_at ht hX) (q1 ht hX) (k1 ht hX) (z1 ht hX) a j

theorem u1 (j : Fin 512) : (k0_pay23 (F := Ideal) (e41 (BitVec.ofNat 32 t) X) (e201 (BitVec.ofNat 32 t) X) (e210 (BitVec.ofNat 32 t) X) (e227 (BitVec.ofNat 32 t) X) (e229 (BitVec.ofNat 32 t) X) (e231 (BitVec.ofNat 32 t) X) (e233 (BitVec.ofNat 32 t) X)) (ix2 0 j) = ((ps (Rows.seen t j) (W.scores t 1 j) (W.zm 1 j) : ℝ) : EReal) :=
  eq_sink _ _ _ _ _ _ _ (fun j a => Rows.seen t j a) (fun j c => W.qm t 1 j c) (fun a c => W.km t (512 + 64 * 1) a c) (fun j => W.zm 1 j) (mask_at ht hX) (q1 ht hX) (k1 ht hX) (z1 ht hX) j

theorem dq1 (j : Fin 512) (c : Fin 64) : e270 (BitVec.ofNat 32 t) X (ix2 j c) = ((W.dq t 1 j c : ℝ) : EReal) :=
  eq_dq (k0_pay22 (F := Ideal) (e41 (BitVec.ofNat 32 t) X) (e201 (BitVec.ofNat 32 t) X) (e210 (BitVec.ofNat 32 t) X) (e227 (BitVec.ofNat 32 t) X) (e229 (BitVec.ofNat 32 t) X) (e231 (BitVec.ofNat 32 t) X) (e233 (BitVec.ofNat 32 t) X)) (k0_pay24 (F := Ideal) (e252 (BitVec.ofNat 32 t) X) (e253 (BitVec.ofNat 32 t) X) (e254 (BitVec.ofNat 32 t) X) (e255 (BitVec.ofNat 32 t) X)) (k0_pay25 (F := Ideal) (e219 (BitVec.ofNat 32 t) X)) (fun j a => Rows.seen t j a) (fun j => W.scores t 1 j) (fun j => W.zm 1 j) (fun j c => W.dm t 1 j c) (fun a c => W.km t (640 + 64 * 1) a c) (p1 ht hX) (d1 ht hX) (w1 ht hX) (e210 (BitVec.ofNat 32 t) X) (fun a c => W.km t (512 + 64 * 1) a c) (k1 ht hX) j c

theorem dk1 (a : Fin 256) (c : Fin 64) : e274 (BitVec.ofNat 32 t) X (ix2 a c) = ((W.dk t 1 a c : ℝ) : EReal) :=
  eq_dk (k0_pay22 (F := Ideal) (e41 (BitVec.ofNat 32 t) X) (e201 (BitVec.ofNat 32 t) X) (e210 (BitVec.ofNat 32 t) X) (e227 (BitVec.ofNat 32 t) X) (e229 (BitVec.ofNat 32 t) X) (e231 (BitVec.ofNat 32 t) X) (e233 (BitVec.ofNat 32 t) X)) (k0_pay24 (F := Ideal) (e252 (BitVec.ofNat 32 t) X) (e253 (BitVec.ofNat 32 t) X) (e254 (BitVec.ofNat 32 t) X) (e255 (BitVec.ofNat 32 t) X)) (k0_pay25 (F := Ideal) (e219 (BitVec.ofNat 32 t) X)) (fun j a => Rows.seen t j a) (fun j => W.scores t 1 j) (fun j => W.zm 1 j) (fun j c => W.dm t 1 j c) (fun a c => W.km t (640 + 64 * 1) a c) (p1 ht hX) (d1 ht hX) (w1 ht hX) (e201 (BitVec.ofNat 32 t) X) (fun j c => W.qm t 1 j c) (q1 ht hX) a c

theorem dv1 (a : Fin 256) (c : Fin 64) : e278 (BitVec.ofNat 32 t) X (ix2 a c) = ((W.dv t 1 a c : ℝ) : EReal) :=
  eq_dv (k0_pay22 (F := Ideal) (e41 (BitVec.ofNat 32 t) X) (e201 (BitVec.ofNat 32 t) X) (e210 (BitVec.ofNat 32 t) X) (e227 (BitVec.ofNat 32 t) X) (e229 (BitVec.ofNat 32 t) X) (e231 (BitVec.ofNat 32 t) X) (e233 (BitVec.ofNat 32 t) X)) (k0_pay24 (F := Ideal) (e252 (BitVec.ofNat 32 t) X) (e253 (BitVec.ofNat 32 t) X) (e254 (BitVec.ofNat 32 t) X) (e255 (BitVec.ofNat 32 t) X)) (fun j a => Rows.seen t j a) (fun j => W.scores t 1 j) (fun j => W.zm 1 j) (fun j c => W.dm t 1 j c)  (p1 ht hX) (d1 ht hX) a c

theorem ds1 (j : Fin 512) : e279 (BitVec.ofNat 32 t) X (ix2 0 j) = ((W.ds t 1 j : ℝ) : EReal) :=
  eq_dsink (k0_pay22 (F := Ideal) (e41 (BitVec.ofNat 32 t) X) (e201 (BitVec.ofNat 32 t) X) (e210 (BitVec.ofNat 32 t) X) (e227 (BitVec.ofNat 32 t) X) (e229 (BitVec.ofNat 32 t) X) (e231 (BitVec.ofNat 32 t) X) (e233 (BitVec.ofNat 32 t) X)) (k0_pay23 (F := Ideal) (e41 (BitVec.ofNat 32 t) X) (e201 (BitVec.ofNat 32 t) X) (e210 (BitVec.ofNat 32 t) X) (e227 (BitVec.ofNat 32 t) X) (e229 (BitVec.ofNat 32 t) X) (e231 (BitVec.ofNat 32 t) X) (e233 (BitVec.ofNat 32 t) X)) (k0_pay24 (F := Ideal) (e252 (BitVec.ofNat 32 t) X) (e253 (BitVec.ofNat 32 t) X) (e254 (BitVec.ofNat 32 t) X) (e255 (BitVec.ofNat 32 t) X)) (k0_pay25 (F := Ideal) (e219 (BitVec.ofNat 32 t) X)) (fun j a => Rows.seen t j a) (fun j => W.scores t 1 j) (fun j => W.zm 1 j) (fun j c => W.dm t 1 j c) (fun a c => W.km t (640 + 64 * 1) a c) (p1 ht hX) (d1 ht hX) (w1 ht hX) (u1 ht hX) j

end Point

end Cert.Attn

end
-- ==== Proof.AttnLeft.lean ====
/- What every grid point of the sliding-window attention gradient leaves, in terms of the arrays' rows. -/
module

public import proofs.«01_k».proof.Proof.AttnPoint
public import proofs.«01_k».proof.Proof.AttnCert

@[expose] public section

set_option maxRecDepth 65536

noncomputable section

namespace Cert.Attn

open Idealize.ShloMosaic Idealize.ShloMosaic.TcCoe Idealize.SL.Sem
open Cert.RealLift
open Cert.KernelAIdeal Cert.KernelAIdeal.Gen Cert.AttnModel

namespace Rows

variable (W : Rows) (n : ℕ)

/-- The two halves of the keys a block of queries looks at: the block before, and its own. -/
def lo (r : Fin 128) : Fin 256 := ⟨r.val, by omega⟩
def hi (r : Fin 128) : Fin 256 := ⟨128 + r.val, by omega⟩

/-- A row of the gradient of a block's queries. -/
def oq (r c : ℕ) : ℝ := W.dq n (c / 256) (128 * (c % 256 / 64) + r) (c % 64)
/-- A row of what a block of queries adds to the gradients of the keys and the values it sees. -/
def okv (a : Fin 256) (c : ℕ) : ℝ := if c < 128 then W.dk n (c / 64) a (c % 64) else W.dv n ((c - 128) / 64) a (c % 64)
theorem okv_k (a : Fin 256) (c : ℕ) (h : c < 128) : W.okv n a c = W.dk n (c / 64) a (c % 64) := if_pos h
theorem okv_v (a : Fin 256) (c : ℕ) (h : ¬ c < 128) : W.okv n a c = W.dv n ((c - 128) / 64) a (c % 64) := if_neg h
/-- A row of the block of key and value gradients that point `n` writes: what the point before carried, and its own share. -/
def orow (r : Fin 128) (c : ℕ) : ℝ := (if n = 0 then 0 else W.okv (n - 1) (hi r) c) + W.okv n (lo r) c
/-- What a block of queries adds to a head's sink. -/
def osink (h : ℕ) : ℝ := ∑ x : Fin 128, W.ds n (h / 4) (128 * (h % 4) + x.val)

end Rows

theorem kv_congr {f : ℕ → Fin 256 → ℕ → ℝ} {g g' : ℕ} {a a' : Fin 256} {c c' : ℕ} (h1 : g = g') (h2 : a.val = a'.val) (h3 : c = c') :
    ((f g a c : ℝ) : EReal) = ((f g' a' c' : ℝ) : EReal) := by
  obtain rfl := Fin.ext h2
  subst h1 h3; rfl

theorem q_congr {f : ℕ → ℕ → ℕ → ℝ} {g g' a a' c c' : ℕ} (h1 : g = g') (h2 : a = a') (h3 : c = c') :
    ((f g a c : ℝ) : EReal) = ((f g' a' c' : ℝ) : EReal) := by
  subst h1 h2 h3; rfl

section Step

attribute [local irreducible] Rows.dk Rows.dv Rows.dq Rows.okv

variable {X : Blocks Ideal} {t : ℕ} {W : Rows} (ht : t < 33) (hX : Reads X t W)
include ht hX

theorem dq_block (r : Fin 128) (c : Fin 512) : e325 (BitVec.ofNat 32 t) X (ix2 r c) = ((W.oq t r c : ℝ) : EReal) := by
  have hr : r.val < 128 := r.isLt
  have hc : c.val < 512 := c.isLt
  have e0 : ∀ j c, k0_pay29 (e71 (BitVec.ofNat 32 t) X) (e111 (BitVec.ofNat 32 t) X) (e117 (BitVec.ofNat 32 t) X) (e118 (BitVec.ofNat 32 t) X) (ix2 j c)
      = ((W.dq t 0 j c : ℝ) : EReal) := fun j c => dq0 ht hX j c
  have e1 : ∀ j c, k0_pay55 (e210 (BitVec.ofNat 32 t) X) (e219 (BitVec.ofNat 32 t) X) (e226 (BitVec.ofNat 32 t) X) (e235 (BitVec.ofNat 32 t) X)
      (e236 (BitVec.ofNat 32 t) X) (e252 (BitVec.ofNat 32 t) X) (e253 (BitVec.ofNat 32 t) X) (e254 (BitVec.ofNat 32 t) X) (e255 (BitVec.ofNat 32 t) X) (ix2 j c)
      = ((W.dq t 1 j c : ℝ) : EReal) := fun j c => dq1 ht hX j c
  pointwise [e325, k0_pay61, e141, e152, e163, e174, e280, k0_pay59, k0_pay33, k0_pay34, k0_pay36, k0_pay38]
  simp only [e0, e1, dq0 ht hX, dq1 ht hX]
  unfold Rows.oq
  split_ifs <;> exact q_congr (f := W.dq t) (by omega) (by omega) (by omega)

theorem hi_block (r : Fin 128) (c : Fin 256) : e359 (BitVec.ofNat 32 t) X (ix2 r c) = ((W.okv t (Rows.hi r) c : ℝ) : EReal) := by
  have hr : r.val < 128 := r.isLt
  have hc : c.val < 256 := c.isLt
  pointwise [e359, k0_pay67]
  simp only [dk0 ht hX, dk1 ht hX, dv0 ht hX, dv1 ht hX]
  split_ifs <;> first
    | (rw [Rows.okv_k _ _ _ _ (by omega)]; exact kv_congr (f := W.dk t) (by omega) rfl (by omega))
    | (rw [Rows.okv_v _ _ _ _ (by omega)]; exact kv_congr (f := W.dv t) (by omega) rfl (by omega))

theorem lo_block (zc : Vec Ideal S128x256 .f32) (f : Fin 128 → Fin 256 → ℝ) (hz : ∀ r c, zc (ix2 r c) = ((f r c : ℝ) : EReal)) (r : Fin 128) (c : Fin 256) :
    k0_pay64 (e135 (BitVec.ofNat 32 t) X) (e139 (BitVec.ofNat 32 t) X) (e274 (BitVec.ofNat 32 t) X) (e278 (BitVec.ofNat 32 t) X) zc (ix2 r c)
      = ((f r c + W.okv t (Rows.lo r) c : ℝ) : EReal) := by
  have hr : r.val < 128 := r.isLt
  have hc : c.val < 256 := c.isLt
  pointwise [k0_pay64]
  simp only [dk0 ht hX, dk1 ht hX, dv0 ht hX, dv1 ht hX, hz]
  rw [EReal.coe_add]
  refine congrArg (((f r c : ℝ) : EReal) + ·) ?_
  split_ifs <;> first
    | (rw [Rows.okv_k _ _ _ _ (by omega)]; exact kv_congr (f := W.dk t) (by omega) rfl (by omega))
    | (rw [Rows.okv_v _ _ _ _ (by omega)]; exact kv_congr (f := W.dv t) (by omega) rfl (by omega))

theorem sink_block (h : Fin 8) (l : Fin 128) : e323 (BitVec.ofNat 32 t) X (ix2 h l) = ((-W.osink t h : ℝ) : EReal) := by
  have e0 : ∀ j, k0_pay32 (e111 (BitVec.ofNat 32 t) X) (e112 (BitVec.ofNat 32 t) X) (e117 (BitVec.ofNat 32 t) X) (e118 (BitVec.ofNat 32 t) X) (ix2 0 j)
      = ((W.ds t 0 j : ℝ) : EReal) := fun j => ds0 ht hX j
  have hs : ∀ (k : ℕ) (s : ℝ), k < 8 → Scalar.select (IntOp.cmpi CmpIPredicate.eq (BitVec.ofNat 32 h.val) (BitVec.ofNat 32 k)) (s : EReal) 0
      = (((if h.val = k then s else 0) : ℝ) : EReal) := fun k s hk => by
    have hh : h.val < 8 := h.isLt
    word_cmp
    split_ifs <;> rfl
  pointwise [e323, k0_pay60, e184, k0_pay39, e162, k0_pay35, e165, k0_pay37, e42, e43, k0_pay9]
  simp only [e0, ds0 ht hX, ds1 ht hX, coe_sum]
  rw [hs 0 _ (by omega), hs 1 _ (by omega), hs 2 _ (by omega), hs 3 _ (by omega), hs 4 _ (by omega), hs 5 _ (by omega), hs 6 _ (by omega), hs 7 _ (by omega),
    ← EReal.coe_zero]
  simp only [← EReal.coe_sub]
  refine congrArg (fun x : ℝ => (x : EReal)) ?_
  unfold Rows.osink
  obtain ⟨i, hi⟩ := h
  interval_cases i <;> simp

end Step

/-- What a point leaves, up to and with point `n`. -/
structure Holds (L : Left Ideal) (n : ℕ) (W : Rows) : Prop where
  dq : ∀ (r : Fin 128) (c : Fin 512), L.dq (ix2 r c) = ((W.oq n r c : ℝ) : EReal)
  dkv : ∀ (r : Fin 128) (c : Fin 256), L.dkv (ix2 r c) = ((W.orow n r c : ℝ) : EReal)
  dsink : ∀ (h : Fin 8) (l : Fin 128), L.dsink (ix2 h l) = ((∑ i ∈ Finset.range (n + 1), -W.osink i h : ℝ) : EReal)
  dbq : ∀ c : Fin 512, L.dbq (ix2 0 c) = ((∑ i ∈ Finset.range (n + 1), ∑ r : Fin 128, W.oq i r c : ℝ) : EReal)
  dbkv : ∀ c : Fin 256, L.dbkv (ix2 0 c) = ((∑ i ∈ Finset.range (n + 1), ∑ r : Fin 128, W.orow i r c : ℝ) : EReal)
  carry : ∀ (r : Fin 128) (c : Fin 256), L.carry (ix2 r c) = ((W.okv n (Rows.hi r) c : ℝ) : EReal)

theorem step_holds {X : Blocks Ideal} {t : ℕ} {W : Rows} (ht : t < 33) (hX : Reads X t W)
    (zs : Vec Ideal S8x128 .f32) (zq : Vec Ideal S1x512 .f32) (zk : Vec Ideal S1x256 .f32) (zc : Vec Ideal S128x256 .f32)
    (hs : ∀ (h : Fin 8) (l : Fin 128), zs (ix2 h l) = ((∑ i ∈ Finset.range t, -W.osink i h : ℝ) : EReal))
    (hq : ∀ c : Fin 512, zq (ix2 0 c) = ((∑ i ∈ Finset.range t, ∑ r : Fin 128, W.oq i r c : ℝ) : EReal))
    (hk : ∀ c : Fin 256, zk (ix2 0 c) = ((∑ i ∈ Finset.range t, ∑ r : Fin 128, W.orow i r c : ℝ) : EReal))
    (hc : ∀ (r : Fin 128) (c : Fin 256), zc (ix2 r c) = (((if t = 0 then 0 else W.okv (t - 1) (Rows.hi r) c) : ℝ) : EReal)) :
    Holds (step (BitVec.ofNat 32 t) X zs zq zk zc) t W where
  dq r c := dq_block ht hX r c
  dkv r c := by
    show k0_pay65 _ _ _ _ _ _ = _
    pointwise [k0_pay65]
    exact lo_block ht hX zc _ hc r c
  dsink h l := by
    show k0_pay62 _ _ _ = _
    pointwise [k0_pay62]
    rw [hs, sink_block ht hX, ← EReal.coe_add, Finset.sum_range_succ]
  dbq c := by
    show k0_pay63 _ _ _ = _
    pointwise [k0_pay63]
    simp only [hq, dq_block ht hX]
    rw [coe_sum, ← EReal.coe_add, Finset.sum_range_succ]
  dbkv c := by
    show k0_pay66 _ _ _ _ _ _ _ = _
    pointwise [k0_pay66]
    simp only [hk, lo_block ht hX zc _ hc]
    rw [coe_sum, ← EReal.coe_add, Finset.sum_range_succ]
    rfl
  carry r c := by
    show k0_pay5 (F := Ideal) (e359 (BitVec.ofNat 32 t) X) (ix2 r c) = _
    pointwise [k0_pay5]
    exact hi_block ht hX r c

theorem first_holds {X : Blocks Ideal} {W : Rows} (hX : Reads X 0 W) : Holds (first (BitVec.ofNat 32 0) X) 0 W :=
  step_holds (by omega) hX _ _ _ _ (fun h l => by pointwise [k0_pay2]; simp) (fun c => by pointwise [k0_pay3]; simp)
    (fun c => by pointwise [k0_pay4]; simp) (fun r c => by pointwise [k0_pay1]; simp)

theorem next_holds {X : Blocks Ideal} {W : Rows} {n : ℕ} (hn : n + 1 < 33) (hX : Reads X (n + 1) W) {L : Left Ideal} (hL : Holds L n W) :
    Holds (next (BitVec.ofNat 32 (n + 1)) X L) (n + 1) W :=
  step_holds hn hX _ _ _ _ hL.dsink hL.dbq hL.dbkv (fun r c => by rw [hL.carry]; simp)

/-- The last point writes the rows carried out of the last block. -/
theorem last_dkv {W : Rows} {n : ℕ} {L : Left Ideal} (hL : Holds L n W) (r : Fin 128) (c : Fin 256) :
    (last L).dkv (ix2 r c) = ((W.okv n (Rows.hi r) c : ℝ) : EReal) := by
  show k0_pay6 _ _ = _
  pointwise [k0_pay6]
  exact hL.carry r c

theorem last_dbkv {W : Rows} {n : ℕ} {L : Left Ideal} (hL : Holds L n W) (c : Fin 256) :
    (last L).dbkv (ix2 0 c) = (((∑ i ∈ Finset.range (n + 1), ∑ r : Fin 128, W.orow i r c) + ∑ r : Fin 128, W.okv n (Rows.hi r) c : ℝ) : EReal) := by
  show k0_pay7 _ _ _ = _
  pointwise [k0_pay7]
  simp only [hL.carry, hL.dbkv]
  rw [coe_sum, ← EReal.coe_add]

/-! ## The arrays' rows -/

variable (m : (ℓ : Loc nD τ sig) → Buf (Elt Ideal) ℓ) (c : Dev nD)

/-- Every argument is real. -/
def Real : Prop :=
  (∀ i, IsR ((m ((c.tc : Thread nD τ).loc main_arg0) : FVec Ideal S4096x768 .f32) i))
  ∧ (∀ i, IsR ((m ((c.tc : Thread nD τ).loc main_arg1) : FVec Ideal S1x768 .f32) i))
  ∧ (∀ i, IsR ((m ((c.tc : Thread nD τ).loc main_arg2) : FVec Ideal S1x8 .f32) i))
  ∧ (∀ i, IsR ((m ((c.tc : Thread nD τ).loc main_arg3) : FVec Ideal S4096x512 .f32) i))

def rows : Rows where
  T R C := if h : R < 4096 ∧ C < 768 then ((m ((c.tc : Thread nD τ).loc main_arg0) : FVec Ideal S4096x768 .f32) (ix2 ⟨R, h.1⟩ ⟨C, h.2⟩)).toReal else 0
  B C := if h : C < 768 then ((m ((c.tc : Thread nD τ).loc main_arg1) : FVec Ideal S1x768 .f32) (ix2 0 ⟨C, h⟩)).toReal else 0
  G R C := if h : R < 4096 ∧ C < 512 then ((m ((c.tc : Thread nD τ).loc main_arg3) : FVec Ideal S4096x512 .f32) (ix2 ⟨R, h.1⟩ ⟨C, h.2⟩)).toReal else 0
  Z h := if h' : h < 8 then ((m ((c.tc : Thread nD τ).loc main_arg2) : FVec Ideal S1x8 .f32) (ix2 0 ⟨h, h'⟩)).toReal else 0

variable (hf : Real m c)
include hf

theorem arg0_at (R : Fin 4096) (C : Fin 768) : (m ((c.tc : Thread nD τ).loc main_arg0) : FVec Ideal S4096x768 .f32) (ix2 R C) = (((rows m c).T R C : ℝ) : EReal) := by
  rw [rows]; simp only [R.isLt, C.isLt, and_self, dite_true]
  exact hf.1 _

theorem arg1_at (C : Fin 768) : (m ((c.tc : Thread nD τ).loc main_arg1) : FVec Ideal S1x768 .f32) (ix2 0 C) = (((rows m c).B C : ℝ) : EReal) := by
  rw [rows]; simp only [C.isLt, dite_true]
  exact hf.2.1 _

theorem arg2_at (C : Fin 8) : (m ((c.tc : Thread nD τ).loc main_arg2) : FVec Ideal S1x8 .f32) (ix2 0 C) = (((rows m c).Z C : ℝ) : EReal) := by
  rw [rows]; simp only [C.isLt, dite_true]
  exact hf.2.2.1 _

theorem arg3_at (R : Fin 4096) (C : Fin 512) : (m ((c.tc : Thread nD τ).loc main_arg3) : FVec Ideal S4096x512 .f32) (ix2 R C) = (((rows m c).G R C : ℝ) : EReal) := by
  rw [rows]; simp only [R.isLt, C.isLt, and_self, dite_true]
  exact hf.2.2.2 _

omit hf in
theorem idx : ∀ t : Fin cfg0.N, win0_0.index t = ![0, 0] ∧ win0_1.index t = ![min t.val 31, 0] ∧ win0_2.index t = ![min (t.val - 1) 30, 0]
    ∧ win0_3.index t = ![0, 0] ∧ win0_4.index t = ![min t.val 31, 0] ∧ win0_5.index t = ![min t.val 31, 0] ∧ win0_6.index t = ![t.val - 1, 0]
    ∧ win0_7.index t = ![0, 0] ∧ win0_8.index t = ![0, 0] ∧ win0_9.index t = ![0, 0] ∧ (grid0.coords t 0).val = t.val :=
  (by decide +kernel : ∀ t : Fin grid0.N, _)

theorem reads (t : Fin cfg0.N) (ht : t.val < 32) : Reads (blocks m c t) t.val (rows m c) where
  cur r k := by
    have hr : r.val < 128 := r.isLt
    have e : (show FVec Ideal S128x768 .f32 from iblk m c 1 t) (ix2 r k) = m ((c.tc : Thread nD τ).loc main_arg0) (ix2 ⟨128 * t.val + r.val, by omega⟩ k) := by
      blk_point [iblk, V, idx t]
    exact e.trans (arg0_at m c hf _ _)
  prev r k := by
    have hr : r.val < 128 := r.isLt
    have e : (show FVec Ideal S128x768 .f32 from iblk m c 2 t) (ix2 r k) = m ((c.tc : Thread nD τ).loc main_arg0) (ix2 ⟨128 * (t.val - 1) + r.val, by omega⟩ k) := by
      blk_point [iblk, V, idx t]
    exact e.trans (arg0_at m c hf _ _)
  bias k := by
    have e : (show FVec Ideal S1x768 .f32 from iblk m c 3 t) (ix2 0 k) = m ((c.tc : Thread nD τ).loc main_arg1) (ix2 0 k) := by
      blk_point [iblk, V, idx t]
    exact e.trans (arg1_at m c hf _)
  dout r k := by
    have hr : r.val < 128 := r.isLt
    have e : (show FVec Ideal S128x512 .f32 from iblk m c 4 t) (ix2 r k) = m ((c.tc : Thread nD τ).loc main_arg3) (ix2 ⟨128 * t.val + r.val, by omega⟩ k) := by
      blk_point [iblk, V, idx t]
    exact e.trans (arg3_at m c hf _ _)
  sink h := by
    have e : (show FVec Ideal S1x8 .f32 from iblk m c 0 t) (ix2 0 h) = m ((c.tc : Thread nD τ).loc main_arg2) (ix2 0 h) := by
      blk_point [iblk, V, idx t]
    exact e.trans (arg2_at m c hf _)

theorem left_holds : ∀ (n : ℕ) (h : n < cfg0.N), n < 32 → Holds (left m c n h) n (rows m c)
  | 0, h, _ => by
    rw [left_first m c ⟨0, h⟩ rfl]
    have e : num (⟨0, h⟩ : Fin cfg0.N) = BitVec.ofNat 32 0 := by rw [num, (idx ⟨0, h⟩).2.2.2.2.2.2.2.2.2.2]
    rw [e]
    exact first_holds (reads m c hf ⟨0, h⟩ (by omega))
  | n + 1, h, hn => by
    have ih := left_holds n (by omega) (by omega)
    rw [left_next m c ⟨n + 1, h⟩ (by simp) (by simp only; omega)]
    have e : num (⟨n + 1, h⟩ : Fin cfg0.N) = BitVec.ofNat 32 (n + 1) := by rw [num, (idx ⟨n + 1, h⟩).2.2.2.2.2.2.2.2.2.2]
    rw [e]
    exact next_holds (by omega) (reads m c hf ⟨n + 1, h⟩ hn) ih

end Cert.Attn

end
-- ==== Proof.AttnRef.lean ====
/- The reference of the sliding-window attention gradient, stage by stage, in terms of the arrays' rows. -/
module

public import proofs.«01_k».proof.Proof.AttnLeft
public import proofs.«01_k».proof.Proof.Gen.ReferenceAIdeal.Read
public import Idealize.ShloMosaic.Lib.IdealHost

@[expose] public section

set_option maxRecDepth 65536

noncomputable section

namespace Cert.Attn

open Idealize.ShloMosaic Idealize.ShloMosaic.TcCoe Idealize.SL.Sem
open Cert.RealLift
open Cert.ReferenceAIdeal Cert.ReferenceAIdeal.Gen Cert.ReferenceAIdeal.Read Cert.AttnModel

/-! ## Sums, the maximum, the count of keys that reach it -/

theorem sum_heads (f : ℕ → ℝ) : ∑ j : Fin 512, f j.val = ∑ h : Fin 4, ∑ r : Fin 128, f (128 * h.val + r.val) := by
  rw [← Fintype.sum_prod_type' (f := fun (h : Fin 4) (r : Fin 128) => f (128 * h.val + r.val))]
  refine (Equiv.sum_comp (finProdFinEquiv : Fin 4 × Fin 128 ≃ Fin 512) (fun j : Fin 512 => f j.val)).symm.trans ?_
  refine Finset.sum_congr rfl fun x _ => congrArg f ?_
  show x.2.val + 128 * x.1.val = _
  omega

theorem sum_blocks_heads (A : FVec Ideal S32x2x4x128x1 .f32) (init : FVec Ideal S_ .f32) (g : Fin 2) (h : Fin 4) :
    Host.reduceAdd A init reducesTo_S32x2x4x128x1_S2x4x1_d0_3 h_S_ (ix3 g h 0)
      = init (Shape.Idx.first h_S_) + ∑ n : Fin 32, ∑ r : Fin 128, A (ix5 n g h r 0) := by
  rw [show @Host.reduceAdd Ideal _ _ _ _ _ _ A init _ _ = fun j => Ideal.hostReduceAdd _ A (init (Shape.Idx.first h_S_)) j from rfl]
  refine congrArg (init (Shape.Idx.first h_S_) + ·) ?_
  rw [← Fintype.sum_prod_type' (f := fun (n : Fin 32) (r : Fin 128) => A (ix5 n g h r 0))]
  refine Finset.sum_filter_eq_sum_of_fiber _ (fun k : Fin 32 × Fin 128 => ix5 k.1 g h k.2 (0 : Fin 1)) (fun x y e => Prod.ext (show (ix5 x.1 g h x.2 (0 : Fin 1)) 0 = (ix5 y.1 g h y.2 (0 : Fin 1)) 0 from congrFun e 0) (show (ix5 x.1 g h x.2 (0 : Fin 1)) 3 = (ix5 y.1 g h y.2 (0 : Fin 1)) 3 from congrFun e 3)) (fun i => ?_) A
  constructor
  · intro e
    refine ⟨(i 0, i 3), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
    | ⟨4, _⟩ => exact (congrArg Fin.val (congrFun e 2)).symm
  · rintro ⟨k, rfl⟩
    funext b; apply Fin.ext
    match b with
    | ⟨0, _⟩ => rfl
    | ⟨1, _⟩ => rfl
    | ⟨2, _⟩ => rfl

theorem sum_heads_only (A : FVec Ideal S1x2x4x1x1 .f32) (init : FVec Ideal S_ .f32) (g : Fin 2) (h : Fin 4) :
    Host.reduceAdd A init reducesTo_S1x2x4x1x1_S2x4_d0_3_4 h_S_ (ix2 g h) = init (Shape.Idx.first h_S_) + A (ix5 0 g h 0 0) := by
  rw [show @Host.reduceAdd Ideal _ _ _ _ _ _ A init _ _ = fun j => Ideal.hostReduceAdd _ A (init (Shape.Idx.first h_S_)) j from rfl]
  refine congrArg (init (Shape.Idx.first h_S_) + ·) ?_
  refine (Finset.sum_filter_eq_sum_of_fiber _ (fun _ : Fin 1 => ix5 0 g h 0 0) (fun _ _ _ => Subsingleton.elim _ _) (fun i => ?_) A).trans (Fin.sum_univ_one _)
  constructor
  · intro e
    refine ⟨0, ?_⟩
    funext a; apply Fin.ext
    match a with
    | ⟨0, _⟩ => exact (Nat.lt_one_iff.mp (show (i 0).val < 1 from (i 0).isLt)).symm
    | ⟨1, _⟩ => exact (congrArg Fin.val (congrFun e 0)).symm
    | ⟨2, _⟩ => exact (congrArg Fin.val (congrFun e 1)).symm
    | ⟨3, _⟩ => exact (Nat.lt_one_iff.mp (show (i 3).val < 1 from (i 3).isLt)).symm
    | ⟨4, _⟩ => exact (Nat.lt_one_iff.mp (show (i 4).val < 1 from (i 4).isLt)).symm
  · rintro ⟨k, rfl⟩
    funext b; apply Fin.ext
    match b with
    | ⟨0, _⟩ => rfl
    | ⟨1, _⟩ => rfl

theorem count_ne (f : Fin 256 → Prop) [DecidablePred f] (k : Fin 256) (hk : f k) :
    (∑ x, (FloatOps.uitofp (F := Ideal) FTy.f32 (BitVec.ofBool (decide (f x))) : EReal)) ≠ 0 := by
  have e : ∀ x, (FloatOps.uitofp (F := Ideal) FTy.f32 (BitVec.ofBool (decide (f x))) : EReal) = (((if f x then 1 else 0) : ℝ) : EReal) := fun x => by
    by_cases hx : f x
    · rw [if_pos hx, decide_eq_true hx]; show (((BitVec.ofBool true).toNat : ℝ) : EReal) = _; simp
    · rw [if_neg hx, decide_eq_false hx]; show (((BitVec.ofBool false).toNat : ℝ) : EReal) = _; simp
  rw [Finset.sum_congr rfl fun x _ => e x, coe_sum]
  have : (0 : ℝ) < ∑ x, (if f x then (1 : ℝ) else 0) :=
    Finset.sum_pos' (fun x _ => by split_ifs <;> norm_num) ⟨k, Finset.mem_univ k, by rw [if_pos hk]; norm_num⟩
  exact fun h => this.ne' (EReal.coe_eq_zero.mp h)

theorem div_zero_left {y : EReal} (h : y ≠ 0) : Ideal.div 0 y = 0 := by
  unfold Ideal.div
  rw [if_neg h, zero_mul]

/-! ## The stages -/

section Ref

variable (x0 : FVec Ideal S4096x768 .f32) (x1 : FVec Ideal S1x768 .f32) (x2 : FVec Ideal S1x8 .f32) (x3 : FVec Ideal S4096x512 .f32)
variable (W : Rows) (h0 : ∀ (R : Fin 4096) (C : Fin 768), x0 (ix2 R C) = ((W.T R C : ℝ) : EReal))
  (h1 : ∀ C : Fin 768, x1 (ix2 0 C) = ((W.B C : ℝ) : EReal)) (h2 : ∀ C : Fin 8, x2 (ix2 0 C) = ((W.Z C : ℝ) : EReal))
  (h3 : ∀ (R : Fin 4096) (C : Fin 512), x3 (ix2 R C) = ((W.G R C : ℝ) : EReal))
variable (n : Fin 32) (g : Fin 2) (h : Fin 4) (r : Fin 128)

theorem mask_ref (a : Fin 256) : val_main_v63_1 (F := Ideal) (ix5 n g h r a) = if Rows.seen n (128 * h.val + r.val) a then 1#1 else 0#1 := by
  have hr : r.val < 128 := r.isLt
  pointwise [val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63_1, val_main_c, val_main_c_4, val_main_c_5, val_main_c_6, val_main_c_7, val_main_c_8]
  rw [band, present, and_bits]
  refine if_congr ?_ rfl rfl
  have e : (128 * h.val + r.val) % 128 = r.val := by omega
  unfold Rows.seen
  rw [decide_eq_true_iff, decide_eq_true_iff, e]
  exact and_assoc

include h0 h1 in
theorem q_ref (c : Fin 64) : val_main_v11 (F := Ideal) x0 x1 (ix5 n r g h c) = ((W.qm n g (128 * h.val + r.val) c : ℝ) : EReal) := by
  have hr : r.val < 128 := r.isLt
  have hc : c.val < 64 := c.isLt
  pointwise [val_main_v11, val_main_v7, val_main_v4, val_main_v3, val_main_v2, val_main_v1, val_main_v0]
  rw [h0, h1]
  exact row_at (by simp only; omega) (by simp only; omega)

include h0 h1 in
theorem k_ref (a : Fin 256) (c : Fin 64) : val_main_v18 (F := Ideal) x0 x1 (ix4 n a g c) = ((W.kz n (512 + 64 * g.val) a c : ℝ) : EReal) := by
  have ha : a.val < 256 := a.isLt
  have hc : c.val < 64 := c.isLt
  have hg : g.val < 2 := g.isLt
  pointwise [val_main_v18, val_main_v17, val_main_v16, val_main_v15, val_main_v13, val_main_v12, val_main_v8, val_main_v5, val_main_v3, val_main_v2, val_main_v1, val_main_v0, val_main_cst]
  simp only [h0, h1]
  unfold Rows.kz
  split_ifs <;> first
    | exact EReal.coe_zero.symm
    | (exfalso; omega)
    | (unfold Rows.km; exact row_at (by split_ifs <;> first | omega | (simp only; omega)) (by first | omega | (simp only; omega)))

include h0 h1 in
theorem v_ref (a : Fin 256) (c : Fin 64) : val_main_v25 (F := Ideal) x0 x1 (ix4 n a g c) = ((W.kz n (640 + 64 * g.val) a c : ℝ) : EReal) := by
  have ha : a.val < 256 := a.isLt
  have hc : c.val < 64 := c.isLt
  have hg : g.val < 2 := g.isLt
  pointwise [val_main_v25, val_main_v24, val_main_v23, val_main_v22, val_main_v20, val_main_v19, val_main_v9, val_main_v6, val_main_v3, val_main_v2, val_main_v1, val_main_v0, val_main_cst_1]
  simp only [h0, h1]
  unfold Rows.kz
  split_ifs <;> first
    | exact EReal.coe_zero.symm
    | (exfalso; omega)
    | (unfold Rows.km; exact row_at (by split_ifs <;> first | omega | (simp only; omega)) (by first | omega | (simp only; omega)))

include h3 in
theorem d_ref (c : Fin 64) : val_main_v111 (F := Ideal) x3 (ix5 n g c h r) = ((W.dm n g (128 * h.val + r.val) c : ℝ) : EReal) := by
  have hr : r.val < 128 := r.isLt
  have hc : c.val < 64 := c.isLt
  pointwise [val_main_v111, val_main_v110]
  rw [h3]
  exact out_at (by simp only; omega) (by simp only; omega)

include h2 in
theorem z_ref : val_main_v65 (F := Ideal) x2 (ix5 0 g h 0 0) = ((W.zm g (128 * h.val + r.val) : ℝ) : EReal) := by
  have hr : r.val < 128 := r.isLt
  pointwise [val_main_v65, val_main_v64, val_main_v10]
  rw [h2]
  unfold Rows.zm
  exact congrArg (fun i => ((W.Z i : ℝ) : EReal)) (by simp only; omega)

local notation "𝐏" => Rows.seen n (128 * h.val + r.val)
local notation "𝐀" => W.zscores n g (128 * h.val + r.val)
local notation "𝐙" => W.zm g (128 * h.val + r.val)
local notation "𝐃" => W.zintos n g (128 * h.val + r.val)

include h0 h1 in
theorem s_ref (a : Fin 256) : val_main_v63_0 (F := Ideal) x0 x1 (ix5 n g h r a) = sc 𝐏 𝐀 a := by
  pointwise [val_main_v63_0, val_main_v29, val_main_v28, val_main_v27, val_main_v26, val_main_cst_3, val_main_call0_v2]
  rw [mask_ref]
  unfold sc
  cases hs : 𝐏 a with
  | true =>
    simp only [k_ref x0 x1 W h0 h1, q_ref x0 x1 W h0 h1, ← EReal.coe_mul]
    rw [coe_sum, bits_eighth, ← EReal.coe_mul]
    rfl
  | false =>
    simp only [Bool.false_eq_true, if_false]
    exact bits_bot

include h0 h1 in
theorem max_ref : ∃ m : ℝ, val_main_v66 (F := Ideal) x0 x1 (ix4 n g h r) = (m : EReal) ∧ ∃ a, val_main_v63_0 (F := Ideal) x0 x1 (ix5 n g h r a) = (m : EReal) := by
  obtain ⟨m, e, k, ek⟩ := fold_seen 𝐏 𝐀 ⟨128 + r.val, by omega⟩ (see n r h r.isLt)
  refine ⟨m, ?_, k, (s_ref x0 x1 W h0 h1 n g h r k).trans ek⟩
  rw [← e]
  pointwise [val_main_v66, val_main_cst_10]
  rw [bits_bot]
  congr 1
  funext a
  exact s_ref x0 x1 W h0 h1 n g h r a

include h0 h1 in
theorem count_ref : val_main_v71 (F := Ideal) x0 x1 (ix4 n g h r) ≠ 0 := by
  obtain ⟨m, e, k, ek⟩ := max_ref x0 x1 W h0 h1 n g h r
  pointwise [val_main_v71, val_main_v70, val_main_v69, val_main_v68, val_main_v67, val_main_cst_11]
  exact count_ne (fun x => val_main_v63_0 (F := Ideal) x0 x1 (ix5 n g h r x) = val_main_v66 (F := Ideal) x0 x1 (ix4 n g h r)) k (ek.trans e.symm)

include h0 h1 h2 in
theorem top_ref : ∃ m : ℝ, val_main_v74 (F := Ideal) x0 x1 x2 (ix5 n g h r 0) = (m : EReal) := by
  obtain ⟨m, e, -⟩ := max_ref x0 x1 W h0 h1 n g h r
  have e1 : val_main_v72 (F := Ideal) x0 x1 (ix5 n g h r 0) = (m : EReal) := by
    pointwise [val_main_v72]
    exact e
  have e2 : val_main_v73 (F := Ideal) x2 (ix5 n g h r 0) = ((𝐙 : ℝ) : EReal) := by
    pointwise [val_main_v73]
    exact z_ref x2 W h2 g h r
  refine ⟨max m 𝐙, ?_⟩
  rw [val_main_v74_apply, e1, e2]
  exact (coe_max _ _).symm

section Top

variable (m : ℝ) (hm : val_main_v74 (F := Ideal) x0 x1 x2 (ix5 n g h r 0) = (m : EReal))
include h0 h1 hm

theorem exp_ref (a : Fin 256) : val_main_v95 (F := Ideal) x0 x1 x2 (ix5 n g h r a) = ((wt 𝐏 𝐀 a * Real.exp (-m) : ℝ) : EReal) := by
  pointwise [val_main_v95, val_main_v94, val_main_v93]
  rw [hm, s_ref x0 x1 W h0 h1, exp_sc]

include h2

omit h0 h1 in
theorem expz_ref : val_main_v100 (F := Ideal) x0 x1 x2 (ix5 n g h r 0) = ((Real.exp 𝐙 * Real.exp (-m) : ℝ) : EReal) := by
  have e : val_main_v98 (F := Ideal) x2 (ix5 n g h r 0) = ((𝐙 : ℝ) : EReal) := by
    pointwise [val_main_v98]
    exact z_ref x2 W h2 g h r
  pointwise [val_main_v100, val_main_v99]
  rw [hm, e, exp_sink]

theorem tot_ref : val_main_v101 (F := Ideal) x0 x1 x2 (ix5 n g h r 0) = ((tot 𝐏 𝐀 𝐙 * Real.exp (-m) : ℝ) : EReal) := by
  pointwise [val_main_v101, val_main_v97, val_main_v96, val_main_cst_18]
  simp only [exp_ref x0 x1 x2 W h0 h1 n g h r m hm, expz_ref x0 x1 x2 W h2 n g h r m hm]
  rw [coe_sum, ← EReal.coe_add, ← Finset.sum_mul, ← add_mul]
  rfl

theorem prob_ref (a : Fin 256) : val_main_v103 (F := Ideal) x0 x1 x2 (ix5 n g h r a) = ((W.probs n g (128 * h.val + r.val) a : ℝ) : EReal) := by
  pointwise [val_main_v103, val_main_v102]
  rw [exp_ref x0 x1 x2 W h0 h1 n g h r m hm, tot_ref x0 x1 x2 W h0 h1 h2 n g h r m hm, coe_div _ (scaled_ne _ _ _ m), pr_scaled, W.zprobs]

include h3

omit h2 hm in
theorem into_ref (a : Fin 256) : val_main_v112 (F := Ideal) x0 x1 x3 (ix5 n g h r a) = ((𝐃 a : ℝ) : EReal) := by
  pointwise [val_main_v112]
  simp only [d_ref x3 W h3, v_ref x0 x1 W h0 h1, ← EReal.coe_mul]
  exact coe_sum _ _

theorem avg_ref : val_main_v120 (F := Ideal) x0 x1 x2 x3 (ix5 n g h r 0)
    = ((-(avg 𝐏 𝐀 𝐙 𝐃 / (tot 𝐏 𝐀 𝐙 * Real.exp (-m))) : ℝ) : EReal) := by
  pointwise [val_main_v120, val_main_v119, val_main_v118, val_main_v117, val_main_v116, val_main_v115, val_main_v106, val_main_v105, val_main_v104,
    val_main_cst_19, val_main_cst_20]
  have ht := scaled_ne 𝐏 𝐀 𝐙 m
  rw [tot_ref x0 x1 x2 W h0 h1 h2 n g h r m hm]
  simp only [exp_ref x0 x1 x2 W h0 h1 n g h r m hm, into_ref x0 x1 x3 W h0 h1 h3]
  rw [← EReal.coe_mul, ← EReal.coe_one, coe_div _ (mul_ne_zero ht ht)]
  simp only [← EReal.coe_mul]
  rw [coe_sum, ← EReal.coe_neg, avg_scaled]

theorem inner_ref (a : Fin 256) : val_main_v130 (F := Ideal) x0 x1 x2 x3 (ix5 n g h r a)
    = ((pr 𝐏 𝐀 𝐙 a * (𝐃 a - avg 𝐏 𝐀 𝐙 𝐃) : ℝ) : EReal) := by
  pointwise [val_main_v130, val_main_v129, val_main_v128, val_main_v127, val_main_v122, val_main_v121, val_main_cst_22]
  rw [Fin.sum_univ_one, avg_ref x0 x1 x2 x3 W h0 h1 h2 h3 n g h r m hm, tot_ref x0 x1 x2 W h0 h1 h2 n g h r m hm, exp_ref x0 x1 x2 W h0 h1 n g h r m hm,
    into_ref x0 x1 x3 W h0 h1 h3, coe_div _ (scaled_ne _ _ _ m), ← EReal.coe_add, ← EReal.coe_mul, gr_scaled]

theorem sinkrow_ref : val_main_v123 (F := Ideal) x0 x1 x2 x3 (ix5 n g h r 0) = ((-W.ds n g (128 * h.val + r.val) : ℝ) : EReal) := by
  pointwise [val_main_v123]
  rw [avg_ref x0 x1 x2 x3 W h0 h1 h2 h3 n g h r m hm, expz_ref x0 x1 x2 W h2 n g h r m hm, ← EReal.coe_mul, sink_scaled, W.zds]

theorem none_ref : val_main_v134 (F := Ideal) x0 x1 x2 x3 (ix5 n g h r 0) = 0 := by
  pointwise [val_main_v134, val_main_v133, val_main_v132, val_main_v131, val_main_v126, val_main_cst_23]
  simp only [sinkrow_ref x0 x1 x2 x3 W h0 h1 h2 h3 n g h r m hm, inner_ref x0 x1 x2 x3 W h0 h1 h2 h3 n g h r m hm, ← EReal.coe_neg]
  rw [coe_sum, ← EReal.coe_add, ← W.zds, max_grad, EReal.coe_zero]

end Top

include h0 h1 h2

theorem prob (a : Fin 256) : val_main_v103 (F := Ideal) x0 x1 x2 (ix5 n g h r a) = ((W.probs n g (128 * h.val + r.val) a : ℝ) : EReal) := by
  obtain ⟨m, hm⟩ := top_ref x0 x1 x2 W h0 h1 h2 n g h r
  exact prob_ref x0 x1 x2 W h0 h1 h2 n g h r m hm a

include h3

theorem sinkrow : val_main_v123 (F := Ideal) x0 x1 x2 x3 (ix5 n g h r 0) = ((-W.ds n g (128 * h.val + r.val) : ℝ) : EReal) := by
  obtain ⟨m, hm⟩ := top_ref x0 x1 x2 W h0 h1 h2 n g h r
  exact sinkrow_ref x0 x1 x2 x3 W h0 h1 h2 h3 n g h r m hm

theorem nothing : val_main_v134 (F := Ideal) x0 x1 x2 x3 (ix5 n g h r 0) = 0 := by
  obtain ⟨m, hm⟩ := top_ref x0 x1 x2 W h0 h1 h2 n g h r
  exact none_ref x0 x1 x2 x3 W h0 h1 h2 h3 n g h r m hm

theorem nothing_share : val_main_v139 (F := Ideal) x0 x1 x2 x3 (ix5 n g h r 0) = 0 := by
  rw [val_main_v139_apply, nothing x0 x1 x2 x3 W h0 h1 h2 h3]
  exact zero_mul _

theorem nothing_row : val_main_v140 (F := Ideal) x0 x1 x2 x3 (ix4 n g h r) = 0 := by
  pointwise [val_main_v140, val_main_cst_25]
  rw [Fin.sum_univ_one, nothing_share x0 x1 x2 x3 W h0 h1 h2 h3]

theorem nothing_key (a : Fin 256) : val_main_v143 (F := Ideal) x0 x1 x2 x3 (ix5 n g h r a) = 0 := by
  have e : val_main_v141 (F := Ideal) x0 x1 x2 x3 (ix4 n g h r) = 0 := by
    rw [val_main_v141_apply, nothing_row x0 x1 x2 x3 W h0 h1 h2 h3]
    exact div_zero_left (count_ref x0 x1 W h0 h1 n g h r)
  have e' : val_main_v142 (F := Ideal) x0 x1 x2 x3 (ix5 n g h r a) = 0 := by
    pointwise [val_main_v142]
    exact e
  rw [val_main_v143_apply, e']
  exact zero_mul _

theorem all_ref (a : Fin 256) : val_main_v144 (F := Ideal) x0 x1 x2 x3 (ix5 n g h r a) = ((pr 𝐏 𝐀 𝐙 a * (𝐃 a - avg 𝐏 𝐀 𝐙 𝐃) : ℝ) : EReal) := by
  obtain ⟨m, hm⟩ := top_ref x0 x1 x2 W h0 h1 h2 n g h r
  rw [val_main_v144_apply, nothing_key x0 x1 x2 x3 W h0 h1 h2 h3, inner_ref x0 x1 x2 x3 W h0 h1 h2 h3 n g h r m hm]
  exact add_zero _

omit h0 h1 h2 h3 in
theorem chosen_ref (a : Fin 256) : val_main_v149 (F := Ideal) x0 x1 x2 x3 (ix5 n g h r a)
      = Scalar.select (val_main_v63_1 (F := Ideal) (ix5 n g h r a)) (val_main_v144 (F := Ideal) x0 x1 x2 x3 (ix5 n g h r a)) 0 * ((1 / 8 : ℝ) : EReal) := by
  rw [← bits_eighth]
  pointwise [val_main_v149, val_main_v148, val_main_v147, val_main_call1_v0, val_main_call1_cst, val_main_cst_27]

theorem grad_ref (a : Fin 256) : val_main_v149 (F := Ideal) x0 x1 x2 x3 (ix5 n g h r a) = ((W.grads n g (128 * h.val + r.val) a : ℝ) : EReal) := by
  rw [chosen_ref, mask_ref, all_ref x0 x1 x2 x3 W h0 h1 h2 h3, ← W.zgrads]
  cases hs : 𝐏 a with
  | true => rw [if_pos rfl, sel_one, ← EReal.coe_mul]; unfold gr; rfl
  | false => rw [if_neg Bool.false_ne_true, sel_zero, zero_mul, gr_unseen _ _ _ _ _ hs, EReal.coe_zero]

theorem dq_ref (c : Fin 64) : val_main_v152 (F := Ideal) x0 x1 x2 x3 (ix5 n r g h c) = ((W.dq n g (128 * h.val + r.val) c : ℝ) : EReal) := by
  pointwise [val_main_v152, val_main_v151, val_main_v150]
  simp only [grad_ref x0 x1 x2 x3 W h0 h1 h2 h3, k_ref x0 x1 W h0 h1, ← EReal.coe_mul]
  rw [coe_sum]
  simp only [W.grads_kz]
  rfl

theorem dk_ref (a : Fin 256) (c : Fin 64) : val_main_v154 (F := Ideal) x0 x1 x2 x3 (ix4 n a g c) = ((W.dk n g a c : ℝ) : EReal) := by
  pointwise [val_main_v154, val_main_v153, val_main_v150]
  simp only [grad_ref x0 x1 x2 x3 W h0 h1 h2 h3, q_ref x0 x1 W h0 h1, ← EReal.coe_mul, coe_sum]
  rw [Rows.dk, sum_heads (fun j => W.grads n g j a * W.qm n g j c), Finset.sum_comm]

theorem dv_ref (a : Fin 256) (c : Fin 64) : val_main_v114 (F := Ideal) x0 x1 x2 x3 (ix4 n a g c) = ((W.dv n g a c : ℝ) : EReal) := by
  pointwise [val_main_v114, val_main_v113]
  simp only [prob x0 x1 x2 W h0 h1 h2, d_ref x3 W h3, ← EReal.coe_mul, coe_sum]
  rw [Rows.dv, sum_heads (fun j => W.probs n g j a * W.dm n g j c)]
  simp only [mul_comm]

end Ref

end Cert.Attn

end
-- ==== Proof.AttnOut.lean ====
/- The results of the reference of the sliding-window attention gradient, in terms of the arrays' rows. -/
module

public import proofs.«01_k».proof.Proof.AttnRef

@[expose] public section

set_option maxRecDepth 65536

noncomputable section

namespace Cert.Attn

open Idealize.ShloMosaic Idealize.ShloMosaic.TcCoe Idealize.SL.Sem
open Cert.RealLift
open Cert.ReferenceAIdeal Cert.ReferenceAIdeal.Gen Cert.ReferenceAIdeal.Read Cert.AttnModel

namespace Rows

/-- A row of the whole gradient of the keys and values: what the row's own block adds, and what the next one does. -/
def gkv (W : Rows) (R C : ℕ) : ℝ :=
  W.okv (R / 128) (hi ⟨R % 128, Nat.mod_lt _ (by norm_num)⟩) C + (if R / 128 + 1 < 32 then W.okv (R / 128 + 1) (lo ⟨R % 128, Nat.mod_lt _ (by norm_num)⟩) C else 0)

end Rows

theorem at_eq {s : Shape} {f : s.Idx → EReal} {i j : s.Idx} {x : EReal} (h : f i = x) (e : j = i) : f j = x := e ▸ h

section Out

variable (x0 : FVec Ideal S4096x768 .f32) (x1 : FVec Ideal S1x768 .f32) (x2 : FVec Ideal S1x8 .f32) (x3 : FVec Ideal S4096x512 .f32)
variable (W : Rows) (h0 : ∀ (R : Fin 4096) (C : Fin 768), x0 (ix2 R C) = ((W.T R C : ℝ) : EReal))
  (h1 : ∀ C : Fin 768, x1 (ix2 0 C) = ((W.B C : ℝ) : EReal)) (h2 : ∀ C : Fin 8, x2 (ix2 0 C) = ((W.Z C : ℝ) : EReal))
  (h3 : ∀ (R : Fin 4096) (C : Fin 512), x3 (ix2 R C) = ((W.G R C : ℝ) : EReal))

include h0 h1 h2 h3

theorem key_part (m : ℕ) (hm : m < 32) (r : Fin 128) (g : Fin 2) (c : Fin 64) :
    val_main_v167 (F := Ideal) x0 x1 x2 x3 (ix4 (⟨m + 1, by omega⟩ : Fin 33) r g c)
      = ((W.dk m g (Rows.hi r) c + (if m + 1 < 32 then W.dk (m + 1) g (Rows.lo r) c else 0) : ℝ) : EReal) := by
  have e1 : val_main_v165 (F := Ideal) x0 x1 x2 x3 (ix4 (⟨m + 1, by omega⟩ : Fin 33) r g c) = ((W.dk m g (Rows.hi r) c : ℝ) : EReal) := by
    pointwise [val_main_v165, val_main_v164, val_main_cst_30]
    exact (dif_pos (show m + 1 - 1 < 32 by omega)).trans ((dk_ref x0 x1 x2 x3 W h0 h1 h2 h3 _ _ _ _).trans rfl)
  have e2 : val_main_v166 (F := Ideal) x0 x1 x2 x3 (ix4 (⟨m + 1, by omega⟩ : Fin 33) r g c) = (((if m + 1 < 32 then W.dk (m + 1) g (Rows.lo r) c else 0) : ℝ) : EReal) := by
    pointwise [val_main_v166, val_main_v163, val_main_cst_31]
    by_cases h : m + 1 < 32
    · simp only [h, dif_pos, if_true]
      rw [dk_ref x0 x1 x2 x3 W h0 h1 h2 h3]
      rfl
    · simp [h]
  pointwise [val_main_v167]
  rw [e1, e2, ← EReal.coe_add]

theorem value_part (m : ℕ) (hm : m < 32) (r : Fin 128) (g : Fin 2) (c : Fin 64) :
    val_main_v159 (F := Ideal) x0 x1 x2 x3 (ix4 (⟨m + 1, by omega⟩ : Fin 33) r g c)
      = ((W.dv m g (Rows.hi r) c + (if m + 1 < 32 then W.dv (m + 1) g (Rows.lo r) c else 0) : ℝ) : EReal) := by
  have e1 : val_main_v157 (F := Ideal) x0 x1 x2 x3 (ix4 (⟨m + 1, by omega⟩ : Fin 33) r g c) = ((W.dv m g (Rows.hi r) c : ℝ) : EReal) := by
    pointwise [val_main_v157, val_main_v156, val_main_cst_28]
    exact (dif_pos (show m + 1 - 1 < 32 by omega)).trans ((dv_ref x0 x1 x2 x3 W h0 h1 h2 h3 _ _ _ _).trans rfl)
  have e2 : val_main_v158 (F := Ideal) x0 x1 x2 x3 (ix4 (⟨m + 1, by omega⟩ : Fin 33) r g c) = (((if m + 1 < 32 then W.dv (m + 1) g (Rows.lo r) c else 0) : ℝ) : EReal) := by
    pointwise [val_main_v158, val_main_v155, val_main_cst_29]
    by_cases h : m + 1 < 32
    · simp only [h, dif_pos, if_true]
      rw [dv_ref x0 x1 x2 x3 W h0 h1 h2 h3]
      rfl
    · simp [h]
  pointwise [val_main_v159]
  rw [e1, e2, ← EReal.coe_add]

theorem q_cols (R : Fin 4096) (C : Fin 512) : val_main_v175 (F := Ideal) x0 x1 x2 x3 (ix2 R C) = ((W.oq (R.val / 128) (R.val % 128) C : ℝ) : EReal) := by
  have hR : R.val < 4096 := R.isLt
  have hC : C.val < 512 := C.isLt
  pointwise [val_main_v175, val_main_v171]
  rw [dq_ref x0 x1 x2 x3 W h0 h1 h2 h3]
  unfold Rows.oq
  exact q_congr (by simp only; omega) (by simp only; omega) rfl

theorem k_cols (R : Fin 4096) (C : Fin 128) : val_main_v174 (F := Ideal) x0 x1 x2 x3 (ix2 R C) = ((W.gkv R C : ℝ) : EReal) := by
  have hR : R.val < 4096 := R.isLt
  have hC : C.val < 128 := C.isLt
  pointwise [val_main_v174, val_main_v170, val_main_v168]
  refine at_eq (key_part x0 x1 x2 x3 W h0 h1 h2 h3 (R.val / 128) (by omega) ⟨R.val % 128, by omega⟩ ⟨C.val / 64, by omega⟩ ⟨C.val % 64, by omega⟩) ?_ |>.trans ?_
  · congr 1
    all_goals first | rfl | (apply Fin.ext; simp only; omega)
  · unfold Rows.gkv
    rw [Rows.okv_k _ _ _ _ hC, Rows.okv_k _ _ _ _ hC]

theorem v_cols (R : Fin 4096) (C : Fin 128) : val_main_v173 (F := Ideal) x0 x1 x2 x3 (ix2 R C) = ((W.gkv R (128 + C.val) : ℝ) : EReal) := by
  have hR : R.val < 4096 := R.isLt
  have hC : C.val < 128 := C.isLt
  pointwise [val_main_v173, val_main_v162, val_main_v160]
  refine at_eq (value_part x0 x1 x2 x3 W h0 h1 h2 h3 (R.val / 128) (by omega) ⟨R.val % 128, by omega⟩ ⟨C.val / 64, by omega⟩ ⟨C.val % 64, by omega⟩) ?_ |>.trans ?_
  · congr 1
    all_goals first | rfl | (apply Fin.ext; simp only; omega)
  · unfold Rows.gkv
    rw [Rows.okv_v _ _ _ _ (by omega : ¬ 128 + C.val < 128), Rows.okv_v _ _ _ _ (by omega : ¬ 128 + C.val < 128)]
    simp only [show 128 + C.val - 128 = C.val by omega, show (128 + C.val) % 64 = C.val % 64 by omega]

theorem row_q (R : Fin 4096) (C : Fin 512) : val_main_v176 (F := Ideal) x0 x1 x2 x3 (ix2 R ⟨C.val, by omega⟩) = ((W.oq (R.val / 128) (R.val % 128) C : ℝ) : EReal) := by
  have hC : C.val < 512 := C.isLt
  pointwise [val_main_v176]
  try rw [dif_pos hC]
  exact q_cols x0 x1 x2 x3 W h0 h1 h2 h3 R C

theorem row_kv (R : Fin 4096) (C : Fin 256) : val_main_v176 (F := Ideal) x0 x1 x2 x3 (ix2 R ⟨512 + C.val, by omega⟩) = ((W.gkv R C : ℝ) : EReal) := by
  have hC : C.val < 256 := C.isLt
  pointwise [val_main_v176]
  by_cases h : C.val < 128
  · exact (dif_pos h).trans (k_cols x0 x1 x2 x3 W h0 h1 h2 h3 R ⟨C.val, h⟩)
  · refine (dif_neg h).trans ((v_cols x0 x1 x2 x3 W h0 h1 h2 h3 R ⟨C.val - 128, by omega⟩).trans ?_)
    exact congrArg (fun i => ((W.gkv R i : ℝ) : EReal)) (by simp only; omega)

/-! ## The results -/

theorem out_dq (R : Fin 4096) (C : Fin 512) : val_main_v182 (F := Ideal) x0 x1 x2 x3 (ix2 R C) = ((W.oq (R.val / 128) (R.val % 128) C : ℝ) : EReal) := by
  pointwise [val_main_v182, val_main_v181]
  exact row_q x0 x1 x2 x3 W h0 h1 h2 h3 R C

theorem out_dkv (R : Fin 4096) (C : Fin 256) : val_main_v184 (F := Ideal) x0 x1 x2 x3 (ix2 R C) = ((W.gkv R C : ℝ) : EReal) := by
  pointwise [val_main_v184, val_main_v183]
  exact row_kv x0 x1 x2 x3 W h0 h1 h2 h3 R C

theorem out_dbq (C : Fin 512) : val_main_v187 (F := Ideal) x0 x1 x2 x3 (ix2 0 C) = ((∑ R : Fin 4096, W.oq (R.val / 128) (R.val % 128) C : ℝ) : EReal) := by
  pointwise [val_main_v187, val_main_v180, val_main_v179, val_main_v178, val_main_v177, val_main_cst_32, val_main_cst_33]
  rw [Fin.sum_univ_one, ← coe_sum]
  exact Finset.sum_congr rfl fun R _ => row_q x0 x1 x2 x3 W h0 h1 h2 h3 R C

theorem out_dbkv (C : Fin 256) : val_main_v188 (F := Ideal) x0 x1 x2 x3 (ix2 0 C) = ((∑ R : Fin 4096, W.gkv R C : ℝ) : EReal) := by
  pointwise [val_main_v188, val_main_v180, val_main_v179, val_main_v178, val_main_v177, val_main_cst_32, val_main_cst_33]
  rw [Fin.sum_univ_one, ← coe_sum]
  exact Finset.sum_congr rfl fun R _ => row_kv x0 x1 x2 x3 W h0 h1 h2 h3 R C

theorem sinks_sum (g : Fin 2) (h : Fin 4) : val_main_v124 (F := Ideal) x0 x1 x2 x3 (ix3 g h 0) = ((∑ n : Fin 32, ∑ r : Fin 128, -W.ds n g (128 * h.val + r.val) : ℝ) : EReal) := by
  unfold val_main_v124
  rw [sum_blocks_heads]
  simp only [sinkrow x0 x1 x2 x3 W h0 h1 h2 h3, coe_sum]
  refine (congrArg (· + (_ : EReal)) (?_ : _ = (0 : EReal))).trans (zero_add _)
  unfold val_main_cst_21
  pointwise []

theorem max_sum (g : Fin 2) (h : Fin 4) : val_main_v136 (F := Ideal) x0 x1 x2 x3 (ix3 g h 0) = 0 := by
  have e : ∀ n r, val_main_v135 (F := Ideal) x0 x1 x2 x3 (ix5 n g h r 0) = 0 := fun n r => by
    rw [val_main_v135_apply, nothing x0 x1 x2 x3 W h0 h1 h2 h3]
    exact zero_mul _
  unfold val_main_v136
  rw [sum_blocks_heads]
  simp only [e, Finset.sum_const_zero]
  unfold val_main_cst_24
  pointwise []

theorem sinks_head (g : Fin 2) (h : Fin 4) : val_main_v145 (F := Ideal) x0 x1 x2 x3 (ix2 g h) = ((∑ n : Fin 32, ∑ r : Fin 128, -W.ds n g (128 * h.val + r.val) : ℝ) : EReal) := by
  have e1 : val_main_v125 (F := Ideal) x0 x1 x2 x3 (ix5 0 g h 0 0) = ((∑ n : Fin 32, ∑ r : Fin 128, -W.ds n g (128 * h.val + r.val) : ℝ) : EReal) := by
    pointwise [val_main_v125]
    exact sinks_sum x0 x1 x2 x3 W h0 h1 h2 h3 g h
  have e2 : val_main_v137 (F := Ideal) x0 x1 x2 x3 (ix5 0 g h 0 0) = 0 := by
    pointwise [val_main_v137]
    exact max_sum x0 x1 x2 x3 W h0 h1 h2 h3 g h
  have e3 : val_main_v138 (F := Ideal) x0 x1 x2 x3 (ix5 0 g h 0 0) = ((∑ n : Fin 32, ∑ r : Fin 128, -W.ds n g (128 * h.val + r.val) : ℝ) : EReal) := by
    rw [val_main_v138_apply, e1, e2]
    exact add_zero _
  unfold val_main_v145
  rw [sum_heads_only, e3]
  refine (congrArg (· + (_ : EReal)) (?_ : _ = (0 : EReal))).trans (zero_add _)
  unfold val_main_cst_26
  pointwise []

theorem out_dsink (h : Fin 8) (l : Fin 128) : val_main_v186 (F := Ideal) x0 x1 x2 x3 (ix2 h l) = ((∑ n : Fin 32, -W.osink n h : ℝ) : EReal) := by
  have hh : h.val < 8 := h.isLt
  pointwise [val_main_v186, val_main_v185, val_main_v172, val_main_v146]
  refine (sinks_head x0 x1 x2 x3 W h0 h1 h2 h3 ⟨h.val / 4, by omega⟩ ⟨h.val % 4, by omega⟩).trans ?_
  simp only [Finset.sum_neg_distrib]
  rfl

end Out

end Cert.Attn

end
-- ==== Proof.AttnFinal.lean ====
/- The arrays the sliding-window attention gradient leaves are the reference's results. -/
module

public import proofs.«01_k».proof.Proof.AttnOut
public import Idealize.ShloMosaic.Lib.Pipeline.Value

@[expose] public section

set_option maxRecDepth 65536

noncomputable section

namespace Cert.Attn

open Idealize.ShloMosaic Idealize.ShloMosaic.TcCoe Idealize.SL.Sem
open Cert.RealLift
open Cert.KernelAIdeal Cert.KernelAIdeal.Gen Cert.AttnModel
open Idealize.ShloMosaic.Pipeline (Dat)

theorem sum_rows (f : ℕ → ℕ → ℝ) : ∑ R : Fin 4096, f (R.val / 128) (R.val % 128) = ∑ i ∈ Finset.range 32, ∑ r : Fin 128, f i r.val := by
  rw [Finset.sum_range, ← Fintype.sum_prod_type' (f := fun (i : Fin 32) (r : Fin 128) => f i.val r.val)]
  refine (Equiv.sum_comp (finProdFinEquiv : Fin 32 × Fin 128 ≃ Fin 4096) (fun R : Fin 4096 => f (R.val / 128) (R.val % 128))).symm.trans ?_
  refine Finset.sum_congr rfl fun x _ => ?_
  have h : x.2.val < 128 := x.2.isLt
  have e : ((finProdFinEquiv : Fin 32 × Fin 128 ≃ Fin 4096) x).val = x.2.val + 128 * x.1.val := rfl
  rw [e, show (x.2.val + 128 * x.1.val) / 128 = x.1.val by omega, show (x.2.val + 128 * x.1.val) % 128 = x.2.val by omega]

/-- Shifting the terms that a block passes on to the next one by one block changes no sum. -/
theorem shift_sum (A B : ℕ → ℝ) (h : B 0 = 0) (k : ℕ) :
    (∑ i ∈ Finset.range (k + 1), ((if i = 0 then 0 else A (i - 1)) + B i)) + A k
      = ∑ i ∈ Finset.range (k + 1), (A i + if i + 1 < k + 1 then B (i + 1) else 0) := by
  rw [Finset.sum_add_distrib, Finset.sum_add_distrib, Finset.sum_range_succ' (fun i => if i = 0 then (0 : ℝ) else A (i - 1)) k, Finset.sum_range_succ A k,
    Finset.sum_range_succ' B k, Finset.sum_range_succ (fun i => if i + 1 < k + 1 then B (i + 1) else 0) k, h, if_neg (lt_irrefl (k + 1))]
  rw [Finset.sum_congr rfl fun i (hi : i ∈ Finset.range k) => show (if i + 1 < k + 1 then B (i + 1) else 0) = B (i + 1) from
    if_pos (by rw [Finset.mem_range] at hi; omega)]
  simp
  ring

namespace Rows

theorem first_unseen (j : ℕ) (r : Fin 128) : seen 0 j (lo r) = false := by
  have hr : r.val < 128 := r.isLt
  unfold seen lo
  exact decide_eq_false fun h => absurd (h.2.2 rfl) (by simp only; omega)

theorem first_okv (W : Rows) (r : Fin 128) (c : ℕ) : W.okv 0 (lo r) c = 0 := by
  unfold okv dk dv grads probs
  split_ifs
  · exact Finset.sum_eq_zero fun j _ => by rw [gr_unseen _ _ _ _ _ (first_unseen j r), zero_mul]
  · exact Finset.sum_eq_zero fun j _ => by rw [pr_unseen _ _ _ _ (first_unseen j r), zero_mul]

end Rows

variable (m : (ℓ : Loc nD τ sig) → Buf (Elt Ideal) ℓ) (c : Dev nD) (hf : Real m c)

theorem emb5 (t : Fin cfg0.N) (y0 : Fin 128) (y1 : Fin 512) (R : Fin 4096) (hR : (R : ℕ) = 128 * min t.val 31 + y0) :
    ((View.whole main_v0_0).slice (win0_5.rect t)).emb (ix2 y0 y1) = ix2 R y1 := by
  blk_ext [idx t]

theorem emb6 (t : Fin cfg0.N) (y0 : Fin 128) (y1 : Fin 256) (R : Fin 4096) (hR : (R : ℕ) = 128 * (t.val - 1) + y0) :
    ((View.whole main_v0_1).slice (win0_6.rect t)).emb (ix2 y0 y1) = ix2 R y1 := by
  blk_ext [idx t]

theorem flush5 : ∀ t : Fin cfg0.N, (cfg0.win 5).flush t = true → t.val < 31 ∨ t.val = 32 := by decide +kernel
theorem flush6 : ∀ t : Fin cfg0.N, (cfg0.win 6).flush t = true → t.val ≠ 0 := by decide +kernel

theorem points (t : Fin cfg0.N) : t.val < 33 := lt_of_lt_of_eq t.isLt N_0
theorem last_point : 32 < cfg0.N := by rw [show cfg0.N = 33 from N_0]; norm_num
def tl : Fin grid0.N := ⟨32, last_point⟩

include hf

theorem last_holds : Holds (left m c 31 (lt_trans (by norm_num) last_point)) 31 (rows m c) := left_holds m c hf 31 _ (by norm_num)

theorem left_32 : left m c 32 last_point = last (left m c 31 (lt_trans (by norm_num) last_point)) := left_last m c ⟨32, last_point⟩ rfl

theorem final5 : (data m 0 c).arrAt 5 (cfgs 0).N
      = Cert.ReferenceAIdeal.Read.val_main_v182 (F := Ideal) (m ((c.tc : Thread nD τ).loc main_arg0)) (m ((c.tc : Thread nD τ).loc main_arg1))
        (m ((c.tc : Thread nD τ).loc main_arg2)) (m ((c.tc : Thread nD τ).loc main_arg3)) := by
  refine (data m 0 c).arrAt_eq_of_covers 5 _ (by decide +kernel) fun t hw y => ?_
  idx_vars y
  blk_simp [idx t]
  rw [after5]
  have ht := points t
  rw [emb5 t y0 y1 ⟨128 * min t.val 31 + y0.val, by omega⟩ rfl, out_dq _ _ _ _ (rows m c) (arg0_at m c hf) (arg1_at m c hf) (arg2_at m c hf) (arg3_at m c hf)]
  rcases flush5 t hw with h | h
  · refine ((left_holds m c hf t.val t.isLt (by omega)).dq y0 y1).trans ?_
    simp only [show (128 * min t.val 31 + y0.val) / 128 = t.val by omega, show (128 * min t.val 31 + y0.val) % 128 = y0.val by omega]
  · obtain rfl : t = ⟨32, last_point⟩ := Fin.ext h
    refine (congrArg (fun L : Left Ideal => L.dq (ix2 y0 y1)) (left_32 m c hf)).trans (((last_holds m c hf).dq y0 y1).trans ?_)
    simp only [show (128 * min 32 31 + y0.val) / 128 = 31 by omega, show (128 * min 32 31 + y0.val) % 128 = y0.val by omega]

theorem final6 : (data m 0 c).arrAt 6 (cfgs 0).N
      = Cert.ReferenceAIdeal.Read.val_main_v184 (F := Ideal) (m ((c.tc : Thread nD τ).loc main_arg0)) (m ((c.tc : Thread nD τ).loc main_arg1))
        (m ((c.tc : Thread nD τ).loc main_arg2)) (m ((c.tc : Thread nD τ).loc main_arg3)) := by
  refine (data m 0 c).arrAt_eq_of_covers 6 _ (by decide +kernel) fun t hw y => ?_
  idx_vars y
  blk_simp [idx t]
  rw [after6]
  have ht := points t
  have h0 := flush6 t hw
  rw [emb6 t y0 y1 ⟨128 * (t.val - 1) + y0.val, by omega⟩ rfl, out_dkv _ _ _ _ (rows m c) (arg0_at m c hf) (arg1_at m c hf) (arg2_at m c hf) (arg3_at m c hf)]
  unfold Rows.gkv
  simp only [show (128 * (t.val - 1) + y0.val) / 128 = t.val - 1 by omega, show (128 * (t.val - 1) + y0.val) % 128 = y0.val by omega, show t.val - 1 + 1 = t.val by omega]
  by_cases h : t.val = 32
  · obtain rfl : t = ⟨32, last_point⟩ := Fin.ext h
    refine (congrArg (fun L : Left Ideal => L.dkv (ix2 y0 y1)) (left_32 m c hf)).trans ((last_dkv (last_holds m c hf) y0 y1).trans ?_)
    rw [if_neg (lt_irrefl 32), add_zero]
    rfl
  · refine ((left_holds m c hf t.val t.isLt (by omega)).dkv y0 y1).trans ?_
    unfold Rows.orow
    rw [if_neg h0, if_pos (show t.val < 32 by omega)]

theorem final7 : (data m 0 c).arrAt 7 (cfgs 0).N
      = Cert.ReferenceAIdeal.Read.val_main_v186 (F := Ideal) (m ((c.tc : Thread nD τ).loc main_arg0)) (m ((c.tc : Thread nD τ).loc main_arg1))
        (m ((c.tc : Thread nD τ).loc main_arg2)) (m ((c.tc : Thread nD τ).loc main_arg3)) := by
  refine (data m 0 c).arrAt_eq_of_after_last 7 tl (by decide +kernel) _ fun j => ?_
  blk_simp
  rw [after7]
  idx_vars j
  rw [out_dsink _ _ _ _ (rows m c) (arg0_at m c hf) (arg1_at m c hf) (arg2_at m c hf) (arg3_at m c hf)]
  refine (congrArg (fun L : Left Ideal => L.dsink (ix2 j0 j1)) (left_32 m c hf)).trans (((last_holds m c hf).dsink j0 j1).trans ?_)
  rw [Finset.sum_range]

theorem final8 : (data m 0 c).arrAt 8 (cfgs 0).N
      = Cert.ReferenceAIdeal.Read.val_main_v187 (F := Ideal) (m ((c.tc : Thread nD τ).loc main_arg0)) (m ((c.tc : Thread nD τ).loc main_arg1))
        (m ((c.tc : Thread nD τ).loc main_arg2)) (m ((c.tc : Thread nD τ).loc main_arg3)) := by
  refine (data m 0 c).arrAt_eq_of_after_last 8 tl (by decide +kernel) _ fun j => ?_
  blk_simp
  rw [after8]
  idx_vars j
  obtain rfl : j0 = 0 := Subsingleton.elim _ _
  rw [out_dbq _ _ _ _ (rows m c) (arg0_at m c hf) (arg1_at m c hf) (arg2_at m c hf) (arg3_at m c hf)]
  refine (congrArg (fun L : Left Ideal => L.dbq (ix2 0 j1)) (left_32 m c hf)).trans (((last_holds m c hf).dbq j1).trans ?_)
  rw [sum_rows fun i r => (rows m c).oq i r j1]

theorem final9 : (data m 0 c).arrAt 9 (cfgs 0).N
      = Cert.ReferenceAIdeal.Read.val_main_v188 (F := Ideal) (m ((c.tc : Thread nD τ).loc main_arg0)) (m ((c.tc : Thread nD τ).loc main_arg1))
        (m ((c.tc : Thread nD τ).loc main_arg2)) (m ((c.tc : Thread nD τ).loc main_arg3)) := by
  refine (data m 0 c).arrAt_eq_of_after_last 9 tl (by decide +kernel) _ fun j => ?_
  blk_simp
  rw [after9]
  idx_vars j
  obtain rfl : j0 = 0 := Subsingleton.elim _ _
  rw [out_dbkv _ _ _ _ (rows m c) (arg0_at m c hf) (arg1_at m c hf) (arg2_at m c hf) (arg3_at m c hf)]
  refine (congrArg (fun L : Left Ideal => L.dbkv (ix2 0 j1)) (left_32 m c hf)).trans ((last_dbkv (last_holds m c hf) j1).trans ?_)
  have e := sum_rows fun i r => if h : r < 128 then (rows m c).okv i (Rows.hi ⟨r, h⟩) j1 + (if i + 1 < 32 then (rows m c).okv (i + 1) (Rows.lo ⟨r, h⟩) j1 else 0) else 0
  have e' : ∀ R : Fin 4096, (rows m c).gkv R j1 = if h : R.val % 128 < 128 then (rows m c).okv (R.val / 128) (Rows.hi ⟨R.val % 128, h⟩) j1
      + (if R.val / 128 + 1 < 32 then (rows m c).okv (R.val / 128 + 1) (Rows.lo ⟨R.val % 128, h⟩) j1 else 0) else 0 := fun R => by
    rw [dif_pos (Nat.mod_lt _ (by norm_num))]; rfl
  rw [Finset.sum_congr rfl fun R _ => e' R, e]
  refine congrArg (fun x : ℝ => (x : EReal)) ?_
  have s := shift_sum (fun i => ∑ r : Fin 128, (rows m c).okv i (Rows.hi r) j1) (fun i => ∑ r : Fin 128, (rows m c).okv i (Rows.lo r) j1)
    (Finset.sum_eq_zero fun r _ => (rows m c).first_okv r j1) 31
  refine (Eq.trans ?_ s).trans ?_
  · refine congrArg (· + (_ : ℝ)) (Finset.sum_congr rfl fun i _ => ?_)
    unfold Rows.orow
    rw [Finset.sum_add_distrib]
    refine congrArg (· + (_ : ℝ)) ?_
    split_ifs
    · exact Finset.sum_const_zero
    · rfl
  · refine Finset.sum_congr rfl fun i _ => ?_
    simp only [Fin.isLt, dite_true, Fin.eta]
    rw [Finset.sum_add_distrib]
    refine congrArg ((_ : ℝ) + ·) ?_
    split_ifs
    · rfl
    · exact Finset.sum_const_zero.symm

end Cert.Attn

end
-- ==== Proof.ClaimA.lean ====
/- The claims of the sliding-window attention's gradient: what the precondition says of the arguments, the
   runs of the two programs, and the equality of their results. -/
module

public import proofs.«01_k».proof.Defs
public import proofs.«01_k».proof.Proof.AttnFinal
public import proofs.«01_k».proof.Proof.Gen.ReferenceAIdeal.Run
public import proofs.«01_k».proof.Proof.Gen.ReferenceAIdeal.Read
public import proofs.«01_k».proof.Proof.Gen.Pre_finite_a
public import Idealize.ShloMosaic.Lib.Claim
public import Idealize.ShloMosaic.Lib.Quiescent

@[expose] public section

set_option maxRecDepth 16384

noncomputable section

namespace Cert.ClaimA

open Idealize.ShloMosaic Idealize.ShloMosaic.TcCoe Idealize.SL.Sem Cert.RealLift

theorem real_of_pre (m : (ℓ : Loc Cert.KernelAIdeal.nD Cert.KernelAIdeal.τ Cert.KernelAIdeal.sig) → Buf (Elt Ideal) ℓ)
    (hpre : Pre_KernelAIdeal_finite_a m) (c : Dev Cert.KernelAIdeal.nD) : Cert.Attn.Real m c := by
  have h := congrFun (hpre c) ix0
  dsimp only [Cert.Pre_finite_a.fn, Cert.Pre_finite_a.fn_part1] at h
  obtain ⟨h, a3⟩ := andi_one h
  obtain ⟨h, a2⟩ := andi_one h
  obtain ⟨a0, a1⟩ := andi_one h
  exact ⟨entries_real _ _ _ _ _ _ _ a0, entries_real _ _ _ _ _ _ _ a1, entries_real _ _ _ _ _ _ _ a2, entries_real _ _ _ _ _ _ _ a3⟩

/-- The reference's run, each result named by the stage that computes it. -/
theorem runRef (m : (ℓ : Loc Cert.ReferenceAIdeal.nD Cert.ReferenceAIdeal.τ Cert.ReferenceAIdeal.sig) → Buf (Elt Ideal) ℓ) (ρ : Dev Cert.ReferenceAIdeal.nD → PrngReg) :
    θ_run Cert.ReferenceAIdeal.defs (onTc (τ := Cert.ReferenceAIdeal.τ) (Cert.ReferenceAIdeal.main (F := Ideal))) ⟨m, fun _ => 0, ρ⟩ fun r => ∀ c : Dev Cert.ReferenceAIdeal.nD,
      r.2.mem ((c.tc : Thread Cert.ReferenceAIdeal.nD Cert.ReferenceAIdeal.τ).loc Cert.ReferenceAIdeal.main_v182) = Cert.ReferenceAIdeal.Read.val_main_v182 (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3))
      ∧      r.2.mem ((c.tc : Thread Cert.ReferenceAIdeal.nD Cert.ReferenceAIdeal.τ).loc Cert.ReferenceAIdeal.main_v184) = Cert.ReferenceAIdeal.Read.val_main_v184 (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3))
      ∧      r.2.mem ((c.tc : Thread Cert.ReferenceAIdeal.nD Cert.ReferenceAIdeal.τ).loc Cert.ReferenceAIdeal.main_v186) = Cert.ReferenceAIdeal.Read.val_main_v186 (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3))
      ∧      r.2.mem ((c.tc : Thread Cert.ReferenceAIdeal.nD Cert.ReferenceAIdeal.τ).loc Cert.ReferenceAIdeal.main_v187) = Cert.ReferenceAIdeal.Read.val_main_v187 (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3))
      ∧      r.2.mem ((c.tc : Thread Cert.ReferenceAIdeal.nD Cert.ReferenceAIdeal.τ).loc Cert.ReferenceAIdeal.main_v188) = Cert.ReferenceAIdeal.Read.val_main_v188 (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3))
      ∧r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0) ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1) ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2) ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3) :=
  (θ_run Cert.ReferenceAIdeal.defs _ _).mono (fun _ h c => ⟨(h c).1.trans (Cert.ReferenceAIdeal.Read.val_main_v182_eq (StableHlo.launchContents m c)),
    (h c).2.1.trans (Cert.ReferenceAIdeal.Read.val_main_v184_eq (StableHlo.launchContents m c)),
    (h c).2.2.1.trans (Cert.ReferenceAIdeal.Read.val_main_v186_eq (StableHlo.launchContents m c)),
    (h c).2.2.2.1.trans (Cert.ReferenceAIdeal.Read.val_main_v187_eq (StableHlo.launchContents m c)),
    (h c).2.2.2.2.1.trans (Cert.ReferenceAIdeal.Read.val_main_v188_eq (StableHlo.launchContents m c)),
    (h c).2.2.2.2.2⟩)
    (Cert.ReferenceAIdeal.Value.run m ρ)

/-- The kernel's run, each result named by the window that writes it. -/
theorem runKernel (m : (ℓ : Loc Cert.KernelAIdeal.nD Cert.KernelAIdeal.τ Cert.KernelAIdeal.sig) → Buf (Elt Ideal) ℓ) (ρ : Dev Cert.KernelAIdeal.nD → PrngReg) :
    θ_run Cert.KernelAIdeal.defs (onTc (τ := Cert.KernelAIdeal.τ) (Cert.KernelAIdeal.main (F := Ideal))) ⟨m, fun _ => 0, ρ⟩ fun r => ∀ c : Dev Cert.KernelAIdeal.nD,
      r.2.mem ((c.tc : Thread Cert.KernelAIdeal.nD Cert.KernelAIdeal.τ).loc Cert.KernelAIdeal.main_v0_0) = (Cert.Attn.data m 0 c).arrAt 5 (Cert.KernelAIdeal.cfgs 0).N ∧
      r.2.mem ((c.tc : Thread Cert.KernelAIdeal.nD Cert.KernelAIdeal.τ).loc Cert.KernelAIdeal.main_v0_1) = (Cert.Attn.data m 0 c).arrAt 6 (Cert.KernelAIdeal.cfgs 0).N ∧
      r.2.mem ((c.tc : Thread Cert.KernelAIdeal.nD Cert.KernelAIdeal.τ).loc Cert.KernelAIdeal.main_v0_2) = (Cert.Attn.data m 0 c).arrAt 7 (Cert.KernelAIdeal.cfgs 0).N ∧
      r.2.mem ((c.tc : Thread Cert.KernelAIdeal.nD Cert.KernelAIdeal.τ).loc Cert.KernelAIdeal.main_v0_3) = (Cert.Attn.data m 0 c).arrAt 8 (Cert.KernelAIdeal.cfgs 0).N ∧
      r.2.mem ((c.tc : Thread Cert.KernelAIdeal.nD Cert.KernelAIdeal.τ).loc Cert.KernelAIdeal.main_v0_4) = (Cert.Attn.data m 0 c).arrAt 9 (Cert.KernelAIdeal.cfgs 0).N ∧
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0) ∧
      r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1) ∧
      r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2) ∧
      r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3) :=
  (θ_run Cert.KernelAIdeal.defs _ _).mono (fun _ h c => ⟨(h c).1 5, (h c).1 6, (h c).1 7, (h c).1 8, (h c).1 9,
      ((h c).1 2).trans (((Cert.Attn.data m 0 c).arrAt_in 2 rfl _).trans ((Cert.Attn.data_A m c 2).trans (Cert.KernelAIdeal.Gen.V_main_arg0 m c))),
      ((h c).1 3).trans (((Cert.Attn.data m 0 c).arrAt_in 3 rfl _).trans ((Cert.Attn.data_A m c 3).trans (Cert.KernelAIdeal.Gen.V_main_arg1 m c))),
      ((h c).1 0).trans (((Cert.Attn.data m 0 c).arrAt_in 0 rfl _).trans ((Cert.Attn.data_A m c 0).trans (Cert.KernelAIdeal.Gen.V_main_arg2 m c))),
      ((h c).1 4).trans (((Cert.Attn.data m 0 c).arrAt_in 4 rfl _).trans ((Cert.Attn.data_A m c 4).trans (Cert.KernelAIdeal.Gen.V_main_arg3 m c)))⟩)
    (Cert.Attn.run m ρ)

theorem algebraic : algebraic_KernelAIdeal_ReferenceAIdeal_pre_finite_a := by
  pair_intro
  · run_from runKernel m g
  · run_from runRef m' g'
    · exact (Cert.Attn.final5 m c (real_of_pre m hpre c)).symm
    · exact (Cert.Attn.final6 m c (real_of_pre m hpre c)).symm
    · exact (Cert.Attn.final7 m c (real_of_pre m hpre c)).symm
    · exact (Cert.Attn.final8 m c (real_of_pre m hpre c)).symm
    · exact (Cert.Attn.final9 m c (real_of_pre m hpre c)).symm

/-- The reference leaves its arguments alone, and declares no counter. -/
theorem frameRef : quiescent_ReferenceAIdeal := fun m g _ =>
  (θ_run Cert.ReferenceAIdeal.defs _ _).mono (fun r h => ⟨fun c => (h c).2.2.2.2.2, sem_eq_zero_of_no_sems (by decide) r.2⟩)
    (Cert.ReferenceAIdeal.Value.run m g)

theorem frameRefPre : quiescent_ReferenceAIdeal_pre_finite_a := fun m g _ => frameRef m g trivial

end Cert.ClaimA

end
-- ==== Proof.NormM.lean ====
/- The backward pass of the output product, of its gate and of the norm of the heads: the kernel against the reference. -/
module

public import proofs.«01_k».proof.Proof.Gen.KernelMIdeal.Value
public import proofs.«01_k».proof.Proof.Gen.ReferenceMIdeal.Read
public import proofs.«01_k».proof.Proof.RmsReal
public import Idealize.ShloMosaic.Lib.Pipeline.ValueKit

@[expose] public section

set_option maxRecDepth 16384

noncomputable section

namespace Cert.NormM

open Idealize.ShloMosaic Idealize.ShloMosaic.TcCoe Idealize.SL.Sem
open Idealize.ShloMosaic.Pipeline (Dat)
open Cert.KernelMIdeal Cert.KernelMIdeal.Gen Cert.RealLift Cert.RmsReal
open Cert.ReferenceMIdeal.Read

/-! ## The columns of a head -/

/-- Column `k` of head `h` among the columns of all heads. -/
def cl : Fin 4 → Fin 128 → Fin 512
  | 0, k => ⟨k.val, by omega⟩
  | 1, k => ⟨128 + k.val, by omega⟩
  | 2, k => ⟨256 + k.val, by omega⟩
  | 3, k => ⟨384 + k.val, by omega⟩

theorem cl_val (h : Fin 4) (k : Fin 128) : (cl h k).val = h.val * 128 + k.val := by
  match h with
  | 0 => exact (show k.val = 0 * 128 + k.val by omega)
  | 1 => rfl
  | 2 => rfl
  | 3 => rfl

theorem cl_eq (h : Fin 4) (k : Fin 128) (p : h.val * 128 + k.val < 512) : (⟨h.val * 128 + k.val, p⟩ : Fin 512) = cl h k :=
  Fin.ext (cl_val h k).symm

theorem cl_of (c : Fin 512) : ∃ h k, c = cl h k :=
  ⟨⟨c.val / 128, by omega⟩, ⟨c.val % 128, by omega⟩, Fin.ext (by rw [cl_val]; simp only; omega)⟩

theorem cl_div (h : Fin 4) (k : Fin 128) (p : (cl h k).val / 128 < 4) : (⟨(cl h k).val / 128, p⟩ : Fin 4) = h :=
  Fin.ext (by simp only [cl_val]; omega)

theorem cl_mod (h : Fin 4) (k : Fin 128) (p : (cl h k).val % 128 < 128) : (⟨(cl h k).val % 128, p⟩ : Fin 128) = k :=
  Fin.ext (by simp only [cl_val]; omega)

theorem cl_row (h : Fin 4) (k x : Fin 128) (p : (cl h k).val / 128 * 128 + x.val < 512) :
    (⟨(cl h k).val / 128 * 128 + x.val, p⟩ : Fin 512) = cl h x :=
  Fin.ext (by simp only [cl_val]; omega)

/-! ## One row of one head -/

/-- The reciprocal root mean square of a row. -/
def rr (a : Fin 128 → EReal) : EReal :=
  Ideal.rsqrt (Ideal.div (∑ k, a k * a k) (Ideal.ofBits .f32 0x43000000#32) + Ideal.ofBits .f32 0x358637BD#32)

/-- The logistic function. -/
def sg (x : EReal) : EReal := Ideal.div 1 (1 + Ideal.exp (-x))

/-- The gate of a row applied to its cotangent. -/
def gated (g d : Fin 128 → EReal) (l : Fin 128) : EReal := d l * (g l * sg (g l))

/-- The gradient of the raw row: the norm's backward pass at the gated cotangent. -/
def rawGrad (a g w d : Fin 128 → EReal) (j : Fin 128) : EReal :=
  rr a * (gated g d j * w j - a j * rr a * Ideal.div (∑ l, gated g d l * w l * (a l * rr a)) (Ideal.ofBits .f32 0x43000000#32))

/-- The gradient of the gate's argument. -/
def gateGrad (a g w d : Fin 128 → EReal) (j : Fin 128) : EReal :=
  d j * (a j * rr a * w j) * (sg (g j) * (1 + g j * (1 - sg (g j))))

theorem sg_real (x : ℝ) : sg (x : EReal) = ((1 / (1 + Real.exp (-x)) : ℝ) : EReal) := by
  have h : (1 + Real.exp (-x)) ≠ 0 := by positivity
  unfold sg
  rw [← EReal.coe_neg, Ideal.exp_coe, ← EReal.coe_one, ← EReal.coe_add, coe_div _ h]

/-- The two forms of the gate's gradient, over the reals. -/
theorem gate_real (A R W D G S : ℝ) : (A : EReal) * R * W * D * S + G * (A * R * W * D) * (S * (1 - S))
    = (D : EReal) * (A * R * W) * (S * (1 + G * (1 - S))) := by
  rw [← EReal.coe_one]
  simp only [← EReal.coe_mul, ← EReal.coe_add, ← EReal.coe_sub]
  congr 1
  ring

/-! ## The reference at an index -/

section Ref

variable (x0 x1 : FVec Ideal S4096x512 .f32) (x2 : FVec Ideal S1x128 .f32) (x3 : FVec Ideal S1x1024x1024 .f32)
  (x4 : FVec Ideal S4096x1024 .f32)

theorem v26_apply (r : Fin 4096) (c : Fin 512) : val_main_v26 (F := Ideal) x3 x4 (ix2 r c)
    = ∑ k, x4 (ix2 r k) * x3 (ix3 0 ⟨c.val, by omega⟩ k) := by
  pointwise [val_main_v26, val_main_v25, val_main_v23]

theorem v27_apply (r : Fin 4096) (c : Fin 512) : val_main_v27 (F := Ideal) x3 x4 (ix2 r c)
    = ∑ k, x4 (ix2 r k) * x3 (ix3 0 ⟨512 + c.val, by omega⟩ k) := by
  pointwise [val_main_v27, val_main_v25, val_main_v23]

theorem v26_real (h3 : ∀ i, IsR (x3 i)) (h4 : ∀ i, IsR (x4 i)) (r : Fin 4096) (c : Fin 512) :
    IsR (val_main_v26 (F := Ideal) x3 x4 (ix2 r c)) := by
  rw [v26_apply]
  exact IsR.sum _ fun k => (h4 _).mul (h3 _)

/-- The row of head `h` of an array of all heads' columns. -/
def row (x : FVec Ideal S4096x512 .f32) (r : Fin 4096) (h : Fin 4) (k : Fin 128) : EReal := x (ix2 r (cl h k))

theorem v51_apply (r : Fin 4096) (h : Fin 4) (j : Fin 128) (x w d : Fin 128 → ℝ)
    (hx : ∀ k, row x0 r h k = ((x k : ℝ) : EReal)) (hw : ∀ k, x2 (ix2 0 k) = ((w k : ℝ) : EReal))
    (hd : ∀ k, gated (row x1 r h) (row (val_main_v26 (F := Ideal) x3 x4) r h) k = ((d k : ℝ) : EReal)) :
    val_main_v51 (F := Ideal) x0 x1 x2 x3 x4 (ix3 r h j) = ((dx x w d j : ℝ) : EReal) := by
  pointwise [val_main_v31, val_main_v1, val_main_v51, val_main_v50, val_main_v49, val_main_v48, val_main_v47, val_main_v42,
    val_main_v46, val_main_v45, val_main_v44, val_main_v43, val_main_v41, val_main_v40, val_main_v39, val_main_v38, val_main_v36,
    val_main_v35, val_main_v29, val_main_v20_0, val_main_v20_2, val_main_call0_v4, val_main_call0_v3, val_main_call0_v2,
    val_main_call0_v1, val_main_call0_v0, val_main_call0_cst, val_main_call0_cst_0,
    val_main_v16, val_main_v2, val_main_v13, val_main_v12, val_main_v11, val_main_v10, val_main_v9, val_main_v8, val_main_v7,
    val_main_v6, val_main_v5, val_main_v4, val_main_v3, val_main_cst_0, val_main_cst_1, val_main_cst_2, val_main_cst_3,
    val_main_cst_5, val_main_cst_6, val_main_cst_7, val_main_cst_8]
  simp only [Finset.univ_unique, Finset.sum_singleton, cl_eq]
  have e := dx_vjp (row x0 r h) (fun k => x2 (ix2 0 k)) (gated (row x1 r h) (row (val_main_v26 (F := Ideal) x3 x4) r h))
    x w d hx hw hd _ _ 0 (rsqrt_row (B := Ideal.ofBits .f32 0x43000000#32) _ x hx)
    (cvjp_row (B := Ideal.ofBits .f32 0x43000000#32) (row x0 r h) (fun k => x2 (ix2 0 k)) (gated (row x1 r h) (row (val_main_v26 (F := Ideal) x3 x4) r h))
      x w d hx hw hd _ _ (rsqrt_row (B := Ideal.ofBits .f32 0x43000000#32) _ x hx) (ms_row (B := Ideal.ofBits .f32 0x43000000#32) _ x hx)) j
  rw [zero_add, zero_add] at e
  exact e

theorem v53_apply (r : Fin 4096) (h : Fin 4) (j : Fin 128) :
    val_main_v53 (F := Ideal) x0 x1 x2 x3 x4 (ix2 r (cl h j)) = val_main_v51 (F := Ideal) x0 x1 x2 x3 x4 (ix3 r h j) := by
  pointwise [val_main_v53]
  simp only [cl_div, cl_mod]

theorem v54_apply (r : Fin 4096) (h : Fin 4) (j : Fin 128) (x w d g : Fin 128 → ℝ)
    (hx : ∀ k, row x0 r h k = ((x k : ℝ) : EReal)) (hw : ∀ k, x2 (ix2 0 k) = ((w k : ℝ) : EReal))
    (hg : ∀ k, row x1 r h k = ((g k : ℝ) : EReal))
    (hd : ∀ k, row (val_main_v26 (F := Ideal) x3 x4) r h k = ((d k : ℝ) : EReal)) :
    val_main_v54 (F := Ideal) x0 x1 x2 x3 x4 (ix2 r (cl h j))
      = gateGrad (row x0 r h) (row x1 r h) (fun k => x2 (ix2 0 k)) (row (val_main_v26 (F := Ideal) x3 x4) r h) j := by
  pointwise [val_main_v54, val_main_v30, val_main_call1_v0, val_main_call1_v1, val_main_call1_v2, val_main_v28, val_main_v20_2,
    val_main_v20_1, val_main_v20_0, val_main_call0_v4, val_main_call0_v3, val_main_call0_v6, val_main_call0_v7, val_main_call0_v2,
    val_main_call0_v1, val_main_call0_v0, val_main_call0_cst, val_main_call0_cst_0, val_main_call0_cst_1, val_main_v19,
    val_main_v18, val_main_v17, val_main_v16, val_main_v2, val_main_v15, val_main_v14, val_main_v10, val_main_v9, val_main_v8,
    val_main_v7, val_main_v6, val_main_v5, val_main_v4, val_main_v3, val_main_v1, val_main_cst_0, val_main_cst_1, val_main_cst_2]
  simp only [cl_row, cl_mod]
  have hR : rr (row x0 r h) = ((rinv x : ℝ) : EReal) := rsqrt_row _ x hx
  refine Eq.trans (b := row x0 r h j * rr (row x0 r h) * x2 (ix2 0 j) * row (val_main_v26 (F := Ideal) x3 x4) r h j * sg (row x1 r h j)
    + row x1 r h j * (row x0 r h j * rr (row x0 r h) * x2 (ix2 0 j) * row (val_main_v26 (F := Ideal) x3 x4) r h j)
      * (sg (row x1 r h j) * (1 - sg (row x1 r h j)))) rfl ?_
  refine Eq.trans (b := row (val_main_v26 (F := Ideal) x3 x4) r h j * (row x0 r h j * rr (row x0 r h) * x2 (ix2 0 j))
    * (sg (row x1 r h j) * (1 + row x1 r h j * (1 - sg (row x1 r h j))))) ?_ rfl
  rw [hR, hx, hg, hw, hd, sg_real]
  exact gate_real _ _ _ _ _ _

/-- The host's sum over the rows and the heads, at a column of a head. -/
theorem sum_rows_heads (A : FVec Ideal ReferenceMIdeal.S4096x4x128 .f32) (init : FVec Ideal ReferenceMIdeal.S_ .f32) (c : Fin 128) :
    Host.reduceAdd A init ReferenceMIdeal.Gen.reducesTo_S4096x4x128_S128_d0_1 ReferenceMIdeal.Gen.h_S_ (ix1 c)
      = init (Shape.Idx.first ReferenceMIdeal.Gen.h_S_) + ∑ r : Fin 4096, ∑ h : Fin 4, A (ix3 r h c) := by
  rw [show @Host.reduceAdd Ideal _ _ _ _ _ _ A init _ _ = fun j => Ideal.hostReduceAdd _ A (init (Shape.Idx.first ReferenceMIdeal.Gen.h_S_)) j from rfl]
  refine congrArg (init (Shape.Idx.first ReferenceMIdeal.Gen.h_S_) + ·) ?_
  rw [← Fintype.sum_prod_type' (f := fun (r : Fin 4096) (h : Fin 4) => A (ix3 r h c))]
  refine Finset.sum_filter_eq_sum_of_fiber _ (fun k : Fin 4096 × Fin 4 => ix3 k.1 k.2 c)
    (fun x y e => Prod.ext (show (ix3 x.1 x.2 c) 0 = (ix3 y.1 y.2 c) 0 from congrFun e 0)
      (show (ix3 x.1 x.2 c) 1 = (ix3 y.1 y.2 c) 1 from congrFun e 1)) (fun i => ?_) A
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b; apply Fin.ext
    match b with
    | ⟨0, _⟩ => rfl

/-- The host's sum over two axes of one entry each. -/
theorem sum_ones (A : FVec Ideal ReferenceMIdeal.S1x1x128 .f32) (init : FVec Ideal ReferenceMIdeal.S_ .f32) (c : Fin 128) :
    Host.reduceAdd A init ReferenceMIdeal.Gen.reducesTo_S1x1x128_S128_d0_1 ReferenceMIdeal.Gen.h_S_ (ix1 c)
      = init (Shape.Idx.first ReferenceMIdeal.Gen.h_S_) + A (ix3 0 0 c) := by
  rw [show @Host.reduceAdd Ideal _ _ _ _ _ _ A init _ _ = fun j => Ideal.hostReduceAdd _ A (init (Shape.Idx.first ReferenceMIdeal.Gen.h_S_)) j from rfl]
  refine congrArg (init (Shape.Idx.first ReferenceMIdeal.Gen.h_S_) + ·) ?_
  refine (Finset.sum_filter_eq_sum_of_fiber _ (fun _ : Fin 1 => ix3 0 0 c) (fun _ _ _ => Subsingleton.elim _ _) (fun i => ?_) A).trans
    (Fin.sum_univ_one _)
  constructor
  · intro e
    refine ⟨0, ?_⟩
    funext a; apply Fin.ext
    match a with
    | ⟨0, _⟩ => exact (Nat.lt_one_iff.mp (show (i 0).val < 1 from (i 0).isLt)).symm
    | ⟨1, _⟩ => exact (Nat.lt_one_iff.mp (show (i 1).val < 1 from (i 1).isLt)).symm
    | ⟨2, _⟩ => exact (congrArg Fin.val (congrFun e 0)).symm
  · rintro ⟨k, rfl⟩
    funext b; apply Fin.ext
    match b with
    | ⟨0, _⟩ => rfl

theorem v32_apply (r : Fin 4096) (h : Fin 4) (c : Fin 128) : val_main_v32 (F := Ideal) x0 x1 x3 x4 (ix3 r h c)
    = row x0 r h c * rr (row x0 r h) * gated (row x1 r h) (row (val_main_v26 (F := Ideal) x3 x4) r h) c := by
  pointwise [val_main_v32, val_main_v31, val_main_v29, val_main_v20_0, val_main_v20_2, val_main_call0_v4, val_main_call0_v3,
    val_main_call0_v2, val_main_call0_v1, val_main_call0_v0, val_main_call0_cst, val_main_call0_cst_0, val_main_v15, val_main_v14,
    val_main_v10, val_main_v9, val_main_v8, val_main_v7, val_main_v6, val_main_v5, val_main_v4, val_main_v3, val_main_v1,
    val_main_cst_0, val_main_cst_1, val_main_cst_2]
  simp only [cl_eq]
  rfl

theorem v34_apply (c : Fin 128) : val_main_v34 (F := Ideal) x0 x1 x3 x4 (ix3 0 0 c) = val_main_v33 (F := Ideal) x0 x1 x3 x4 (ix1 c) := by
  pointwise [val_main_v34]

theorem zero_cst_4 (i : ReferenceMIdeal.S_.Idx) : val_main_cst_4 (F := Ideal) i = 0 := by pointwise [val_main_cst_4]

theorem zero_cst_5 (i : ReferenceMIdeal.S_.Idx) : val_main_cst_5 (F := Ideal) i = 0 := by pointwise [val_main_cst_5]

theorem v52_apply (c : Fin 128) : val_main_v52 (F := Ideal) x0 x1 x3 x4 (ix2 0 c) = ∑ r : Fin 4096, ∑ h : Fin 4,
    row x0 r h c * rr (row x0 r h) * gated (row x1 r h) (row (val_main_v26 (F := Ideal) x3 x4) r h) c := by
  have e : val_main_v52 (F := Ideal) x0 x1 x3 x4 (ix2 0 c) = val_main_v37 (F := Ideal) x0 x1 x3 x4 (ix1 c) := by
    pointwise [val_main_v52]
  rw [e]
  refine (sum_ones _ _ c).trans ?_
  rw [zero_cst_5, zero_add, v34_apply]
  refine (sum_rows_heads _ _ c).trans ?_
  rw [zero_cst_4, zero_add]
  exact Finset.sum_congr rfl fun r _ => Finset.sum_congr rfl fun h _ => v32_apply x0 x1 x3 x4 r h c

end Ref

/-! ## The kernel's block at an index -/

section Ker

variable (v0 v1 : FVec Ideal S512x512 .f32) (v2 : FVec Ideal S1x128 .f32) (v3 : FVec Ideal S512x1024 .bf16)
  (v5 : FVec Ideal S1024x1024 .bf16)

/-- The row of head `h` of a block of all heads' columns. -/
def brow (x : FVec Ideal S512x512 .f32) (r : Fin 512) (h : Fin 4) (k : Fin 128) : EReal := x (ix2 r (cl h k))

theorem pay7_apply (r c : Fin 512) : k0_pay7 (F := Ideal) v3 v5 (ix2 r c) = ∑ k, v3 (ix2 r k) * v5 (ix2 ⟨c.val, by omega⟩ k) := by
  pointwise [k0_pay7, k0_pay6]

theorem pay2_apply (r c : Fin 512) : k0_pay2 (F := Ideal) (k0_pay6 (F := Ideal) v3 v5) (ix2 r c)
    = ∑ k, v3 (ix2 r k) * v5 (ix2 ⟨512 + c.val, by omega⟩ k) := by
  pointwise [k0_pay2, k0_pay6]

/-- The four heads side by side, at a column of a head. -/
theorem heads_apply (A B C D : FVec Ideal S512x128 .f32) (r : Fin 512) (h : Fin 4) (j : Fin 128) :
    k0_pay3 (F := Ideal) A B C D (ix2 r (cl h j)) = (match h with | 0 => A | 1 => B | 2 => C | 3 => D) (ix2 r j) := by
  pointwise [k0_pay3]
  have hj := j.isLt
  match h with
  | 0 => exact dif_pos hj
  | 1 => exact (dif_neg (show ¬ 128 + j.val < 128 by omega)).trans ((dif_pos (show 128 + j.val - 128 < 128 by omega)).trans
      (congrArg (fun k => B (ix2 r k)) (Fin.ext (show 128 + j.val - 128 = j.val by omega))))
  | 2 => exact (dif_neg (show ¬ 256 + j.val < 128 by omega)).trans ((dif_neg (show ¬ 256 + j.val - 128 < 128 by omega)).trans
      ((dif_pos (show 256 + j.val - 128 - 128 < 128 by omega)).trans
      (congrArg (fun k => C (ix2 r k)) (Fin.ext (show 256 + j.val - 128 - 128 = j.val by omega)))))
  | 3 => exact (dif_neg (show ¬ 384 + j.val < 128 by omega)).trans ((dif_neg (show ¬ 384 + j.val - 128 < 128 by omega)).trans
      ((dif_neg (show ¬ 384 + j.val - 128 - 128 < 128 by omega)).trans
      (congrArg (fun k => D (ix2 r k)) (Fin.ext (show 384 + j.val - 128 - 128 - 128 = j.val by omega)))))

/-- The kernel's gradient of the raw rows, before the heads are put side by side. -/
theorem raw_0 (r : Fin 512) (j : Fin 128) : k0_pay20 (F := Ideal) v0 v2 (k0_pay11 (F := Ideal) v1) (k0_pay13 (F := Ideal) v3 v5) (ix2 r j)
    = rawGrad (brow v0 r 0) (brow v1 r 0) (fun k => v2 (ix2 0 k)) (brow (k0_pay7 (F := Ideal) v3 v5) r 0) j := by
  pointwise [k0_pay20, k0_pay19, k0_pay18, k0_pay17, k0_pay16, k0_pay13, k0_pay11, k0_pay10, k0_pay9]
  simp only [zero_sub]
  rfl

theorem raw_1 (r : Fin 512) (j : Fin 128) : k0_pay34 (F := Ideal) v0 v2 (k0_pay24 (F := Ideal) v1)
      (k0_pay26 (F := Ideal) (k0_pay7 (F := Ideal) v3 v5)) (ix2 r j)
    = rawGrad (brow v0 r 1) (brow v1 r 1) (fun k => v2 (ix2 0 k)) (brow (k0_pay7 (F := Ideal) v3 v5) r 1) j := by
  pointwise [k0_pay34, k0_pay33, k0_pay32, k0_pay31, k0_pay30, k0_pay24, k0_pay23, k0_pay22, k0_pay26]
  simp only [zero_sub]
  rfl

theorem raw_2 (r : Fin 512) (j : Fin 128) : k0_pay44 (F := Ideal) v0 v2 (k0_pay7 (F := Ideal) v3 v5) (k0_pay36 (F := Ideal) v1)
      (k0_pay37 (F := Ideal) v1) (ix2 r j)
    = rawGrad (brow v0 r 2) (brow v1 r 2) (fun k => v2 (ix2 0 k)) (brow (k0_pay7 (F := Ideal) v3 v5) r 2) j := by
  pointwise [k0_pay44, k0_pay43, k0_pay42, k0_pay41, k0_pay40, k0_pay38, k0_pay37, k0_pay36]
  simp only [zero_sub]
  rfl

theorem raw_3 (A B C : FVec Ideal S512x128 .f32) (r : Fin 512) (h : Fin 4) (j : Fin 128) : k0_pay1 (F := Ideal) A B C (k0_pay53 (F := Ideal) v0) (k0_pay54 (F := Ideal) v0)
      (k0_pay55 (F := Ideal) v1 v2 (k0_pay7 (F := Ideal) v3 v5)) (k0_pay56 (F := Ideal) v0 v1 v2 (k0_pay7 (F := Ideal) v3 v5)) (ix2 r (cl h j))
    = (match h with | 0 => A (ix2 r j) | 1 => B (ix2 r j) | 2 => C (ix2 r j) | 3 => rawGrad (brow v0 r 3) (brow v1 r 3) (fun k => v2 (ix2 0 k)) (brow (k0_pay7 (F := Ideal) v3 v5) r 3) j) := by
  refine Eq.trans (b := k0_pay3 (F := Ideal) A B C (mulf (broadcastTo S512x128 (k0_pay53 (F := Ideal) v0) broadcasts_S512x1_S512x128)
    (subf (k0_pay55 (F := Ideal) v1 v2 (k0_pay7 (F := Ideal) v3 v5)) (mulf (k0_pay54 (F := Ideal) v0) (broadcastTo S512x128
      (divf (shapeCast S512x1 (multiReduction .add [1] S512 (k0_pay56 (F := Ideal) v0 v1 v2 (k0_pay7 (F := Ideal) v3 v5)) 0x00000000#32
        reduces_S512x128_S512 (.inl rfl) rfl) shapeCasts_S512_S512x1) (broadcast S512x1 (Scalar.ofBits .f32 0x43000000#32)))
        broadcasts_S512x1_S512x128)))) (ix2 r (cl h j))) rfl ?_
  rw [heads_apply]
  match h with
  | 0 => rfl
  | 1 => rfl
  | 2 => rfl
  | 3 =>
    pointwise [k0_pay56, k0_pay55, k0_pay54, k0_pay53, k0_pay52, k0_pay51, k0_pay49, k0_pay48, k0_pay47]
    simp only [zero_sub]
    rfl

theorem raw_apply (r : Fin 512) (h : Fin 4) (j : Fin 128) :
    k0_pay1 (F := Ideal) (k0_pay20 (F := Ideal) v0 v2 (k0_pay11 (F := Ideal) v1) (k0_pay13 (F := Ideal) v3 v5))
      (k0_pay34 (F := Ideal) v0 v2 (k0_pay24 (F := Ideal) v1) (k0_pay26 (F := Ideal) (k0_pay7 (F := Ideal) v3 v5)))
      (k0_pay44 (F := Ideal) v0 v2 (k0_pay7 (F := Ideal) v3 v5) (k0_pay36 (F := Ideal) v1) (k0_pay37 (F := Ideal) v1))
      (k0_pay53 (F := Ideal) v0) (k0_pay54 (F := Ideal) v0)
      (k0_pay55 (F := Ideal) v1 v2 (k0_pay7 (F := Ideal) v3 v5)) (k0_pay56 (F := Ideal) v0 v1 v2 (k0_pay7 (F := Ideal) v3 v5)) (ix2 r (cl h j))
    = rawGrad (brow v0 r h) (brow v1 r h) (fun k => v2 (ix2 0 k)) (brow (k0_pay7 (F := Ideal) v3 v5) r h) j := by
  rw [raw_3]
  match h with
  | 0 => exact raw_0 v0 v1 v2 v3 v5 r j
  | 1 => exact raw_1 v0 v1 v2 v3 v5 r j
  | 2 => exact raw_2 v0 v1 v2 v3 v5 r j
  | 3 => rfl

theorem gate_apply (r : Fin 512) (h : Fin 4) (j : Fin 128) :
    k0_pay3 (F := Ideal) (k0_pay15 (F := Ideal) (k0_pay12 (F := Ideal) v1) (k0_pay13 (F := Ideal) v3 v5) (k0_pay14 (F := Ideal) v0 v2))
      (k0_pay29 (F := Ideal) v2 (k0_pay25 (F := Ideal) v1) (k0_pay26 (F := Ideal) (k0_pay7 (F := Ideal) v3 v5))
        (k0_pay27 (F := Ideal) v0) (k0_pay28 (F := Ideal) v0))
      (k0_pay39 (F := Ideal) v0 v2 (k0_pay7 (F := Ideal) v3 v5) (k0_pay36 (F := Ideal) v1) (k0_pay37 (F := Ideal) v1))
      (k0_pay50 (F := Ideal) v0 v1 v2 (k0_pay7 (F := Ideal) v3 v5)) (ix2 r (cl h j))
    = gateGrad (brow v0 r h) (brow v1 r h) (fun k => v2 (ix2 0 k)) (brow (k0_pay7 (F := Ideal) v3 v5) r h) j := by
  rw [heads_apply]
  match h with
  | 0 =>
    pointwise [k0_pay15, k0_pay12, k0_pay13, k0_pay14, k0_pay10, k0_pay9]
    simp only [zero_sub]
    rfl
  | 1 =>
    pointwise [k0_pay29, k0_pay28, k0_pay27, k0_pay26, k0_pay25, k0_pay23, k0_pay22]
    simp only [zero_sub]
    rfl
  | 2 =>
    pointwise [k0_pay39, k0_pay38, k0_pay37, k0_pay36]
    simp only [zero_sub]
    rfl
  | 3 =>
    pointwise [k0_pay50, k0_pay49, k0_pay48, k0_pay47]
    simp only [zero_sub]
    rfl

theorem pay4_apply (j : S1x128.Idx) : k0_pay4 (F := Ideal) j = 0 := by pointwise [k0_pay4]

/-- What a block adds to the gradient of the norm's scale. -/
theorem scale_apply (z : FVec Ideal S1x128 .f32) (j : S1x128.Idx) :
    k0_pay5 (F := Ideal) (k0_pay46 (F := Ideal) (k0_pay35 (F := Ideal) v0 (k0_pay21 (F := Ideal) v0 (k0_pay8 (F := Ideal)) (k0_pay11 (F := Ideal) v1)
          (k0_pay13 (F := Ideal) v3 v5)) (k0_pay24 (F := Ideal) v1) (k0_pay26 (F := Ideal) (k0_pay7 (F := Ideal) v3 v5)))
        (k0_pay45 (F := Ideal) v0 (k0_pay7 (F := Ideal) v3 v5) (k0_pay36 (F := Ideal) v1) (k0_pay37 (F := Ideal) v1)))
      (k0_pay52 (F := Ideal) v1 (k0_pay7 (F := Ideal) v3 v5)) (k0_pay54 (F := Ideal) v0) z j
    = z j + ∑ r : Fin 512, ∑ h : Fin 4, gated (brow v1 r h) (brow (k0_pay7 (F := Ideal) v3 v5) r h) (j 1)
        * (brow v0 r h (j 1) * rr (brow v0 r h)) := by
  idx_vars j
  simp only [Fin.sum_univ_four, Finset.sum_add_distrib]
  pointwise [k0_pay5, k0_pay46, k0_pay35, k0_pay21, k0_pay8, k0_pay11, k0_pay45, k0_pay17, k0_pay19, k0_pay18, k0_pay16, k0_pay13,
    k0_pay10, k0_pay9, k0_pay33, k0_pay32, k0_pay31, k0_pay30, k0_pay24, k0_pay23, k0_pay22, k0_pay26, k0_pay43, k0_pay42, k0_pay41,
    k0_pay40, k0_pay38, k0_pay37, k0_pay36, k0_pay54, k0_pay53, k0_pay52, k0_pay51, k0_pay49, k0_pay48, k0_pay47]
  simp only [zero_sub]
  rfl

end Ker
/-! ## The two forms of a row, at finite entries -/

theorem rawGrad_real (a g w d : Fin 128 → EReal) (x w' e : Fin 128 → ℝ) (hx : ∀ k, a k = ((x k : ℝ) : EReal))
    (hw : ∀ k, w k = ((w' k : ℝ) : EReal)) (hd : ∀ k, gated g d k = ((e k : ℝ) : EReal)) (j : Fin 128) :
    rawGrad a g w d j = ((dx x w' e j : ℝ) : EReal) :=
  dx_kernel (B := Ideal.ofBits .f32 0x43000000#32) a w (gated g d) x w' e hx hw hd _ (rsqrt_row (B := Ideal.ofBits .f32 0x43000000#32) a x hx) j

theorem gated_real (g d : Fin 128 → EReal) (hg : ∀ k, IsR (g k)) (hd : ∀ k, IsR (d k)) (k : Fin 128) : IsR (gated g d k) := by
  refine (hd k).mul ((hg k).mul ?_)
  rw [hg k]
  exact IsR.of (sg_real _)

/-! ## The blocks of the arrays, and the outputs after the run -/

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![t.val, 0] ∧ win0_8.index t = ![0, 0] :=
  (by decide +kernel : ∀ t : Fin grid0.N, _)

/-- Every entry of the arrays is a real number. -/
structure Real (c : Dev nD) : Prop where
  h0 : ∀ i, IsR (m ((c : Thread nD τ).loc main_arg0) i)
  h1 : ∀ i, IsR (m ((c : Thread nD τ).loc main_arg1) i)
  h2 : ∀ i, IsR (m ((c : Thread nD τ).loc main_arg2) i)
  h3 : ∀ i, IsR (m ((c : Thread nD τ).loc main_arg3) i)
  h4 : ∀ i, IsR (m ((c : Thread nD τ).loc main_arg4) i)

section Block

variable (c : Dev nD) (t : Fin cfg0.N) (r : Fin 512) (R : Fin 4096) (hR : (R : ℕ) = 512 * t.val + r)
include hR

theorem pay7_block (j : Fin 512) : k0_pay7 (F := Ideal) (iblk m c 0 t) (iblk m c 1 t) (ix2 r j)
      = val_main_v26 (F := Ideal) (m ((c : Thread nD τ).loc main_arg3)) (m ((c : Thread nD τ).loc main_arg4)) (ix2 R j) := by
  rw [v26_apply, pay7_apply]
  blk_point [iblk, V, idx t]

theorem pay2_block (j : Fin 512) : k0_pay2 (F := Ideal) (k0_pay6 (F := Ideal) (iblk m c 0 t) (iblk m c 1 t)) (ix2 r j)
      = val_main_v27 (F := Ideal) (m ((c : Thread nD τ).loc main_arg3)) (m ((c : Thread nD τ).loc main_arg4)) (ix2 R j) := by
  rw [v27_apply, pay2_apply]
  blk_point [iblk, V, idx t]

theorem brow_pay7 (h : Fin 4) : brow (k0_pay7 (F := Ideal) (iblk m c 0 t) (iblk m c 1 t)) r h
      = row (val_main_v26 (F := Ideal) (m ((c : Thread nD τ).loc main_arg3)) (m ((c : Thread nD τ).loc main_arg4))) R h :=
  funext fun k => pay7_block m c t r R hR (cl h k)

theorem brow_raw (h : Fin 4) : brow (iblk m c 2 t) r h = row (m ((c : Thread nD τ).loc main_arg0)) R h := funext fun k =>
  show (show FVec Ideal S512x512 .f32 from iblk m c 2 t) (ix2 r (cl h k)) = m ((c : Thread nD τ).loc main_arg0) (ix2 R (cl h k)) by
    blk_point [iblk, V, idx t]

theorem brow_gate (h : Fin 4) : brow (iblk m c 3 t) r h = row (m ((c : Thread nD τ).loc main_arg1)) R h := funext fun k =>
  show (show FVec Ideal S512x512 .f32 from iblk m c 3 t) (ix2 r (cl h k)) = m ((c : Thread nD τ).loc main_arg1) (ix2 R (cl h k)) by
    blk_point [iblk, V, idx t]

omit hR in
theorem blk_scale : (fun k => (show FVec Ideal S1x128 .f32 from iblk m c 4 t) (ix2 0 k))
      = fun k => m ((c : Thread nD τ).loc main_arg2) (ix2 0 k) := funext fun k => by
  blk_point [iblk, V, idx t]

theorem raw_block (hf : Real m c) (j : Fin 512) :
    k0_pay1 (F := Ideal) (k0_pay20 (F := Ideal) (iblk m c 2 t) (iblk m c 4 t) (k0_pay11 (F := Ideal) (iblk m c 3 t))
        (k0_pay13 (F := Ideal) (iblk m c 0 t) (iblk m c 1 t)))
      (k0_pay34 (F := Ideal) (iblk m c 2 t) (iblk m c 4 t) (k0_pay24 (F := Ideal) (iblk m c 3 t))
        (k0_pay26 (F := Ideal) (k0_pay7 (F := Ideal) (iblk m c 0 t) (iblk m c 1 t))))
      (k0_pay44 (F := Ideal) (iblk m c 2 t) (iblk m c 4 t) (k0_pay7 (F := Ideal) (iblk m c 0 t) (iblk m c 1 t))
        (k0_pay36 (F := Ideal) (iblk m c 3 t)) (k0_pay37 (F := Ideal) (iblk m c 3 t)))
      (k0_pay53 (F := Ideal) (iblk m c 2 t)) (k0_pay54 (F := Ideal) (iblk m c 2 t))
      (k0_pay55 (F := Ideal) (iblk m c 3 t) (iblk m c 4 t) (k0_pay7 (F := Ideal) (iblk m c 0 t) (iblk m c 1 t)))
      (k0_pay56 (F := Ideal) (iblk m c 2 t) (iblk m c 3 t) (iblk m c 4 t) (k0_pay7 (F := Ideal) (iblk m c 0 t) (iblk m c 1 t))) (ix2 r j)
      = val_main_v53 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (ix2 R j) := by
  obtain ⟨h, k, rfl⟩ := cl_of j
  rw [v53_apply]
  refine (raw_apply _ _ _ _ _ r h k).trans ?_
  rw [brow_pay7 m c t r R hR h, brow_raw m c t r R hR h, brow_gate m c t r R hR h, blk_scale m c t]
  have hd := gated_real (row (m ((c : Thread nD τ).loc main_arg1)) R h)
    (row (val_main_v26 (F := Ideal) (m ((c : Thread nD τ).loc main_arg3)) (m ((c : Thread nD τ).loc main_arg4))) R h)
    (fun k => hf.h1 _) (fun k => v26_real _ _ hf.h3 hf.h4 R _)
  rw [v51_apply _ _ _ _ _ R h k _ _ _ (fun k => hf.h0 (ix2 R (cl h k))) (fun k => hf.h2 (ix2 0 k)) hd]
  exact rawGrad_real _ _ _ _ _ _ _ (fun k => hf.h0 (ix2 R (cl h k))) (fun k => hf.h2 (ix2 0 k)) hd k

theorem gate_block (hf : Real m c) (j : Fin 512) :
    k0_pay3 (F := Ideal) (k0_pay15 (F := Ideal) (k0_pay12 (F := Ideal) (iblk m c 3 t)) (k0_pay13 (F := Ideal) (iblk m c 0 t) (iblk m c 1 t))
        (k0_pay14 (F := Ideal) (iblk m c 2 t) (iblk m c 4 t)))
      (k0_pay29 (F := Ideal) (iblk m c 4 t) (k0_pay25 (F := Ideal) (iblk m c 3 t))
        (k0_pay26 (F := Ideal) (k0_pay7 (F := Ideal) (iblk m c 0 t) (iblk m c 1 t)))
        (k0_pay27 (F := Ideal) (iblk m c 2 t)) (k0_pay28 (F := Ideal) (iblk m c 2 t)))
      (k0_pay39 (F := Ideal) (iblk m c 2 t) (iblk m c 4 t) (k0_pay7 (F := Ideal) (iblk m c 0 t) (iblk m c 1 t))
        (k0_pay36 (F := Ideal) (iblk m c 3 t)) (k0_pay37 (F := Ideal) (iblk m c 3 t)))
      (k0_pay50 (F := Ideal) (iblk m c 2 t) (iblk m c 3 t) (iblk m c 4 t) (k0_pay7 (F := Ideal) (iblk m c 0 t) (iblk m c 1 t))) (ix2 r j)
      = val_main_v54 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (ix2 R j) := by
  obtain ⟨h, k, rfl⟩ := cl_of j
  rw [v54_apply _ _ _ _ _ R h k _ _ _ _ (fun k => hf.h0 (ix2 R (cl h k))) (fun k => hf.h2 (ix2 0 k))
    (fun k => hf.h1 (ix2 R (cl h k))) (fun k => v26_real _ _ hf.h3 hf.h4 R (cl h k))]
  refine (gate_apply _ _ _ _ _ r h k).trans ?_
  rw [brow_pay7 m c t r R hR h, brow_raw m c t r R hR h, brow_gate m c t r R hR h, blk_scale m c t]

end Block

theorem emb5 (t : Fin cfg0.N) (y0 y1 : Fin 512) (R : Fin 4096) (hR : (R : ℕ) = 512 * t.val + y0) :
    ((View.whole main_v3_0).slice (win0_5.rect t)).emb (ix2 y0 y1) = ix2 R y1 := by
  blk_ext [idx t]

theorem emb6 (t : Fin cfg0.N) (y0 y1 : Fin 512) (R : Fin 4096) (hR : (R : ℕ) = 512 * t.val + y0) :
    ((View.whole main_v3_1).slice (win0_6.rect t)).emb (ix2 y0 y1) = ix2 R y1 := by
  blk_ext [idx t]

theorem emb7 (t : Fin cfg0.N) (y0 y1 : Fin 512) (R : Fin 4096) (hR : (R : ℕ) = 512 * t.val + y0) :
    ((View.whole main_v3_2).slice (win0_7.rect t)).emb (ix2 y0 y1) = ix2 R y1 := by
  blk_ext [idx t]

theorem row_lt (t : Fin cfg0.N) (y0 : Fin 512) : 512 * t.val + y0 < 4096 := by
  have h : t.val < 8 := lt_of_lt_of_eq t.isLt N_0
  omega

theorem final5 (c : Dev nD) (hf : Real m c) : (dats m 0 c).arrAt 5 (cfgs 0).N
      = val_main_v53 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hw y => ?_
  idx_vars y
  blk_simp [idx t]
  rw [after0_5]
  by_cases h : t.val % 8 = 0
  · rw [outsAt0_A m c t h]; frame_out
    rw [emb5 t y0 y1 ⟨_, row_lt t y0⟩ rfl]
    exact raw_block m c t _ _ rfl hf _
  · rw [outsAt0_B m c t h]; frame_out
    rw [emb5 t y0 y1 ⟨_, row_lt t y0⟩ rfl]
    exact raw_block m c t _ _ rfl hf _

theorem final6 (c : Dev nD) (hf : Real m c) : (dats m 0 c).arrAt 6 (cfgs 0).N
      = val_main_v54 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hw y => ?_
  idx_vars y
  blk_simp [idx t]
  rw [after0_6]
  by_cases h : t.val % 8 = 0
  · rw [outsAt0_A m c t h]; frame_out
    rw [emb6 t y0 y1 ⟨_, row_lt t y0⟩ rfl]
    exact gate_block m c t _ _ rfl hf _
  · rw [outsAt0_B m c t h]; frame_out
    rw [emb6 t y0 y1 ⟨_, row_lt t y0⟩ rfl]
    exact gate_block m c t _ _ rfl hf _

theorem final7 (c : Dev nD) : (dats m 0 c).arrAt 7 (cfgs 0).N
      = val_main_v27 (F := Ideal) (m ((c : Thread nD τ).loc main_arg3)) (m ((c : Thread nD τ).loc main_arg4)) := by
  refine (dats m 0 c).arrAt_eq_of_covers 7 _ (by decide +kernel) fun t hw y => ?_
  idx_vars y
  blk_simp [idx t]
  rw [after0_7]
  by_cases h : t.val % 8 = 0
  · rw [outsAt0_A m c t h]; frame_out
    rw [emb7 t y0 y1 ⟨_, row_lt t y0⟩ rfl]
    exact pay2_block m c t _ _ rfl _
  · rw [outsAt0_B m c t h]; frame_out
    rw [emb7 t y0 y1 ⟨_, row_lt t y0⟩ rfl]
    exact pay2_block m c t _ _ rfl _

theorem final8 (c : Dev nD) : (dats m 0 c).arrAt 8 (cfgs 0).N
      = val_main_v52 (F := Ideal) (m ((c : Thread nD τ).loc main_arg0)) (m ((c : Thread nD τ).loc main_arg1))
        (m ((c : Thread nD τ).loc main_arg3)) (m ((c : Thread nD τ).loc main_arg4)) := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0) _
    (fun t h j => by rw [outsAt0_A m c t h]; frame_out; rw [scale_apply, pay4_apply])
    (fun t h j => by rw [outsAt0_B m c t h]; frame_out; rw [scale_apply])
    (le_of_eq N_0) t0_7 rfl j, zero_add]
  idx_vars j
  obtain rfl : j0 = 0 := Subsingleton.elim _ _
  rw [v52_apply]
  refine Fin.sum_mul_add_congr fun t r hl => ?_
  have hR : ((⟨t.val * 512 + r.val, hl⟩ : Fin 4096) : ℕ) = 512 * t.val + r := by simp only; omega
  refine Finset.sum_congr (M := EReal) rfl fun h _ => ?_
  rw [brow_pay7 m c t r _ hR h, brow_raw m c t r _ hR h, brow_gate m c t r _ hR h]
  exact mul_comm (_ : EReal) _

end Cert.NormM

end
-- ==== Proof.ClaimM.lean ====
/- The claims about the gradient of the output product, of its gate and of the norm of the heads: the reference's
   results are the kernel's, and the reference leaves its arguments alone. -/
module

public import proofs.«01_k».proof.Defs
public import proofs.«01_k».proof.Proof.NormM
public import proofs.«01_k».proof.Proof.Gen.KernelMIdeal.Value
public import proofs.«01_k».proof.Proof.Gen.ReferenceMIdeal.Run
public import proofs.«01_k».proof.Proof.Gen.ReferenceMIdeal.Read
public import proofs.«01_k».proof.Proof.Gen.Pre_finite_m
public import Idealize.ShloMosaic.Lib.Claim
public import Idealize.ShloMosaic.Lib.Quiescent

@[expose] public section

set_option maxRecDepth 16384

noncomputable section

namespace Cert.ClaimM

open Idealize.ShloMosaic Idealize.ShloMosaic.TcCoe Idealize.SL.Sem Cert.RealLift

theorem real_of_pre (m : (ℓ : Loc Cert.KernelMIdeal.nD Cert.KernelMIdeal.τ Cert.KernelMIdeal.sig) → Buf (Elt Ideal) ℓ)
    (hpre : Pre_KernelMIdeal_finite_m m) (c : Dev Cert.KernelMIdeal.nD) : Cert.NormM.Real m c := by
  have h := congrFun (hpre c) ix0
  dsimp only [Cert.Pre_finite_m.fn, Cert.Pre_finite_m.fn_part1] at h
  obtain ⟨h, a4⟩ := andi_one h
  obtain ⟨h, a3⟩ := andi_one h
  obtain ⟨h, a2⟩ := andi_one h
  obtain ⟨a0, a1⟩ := andi_one h
  exact ⟨entries_real _ _ _ _ _ _ _ a0, entries_real _ _ _ _ _ _ _ a1, entries_real _ _ _ _ _ _ _ a2, entries_real _ _ _ _ _ _ _ a3, entries_real _ _ _ _ _ _ _ a4⟩

/-- The reference's run, each result named by the stage that computes it. -/
theorem runRef (m : (ℓ : Loc Cert.ReferenceMIdeal.nD Cert.ReferenceMIdeal.τ Cert.ReferenceMIdeal.sig) → Buf (Elt Ideal) ℓ) (ρ : Dev Cert.ReferenceMIdeal.nD → PrngReg) :
    θ_run Cert.ReferenceMIdeal.defs (onTc (τ := Cert.ReferenceMIdeal.τ) (Cert.ReferenceMIdeal.main (F := Ideal))) ⟨m, fun _ => 0, ρ⟩ fun r => ∀ c : Dev Cert.ReferenceMIdeal.nD,
      r.2.mem ((c.tc : Thread Cert.ReferenceMIdeal.nD Cert.ReferenceMIdeal.τ).loc Cert.ReferenceMIdeal.main_v53) = Cert.ReferenceMIdeal.Read.val_main_v53 (F := Ideal) (m ((c.tc : Thread Cert.ReferenceMIdeal.nD Cert.ReferenceMIdeal.τ).loc Cert.ReferenceMIdeal.main_arg0)) (m ((c.tc : Thread Cert.ReferenceMIdeal.nD Cert.ReferenceMIdeal.τ).loc Cert.ReferenceMIdeal.main_arg1)) (m ((c.tc : Thread Cert.ReferenceMIdeal.nD Cert.ReferenceMIdeal.τ).loc Cert.ReferenceMIdeal.main_arg2)) (m ((c.tc : Thread Cert.ReferenceMIdeal.nD Cert.ReferenceMIdeal.τ).loc Cert.ReferenceMIdeal.main_arg3)) (m ((c.tc : Thread Cert.ReferenceMIdeal.nD Cert.ReferenceMIdeal.τ).loc Cert.ReferenceMIdeal.main_arg4))
      ∧      r.2.mem ((c.tc : Thread Cert.ReferenceMIdeal.nD Cert.ReferenceMIdeal.τ).loc Cert.ReferenceMIdeal.main_v54) = Cert.ReferenceMIdeal.Read.val_main_v54 (F := Ideal) (m ((c.tc : Thread Cert.ReferenceMIdeal.nD Cert.ReferenceMIdeal.τ).loc Cert.ReferenceMIdeal.main_arg0)) (m ((c.tc : Thread Cert.ReferenceMIdeal.nD Cert.ReferenceMIdeal.τ).loc Cert.ReferenceMIdeal.main_arg1)) (m ((c.tc : Thread Cert.ReferenceMIdeal.nD Cert.ReferenceMIdeal.τ).loc Cert.ReferenceMIdeal.main_arg2)) (m ((c.tc : Thread Cert.ReferenceMIdeal.nD Cert.ReferenceMIdeal.τ).loc Cert.ReferenceMIdeal.main_arg3)) (m ((c.tc : Thread Cert.ReferenceMIdeal.nD Cert.ReferenceMIdeal.τ).loc Cert.ReferenceMIdeal.main_arg4))
      ∧      r.2.mem ((c.tc : Thread Cert.ReferenceMIdeal.nD Cert.ReferenceMIdeal.τ).loc Cert.ReferenceMIdeal.main_v27) = Cert.ReferenceMIdeal.Read.val_main_v27 (F := Ideal) (m ((c.tc : Thread Cert.ReferenceMIdeal.nD Cert.ReferenceMIdeal.τ).loc Cert.ReferenceMIdeal.main_arg3)) (m ((c.tc : Thread Cert.ReferenceMIdeal.nD Cert.ReferenceMIdeal.τ).loc Cert.ReferenceMIdeal.main_arg4))
      ∧      r.2.mem ((c.tc : Thread Cert.ReferenceMIdeal.nD Cert.ReferenceMIdeal.τ).loc Cert.ReferenceMIdeal.main_v52) = Cert.ReferenceMIdeal.Read.val_main_v52 (F := Ideal) (m ((c.tc : Thread Cert.ReferenceMIdeal.nD Cert.ReferenceMIdeal.τ).loc Cert.ReferenceMIdeal.main_arg0)) (m ((c.tc : Thread Cert.ReferenceMIdeal.nD Cert.ReferenceMIdeal.τ).loc Cert.ReferenceMIdeal.main_arg1)) (m ((c.tc : Thread Cert.ReferenceMIdeal.nD Cert.ReferenceMIdeal.τ).loc Cert.ReferenceMIdeal.main_arg3)) (m ((c.tc : Thread Cert.ReferenceMIdeal.nD Cert.ReferenceMIdeal.τ).loc Cert.ReferenceMIdeal.main_arg4))
      ∧r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0) ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1) ∧ r.2.mem ((c.tc : Thread Cert.ReferenceMIdeal.nD Cert.ReferenceMIdeal.τ).loc Cert.ReferenceMIdeal.main_arg2) = m ((c.tc : Thread Cert.ReferenceMIdeal.nD Cert.ReferenceMIdeal.τ).loc Cert.ReferenceMIdeal.main_arg2) ∧ r.2.mem ((c.tc : Thread Cert.ReferenceMIdeal.nD Cert.ReferenceMIdeal.τ).loc Cert.ReferenceMIdeal.main_arg3) = m ((c.tc : Thread Cert.ReferenceMIdeal.nD Cert.ReferenceMIdeal.τ).loc Cert.ReferenceMIdeal.main_arg3) ∧ r.2.mem ((c.tc : Thread Cert.ReferenceMIdeal.nD Cert.ReferenceMIdeal.τ).loc Cert.ReferenceMIdeal.main_arg4) = m ((c.tc : Thread Cert.ReferenceMIdeal.nD Cert.ReferenceMIdeal.τ).loc Cert.ReferenceMIdeal.main_arg4) :=
  (θ_run Cert.ReferenceMIdeal.defs _ _).mono (fun _ h c => ⟨(h c).1.trans (Cert.ReferenceMIdeal.Read.val_main_v53_eq m c),
    (h c).2.1.trans (Cert.ReferenceMIdeal.Read.val_main_v54_eq (m ((c.tc : Thread Cert.ReferenceMIdeal.nD Cert.ReferenceMIdeal.τ).loc Cert.ReferenceMIdeal.main_arg0)) (m ((c.tc : Thread Cert.ReferenceMIdeal.nD Cert.ReferenceMIdeal.τ).loc Cert.ReferenceMIdeal.main_arg1)) (m ((c.tc : Thread Cert.ReferenceMIdeal.nD Cert.ReferenceMIdeal.τ).loc Cert.ReferenceMIdeal.main_arg2)) (m ((c.tc : Thread Cert.ReferenceMIdeal.nD Cert.ReferenceMIdeal.τ).loc Cert.ReferenceMIdeal.main_arg3)) (m ((c.tc : Thread Cert.ReferenceMIdeal.nD Cert.ReferenceMIdeal.τ).loc Cert.ReferenceMIdeal.main_arg4))),
    (h c).2.2.1.trans (Cert.ReferenceMIdeal.Read.val_main_v27_eq (m ((c.tc : Thread Cert.ReferenceMIdeal.nD Cert.ReferenceMIdeal.τ).loc Cert.ReferenceMIdeal.main_arg3)) (m ((c.tc : Thread Cert.ReferenceMIdeal.nD Cert.ReferenceMIdeal.τ).loc Cert.ReferenceMIdeal.main_arg4))),
    (h c).2.2.2.1.trans (Cert.ReferenceMIdeal.Read.val_main_v52_eq (m ((c.tc : Thread Cert.ReferenceMIdeal.nD Cert.ReferenceMIdeal.τ).loc Cert.ReferenceMIdeal.main_arg0)) (m ((c.tc : Thread Cert.ReferenceMIdeal.nD Cert.ReferenceMIdeal.τ).loc Cert.ReferenceMIdeal.main_arg1)) (m ((c.tc : Thread Cert.ReferenceMIdeal.nD Cert.ReferenceMIdeal.τ).loc Cert.ReferenceMIdeal.main_arg3)) (m ((c.tc : Thread Cert.ReferenceMIdeal.nD Cert.ReferenceMIdeal.τ).loc Cert.ReferenceMIdeal.main_arg4))),
    (h c).2.2.2.2⟩)
    (Cert.ReferenceMIdeal.Value.run m ρ)

theorem algebraic : algebraic_KernelMIdeal_ReferenceMIdeal_pre_finite_m := by
  pair_intro
  · run_from Cert.KernelMIdeal.Value.run_blocks m g
  · run_from runRef m' g'
    · exact (Cert.NormM.final5 m c (real_of_pre m hpre c)).symm
    · exact (Cert.NormM.final6 m c (real_of_pre m hpre c)).symm
    · exact (Cert.NormM.final7 m c).symm
    · exact (Cert.NormM.final8 m c).symm

/-- The reference leaves its arguments alone, and declares no counter. -/
theorem frameRef : quiescent_ReferenceMIdeal := fun m g _ =>
  (θ_run Cert.ReferenceMIdeal.defs _ _).mono (fun r h => ⟨fun c => (h c).2.2.2.2, sem_eq_zero_of_no_sems (by decide) r.2⟩)
    (Cert.ReferenceMIdeal.Value.run m g)

theorem frameRefPre : quiescent_ReferenceMIdeal_pre_finite_m := fun m g _ => frameRef m g trivial

end Cert.ClaimM

end
-- ==== Proof.NormF.lean ====
/- The backward pass of the gated block with a convolution of three taps along the rows: the kernel, which goes over the
   blocks of rows from the last to the first and carries eight rows, against the reference. -/
module

public import proofs.«01_k».proof.Proof.Gen.KernelFIdeal.Value
public import proofs.«01_k».proof.Proof.Gen.ReferenceFIdeal.Read
public import proofs.«01_k».proof.Proof.RmsReal
public import Idealize.ShloMosaic.Lib.Pipeline.ValueKit

@[expose] public section

set_option maxRecDepth 16384

noncomputable section

namespace Cert.NormF

open Idealize.ShloMosaic Idealize.ShloMosaic.TcCoe Idealize.SL.Sem
open Idealize.ShloMosaic.Pipeline (Dat)
open Cert.KernelFIdeal Cert.KernelFIdeal.Gen Cert.RealLift Cert.RmsReal
open Cert.ReferenceFIdeal.Read

/-! ## The gradient of the gate, row by row -/

section Rows

variable (X0 : FVec Ideal S4096x1024 .f32) (X1 X2 : FVec Ideal S1x1024x2816 .f32) (X3 : FVec Ideal S1x3x2816 .f32)
  (X4 : FVec Ideal S1x2816 .f32) (X5 : FVec Ideal S1x2816x1024 .f32) (X6 : FVec Ideal S4096x1024 .f32)

/-- The logistic function. -/
def sg (x : EReal) : EReal := Ideal.div 1 (1 + Ideal.exp (-x))

theorem sg_real (x : ℝ) : sg (x : EReal) = ((1 / (1 + Real.exp (-x)) : ℝ) : EReal) := by
  have h : (1 + Real.exp (-x)) ≠ 0 := by positivity
  unfold sg
  rw [← EReal.coe_neg, Ideal.exp_coe, ← EReal.coe_one, ← EReal.coe_add, coe_div _ h]

/-- The gradient of the gate: once with the common factor taken out, once summed over the two uses of the gate. -/
theorem gate_forms (D U G S : ℝ) : (D : EReal) * U * (S + G * S * (1 - S)) = (D : EReal) * U * S + G * (D * U) * (S * (1 - S)) := by
  rw [← EReal.coe_one]
  simp only [← EReal.coe_mul, ← EReal.coe_add, ← EReal.coe_sub]
  congr 1
  ring

/-- Row `R` of the gate's projection, zero past the last row. -/
def gp (R : ℕ) (C : Fin 2816) : EReal := if h : R < 4096 then val_main_v1 (F := Ideal) X0 X1 (ix2 ⟨R, h⟩ C) else 0

/-- Row `R` of the gradient of the gate, zero past the last row. -/
def dg (R : ℕ) (C : Fin 2816) : EReal :=
  if h : R < 4096 then val_main_v39 (F := Ideal) X0 X1 X2 X3 X4 X5 X6 (ix2 ⟨R, h⟩ C) else 0

theorem gp_of (R : Fin 4096) (C : Fin 2816) : gp X0 X1 R C = val_main_v1 (F := Ideal) X0 X1 (ix2 R C) := dif_pos R.isLt

theorem dg_of (R : Fin 4096) (C : Fin 2816) : dg X0 X1 X2 X3 X4 X5 X6 R C = val_main_v39 (F := Ideal) X0 X1 X2 X3 X4 X5 X6 (ix2 R C) :=
  dif_pos R.isLt

theorem dg_past (R : ℕ) (h : 4096 ≤ R) (C : Fin 2816) : dg X0 X1 X2 X3 X4 X5 X6 R C = 0 := dif_neg (by omega)

/-- The gate's projection `k` rows earlier, zero before the first row. -/
def lag (k R : ℕ) (C : Fin 2816) : EReal := if R < k then 0 else gp X0 X1 (R - k) C

theorem v9_apply (R : Fin 4096) (C : Fin 2816) : val_main_v9 (F := Ideal) X0 X1 (ix2 R C) = lag X0 X1 2 R C := by
  pointwise [val_main_v9, val_main_v7, val_main_v6, val_main_cst]
  unfold lag
  by_cases h : R.val < 2
  · rw [dif_pos h, if_pos h]
  · rw [dif_neg h, if_neg h]
    exact (gp_of X0 X1 ⟨R.val - 2, by omega⟩ C).symm

theorem v15_apply (R : Fin 4096) (C : Fin 2816) : val_main_v15 (F := Ideal) X0 X1 (ix2 R C) = lag X0 X1 1 R C := by
  pointwise [val_main_v15, val_main_v7, val_main_v6, val_main_cst]
  unfold lag
  by_cases h : 1 + R.val < 2
  · refine Eq.trans ?_ (if_pos (show R.val < 1 by omega)).symm
    rw [dif_pos h]
  · refine Eq.trans ?_ (if_neg (show ¬R.val < 1 by omega)).symm
    rw [dif_neg h]
    refine Eq.trans ?_ (gp_of X0 X1 ⟨R.val - 1, by omega⟩ C).symm
    exact congrArg (fun k => val_main_v1 (F := Ideal) X0 X1 (ix2 k C)) (Fin.ext (show 1 + R.val - 2 = R.val - 1 by omega))

theorem v22_apply (R : Fin 4096) (C : Fin 2816) : val_main_v22 (F := Ideal) X0 X1 (ix2 R C) = lag X0 X1 0 R C := by
  pointwise [val_main_v22, val_main_v7, val_main_v6, val_main_cst]
  unfold lag
  rw [if_neg (by omega)]
  exact (gp_of X0 X1 R C).symm

theorem v31_apply (R : Fin 4096) (C : Fin 2816) : val_main_v31 (F := Ideal) X0 X1 X3 X4 (ix2 R C)
    = lag X0 X1 2 R C * X3 (ix3 0 0 C) + lag X0 X1 1 R C * X3 (ix3 0 1 C) + lag X0 X1 0 R C * X3 (ix3 0 2 C) + X4 (ix2 0 C) := by
  rw [← v9_apply, ← v15_apply, ← v22_apply]
  pointwise [val_main_v31, val_main_v30, val_main_v29, val_main_v28, val_main_v27, val_main_v26, val_main_v25, val_main_v24,
    val_main_v23, val_main_v21, val_main_v20, val_main_v19, val_main_v18, val_main_v17, val_main_v16, val_main_v14, val_main_v13,
    val_main_v12, val_main_v11, val_main_v10, val_main_v8, val_main_v5, val_main_v4]

theorem v36_apply (R : Fin 4096) (C : Fin 2816) : val_main_v36 (F := Ideal) X5 X6 (ix2 R C) = ∑ x, X6 (ix2 R x) * X5 (ix3 0 C x) := by
  pointwise [val_main_v36, val_main_v34]

theorem v1_apply (R : Fin 4096) (C : Fin 2816) : val_main_v1 (F := Ideal) X0 X1 (ix2 R C) = ∑ x, X0 (ix2 R x) * X1 (ix3 0 x C) := by
  pointwise [val_main_v1, val_main_v0]

theorem v3_apply (R : Fin 4096) (C : Fin 2816) : val_main_v3 (F := Ideal) X0 X2 (ix2 R C) = ∑ x, X0 (ix2 R x) * X2 (ix3 0 x C) := by
  pointwise [val_main_v3, val_main_v2]

theorem v79_apply (R : Fin 4096) (C : Fin 2816) : val_main_v79 (F := Ideal) X0 X1 X3 X4 X5 X6 (ix2 R C)
    = val_main_v31 (F := Ideal) X0 X1 X3 X4 (ix2 R C) * sg (val_main_v31 (F := Ideal) X0 X1 X3 X4 (ix2 R C))
      * val_main_v36 (F := Ideal) X5 X6 (ix2 R C) := by
  pointwise [val_main_v79, val_main_v37, val_main_v32_0, val_main_v32_2, val_main_call0_v0, val_main_call0_v1, val_main_call0_v2,
    val_main_call0_v3, val_main_call0_v4, val_main_call0_cst, val_main_call0_cst_0]
  rfl

theorem v39_apply (R : Fin 4096) (C : Fin 2816) : val_main_v39 (F := Ideal) X0 X1 X2 X3 X4 X5 X6 (ix2 R C)
    = val_main_v36 (F := Ideal) X5 X6 (ix2 R C) * val_main_v3 (F := Ideal) X0 X2 (ix2 R C)
        * sg (val_main_v31 (F := Ideal) X0 X1 X3 X4 (ix2 R C))
      + val_main_v31 (F := Ideal) X0 X1 X3 X4 (ix2 R C)
        * (val_main_v36 (F := Ideal) X5 X6 (ix2 R C) * val_main_v3 (F := Ideal) X0 X2 (ix2 R C))
        * (sg (val_main_v31 (F := Ideal) X0 X1 X3 X4 (ix2 R C)) * (1 - sg (val_main_v31 (F := Ideal) X0 X1 X3 X4 (ix2 R C)))) := by
  pointwise [val_main_v39, val_main_v38, val_main_v37, val_main_v32_0, val_main_v32_1, val_main_v32_2, val_main_call1_v1,
    val_main_call1_v2, val_main_call1_v0, val_main_call0_v0, val_main_call0_v1, val_main_call0_v2, val_main_call0_v3,
    val_main_call0_v4, val_main_call0_v6, val_main_call0_v7, val_main_call0_cst, val_main_call0_cst_0, val_main_call0_cst_1]
  rfl

section
variable (h0 : ∀ i, IsR (X0 i)) (h1 : ∀ i, IsR (X1 i)) (h2 : ∀ i, IsR (X2 i)) (h3 : ∀ i, IsR (X3 i)) (h4 : ∀ i, IsR (X4 i))
  (h5 : ∀ i, IsR (X5 i)) (h6 : ∀ i, IsR (X6 i))
include h0 h1

theorem lag_real (k : ℕ) (R : Fin 4096) (C : Fin 2816) : IsR (lag X0 X1 k R C) := by
  unfold lag
  split
  · exact IsR.of EReal.coe_zero.symm
  · refine Eq.mp (congrArg IsR (gp_of X0 X1 ⟨R.val - k, by omega⟩ C).symm) ?_
    rw [v1_apply]
    exact IsR.sum _ fun x => (h0 _).mul (h1 _)

include h3 h4

theorem v31_real (R : Fin 4096) (C : Fin 2816) : IsR (val_main_v31 (F := Ideal) X0 X1 X3 X4 (ix2 R C)) := by
  rw [v31_apply]
  have h := fun k => lag_real X0 X1 h0 h1 k R C
  exact ((((h 2).mul (h3 _)).add ((h 1).mul (h3 _))).add ((h 0).mul (h3 _))).add (h4 _)

include h2 h5 h6

/-- The gradient of the gate with the common factor taken out. -/
theorem v39_forms (R : Fin 4096) (C : Fin 2816) :
    val_main_v36 (F := Ideal) X5 X6 (ix2 R C) * val_main_v3 (F := Ideal) X0 X2 (ix2 R C)
        * (sg (val_main_v31 (F := Ideal) X0 X1 X3 X4 (ix2 R C))
          + val_main_v31 (F := Ideal) X0 X1 X3 X4 (ix2 R C) * sg (val_main_v31 (F := Ideal) X0 X1 X3 X4 (ix2 R C))
            * (1 - sg (val_main_v31 (F := Ideal) X0 X1 X3 X4 (ix2 R C))))
      = val_main_v39 (F := Ideal) X0 X1 X2 X3 X4 X5 X6 (ix2 R C) := by
  have hd : IsR (val_main_v36 (F := Ideal) X5 X6 (ix2 R C)) := by
    rw [v36_apply]; exact IsR.sum _ fun x => (h6 _).mul (h5 _)
  have hu : IsR (val_main_v3 (F := Ideal) X0 X2 (ix2 R C)) := by
    rw [v3_apply]; exact IsR.sum _ fun x => (h0 _).mul (h2 _)
  rw [v39_apply, hd, hu, v31_real X0 X1 X3 X4 h0 h1 h3 h4 R C, sg_real]
  exact gate_forms _ _ _ _
end

/-! ## The four results as sums over rows -/

/-- Sums of products with a row shifted one way and with the other row shifted the other way. -/
theorem sum_shift (a b : ℕ → EReal) (n k : ℕ) (hk : k ≤ n) (hb : ∀ R, n ≤ R → b R = 0) :
    ∑ R : Fin n, (if R.val < k then 0 else a (R.val - k)) * b R = ∑ R : Fin n, a R * b (R.val + k) := by
  rw [Fin.sum_univ_eq_sum_range (fun R => (if R < k then 0 else a (R - k)) * b R),
    Fin.sum_univ_eq_sum_range (fun R => a R * b (R + k))]
  obtain ⟨d, rfl⟩ := Nat.exists_eq_add_of_le hk
  have hl : ∑ R ∈ Finset.range (k + d), (if R < k then 0 else a (R - k)) * b R = ∑ x ∈ Finset.range d, a x * b (x + k) := by
    rw [Finset.sum_range_add, Finset.sum_eq_zero fun x hx => by rw [if_pos (Finset.mem_range.mp hx), zero_mul], zero_add]
    refine Finset.sum_congr rfl fun x _ => ?_
    rw [if_neg (by omega), Nat.add_sub_cancel_left, Nat.add_comm k x]
  have hr : ∑ R ∈ Finset.range (k + d), a R * b (R + k) = ∑ x ∈ Finset.range d, a x * b (x + k) := by
    rw [Nat.add_comm k d, Finset.sum_range_add, add_comm,
      Finset.sum_eq_zero fun x _ => by rw [hb _ (by omega), mul_zero], zero_add]
  rw [hl, hr]

/-- The gradient of a tap of the convolution: the products with the gradient of the gate `k` rows later. -/
def tap (k : ℕ) (C : Fin 2816) : EReal := ∑ R : Fin 4096, gp X0 X1 R C * dg X0 X1 X2 X3 X4 X5 X6 (R.val + k) C

theorem lag_tap (k : ℕ) (hk : k ≤ 4096) (C : Fin 2816) :
    ∑ R : Fin 4096, lag X0 X1 k R C * val_main_v39 (F := Ideal) X0 X1 X2 X3 X4 X5 X6 (ix2 R C) = tap X0 X1 X2 X3 X4 X5 X6 k C := by
  unfold tap
  rw [← sum_shift (fun R => gp X0 X1 R C) (fun R => dg X0 X1 X2 X3 X4 X5 X6 R C) 4096 k hk
    fun R hR => dg_past X0 X1 X2 X3 X4 X5 X6 R hR C]
  exact Finset.sum_congr rfl fun R _ => congrArg _ (dg_of X0 X1 X2 X3 X4 X5 X6 R C).symm

theorem v49_apply (q : Fin 1) (C : Fin 2816) : val_main_v49 (F := Ideal) X0 X1 X2 X3 X4 X5 X6 (ix2 q C) = tap X0 X1 X2 X3 X4 X5 X6 0 C := by
  pointwise [val_main_v49, val_main_v48, val_main_v45, val_main_v44, val_main_v43, val_main_cst_3, val_main_cst_4]
  simp only [Finset.univ_unique, Finset.sum_singleton, zero_add]
  rw [← lag_tap X0 X1 X2 X3 X4 X5 X6 0 (by omega) C]
  exact Finset.sum_congr rfl fun R _ => by rw [v22_apply]

theorem v58_apply (q : Fin 1) (C : Fin 2816) : val_main_v58 (F := Ideal) X0 X1 X2 X3 X4 X5 X6 (ix2 q C) = tap X0 X1 X2 X3 X4 X5 X6 1 C := by
  pointwise [val_main_v58, val_main_v57, val_main_v54, val_main_v53, val_main_v52, val_main_cst_7, val_main_cst_8]
  simp only [Finset.univ_unique, Finset.sum_singleton, zero_add]
  rw [← lag_tap X0 X1 X2 X3 X4 X5 X6 1 (by omega) C]
  exact Finset.sum_congr rfl fun R _ => by rw [v15_apply]

theorem v69_apply (q : Fin 1) (C : Fin 2816) : val_main_v69 (F := Ideal) X0 X1 X2 X3 X4 X5 X6 (ix2 q C) = tap X0 X1 X2 X3 X4 X5 X6 2 C := by
  pointwise [val_main_v69, val_main_v68, val_main_v65, val_main_v64, val_main_v63, val_main_cst_11, val_main_cst_12]
  simp only [Finset.univ_unique, Finset.sum_singleton, zero_add]
  rw [← lag_tap X0 X1 X2 X3 X4 X5 X6 2 (by omega) C]
  exact Finset.sum_congr rfl fun R _ => by rw [v9_apply]

/-- Row `r` of an array of three rows padded below by zeros. -/
def rows3 (a b c : EReal) (r : ℕ) : EReal := if r < 1 then a else if r - 1 < 1 then b else if r - 1 - 1 < 1 then c else 0

theorem rows3_sum {n : ℕ} (a b c : Fin n → EReal) (r : ℕ) :
    rows3 (∑ s, a s) (∑ s, b s) (∑ s, c s) r = ∑ s, rows3 (a s) (b s) (c s) r := by
  unfold rows3
  split_ifs
  · rfl
  · rfl
  · rfl
  · exact Finset.sum_const_zero.symm

theorem v81_apply (r : Fin 8) (C : Fin 2816) : val_main_v81 (F := Ideal) X0 X1 X2 X3 X4 X5 X6 (ix2 r C)
    = rows3 (tap X0 X1 X2 X3 X4 X5 X6 2 C) (tap X0 X1 X2 X3 X4 X5 X6 1 C) (tap X0 X1 X2 X3 X4 X5 X6 0 C) r := by
  pointwise [val_main_v81, val_main_v80, val_main_v77, val_main_v71, val_main_v70, val_main_v60, val_main_v59, val_main_v50,
    val_main_cst_5, val_main_cst_9, val_main_cst_13]
  unfold rows3
  have hz : val_main_call2_v0 (F := Ideal) (Shape.Idx.first ReferenceFIdeal.Gen.h_S_) = 0 := by
    pointwise [val_main_call2_v0, val_main_c]
    exact (show ((((0#32 : BitVec 32).toInt : ℝ)) : EReal) = 0 by simp)
  rw [hz]
  simp only [v49_apply, v58_apply, v69_apply]
  rcases r with ⟨r, hr⟩
  rcases r with _ | _ | _ | r <;> simp

theorem v76_apply (q : Fin 1) (C : Fin 2816) : val_main_v76 (F := Ideal) X0 X1 X2 X3 X4 X5 X6 (ix2 q C)
    = ∑ R : Fin 4096, dg X0 X1 X2 X3 X4 X5 X6 R C := by
  pointwise [val_main_v76, val_main_v42, val_main_v41, val_main_v40, val_main_cst_1, val_main_cst_2]
  simp only [Finset.univ_unique, Finset.sum_singleton, zero_add]
  exact Finset.sum_congr rfl fun R _ => (dg_of X0 X1 X2 X3 X4 X5 X6 R C).symm

/-- The gradient of the gate's projection at a row: three rows of the gradient of the gate, each times its tap. -/
def back (R : ℕ) (C : Fin 2816) : EReal :=
  X3 (ix3 0 2 C) * dg X0 X1 X2 X3 X4 X5 X6 R C + X3 (ix3 0 1 C) * dg X0 X1 X2 X3 X4 X5 X6 (R + 1) C
    + X3 (ix3 0 0 C) * dg X0 X1 X2 X3 X4 X5 X6 (R + 2) C

theorem v47_apply (R : Fin 4096) (C : Fin 2816) : val_main_v47 (F := Ideal) X0 X1 X2 X3 X4 X5 X6 (ix2 R C)
    = X3 (ix3 0 2 C) * dg X0 X1 X2 X3 X4 X5 X6 R C := by
  pointwise [val_main_v47, val_main_v46, val_main_v25, val_main_v24, val_main_v23, val_main_v5, val_main_v4]
  rw [dg_of]
  exact mul_comm (_ : EReal) _

theorem v56_apply (R : Fin 4096) (C : Fin 2816) : val_main_v56 (F := Ideal) X0 X1 X2 X3 X4 X5 X6 (ix2 R C)
    = X3 (ix3 0 1 C) * dg X0 X1 X2 X3 X4 X5 X6 R C := by
  pointwise [val_main_v56, val_main_v55, val_main_v18, val_main_v17, val_main_v16, val_main_v5, val_main_v4]
  rw [dg_of]
  exact mul_comm (_ : EReal) _

theorem v67_apply (R : Fin 4096) (C : Fin 2816) : val_main_v67 (F := Ideal) X0 X1 X2 X3 X4 X5 X6 (ix2 R C)
    = X3 (ix3 0 0 C) * dg X0 X1 X2 X3 X4 X5 X6 R C := by
  pointwise [val_main_v67, val_main_v66, val_main_v12, val_main_v11, val_main_v10, val_main_v5, val_main_v4]
  rw [dg_of]
  exact mul_comm (_ : EReal) _

theorem v78_apply (R : Fin 4096) (C : Fin 2816) : val_main_v78 (F := Ideal) X0 X1 X2 X3 X4 X5 X6 (ix2 R C) = back X0 X1 X2 X3 X4 X5 X6 R C := by
  pointwise [val_main_v78, val_main_v75, val_main_v73, val_main_v72, val_main_v62, val_main_v61, val_main_v51, val_main_cst_10,
    val_main_cst_14]
  unfold back
  rw [v47_apply]
  refine congrArg₂ (· + · : EReal → EReal → EReal) (congrArg₂ (· + · : EReal → EReal → EReal) rfl ?_) ?_
  · by_cases h : R.val + 1 < 4096
    · refine (dif_pos ⟨by omega, by omega⟩).trans ?_
      rw [v56_apply]
      exact congrArg (fun k => X3 (ix3 0 1 C) * dg X0 X1 X2 X3 X4 X5 X6 k C) (show 2 + R.val - 1 = R.val + 1 by omega)
    · refine (dif_neg (by omega)).trans ?_
      rw [dg_past _ _ _ _ _ _ _ _ (by omega), mul_zero]
  · by_cases h : R.val + 2 < 4096
    · refine (dif_pos (by omega)).trans ?_
      rw [v67_apply]
      exact congrArg (fun k => X3 (ix3 0 0 C) * dg X0 X1 X2 X3 X4 X5 X6 k C) (show 2 + R.val = R.val + 2 by omega)
    · refine (dif_neg (by omega)).trans ?_
      rw [dg_past _ _ _ _ _ _ _ _ (by omega), mul_zero]

end Rows

/-! ## The payloads -/

section Pay

variable (P Q : ℕ → EReal) (p : ℕ) (j : Fin 1408) (a b : FVec Ideal S512x1408 .f32) (c : FVec Ideal S8x1408 .f32)
  (hb : ∀ r : Fin 512, b (ix2 r j) = Q (p + r)) (hc : ∀ r : Fin 8, c (ix2 r j) = Q (p + 512 + r))
include hb hc

/-- The block continued by the first rows of the next one, one row on. -/
theorem pay14_apply (r : Fin 512) : k0_pay14 (F := Ideal) b c (ix2 r j) = Q (p + r + 1) := by
  pointwise [k0_pay14, k0_pay13]
  have hm : (r.val + 520 - 519) % 520 = r.val + 1 := by omega
  by_cases h : r.val + 1 < 512
  · refine (dif_pos (by omega)).trans ((hb _).trans (congrArg Q ?_))
    exact (show p + (r.val + 520 - 519) % 520 = p + r.val + 1 by omega)
  · refine (dif_neg (by omega)).trans ((hc _).trans (congrArg Q ?_))
    exact (show p + 512 + ((r.val + 520 - 519) % 520 - 512) = p + r.val + 1 by omega)

/-- … two rows on. -/
theorem pay15_apply (r : Fin 512) : k0_pay15 (F := Ideal) b c (ix2 r j) = Q (p + r + 2) := by
  pointwise [k0_pay15, k0_pay13]
  have hm : (r.val + 520 - 518) % 520 = r.val + 2 := by omega
  by_cases h : r.val + 2 < 512
  · refine (dif_pos (by omega)).trans ((hb _).trans (congrArg Q ?_))
    exact (show p + (r.val + 520 - 518) % 520 = p + r.val + 2 by omega)
  · refine (dif_neg (by omega)).trans ((hc _).trans (congrArg Q ?_))
    exact (show p + 512 + ((r.val + 520 - 518) % 520 - 512) = p + r.val + 2 by omega)

theorem pay16_apply (w : FVec Ideal S8x1408 .f32) (r : Fin 512) : k0_pay16 (F := Ideal) w b c (ix2 r j)
    = w (ix2 2 j) * Q (p + r) + w (ix2 1 j) * Q (p + r + 1) + w (ix2 0 j) * Q (p + r + 2) := by
  rw [← pay14_apply Q p j b c hb hc, ← pay15_apply Q p j b c hb hc, ← hb]
  pointwise [k0_pay16]

theorem pay17_apply (ha : ∀ r : Fin 512, a (ix2 r j) = P (p + r)) (acc : FVec Ideal S8x1408 .f32) (r : Fin 8) :
    k0_pay17 (F := Ideal) a b c acc (ix2 r j) = acc (ix2 r j)
      + rows3 (∑ x : Fin 512, P (p + x) * Q (p + x + 2)) (∑ x : Fin 512, P (p + x) * Q (p + x + 1)) (∑ x : Fin 512, P (p + x) * Q (p + x + 0)) r := by
  have e2 : ∑ x : Fin 512, P (p + x) * Q (p + x + 2) = ∑ x : Fin 512, a (ix2 x j) * k0_pay15 (F := Ideal) b c (ix2 x j) :=
    Finset.sum_congr rfl fun x _ => by rw [ha, pay15_apply Q p j b c hb hc]
  have e1 : ∑ x : Fin 512, P (p + x) * Q (p + x + 1) = ∑ x : Fin 512, a (ix2 x j) * k0_pay14 (F := Ideal) b c (ix2 x j) :=
    Finset.sum_congr rfl fun x _ => by rw [ha, pay14_apply Q p j b c hb hc]
  have e0 : ∑ x : Fin 512, P (p + x) * Q (p + x + 0) = ∑ x : Fin 512, a (ix2 x j) * b (ix2 x j) :=
    Finset.sum_congr rfl fun x _ => by rw [ha, hb, Nat.add_zero]
  rw [e2, e1, e0]
  pointwise [k0_pay17]
  rfl

omit hc in
theorem pay18_apply (acc : FVec Ideal S1x1408 .f32) (q : Fin 1) :
    k0_pay18 (F := Ideal) b acc (ix2 q j) = acc (ix2 q j) + ∑ x : Fin 512, Q (p + x) := by
  rw [← Finset.sum_congr rfl fun x _ => hb x]
  pointwise [k0_pay18]
  try rfl

end Pay

/-! ## The blocks of the arrays, and the outputs after the run -/

variable (m : (ℓ : Loc nD τ sig) → Buf (Elt Ideal) ℓ)

theorem idx : ∀ t : Fin cfg0.N, win0_0.index t = ![7 - t.val % 8, 0] ∧ win0_1.index t = ![t.val / 8, 0] ∧ win0_2.index t = ![7 - t.val % 8, t.val / 8]
    ∧ win0_3.index t = ![7 - t.val % 8, t.val / 8] ∧ win0_4.index t = ![7 - t.val % 8, t.val / 8] ∧ win0_5.index t = ![0, t.val / 8] ∧ win0_6.index t = ![7 - t.val % 8, t.val / 8]
    ∧ win0_7.index t = ![7 - t.val % 8, t.val / 8] ∧ win0_8.index t = ![0, t.val / 8] ∧ win0_9.index t = ![0, t.val / 8] :=
  (by decide +kernel : ∀ t : Fin grid0.N, _)

theorem t_lt (t : Fin cfg0.N) : t.val < 16 := lt_of_lt_of_eq t.isLt N_0

/-- The first row of the block of point `t`: the blocks go from the last to the first. -/
def base (t : ℕ) : ℕ := 512 * (7 - t % 8)

theorem base_lt (t : ℕ) (r : Fin 512) : base t + r < 4096 := by unfold base; omega

/-- The column of the whole array which is column `j` of the block of point `t`. -/
def col (t : Fin cfg0.N) (j : Fin 1408) : Fin 2816 := ⟨1408 * (t.val / 8) + j, by have := t_lt t; omega⟩

/-- Every argument's entries are real numbers on device `c`. -/
structure Real (c : Dev nD) : Prop where
  h0 : ∀ i, IsR (m ((c : Thread nD τ).loc main_arg0) i)
  h1 : ∀ i, IsR (m ((c : Thread nD τ).loc main_arg1) i)
  h2 : ∀ i, IsR (m ((c : Thread nD τ).loc main_arg2) i)
  h3 : ∀ i, IsR (m ((c : Thread nD τ).loc main_arg3) i)
  h4 : ∀ i, IsR (m ((c : Thread nD τ).loc main_arg4) i)
  h5 : ∀ i, IsR (m ((c : Thread nD τ).loc main_arg5) i)
  h6 : ∀ i, IsR (m ((c : Thread nD τ).loc main_arg6) i)

/-- A row of the taps padded below by zeros. -/
theorem pad_apply (X3 : FVec Ideal S1x3x2816 .f32) (k : Fin 8) (h : k.val < 3) (C : Fin 2816) :
    concatenate S8x2816 0 [⟨S3x2816, shapeCast S3x2816 X3 shapeCasts_S1x3x2816_S3x2816⟩,
      ⟨S5x2816, broadcastInDim S5x2816 ![] bcast_S_S5x2816 (constant (F := Ideal) S_ .f32 0x00000000#32)⟩]
      concatenates_S3x2816_S5x2816_S8x2816_d0 (ix2 k C) = X3 (ix3 0 ⟨k.val, h⟩ C) := by
  pointwise []
  exact dif_pos h

section Block

variable (c : Dev nD) (t : Fin cfg0.N) (r : Fin 512) (R : Fin 4096) (hR : (R : ℕ) = base t + r)
include hR

theorem blk_dh (k : Fin 1024) : (show FVec Ideal S512x1024 .bf16 from iblk m c 0 t) (ix2 r k) = m ((c : Thread nD τ).loc main_arg6) (ix2 R k) := by
  unfold base at hR
  blk_point [iblk, V, idx t]

omit hR in
theorem blk_w (j : Fin 1408) (k : Fin 1024) : (show FVec Ideal S1408x1024 .bf16 from iblk m c 1 t) (ix2 j k)
    = m ((c : Thread nD τ).loc main_arg5) (ix3 0 (col t j) k) := by
  unfold col
  blk_point [iblk, V, idx t]

omit hR in
theorem blk_tap (k : Fin 8) (h : k.val < 3) (j : Fin 1408) : (show FVec Ideal S8x1408 .f32 from iblk m c 5 t) (ix2 k j)
    = m ((c : Thread nD τ).loc main_arg3) (ix3 0 ⟨k.val, h⟩ (col t j)) := by
  refine Eq.trans (b := V m c main_v33 (((cfg0.win 5).blk t).view.emb (ix2 k j))) rfl ?_
  have he : ((cfg0.win 5).blk t).view.emb (ix2 k j) = ix2 k (col t j) := by
    unfold col
    blk_ext [idx t]
  rw [he]
  exact pad_apply (m ((c : Thread nD τ).loc main_arg3)) k h (col t j)

omit hR in
theorem V_gate : V m c main_v30 = val_main_v31 (F := Ideal) (m ((c : Thread nD τ).loc main_arg0)) (m ((c : Thread nD τ).loc main_arg1))
    (m ((c : Thread nD τ).loc main_arg3)) (m ((c : Thread nD τ).loc main_arg4)) := rfl

theorem blk_gate (j : Fin 1408) : (show FVec Ideal S512x1408 .f32 from iblk m c 4 t) (ix2 r j)
    = val_main_v31 (F := Ideal) (m ((c : Thread nD τ).loc main_arg0)) (m ((c : Thread nD τ).loc main_arg1))
      (m ((c : Thread nD τ).loc main_arg3)) (m ((c : Thread nD τ).loc main_arg4)) (ix2 R (col t j)) := by
  unfold base at hR
  unfold col
  refine Eq.trans (b := V m c main_v30 (((cfg0.win 4).blk t).view.emb (ix2 r j))) rfl ?_
  rw [V_gate]
  refine congrArg _ ?_
  blk_ext [idx t]

theorem blk_gp (j : Fin 1408) : (show FVec Ideal S512x1408 .bf16 from iblk m c 2 t) (ix2 r j)
    = val_main_v1 (F := Ideal) (m ((c : Thread nD τ).loc main_arg0)) (m ((c : Thread nD τ).loc main_arg1)) (ix2 R (col t j)) := by
  unfold base at hR
  unfold col
  refine congrArg (val_main_v1 (F := Ideal) (m ((c : Thread nD τ).loc main_arg0)) (m ((c : Thread nD τ).loc main_arg1)))
    (?_ : ((cfg0.win 2).blk t).view.emb (ix2 r j) = _)
  blk_ext [idx t]

theorem blk_up (j : Fin 1408) : (show FVec Ideal S512x1408 .bf16 from iblk m c 3 t) (ix2 r j)
    = val_main_v3 (F := Ideal) (m ((c : Thread nD τ).loc main_arg0)) (m ((c : Thread nD τ).loc main_arg2)) (ix2 R (col t j)) := by
  unfold base at hR
  unfold col
  refine congrArg (val_main_v3 (F := Ideal) (m ((c : Thread nD τ).loc main_arg0)) (m ((c : Thread nD τ).loc main_arg2)))
    (?_ : ((cfg0.win 3).blk t).view.emb (ix2 r j) = _)
  blk_ext [idx t]

theorem pay6_block (j : Fin 1408) : k0_pay6 (F := Ideal) (iblk m c 0 t) (iblk m c 1 t) (ix2 r j)
    = val_main_v36 (F := Ideal) (m ((c : Thread nD τ).loc main_arg5)) (m ((c : Thread nD τ).loc main_arg6)) (ix2 R (col t j)) := by
  rw [v36_apply]
  pointwise [k0_pay6]
  exact Finset.sum_congr rfl fun k _ => congrArg₂ (· * · : EReal → EReal → EReal) (blk_dh m c t r R hR k) (blk_w m c t j k)

theorem pay8_block (j : Fin 1408) : k0_pay8 (F := Ideal) (iblk m c 4 t) (ix2 r j)
    = val_main_v31 (F := Ideal) (m ((c : Thread nD τ).loc main_arg0)) (m ((c : Thread nD τ).loc main_arg1))
      (m ((c : Thread nD τ).loc main_arg3)) (m ((c : Thread nD τ).loc main_arg4)) (ix2 R (col t j)) := by
  refine Eq.trans ?_ (blk_gate m c t r R hR j)
  pointwise [k0_pay8]

theorem pay9_block (j : Fin 1408) : k0_pay9 (F := Ideal) (iblk m c 4 t) (ix2 r j)
    = sg (val_main_v31 (F := Ideal) (m ((c : Thread nD τ).loc main_arg0)) (m ((c : Thread nD τ).loc main_arg1))
      (m ((c : Thread nD τ).loc main_arg3)) (m ((c : Thread nD τ).loc main_arg4)) (ix2 R (col t j))) := by
  rw [← pay8_block m c t r R hR j]
  pointwise [k0_pay9]
  simp only [zero_sub]
  rfl

theorem pay11_block (j : Fin 1408) : k0_pay11 (F := Ideal) (iblk m c 0 t) (iblk m c 1 t) (iblk m c 4 t) (ix2 r j)
    = val_main_v79 (F := Ideal) (m ((c : Thread nD τ).loc main_arg0)) (m ((c : Thread nD τ).loc main_arg1))
      (m ((c : Thread nD τ).loc main_arg3)) (m ((c : Thread nD τ).loc main_arg4)) (m ((c : Thread nD τ).loc main_arg5))
      (m ((c : Thread nD τ).loc main_arg6)) (ix2 R (col t j)) := by
  rw [v79_apply, ← pay9_block m c t r R hR j, ← pay8_block m c t r R hR j, ← pay6_block m c t r R hR j]
  refine Eq.trans ?_ (mul_comm (_ : EReal) _)
  pointwise [k0_pay11, k0_pay10]

theorem pay12_block (hf : Real m c) (j : Fin 1408) :
    k0_pay12 (F := Ideal) (iblk m c 0 t) (iblk m c 1 t) (iblk m c 4 t) (iblk m c 3 t) (ix2 r j)
    = dg (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) R (col t j) := by
  rw [dg_of, ← v39_forms _ _ _ _ _ _ _ hf.h0 hf.h1 hf.h2 hf.h3 hf.h4 hf.h5 hf.h6, ← pay9_block m c t r R hR j,
    ← pay8_block m c t r R hR j, ← pay6_block m c t r R hR j, ← blk_up m c t r R hR j]
  pointwise [k0_pay12, k0_pay10]

theorem pay7_block (j : Fin 1408) : k0_pay7 (F := Ideal) (iblk m c 2 t) (ix2 r j)
    = gp (m ((c : Thread nD τ).loc main_arg0)) (m ((c : Thread nD τ).loc main_arg1)) R (col t j) := by
  rw [gp_of, ← blk_gp m c t r R hR j]
  pointwise [k0_pay7]

end Block

/-- The gradient of the gate at row `R` of a column of the block of point `t`. -/
def gr (c : Dev nD) (C : Fin 2816) (R : ℕ) : EReal :=
  dg (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) R C

theorem grad_block (c : Dev nD) (t : Fin cfg0.N) (hf : Real m c) (r : Fin 512) (j : Fin 1408) :
    k0_pay12 (F := Ideal) (iblk m c 0 t) (iblk m c 1 t) (iblk m c 4 t) (iblk m c 3 t) (ix2 r j) = gr m c (col t j) (base t + r) :=
  pay12_block m c t r ⟨_, base_lt t r⟩ rfl hf j

/-- After a point the carried rows are the first eight rows of the gradient of the gate of its block. -/
theorem carry (c : Dev nD) (t : Fin cfg0.N) (hf : Real m c) (r : Fin 8) (j : Fin 1408) :
    (outsAt0 m c t.val t.isLt).2.2.2.2 (ix2 r j) = gr m c (col t j) (base t + r) := by
  have e : k0_pay1 (F := Ideal) (k0_pay12 (F := Ideal) (iblk m c 0 t) (iblk m c 1 t) (iblk m c 4 t) (iblk m c 3 t)) (ix2 r j)
      = gr m c (col t j) (base t + r) := by
    refine Eq.trans ?_ (grad_block m c t hf ⟨r.val, by omega⟩ j)
    pointwise [k0_pay1]
  by_cases h : t.val % 8 = 0
  · rw [outsAt0_A m c t h]; frame_out
    exact e
  · rw [outsAt0_B m c t h]; frame_out
    exact e

/-- The point before a point which is not the first of its run. -/
theorem carry_before (c : Dev nD) (t : Fin cfg0.N) (h : ¬t.val % 8 = 0) (hf : Real m c) (r : Fin 8) (j : Fin 1408) :
    (outsAt0 m c (t.val - 1) (Nat.lt_of_le_of_lt (Nat.sub_le _ _) t.isLt)).2.2.2.2 (ix2 r j) = gr m c (col t j) (base t + 512 + r) := by
  refine (carry m c ⟨t.val - 1, Nat.lt_of_le_of_lt (Nat.sub_le _ _) t.isLt⟩ hf r j).trans ?_
  refine congrArg₂ (gr m c) (Fin.ext ?_) ?_
  · exact (show 1408 * ((t.val - 1) / 8) + j.val = 1408 * (t.val / 8) + j.val by omega)
  · exact (show 512 * (7 - (t.val - 1) % 8) + r.val = 512 * (7 - t.val % 8) + 512 + r.val by omega)

/-- At the first point of a run the carried rows are zeros: they are past the last row. -/
theorem carry_first (c : Dev nD) (t : Fin cfg0.N) (h : t.val % 8 = 0) (r : Fin 8) (j : Fin 1408) :
    k0_pay2 (F := Ideal) (ix2 r j) = gr m c (col t j) (base t + 512 + r) := by
  refine Eq.trans ?_ (dg_past _ _ _ _ _ _ _ _ (by unfold base; omega) _).symm
  pointwise [k0_pay2]

theorem emb6 (t : Fin cfg0.N) (y0 : Fin 512) (y1 : Fin 1408) :
    ((View.whole main_v39_0).slice (win0_6.rect t)).emb (ix2 y0 y1) = ix2 ⟨base t + y0, base_lt t y0⟩ (col t y1) := by
  unfold base col
  blk_ext [idx t]

theorem emb7 (t : Fin cfg0.N) (y0 : Fin 512) (y1 : Fin 1408) :
    ((View.whole main_v39_1).slice (win0_7.rect t)).emb (ix2 y0 y1) = ix2 ⟨base t + y0, base_lt t y0⟩ (col t y1) := by
  unfold base col
  blk_ext [idx t]

theorem emb8 (t : Fin cfg0.N) (y0 : Fin 8) (y1 : Fin 1408) :
    ((View.whole main_v39_2).slice (win0_8.rect t)).emb (ix2 y0 y1) = ix2 y0 (col t y1) := by
  unfold col
  blk_ext [idx t]

theorem emb9 (t : Fin cfg0.N) (y0 : Fin 1) (y1 : Fin 1408) :
    ((View.whole main_v39_3).slice (win0_9.rect t)).emb (ix2 y0 y1) = ix2 y0 (col t y1) := by
  unfold col
  blk_ext [idx t]

theorem final7 (c : Dev nD) : (dats m 0 c).arrAt 7 (cfgs 0).N
      = val_main_v79 (F := Ideal) (m ((c : Thread nD τ).loc main_arg0)) (m ((c : Thread nD τ).loc main_arg1))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t hw y => ?_
  idx_vars y
  blk_simp [idx t]
  rw [after0_7]
  by_cases h : t.val % 8 = 0
  · rw [outsAt0_A m c t h]; frame_out
    rw [emb7]
    exact pay11_block m c t _ _ rfl _
  · rw [outsAt0_B m c t h]; frame_out
    rw [emb7]
    exact pay11_block m c t _ _ rfl _

/-- The block of the gradient of the gate's projection, from carried rows which are the rows after the block. -/
theorem back_block (c : Dev nD) (t : Fin cfg0.N) (hf : Real m c) (r : Fin 512) (j : Fin 1408) (s : FVec Ideal S8x1408 .f32)
    (hs : ∀ q : Fin 8, s (ix2 q j) = gr m c (col t j) (base t + 512 + q)) :
    k0_pay16 (F := Ideal) (k0_pay5 (F := Ideal) (iblk m c 5 t))
      (k0_pay12 (F := Ideal) (iblk m c 0 t) (iblk m c 1 t) (iblk m c 4 t) (iblk m c 3 t)) s (ix2 r j)
    = val_main_v78 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (ix2 ⟨base t + r, base_lt t r⟩ (col t j)) := by
  have e (k : Fin 8) (h : k.val < 3) : k0_pay5 (F := Ideal) (iblk m c 5 t) (ix2 k j)
      = m ((c : Thread nD τ).loc main_arg3) (ix3 0 ⟨k.val, h⟩ (col t j)) := by
    refine Eq.trans ?_ (blk_tap m c t k h j)
    pointwise [k0_pay5]
  rw [pay16_apply (gr m c (col t j)) (base t) j _ s (fun q => grad_block m c t hf q j) hs, e 2 (by decide), e 1 (by decide), e 0 (by decide),
    v78_apply]
  rfl

theorem final6 (c : Dev nD) (hf : Real m c) : (dats m 0 c).arrAt 6 (cfgs 0).N
      = val_main_v78 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 6 _ (by decide +kernel) fun t hw y => ?_
  idx_vars y
  blk_simp [idx t]
  rw [after0_6]
  by_cases h : t.val % 8 = 0
  · rw [outsAt0_A m c t h]; frame_out
    rw [emb6]
    exact back_block m c t hf _ _ _ fun q => carry_first m c t h q _
  · rw [outsAt0_B m c t h]; frame_out
    rw [emb6]
    exact back_block m c t hf _ _ _ fun q => (congrFun (Memref.IsWhole.read_unread _ _) _).trans (carry_before m c t h hf q _)

/-- The products of a block of rows with the gradient of the gate `k` rows later. -/
def seg (c : Dev nD) (C : Fin 2816) (k p : ℕ) : EReal :=
  ∑ x : Fin 512, gp (m ((c : Thread nD τ).loc main_arg0)) (m ((c : Thread nD τ).loc main_arg1)) (p + x) C * gr m c C (p + x + k)

/-- What a point adds to the gradient of the taps. -/
theorem taps_block (c : Dev nD) (t : Fin cfg0.N) (hf : Real m c) (s acc : FVec Ideal S8x1408 .f32) (r : Fin 8) (j : Fin 1408)
    (hs : ∀ q : Fin 8, s (ix2 q j) = gr m c (col t j) (base t + 512 + q)) :
    k0_pay17 (F := Ideal) (k0_pay7 (F := Ideal) (iblk m c 2 t))
      (k0_pay12 (F := Ideal) (iblk m c 0 t) (iblk m c 1 t) (iblk m c 4 t) (iblk m c 3 t)) s acc (ix2 r j)
    = acc (ix2 r j) + rows3 (seg m c (col t j) 2 (base t)) (seg m c (col t j) 1 (base t)) (seg m c (col t j) 0 (base t)) r :=
  pay17_apply (fun R => gp (m ((c : Thread nD τ).loc main_arg0)) (m ((c : Thread nD τ).loc main_arg1)) R (col t j))
    (gr m c (col t j)) (base t) j _ _ s (fun q => grad_block m c t hf q j) hs
    (fun q => pay7_block m c t q ⟨_, base_lt t q⟩ rfl j) acc r

/-- A sum over the points of a run, which go from the last block of rows to the first, is the sum over all rows. -/
theorem sum_run (f : ℕ → EReal) (q : ℕ) : ∑ s : Fin 8, ∑ x : Fin 512, f (base (8 * q + s) + x) = ∑ R : Fin 4096, f R := by
  refine (Fintype.sum_equiv Fin.revPerm _ (fun s : Fin 8 => ∑ x : Fin 512, f (s.val * 512 + x)) fun s => ?_).trans ?_
  · refine Finset.sum_congr rfl fun x _ => congrArg f ?_
    unfold base
    rw [Fin.revPerm_apply, Fin.val_rev]
    omega
  · exact Fin.sum_mul_add_congr (S := 8) (n := 512) (L := 4096) (F := fun s x => f (s.val * 512 + x)) (f := fun R => f R) fun s x hl => rfl

theorem final8 (c : Dev nD) (hf : Real m c) : (dats m 0 c).arrAt 8 (cfgs 0).N
      = val_main_v81 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 8 _ (by decide +kernel) fun t hw y => ?_
  idx_vars y
  blk_simp [idx t]
  rw [after0_8, emb8, v81_apply]
  have ht : t.val % 8 = 8 - 1 := (flush0_8 t).mp hw
  rw [Pipeline.eq_sum_fin_of_reset_step_apply_of_flush (fun n h => (outsAt0 m c n h).2.2.1) 8 (fun _ => 0)
    (fun t i => rows3 (seg m c (col t (i 1)) 2 (base t)) (seg m c (col t (i 1)) 1 (base t)) (seg m c (col t (i 1)) 0 (base t)) (i 0).val)
    ?_ ?_ t ht, zero_add]
  · have e (k : ℕ) : ∑ s : Fin 8, seg m c (col t y1) k (base (8 * (t.val / 8) + s))
        = tap (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) k (col t y1) :=
      sum_run (fun R => gp (m ((c : Thread nD τ).loc main_arg0)) (m ((c : Thread nD τ).loc main_arg1)) R (col t y1)
        * gr m c (col t y1) (R + k)) _
    rw [← e 0, ← e 1, ← e 2, rows3_sum]
    refine Finset.sum_congr (M := EReal) rfl fun s _ => ?_
    have hc : col ⟨8 * (t.val / 8) + s.val, Pipeline.run_point_lt_of_flush t ht s⟩ y1 = col t y1 :=
      Fin.ext (show 1408 * ((8 * (t.val / 8) + s.val) / 8) + y1.val = 1408 * (t.val / 8) + y1.val by omega)
    rw [← hc]
    rfl
  · intro t h i
    idx_vars i
    rw [outsAt0_A m c t h]; frame_out
    refine (taps_block m c t hf _ _ _ _ fun q => carry_first m c t h q _).trans (congrArg (· + _) ?_)
    pointwise [k0_pay3]
  · intro t h i
    idx_vars i
    rw [outsAt0_B m c t h]; frame_out
    exact taps_block m c t hf _ _ _ _ fun q => (congrFun (Memref.IsWhole.read_unread _ _) _).trans (carry_before m c t h hf q _)

theorem final9 (c : Dev nD) (hf : Real m c) : (dats m 0 c).arrAt 9 (cfgs 0).N
      = val_main_v76 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 9 _ (by decide +kernel) fun t hw y => ?_
  idx_vars y
  blk_simp [idx t]
  rw [after0_9, emb9, v76_apply]
  have ht : t.val % 8 = 8 - 1 := (flush0_9 t).mp hw
  rw [Pipeline.eq_sum_fin_of_reset_step_apply_of_flush (fun n h => (outsAt0 m c n h).2.2.2.1) 8 (fun _ => 0)
    (fun t i => ∑ x : Fin 512, gr m c (col t (i 1)) (base t + x)) ?_ ?_ t ht, zero_add]
  · refine Eq.trans ?_ (sum_run (gr m c (col t y1)) (t.val / 8))
    refine Finset.sum_congr (M := EReal) rfl fun s _ => ?_
    have hc : col ⟨8 * (t.val / 8) + s.val, Pipeline.run_point_lt_of_flush t ht s⟩ y1 = col t y1 :=
      Fin.ext (show 1408 * ((8 * (t.val / 8) + s.val) / 8) + y1.val = 1408 * (t.val / 8) + y1.val by omega)
    rw [← hc]
    rfl
  · intro t h i
    idx_vars i
    rw [outsAt0_A m c t h]; frame_out
    refine (pay18_apply (gr m c (col t _)) (base t) _ _ (fun q => grad_block m c t hf q _) _ _).trans (congrArg (· + _) ?_)
    pointwise [k0_pay4]
  · intro t h i
    idx_vars i
    rw [outsAt0_B m c t h]; frame_out
    exact pay18_apply (gr m c (col t _)) (base t) _ _ (fun q => grad_block m c t hf q _) _ _

end Cert.NormF

end
-- ==== Proof.ClaimF.lean ====
/- The claim of the backward pass of the gated block: every result of the idealized kernel is the reference's. -/
module

public import proofs.«01_k».proof.Defs
public import proofs.«01_k».proof.Proof.NormF
public import proofs.«01_k».proof.Proof.Gen.KernelFIdeal.Value
public import proofs.«01_k».proof.Proof.Gen.ReferenceFIdeal.Run
public import proofs.«01_k».proof.Proof.Gen.ReferenceFIdeal.Read
public import proofs.«01_k».proof.Proof.Gen.Pre_finite_f
public import Idealize.ShloMosaic.Lib.Claim
public import Idealize.ShloMosaic.Lib.Quiescent

@[expose] public section

set_option maxRecDepth 16384

noncomputable section

namespace Cert.ClaimF

open Idealize.ShloMosaic Idealize.ShloMosaic.TcCoe Idealize.SL.Sem Cert.RealLift

theorem real_of_pre (m : (ℓ : Loc Cert.KernelFIdeal.nD Cert.KernelFIdeal.τ Cert.KernelFIdeal.sig) → Buf (Elt Ideal) ℓ)
    (hpre : Pre_KernelFIdeal_finite_f m) (c : Dev Cert.KernelFIdeal.nD) : Cert.NormF.Real m c := by
  have h := congrFun (hpre c) ix0
  dsimp only [Cert.Pre_finite_f.fn, Cert.Pre_finite_f.fn_part1] at h
  obtain ⟨h, a6⟩ := andi_one h
  obtain ⟨h, a5⟩ := andi_one h
  obtain ⟨h, a4⟩ := andi_one h
  obtain ⟨h, a3⟩ := andi_one h
  obtain ⟨h, a2⟩ := andi_one h
  obtain ⟨a0, a1⟩ := andi_one h
  exact ⟨entries_real _ _ _ _ _ _ _ a0, entries_real _ _ _ _ _ _ _ a1, entries_real _ _ _ _ _ _ _ a2, entries_real _ _ _ _ _ _ _ a3, entries_real _ _ _ _ _ _ _ a4, entries_real _ _ _ _ _ _ _ a5, entries_real _ _ _ _ _ _ _ a6⟩

/-- The reference's run, each result named by the stage that computes it. -/
theorem runRef (m : (ℓ : Loc Cert.ReferenceFIdeal.nD Cert.ReferenceFIdeal.τ Cert.ReferenceFIdeal.sig) → Buf (Elt Ideal) ℓ) (ρ : Dev Cert.ReferenceFIdeal.nD → PrngReg) :
    θ_run Cert.ReferenceFIdeal.defs (onTc (τ := Cert.ReferenceFIdeal.τ) (Cert.ReferenceFIdeal.main (F := Ideal))) ⟨m, fun _ => 0, ρ⟩ fun r => ∀ c : Dev Cert.ReferenceFIdeal.nD,
      r.2.mem ((c.tc : Thread Cert.ReferenceFIdeal.nD Cert.ReferenceFIdeal.τ).loc Cert.ReferenceFIdeal.main_v78) = Cert.ReferenceFIdeal.Read.val_main_v78 (F := Ideal) (m ((c.tc : Thread Cert.ReferenceFIdeal.nD Cert.ReferenceFIdeal.τ).loc Cert.ReferenceFIdeal.main_arg0)) (m ((c.tc : Thread Cert.ReferenceFIdeal.nD Cert.ReferenceFIdeal.τ).loc Cert.ReferenceFIdeal.main_arg1)) (m ((c.tc : Thread Cert.ReferenceFIdeal.nD Cert.ReferenceFIdeal.τ).loc Cert.ReferenceFIdeal.main_arg2)) (m ((c.tc : Thread Cert.ReferenceFIdeal.nD Cert.ReferenceFIdeal.τ).loc Cert.ReferenceFIdeal.main_arg3)) (m ((c.tc : Thread Cert.ReferenceFIdeal.nD Cert.ReferenceFIdeal.τ).loc Cert.ReferenceFIdeal.main_arg4)) (m ((c.tc : Thread Cert.ReferenceFIdeal.nD Cert.ReferenceFIdeal.τ).loc Cert.ReferenceFIdeal.main_arg5)) (m ((c.tc : Thread Cert.ReferenceFIdeal.nD Cert.ReferenceFIdeal.τ).loc Cert.ReferenceFIdeal.main_arg6))
      ∧      r.2.mem ((c.tc : Thread Cert.ReferenceFIdeal.nD Cert.ReferenceFIdeal.τ).loc Cert.ReferenceFIdeal.main_v79) = Cert.ReferenceFIdeal.Read.val_main_v79 (F := Ideal) (m ((c.tc : Thread Cert.ReferenceFIdeal.nD Cert.ReferenceFIdeal.τ).loc Cert.ReferenceFIdeal.main_arg0)) (m ((c.tc : Thread Cert.ReferenceFIdeal.nD Cert.ReferenceFIdeal.τ).loc Cert.ReferenceFIdeal.main_arg1)) (m ((c.tc : Thread Cert.ReferenceFIdeal.nD Cert.ReferenceFIdeal.τ).loc Cert.ReferenceFIdeal.main_arg3)) (m ((c.tc : Thread Cert.ReferenceFIdeal.nD Cert.ReferenceFIdeal.τ).loc Cert.ReferenceFIdeal.main_arg4)) (m ((c.tc : Thread Cert.ReferenceFIdeal.nD Cert.ReferenceFIdeal.τ).loc Cert.ReferenceFIdeal.main_arg5)) (m ((c.tc : Thread Cert.ReferenceFIdeal.nD Cert.ReferenceFIdeal.τ).loc Cert.ReferenceFIdeal.main_arg6))
      ∧      r.2.mem ((c.tc : Thread Cert.ReferenceFIdeal.nD Cert.ReferenceFIdeal.τ).loc Cert.ReferenceFIdeal.main_v81) = Cert.ReferenceFIdeal.Read.val_main_v81 (F := Ideal) (m ((c.tc : Thread Cert.ReferenceFIdeal.nD Cert.ReferenceFIdeal.τ).loc Cert.ReferenceFIdeal.main_arg0)) (m ((c.tc : Thread Cert.ReferenceFIdeal.nD Cert.ReferenceFIdeal.τ).loc Cert.ReferenceFIdeal.main_arg1)) (m ((c.tc : Thread Cert.ReferenceFIdeal.nD Cert.ReferenceFIdeal.τ).loc Cert.ReferenceFIdeal.main_arg2)) (m ((c.tc : Thread Cert.ReferenceFIdeal.nD Cert.ReferenceFIdeal.τ).loc Cert.ReferenceFIdeal.main_arg3)) (m ((c.tc : Thread Cert.ReferenceFIdeal.nD Cert.ReferenceFIdeal.τ).loc Cert.ReferenceFIdeal.main_arg4)) (m ((c.tc : Thread Cert.ReferenceFIdeal.nD Cert.ReferenceFIdeal.τ).loc Cert.ReferenceFIdeal.main_arg5)) (m ((c.tc : Thread Cert.ReferenceFIdeal.nD Cert.ReferenceFIdeal.τ).loc Cert.ReferenceFIdeal.main_arg6))
      ∧      r.2.mem ((c.tc : Thread Cert.ReferenceFIdeal.nD Cert.ReferenceFIdeal.τ).loc Cert.ReferenceFIdeal.main_v76) = Cert.ReferenceFIdeal.Read.val_main_v76 (F := Ideal) (m ((c.tc : Thread Cert.ReferenceFIdeal.nD Cert.ReferenceFIdeal.τ).loc Cert.ReferenceFIdeal.main_arg0)) (m ((c.tc : Thread Cert.ReferenceFIdeal.nD Cert.ReferenceFIdeal.τ).loc Cert.ReferenceFIdeal.main_arg1)) (m ((c.tc : Thread Cert.ReferenceFIdeal.nD Cert.ReferenceFIdeal.τ).loc Cert.ReferenceFIdeal.main_arg2)) (m ((c.tc : Thread Cert.ReferenceFIdeal.nD Cert.ReferenceFIdeal.τ).loc Cert.ReferenceFIdeal.main_arg3)) (m ((c.tc : Thread Cert.ReferenceFIdeal.nD Cert.ReferenceFIdeal.τ).loc Cert.ReferenceFIdeal.main_arg4)) (m ((c.tc : Thread Cert.ReferenceFIdeal.nD Cert.ReferenceFIdeal.τ).loc Cert.ReferenceFIdeal.main_arg5)) (m ((c.tc : Thread Cert.ReferenceFIdeal.nD Cert.ReferenceFIdeal.τ).loc Cert.ReferenceFIdeal.main_arg6))
      ∧r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0) ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1) ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2) ∧ r.2.mem ((c.tc : Thread Cert.ReferenceFIdeal.nD Cert.ReferenceFIdeal.τ).loc Cert.ReferenceFIdeal.main_arg3) = m ((c.tc : Thread Cert.ReferenceFIdeal.nD Cert.ReferenceFIdeal.τ).loc Cert.ReferenceFIdeal.main_arg3) ∧ r.2.mem ((c.tc : Thread Cert.ReferenceFIdeal.nD Cert.ReferenceFIdeal.τ).loc Cert.ReferenceFIdeal.main_arg4) = m ((c.tc : Thread Cert.ReferenceFIdeal.nD Cert.ReferenceFIdeal.τ).loc Cert.ReferenceFIdeal.main_arg4) ∧ r.2.mem ((c.tc : Thread Cert.ReferenceFIdeal.nD Cert.ReferenceFIdeal.τ).loc Cert.ReferenceFIdeal.main_arg5) = m ((c.tc : Thread Cert.ReferenceFIdeal.nD Cert.ReferenceFIdeal.τ).loc Cert.ReferenceFIdeal.main_arg5) ∧ r.2.mem ((c.tc : Thread Cert.ReferenceFIdeal.nD Cert.ReferenceFIdeal.τ).loc Cert.ReferenceFIdeal.main_arg6) = m ((c.tc : Thread Cert.ReferenceFIdeal.nD Cert.ReferenceFIdeal.τ).loc Cert.ReferenceFIdeal.main_arg6) :=
  (θ_run Cert.ReferenceFIdeal.defs _ _).mono (fun _ h c => ⟨(h c).1.trans (Cert.ReferenceFIdeal.Read.val_main_v78_eq m c),
    (h c).2.1.trans (Cert.ReferenceFIdeal.Read.val_main_v79_eq m c),
    (h c).2.2.1.trans (Cert.ReferenceFIdeal.Read.val_main_v81_eq m c),
    (h c).2.2.2.1.trans (Cert.ReferenceFIdeal.Read.val_main_v76_eq m c),
    (h c).2.2.2.2⟩)
    (Cert.ReferenceFIdeal.Value.run m ρ)

theorem algebraic : algebraic_KernelFIdeal_ReferenceFIdeal_pre_finite_f := by
  pair_intro
  · run_from Cert.KernelFIdeal.Value.run_blocks m g
  · run_from runRef m' g'
    · exact (Cert.NormF.final6 m c (real_of_pre m hpre c)).symm
    · exact (Cert.NormF.final7 m c).symm
    · exact (Cert.NormF.final8 m c (real_of_pre m hpre c)).symm
    · exact (Cert.NormF.final9 m c (real_of_pre m hpre c)).symm

/-- The reference leaves its arguments alone, and declares no counter. -/
theorem frameRef : quiescent_ReferenceFIdeal := fun m g _ =>
  (θ_run Cert.ReferenceFIdeal.defs _ _).mono (fun r h => ⟨fun c => (h c).2.2.2.2, sem_eq_zero_of_no_sems (by decide) r.2⟩)
    (Cert.ReferenceFIdeal.Value.run m g)

theorem frameRefPre : quiescent_ReferenceFIdeal_pre_finite_f := fun m g _ => frameRef m g trivial

end Cert.ClaimF

end
-- ==== Proof.RefT.lean ====
/- The stages of the plain sliding-window attention with sinks. -/
module

public import proofs.«01_k».proof.Proof.Gen.KernelTIdeal.Value
public import proofs.«01_k».proof.Proof.Gen.ReferenceTIdeal.Read
public import proofs.«01_k».proof.Proof.AttnRows
public import Idealize.ShloMosaic.Lib.Pipeline.ValueKit

@[expose] public section

set_option maxRecDepth 65536

noncomputable section

namespace Cert.RefT

open Idealize.ShloMosaic Idealize.ShloMosaic.TcCoe Idealize.SL.Sem
open Idealize.ShloMosaic.Pipeline (Dat)
open Cert.KernelTIdeal Cert.KernelTIdeal.Gen Cert.RealLift Cert.AttnModel Cert.Attn
open Cert.ReferenceTIdeal.Read

/-! ## The reference's stages -/

section Ref

variable (x0 : FVec Ideal S4096x768 .f32) (x1 : FVec Ideal S1x768 .f32) (x2 : FVec Ideal S1x8 .f32)
variable (W : Rows) (h0 : ∀ (R : Fin 4096) (C : Fin 768), x0 (ix2 R C) = ((W.T R C : ℝ) : EReal))
  (h1 : ∀ C : Fin 768, x1 (ix2 0 C) = ((W.B C : ℝ) : EReal)) (h2 : ∀ C : Fin 8, x2 (ix2 0 C) = ((W.Z C : ℝ) : EReal))
variable (n : Fin 32) (g : Fin 2) (h : Fin 4) (r : Fin 128)

theorem mask_ref (a : Fin 256) : val_main_call0_v1 (F := Ideal) (ix5 n g h r a) = if Rows.seen n (128 * h.val + r.val) a then 1#1 else 0#1 := by
  have hr : r.val < 128 := r.isLt
  pointwise [val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_c, val_main_c_2, val_main_c_3, val_main_c_4, val_main_c_5, val_main_c_6, val_main_call0_v1]
  rw [band, present, and_bits]
  refine if_congr ?_ rfl rfl
  have e : (128 * h.val + r.val) % 128 = r.val := by omega
  unfold Rows.seen
  rw [decide_eq_true_iff, decide_eq_true_iff, e]
  exact and_assoc

include h0 h1 in
theorem q_ref (c : Fin 64) : val_main_v11 (F := Ideal) x0 x1 (ix5 n r g h c) = ((W.qm n g (128 * h.val + r.val) c : ℝ) : EReal) := by
  have hr : r.val < 128 := r.isLt
  have hc : c.val < 64 := c.isLt
  pointwise [val_main_v11, val_main_v7, val_main_v4, val_main_v3, val_main_v2, val_main_v1, val_main_v0]
  rw [h0, h1]
  exact row_at (by simp only; omega) (by simp only; omega)

include h0 h1 in
theorem k_ref (a : Fin 256) (c : Fin 64) : val_main_v17 (F := Ideal) x0 x1 (ix4 n a g c) = ((W.kz n (512 + 64 * g.val) a c : ℝ) : EReal) := by
  have ha : a.val < 256 := a.isLt
  have hc : c.val < 64 := c.isLt
  have hg : g.val < 2 := g.isLt
  pointwise [val_main_v17, val_main_v16, val_main_v15, val_main_v14, val_main_v13, val_main_v12, val_main_v8, val_main_v5, val_main_v3, val_main_v2, val_main_v1, val_main_v0, val_main_cst]
  simp only [h0, h1]
  unfold Rows.kz
  split_ifs <;> first
    | exact EReal.coe_zero.symm
    | (exfalso; omega)
    | (unfold Rows.km; exact row_at (by split_ifs <;> first | omega | (simp only; omega)) (by first | omega | (simp only; omega)))

include h0 h1 in
theorem v_ref (a : Fin 256) (c : Fin 64) : val_main_v23 (F := Ideal) x0 x1 (ix4 n a g c) = ((W.kz n (640 + 64 * g.val) a c : ℝ) : EReal) := by
  have ha : a.val < 256 := a.isLt
  have hc : c.val < 64 := c.isLt
  have hg : g.val < 2 := g.isLt
  pointwise [val_main_v23, val_main_v22, val_main_v21, val_main_v20, val_main_v19, val_main_v18, val_main_v9, val_main_v6, val_main_v3, val_main_v2, val_main_v1, val_main_v0, val_main_cst_0]
  simp only [h0, h1]
  unfold Rows.kz
  split_ifs <;> first
    | exact EReal.coe_zero.symm
    | (exfalso; omega)
    | (unfold Rows.km; exact row_at (by split_ifs <;> first | omega | (simp only; omega)) (by first | omega | (simp only; omega)))

include h2 in
theorem z_ref : val_main_v63 (F := Ideal) x2 (ix5 0 g h 0 0) = ((W.zm g (128 * h.val + r.val) : ℝ) : EReal) := by
  have hr : r.val < 128 := r.isLt
  pointwise [val_main_v63, val_main_v62, val_main_v10]
  rw [h2]
  unfold Rows.zm
  exact congrArg (fun i => ((W.Z i : ℝ) : EReal)) (by simp only; omega)

include h0 h1 in
theorem s_ref (a : Fin 256) : val_main_v61 (F := Ideal) x0 x1 (ix5 n g h r a) = sc (Rows.seen n (128 * h.val + r.val)) (W.zscores n g (128 * h.val + r.val)) a := by
  pointwise [val_main_v61, val_main_v27, val_main_v26, val_main_v25, val_main_v24, val_main_cst_1, val_main_call0_v2, val_main_call0_v0]
  rw [mask_ref]
  unfold sc
  cases hs : Rows.seen n (128 * h.val + r.val) a with
  | true =>
    simp only [k_ref x0 x1 W h0 h1, q_ref x0 x1 W h0 h1, ← EReal.coe_mul]
    rw [coe_sum, bits_eighth, ← EReal.coe_mul]
    rfl
  | false =>
    simp only [Bool.false_eq_true, if_false]
    exact bits_bot

include h0 h1 h2 in
theorem top_ref : ∃ m : ℝ, val_main_v67 (F := Ideal) x0 x1 x2 (ix5 n g h r 0) = (m : EReal) := by
  obtain ⟨m, e, -⟩ := fold_seen (Rows.seen n (128 * h.val + r.val)) (W.zscores n g (128 * h.val + r.val)) ⟨128 + r.val, by omega⟩ (see n r h r.isLt)
  have e1 : val_main_v65 (F := Ideal) x0 x1 (ix5 n g h r 0) = (m : EReal) := by
    rw [← e]
    pointwise [val_main_v65, val_main_v64, val_main_cst_8]
    rw [bits_bot]
    congr 1
    funext a
    exact s_ref x0 x1 W h0 h1 n g h r a
  have e2 : val_main_v66 (F := Ideal) x2 (ix5 n g h r 0) = ((W.zm g (128 * h.val + r.val) : ℝ) : EReal) := by
    pointwise [val_main_v66]
    exact z_ref x2 W h2 g h r
  refine ⟨max m (W.zm g (128 * h.val + r.val)), ?_⟩
  rw [val_main_v67_apply, e1, e2]
  exact (coe_max _ _).symm

include h0 h1 h2 in
theorem prob_ref (a : Fin 256) : val_main_v78 (F := Ideal) x0 x1 x2 (ix5 n g h r a) = ((W.probs n g (128 * h.val + r.val) a : ℝ) : EReal) := by
  obtain ⟨m, hm⟩ := top_ref x0 x1 x2 W h0 h1 h2 n g h r
  have he : ∀ a, val_main_v70 (F := Ideal) x0 x1 x2 (ix5 n g h r a)
      = ((wt (Rows.seen n (128 * h.val + r.val)) (W.zscores n g (128 * h.val + r.val)) a * Real.exp (-m) : ℝ) : EReal) := fun a => by
    pointwise [val_main_v70, val_main_v69, val_main_v68]
    rw [hm, s_ref x0 x1 W h0 h1, exp_sc]
  have hz : val_main_v75 (F := Ideal) x0 x1 x2 (ix5 n g h r 0) = ((Real.exp (W.zm g (128 * h.val + r.val)) * Real.exp (-m) : ℝ) : EReal) := by
    have e : val_main_v73 (F := Ideal) x2 (ix5 n g h r 0) = ((W.zm g (128 * h.val + r.val) : ℝ) : EReal) := by
      pointwise [val_main_v73]
      exact z_ref x2 W h2 g h r
    pointwise [val_main_v75, val_main_v74]
    rw [hm, e, exp_sink]
  have ht : val_main_v76 (F := Ideal) x0 x1 x2 (ix5 n g h r 0)
      = ((tot (Rows.seen n (128 * h.val + r.val)) (W.zscores n g (128 * h.val + r.val)) (W.zm g (128 * h.val + r.val)) * Real.exp (-m) : ℝ) : EReal) := by
    pointwise [val_main_v76, val_main_v72, val_main_v71, val_main_cst_9]
    simp only [he, hz]
    rw [coe_sum, ← EReal.coe_add, ← Finset.sum_mul, ← add_mul]
    rfl
  pointwise [val_main_v78, val_main_v77]
  rw [he, ht, coe_div _ (scaled_ne _ _ _ m), pr_scaled, W.zprobs]

include h0 h1 h2 in
theorem out_ref (R : Fin 4096) (C : Fin 512) : val_main_v81 (F := Ideal) x0 x1 x2 (ix2 R C)
    = ((W.out (R.val / 128) (C.val / 256) (128 * (C.val % 256 / 64) + R.val % 128) (C.val % 64) : ℝ) : EReal) := by
  have hR : R.val < 4096 := R.isLt
  have hC : C.val < 512 := C.isLt
  refine Eq.trans (b := val_main_v79 (F := Ideal) x0 x1 x2 (ix5 ⟨R.val / 128, by omega⟩ ⟨C.val / 256, by omega⟩ ⟨C.val % 64, by omega⟩ ⟨C.val % 256 / 64, by omega⟩ ⟨R.val % 128, by omega⟩)) ?_ ?_
  · pointwise [val_main_v81, val_main_v80]
    refine congrArg _ ?_
    congr 1 <;> exact Fin.ext (by simp only; omega)
  · pointwise [val_main_v79]
    simp only [prob_ref x0 x1 x2 W h0 h1 h2, v_ref x0 x1 W h0 h1, ← EReal.coe_mul]
    rw [coe_sum]
    refine congrArg (fun z : ℝ => (z : EReal)) (Finset.sum_congr rfl fun a _ => ?_)
    rw [mul_comm]
    cases hs : Rows.seen (R.val / 128) (128 * (C.val % 256 / 64) + R.val % 128) a with
    | true => rw [W.kz_seen _ hs]
    | false => rw [show W.probs (R.val / 128) (C.val / 256) (128 * (C.val % 256 / 64) + R.val % 128) a = 0 from pr_unseen _ _ _ _ hs, zero_mul, zero_mul]

end Ref

end Cert.RefT

end
-- ==== Proof.NormT.lean ====
/- The forward attention: what a grid point writes, and the array the points leave together. -/
module

public import proofs.«01_k».proof.Proof.Gen.KernelTIdeal.Value
public import proofs.«01_k».proof.Proof.Gen.ReferenceTIdeal.Read
public import proofs.«01_k».proof.Proof.RefT
public import Idealize.ShloMosaic.Lib.WordCmp
public import Idealize.ShloMosaic.Lib.IdealHost
public import Idealize.ShloMosaic.Lib.Pipeline.ValueKit

@[expose] public section

set_option maxRecDepth 65536

noncomputable section

namespace Cert.NormT

open Idealize.ShloMosaic Idealize.ShloMosaic.TcCoe Idealize.SL.Sem
open Idealize.ShloMosaic.Pipeline (Dat)
open Cert.KernelTIdeal Cert.KernelTIdeal.Gen Cert.RealLift Cert.AttnModel Cert.Attn
open Cert.ReferenceTIdeal.Read

/-! ## The body: four softmaxes over 192 keys, two groups of heads by two half blocks of queries -/

/-- A softmax over the 192 keys of half a block, with a sink, times the values. -/
def attend (S : FVec Ideal S192x256 .f32) (U : FVec Ideal S1x256 .f32) (V : FVec Ideal S192x64 .f32) : FVec Ideal S256x64 .f32 :=
  let m := maximumf (shapeCast S1x256 (multiReduction .maximumf [0] S256 S 0xFF800000#32 reduces_S192x256_S256 (.inl rfl) rfl) shapeCasts_S256_S1x256) U
  let e := exp (subf S (broadcastTo S192x256 m broadcasts_S1x256_S192x256))
  let l := addf (shapeCast S1x256 (multiReduction .add [0] S256 e 0x00000000#32 reduces_S192x256_S256 (.inl rfl) rfl) shapeCasts_S256_S1x256) (exp (subf U m))
  let p := mulf e (broadcastTo S192x256 (divf (broadcast S1x256 (Scalar.ofBits .f32 0x3F800000#32)) l) broadcasts_S1x256_S192x256)
  matmul dot_S192x256_S192x64_S256x64_0_0_1_1_n_n none (truncf .bf16 p bitsLt_bf16_f32) (truncf .bf16 V bitsLt_bf16_f32) (constant S256x64 .f32 0x00000000#32)

/-- The scores a mask leaves. -/
def masked (M : IVec S192x256 1) (R : FVec Ideal S192x256 .f32) : FVec Ideal S192x256 .f32 :=
  select M R (broadcast S192x256 (Named.named κ "mask" 0xF149F2CA#32))

/-- The sinks of a group's four heads, a lane each query. -/
def sinks (a b c d : Elt Ideal .f32) : FVec Ideal S1x256 .f32 :=
  concatenate S1x256 1 [⟨S1x64, broadcast S1x64 a⟩, ⟨S1x64, broadcast S1x64 b⟩, ⟨S1x64, broadcast S1x64 c⟩, ⟨S1x64, broadcast S1x64 d⟩]
    concatenates_S1x64_S1x64_S1x64_S1x64_S1x256_d1

/-- The first half block's scores. -/
def scores0 (q : FVec Ideal S512x64 .f32) (k : FVec Ideal S256x64 .f32) : FVec Ideal S192x256 .f32 :=
    mulf (matmul dot_S192x64_S256x64_S192x256_1_1_0_0_n_n none
      (truncf .bf16 (extractStridedSlice S192x64 ![0, 0] k slices_S256x64_o0_0_S192x64) bitsLt_bf16_f32)
      (truncf .bf16 (concatenate S256x64 0 [⟨S64x64, extractStridedSlice S64x64 ![0, 0] q slices_S512x64_o0_0_S64x64⟩,
        ⟨S64x64, extractStridedSlice S64x64 ![128, 0] q slices_S512x64_o128_0_S64x64⟩, ⟨S64x64, extractStridedSlice S64x64 ![256, 0] q slices_S512x64_o256_0_S64x64⟩,
        ⟨S64x64, extractStridedSlice S64x64 ![384, 0] q slices_S512x64_o384_0_S64x64⟩] concatenates_S64x64_S64x64_S64x64_S64x64_S256x64_d0) bitsLt_bf16_f32)
      (constant S192x256 .f32 0x00000000#32)) (broadcast S192x256 (Scalar.ofBits .f32 0x3E000000#32))

/-- The first half block's rows of a group, and the second's. -/
def first (M : IVec S192x256 1) (q : FVec Ideal S512x64 .f32) (k v : FVec Ideal S256x64 .f32) (a b c d : Elt Ideal .f32) : FVec Ideal S256x64 .f32 :=
  attend (masked M (scores0 q k))
    (sinks a b c d) (extractStridedSlice S192x64 ![0, 0] v slices_S256x64_o0_0_S192x64)

def second (M : IVec S192x256 1) (q : FVec Ideal S512x64 .f32) (k v : FVec Ideal S256x64 .f32) (a b c d : Elt Ideal .f32) : FVec Ideal S256x64 .f32 :=
  attend (masked M (k0_pay36 q k)) (sinks a b c d) (extractStridedSlice S192x64 ![64, 0] v slices_S256x64_o64_0_S192x64)

/-- The heads side by side, the half blocks one above the other. -/
def tile (A B C D : FVec Ideal S256x64 .f32) : FVec Ideal S128x512 .f32 :=
  let s0 (x : FVec Ideal S256x64 .f32) : FVec Ideal S64x64 .f32 := extractStridedSlice S64x64 ![0, 0] x slices_S256x64_o0_0_S64x64
  let s1 (x : FVec Ideal S256x64 .f32) : FVec Ideal S64x64 .f32 := extractStridedSlice S64x64 ![64, 0] x slices_S256x64_o64_0_S64x64
  let s2 (x : FVec Ideal S256x64 .f32) : FVec Ideal S64x64 .f32 := extractStridedSlice S64x64 ![128, 0] x slices_S256x64_o128_0_S64x64
  let s3 (x : FVec Ideal S256x64 .f32) : FVec Ideal S64x64 .f32 := extractStridedSlice S64x64 ![192, 0] x slices_S256x64_o192_0_S64x64
  let c (x y : FVec Ideal S64x64 .f32) : FVec Ideal S128x64 .f32 := concatenate S128x64 0 [⟨S64x64, x⟩, ⟨S64x64, y⟩] concatenates_S64x64_S64x64_S128x64_d0
  concatenate S128x512 1 [⟨S128x64, c (s0 A) (s0 B)⟩, ⟨S128x64, c (s1 A) (s1 B)⟩, ⟨S128x64, c (s2 A) (s2 B)⟩, ⟨S128x64, c (s3 A) (s3 B)⟩,
    ⟨S128x64, c (s0 C) (s0 D)⟩, ⟨S128x64, c (s1 C) (s1 D)⟩, ⟨S128x64, c (s2 C) (s2 D)⟩, ⟨S128x64, c (s3 C) (s3 D)⟩]
    concatenates_S128x64_S128x64_S128x64_S128x64_S128x64_S128x64_S128x64_S128x64_S128x512_d1

theorem cell {f : FVec Ideal S256x64 .f32} {a a' : Fin 256} {b b' : Fin 64} (ha : a.val = a'.val) (hb : b.val = b'.val) : f (ix2 a b) = f (ix2 a' b') :=
  congrArg f (congrArg₂ ix2 (Fin.ext ha) (Fin.ext hb))

set_option maxHeartbeats 2000000 in
theorem tile_at (A B C D : FVec Ideal S256x64 .f32) (r : Fin 128) (y : Fin 512) :
    tile A B C D (ix2 r y) = (if y.val < 256 then if r.val < 64 then A else B else if r.val < 64 then C else D)
      (ix2 ⟨64 * (y.val % 256 / 64) + r.val % 64, by omega⟩ ⟨y.val % 64, by omega⟩) := by
  have hy : y.val < 512 := y.isLt
  pointwise [tile]
  by_cases hr : r.val < 64 <;> by_cases h2 : y.val < 256 <;> simp only [hr, h2, ↓reduceIte, ↓reduceDIte] <;> split_ifs <;> first
    | (exfalso; omega)
    | exact cell (by simp only <;> omega) (by simp only <;> omega)

section Attend

variable (S : FVec Ideal S192x256 .f32) (U : FVec Ideal S1x256 .f32) (V : FVec Ideal S192x64 .f32) (j : Fin 256)
variable (P : Fin 192 → Bool) (A : Fin 192 → ℝ) (z : ℝ)
variable (hS : ∀ a, S (ix2 a j) = sc P A a) (hU : U (ix2 0 j) = ((z : ℝ) : EReal))
include hS hU

theorem attend_at (w : Fin 192 → ℝ) (c : Fin 64) (hV : ∀ a, V (ix2 a c) = ((w a : ℝ) : EReal)) :
    attend S U V (ix2 j c) = ((∑ a, pr P A z a * w a : ℝ) : EReal) := by
  obtain ⟨m, h⟩ := top_real P A z
  pointwise [attend]
  simp only [hS, hU, hV, bits_bot]
  rw [show (fun x => sc P A x) = sc P A from rfl, h, sum_exp]
  simp only [exp_sc]
  rw [← EReal.coe_one, coe_div _ (scaled_ne _ _ _ m)]
  simp only [← EReal.coe_mul]
  rw [coe_sum]
  refine congrArg (fun x : ℝ => (x : EReal)) (Finset.sum_congr rfl fun a _ => congrArg (· * w a) ?_)
  rw [← pr_scaled _ _ _ m]
  ring

end Attend

theorem masked_at (M : IVec S192x256 1) (R : FVec Ideal S192x256 .f32) (j : Fin 256) (P : Fin 192 → Bool) (A : Fin 192 → ℝ)
    (hM : ∀ a, M (ix2 a j) = if P a then 1#1 else 0#1) (hR : ∀ a, R (ix2 a j) = ((A a : ℝ) : EReal)) (a : Fin 192) :
    masked M R (ix2 a j) = sc P A a := by
  pointwise [masked]
  rw [hM a, hR a, IdealRules.named_const.ideal_named_scalar (κ := κ) (name := "mask") _ ⊥ rfl]
  unfold sc
  split <;> rfl

/-! ## The masks -/

/-- The row of its half block a lane's query stands in. -/
theorem row64 : ∀ j : Fin 256, Scalar.select
    (IntOp.andi
      (IntOp.xori
        (IntOp.cmpi CmpIPredicate.slt (IntOp.remsi ArithUnit.vector (BitVec.ofNat 32 j.val) (Scalar.select (Scalar.cmpi CmpIPredicate.eq 64#32 0#32) 1#32 64#32)) 0#32)
        (Scalar.cmpi CmpIPredicate.slt (Scalar.select (Scalar.cmpi CmpIPredicate.eq 64#32 0#32) 1#32 64#32) 0#32))
      (IntOp.cmpi CmpIPredicate.ne (IntOp.remsi ArithUnit.vector (BitVec.ofNat 32 j.val) (Scalar.select (Scalar.cmpi CmpIPredicate.eq 64#32 0#32) 1#32 64#32)) 0#32))
    (IntOp.addi (IntOp.remsi ArithUnit.vector (BitVec.ofNat 32 j.val) (Scalar.select (Scalar.cmpi CmpIPredicate.eq 64#32 0#32) 1#32 64#32))
      (Scalar.select (Scalar.cmpi CmpIPredicate.eq 64#32 0#32) 1#32 64#32))
    (IntOp.remsi ArithUnit.vector (BitVec.ofNat 32 j.val) (Scalar.select (Scalar.cmpi CmpIPredicate.eq 64#32 0#32) 1#32 64#32))
      = BitVec.ofNat 32 (j.val % 64) := by decide +kernel

theorem band64 : ∀ (r : Fin 64) (a : Fin 192), IntOp.andi
    (IntOp.cmpi CmpIPredicate.sge (IntOp.subi (IntOp.addi (BitVec.ofNat 32 r.val) 128#32) (BitVec.ofNat 32 a.val)) 0#32)
    (IntOp.cmpi CmpIPredicate.slt (IntOp.subi (IntOp.addi (BitVec.ofNat 32 r.val) 128#32) (BitVec.ofNat 32 a.val)) 128#32)
      = BitVec.ofBool (decide (a.val ≤ r.val + 128 ∧ r.val < a.val)) := by decide +kernel

theorem present0 : ∀ (n : Fin 32) (a : Fin 192), IntOp.cmpi CmpIPredicate.sge (IntOp.addi (BitVec.ofNat 32 a.val) 0#32)
    (Scalar.select (Scalar.cmpi CmpIPredicate.sgt (BitVec.ofNat 32 n.val) 0#32) 0#32 128#32)
      = BitVec.ofBool (decide (n.val = 0 → 128 ≤ a.val)) := by decide +kernel

theorem present1 : ∀ (n : Fin 32) (a : Fin 192), IntOp.cmpi CmpIPredicate.sge (IntOp.addi (BitVec.ofNat 32 a.val) 64#32)
    (Scalar.select (Scalar.cmpi CmpIPredicate.sgt (BitVec.ofNat 32 n.val) 0#32) 0#32 128#32)
      = BitVec.ofBool (decide (n.val = 0 → 64 ≤ a.val)) := by decide +kernel

/-- The query a lane of half block `b` holds. -/
def lane (b : ℕ) (j : Fin 256) : ℕ := 128 * (j.val / 64) + 64 * b + j.val % 64

theorem mask0 (i : grid0.Coords) (hi : (i 0).val < 32) (a : Fin 192) (j : Fin 256) :
    k0_pay1 i (ix2 a j) = if Rows.seen (i 0).val (lane 0 j) (at_ (b := 0) (by decide) a) then 1#1 else 0#1 := by
  pointwise [k0_pay1]
  refine Eq.trans (b := IntOp.andi (BitVec.ofBool (decide (a.val ≤ j.val % 64 + 128 ∧ j.val % 64 < a.val)))
    (BitVec.ofBool (decide ((i 0).val = 0 → 128 ≤ a.val)))) ?_ ?_
  · rw [row64]
    exact congrArg₂ IntOp.andi (band64 ⟨j.val % 64, by omega⟩ a) (present0 ⟨(i 0).val, hi⟩ a)
  · rw [and_bits]
    unfold Rows.seen
    refine if_congr (decide_eq_true_iff.trans (Iff.trans ?_ decide_eq_true_iff.symm)) rfl rfl
    simp only [at_, lane]
    rw [← and_assoc]
    exact and_congr (by omega) (imp_congr Iff.rfl (by omega))

theorem mask1 (n : ℕ) (hn : n < 32) (a : Fin 192) (j : Fin 256) :
    k0_pay4 (BitVec.ofNat 32 n) (iota .tc S192x256 32 [0] iota_S192x256_d0_w32) (Scalar.select (Scalar.cmpi .eq 64#32 0#32) 1#32 64#32) k0_pay2 k0_pay3 0#32 (ix2 a j)
      = if Rows.seen n (lane 1 j) (at_ (b := 1) (by decide) a) then 1#1 else 0#1 := by
  pointwise [k0_pay4, k0_pay2, k0_pay3]
  refine Eq.trans (b := IntOp.andi (BitVec.ofBool (decide (a.val ≤ j.val % 64 + 128 ∧ j.val % 64 < a.val)))
    (BitVec.ofBool (decide (n = 0 → 64 ≤ a.val)))) ?_ ?_
  · rw [row64]
    exact congrArg₂ IntOp.andi (band64 ⟨j.val % 64, by omega⟩ a) (present1 ⟨n, hn⟩ a)
  · rw [and_bits]
    unfold Rows.seen
    refine if_congr (decide_eq_true_iff.trans (Iff.trans ?_ decide_eq_true_iff.symm)) rfl rfl
    simp only [at_, lane]
    rw [← and_assoc]
    exact and_congr (by omega) (imp_congr Iff.rfl (by omega))

/-! ## What a half block writes -/

section Half

variable {W : Rows} {n g : ℕ} (q : FVec Ideal S512x64 .f32) (k v : FVec Ideal S256x64 .f32) (a b c d : Elt Ideal .f32)
variable (hq : ∀ (j : Fin 512) (x : Fin 64), q (ix2 j x) = ((W.qm n g j x : ℝ) : EReal))
variable (hk : ∀ (y : Fin 256) (x : Fin 64), k (ix2 y x) = ((W.km n (512 + 64 * g) y x : ℝ) : EReal))
variable (hv : ∀ (y : Fin 256) (x : Fin 64), v (ix2 y x) = ((W.km n (640 + 64 * g) y x : ℝ) : EReal))
variable (h0 : a = ((W.Z (4 * g) : ℝ) : EReal)) (h1 : b = ((W.Z (4 * g + 1) : ℝ) : EReal))
variable (h2 : c = ((W.Z (4 * g + 2) : ℝ) : EReal)) (h3 : d = ((W.Z (4 * g + 3) : ℝ) : EReal))

theorem lane_head (e : ℕ) (he : e < 2) (j : Fin 256) : lane e j / 128 = j.val / 64 ∧ lane e j % 128 = 64 * e + j.val % 64 := by
  have := j.isLt
  unfold lane
  omega

include h0 h1 h2 h3 in
theorem sinks_at (e : ℕ) (he : e < 2) (j : Fin 256) : sinks a b c d (ix2 0 j) = ((W.zm g (lane e j) : ℝ) : EReal) := by
  have hj : j.val < 256 := j.isLt
  pointwise [sinks]
  subst h0 h1 h2 h3
  unfold Rows.zm
  rw [(lane_head e he j).1]
  split_ifs <;> exact congrArg (fun i => ((W.Z i : ℝ) : EReal)) (by omega)

theorem qm_of {j j' : ℕ} (h : j = j') (x : ℕ) : ((W.qm n g j x : ℝ) : EReal) = ((W.qm n g j' x : ℝ) : EReal) := by rw [h]

theorem score_of (f : Fin 64 → EReal) (j : ℕ) (y : Fin 256) (hf : ∀ x : Fin 64, f x = ((W.km n (512 + 64 * g) y x * W.qm n g j x : ℝ) : EReal)) :
    (∑ x, f x) * ((1 / 8 : ℝ) : EReal) = ((W.scores n g j y : ℝ) : EReal) := by
  unfold Rows.scores
  rw [EReal.coe_mul, ← coe_sum]
  exact congrArg (fun z : EReal => z * _) (Finset.sum_congr rfl fun x _ => hf x)

theorem mul_of {o a a' j j' : ℕ} (ha : a = a') (hj : j = j') (x : ℕ) :
    ((W.km n o a x : ℝ) : EReal) * ((W.qm n g j x : ℝ) : EReal) = ((W.km n o a' x * W.qm n g j' x : ℝ) : EReal) := by
  rw [ha, hj, EReal.coe_mul]

include hq hk in
theorem raw1 (y : Fin 192) (j : Fin 256) : k0_pay36 q k (ix2 y j) = ((W.scores n g (lane 1 j) (at_ (b := 1) (by decide) y) : ℝ) : EReal) := by
  have hj : j.val < 256 := j.isLt
  pointwise [k0_pay36]
  simp only [hq, hk, bits_eighth]
  refine score_of _ _ _ fun x => ?_
  unfold lane at_
  split_ifs <;> exact mul_of (by simp only <;> omega) (by omega) _

include hq hk in
theorem raw0 (y : Fin 192) (j : Fin 256) : scores0 q k (ix2 y j) = ((W.scores n g (lane 0 j) (at_ (b := 0) (by decide) y) : ℝ) : EReal) := by
  have hj : j.val < 256 := j.isLt
  pointwise [scores0]
  simp only [hq, hk, bits_eighth]
  refine score_of _ _ _ fun x => ?_
  unfold lane at_
  split_ifs <;> exact mul_of (by simp only <;> omega) (by omega) _

variable (M : IVec S192x256 1)

include hq hk hv h0 h1 h2 h3 in
theorem first_at (hM : ∀ y j, M (ix2 y j) = if Rows.seen n (lane 0 j) (at_ (b := 0) (by decide) y) then 1#1 else 0#1) (j : Fin 256) (x : Fin 64) :
    first M q k v a b c d (ix2 j x) = ((W.out n g (lane 0 j) x : ℝ) : EReal) := by
  refine (attend_at _ _ _ j _ _ _ (masked_at M _ j _ _ (fun y => hM y j) fun y => raw0 q k hq hk y j)
    (sinks_at a b c d h0 h1 h2 h3 0 (by decide) j) (fun y => W.km n (640 + 64 * g) (at_ (b := 0) (by decide) y) x) x fun y => ?_).trans
    (congrArg (fun r : ℝ => (r : EReal)) (out_part (b := 0) (by decide) (Rows.seen n (lane 0 j)) (W.scores n g (lane 0 j)) (W.zm g (lane 0 j))
      (fun i hi => seen_part n ?_ ?_ i hi) fun y => W.km n (640 + 64 * g) y x))
  · pointwise
    rw [hv]
    exact congrArg (fun i => ((W.km n (640 + 64 * g) i x : ℝ) : EReal)) (by simp only [at_] <;> omega)
  · rw [(lane_head 0 (by decide) j).2]; omega
  · rw [(lane_head 0 (by decide) j).2]; omega

include hq hk hv h0 h1 h2 h3 in
theorem second_at (hM : ∀ y j, M (ix2 y j) = if Rows.seen n (lane 1 j) (at_ (b := 1) (by decide) y) then 1#1 else 0#1) (j : Fin 256) (x : Fin 64) :
    second M q k v a b c d (ix2 j x) = ((W.out n g (lane 1 j) x : ℝ) : EReal) := by
  refine (attend_at _ _ _ j _ _ _ (masked_at M _ j _ _ (fun y => hM y j) fun y => raw1 q k hq hk y j)
    (sinks_at a b c d h0 h1 h2 h3 1 (by decide) j) (fun y => W.km n (640 + 64 * g) (at_ (b := 1) (by decide) y) x) x fun y => ?_).trans
    (congrArg (fun r : ℝ => (r : EReal)) (out_part (b := 1) (by decide) (Rows.seen n (lane 1 j)) (W.scores n g (lane 1 j)) (W.zm g (lane 1 j))
      (fun i hi => seen_part n ?_ ?_ i hi) fun y => W.km n (640 + 64 * g) y x))
  · pointwise
    rw [hv]
    exact congrArg (fun i => ((W.km n (640 + 64 * g) i x : ℝ) : EReal)) (by simp only [at_] <;> omega)
  · rw [(lane_head 1 (by decide) j).2]; omega
  · rw [(lane_head 1 (by decide) j).2]; omega

theorem out_cong {g g' j j' x x' : ℕ} (hg : g = g') (hj : j = j') (hx : x = x') : ((W.out n g j x : ℝ) : EReal) = ((W.out n g' j' x' : ℝ) : EReal) := by
  subst hg hj hx; rfl

end Half

/-! ## The rows a point reads -/

/-- The blocks of rows a point reads: its own and the one before it, the bias and the sinks. -/
structure Reads (cur prev : Vec Ideal S128x768 .f32) (bias : Vec Ideal S1x768 .f32) (snk : Vec Ideal S1x8 .f32) (n : ℕ) (W : Rows) : Prop where
  cur : ∀ (r : Fin 128) (x : Fin 768), cur (ix2 r x) = ((W.T (128 * n + r) x : ℝ) : EReal)
  prev : ∀ (r : Fin 128) (x : Fin 768), prev (ix2 r x) = ((W.T (128 * (n - 1) + r) x : ℝ) : EReal)
  bias : ∀ x : Fin 768, bias (ix2 0 x) = ((W.B x : ℝ) : EReal)
  sink : ∀ x : Fin 8, snk (ix2 0 x) = ((W.Z x : ℝ) : EReal)

section Blocks

variable {cur prev : Vec Ideal S128x768 .f32} {bias : Vec Ideal S1x768 .f32} {snk : Vec Ideal S1x8 .f32} {n : ℕ} {W : Rows}
variable (hX : Reads cur prev bias snk n W)

include hX

theorem q0 (j : Fin 512) (x : Fin 64) : k0_pay8 (k0_pay5 (View.ld cur (Rect.unit ![0, 0] ![128, 64] inb_S128x768_S128x64_0_0)) (View.ld bias (Rect.unit ![0, 0] ![1, 64] inb_S1x768_S1x64_0_0))) (k0_pay6 (View.ld cur (Rect.unit ![0, 64] ![128, 64] inb_S128x768_S128x64_0_64)) (View.ld bias (Rect.unit ![0, 64] ![1, 64] inb_S1x768_S1x64_0_64))) (k0_pay7 (View.ld cur (Rect.unit ![0, 128] ![128, 64] inb_S128x768_S128x64_0_128)) (View.ld bias (Rect.unit ![0, 128] ![1, 64] inb_S1x768_S1x64_0_128)))
      (View.ld cur (Rect.unit ![0, 192] ![128, 64] inb_S128x768_S128x64_0_192)) (View.ld bias (Rect.unit ![0, 192] ![1, 64] inb_S1x768_S1x64_0_192)) (ix2 j x) = ((W.qm n 0 j x : ℝ) : EReal) := by
  have hj : j.val < 512 := j.isLt
  have hx : x.val < 64 := x.isLt
  pointwise [k0_pay8, k0_pay5, k0_pay6, k0_pay7]
  simp only [hX.cur, hX.bias]
  split_ifs <;> exact row_at (by omega) (by omega)

theorem q1 (j : Fin 512) (x : Fin 64) : k0_pay27 (k0_pay25 (View.ld cur (Rect.unit ![0, 256] ![128, 64] inb_S128x768_S128x64_0_256)) (View.ld bias (Rect.unit ![0, 256] ![1, 64] inb_S1x768_S1x64_0_256))) (k0_pay26 (View.ld cur (Rect.unit ![0, 320] ![128, 64] inb_S128x768_S128x64_0_320)) (View.ld bias (Rect.unit ![0, 320] ![1, 64] inb_S1x768_S1x64_0_320)))
      (View.ld cur (Rect.unit ![0, 384] ![128, 64] inb_S128x768_S128x64_0_384)) (View.ld bias (Rect.unit ![0, 384] ![1, 64] inb_S1x768_S1x64_0_384)) (View.ld cur (Rect.unit ![0, 448] ![128, 64] inb_S128x768_S128x64_0_448)) (View.ld bias (Rect.unit ![0, 448] ![1, 64] inb_S1x768_S1x64_0_448)) (ix2 j x) = ((W.qm n 1 j x : ℝ) : EReal) := by
  have hj : j.val < 512 := j.isLt
  have hx : x.val < 64 := x.isLt
  pointwise [k0_pay27, k0_pay25, k0_pay26]
  simp only [hX.cur, hX.bias]
  split_ifs <;> exact row_at (by omega) (by omega)

theorem k0 (a : Fin 256) (x : Fin 64) : k0_pay9 (View.ld prev (Rect.unit ![0, 512] ![128, 64] inb_S128x768_S128x64_0_512)) (View.ld bias (Rect.unit ![0, 512] ![1, 64] inb_S1x768_S1x64_0_512)) (View.ld cur (Rect.unit ![0, 512] ![128, 64] inb_S128x768_S128x64_0_512)) (View.ld bias (Rect.unit ![0, 512] ![1, 64] inb_S1x768_S1x64_0_512)) (ix2 a x)
      = ((W.km n (512 + 64 * 0) a x : ℝ) : EReal) := by
  have ha : a.val < 256 := a.isLt
  have hx : x.val < 64 := x.isLt
  pointwise [k0_pay9]
  simp only [hX.cur, hX.prev, hX.bias]
  split_ifs with h
  · exact row_at (by simp only [if_pos h]) (by omega)
  · exact row_at (by simp only [if_neg h]) (by omega)

theorem v0 (a : Fin 256) (x : Fin 64) : k0_pay10 (View.ld prev (Rect.unit ![0, 640] ![128, 64] inb_S128x768_S128x64_0_640)) (View.ld bias (Rect.unit ![0, 640] ![1, 64] inb_S1x768_S1x64_0_640)) (View.ld cur (Rect.unit ![0, 640] ![128, 64] inb_S128x768_S128x64_0_640)) (View.ld bias (Rect.unit ![0, 640] ![1, 64] inb_S1x768_S1x64_0_640)) (ix2 a x)
      = ((W.km n (640 + 64 * 0) a x : ℝ) : EReal) := by
  have ha : a.val < 256 := a.isLt
  have hx : x.val < 64 := x.isLt
  pointwise [k0_pay10]
  simp only [hX.cur, hX.prev, hX.bias]
  split_ifs with h
  · exact row_at (by simp only [if_pos h]) (by omega)
  · exact row_at (by simp only [if_neg h]) (by omega)

theorem k1 (a : Fin 256) (x : Fin 64) : k0_pay28 (View.ld prev (Rect.unit ![0, 576] ![128, 64] inb_S128x768_S128x64_0_576)) (View.ld bias (Rect.unit ![0, 576] ![1, 64] inb_S1x768_S1x64_0_576)) (View.ld cur (Rect.unit ![0, 576] ![128, 64] inb_S128x768_S128x64_0_576)) (View.ld bias (Rect.unit ![0, 576] ![1, 64] inb_S1x768_S1x64_0_576)) (ix2 a x)
      = ((W.km n (512 + 64 * 1) a x : ℝ) : EReal) := by
  have ha : a.val < 256 := a.isLt
  have hx : x.val < 64 := x.isLt
  pointwise [k0_pay28]
  simp only [hX.cur, hX.prev, hX.bias]
  split_ifs with h
  · exact row_at (by simp only [if_pos h]) (by omega)
  · exact row_at (by simp only [if_neg h]) (by omega)

theorem v1 (a : Fin 256) (x : Fin 64) : k0_pay29 (View.ld prev (Rect.unit ![0, 704] ![128, 64] inb_S128x768_S128x64_0_704)) (View.ld bias (Rect.unit ![0, 704] ![1, 64] inb_S1x768_S1x64_0_704)) (View.ld cur (Rect.unit ![0, 704] ![128, 64] inb_S128x768_S128x64_0_704)) (View.ld bias (Rect.unit ![0, 704] ![1, 64] inb_S1x768_S1x64_0_704)) (ix2 a x)
      = ((W.km n (640 + 64 * 1) a x : ℝ) : EReal) := by
  have ha : a.val < 256 := a.isLt
  have hx : x.val < 64 := x.isLt
  pointwise [k0_pay29]
  simp only [hX.cur, hX.prev, hX.bias]
  split_ifs with h
  · exact row_at (by simp only [if_pos h]) (by omega)
  · exact row_at (by simp only [if_neg h]) (by omega)

theorem sink_at (o : ℕ) (h : ∀ a, (![0, o] : Fin 2 → ℕ) a + S1x1.size a ≤ S1x8.size a) (ho : o < 8) (e : S1x1.numel = 1) :
    View.ld snk (Rect.unit (s := S1x8) ![0, o] S1x1.size h) (Shape.Idx.first (by rw [show (Rect.unit (s := S1x8) ![0, o] S1x1.size h).shape.numel = 1 from e]; decide)) = ((W.Z o : ℝ) : EReal) := by
  refine (congrArg snk (?_ : _ = ix2 0 ⟨o, ho⟩)).trans (hX.sink _)
  funext a
  apply Fin.ext
  match a with
  | ⟨0, _⟩ => rfl
  | ⟨1, _⟩ => rfl

end Blocks
/-! ## The blocks a point reads, and the array it writes -/

section Run

variable (m : (ℓ : Loc nD τ sig) → Buf (Elt Ideal) ℓ) (c : Dev nD)

/-- Every argument holds real numbers only. -/
structure Real : Prop where
  h0 : ∀ i : S4096x768.Idx, (m ((c.tc : Thread nD τ).loc main_arg0) : FVec Ideal S4096x768 .f32) i = (((m ((c.tc : Thread nD τ).loc main_arg0) : FVec Ideal S4096x768 .f32) i).toReal : EReal)
  h1 : ∀ i : S1x768.Idx, (m ((c.tc : Thread nD τ).loc main_arg1) : FVec Ideal S1x768 .f32) i = (((m ((c.tc : Thread nD τ).loc main_arg1) : FVec Ideal S1x768 .f32) i).toReal : EReal)
  h2 : ∀ i : S1x8.Idx, (m ((c.tc : Thread nD τ).loc main_arg2) : FVec Ideal S1x8 .f32) i = (((m ((c.tc : Thread nD τ).loc main_arg2) : FVec Ideal S1x8 .f32) i).toReal : EReal)

def rows : Rows where
  T R C := if h : R < 4096 ∧ C < 768 then ((m ((c.tc : Thread nD τ).loc main_arg0) : FVec Ideal S4096x768 .f32) (ix2 ⟨R, h.1⟩ ⟨C, h.2⟩)).toReal else 0
  B C := if h : C < 768 then ((m ((c.tc : Thread nD τ).loc main_arg1) : FVec Ideal S1x768 .f32) (ix2 0 ⟨C, h⟩)).toReal else 0
  G _ _ := 0
  Z h := if h' : h < 8 then ((m ((c.tc : Thread nD τ).loc main_arg2) : FVec Ideal S1x8 .f32) (ix2 0 ⟨h, h'⟩)).toReal else 0

variable (hf : Real m c)
include hf

theorem arg0_at (R : Fin 4096) (C : Fin 768) : (m ((c.tc : Thread nD τ).loc main_arg0) : FVec Ideal S4096x768 .f32) (ix2 R C) = (((rows m c).T R C : ℝ) : EReal) := by
  rw [rows]; simp only [R.isLt, C.isLt, and_self, dite_true]
  exact hf.h0 _

theorem arg1_at (C : Fin 768) : (m ((c.tc : Thread nD τ).loc main_arg1) : FVec Ideal S1x768 .f32) (ix2 0 C) = (((rows m c).B C : ℝ) : EReal) := by
  rw [rows]; simp only [C.isLt, dite_true]
  exact hf.h1 _

theorem arg2_at (C : Fin 8) : (m ((c.tc : Thread nD τ).loc main_arg2) : FVec Ideal S1x8 .f32) (ix2 0 C) = (((rows m c).Z C : ℝ) : EReal) := by
  rw [rows]; simp only [C.isLt, dite_true]
  exact hf.h2 _

omit hf in
theorem idx : ∀ t : Fin cfg0.N, win0_0.index t = ![0, 0] ∧ win0_1.index t = ![t.val, 0] ∧ win0_2.index t = ![t.val - 1, 0] ∧ win0_3.index t = ![0, 0] ∧ win0_4.index t = ![t.val, 0]
    ∧ (grid0.coords t 0).val = t.val :=
  (by decide +kernel : ∀ t : Fin grid0.N, _)

theorem reads (t : Fin cfg0.N) (ht : t.val < 32) : Reads (iblk m c 1 t) (iblk m c 2 t) (iblk m c 3 t) (iblk m c 0 t) t.val (rows m c) where
  cur r k := by
    have hr : r.val < 128 := r.isLt
    have e : (show FVec Ideal S128x768 .f32 from iblk m c 1 t) (ix2 r k) = m ((c.tc : Thread nD τ).loc main_arg0) (ix2 ⟨128 * t.val + r.val, by omega⟩ k) := by
      blk_point [iblk, V, idx t]
    exact e.trans (arg0_at m c hf _ _)
  prev r k := by
    have hr : r.val < 128 := r.isLt
    have e : (show FVec Ideal S128x768 .f32 from iblk m c 2 t) (ix2 r k) = m ((c.tc : Thread nD τ).loc main_arg0) (ix2 ⟨128 * (t.val - 1) + r.val, by omega⟩ k) := by
      blk_point [iblk, V, idx t]
    exact e.trans (arg0_at m c hf _ _)
  bias k := by
    have e : (show FVec Ideal S1x768 .f32 from iblk m c 3 t) (ix2 0 k) = m ((c.tc : Thread nD τ).loc main_arg1) (ix2 0 k) := by
      blk_point [iblk, V, idx t]
    exact e.trans (arg1_at m c hf _)
  sink k := by
    have e : (show FVec Ideal S1x8 .f32 from iblk m c 0 t) (ix2 0 k) = m ((c.tc : Thread nD τ).loc main_arg2) (ix2 0 k) := by
      blk_point [iblk, V, idx t]
    exact e.trans (arg2_at m c hf _)

omit hf in
theorem emb4 (t : Fin cfg0.N) (y0 : Fin 128) (y1 : Fin 512) (R : Fin 4096) (hR : (R : ℕ) = 128 * t.val + y0) :
    ((cfg0.win 4).blk t).view.emb (ix2 y0 y1) = ix2 R y1 := by
  blk_ext [idx t]

theorem final4 : (dats m 0 c).arrAt 4 (cfgs 0).N
      = val_main_v81 (F := Ideal) (m ((c.tc : Thread nD τ).loc main_arg0)) (m ((c.tc : Thread nD τ).loc main_arg1))
        (m ((c.tc : Thread nD τ).loc main_arg2)) := by
  refine (dats m 0 c).arrAt_eq_of_covers 4 _ (by decide +kernel) fun t hw y => ?_
  idx_vars y
  blk_simp [idx t]
  have ht : t.val < 32 := lt_of_lt_of_eq t.isLt N_0
  have hy : y1.val < 512 := y1.isLt
  have hr : y0.val < 128 := y0.isLt
  refine Eq.trans ?_ (Eq.symm ((congrArg _ (emb4 t y0 y1 ⟨128 * t.val + y0.val, by omega⟩ rfl)).trans
    (Cert.RefT.out_ref _ _ _ (rows m c) (arg0_at m c hf) (arg1_at m c hf) (arg2_at m c hf) _ _)))
  rw [after0_4]
  unfold Gen.outsAt0
  frame_out
  change tile (first (k0_pay1 (grid0.coords t)) _ _ _ _ _ _ _)
    (second (k0_pay4 (BitVec.ofNat 32 (grid0.coords t 0).val) (iota .tc S192x256 32 [0] iota_S192x256_d0_w32) (Scalar.select (Scalar.cmpi .eq 64#32 0#32) 1#32 64#32) k0_pay2 k0_pay3 0#32) _ _ _ _ _ _ _)
    (first (k0_pay1 (grid0.coords t)) _ _ _ _ _ _ _)
    (second (k0_pay4 (BitVec.ofNat 32 (grid0.coords t 0).val) (iota .tc S192x256 32 [0] iota_S192x256_d0_w32) (Scalar.select (Scalar.cmpi .eq 64#32 0#32) 1#32 64#32) k0_pay2 k0_pay3 0#32) _ _ _ _ _ _ _) (ix2 _ _) = _
  have hX := reads m c hf t ht
  have hc : (grid0.coords t 0).val = t.val := (idx t).2.2.2.2.2
  have M0 : ∀ (a : Fin 192) (j : Fin 256), k0_pay1 (grid0.coords t) (ix2 a j) = if Rows.seen t.val (lane 0 j) (at_ (b := 0) (by decide) a) then 1#1 else 0#1 :=
    fun a j => (mask0 _ (lt_of_eq_of_lt hc ht) a j).trans (by rw [hc])
  rw [hc]
  have z (o : ℕ) (h) (ho : o < 8) := sink_at hX o h ho rfl
  rw [tile_at]
  simp only [show (128 * t.val + y0.val) / 128 = t.val by omega, show (128 * t.val + y0.val) % 128 = y0.val by omega]
  by_cases h1 : y1.val < 256 <;> by_cases h2 : y0.val < 64 <;> simp only [h1, h2, ↓reduceIte]
  · refine (first_at (g := 0) _ _ _ _ _ _ _ (q0 hX) (k0 hX) (v0 hX) (z 0 _ (by decide)) (z 1 _ (by decide)) (z 2 _ (by decide)) (z 3 _ (by decide)) _ M0 _ _).trans ?_
    exact out_cong (by omega) (by unfold lane; simp only <;> omega) rfl
  · refine (second_at (g := 0) _ _ _ _ _ _ _ (q0 hX) (k0 hX) (v0 hX) (z 0 _ (by decide)) (z 1 _ (by decide)) (z 2 _ (by decide)) (z 3 _ (by decide)) _ (mask1 t.val ht) _ _).trans ?_
    exact out_cong (by omega) (by unfold lane; simp only <;> omega) rfl
  · refine (first_at (g := 1) _ _ _ _ _ _ _ (q1 hX) (k1 hX) (v1 hX) (z 4 _ (by decide)) (z 5 _ (by decide)) (z 6 _ (by decide)) (z 7 _ (by decide)) _ M0 _ _).trans ?_
    exact out_cong (by omega) (by unfold lane; simp only <;> omega) rfl
  · refine (second_at (g := 1) _ _ _ _ _ _ _ (q1 hX) (k1 hX) (v1 hX) (z 4 _ (by decide)) (z 5 _ (by decide)) (z 6 _ (by decide)) (z 7 _ (by decide)) _ (mask1 t.val ht) _ _).trans ?_
    exact out_cong (by omega) (by unfold lane; simp only <;> omega) rfl

end Run

end Cert.NormT

end
-- ==== Proof.ClaimT.lean ====
/- The forward attention computes the plain attention. -/
module

public import proofs.«01_k».proof.Defs
public import proofs.«01_k».proof.Proof.NormT
public import proofs.«01_k».proof.Proof.Gen.KernelTIdeal.Value
public import proofs.«01_k».proof.Proof.Gen.ReferenceTIdeal.Run
public import proofs.«01_k».proof.Proof.Gen.ReferenceTIdeal.Read
public import proofs.«01_k».proof.Proof.Gen.Pre_finite_t
public import Idealize.ShloMosaic.Lib.Claim
public import Idealize.ShloMosaic.Lib.Quiescent

@[expose] public section

set_option maxRecDepth 16384

noncomputable section

namespace Cert.ClaimT

open Idealize.ShloMosaic Idealize.ShloMosaic.TcCoe Idealize.SL.Sem Cert.RealLift

theorem real_of_pre (m : (ℓ : Loc Cert.KernelTIdeal.nD Cert.KernelTIdeal.τ Cert.KernelTIdeal.sig) → Buf (Elt Ideal) ℓ)
    (hpre : Pre_KernelTIdeal_finite_t m) (c : Dev Cert.KernelTIdeal.nD) : Cert.NormT.Real m c := by
  have h := congrFun (hpre c) ix0
  dsimp only [Cert.Pre_finite_t.fn] at h
  obtain ⟨h, a2⟩ := andi_one h
  obtain ⟨a0, a1⟩ := andi_one h
  exact ⟨entries_real _ _ _ _ _ _ _ a0, entries_real _ _ _ _ _ _ _ a1, entries_real _ _ _ _ _ _ _ a2⟩

/-- The reference's run, each result named by the stage that computes it. -/
theorem runRef (m : (ℓ : Loc Cert.ReferenceTIdeal.nD Cert.ReferenceTIdeal.τ Cert.ReferenceTIdeal.sig) → Buf (Elt Ideal) ℓ) (ρ : Dev Cert.ReferenceTIdeal.nD → PrngReg) :
    θ_run Cert.ReferenceTIdeal.defs (onTc (τ := Cert.ReferenceTIdeal.τ) (Cert.ReferenceTIdeal.main (F := Ideal))) ⟨m, fun _ => 0, ρ⟩ fun r => ∀ c : Dev Cert.ReferenceTIdeal.nD,
      r.2.mem ((c.tc : Thread Cert.ReferenceTIdeal.nD Cert.ReferenceTIdeal.τ).loc Cert.ReferenceTIdeal.main_v81) = Cert.ReferenceTIdeal.Read.val_main_v81 (F := Ideal) (m ((c.tc : Thread Cert.ReferenceTIdeal.nD Cert.ReferenceTIdeal.τ).loc Cert.ReferenceTIdeal.main_arg0)) (m ((c.tc : Thread Cert.ReferenceTIdeal.nD Cert.ReferenceTIdeal.τ).loc Cert.ReferenceTIdeal.main_arg1)) (m ((c.tc : Thread Cert.ReferenceTIdeal.nD Cert.ReferenceTIdeal.τ).loc Cert.ReferenceTIdeal.main_arg2))
      ∧r.2.mem ((c.tc : Thread Cert.ReferenceTIdeal.nD Cert.ReferenceTIdeal.τ).loc Cert.ReferenceTIdeal.main_arg0) = m ((c.tc : Thread Cert.ReferenceTIdeal.nD Cert.ReferenceTIdeal.τ).loc Cert.ReferenceTIdeal.main_arg0) ∧ r.2.mem ((c.tc : Thread Cert.ReferenceTIdeal.nD Cert.ReferenceTIdeal.τ).loc Cert.ReferenceTIdeal.main_arg1) = m ((c.tc : Thread Cert.ReferenceTIdeal.nD Cert.ReferenceTIdeal.τ).loc Cert.ReferenceTIdeal.main_arg1) ∧ r.2.mem ((c.tc : Thread Cert.ReferenceTIdeal.nD Cert.ReferenceTIdeal.τ).loc Cert.ReferenceTIdeal.main_arg2) = m ((c.tc : Thread Cert.ReferenceTIdeal.nD Cert.ReferenceTIdeal.τ).loc Cert.ReferenceTIdeal.main_arg2) :=
  (θ_run Cert.ReferenceTIdeal.defs _ _).mono (fun _ h c => ⟨(h c).1.trans (Cert.ReferenceTIdeal.Read.val_main_v81_eq m c),
    (h c).2⟩)
    (Cert.ReferenceTIdeal.Value.run m ρ)

theorem algebraic : algebraic_KernelTIdeal_ReferenceTIdeal_pre_finite_t := by
  pair_intro
  · run_from Cert.KernelTIdeal.Value.run_blocks m g
  · run_from runRef m' g'
    · exact (Cert.NormT.final4 m c (real_of_pre m hpre c)).symm

/-- The reference leaves its arguments alone, and declares no counter. -/
theorem frameRef : quiescent_ReferenceTIdeal := fun m g _ =>
  (θ_run Cert.ReferenceTIdeal.defs _ _).mono (fun r h => ⟨fun c => (h c).2, sem_eq_zero_of_no_sems (by decide) r.2⟩)
    (Cert.ReferenceTIdeal.Value.run m g)

theorem frameRefPre : quiescent_ReferenceTIdeal_pre_finite_t := fun m g _ => frameRef m g trivial

end Cert.ClaimT

end
-- ==== Proof.NormX.lean ====
/- The first norm of the step: the rows the kernel writes are the rows the reference computes. -/
module

public import proofs.«01_k».proof.Proof.Gen.KernelXIdeal.Value
public import proofs.«01_k».proof.Proof.Gen.ReferenceXIdeal.Read
public import proofs.«01_k».proof.Proof.RmsReal
public import Idealize.ShloMosaic.Lib.Pipeline.ValueKit

@[expose] public section

set_option maxRecDepth 65536

noncomputable section

namespace Cert.NormX

open Idealize.ShloMosaic Idealize.ShloMosaic.TcCoe Idealize.SL.Sem
open Idealize.ShloMosaic.Pipeline (Dat)
open Cert.KernelXIdeal Cert.KernelXIdeal.Gen Cert.RealLift
open Cert.ReferenceXIdeal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- A row of the input over the root of its mean square, times the weights. -/
def normed (x : FVec Ideal S4096x1024 .f32) (w : FVec Ideal S1x1024 .f32) (R : Fin 4096) (C : Fin 1024) : EReal :=
  x (ix2 R C) * Ideal.rsqrt (Ideal.div (∑ k : Fin 1024, x (ix2 R k) * x (ix2 R k)) (Ideal.ofBits .f32 0x44800000#32) + Ideal.ofBits .f32 0x358637BD#32)
    * w (ix2 0 C)

theorem ref_at (x : FVec Ideal S4096x1024 .f32) (w : FVec Ideal S1x1024 .f32) (R : Fin 4096) (C : Fin 1024) :
    val_main_v14 (F := Ideal) x w (ix2 R C) = normed x w R C := by
  pointwise [val_main_v14, val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem final2 : (dats m 0 c).arrAt 2 (cfgs 0).N
      = val_main_v14 (F := Ideal) (m ((c.tc : Thread nD τ).loc main_arg0)) (m ((c.tc : Thread nD τ).loc main_arg1)) := by
  refine (dats m 0 c).arrAt_eq_of_covers 2 _ (by decide +kernel) fun t hw y => ?_
  idx_vars y
  blk_simp [idx t]
  have ht : t.val < 16 := lt_of_lt_of_eq t.isLt N_0
  have hr : y0.val < 256 := y0.isLt
  have e0 : ∀ k : Fin 1024, (show FVec Ideal S256x1024 .f32 from iblk m c 0 t) (ix2 y0 k) = m ((c.tc : Thread nD τ).loc main_arg0) (ix2 ⟨256 * t.val + y0.val, by omega⟩ k) :=
    fun k => by blk_point [iblk, V, idx t]
  have e1 : (show FVec Ideal S1x1024 .f32 from iblk m c 1 t) (ix2 0 y1) = m ((c.tc : Thread nD τ).loc main_arg1) (ix2 0 y1) := by
    blk_point [iblk, V, idx t]
  have e2 : ((cfg0.win 2).blk t).view.emb (ix2 y0 y1) = ix2 (⟨256 * t.val + y0.val, by omega⟩ : Fin 4096) y1 := by
    blk_ext [idx t]
  refine Eq.trans ?_ (Eq.symm ((congrArg _ e2).trans (ref_at _ _ _ _)))
  rw [after0_2]
  frame_out
  show k0_pay1 _ _ (ix2 y0 y1) = _
  pointwise [k0_pay1]
  unfold normed
  simp only [← e0, ← e1]

end Cert.NormX

end
-- ==== Proof.ClaimX.lean ====
/- The first norm: the kernel's result is the reference's, for all inputs. -/
module

public import proofs.«01_k».proof.Defs
public import proofs.«01_k».proof.Proof.NormX
public import proofs.«01_k».proof.Proof.Gen.KernelXIdeal.Value
public import proofs.«01_k».proof.Proof.Gen.ReferenceXIdeal.Run
public import proofs.«01_k».proof.Proof.Gen.ReferenceXIdeal.Read
public import Idealize.ShloMosaic.Lib.Claim
public import Idealize.ShloMosaic.Lib.Quiescent

@[expose] public section

set_option maxRecDepth 16384

noncomputable section

namespace Cert.ClaimX

open Idealize.ShloMosaic Idealize.ShloMosaic.TcCoe Idealize.SL.Sem Cert.RealLift

/-- The reference's run, each result named by the stage that computes it. -/
theorem runRef (m : (ℓ : Loc Cert.ReferenceXIdeal.nD Cert.ReferenceXIdeal.τ Cert.ReferenceXIdeal.sig) → Buf (Elt Ideal) ℓ) (ρ : Dev Cert.ReferenceXIdeal.nD → PrngReg) :
    θ_run Cert.ReferenceXIdeal.defs (onTc (τ := Cert.ReferenceXIdeal.τ) (Cert.ReferenceXIdeal.main (F := Ideal))) ⟨m, fun _ => 0, ρ⟩ fun r => ∀ c : Dev Cert.ReferenceXIdeal.nD,
      r.2.mem ((c.tc : Thread Cert.ReferenceXIdeal.nD Cert.ReferenceXIdeal.τ).loc Cert.ReferenceXIdeal.main_v14) = Cert.ReferenceXIdeal.Read.val_main_v14 (F := Ideal) (m ((c.tc : Thread Cert.ReferenceXIdeal.nD Cert.ReferenceXIdeal.τ).loc Cert.ReferenceXIdeal.main_arg0)) (m ((c.tc : Thread Cert.ReferenceXIdeal.nD Cert.ReferenceXIdeal.τ).loc Cert.ReferenceXIdeal.main_arg1))
      ∧r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0) ∧ r.2.mem ((c.tc : Thread Cert.ReferenceXIdeal.nD Cert.ReferenceXIdeal.τ).loc Cert.ReferenceXIdeal.main_arg1) = m ((c.tc : Thread Cert.ReferenceXIdeal.nD Cert.ReferenceXIdeal.τ).loc Cert.ReferenceXIdeal.main_arg1) :=
  (θ_run Cert.ReferenceXIdeal.defs _ _).mono (fun _ h c => ⟨(h c).1.trans (Cert.ReferenceXIdeal.Read.val_main_v14_eq (m ((c.tc : Thread Cert.ReferenceXIdeal.nD Cert.ReferenceXIdeal.τ).loc Cert.ReferenceXIdeal.main_arg0)) (m ((c.tc : Thread Cert.ReferenceXIdeal.nD Cert.ReferenceXIdeal.τ).loc Cert.ReferenceXIdeal.main_arg1))),
    (h c).2⟩)
    (Cert.ReferenceXIdeal.Value.run m ρ)

theorem algebraic : algebraic_KernelXIdeal_ReferenceXIdeal := by
  pair_intro
  · run_from Cert.KernelXIdeal.Value.run_blocks m g
  · run_from runRef m' g'
    · exact (Cert.NormX.final2 m c).symm

/-- The reference leaves its arguments alone, and declares no counter. -/
theorem frameRef : quiescent_ReferenceXIdeal := fun m g _ =>
  (θ_run Cert.ReferenceXIdeal.defs _ _).mono (fun r h => ⟨fun c => (h c).2, sem_eq_zero_of_no_sems (by decide) r.2⟩)
    (Cert.ReferenceXIdeal.Value.run m g)

end Cert.ClaimX

end
-- ==== Proof.NormO.lean ====
/- The output projection of the mixing layer: the gated head norm, the product with the residual, and the next norm, are the rows of the reference. -/
module

public import proofs.«01_k».proof.Proof.Gen.KernelOIdeal.Value
public import proofs.«01_k».proof.Proof.Gen.ReferenceOIdeal.Read
public import proofs.«01_k».proof.Proof.RmsReal
public import Idealize.ShloMosaic.Lib.Pipeline.ValueKit

@[expose] public section

set_option maxRecDepth 65536

noncomputable section

namespace Cert.NormO

open Idealize.ShloMosaic Idealize.ShloMosaic.TcCoe Idealize.SL.Sem
open Idealize.ShloMosaic.Pipeline (Dat)
open Cert.KernelOIdeal Cert.KernelOIdeal.Gen Cert.RealLift
open Cert.ReferenceOIdeal.Read

variable (m : (ℓ : Loc nD τ sig) → Buf (Elt Ideal) ℓ) (c : Dev nD)

theorem idx : ∀ t : Fin cfg0.N, win0_0.index t = ![0, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] ∧ win0_7.index t = ![t.val, 0]
    ∧ win0_8.index t = ![t.val, 0] ∧ win0_9.index t = ![t.val, 0] :=
  (by decide +kernel : ∀ t : Fin grid0.N, _)

/-- The mixed features: on the left the recurrence's output, each head of 128 over the root of its mean square, times the weights
    and the gate's swish; on the right the attention's output. -/
def mixAt {n : Nat} (o : Fin n → Fin 512 → EReal) (g : Fin n → Fin 512 → EReal) (a : Fin n → Fin 512 → EReal) (w : Fin 128 → EReal)
    (R : Fin n) (C : Fin 1024) : EReal :=
  if h : C.val < 512 then
    o R ⟨C.val, h⟩
      * Ideal.rsqrt (Ideal.div (∑ k : Fin 128, o R ⟨C.val / 128 * 128 + k.val, by omega⟩ * o R ⟨C.val / 128 * 128 + k.val, by omega⟩)
          (Ideal.ofBits .f32 0x43000000#32) + Ideal.ofBits .f32 0x358637BD#32)
      * w ⟨C.val % 128, by omega⟩
      * (g R ⟨C.val, h⟩ * Ideal.div 1 (1 + Ideal.exp (-(g R ⟨C.val, h⟩))))
  else a R ⟨C.val - 512, by omega⟩

/-- The residual plus the projected mixture. -/
def hidden {n : Nat} (mix : Fin n → Fin 1024 → EReal) (w : Fin 1024 → Fin 1024 → EReal) (x : Fin n → Fin 1024 → EReal)
    (R : Fin n) (C : Fin 1024) : EReal :=
  x R C + ∑ k : Fin 1024, mix R k * w k C

/-- A row over the root of its mean square, times the weights. -/
def normed {n : Nat} (x : Fin n → Fin 1024 → EReal) (w : Fin 1024 → EReal) (R : Fin n) (C : Fin 1024) : EReal :=
  x R C * Ideal.rsqrt (Ideal.div (∑ k : Fin 1024, x R k * x R k) (Ideal.ofBits .f32 0x44800000#32) + Ideal.ofBits .f32 0x358637BD#32)
    * w C

theorem ref_mix (x0 x1 x2 : FVec Ideal S4096x512 .f32) (x3 : FVec Ideal S1x128 .f32) (r : Fin 4096) (y : Fin 1024) :
    val_main_v18 (F := Ideal) x0 x1 x2 x3 (ix2 r y)
      = mixAt (fun i j => x0 (ix2 i j)) (fun i j => x1 (ix2 i j)) (fun i j => x2 (ix2 i j)) (fun j => x3 (ix2 0 j)) r y := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v5, val_main_call0_v4, val_main_call0_v3, val_main_call0_v2, val_main_call0_v1, val_main_call0_v0, val_main_cst, val_main_cst_0, val_main_cst_1, val_main_call0_cst, val_main_call0_cst_0]
  unfold mixAt
  by_cases h : y.val < 512
  · simp only [h, ↓reduceDIte]
    have e : (⟨y.val / 128 * 128 + y.val % 128, by omega⟩ : Fin 512) = ⟨y.val, h⟩ := Fin.ext (by simp only <;> omega)
    rw [e]
    try rfl
  · simp only [h, ↓reduceDIte]

theorem ref_hidden (x0 x1 x2 : FVec Ideal S4096x512 .f32) (x3 : FVec Ideal S1x128 .f32) (x4 : FVec Ideal S1x1024x1024 .f32) (x5 : FVec Ideal S4096x1024 .f32)
    (r : Fin 4096) (y : Fin 1024) :
    val_main_v21 (F := Ideal) x0 x1 x2 x3 x4 x5 (ix2 r y)
      = hidden (fun i j => val_main_v18 (F := Ideal) x0 x1 x2 x3 (ix2 i j)) (fun i j => x4 (ix3 0 i j)) (fun i j => x5 (ix2 i j)) r y := by
  pointwise [val_main_v21, val_main_v20, val_main_v19]
  unfold hidden
  rfl

theorem ref_normed (x0 x1 x2 : FVec Ideal S4096x512 .f32) (x3 : FVec Ideal S1x128 .f32) (x4 : FVec Ideal S1x1024x1024 .f32) (x5 : FVec Ideal S4096x1024 .f32)
    (x6 : FVec Ideal S1x1024 .f32) (r : Fin 4096) (y : Fin 1024) :
    val_main_v36 (F := Ideal) x0 x1 x2 x3 x4 x5 x6 (ix2 r y)
      = normed (fun i j => val_main_v21 (F := Ideal) x0 x1 x2 x3 x4 x5 (ix2 i j)) (fun j => x6 (ix2 0 j)) r y := by
  pointwise [val_main_v36, val_main_v35, val_main_v34, val_main_v33, val_main_v32, val_main_v31, val_main_v30, val_main_v29, val_main_v28, val_main_v27, val_main_v26, val_main_v25, val_main_v24, val_main_v23, val_main_v22, val_main_cst_2, val_main_cst_3, val_main_cst_4]
  unfold normed
  try rfl

theorem tile_mix (v2 v3 v4 : Vec Ideal S512x512 .f32) (v5 : Vec Ideal S1x128 .f32) (r : Fin 512) (y : Fin 1024) :
    k0_pay1 v4 v5 (k0_pay4 v2 v3 v5) (k0_pay6 v2 v5 (k0_pay5 v3)) (k0_pay7 v2 v3 v5) (k0_pay8 v3) (k0_pay9 v2) (k0_pay10 v2) (ix2 r y)
      = mixAt (fun i j => v2 (ix2 i j)) (fun i j => v3 (ix2 i j)) (fun i j => v4 (ix2 i j)) (fun j => v5 (ix2 0 j)) r y := by
  pointwise [k0_pay1, k0_pay4, k0_pay5, k0_pay6, k0_pay7, k0_pay8, k0_pay9, k0_pay10]
  simp only [zero_sub]
  have head : ∀ (b : Nat) (hb : b ≤ 384) (hd : b % 128 = 0) (h0 : b ≤ y.val) (h1 : y.val < b + 128),
      v2 (ix2 r ⟨y.val, by omega⟩)
        * Ideal.rsqrt (Ideal.div (∑ k : Fin 128, v2 (ix2 r ⟨b + k.val, by omega⟩) * v2 (ix2 r ⟨b + k.val, by omega⟩)) (Ideal.ofBits .f32 0x43000000#32)
            + Ideal.ofBits .f32 0x358637BD#32)
        * v5 (ix2 0 ⟨y.val - b, by omega⟩)
        * (v3 (ix2 r ⟨y.val, by omega⟩) * Ideal.div 1 (1 + Ideal.exp (-(v3 (ix2 r ⟨y.val, by omega⟩) : EReal))))
      = mixAt (fun i j => v2 (ix2 i j)) (fun i j => v3 (ix2 i j)) (fun i j => v4 (ix2 i j)) (fun j => v5 (ix2 0 j)) r y := by
    intro b hb hd h0 h1
    unfold mixAt
    have h : y.val < 512 := by omega
    have e : y.val / 128 * 128 = b := by omega
    have e' : y.val % 128 = y.val - b := by omega
    simp only [h, ↓reduceDIte, e, e']
  simp only [Nat.sub_sub, Nat.reduceAdd]
  by_cases h0 : y.val < 128
  · simp only [h0, ↓reduceDIte]
    have hh := head 0 (by omega) (by omega) (by omega) (by omega)
    simp only [zero_add, Nat.sub_zero] at hh
    exact hh
  by_cases h1 : y.val - 128 < 128
  · have e : 128 + (y.val - 128) = y.val := by omega
    simp only [h0, h1, ↓reduceDIte, e]
    exact head 128 (by omega) (by omega) (by omega) (by omega)
  by_cases h2 : y.val - 256 < 128
  · have e : 256 + (y.val - 256) = y.val := by omega
    simp only [h0, h1, h2, ↓reduceDIte, e]
    exact head 256 (by omega) (by omega) (by omega) (by omega)
  by_cases h3 : y.val - 384 < 128
  · have e : 384 + (y.val - 384) = y.val := by omega
    simp only [h0, h1, h2, h3, ↓reduceDIte, e]
    exact head 384 (by omega) (by omega) (by omega) (by omega)
  have h : ¬ y.val < 512 := by omega
  unfold mixAt
  simp only [h0, h1, h2, h3, h, ↓reduceDIte]

theorem tile_hidden (v0 : Vec Ideal S512x1024 .f32) (v4 : Vec Ideal S512x512 .f32) (v5 : Vec Ideal S1x128 .f32) (v28 v51 v74 v83 v84 v85 : FVec Ideal S512x128 .f32)
    (w : Vec Ideal S1024x1024 .bf16) (r : Fin 512) (y : Fin 1024) :
    k0_pay2 v0 v4 v5 v28 v51 v74 v83 v84 v85 w (ix2 r y)
      = hidden (fun i j => k0_pay1 v4 v5 v28 v51 v74 v83 v84 v85 (ix2 i j)) (fun i j => w (ix2 i j)) (fun i j => v0 (ix2 i j)) r y := by
  pointwise [k0_pay2]
  unfold hidden
  exact add_comm (_ : EReal) _

theorem tile_normed (v0 : Vec Ideal S512x1024 .f32) (v1 : Vec Ideal S1x1024 .f32) (v4 : Vec Ideal S512x512 .f32) (v5 : Vec Ideal S1x128 .f32)
    (v28 v51 v74 v83 v84 v85 : FVec Ideal S512x128 .f32) (w : Vec Ideal S1024x1024 .bf16) (r : Fin 512) (y : Fin 1024) :
    k0_pay3 v0 v1 v4 v5 v28 v51 v74 v83 v84 v85 w (ix2 r y)
      = normed (fun i j => k0_pay2 v0 v4 v5 v28 v51 v74 v83 v84 v85 w (ix2 i j)) (fun j => v1 (ix2 0 j)) r y := by
  pointwise [k0_pay3]
  rfl

/-- The mixture of a tile is the reference's at the tile's rows. -/
theorem mix_tile (t : Fin cfg0.N) (r : Fin 512) (y : Fin 1024) (h : 512 * t.val + r.val < 4096) :
    k0_pay1 (iblk m c 5 t) (iblk m c 6 t) (k0_pay4 (iblk m c 3 t) (iblk m c 4 t) (iblk m c 6 t)) (k0_pay6 (iblk m c 3 t) (iblk m c 6 t) (k0_pay5 (iblk m c 4 t)))
        (k0_pay7 (iblk m c 3 t) (iblk m c 4 t) (iblk m c 6 t)) (k0_pay8 (iblk m c 4 t)) (k0_pay9 (iblk m c 3 t)) (k0_pay10 (iblk m c 3 t)) (ix2 r y)
      = val_main_v18 (F := Ideal) (m ((c.tc : Thread nD τ).loc main_arg0)) (m ((c.tc : Thread nD τ).loc main_arg1)) (m ((c.tc : Thread nD τ).loc main_arg2)) (m ((c.tc : Thread nD τ).loc main_arg3))
          (ix2 ⟨512 * t.val + r.val, h⟩ y) := by
  have hr : r.val < 512 := r.isLt
  have b3 : ∀ k : Fin 512, (show FVec Ideal S512x512 .f32 from iblk m c 3 t) (ix2 r k) = m ((c.tc : Thread nD τ).loc main_arg0) (ix2 ⟨512 * t.val + r.val, h⟩ k) :=
    fun k => by blk_point [iblk, V, idx t]
  have b4 : ∀ k : Fin 512, (show FVec Ideal S512x512 .f32 from iblk m c 4 t) (ix2 r k) = m ((c.tc : Thread nD τ).loc main_arg1) (ix2 ⟨512 * t.val + r.val, h⟩ k) :=
    fun k => by blk_point [iblk, V, idx t]
  have b5 : ∀ k : Fin 512, (show FVec Ideal S512x512 .f32 from iblk m c 5 t) (ix2 r k) = m ((c.tc : Thread nD τ).loc main_arg2) (ix2 ⟨512 * t.val + r.val, h⟩ k) :=
    fun k => by blk_point [iblk, V, idx t]
  have b6 : ∀ k : Fin 128, (show FVec Ideal S1x128 .f32 from iblk m c 6 t) (ix2 0 k) = m ((c.tc : Thread nD τ).loc main_arg3) (ix2 0 k) :=
    fun k => by blk_point [iblk, V, idx t]
  refine (tile_mix _ _ _ _ r y).trans (Eq.trans ?_ (ref_mix _ _ _ _ _ y).symm)
  unfold mixAt
  by_cases hy : y.val < 512
  · simp only [hy, ↓reduceDIte, ← b3, ← b4, ← b6]
  · simp only [hy, ↓reduceDIte, ← b5]

/-- The hidden rows of a tile are the reference's. -/
theorem hidden_tile (t : Fin cfg0.N) (r : Fin 512) (y : Fin 1024) (h : 512 * t.val + r.val < 4096) :
    k0_pay2 (iblk m c 1 t) (iblk m c 5 t) (iblk m c 6 t) (k0_pay4 (iblk m c 3 t) (iblk m c 4 t) (iblk m c 6 t)) (k0_pay6 (iblk m c 3 t) (iblk m c 6 t) (k0_pay5 (iblk m c 4 t)))
        (k0_pay7 (iblk m c 3 t) (iblk m c 4 t) (iblk m c 6 t)) (k0_pay8 (iblk m c 4 t)) (k0_pay9 (iblk m c 3 t)) (k0_pay10 (iblk m c 3 t)) (iblk m c 0 t) (ix2 r y)
      = val_main_v21 (F := Ideal) (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (ix2 ⟨512 * t.val + r.val, h⟩ y) := by
  have hr : r.val < 512 := r.isLt
  have b1 : (show FVec Ideal S512x1024 .f32 from iblk m c 1 t) (ix2 r y) = m ((c.tc : Thread nD τ).loc main_arg5) (ix2 ⟨512 * t.val + r.val, h⟩ y) := by
    blk_point [iblk, V, idx t]
  have b0 : ∀ k : Fin 1024, (show FVec Ideal S1024x1024 .bf16 from iblk m c 0 t) (ix2 k y) = m ((c.tc : Thread nD τ).loc main_arg4) (ix3 0 k y) := fun k => by
    blk_point [iblk, V, idx t]
  refine (tile_hidden _ _ _ _ _ _ _ _ _ _ r y).trans (Eq.trans ?_ (ref_hidden _ _ _ _ _ _ _ y).symm)
  unfold hidden
  exact congrArg₂ (· + ·) b1 (Finset.sum_congr (M := EReal) rfl fun k _ => congrArg₂ (· * ·) (mix_tile m c t r k h) (b0 k))

theorem final9 : (dats m 0 c).arrAt 9 (cfgs 0).N
      = val_main_v37 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 9 _ (by decide +kernel) fun t hw y => ?_
  idx_vars y
  blk_simp [idx t]
  have ht : t.val < 8 := lt_of_lt_of_eq t.isLt N_0
  have hr : y0.val < 512 := y0.isLt
  have e2 : ((cfg0.win 9).blk t).view.emb (ix2 y0 y1) = ix2 (⟨512 * t.val + y0.val, by omega⟩ : Fin 4096) y1 := by
    blk_ext [idx t]
  refine Eq.trans ?_ (Eq.symm (congrArg _ e2))
  rw [after0_9]
  unfold_out out0_9
  frame_out
  exact mix_tile m c t y0 y1 _

theorem final7 : (dats m 0 c).arrAt 7 (cfgs 0).N
      = val_main_v21 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 7 _ (by decide +kernel) fun t hw y => ?_
  idx_vars y
  blk_simp [idx t]
  have ht : t.val < 8 := lt_of_lt_of_eq t.isLt N_0
  have hr : y0.val < 512 := y0.isLt
  have e2 : ((cfg0.win 7).blk t).view.emb (ix2 y0 y1) = ix2 (⟨512 * t.val + y0.val, by omega⟩ : Fin 4096) y1 := by
    blk_ext [idx t]
  refine Eq.trans ?_ (Eq.symm (congrArg _ e2))
  rw [after0_7]
  unfold_out out0_7
  frame_out
  exact hidden_tile m c t y0 y1 _

theorem final8 : (dats m 0 c).arrAt 8 (cfgs 0).N
      = val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 8 _ (by decide +kernel) fun t hw y => ?_
  idx_vars y
  blk_simp [idx t]
  have ht : t.val < 8 := lt_of_lt_of_eq t.isLt N_0
  have hr : y0.val < 512 := y0.isLt
  have e2 : ((cfg0.win 8).blk t).view.emb (ix2 y0 y1) = ix2 (⟨512 * t.val + y0.val, by omega⟩ : Fin 4096) y1 := by
    blk_ext [idx t]
  have b2 : (show FVec Ideal S1x1024 .f32 from iblk m c 2 t) (ix2 0 y1) = m ((c.tc : Thread nD τ).loc main_arg6) (ix2 0 y1) := by
    blk_point [iblk, V, idx t]
  refine Eq.trans ?_ (Eq.symm ((congrArg _ e2).trans (ref_normed _ _ _ _ _ _ _ _ y1)))
  rw [after0_8]
  unfold_out out0_8
  frame_out
  refine (tile_normed _ _ _ _ _ _ _ _ _ _ _ y0 y1).trans ?_
  have hh : ∀ k : Fin 1024, _ := fun k => hidden_tile m c t y0 k (by omega)
  unfold normed
  simp only [← hh, ← b2]

end Cert.NormO

end
-- ==== Proof.ClaimO.lean ====
/- The mixing layer's output projection: the kernel's three results are the reference's, for all inputs. -/
module

public import proofs.«01_k».proof.Defs
public import proofs.«01_k».proof.Proof.NormO
public import proofs.«01_k».proof.Proof.Gen.KernelOIdeal.Value
public import proofs.«01_k».proof.Proof.Gen.ReferenceOIdeal.Run
public import proofs.«01_k».proof.Proof.Gen.ReferenceOIdeal.Read
public import Idealize.ShloMosaic.Lib.Claim
public import Idealize.ShloMosaic.Lib.Quiescent

@[expose] public section

set_option maxRecDepth 16384

noncomputable section

namespace Cert.ClaimO

open Idealize.ShloMosaic Idealize.ShloMosaic.TcCoe Idealize.SL.Sem Cert.RealLift

/-- The reference's run, each result named by the stage that computes it. -/
theorem runRef (m : (ℓ : Loc Cert.ReferenceOIdeal.nD Cert.ReferenceOIdeal.τ Cert.ReferenceOIdeal.sig) → Buf (Elt Ideal) ℓ) (ρ : Dev Cert.ReferenceOIdeal.nD → PrngReg) :
    θ_run Cert.ReferenceOIdeal.defs (onTc (τ := Cert.ReferenceOIdeal.τ) (Cert.ReferenceOIdeal.main (F := Ideal))) ⟨m, fun _ => 0, ρ⟩ fun r => ∀ c : Dev Cert.ReferenceOIdeal.nD,
      r.2.mem ((c.tc : Thread Cert.ReferenceOIdeal.nD Cert.ReferenceOIdeal.τ).loc Cert.ReferenceOIdeal.main_v21) = Cert.ReferenceOIdeal.Read.val_main_v21 (F := Ideal) (m ((c.tc : Thread Cert.ReferenceOIdeal.nD Cert.ReferenceOIdeal.τ).loc Cert.ReferenceOIdeal.main_arg0)) (m ((c.tc : Thread Cert.ReferenceOIdeal.nD Cert.ReferenceOIdeal.τ).loc Cert.ReferenceOIdeal.main_arg1)) (m ((c.tc : Thread Cert.ReferenceOIdeal.nD Cert.ReferenceOIdeal.τ).loc Cert.ReferenceOIdeal.main_arg2)) (m ((c.tc : Thread Cert.ReferenceOIdeal.nD Cert.ReferenceOIdeal.τ).loc Cert.ReferenceOIdeal.main_arg3)) (m ((c.tc : Thread Cert.ReferenceOIdeal.nD Cert.ReferenceOIdeal.τ).loc Cert.ReferenceOIdeal.main_arg4)) (m ((c.tc : Thread Cert.ReferenceOIdeal.nD Cert.ReferenceOIdeal.τ).loc Cert.ReferenceOIdeal.main_arg5))
      ∧      r.2.mem ((c.tc : Thread Cert.ReferenceOIdeal.nD Cert.ReferenceOIdeal.τ).loc Cert.ReferenceOIdeal.main_v36) = Cert.ReferenceOIdeal.Read.val_main_v36 (F := Ideal) (m ((c.tc : Thread Cert.ReferenceOIdeal.nD Cert.ReferenceOIdeal.τ).loc Cert.ReferenceOIdeal.main_arg0)) (m ((c.tc : Thread Cert.ReferenceOIdeal.nD Cert.ReferenceOIdeal.τ).loc Cert.ReferenceOIdeal.main_arg1)) (m ((c.tc : Thread Cert.ReferenceOIdeal.nD Cert.ReferenceOIdeal.τ).loc Cert.ReferenceOIdeal.main_arg2)) (m ((c.tc : Thread Cert.ReferenceOIdeal.nD Cert.ReferenceOIdeal.τ).loc Cert.ReferenceOIdeal.main_arg3)) (m ((c.tc : Thread Cert.ReferenceOIdeal.nD Cert.ReferenceOIdeal.τ).loc Cert.ReferenceOIdeal.main_arg4)) (m ((c.tc : Thread Cert.ReferenceOIdeal.nD Cert.ReferenceOIdeal.τ).loc Cert.ReferenceOIdeal.main_arg5)) (m ((c.tc : Thread Cert.ReferenceOIdeal.nD Cert.ReferenceOIdeal.τ).loc Cert.ReferenceOIdeal.main_arg6))
      ∧      r.2.mem ((c.tc : Thread Cert.ReferenceOIdeal.nD Cert.ReferenceOIdeal.τ).loc Cert.ReferenceOIdeal.main_v37) = Cert.ReferenceOIdeal.Read.val_main_v37 (F := Ideal) (m ((c.tc : Thread Cert.ReferenceOIdeal.nD Cert.ReferenceOIdeal.τ).loc Cert.ReferenceOIdeal.main_arg0)) (m ((c.tc : Thread Cert.ReferenceOIdeal.nD Cert.ReferenceOIdeal.τ).loc Cert.ReferenceOIdeal.main_arg1)) (m ((c.tc : Thread Cert.ReferenceOIdeal.nD Cert.ReferenceOIdeal.τ).loc Cert.ReferenceOIdeal.main_arg2)) (m ((c.tc : Thread Cert.ReferenceOIdeal.nD Cert.ReferenceOIdeal.τ).loc Cert.ReferenceOIdeal.main_arg3))
      ∧r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0) ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1) ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2) ∧ r.2.mem ((c.tc : Thread Cert.ReferenceOIdeal.nD Cert.ReferenceOIdeal.τ).loc Cert.ReferenceOIdeal.main_arg3) = m ((c.tc : Thread Cert.ReferenceOIdeal.nD Cert.ReferenceOIdeal.τ).loc Cert.ReferenceOIdeal.main_arg3) ∧ r.2.mem ((c.tc : Thread Cert.ReferenceOIdeal.nD Cert.ReferenceOIdeal.τ).loc Cert.ReferenceOIdeal.main_arg4) = m ((c.tc : Thread Cert.ReferenceOIdeal.nD Cert.ReferenceOIdeal.τ).loc Cert.ReferenceOIdeal.main_arg4) ∧ r.2.mem ((c.tc : Thread Cert.ReferenceOIdeal.nD Cert.ReferenceOIdeal.τ).loc Cert.ReferenceOIdeal.main_arg5) = m ((c.tc : Thread Cert.ReferenceOIdeal.nD Cert.ReferenceOIdeal.τ).loc Cert.ReferenceOIdeal.main_arg5) ∧ r.2.mem ((c.tc : Thread Cert.ReferenceOIdeal.nD Cert.ReferenceOIdeal.τ).loc Cert.ReferenceOIdeal.main_arg6) = m ((c.tc : Thread Cert.ReferenceOIdeal.nD Cert.ReferenceOIdeal.τ).loc Cert.ReferenceOIdeal.main_arg6) :=
  (θ_run Cert.ReferenceOIdeal.defs _ _).mono (fun _ h c => ⟨(h c).1.trans (Cert.ReferenceOIdeal.Read.val_main_v21_eq (m ((c.tc : Thread Cert.ReferenceOIdeal.nD Cert.ReferenceOIdeal.τ).loc Cert.ReferenceOIdeal.main_arg0)) (m ((c.tc : Thread Cert.ReferenceOIdeal.nD Cert.ReferenceOIdeal.τ).loc Cert.ReferenceOIdeal.main_arg1)) (m ((c.tc : Thread Cert.ReferenceOIdeal.nD Cert.ReferenceOIdeal.τ).loc Cert.ReferenceOIdeal.main_arg2)) (m ((c.tc : Thread Cert.ReferenceOIdeal.nD Cert.ReferenceOIdeal.τ).loc Cert.ReferenceOIdeal.main_arg3)) (m ((c.tc : Thread Cert.ReferenceOIdeal.nD Cert.ReferenceOIdeal.τ).loc Cert.ReferenceOIdeal.main_arg4)) (m ((c.tc : Thread Cert.ReferenceOIdeal.nD Cert.ReferenceOIdeal.τ).loc Cert.ReferenceOIdeal.main_arg5))),
    (h c).2.1.trans (Cert.ReferenceOIdeal.Read.val_main_v36_eq m c),
    (h c).2.2.1.trans (Cert.ReferenceOIdeal.Read.val_main_v37_eq (m ((c.tc : Thread Cert.ReferenceOIdeal.nD Cert.ReferenceOIdeal.τ).loc Cert.ReferenceOIdeal.main_arg0)) (m ((c.tc : Thread Cert.ReferenceOIdeal.nD Cert.ReferenceOIdeal.τ).loc Cert.ReferenceOIdeal.main_arg1)) (m ((c.tc : Thread Cert.ReferenceOIdeal.nD Cert.ReferenceOIdeal.τ).loc Cert.ReferenceOIdeal.main_arg2)) (m ((c.tc : Thread Cert.ReferenceOIdeal.nD Cert.ReferenceOIdeal.τ).loc Cert.ReferenceOIdeal.main_arg3))),
    (h c).2.2.2⟩)
    (Cert.ReferenceOIdeal.Value.run m ρ)

theorem algebraic : algebraic_KernelOIdeal_ReferenceOIdeal := by
  pair_intro
  · run_from Cert.KernelOIdeal.Value.run_blocks m g
  · run_from runRef m' g'
    · exact (Cert.NormO.final7 m c).symm
    · exact (Cert.NormO.final8 m c).symm
    · exact (Cert.NormO.final9 m c).symm

/-- The reference leaves its arguments alone, and declares no counter. -/
theorem frameRef : quiescent_ReferenceOIdeal := fun m g _ =>
  (θ_run Cert.ReferenceOIdeal.defs _ _).mono (fun r h => ⟨fun c => (h c).2.2.2, sem_eq_zero_of_no_sems (by decide) r.2⟩)
    (Cert.ReferenceOIdeal.Value.run m g)

end Cert.ClaimO

end
-- ==== Proof.NormI.lean ====
/- The gated feed-forward layer, up to the activation: the two projections, the gate (a three-tap convolution over the rows, carried from tile to tile) and the activation are the reference’s. -/
module

public import proofs.«01_k».proof.Proof.Gen.KernelIIdeal.Value
public import proofs.«01_k».proof.Proof.Gen.ReferenceIIdeal.Read
public import proofs.«01_k».proof.Proof.RmsReal
public import Idealize.ShloMosaic.Lib.Pipeline.ValueKit

@[expose] public section

set_option maxRecDepth 65536

noncomputable section

namespace Cert.NormI

open Idealize.ShloMosaic Idealize.ShloMosaic.TcCoe Idealize.SL.Sem
open Idealize.ShloMosaic.Pipeline (Dat)
open Cert.KernelIIdeal Cert.KernelIIdeal.Gen Cert.RealLift
open Cert.ReferenceIIdeal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0]
    ∧ win0_8.index t = ![t.val, 0] :=
  (by decide +kernel : ∀ t : Fin grid0.N, _)

/-- A column `j` rows earlier, zero before the first row. -/
def lag (G : Fin 4096 → EReal) (j : Nat) (R : Fin 4096) : EReal := if h : R.val < j then 0 else G ⟨R.val - j, by omega⟩

/-- The three-tap convolution over the rows, plus its offset. -/
def conv (G : Fin 4096 → EReal) (w : Fin 3 → EReal) (b : EReal) (R : Fin 4096) : EReal :=
  lag G 2 R * w 0 + lag G 1 R * w 1 + G R * w 2 + b

/-- The gate's swish times the other projection. -/
def act (g u : EReal) : EReal := g * Ideal.div 1 (1 + Ideal.exp (-g)) * u

theorem ref_gate (x0 : FVec Ideal S4096x1024 .f32) (x1 : FVec Ideal S1x1024x2816 .f32) (x3 : FVec Ideal S1x3x2816 .f32) (x4 : FVec Ideal S1x2816 .f32)
    (r : Fin 4096) (y : Fin 2816) :
    val_main_v30 (F := Ideal) x0 x1 x3 x4 (ix2 r y)
      = conv (fun i => val_main_v1 (F := Ideal) x0 x1 (ix2 i y)) (fun j => x3 (ix3 0 j y)) (x4 (ix2 0 y)) r := by
  pointwise [val_main_v30, val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12, val_main_v11, val_main_v10,
    val_main_v9, val_main_v8, val_main_v7, val_main_v6, val_main_v5, val_main_v4, val_main_cst]
  unfold conv lag
  have e : ∀ h : ¬ 1 + r.val < 2, (⟨1 + r.val - 2, by omega⟩ : Fin 4096) = ⟨r.val - 1, by omega⟩ := fun h => Fin.ext (by simp only <;> omega)
  by_cases h2 : r.val < 2
  · by_cases h1 : r.val < 1
    · have h1' : 1 + r.val < 2 := by omega
      simp only [h2, h1, h1', ↓reduceDIte]
      try rfl
    · have h1' : ¬ 1 + r.val < 2 := by omega
      simp only [h2, h1, h1', ↓reduceDIte, e h1']
      try rfl
  · have h1 : ¬ r.val < 1 := by omega
    have h1' : ¬ 1 + r.val < 2 := by omega
    simp only [h2, h1, h1', ↓reduceDIte, e h1']
    try rfl

theorem ref_act (x0 : FVec Ideal S4096x1024 .f32) (x1 x2 : FVec Ideal S1x1024x2816 .f32) (x3 : FVec Ideal S1x3x2816 .f32) (x4 : FVec Ideal S1x2816 .f32)
    (r : Fin 4096) (y : Fin 2816) :
    val_main_v35 (F := Ideal) x0 x1 x2 x3 x4 (ix2 r y)
      = act (val_main_v30 (F := Ideal) x0 x1 x3 x4 (ix2 r y)) (val_main_v3 (F := Ideal) x0 x2 (ix2 r y)) := by
  pointwise [val_main_v35, val_main_v34, val_main_v33, val_main_call0_v5, val_main_call0_v4, val_main_call0_v3, val_main_call0_v2, val_main_call0_v1,
    val_main_call0_v0, val_main_call0_cst, val_main_call0_cst_0]
  rfl

theorem gp_tile (t : Fin cfg0.N) (r : Fin 256) (y : Fin 2816) (h : 256 * t.val + r.val < 4096) :
    k0_pay6 (iblk m c 0 t) (iblk m c 1 t) (ix2 r y) = val_main_v1 (F := Ideal) (m ((c.tc : Thread nD τ).loc main_arg0)) (m ((c.tc : Thread nD τ).loc main_arg1)) (ix2 ⟨256 * t.val + r.val, h⟩ y) := by
  have b0 : ∀ k : Fin 1024, (show FVec Ideal S256x1024 .bf16 from iblk m c 0 t) (ix2 r k) = m ((c.tc : Thread nD τ).loc main_arg0) (ix2 ⟨256 * t.val + r.val, h⟩ k) :=
    fun k => by blk_point [iblk, V, idx t]
  have b1 : ∀ k : Fin 1024, (show FVec Ideal S2816x1024 .bf16 from iblk m c 1 t) (ix2 y k) = m ((c.tc : Thread nD τ).loc main_arg1) (ix3 0 k y) := fun k => by
    blk_point [iblk, V, idx t]
  pointwise [k0_pay6, k0_pay5, val_main_v1, val_main_v0]
  exact Finset.sum_congr (M := EReal) rfl fun k _ => congrArg₂ (· * ·) (b0 k) (b1 k)

theorem up_tile (t : Fin cfg0.N) (r : Fin 256) (y : Fin 2816) (h : 256 * t.val + r.val < 4096) :
    k0_pay7 (iblk m c 0 t) (iblk m c 2 t) (ix2 r y) = val_main_v3 (F := Ideal) (m ((c.tc : Thread nD τ).loc main_arg0)) (m ((c.tc : Thread nD τ).loc main_arg2)) (ix2 ⟨256 * t.val + r.val, h⟩ y) := by
  have b0 : ∀ k : Fin 1024, (show FVec Ideal S256x1024 .bf16 from iblk m c 0 t) (ix2 r k) = m ((c.tc : Thread nD τ).loc main_arg0) (ix2 ⟨256 * t.val + r.val, h⟩ k) :=
    fun k => by blk_point [iblk, V, idx t]
  have b2 : ∀ k : Fin 1024, (show FVec Ideal S2816x1024 .bf16 from iblk m c 2 t) (ix2 y k) = m ((c.tc : Thread nD τ).loc main_arg2) (ix3 0 k y) := fun k => by
    blk_point [iblk, V, idx t]
  pointwise [k0_pay7, k0_pay5, val_main_v3, val_main_v2]
  exact Finset.sum_congr (M := EReal) rfl fun k _ => congrArg₂ (· * ·) (b0 k) (b2 k)

/-- The rows a tile leaves for the next are its last eight. -/
theorem carry (t : Fin cfg0.N) (r : Fin 8) (y : Fin 2816) (h : 256 * t.val + 248 + r.val < 4096) :
    (outsAt0 m c t.val t.isLt).2.2.2.2 (ix2 r y) = val_main_v1 (F := Ideal) (m ((c.tc : Thread nD τ).loc main_arg0)) (m ((c.tc : Thread nD τ).loc main_arg1)) (ix2 ⟨256 * t.val + 248 + r.val, h⟩ y) := by
  have e : k0_pay3 (k0_pay6 (iblk m c 0 t) (iblk m c 1 t)) (ix2 r y) = val_main_v1 (F := Ideal) (m ((c.tc : Thread nD τ).loc main_arg0)) (m ((c.tc : Thread nD τ).loc main_arg1)) (ix2 ⟨256 * t.val + 248 + r.val, h⟩ y) := by
    have hr : r.val < 8 := r.isLt
    have g := gp_tile m c t ⟨248 + r.val, by omega⟩ y (by simp only <;> omega)
    refine Eq.trans ?_ (g.trans (congrArg _ (by congr 1; exact Fin.ext (by simp only <;> omega))))
    pointwise [k0_pay3]
  by_cases h : t.val % 16 = 0
  · rw [outsAt0_A m c t h]
    frame_out
    exact e
  · rw [outsAt0_B m c t h]
    frame_out
    exact e

/-- The padded taps hold the taps in their first three rows. -/
theorem pad_row (w : FVec Ideal S1x3x2816 .f32) (z : FVec Ideal S5x2816 .f32) (j : Fin 3) (y : Fin 2816) :
    concatenate S8x2816 0 [⟨S3x2816, shapeCast S3x2816 w shapeCasts_S1x3x2816_S3x2816⟩, ⟨S5x2816, z⟩] concatenates_S3x2816_S5x2816_S8x2816_d0
      (ix2 (⟨j.val, by omega⟩ : Fin 8) y) = w (ix3 0 j y) := by
  have hj : j.val < 3 := j.isLt
  pointwise []

/-- A tile's gate, when the rows carried into it are the eight before its first. -/
theorem gate_tile (t : Fin cfg0.N) (v15 : Vec Ideal S8x2816 .f32) (r : Fin 256) (y : Fin 2816) (h : 256 * t.val + r.val < 4096)
    (h15 : ∀ q : Fin 8, v15 (ix2 q y)
      = if h : 256 * t.val + q.val < 8 then (0 : EReal) else val_main_v1 (F := Ideal) (m ((c.tc : Thread nD τ).loc main_arg0)) (m ((c.tc : Thread nD τ).loc main_arg1)) (ix2 ⟨256 * t.val + q.val - 8, by omega⟩ y)) :
    k0_pay1 (k0_pay10 (iblk m c 0 t) (iblk m c 1 t) v15 (iblk m c 3 t)) (iblk m c 4 t) (ix2 r y)
      = val_main_v30 (F := Ideal) (m ((c.tc : Thread nD τ).loc main_arg0)) (m ((c.tc : Thread nD τ).loc main_arg1)) (m ((c.tc : Thread nD τ).loc main_arg3)) (m ((c.tc : Thread nD τ).loc main_arg4)) (ix2 ⟨256 * t.val + r.val, h⟩ y) := by
  have hr : r.val < 256 := r.isLt
  have b3 : ∀ j : Fin 3, (show FVec Ideal S8x2816 .f32 from iblk m c 3 t) (ix2 (⟨j.val, by omega⟩ : Fin 8) y) = m ((c.tc : Thread nD τ).loc main_arg3) (ix3 0 j y) := fun j => by
    refine Eq.trans (b := V m c main_v2 (((cfg0.win 3).blk t).view.emb (ix2 (⟨j.val, by omega⟩ : Fin 8) y))) rfl ?_
    have e : ((cfg0.win 3).blk t).view.emb (ix2 (⟨j.val, by omega⟩ : Fin 8) y) = ix2 (⟨j.val, by omega⟩ : Fin 8) y := by blk_ext [idx t]
    rw [e]
    exact pad_row _ _ _ y
  have b4 : (show FVec Ideal S1x2816 .f32 from iblk m c 4 t) (ix2 0 y) = m ((c.tc : Thread nD τ).loc main_arg4) (ix2 0 y) := by
    blk_point [iblk, V, idx t]
  have hl : ∀ j : Nat, 1 ≤ j → (hj : j ≤ 2) →
      (if h : (8 + r.val + 264 - j) % 264 < 8 then (v15 (ix2 ⟨(8 + r.val + 264 - j) % 264, h⟩ y) : EReal)
        else k0_pay6 (iblk m c 0 t) (iblk m c 1 t) (ix2 ⟨(8 + r.val + 264 - j) % 264 - 8, by omega⟩ y))
      = lag (fun i => val_main_v1 (F := Ideal) (m ((c.tc : Thread nD τ).loc main_arg0)) (m ((c.tc : Thread nD τ).loc main_arg1)) (ix2 i y)) j ⟨256 * t.val + r.val, h⟩ := by
    intro j h1 h2
    have e : (8 + r.val + 264 - j) % 264 = 8 + r.val - j := by omega
    unfold lag
    by_cases hk : r.val < j
    · have hk' : (8 + r.val + 264 - j) % 264 < 8 := by omega
      simp only [hk', ↓reduceDIte]
      refine (h15 _).trans ?_
      by_cases h0 : 256 * t.val + r.val < j
      · have h0' : 256 * t.val + (8 + r.val + 264 - j) % 264 < 8 := by omega
        simp only [h0, h0', ↓reduceDIte]
      · have h0' : ¬ 256 * t.val + (8 + r.val + 264 - j) % 264 < 8 := by omega
        simp only [h0, h0', ↓reduceDIte]
        exact congrArg _ (by congr 1; exact Fin.ext (by simp only <;> omega))
    · have hk' : ¬ (8 + r.val + 264 - j) % 264 < 8 := by omega
      have h0 : ¬ 256 * t.val + r.val < j := by omega
      simp only [hk', h0, ↓reduceDIte]
      exact (gp_tile m c t _ y (by simp only <;> omega)).trans (congrArg _ (by congr 1; exact Fin.ext (by simp only <;> omega)))
  refine Eq.trans ?_ (ref_gate _ _ _ _ _ y).symm
  pointwise [k0_pay1, k0_pay10]
  unfold conv
  refine congrArg₂ (· + ·) (congrArg₂ (· + ·) (congrArg₂ (· + ·) ?_ ?_) ?_) b4
  · exact (mul_comm (_ : EReal) _).trans (congrArg₂ (· * ·) (hl 2 (by omega) (by omega)) (b3 0))
  · exact (mul_comm (_ : EReal) _).trans (congrArg₂ (· * ·) (hl 1 (by omega) (by omega)) (b3 1))
  · exact (mul_comm (_ : EReal) _).trans (congrArg₂ (· * ·) (gp_tile m c t r y h) (b3 2))

/-- Before the first tile nothing is carried. -/
theorem none_before (t : Fin cfg0.N) (h : t.val % 16 = 0) (y : Fin 2816) (q : Fin 8) :
    k0_pay4 (F := Ideal) (ix2 q y)
      = if h : 256 * t.val + q.val < 8 then (0 : EReal) else val_main_v1 (F := Ideal) (m ((c.tc : Thread nD τ).loc main_arg0)) (m ((c.tc : Thread nD τ).loc main_arg1)) (ix2 ⟨256 * t.val + q.val - 8, by have := lt_of_lt_of_eq t.isLt N_0; omega⟩ y) := by
  have ht : t.val < 16 := lt_of_lt_of_eq t.isLt N_0
  have h0 : 256 * t.val + q.val < 8 := by omega
  simp only [h0, ↓reduceDIte]
  pointwise [k0_pay4]

/-- Before another tile the last eight rows of the one before are carried. -/
theorem some_before (t : Fin cfg0.N) (h : ¬ t.val % 16 = 0) (y : Fin 2816) (q : Fin 8) :
    (outsAt0 m c (t.val - 1) (lt_of_le_of_lt (Nat.sub_le _ _) t.isLt)).2.2.2.2 (ix2 q y)
      = if h : 256 * t.val + q.val < 8 then (0 : EReal) else val_main_v1 (F := Ideal) (m ((c.tc : Thread nD τ).loc main_arg0)) (m ((c.tc : Thread nD τ).loc main_arg1)) (ix2 ⟨256 * t.val + q.val - 8, by have := lt_of_lt_of_eq t.isLt N_0; omega⟩ y) := by
  have ht : t.val < 16 := lt_of_lt_of_eq t.isLt N_0
  have h0 : ¬ 256 * t.val + q.val < 8 := by omega
  simp only [h0, ↓reduceDIte]
  exact (carry m c ⟨t.val - 1, lt_of_le_of_lt (Nat.sub_le _ _) t.isLt⟩ q y (by simp only <;> omega)).trans
    (congrArg _ (by congr 1; exact Fin.ext (by simp only <;> omega)))

theorem final5 : (dats m 0 c).arrAt 5 (cfgs 0).N = val_main_v31 (F := Ideal) (m ((c.tc : Thread nD τ).loc main_arg0)) (m ((c.tc : Thread nD τ).loc main_arg1)) := by
  refine (dats m 0 c).arrAt_eq_of_covers 5 _ (by decide +kernel) fun t hw y => ?_
  idx_vars y
  blk_simp [idx t]
  have ht : t.val < 16 := lt_of_lt_of_eq t.isLt N_0
  have hr : y0.val < 256 := y0.isLt
  have e2 : ((cfg0.win 5).blk t).view.emb (ix2 y0 y1) = ix2 (⟨256 * t.val + y0.val, by omega⟩ : Fin 4096) y1 := by
    blk_ext [idx t]
  refine Eq.trans ?_ (Eq.symm (congrArg _ e2))
  rw [after0_5]
  by_cases h : t.val % 16 = 0
  · rw [outsAt0_A m c t h]
    frame_out
    exact gp_tile m c t y0 y1 _
  · rw [outsAt0_B m c t h]
    frame_out
    exact gp_tile m c t y0 y1 _

theorem final6 : (dats m 0 c).arrAt 6 (cfgs 0).N = val_main_v32 (F := Ideal) (m ((c.tc : Thread nD τ).loc main_arg0)) (m ((c.tc : Thread nD τ).loc main_arg2)) := by
  refine (dats m 0 c).arrAt_eq_of_covers 6 _ (by decide +kernel) fun t hw y => ?_
  idx_vars y
  blk_simp [idx t]
  have ht : t.val < 16 := lt_of_lt_of_eq t.isLt N_0
  have hr : y0.val < 256 := y0.isLt
  have e2 : ((cfg0.win 6).blk t).view.emb (ix2 y0 y1) = ix2 (⟨256 * t.val + y0.val, by omega⟩ : Fin 4096) y1 := by
    blk_ext [idx t]
  refine Eq.trans ?_ (Eq.symm (congrArg _ e2))
  rw [after0_6]
  by_cases h : t.val % 16 = 0
  · rw [outsAt0_A m c t h]
    frame_out
    exact up_tile m c t y0 y1 _
  · rw [outsAt0_B m c t h]
    frame_out
    exact up_tile m c t y0 y1 _

theorem final7 : (dats m 0 c).arrAt 7 (cfgs 0).N = val_main_v30 (F := Ideal) (m ((c.tc : Thread nD τ).loc main_arg0)) (m ((c.tc : Thread nD τ).loc main_arg1)) (m ((c.tc : Thread nD τ).loc main_arg3)) (m ((c.tc : Thread nD τ).loc main_arg4)) := by
  refine (dats m 0 c).arrAt_eq_of_covers 7 _ (by decide +kernel) fun t hw y => ?_
  idx_vars y
  blk_simp [idx t]
  have ht : t.val < 16 := lt_of_lt_of_eq t.isLt N_0
  have hr : y0.val < 256 := y0.isLt
  have e2 : ((cfg0.win 7).blk t).view.emb (ix2 y0 y1) = ix2 (⟨256 * t.val + y0.val, by omega⟩ : Fin 4096) y1 := by
    blk_ext [idx t]
  refine Eq.trans ?_ (Eq.symm (congrArg _ e2))
  rw [after0_7]
  by_cases h : t.val % 16 = 0
  · rw [outsAt0_A m c t h]
    frame_out
    exact gate_tile m c t _ y0 y1 _ (none_before m c t h y1)
  · rw [outsAt0_B m c t h]
    frame_out
    refine gate_tile m c t _ y0 y1 _ fun q => ?_
    exact (congrFun (Memref.IsWhole.read_unread _ _) _).trans (some_before m c t h y1 q)

theorem act_tile (v10 v32 : FVec Ideal S256x2816 .f32) (v33 : Vec Ideal S1x2816 .f32) (r : Fin 256) (y : Fin 2816) :
    k0_pay2 v10 v32 v33 (ix2 r y) = act (k0_pay1 v32 v33 (ix2 r y)) (v10 (ix2 r y)) := by
  pointwise [k0_pay2]
  simp only [zero_sub]
  rfl

theorem final8 : (dats m 0 c).arrAt 8 (cfgs 0).N = val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 8 _ (by decide +kernel) fun t hw y => ?_
  idx_vars y
  blk_simp [idx t]
  have ht : t.val < 16 := lt_of_lt_of_eq t.isLt N_0
  have hr : y0.val < 256 := y0.isLt
  have e2 : ((cfg0.win 8).blk t).view.emb (ix2 y0 y1) = ix2 (⟨256 * t.val + y0.val, by omega⟩ : Fin 4096) y1 := by
    blk_ext [idx t]
  refine Eq.trans ?_ (Eq.symm (congrArg _ e2))
  rw [after0_8]
  by_cases h : t.val % 16 = 0
  · rw [outsAt0_A m c t h]
    frame_out
    refine Eq.trans ?_ (ref_act _ _ _ _ _ _ y1).symm
    refine Eq.trans (act_tile _ _ _ y0 y1) ?_
    exact congrArg₂ act (gate_tile m c t _ y0 y1 _ (none_before m c t h y1)) (up_tile m c t y0 y1 _)
  · rw [outsAt0_B m c t h]
    frame_out
    refine Eq.trans ?_ (ref_act _ _ _ _ _ _ y1).symm
    refine Eq.trans (act_tile _ _ _ y0 y1) ?_
    exact congrArg₂ act (gate_tile m c t _ y0 y1 _ fun q => (congrFun (Memref.IsWhole.read_unread _ _) _).trans (some_before m c t h y1 q)) (up_tile m c t y0 y1 _)

end Cert.NormI

end
-- ==== Proof.ClaimI.lean ====
/- The gated feed-forward layer's first half: the kernel's four results are the reference's, for all inputs. -/
module

public import proofs.«01_k».proof.Defs
public import proofs.«01_k».proof.Proof.NormI
public import proofs.«01_k».proof.Proof.Gen.KernelIIdeal.Value
public import proofs.«01_k».proof.Proof.Gen.ReferenceIIdeal.Run
public import proofs.«01_k».proof.Proof.Gen.ReferenceIIdeal.Read
public import Idealize.ShloMosaic.Lib.Claim
public import Idealize.ShloMosaic.Lib.Quiescent

@[expose] public section

set_option maxRecDepth 16384

noncomputable section

namespace Cert.ClaimI

open Idealize.ShloMosaic Idealize.ShloMosaic.TcCoe Idealize.SL.Sem Cert.RealLift

/-- The reference's run, each result named by the stage that computes it. -/
theorem runRef (m : (ℓ : Loc Cert.ReferenceIIdeal.nD Cert.ReferenceIIdeal.τ Cert.ReferenceIIdeal.sig) → Buf (Elt Ideal) ℓ) (ρ : Dev Cert.ReferenceIIdeal.nD → PrngReg) :
    θ_run Cert.ReferenceIIdeal.defs (onTc (τ := Cert.ReferenceIIdeal.τ) (Cert.ReferenceIIdeal.main (F := Ideal))) ⟨m, fun _ => 0, ρ⟩ fun r => ∀ c : Dev Cert.ReferenceIIdeal.nD,
      r.2.mem ((c.tc : Thread Cert.ReferenceIIdeal.nD Cert.ReferenceIIdeal.τ).loc Cert.ReferenceIIdeal.main_v31) = Cert.ReferenceIIdeal.Read.val_main_v31 (F := Ideal) (m ((c.tc : Thread Cert.ReferenceIIdeal.nD Cert.ReferenceIIdeal.τ).loc Cert.ReferenceIIdeal.main_arg0)) (m ((c.tc : Thread Cert.ReferenceIIdeal.nD Cert.ReferenceIIdeal.τ).loc Cert.ReferenceIIdeal.main_arg1))
      ∧      r.2.mem ((c.tc : Thread Cert.ReferenceIIdeal.nD Cert.ReferenceIIdeal.τ).loc Cert.ReferenceIIdeal.main_v32) = Cert.ReferenceIIdeal.Read.val_main_v32 (F := Ideal) (m ((c.tc : Thread Cert.ReferenceIIdeal.nD Cert.ReferenceIIdeal.τ).loc Cert.ReferenceIIdeal.main_arg0)) (m ((c.tc : Thread Cert.ReferenceIIdeal.nD Cert.ReferenceIIdeal.τ).loc Cert.ReferenceIIdeal.main_arg2))
      ∧      r.2.mem ((c.tc : Thread Cert.ReferenceIIdeal.nD Cert.ReferenceIIdeal.τ).loc Cert.ReferenceIIdeal.main_v30) = Cert.ReferenceIIdeal.Read.val_main_v30 (F := Ideal) (m ((c.tc : Thread Cert.ReferenceIIdeal.nD Cert.ReferenceIIdeal.τ).loc Cert.ReferenceIIdeal.main_arg0)) (m ((c.tc : Thread Cert.ReferenceIIdeal.nD Cert.ReferenceIIdeal.τ).loc Cert.ReferenceIIdeal.main_arg1)) (m ((c.tc : Thread Cert.ReferenceIIdeal.nD Cert.ReferenceIIdeal.τ).loc Cert.ReferenceIIdeal.main_arg3)) (m ((c.tc : Thread Cert.ReferenceIIdeal.nD Cert.ReferenceIIdeal.τ).loc Cert.ReferenceIIdeal.main_arg4))
      ∧      r.2.mem ((c.tc : Thread Cert.ReferenceIIdeal.nD Cert.ReferenceIIdeal.τ).loc Cert.ReferenceIIdeal.main_v35) = Cert.ReferenceIIdeal.Read.val_main_v35 (F := Ideal) (m ((c.tc : Thread Cert.ReferenceIIdeal.nD Cert.ReferenceIIdeal.τ).loc Cert.ReferenceIIdeal.main_arg0)) (m ((c.tc : Thread Cert.ReferenceIIdeal.nD Cert.ReferenceIIdeal.τ).loc Cert.ReferenceIIdeal.main_arg1)) (m ((c.tc : Thread Cert.ReferenceIIdeal.nD Cert.ReferenceIIdeal.τ).loc Cert.ReferenceIIdeal.main_arg2)) (m ((c.tc : Thread Cert.ReferenceIIdeal.nD Cert.ReferenceIIdeal.τ).loc Cert.ReferenceIIdeal.main_arg3)) (m ((c.tc : Thread Cert.ReferenceIIdeal.nD Cert.ReferenceIIdeal.τ).loc Cert.ReferenceIIdeal.main_arg4))
      ∧r.2.mem ((c.tc : Thread Cert.ReferenceIIdeal.nD Cert.ReferenceIIdeal.τ).loc Cert.ReferenceIIdeal.main_arg0) = m ((c.tc : Thread Cert.ReferenceIIdeal.nD Cert.ReferenceIIdeal.τ).loc Cert.ReferenceIIdeal.main_arg0) ∧ r.2.mem ((c.tc : Thread Cert.ReferenceIIdeal.nD Cert.ReferenceIIdeal.τ).loc Cert.ReferenceIIdeal.main_arg1) = m ((c.tc : Thread Cert.ReferenceIIdeal.nD Cert.ReferenceIIdeal.τ).loc Cert.ReferenceIIdeal.main_arg1) ∧ r.2.mem ((c.tc : Thread Cert.ReferenceIIdeal.nD Cert.ReferenceIIdeal.τ).loc Cert.ReferenceIIdeal.main_arg2) = m ((c.tc : Thread Cert.ReferenceIIdeal.nD Cert.ReferenceIIdeal.τ).loc Cert.ReferenceIIdeal.main_arg2) ∧ r.2.mem ((c.tc : Thread Cert.ReferenceIIdeal.nD Cert.ReferenceIIdeal.τ).loc Cert.ReferenceIIdeal.main_arg3) = m ((c.tc : Thread Cert.ReferenceIIdeal.nD Cert.ReferenceIIdeal.τ).loc Cert.ReferenceIIdeal.main_arg3) ∧ r.2.mem ((c.tc : Thread Cert.ReferenceIIdeal.nD Cert.ReferenceIIdeal.τ).loc Cert.ReferenceIIdeal.main_arg4) = m ((c.tc : Thread Cert.ReferenceIIdeal.nD Cert.ReferenceIIdeal.τ).loc Cert.ReferenceIIdeal.main_arg4) :=
  (θ_run Cert.ReferenceIIdeal.defs _ _).mono (fun _ h c => ⟨(h c).1.trans (Cert.ReferenceIIdeal.Read.val_main_v31_eq (m ((c.tc : Thread Cert.ReferenceIIdeal.nD Cert.ReferenceIIdeal.τ).loc Cert.ReferenceIIdeal.main_arg0)) (m ((c.tc : Thread Cert.ReferenceIIdeal.nD Cert.ReferenceIIdeal.τ).loc Cert.ReferenceIIdeal.main_arg1))),
    (h c).2.1.trans (Cert.ReferenceIIdeal.Read.val_main_v32_eq (m ((c.tc : Thread Cert.ReferenceIIdeal.nD Cert.ReferenceIIdeal.τ).loc Cert.ReferenceIIdeal.main_arg0)) (m ((c.tc : Thread Cert.ReferenceIIdeal.nD Cert.ReferenceIIdeal.τ).loc Cert.ReferenceIIdeal.main_arg2))),
    (h c).2.2.1.trans (Cert.ReferenceIIdeal.Read.val_main_v30_eq (m ((c.tc : Thread Cert.ReferenceIIdeal.nD Cert.ReferenceIIdeal.τ).loc Cert.ReferenceIIdeal.main_arg0)) (m ((c.tc : Thread Cert.ReferenceIIdeal.nD Cert.ReferenceIIdeal.τ).loc Cert.ReferenceIIdeal.main_arg1)) (m ((c.tc : Thread Cert.ReferenceIIdeal.nD Cert.ReferenceIIdeal.τ).loc Cert.ReferenceIIdeal.main_arg3)) (m ((c.tc : Thread Cert.ReferenceIIdeal.nD Cert.ReferenceIIdeal.τ).loc Cert.ReferenceIIdeal.main_arg4))),
    (h c).2.2.2.1.trans (Cert.ReferenceIIdeal.Read.val_main_v35_eq m c),
    (h c).2.2.2.2⟩)
    (Cert.ReferenceIIdeal.Value.run m ρ)

theorem algebraic : algebraic_KernelIIdeal_ReferenceIIdeal := by
  pair_intro
  · run_from Cert.KernelIIdeal.Value.run_blocks m g
  · run_from runRef m' g'
    · exact (Cert.NormI.final5 m c).symm
    · exact (Cert.NormI.final6 m c).symm
    · exact (Cert.NormI.final7 m c).symm
    · exact (Cert.NormI.final8 m c).symm

/-- The reference leaves its arguments alone, and declares no counter. -/
theorem frameRef : quiescent_ReferenceIIdeal := fun m g _ =>
  (θ_run Cert.ReferenceIIdeal.defs _ _).mono (fun r h => ⟨fun c => (h c).2.2.2.2, sem_eq_zero_of_no_sems (by decide) r.2⟩)
    (Cert.ReferenceIIdeal.Value.run m g)

end Cert.ClaimI

end
-- ==== Proof.NormL.lean ====
/- The lower bound of the forget gate: the first row of a running sum of a softmax over two rows is the
   logistic function of the difference of the rows. -/
module

public import proofs.«01_k».proof.Proof.Gen.KernelLIdeal.Value
public import proofs.«01_k».proof.Proof.Gen.ReferenceLIdeal.Read
public import proofs.«01_k».proof.Proof.RmsReal
public import proofs.«01_k».proof.Proof.AttnModel
public import Idealize.ShloMosaic.Lib.Pipeline.ValueKit

@[expose] public section

set_option maxRecDepth 65536

noncomputable section

namespace Cert.NormL

open Idealize.ShloMosaic Idealize.ShloMosaic.TcCoe Idealize.SL.Sem
open Idealize.ShloMosaic.Pipeline (Dat)
open Cert.KernelLIdeal Cert.KernelLIdeal.Gen Cert.RealLift
open Cert.ReferenceLIdeal.Read

variable (m : (ℓ : Loc nD τ sig) → Buf (Elt Ideal) ℓ) (c : Dev nD)

theorem idx : ∀ t : Fin cfg0.N, win0_0.index t = ![0, 0] ∧ win0_1.index t = ![0, 0] :=
  (by decide +kernel : ∀ t : Fin grid0.N, _)

/-- The first entry of a running sum down two rows. -/
theorem window_first (x : FVec Ideal S2x512 .f32) (z : FVec Ideal Cert.ReferenceLIdeal.S_ .f32) (y : Fin 512) :
    Host.reduceWindowAdd ![2, 1] ![1, 1] ![1, 0] ![0, 0] x z Cert.ReferenceLIdeal.Gen.reduceWindows_S2x512_S2x512_w2s1p1_0_w1s1p0_0 Cert.ReferenceLIdeal.Gen.h_S_ (ix2 0 y)
      = z (Shape.Idx.first Cert.ReferenceLIdeal.Gen.h_S_) + z (Shape.Idx.first Cert.ReferenceLIdeal.Gen.h_S_) + x (ix2 0 y) := by
  have hl : List.finRange (Shape.numel ⟨2, ![2, 1]⟩) = [⟨0, by decide⟩, ⟨1, by decide⟩] := by decide
  unfold Host.reduceWindowAdd
  show Ideal.hostReduceWindowAdd _ _ _ _ _ _ _ _ = _
  unfold Ideal.hostReduceWindowAdd Host.reduceWindow
  dsimp only
  rw [hl]
  have r0 : ∀ h a, ((Shape.rowMajor ⟨2, ![2, 1]⟩).symm ⟨0, h⟩ a).val = 0 := by decide
  have r1 : ∀ h, ((Shape.rowMajor ⟨2, ![2, 1]⟩).symm ⟨1, h⟩ 0).val = 1 := by decide
  have r2 : ∀ h, ((Shape.rowMajor ⟨2, ![2, 1]⟩).symm ⟨1, h⟩ 1).val = 0 := by decide
  simp only [List.foldl_cons, List.foldl_nil]
  refine congrArg₂ (· + ·) (congrArg₂ (· + ·) rfl (dif_neg fun h => ?_)) ?_
  · have h0 : 1 ≤ 0 * 1 + ((Shape.rowMajor ⟨2, ![2, 1]⟩).symm ⟨0, _⟩ 0).val := (h 0).1
    rw [r0] at h0
    omega
  · have hy := y.isLt
    refine (dif_pos (Fin.forall_fin_two.mpr ⟨?_, ?_⟩)).trans (congrArg x (funext fun a => Fin.ext ?_))
    · show 1 ≤ 0 * 1 + ((Shape.rowMajor ⟨2, ![2, 1]⟩).symm ⟨1, _⟩ 0).val ∧ 0 * 1 + ((Shape.rowMajor ⟨2, ![2, 1]⟩).symm ⟨1, _⟩ 0).val - 1 < 2
      rw [r1]
      omega
    · show 0 ≤ y.val * 1 + ((Shape.rowMajor ⟨2, ![2, 1]⟩).symm ⟨1, _⟩ 1).val ∧ y.val * 1 + ((Shape.rowMajor ⟨2, ![2, 1]⟩).symm ⟨1, _⟩ 1).val - 0 < 512
      rw [r2]
      omega
    · revert a
      refine Fin.forall_fin_two.mpr ⟨?_, ?_⟩
      · show 0 * 1 + ((Shape.rowMajor ⟨2, ![2, 1]⟩).symm ⟨1, _⟩ 0).val - 1 = 0
        rw [r1]
      · show y.val * 1 + ((Shape.rowMajor ⟨2, ![2, 1]⟩).symm ⟨1, _⟩ 1).val - 0 = y.val
        rw [r2]
        omega

theorem prob_real (a b M : ℝ) :
    Ideal.div (Ideal.exp ((a : EReal) - (M : EReal))) (Ideal.exp ((a : EReal) - (M : EReal)) + Ideal.exp ((b : EReal) - (M : EReal)))
      = Ideal.div 1 (1 + Ideal.exp (-((a : EReal) - (b : EReal)))) := by
  simp only [← EReal.coe_sub, ← EReal.coe_neg, Ideal.exp_coe, ← EReal.coe_add, ← EReal.coe_one]
  have h1 : Real.exp (a - M) + Real.exp (b - M) ≠ 0 := by positivity
  have h2 : 1 + Real.exp (-(a - b)) ≠ 0 := by positivity
  rw [coe_div _ h1, coe_div _ h2]
  congr 1
  rw [div_eq_div_iff h1 h2, one_mul, mul_add, mul_one, ← Real.exp_add]
  congr 2
  ring

theorem ref_at (x : FVec Ideal S2x512 .f32) (y : Fin 512) (h0 : IsR (x (ix2 0 y))) (h1 : IsR (x (ix2 1 y))) :
    val_main_v12 (F := Ideal) x (ix2 0 y) = Ideal.div 1 (1 + Ideal.exp (-((x (ix2 0 y) : EReal) - x (ix2 1 y)))) := by
  have e : val_main_v12 (F := Ideal) x (ix2 0 y) = val_main_v10 (F := Ideal) x (ix2 0 y) := by
    pointwise [val_main_v12]
    unfold val_main_v11
    rw [window_first]
    pointwise [val_main_call0_call0_v0, val_main_call0_call0_cst]
    try simp only [zero_add]
  rw [e]
  pointwise [val_main_v10, val_main_v9, val_main_v8, val_main_v7, val_main_v6, val_main_v5, val_main_v4, val_main_v3, val_main_v2, val_main_v1, val_main_v0, val_main_cst, val_main_cst_0, val_main_cst_1]
  have hM : (max (Ideal.ofBits FTy.f32 4286578688#32) (Finset.fold max (Ideal.ofBits FTy.f32 4286578688#32) (fun i => x (ix2 i y)) Finset.univ) : EReal)
      = ((max (EReal.toReal (x (ix2 0 y))) (EReal.toReal (x (ix2 1 y))) : ℝ) : EReal) := by
    rw [show Ideal.ofBits FTy.f32 4286578688#32 = ⊥ from Cert.AttnModel.bits_bot]
    rw [show (Finset.univ : Finset (Fin 2)) = {0, 1} from rfl]
    rw [Finset.fold_insert (by decide), Finset.fold_singleton]
    rw [EReal.coe_strictMono.monotone.map_max, ← show x (ix2 0 y) = _ from h0, ← show x (ix2 1 y) = _ from h1]
    simp
  rw [hM, Fin.sum_univ_two, h0, h1]
  exact prob_real _ _ _

/-- The arguments hold real numbers. -/
structure Real : Prop where
  h0 : ∀ i, IsR (m ((c.tc : Thread nD τ).loc main_arg0) i)

theorem final1 (H : Real m c) : (dats m 0 c).arrAt 1 (cfgs 0).N = val_main_v12 (F := Ideal) (m ((c.tc : Thread nD τ).loc main_arg0)) := by
  refine (dats m 0 c).arrAt_eq_of_covers 1 _ (by decide +kernel) fun t hw y => ?_
  idx_vars y
  blk_simp [idx t]
  have h0 : y0 = 0 := Subsingleton.elim _ _
  subst h0
  have e2 : ((cfg0.win 1).blk t).view.emb (ix2 0 y1) = ix2 (0 : Fin 1) y1 := by
    blk_ext [idx t]
  refine Eq.trans ?_ (Eq.symm ((congrArg _ e2).trans (ref_at _ y1 (H.h0 _) (H.h0 _))))
  rw [after0_1]
  frame_out
  have e0 : ∀ r : Fin 2, (show FVec Ideal S2x512 .f32 from iblk m c 0 t) (ix2 r y1) = m ((c.tc : Thread nD τ).loc main_arg0) (ix2 r y1) :=
    fun r => by blk_point [iblk, V, idx t]
  rw [← e0 0, ← e0 1]
  show k0_pay1 _ _ (ix2 0 y1) = _
  pointwise [k0_pay1]
  simp only [zero_sub]

end Cert.NormL

end
-- ==== Proof.ClaimL.lean ====
/- The value claim of the lower bound of the forget gate: the two programs, each run to its result, and the results compared. -/
module

public import proofs.«01_k».proof.Defs
public import proofs.«01_k».proof.Proof.NormL
public import proofs.«01_k».proof.Proof.Gen.KernelLIdeal.Value
public import proofs.«01_k».proof.Proof.Gen.ReferenceLIdeal.Run
public import proofs.«01_k».proof.Proof.Gen.ReferenceLIdeal.Read
public import proofs.«01_k».proof.Proof.Gen.Pre_finite_l
public import Idealize.ShloMosaic.Lib.Claim
public import Idealize.ShloMosaic.Lib.Quiescent

@[expose] public section

set_option maxRecDepth 16384

noncomputable section

namespace Cert.ClaimL

open Idealize.ShloMosaic Idealize.ShloMosaic.TcCoe Idealize.SL.Sem Cert.RealLift

theorem real_of_pre (m : (ℓ : Loc Cert.KernelLIdeal.nD Cert.KernelLIdeal.τ Cert.KernelLIdeal.sig) → Buf (Elt Ideal) ℓ)
    (hpre : Pre_KernelLIdeal_finite_l m) (c : Dev Cert.KernelLIdeal.nD) : Cert.NormL.Real m c := by
  have h := congrFun (hpre c) ix0
  dsimp only [Cert.Pre_finite_l.fn] at h
  exact ⟨entries_real _ _ _ _ _ _ _ h⟩

/-- The reference's run, each result named by the stage that computes it. -/
theorem runRef (m : (ℓ : Loc Cert.ReferenceLIdeal.nD Cert.ReferenceLIdeal.τ Cert.ReferenceLIdeal.sig) → Buf (Elt Ideal) ℓ) (ρ : Dev Cert.ReferenceLIdeal.nD → PrngReg) :
    θ_run Cert.ReferenceLIdeal.defs (onTc (τ := Cert.ReferenceLIdeal.τ) (Cert.ReferenceLIdeal.main (F := Ideal))) ⟨m, fun _ => 0, ρ⟩ fun r => ∀ c : Dev Cert.ReferenceLIdeal.nD,
      r.2.mem ((c.tc : Thread Cert.ReferenceLIdeal.nD Cert.ReferenceLIdeal.τ).loc Cert.ReferenceLIdeal.main_v12) = Cert.ReferenceLIdeal.Read.val_main_v12 (F := Ideal) (m ((c.tc : Thread Cert.ReferenceLIdeal.nD Cert.ReferenceLIdeal.τ).loc Cert.ReferenceLIdeal.main_arg0))
      ∧r.2.mem ((c.tc : Thread Cert.ReferenceLIdeal.nD Cert.ReferenceLIdeal.τ).loc Cert.ReferenceLIdeal.main_arg0) = m ((c.tc : Thread Cert.ReferenceLIdeal.nD Cert.ReferenceLIdeal.τ).loc Cert.ReferenceLIdeal.main_arg0) :=
  (θ_run Cert.ReferenceLIdeal.defs _ _).mono (fun _ h c => ⟨(h c).1.trans (Cert.ReferenceLIdeal.Read.val_main_v12_eq (m ((c.tc : Thread Cert.ReferenceLIdeal.nD Cert.ReferenceLIdeal.τ).loc Cert.ReferenceLIdeal.main_arg0))),
    (h c).2⟩)
    (Cert.ReferenceLIdeal.Value.run m ρ)

theorem algebraic : algebraic_KernelLIdeal_ReferenceLIdeal_pre_finite_l := by
  pair_intro
  · run_from Cert.KernelLIdeal.Value.run_blocks m g
  · run_from runRef m' g'
    · exact (Cert.NormL.final1 m c (real_of_pre m hpre c)).symm

/-- The reference leaves its arguments alone, and declares no counter. -/
theorem frameRef : quiescent_ReferenceLIdeal := fun m g _ =>
  (θ_run Cert.ReferenceLIdeal.defs _ _).mono (fun r h => ⟨fun c => (h c).2, sem_eq_zero_of_no_sems (by decide) r.2⟩)
    (Cert.ReferenceLIdeal.Value.run m g)

theorem frameRefPre : quiescent_ReferenceLIdeal_pre_finite_l := fun m g _ => frameRef m g trivial

end Cert.ClaimL

end
-- ==== Proof.NormP.lean ====
/- The projection into the mixers: each of its five results is a range of columns of one product. -/
module

public import proofs.«01_k».proof.Proof.Gen.KernelPIdeal.Value
public import proofs.«01_k».proof.Proof.Gen.ReferencePIdeal.Read
public import proofs.«01_k».proof.Proof.RmsReal
public import Idealize.ShloMosaic.Lib.Pipeline.ValueKit

@[expose] public section

set_option maxRecDepth 65536

noncomputable section

namespace Cert.NormP

open Idealize.ShloMosaic Idealize.ShloMosaic.TcCoe Idealize.SL.Sem
open Idealize.ShloMosaic.Pipeline (Dat)
open Cert.KernelPIdeal Cert.KernelPIdeal.Gen Cert.RealLift
open Cert.ReferencePIdeal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

theorem in0 (t : Fin cfg0.N) (y0 : Fin 512) (k : Fin 1024) (hR : 512 * t.val + y0.val < 4096) :
    (show FVec Ideal S512x1024 .bf16 from iblk m c 0 t) (ix2 y0 k) = m ((c.tc : Thread nD τ).loc main_arg0) (ix2 ⟨512 * t.val + y0.val, hR⟩ k) := by
  blk_point [iblk, V, idx t]

theorem in1 (t : Fin cfg0.N) (C : Fin 2816) (k : Fin 1024) :
    (show FVec Ideal S2816x1024 .bf16 from iblk m c 1 t) (ix2 C k) = m ((c.tc : Thread nD τ).loc main_arg1) (ix3 0 k C) := by
  blk_point [iblk, V, idx t]

/-- A row of the first array times a column of the second. -/
def prod (x : FVec Ideal S4096x1024 .f32) (w : FVec Ideal S1x1024x2816 .f32) (R : Fin 4096) (C : Fin 2816) : EReal :=
  ∑ k : Fin 1024, x (ix2 R k) * w (ix3 0 k C)

/-- A row of the block times a row of the transposed weights. -/
theorem pay_at (t : Fin cfg0.N) (y0 : Fin 512) (C : Fin 2816) (hR : 512 * t.val + y0.val < 4096) :
    k0_pay1 (F := Ideal) (iblk m c 0 t) (iblk m c 1 t) (ix2 y0 C)
      = prod (m ((c.tc : Thread nD τ).loc main_arg0)) (m ((c.tc : Thread nD τ).loc main_arg1)) ⟨512 * t.val + y0.val, hR⟩ C := by
  pointwise [k0_pay1]
  exact Finset.sum_congr (M := EReal) rfl fun k _ => congrArg₂ (fun a b : EReal => a * b) (in0 m c t y0 k hR) (in1 m c t C k)

theorem final2 : (dats m 0 c).arrAt 2 (cfgs 0).N
      = val_main_v2 (F := Ideal) (m ((c.tc : Thread nD τ).loc main_arg0)) (m ((c.tc : Thread nD τ).loc main_arg1)) := by
  refine (dats m 0 c).arrAt_eq_of_covers 2 _ (by decide +kernel) fun t hw y => ?_
  idx_vars y
  blk_simp [idx t]
  have ht : t.val < 8 := lt_of_lt_of_eq t.isLt N_0
  have hr : y0.val < 512 := y0.isLt
  have hc : y1.val < 512 := y1.isLt
  have e2 : ((cfg0.win 2).blk t).view.emb (ix2 y0 y1) = ix2 (⟨512 * t.val + y0.val, by omega⟩ : Fin 4096) y1 := by
    blk_ext [idx t]
  refine Eq.trans ?_ (Eq.symm (congrArg _ e2))
  rw [after0_2]
  frame_out
  show k0_pay2 _ _ (ix2 y0 y1) = _
  pointwise [k0_pay2, val_main_v6, val_main_v5, val_main_v4, val_main_v3, val_main_v2, val_main_v1, val_main_v0]
  exact pay_at m c t y0 ⟨y1.val, by omega⟩ (by omega)

theorem final3 : (dats m 0 c).arrAt 3 (cfgs 0).N
      = val_main_v3 (F := Ideal) (m ((c.tc : Thread nD τ).loc main_arg0)) (m ((c.tc : Thread nD τ).loc main_arg1)) := by
  refine (dats m 0 c).arrAt_eq_of_covers 3 _ (by decide +kernel) fun t hw y => ?_
  idx_vars y
  blk_simp [idx t]
  have ht : t.val < 8 := lt_of_lt_of_eq t.isLt N_0
  have hr : y0.val < 512 := y0.isLt
  have hc : y1.val < 512 := y1.isLt
  have e2 : ((cfg0.win 3).blk t).view.emb (ix2 y0 y1) = ix2 (⟨512 * t.val + y0.val, by omega⟩ : Fin 4096) y1 := by
    blk_ext [idx t]
  refine Eq.trans ?_ (Eq.symm (congrArg _ e2))
  rw [after0_3]
  frame_out
  show k0_pay3 _ _ (ix2 y0 y1) = _
  pointwise [k0_pay3, val_main_v6, val_main_v5, val_main_v4, val_main_v3, val_main_v2, val_main_v1, val_main_v0]
  exact pay_at m c t y0 ⟨512 + y1.val, by omega⟩ (by omega)

theorem final4 : (dats m 0 c).arrAt 4 (cfgs 0).N
      = val_main_v4 (F := Ideal) (m ((c.tc : Thread nD τ).loc main_arg0)) (m ((c.tc : Thread nD τ).loc main_arg1)) := by
  refine (dats m 0 c).arrAt_eq_of_covers 4 _ (by decide +kernel) fun t hw y => ?_
  idx_vars y
  blk_simp [idx t]
  have ht : t.val < 8 := lt_of_lt_of_eq t.isLt N_0
  have hr : y0.val < 512 := y0.isLt
  have hc : y1.val < 512 := y1.isLt
  have e2 : ((cfg0.win 4).blk t).view.emb (ix2 y0 y1) = ix2 (⟨512 * t.val + y0.val, by omega⟩ : Fin 4096) y1 := by
    blk_ext [idx t]
  refine Eq.trans ?_ (Eq.symm (congrArg _ e2))
  rw [after0_4]
  frame_out
  show k0_pay4 _ _ (ix2 y0 y1) = _
  pointwise [k0_pay4, val_main_v6, val_main_v5, val_main_v4, val_main_v3, val_main_v2, val_main_v1, val_main_v0]
  exact pay_at m c t y0 ⟨1024 + y1.val, by omega⟩ (by omega)

theorem final5 : (dats m 0 c).arrAt 5 (cfgs 0).N
      = val_main_v5 (F := Ideal) (m ((c.tc : Thread nD τ).loc main_arg0)) (m ((c.tc : Thread nD τ).loc main_arg1)) := by
  refine (dats m 0 c).arrAt_eq_of_covers 5 _ (by decide +kernel) fun t hw y => ?_
  idx_vars y
  blk_simp [idx t]
  have ht : t.val < 8 := lt_of_lt_of_eq t.isLt N_0
  have hr : y0.val < 512 := y0.isLt
  have hc : y1.val < 512 := y1.isLt
  have e2 : ((cfg0.win 5).blk t).view.emb (ix2 y0 y1) = ix2 (⟨512 * t.val + y0.val, by omega⟩ : Fin 4096) y1 := by
    blk_ext [idx t]
  refine Eq.trans ?_ (Eq.symm (congrArg _ e2))
  rw [after0_5]
  frame_out
  show k0_pay5 _ _ (ix2 y0 y1) = _
  pointwise [k0_pay5, val_main_v6, val_main_v5, val_main_v4, val_main_v3, val_main_v2, val_main_v1, val_main_v0]
  exact pay_at m c t y0 ⟨1536 + y1.val, by omega⟩ (by omega)

theorem final6 : (dats m 0 c).arrAt 6 (cfgs 0).N
      = val_main_v6 (F := Ideal) (m ((c.tc : Thread nD τ).loc main_arg0)) (m ((c.tc : Thread nD τ).loc main_arg1)) := by
  refine (dats m 0 c).arrAt_eq_of_covers 6 _ (by decide +kernel) fun t hw y => ?_
  idx_vars y
  blk_simp [idx t]
  have ht : t.val < 8 := lt_of_lt_of_eq t.isLt N_0
  have hr : y0.val < 512 := y0.isLt
  have hc : y1.val < 768 := y1.isLt
  have e2 : ((cfg0.win 6).blk t).view.emb (ix2 y0 y1) = ix2 (⟨512 * t.val + y0.val, by omega⟩ : Fin 4096) y1 := by
    blk_ext [idx t]
  refine Eq.trans ?_ (Eq.symm (congrArg _ e2))
  rw [after0_6]
  frame_out
  show k0_pay6 _ _ (ix2 y0 y1) = _
  pointwise [k0_pay6, val_main_v6, val_main_v5, val_main_v4, val_main_v3, val_main_v2, val_main_v1, val_main_v0]
  exact pay_at m c t y0 ⟨2048 + y1.val, by omega⟩ (by omega)

end Cert.NormP

end
-- ==== Proof.ClaimP.lean ====
/- The value claim of the projection into the mixers: the two programs, each run to its results, and the results compared. -/
module

public import proofs.«01_k».proof.Defs
public import proofs.«01_k».proof.Proof.NormP
public import proofs.«01_k».proof.Proof.Gen.KernelPIdeal.Value
public import proofs.«01_k».proof.Proof.Gen.ReferencePIdeal.Run
public import proofs.«01_k».proof.Proof.Gen.ReferencePIdeal.Read
public import Idealize.ShloMosaic.Lib.Claim
public import Idealize.ShloMosaic.Lib.Quiescent

@[expose] public section

set_option maxRecDepth 16384

noncomputable section

namespace Cert.ClaimP

open Idealize.ShloMosaic Idealize.ShloMosaic.TcCoe Idealize.SL.Sem Cert.RealLift

/-- The reference's run, each result named by the stage that computes it. -/
theorem runRef (m : (ℓ : Loc Cert.ReferencePIdeal.nD Cert.ReferencePIdeal.τ Cert.ReferencePIdeal.sig) → Buf (Elt Ideal) ℓ) (ρ : Dev Cert.ReferencePIdeal.nD → PrngReg) :
    θ_run Cert.ReferencePIdeal.defs (onTc (τ := Cert.ReferencePIdeal.τ) (Cert.ReferencePIdeal.main (F := Ideal))) ⟨m, fun _ => 0, ρ⟩ fun r => ∀ c : Dev Cert.ReferencePIdeal.nD,
      r.2.mem ((c.tc : Thread Cert.ReferencePIdeal.nD Cert.ReferencePIdeal.τ).loc Cert.ReferencePIdeal.main_v2) = Cert.ReferencePIdeal.Read.val_main_v2 (F := Ideal) (m ((c.tc : Thread Cert.ReferencePIdeal.nD Cert.ReferencePIdeal.τ).loc Cert.ReferencePIdeal.main_arg0)) (m ((c.tc : Thread Cert.ReferencePIdeal.nD Cert.ReferencePIdeal.τ).loc Cert.ReferencePIdeal.main_arg1))
      ∧      r.2.mem ((c.tc : Thread Cert.ReferencePIdeal.nD Cert.ReferencePIdeal.τ).loc Cert.ReferencePIdeal.main_v3) = Cert.ReferencePIdeal.Read.val_main_v3 (F := Ideal) (m ((c.tc : Thread Cert.ReferencePIdeal.nD Cert.ReferencePIdeal.τ).loc Cert.ReferencePIdeal.main_arg0)) (m ((c.tc : Thread Cert.ReferencePIdeal.nD Cert.ReferencePIdeal.τ).loc Cert.ReferencePIdeal.main_arg1))
      ∧      r.2.mem ((c.tc : Thread Cert.ReferencePIdeal.nD Cert.ReferencePIdeal.τ).loc Cert.ReferencePIdeal.main_v4) = Cert.ReferencePIdeal.Read.val_main_v4 (F := Ideal) (m ((c.tc : Thread Cert.ReferencePIdeal.nD Cert.ReferencePIdeal.τ).loc Cert.ReferencePIdeal.main_arg0)) (m ((c.tc : Thread Cert.ReferencePIdeal.nD Cert.ReferencePIdeal.τ).loc Cert.ReferencePIdeal.main_arg1))
      ∧      r.2.mem ((c.tc : Thread Cert.ReferencePIdeal.nD Cert.ReferencePIdeal.τ).loc Cert.ReferencePIdeal.main_v5) = Cert.ReferencePIdeal.Read.val_main_v5 (F := Ideal) (m ((c.tc : Thread Cert.ReferencePIdeal.nD Cert.ReferencePIdeal.τ).loc Cert.ReferencePIdeal.main_arg0)) (m ((c.tc : Thread Cert.ReferencePIdeal.nD Cert.ReferencePIdeal.τ).loc Cert.ReferencePIdeal.main_arg1))
      ∧      r.2.mem ((c.tc : Thread Cert.ReferencePIdeal.nD Cert.ReferencePIdeal.τ).loc Cert.ReferencePIdeal.main_v6) = Cert.ReferencePIdeal.Read.val_main_v6 (F := Ideal) (m ((c.tc : Thread Cert.ReferencePIdeal.nD Cert.ReferencePIdeal.τ).loc Cert.ReferencePIdeal.main_arg0)) (m ((c.tc : Thread Cert.ReferencePIdeal.nD Cert.ReferencePIdeal.τ).loc Cert.ReferencePIdeal.main_arg1))
      ∧r.2.mem ((c.tc : Thread Cert.ReferencePIdeal.nD Cert.ReferencePIdeal.τ).loc Cert.ReferencePIdeal.main_arg0) = m ((c.tc : Thread Cert.ReferencePIdeal.nD Cert.ReferencePIdeal.τ).loc Cert.ReferencePIdeal.main_arg0) ∧ r.2.mem ((c.tc : Thread Cert.ReferencePIdeal.nD Cert.ReferencePIdeal.τ).loc Cert.ReferencePIdeal.main_arg1) = m ((c.tc : Thread Cert.ReferencePIdeal.nD Cert.ReferencePIdeal.τ).loc Cert.ReferencePIdeal.main_arg1) :=
  (θ_run Cert.ReferencePIdeal.defs _ _).mono (fun _ h c => ⟨(h c).1.trans (Cert.ReferencePIdeal.Read.val_main_v2_eq (m ((c.tc : Thread Cert.ReferencePIdeal.nD Cert.ReferencePIdeal.τ).loc Cert.ReferencePIdeal.main_arg0)) (m ((c.tc : Thread Cert.ReferencePIdeal.nD Cert.ReferencePIdeal.τ).loc Cert.ReferencePIdeal.main_arg1))),
    (h c).2.1.trans (Cert.ReferencePIdeal.Read.val_main_v3_eq (m ((c.tc : Thread Cert.ReferencePIdeal.nD Cert.ReferencePIdeal.τ).loc Cert.ReferencePIdeal.main_arg0)) (m ((c.tc : Thread Cert.ReferencePIdeal.nD Cert.ReferencePIdeal.τ).loc Cert.ReferencePIdeal.main_arg1))),
    (h c).2.2.1.trans (Cert.ReferencePIdeal.Read.val_main_v4_eq (m ((c.tc : Thread Cert.ReferencePIdeal.nD Cert.ReferencePIdeal.τ).loc Cert.ReferencePIdeal.main_arg0)) (m ((c.tc : Thread Cert.ReferencePIdeal.nD Cert.ReferencePIdeal.τ).loc Cert.ReferencePIdeal.main_arg1))),
    (h c).2.2.2.1.trans (Cert.ReferencePIdeal.Read.val_main_v5_eq (m ((c.tc : Thread Cert.ReferencePIdeal.nD Cert.ReferencePIdeal.τ).loc Cert.ReferencePIdeal.main_arg0)) (m ((c.tc : Thread Cert.ReferencePIdeal.nD Cert.ReferencePIdeal.τ).loc Cert.ReferencePIdeal.main_arg1))),
    (h c).2.2.2.2.1.trans (Cert.ReferencePIdeal.Read.val_main_v6_eq (m ((c.tc : Thread Cert.ReferencePIdeal.nD Cert.ReferencePIdeal.τ).loc Cert.ReferencePIdeal.main_arg0)) (m ((c.tc : Thread Cert.ReferencePIdeal.nD Cert.ReferencePIdeal.τ).loc Cert.ReferencePIdeal.main_arg1))),
    (h c).2.2.2.2.2⟩)
    (Cert.ReferencePIdeal.Value.run m ρ)

theorem algebraic : algebraic_KernelPIdeal_ReferencePIdeal := by
  pair_intro
  · run_from Cert.KernelPIdeal.Value.run_blocks m g
  · run_from runRef m' g'
    · exact (Cert.NormP.final2 m c).symm
    · exact (Cert.NormP.final3 m c).symm
    · exact (Cert.NormP.final4 m c).symm
    · exact (Cert.NormP.final5 m c).symm
    · exact (Cert.NormP.final6 m c).symm

/-- The reference leaves its arguments alone, and declares no counter. -/
theorem frameRef : quiescent_ReferencePIdeal := fun m g _ =>
  (θ_run Cert.ReferencePIdeal.defs _ _).mono (fun r h => ⟨fun c => (h c).2.2.2.2.2, sem_eq_zero_of_no_sems (by decide) r.2⟩)
    (Cert.ReferencePIdeal.Value.run m g)

end Cert.ClaimP

end
-- ==== Proof.NormQ.lean ====
/- The gradient of a projection: the sum carried over the blocks of rows is the sum over all rows. -/
module

public import proofs.«01_k».proof.Proof.Gen.KernelQIdeal.Value
public import proofs.«01_k».proof.Proof.Gen.ReferenceQIdeal.Read
public import proofs.«01_k».proof.Proof.RmsReal
public import Idealize.ShloMosaic.Lib.Pipeline.ValueKit

@[expose] public section

set_option maxRecDepth 65536

noncomputable section

namespace Cert.NormQ

open Idealize.ShloMosaic Idealize.ShloMosaic.TcCoe Idealize.SL.Sem
open Idealize.ShloMosaic.Pipeline (Dat)
open Cert.KernelQIdeal Cert.KernelQIdeal.Gen Cert.RealLift
open Cert.ReferenceQIdeal.Read

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] :=
  (by decide +kernel : ∀ t : Fin grid0.N, _)

theorem in0 (t : Fin cfg0.N) (k : Fin 1024) (R : Fin 2816) (hR : t.val * 1024 + k.val < 4096) :
    (show FVec Ideal S1024x2816 .bf16 from iblk m c 0 t) (ix2 k R) = m ((c.tc : Thread nD τ).loc main_arg0) (ix2 ⟨t.val * 1024 + k.val, hR⟩ R) := by
  blk_point [iblk, V, idx t]

theorem in1 (t : Fin cfg0.N) (k : Fin 1024) (C : Fin 1024) (hR : t.val * 1024 + k.val < 4096) :
    (show FVec Ideal S1024x1024 .bf16 from iblk m c 1 t) (ix2 k C) = m ((c.tc : Thread nD τ).loc main_arg2) (ix2 ⟨t.val * 1024 + k.val, hR⟩ C) := by
  blk_point [iblk, V, idx t]

/-- What one step adds to the sum carried. -/
def part (x : FVec Ideal S1024x2816 .bf16) (d : FVec Ideal S1024x1024 .bf16) (j : S2816x1024.Idx) : EReal :=
  ∑ k : Fin 1024, x (ix2 k (j 0)) * d (ix2 k (j 1))

theorem pay2_apply (d : FVec Ideal S1024x1024 .bf16) (acc : FVec Ideal S2816x1024 .f32) (x : FVec Ideal S1024x2816 .bf16) (j : S2816x1024.Idx) :
    k0_pay2 (F := Ideal) d acc x j = acc j + part x d j := by
  idx_vars j
  pointwise [k0_pay2]
  rfl

theorem pay1_apply (j : S2816x1024.Idx) : k0_pay1 (F := Ideal) j = 0 := by
  idx_vars j
  pointwise [k0_pay1]

theorem final2 : (dats m 0 c).arrAt 2 (cfgs 0).N
      = val_main_v6 (F := Ideal) (m ((c.tc : Thread nD τ).loc main_arg0)) (m ((c.tc : Thread nD τ).loc main_arg2)) := by
  refine (dats m 0 c).arrAt_eq_of_after_last 2 t0_3 (by decide +kernel) _ fun j => ?_
  have hs := Pipeline.eq_sum_fin_of_reset_step_apply_last (fun n h => (outsAt0 m c n h).2) 4 (fun _ => (0 : EReal))
    (fun t j => part (iblk m c 0 t) (iblk m c 1 t) j)
    (fun t h j => by rw [outsAt0_A m c t h (by omega)]; frame_out; rw [pay2_apply, pay1_apply])
    (fun t h j => by
      by_cases h1 : t.val % 4 = 3
      · rw [outsAt0_C m c t h h1]; frame_out; rw [pay2_apply]; exact congrArg (· + part _ _ j) (congrFun (Memref.IsWhole.read_unread _ _) _)
      · rw [outsAt0_B m c t h h1]; frame_out; rw [pay2_apply]; exact congrArg (· + part _ _ j) (congrFun (Memref.IsWhole.read_unread _ _) _))
    (le_of_eq N_0) t0_3 rfl j
  rw [zero_add] at hs
  have e : (outsAt0 m c t0_3.val t0_3.isLt).1 = k0_pay3 (F := Ideal) ((outsAt0 m c t0_3.val t0_3.isLt).2) := by
    rw [outsAt0_C m c t0_3 (by decide) (by decide)]; frame_out
  rw [after0_2, e]
  blk_simp [idx t0_3]
  idx_vars j
  pointwise [k0_pay3, val_main_v6, val_main_v5, val_main_v4, val_main_v3, val_main_v2, val_main_v1, val_main_v0]
  rw [hs]
  refine Fin.sum_mul_add_congr fun t r hl => ?_
  exact (congrArg₂ (fun a b : EReal => a * b) (in0 m c t r j0 hl) (in1 m c t r j1 hl)).trans (mul_comm (_ : EReal) _)

end Cert.NormQ

end
-- ==== Proof.ClaimQ.lean ====
/- The value claim of the gradient of the last projection: the two programs, each run to its result, and the results compared. -/
module

public import proofs.«01_k».proof.Defs
public import proofs.«01_k».proof.Proof.NormQ
public import proofs.«01_k».proof.Proof.Gen.KernelQIdeal.Value
public import proofs.«01_k».proof.Proof.Gen.ReferenceQIdeal.Run
public import proofs.«01_k».proof.Proof.Gen.ReferenceQIdeal.Read
public import Idealize.ShloMosaic.Lib.Claim
public import Idealize.ShloMosaic.Lib.Quiescent

@[expose] public section

set_option maxRecDepth 16384

noncomputable section

namespace Cert.ClaimQ

open Idealize.ShloMosaic Idealize.ShloMosaic.TcCoe Idealize.SL.Sem Cert.RealLift

/-- The reference's run, each result named by the stage that computes it. -/
theorem runRef (m : (ℓ : Loc Cert.ReferenceQIdeal.nD Cert.ReferenceQIdeal.τ Cert.ReferenceQIdeal.sig) → Buf (Elt Ideal) ℓ) (ρ : Dev Cert.ReferenceQIdeal.nD → PrngReg) :
    θ_run Cert.ReferenceQIdeal.defs (onTc (τ := Cert.ReferenceQIdeal.τ) (Cert.ReferenceQIdeal.main (F := Ideal))) ⟨m, fun _ => 0, ρ⟩ fun r => ∀ c : Dev Cert.ReferenceQIdeal.nD,
      r.2.mem ((c.tc : Thread Cert.ReferenceQIdeal.nD Cert.ReferenceQIdeal.τ).loc Cert.ReferenceQIdeal.main_v6) = Cert.ReferenceQIdeal.Read.val_main_v6 (F := Ideal) (m ((c.tc : Thread Cert.ReferenceQIdeal.nD Cert.ReferenceQIdeal.τ).loc Cert.ReferenceQIdeal.main_arg0)) (m ((c.tc : Thread Cert.ReferenceQIdeal.nD Cert.ReferenceQIdeal.τ).loc Cert.ReferenceQIdeal.main_arg2))
      ∧r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0) ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1) ∧ r.2.mem ((c.tc : Thread Cert.ReferenceQIdeal.nD Cert.ReferenceQIdeal.τ).loc Cert.ReferenceQIdeal.main_arg2) = m ((c.tc : Thread Cert.ReferenceQIdeal.nD Cert.ReferenceQIdeal.τ).loc Cert.ReferenceQIdeal.main_arg2) :=
  (θ_run Cert.ReferenceQIdeal.defs _ _).mono (fun _ h c => ⟨(h c).1.trans (Cert.ReferenceQIdeal.Read.val_main_v6_eq (m ((c.tc : Thread Cert.ReferenceQIdeal.nD Cert.ReferenceQIdeal.τ).loc Cert.ReferenceQIdeal.main_arg0)) (m ((c.tc : Thread Cert.ReferenceQIdeal.nD Cert.ReferenceQIdeal.τ).loc Cert.ReferenceQIdeal.main_arg2))),
    (h c).2⟩)
    (Cert.ReferenceQIdeal.Value.run m ρ)

theorem algebraic : algebraic_KernelQIdeal_ReferenceQIdeal := by
  pair_intro
  · run_from Cert.KernelQIdeal.Value.run_blocks m g
  · run_from runRef m' g'
    · exact (Cert.NormQ.final2 m c).symm

/-- The reference leaves its arguments alone, and declares no counter. -/
theorem frameRef : quiescent_ReferenceQIdeal := fun m g _ =>
  (θ_run Cert.ReferenceQIdeal.defs _ _).mono (fun r h => ⟨fun c => (h c).2, sem_eq_zero_of_no_sems (by decide) r.2⟩)
    (Cert.ReferenceQIdeal.Value.run m g)

end Cert.ClaimQ

end
-- ==== Proof.NormB.lean ====
/- One step of the optimiser: each result read at a row and a column. -/
module

public import proofs.«01_k».proof.Proof.Gen.KernelBIdeal.Value
public import proofs.«01_k».proof.Proof.Gen.ReferenceBIdeal.Read
public import proofs.«01_k».proof.Proof.RmsReal
public import Idealize.ShloMosaic.Lib.Pipeline.ValueKit

@[expose] public section

set_option maxRecDepth 65536

noncomputable section

namespace Cert.NormB

open Idealize.ShloMosaic Idealize.ShloMosaic.TcCoe Idealize.SL.Sem
open Idealize.ShloMosaic.Pipeline (Dat)
open Cert.KernelBIdeal Cert.KernelBIdeal.Gen Cert.RealLift
open Cert.ReferenceBIdeal.Read

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem in0 (t : Fin cfg0.N) (y0 : Fin 352) (y1 : Fin 1024) (hR : 352 * t.val + y0.val < 704) :
    (show FVec Ideal S352x1024 .f32 from iblk m c 0 t) (ix2 y0 y1) = m ((c.tc : Thread nD τ).loc main_arg0) (ix3 0 ⟨352 * t.val + y0.val, hR⟩ y1) := by
  blk_point [iblk, V, idx t]

theorem in1 (t : Fin cfg0.N) (y0 : Fin 352) (y1 : Fin 1024) (hR : 352 * t.val + y0.val < 704) :
    (show FVec Ideal S352x1024 .f32 from iblk m c 1 t) (ix2 y0 y1) = m ((c.tc : Thread nD τ).loc main_arg1) (ix3 0 ⟨352 * t.val + y0.val, hR⟩ y1) := by
  blk_point [iblk, V, idx t]

theorem in2 (t : Fin cfg0.N) (y0 : Fin 352) (y1 : Fin 1024) (hR : 352 * t.val + y0.val < 704) :
    (show FVec Ideal S352x1024 .f32 from iblk m c 2 t) (ix2 y0 y1) = m ((c.tc : Thread nD τ).loc main_arg2) (ix3 0 ⟨352 * t.val + y0.val, hR⟩ y1) := by
  blk_point [iblk, V, idx t]

theorem in3 (t : Fin cfg0.N) (y0 : Fin 352) (y1 : Fin 1024) (hR : 352 * t.val + y0.val < 704) :
    (show FVec Ideal S352x1024 .f32 from iblk m c 3 t) (ix2 y0 y1) = m ((c.tc : Thread nD τ).loc main_arg3) (ix3 0 ⟨352 * t.val + y0.val, hR⟩ y1) := by
  blk_point [iblk, V, idx t]

theorem final4 : (dats m 0 c).arrAt 4 (cfgs 0).N = val_main_v1 (F := Ideal) (m ((c.tc : Thread nD τ).loc main_arg1)) := by
  refine (dats m 0 c).arrAt_eq_of_covers 4 _ (by decide +kernel) fun t hw y => ?_
  idx_vars y
  blk_simp [idx t]
  have ht : t.val < 2 := lt_of_lt_of_eq t.isLt N_0
  have hr : y0.val < 352 := y0.isLt
  have e2 : ((cfg0.win 4).blk t).view.emb (ix2 y0 y1) = ix2 (⟨352 * t.val + y0.val, by omega⟩ : Fin 704) y1 := by
    blk_ext [idx t]
  refine Eq.trans ?_ (Eq.symm (congrArg _ e2))
  rw [after0_4]
  frame_out
  show k0_pay1 _ (ix2 y0 y1) = _
  pointwise [k0_pay1, k0_pay2, k0_pay3, k0_pay4, val_main_v27, val_main_v26, val_main_cst_7, val_main_v25, val_main_v24, val_main_v23, val_main_cst_6, val_main_v22, val_main_v21, val_main_v20, val_main_cst_5, val_main_v19, val_main_v18, val_main_v17, val_main_cst_4, val_main_v16, val_main_v15, val_main_cst_3, val_main_v14, val_main_v13, val_main_v12, val_main_cst_2, val_main_v11, val_main_v10, val_main_v9, val_main_cst_1, val_main_v8, val_main_v7, val_main_v6, val_main_cst_0, val_main_v5, val_main_v4, val_main_cst, val_main_v3, val_main_v2, val_main_v1, val_main_v0]
  simp only [← in1 m c t y0 y1]

theorem final5 : (dats m 0 c).arrAt 5 (cfgs 0).N = val_main_v27 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hw y => ?_
  idx_vars y
  blk_simp [idx t]
  have ht : t.val < 2 := lt_of_lt_of_eq t.isLt N_0
  have hr : y0.val < 352 := y0.isLt
  have e2 : ((cfg0.win 5).blk t).view.emb (ix2 y0 y1) = ix2 (⟨352 * t.val + y0.val, by omega⟩ : Fin 704) y1 := by
    blk_ext [idx t]
  refine Eq.trans ?_ (Eq.symm (congrArg _ e2))
  rw [after0_5]
  frame_out
  show k0_pay4 _ _ _ _ (ix2 y0 y1) = _
  pointwise [k0_pay1, k0_pay2, k0_pay3, k0_pay4, val_main_v27, val_main_v26, val_main_cst_7, val_main_v25, val_main_v24, val_main_v23, val_main_cst_6, val_main_v22, val_main_v21, val_main_v20, val_main_cst_5, val_main_v19, val_main_v18, val_main_v17, val_main_cst_4, val_main_v16, val_main_v15, val_main_cst_3, val_main_v14, val_main_v13, val_main_v12, val_main_cst_2, val_main_v11, val_main_v10, val_main_v9, val_main_cst_1, val_main_v8, val_main_v7, val_main_v6, val_main_cst_0, val_main_v5, val_main_v4, val_main_cst, val_main_v3, val_main_v2, val_main_v1, val_main_v0]
  simp only [← in0 m c t y0 y1, ← in1 m c t y0 y1, ← in2 m c t y0 y1, ← in3 m c t y0 y1]

theorem final6 : (dats m 0 c).arrAt 6 (cfgs 0).N = val_main_v8 (F := Ideal) (m ((c.tc : Thread nD τ).loc main_arg1)) (m ((c.tc : Thread nD τ).loc main_arg2)) := by
  refine (dats m 0 c).arrAt_eq_of_covers 6 _ (by decide +kernel) fun t hw y => ?_
  idx_vars y
  blk_simp [idx t]
  have ht : t.val < 2 := lt_of_lt_of_eq t.isLt N_0
  have hr : y0.val < 352 := y0.isLt
  have e2 : ((cfg0.win 6).blk t).view.emb (ix2 y0 y1) = ix2 (⟨352 * t.val + y0.val, by omega⟩ : Fin 704) y1 := by
    blk_ext [idx t]
  refine Eq.trans ?_ (Eq.symm (congrArg _ e2))
  rw [after0_6]
  frame_out
  show k0_pay2 _ _ (ix2 y0 y1) = _
  pointwise [k0_pay1, k0_pay2, k0_pay3, k0_pay4, val_main_v27, val_main_v26, val_main_cst_7, val_main_v25, val_main_v24, val_main_v23, val_main_cst_6, val_main_v22, val_main_v21, val_main_v20, val_main_cst_5, val_main_v19, val_main_v18, val_main_v17, val_main_cst_4, val_main_v16, val_main_v15, val_main_cst_3, val_main_v14, val_main_v13, val_main_v12, val_main_cst_2, val_main_v11, val_main_v10, val_main_v9, val_main_cst_1, val_main_v8, val_main_v7, val_main_v6, val_main_cst_0, val_main_v5, val_main_v4, val_main_cst, val_main_v3, val_main_v2, val_main_v1, val_main_v0]
  simp only [← in1 m c t y0 y1, ← in2 m c t y0 y1]

theorem final7 : (dats m 0 c).arrAt 7 (cfgs 0).N = val_main_v14 (F := Ideal) (m ((c.tc : Thread nD τ).loc main_arg1)) (m ((c.tc : Thread nD τ).loc main_arg3)) := by
  refine (dats m 0 c).arrAt_eq_of_covers 7 _ (by decide +kernel) fun t hw y => ?_
  idx_vars y
  blk_simp [idx t]
  have ht : t.val < 2 := lt_of_lt_of_eq t.isLt N_0
  have hr : y0.val < 352 := y0.isLt
  have e2 : ((cfg0.win 7).blk t).view.emb (ix2 y0 y1) = ix2 (⟨352 * t.val + y0.val, by omega⟩ : Fin 704) y1 := by
    blk_ext [idx t]
  refine Eq.trans ?_ (Eq.symm (congrArg _ e2))
  rw [after0_7]
  frame_out
  show k0_pay3 _ _ (ix2 y0 y1) = _
  pointwise [k0_pay1, k0_pay2, k0_pay3, k0_pay4, val_main_v27, val_main_v26, val_main_cst_7, val_main_v25, val_main_v24, val_main_v23, val_main_cst_6, val_main_v22, val_main_v21, val_main_v20, val_main_cst_5, val_main_v19, val_main_v18, val_main_v17, val_main_cst_4, val_main_v16, val_main_v15, val_main_cst_3, val_main_v14, val_main_v13, val_main_v12, val_main_cst_2, val_main_v11, val_main_v10, val_main_v9, val_main_cst_1, val_main_v8, val_main_v7, val_main_v6, val_main_cst_0, val_main_v5, val_main_v4, val_main_cst, val_main_v3, val_main_v2, val_main_v1, val_main_v0]
  simp only [← in1 m c t y0 y1, ← in3 m c t y0 y1]

end Cert.NormB

end
-- ==== Proof.ClaimB.lean ====
/- The value claim of the optimiser's step: the two programs, each run to its results, and the results compared. -/
module

public import proofs.«01_k».proof.Defs
public import proofs.«01_k».proof.Proof.NormB
public import proofs.«01_k».proof.Proof.Gen.KernelBIdeal.Value
public import proofs.«01_k».proof.Proof.Gen.ReferenceBIdeal.Run
public import proofs.«01_k».proof.Proof.Gen.ReferenceBIdeal.Read
public import Idealize.ShloMosaic.Lib.Claim
public import Idealize.ShloMosaic.Lib.Quiescent

@[expose] public section

set_option maxRecDepth 16384

noncomputable section

namespace Cert.ClaimB

open Idealize.ShloMosaic Idealize.ShloMosaic.TcCoe Idealize.SL.Sem Cert.RealLift

/-- The reference's run, each result named by the stage that computes it. -/
theorem runRef (m : (ℓ : Loc Cert.ReferenceBIdeal.nD Cert.ReferenceBIdeal.τ Cert.ReferenceBIdeal.sig) → Buf (Elt Ideal) ℓ) (ρ : Dev Cert.ReferenceBIdeal.nD → PrngReg) :
    θ_run Cert.ReferenceBIdeal.defs (onTc (τ := Cert.ReferenceBIdeal.τ) (Cert.ReferenceBIdeal.main (F := Ideal))) ⟨m, fun _ => 0, ρ⟩ fun r => ∀ c : Dev Cert.ReferenceBIdeal.nD,
      r.2.mem ((c.tc : Thread Cert.ReferenceBIdeal.nD Cert.ReferenceBIdeal.τ).loc Cert.ReferenceBIdeal.main_v1) = Cert.ReferenceBIdeal.Read.val_main_v1 (F := Ideal) (m ((c.tc : Thread Cert.ReferenceBIdeal.nD Cert.ReferenceBIdeal.τ).loc Cert.ReferenceBIdeal.main_arg1))
      ∧      r.2.mem ((c.tc : Thread Cert.ReferenceBIdeal.nD Cert.ReferenceBIdeal.τ).loc Cert.ReferenceBIdeal.main_v27) = Cert.ReferenceBIdeal.Read.val_main_v27 (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3))
      ∧      r.2.mem ((c.tc : Thread Cert.ReferenceBIdeal.nD Cert.ReferenceBIdeal.τ).loc Cert.ReferenceBIdeal.main_v8) = Cert.ReferenceBIdeal.Read.val_main_v8 (F := Ideal) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2))
      ∧      r.2.mem ((c.tc : Thread Cert.ReferenceBIdeal.nD Cert.ReferenceBIdeal.τ).loc Cert.ReferenceBIdeal.main_v14) = Cert.ReferenceBIdeal.Read.val_main_v14 (F := Ideal) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg3))
      ∧r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0) ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1) ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2) ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3) :=
  (θ_run Cert.ReferenceBIdeal.defs _ _).mono (fun _ h c => ⟨(h c).1.trans (Cert.ReferenceBIdeal.Read.val_main_v1_eq (m ((c.tc : Thread Cert.ReferenceBIdeal.nD Cert.ReferenceBIdeal.τ).loc Cert.ReferenceBIdeal.main_arg1))),
    (h c).2.1.trans (Cert.ReferenceBIdeal.Read.val_main_v27_eq (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3))),
    (h c).2.2.1.trans (Cert.ReferenceBIdeal.Read.val_main_v8_eq (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2))),
    (h c).2.2.2.1.trans (Cert.ReferenceBIdeal.Read.val_main_v14_eq (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg3))),
    (h c).2.2.2.2⟩)
    (Cert.ReferenceBIdeal.Value.run m ρ)

theorem algebraic : algebraic_KernelBIdeal_ReferenceBIdeal := by
  pair_intro
  · run_from Cert.KernelBIdeal.Value.run_blocks m g
  · run_from runRef m' g'
    · exact (Cert.NormB.final4 m c).symm
    · exact (Cert.NormB.final5 m c).symm
    · exact (Cert.NormB.final6 m c).symm
    · exact (Cert.NormB.final7 m c).symm

/-- The reference leaves its arguments alone, and declares no counter. -/
theorem frameRef : quiescent_ReferenceBIdeal := fun m g _ =>
  (θ_run Cert.ReferenceBIdeal.defs _ _).mono (fun r h => ⟨fun c => (h c).2.2.2.2, sem_eq_zero_of_no_sems (by decide) r.2⟩)
    (Cert.ReferenceBIdeal.Value.run m g)

end Cert.ClaimB

end
-- ==== Proof.NormC.lean ====
/- The sum of two chips of a pair: this core's half of each slab plus the half that the other core sent. -/
module

public import proofs.«01_k».proof.Proof.Gen.KernelCIdeal.Value
public import proofs.«01_k».proof.Proof.Gen.ReferenceCIdeal.Read
public import proofs.«01_k».proof.Proof.RmsReal
public import Idealize.ShloMosaic.Lib.Pipeline.ValueKit

@[expose] public section

set_option maxRecDepth 65536

noncomputable section

namespace Cert.NormC

open Idealize.ShloMosaic Idealize.ShloMosaic.TcCoe Idealize.SL.Sem
open Idealize.ShloMosaic.Pipeline (Dat)
open Cert.KernelCIdeal Cert.KernelCIdeal.Gen Cert.RealLift
open Cert.ReferenceCIdeal.Read

variable (m : (ℓ : Loc nD τ sig) → Buf (Elt Ideal) ℓ) (c : Dev nD)

theorem idx : ∀ t : Fin cfg0.N, win0_0.index t = ![2 * t.val - t.val % 2, 0] ∧ win0_1.index t = ![2 * t.val - t.val % 2, 0] ∧ win0_2.index t = ![t.val, 0] ∧ win0_3.index t = ![t.val, 0]
    ∧ win0_4.index t = ![t.val, 0] ∧ win0_5.index t = ![t.val, 0] :=
  (by decide +kernel : ∀ t : Fin grid0.N, _)

theorem in0 (t : Fin cfg0.N) (y0 : Fin 176) (y1 : Fin 1024) (hR : 176 * (2 * t.val - t.val % 2) + y0.val < 2816) :
    (show FVec Ideal S176x1024 .bf16 from iblk m c 0 t) (ix2 y0 y1) = m ((c.tc : Thread nD τ).loc main_arg0) (ix2 ⟨176 * (2 * t.val - t.val % 2) + y0.val, hR⟩ y1) := by
  blk_point [iblk, V, idx t]

theorem in1 (t : Fin cfg0.N) (y0 : Fin 64) (y1 : Fin 1024) (hR : 64 * (2 * t.val - t.val % 2) + y0.val < 1024) :
    (show FVec Ideal S64x1024 .bf16 from iblk m c 1 t) (ix2 y0 y1) = m ((c.tc : Thread nD τ).loc main_arg1) (ix2 ⟨64 * (2 * t.val - t.val % 2) + y0.val, hR⟩ y1) := by
  blk_point [iblk, V, idx t]

theorem in2 (t : Fin cfg0.N) (y0 : Fin 176) (y1 : Fin 1024) (hR : 176 * t.val + y0.val < 1408) :
    (show FVec Ideal S176x1024 .bf16 from iblk m c 2 t) (ix2 y0 y1) = m ((c.tc : Thread nD τ).loc main_arg2) (ix2 ⟨176 * t.val + y0.val, hR⟩ y1) := by
  blk_point [iblk, V, idx t]

theorem in3 (t : Fin cfg0.N) (y0 : Fin 64) (y1 : Fin 1024) (hR : 64 * t.val + y0.val < 512) :
    (show FVec Ideal S64x1024 .bf16 from iblk m c 3 t) (ix2 y0 y1) = m ((c.tc : Thread nD τ).loc main_arg3) (ix2 ⟨64 * t.val + y0.val, hR⟩ y1) := by
  blk_point [iblk, V, idx t]

theorem final4 : (dats m 0 c).arrAt 4 (cfgs 0).N = val_main_v7 (F := Ideal) (m ((c.tc : Thread nD τ).loc main_arg0)) (m ((c.tc : Thread nD τ).loc main_arg2)) := by
  refine (dats m 0 c).arrAt_eq_of_covers 4 _ (by decide +kernel) fun t hw y => ?_
  idx_vars y
  blk_simp [idx t]
  have ht : t.val < 8 := lt_of_lt_of_eq t.isLt N_0
  have hr : y0.val < 176 := y0.isLt
  have e2 : ((cfg0.win 4).blk t).view.emb (ix2 y0 y1) = ix2 (⟨176 * t.val + y0.val, by omega⟩ : Fin 1408) y1 := by
    blk_ext [idx t]
  refine Eq.trans ?_ (Eq.symm (congrArg _ e2))
  rw [after0_4]
  frame_out
  show k0_pay1 _ _ (ix2 y0 y1) = _
  pointwise [k0_pay1, val_main_v7, val_main_v6, val_main_v5, val_main_v4, val_main_v3, val_main_v2, val_main_v1, val_main_v0]
  refine congrArg₂ (fun a b : EReal => a + b) ((in0 m c t y0 y1 (by omega)).trans (congrArg _ ?_)) (in2 m c t y0 y1 _)
  congr 1
  apply Fin.ext
  dsimp only
  omega

theorem final5 : (dats m 0 c).arrAt 5 (cfgs 0).N = val_main_v15 (F := Ideal) (m ((c.tc : Thread nD τ).loc main_arg1)) (m ((c.tc : Thread nD τ).loc main_arg3)) := by
  refine (dats m 0 c).arrAt_eq_of_covers 5 _ (by decide +kernel) fun t hw y => ?_
  idx_vars y
  blk_simp [idx t]
  have ht : t.val < 8 := lt_of_lt_of_eq t.isLt N_0
  have hr : y0.val < 64 := y0.isLt
  have e2 : ((cfg0.win 5).blk t).view.emb (ix2 y0 y1) = ix2 (⟨64 * t.val + y0.val, by omega⟩ : Fin 512) y1 := by
    blk_ext [idx t]
  refine Eq.trans ?_ (Eq.symm (congrArg _ e2))
  rw [after0_5]
  frame_out
  show k0_pay2 _ _ (ix2 y0 y1) = _
  pointwise [k0_pay2, val_main_v15, val_main_v14, val_main_v13, val_main_v12, val_main_v11, val_main_v10, val_main_v9, val_main_v8]
  refine congrArg₂ (fun a b : EReal => a + b) ((in1 m c t y0 y1 (by omega)).trans (congrArg _ ?_)) (in3 m c t y0 y1 _)
  congr 1
  apply Fin.ext
  dsimp only
  omega

end Cert.NormC

end
-- ==== Proof.ClaimC.lean ====
/- The value claim of the sum of the two cores' gradients: the two programs, each run to its results, and the results compared. -/
module

public import proofs.«01_k».proof.Defs
public import proofs.«01_k».proof.Proof.NormC
public import proofs.«01_k».proof.Proof.Gen.KernelCIdeal.Value
public import proofs.«01_k».proof.Proof.Gen.ReferenceCIdeal.Run
public import proofs.«01_k».proof.Proof.Gen.ReferenceCIdeal.Read
public import Idealize.ShloMosaic.Lib.Claim
public import Idealize.ShloMosaic.Lib.Quiescent

@[expose] public section

set_option maxRecDepth 16384

noncomputable section

namespace Cert.ClaimC

open Idealize.ShloMosaic Idealize.ShloMosaic.TcCoe Idealize.SL.Sem Cert.RealLift

/-- The reference's run, each result named by the stage that computes it. -/
theorem runRef (m : (ℓ : Loc Cert.ReferenceCIdeal.nD Cert.ReferenceCIdeal.τ Cert.ReferenceCIdeal.sig) → Buf (Elt Ideal) ℓ) (ρ : Dev Cert.ReferenceCIdeal.nD → PrngReg) :
    θ_run Cert.ReferenceCIdeal.defs (onTc (τ := Cert.ReferenceCIdeal.τ) (Cert.ReferenceCIdeal.main (F := Ideal))) ⟨m, fun _ => 0, ρ⟩ fun r => ∀ c : Dev Cert.ReferenceCIdeal.nD,
      r.2.mem ((c.tc : Thread Cert.ReferenceCIdeal.nD Cert.ReferenceCIdeal.τ).loc Cert.ReferenceCIdeal.main_v7) = Cert.ReferenceCIdeal.Read.val_main_v7 (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg2))
      ∧      r.2.mem ((c.tc : Thread Cert.ReferenceCIdeal.nD Cert.ReferenceCIdeal.τ).loc Cert.ReferenceCIdeal.main_v15) = Cert.ReferenceCIdeal.Read.val_main_v15 (F := Ideal) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg3))
      ∧r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0) ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1) ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2) ∧ r.2.mem ((c.tc : Thread Cert.ReferenceCIdeal.nD Cert.ReferenceCIdeal.τ).loc Cert.ReferenceCIdeal.main_arg3) = m ((c.tc : Thread Cert.ReferenceCIdeal.nD Cert.ReferenceCIdeal.τ).loc Cert.ReferenceCIdeal.main_arg3) :=
  (θ_run Cert.ReferenceCIdeal.defs _ _).mono (fun _ h c => ⟨(h c).1.trans (Cert.ReferenceCIdeal.Read.val_main_v7_eq (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg2))),
    (h c).2.1.trans (Cert.ReferenceCIdeal.Read.val_main_v15_eq (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg3))),
    (h c).2.2⟩)
    (Cert.ReferenceCIdeal.Value.run m ρ)

theorem algebraic : algebraic_KernelCIdeal_ReferenceCIdeal := by
  pair_intro
  · run_from Cert.KernelCIdeal.Value.run_blocks m g
  · run_from runRef m' g'
    · exact (Cert.NormC.final4 m c).symm
    · exact (Cert.NormC.final5 m c).symm

/-- The reference leaves its arguments alone, and declares no counter. -/
theorem frameRef : quiescent_ReferenceCIdeal := fun m g _ =>
  (θ_run Cert.ReferenceCIdeal.defs _ _).mono (fun r h => ⟨fun c => (h c).2.2, sem_eq_zero_of_no_sems (by decide) r.2⟩)
    (Cert.ReferenceCIdeal.Value.run m g)

end Cert.ClaimC

end
-- ==== Proof.NormS.lean ====
/- The update of the small parameters: the gradients of all devices summed, the gradient of the softmax of the logits, the optimiser and the loss. -/
module

public import proofs.«01_k».proof.Proof.Gen.KernelSIdeal.Value
public import proofs.«01_k».proof.Proof.Gen.ReferenceSIdeal.Read
public import proofs.«01_k».proof.Proof.RmsReal
public import proofs.«01_k».proof.Proof.AttnModel
public import Idealize.ShloMosaic.Lib.Pipeline.ValueKit

@[expose] public section

set_option maxRecDepth 65536

noncomputable section

namespace Cert.NormS

open Idealize.ShloMosaic Idealize.ShloMosaic.TcCoe Idealize.SL.Sem
open Idealize.ShloMosaic.Pipeline (Dat)
open Cert.KernelSIdeal Cert.KernelSIdeal.Gen Cert.RealLift
open Cert.ReferenceSIdeal.Read

theorem bits_neg_one : Ideal.ofBits .f32 0xBF800000#32 = ((-1 : ℝ) : EReal) := by
  have e1 : (BitVec.extractLsb' 23 8 0xBF800000#32).toNat = 127 := by decide
  have e2 : (BitVec.extractLsb' 0 23 0xBF800000#32).toNat = 0 := by decide
  have e3 : (BitVec.extractLsb' (8 + 23) 1 0xBF800000#32 == 1#1) = true := by decide
  simp only [Ideal.ofBits, Ideal.ieee, e1, e2, e3]
  norm_num

/-! ## Sums down two rows, the second row first -/

section Window

variable (x : FVec Ideal S2x512 .f32) (z : FVec Ideal Cert.ReferenceSIdeal.S_ .f32) (y : Fin 512)

theorem window_zero :
    Host.reduceWindowAdd ![2, 1] ![1, 1] ![0, 0] ![1, 0] x z Cert.ReferenceSIdeal.Gen.reduceWindows_S2x512_S2x512_w2s1p0_1_w1s1p0_0 Cert.ReferenceSIdeal.Gen.h_S_ (ix2 0 y)
      = z (Shape.Idx.first Cert.ReferenceSIdeal.Gen.h_S_) + x (ix2 0 y) + x (ix2 1 y) := by
  have hl : List.finRange (Shape.numel ⟨2, ![2, 1]⟩) = [⟨0, by decide⟩, ⟨1, by decide⟩] := by decide
  unfold Host.reduceWindowAdd
  show Ideal.hostReduceWindowAdd _ _ _ _ _ _ _ _ = _
  unfold Ideal.hostReduceWindowAdd Host.reduceWindow
  dsimp only
  rw [hl]
  have r0 : ∀ h a, ((Shape.rowMajor ⟨2, ![2, 1]⟩).symm ⟨0, h⟩ a).val = 0 := by decide
  have r1 : ∀ h, ((Shape.rowMajor ⟨2, ![2, 1]⟩).symm ⟨1, h⟩ 0).val = 1 := by decide
  have r2 : ∀ h, ((Shape.rowMajor ⟨2, ![2, 1]⟩).symm ⟨1, h⟩ 1).val = 0 := by decide
  have hy := y.isLt
  simp only [List.foldl_cons, List.foldl_nil]
  refine congrArg₂ (· + ·) (congrArg₂ (· + ·) rfl ?_) ?_
  · refine (dif_pos (Fin.forall_fin_two.mpr ⟨?_, ?_⟩)).trans (congrArg x (funext fun a => Fin.ext ?_))
    · show 0 ≤ 0 * 1 + ((Shape.rowMajor ⟨2, ![2, 1]⟩).symm ⟨0, _⟩ 0).val ∧ 0 * 1 + ((Shape.rowMajor ⟨2, ![2, 1]⟩).symm ⟨0, _⟩ 0).val - 0 < 2
      rw [r0]
      omega
    · show 0 ≤ y.val * 1 + ((Shape.rowMajor ⟨2, ![2, 1]⟩).symm ⟨0, _⟩ 1).val ∧ y.val * 1 + ((Shape.rowMajor ⟨2, ![2, 1]⟩).symm ⟨0, _⟩ 1).val - 0 < 512
      rw [r0]
      omega
    · revert a
      refine Fin.forall_fin_two.mpr ⟨?_, ?_⟩
      · show 0 * 1 + ((Shape.rowMajor ⟨2, ![2, 1]⟩).symm ⟨0, _⟩ 0).val - 0 = 0
        rw [r0]
      · show y.val * 1 + ((Shape.rowMajor ⟨2, ![2, 1]⟩).symm ⟨0, _⟩ 1).val - 0 = y.val
        rw [r0]
        omega
  · refine (dif_pos (Fin.forall_fin_two.mpr ⟨?_, ?_⟩)).trans (congrArg x (funext fun a => Fin.ext ?_))
    · show 0 ≤ 0 * 1 + ((Shape.rowMajor ⟨2, ![2, 1]⟩).symm ⟨1, _⟩ 0).val ∧ 0 * 1 + ((Shape.rowMajor ⟨2, ![2, 1]⟩).symm ⟨1, _⟩ 0).val - 0 < 2
      rw [r1]
      omega
    · show 0 ≤ y.val * 1 + ((Shape.rowMajor ⟨2, ![2, 1]⟩).symm ⟨1, _⟩ 1).val ∧ y.val * 1 + ((Shape.rowMajor ⟨2, ![2, 1]⟩).symm ⟨1, _⟩ 1).val - 0 < 512
      rw [r2]
      omega
    · revert a
      refine Fin.forall_fin_two.mpr ⟨?_, ?_⟩
      · show 0 * 1 + ((Shape.rowMajor ⟨2, ![2, 1]⟩).symm ⟨1, _⟩ 0).val - 0 = 1
        rw [r1]
      · show y.val * 1 + ((Shape.rowMajor ⟨2, ![2, 1]⟩).symm ⟨1, _⟩ 1).val - 0 = y.val
        rw [r2]
        omega

theorem window_one :
    Host.reduceWindowAdd ![2, 1] ![1, 1] ![0, 0] ![1, 0] x z Cert.ReferenceSIdeal.Gen.reduceWindows_S2x512_S2x512_w2s1p0_1_w1s1p0_0 Cert.ReferenceSIdeal.Gen.h_S_ (ix2 1 y)
      = z (Shape.Idx.first Cert.ReferenceSIdeal.Gen.h_S_) + x (ix2 1 y) + z (Shape.Idx.first Cert.ReferenceSIdeal.Gen.h_S_) := by
  have hl : List.finRange (Shape.numel ⟨2, ![2, 1]⟩) = [⟨0, by decide⟩, ⟨1, by decide⟩] := by decide
  unfold Host.reduceWindowAdd
  show Ideal.hostReduceWindowAdd _ _ _ _ _ _ _ _ = _
  unfold Ideal.hostReduceWindowAdd Host.reduceWindow
  dsimp only
  rw [hl]
  have r0 : ∀ h a, ((Shape.rowMajor ⟨2, ![2, 1]⟩).symm ⟨0, h⟩ a).val = 0 := by decide
  have r1 : ∀ h, ((Shape.rowMajor ⟨2, ![2, 1]⟩).symm ⟨1, h⟩ 0).val = 1 := by decide
  have hy := y.isLt
  simp only [List.foldl_cons, List.foldl_nil]
  refine congrArg₂ (· + ·) (congrArg₂ (· + ·) rfl ?_) (dif_neg fun h => ?_)
  · refine (dif_pos (Fin.forall_fin_two.mpr ⟨?_, ?_⟩)).trans (congrArg x (funext fun a => Fin.ext ?_))
    · show 0 ≤ 1 * 1 + ((Shape.rowMajor ⟨2, ![2, 1]⟩).symm ⟨0, _⟩ 0).val ∧ 1 * 1 + ((Shape.rowMajor ⟨2, ![2, 1]⟩).symm ⟨0, _⟩ 0).val - 0 < 2
      rw [r0]
      omega
    · show 0 ≤ y.val * 1 + ((Shape.rowMajor ⟨2, ![2, 1]⟩).symm ⟨0, _⟩ 1).val ∧ y.val * 1 + ((Shape.rowMajor ⟨2, ![2, 1]⟩).symm ⟨0, _⟩ 1).val - 0 < 512
      rw [r0]
      omega
    · revert a
      refine Fin.forall_fin_two.mpr ⟨?_, ?_⟩
      · show 1 * 1 + ((Shape.rowMajor ⟨2, ![2, 1]⟩).symm ⟨0, _⟩ 0).val - 0 = 1
        rw [r0]
      · show y.val * 1 + ((Shape.rowMajor ⟨2, ![2, 1]⟩).symm ⟨0, _⟩ 1).val - 0 = y.val
        rw [r0]
        omega
  · have h0 : 1 * 1 + ((Shape.rowMajor ⟨2, ![2, 1]⟩).symm ⟨1, _⟩ 0).val - 0 < 2 := (h 0).2
    rw [r1] at h0
    omega

end Window

/-! ## The gradient of the softmax of two logits -/

/-- Its two rows over the reals: `D` is the cotangent of the first probability, `a` and `b` the logits, `M` any real. -/
theorem grad_zero (D a b M : ℝ) :
    (Ideal.div (D : EReal) (Ideal.exp ((a : EReal) - (M : EReal)) + Ideal.exp ((b : EReal) - (M : EReal)))
        + -((D : EReal) * Ideal.div 1 ((Ideal.exp ((a : EReal) - (M : EReal)) + Ideal.exp ((b : EReal) - (M : EReal))) * (Ideal.exp ((a : EReal) - (M : EReal)) + Ideal.exp ((b : EReal) - (M : EReal)))) * Ideal.exp ((a : EReal) - (M : EReal))
            + 0 * Ideal.div 1 ((Ideal.exp ((a : EReal) - (M : EReal)) + Ideal.exp ((b : EReal) - (M : EReal))) * (Ideal.exp ((a : EReal) - (M : EReal)) + Ideal.exp ((b : EReal) - (M : EReal)))) * Ideal.exp ((b : EReal) - (M : EReal))))
        * Ideal.exp ((a : EReal) - (M : EReal))
      = (D : EReal) * Ideal.div 1 (1 + Ideal.exp (0 - ((a : EReal) - (b : EReal)))) * (1 - Ideal.div 1 (1 + Ideal.exp (0 - ((a : EReal) - (b : EReal))))) := by
  have h1 : Real.exp (a - M) + Real.exp (b - M) ≠ 0 := by positivity
  have h2 : 1 + Real.exp (-(a - b)) ≠ 0 := by positivity
  have h3 : (Real.exp (a - M) + Real.exp (b - M)) * (Real.exp (a - M) + Real.exp (b - M)) ≠ 0 := mul_ne_zero h1 h1
  simp only [zero_sub, ← EReal.coe_sub, ← EReal.coe_neg, Ideal.exp_coe, ← EReal.coe_add, ← EReal.coe_one, ← EReal.coe_zero, ← EReal.coe_mul, coe_div _ h1, coe_div _ h2, coe_div _ h3]
  congr 1
  have e : Real.exp (-(a - b)) = Real.exp (b - M) / Real.exp (a - M) := by
    rw [← Real.exp_sub]
    congr 1
    ring
  have h4 := (Real.exp_pos (a - M)).ne'
  rw [e]
  rw [e] at h2
  generalize Real.exp (a - M) = A at *
  generalize Real.exp (b - M) = B at *
  have e2 : 1 + B / A = (A + B) / A := by field_simp
  rw [e2]
  field_simp
  ring

theorem grad_one (D a b M : ℝ) :
    (Ideal.div (0 : EReal) (Ideal.exp ((a : EReal) - (M : EReal)) + Ideal.exp ((b : EReal) - (M : EReal)))
        + -((D : EReal) * Ideal.div 1 ((Ideal.exp ((a : EReal) - (M : EReal)) + Ideal.exp ((b : EReal) - (M : EReal))) * (Ideal.exp ((a : EReal) - (M : EReal)) + Ideal.exp ((b : EReal) - (M : EReal)))) * Ideal.exp ((a : EReal) - (M : EReal))
            + 0 * Ideal.div 1 ((Ideal.exp ((a : EReal) - (M : EReal)) + Ideal.exp ((b : EReal) - (M : EReal))) * (Ideal.exp ((a : EReal) - (M : EReal)) + Ideal.exp ((b : EReal) - (M : EReal)))) * Ideal.exp ((b : EReal) - (M : EReal))))
        * Ideal.exp ((b : EReal) - (M : EReal))
      = ((-1 : ℝ) : EReal) * (D : EReal) * Ideal.div 1 (1 + Ideal.exp (0 - ((b : EReal) - (a : EReal)))) * (1 - Ideal.div 1 (1 + Ideal.exp (0 - ((b : EReal) - (a : EReal))))) := by
  have h1 : Real.exp (a - M) + Real.exp (b - M) ≠ 0 := by positivity
  have h2 : 1 + Real.exp (-(b - a)) ≠ 0 := by positivity
  have h3 : (Real.exp (a - M) + Real.exp (b - M)) * (Real.exp (a - M) + Real.exp (b - M)) ≠ 0 := mul_ne_zero h1 h1
  simp only [zero_sub, ← EReal.coe_sub, ← EReal.coe_neg, Ideal.exp_coe, ← EReal.coe_add, ← EReal.coe_one, ← EReal.coe_zero, ← EReal.coe_mul, coe_div _ h1, coe_div _ h2, coe_div _ h3]
  congr 1
  have e : Real.exp (-(b - a)) = Real.exp (a - M) / Real.exp (b - M) := by
    rw [← Real.exp_sub]
    congr 1
    ring
  have h4 := (Real.exp_pos (b - M)).ne'
  rw [e]
  rw [e] at h2
  generalize Real.exp (a - M) = A at *
  generalize Real.exp (b - M) = B at *
  have e2 : 1 + A / B = (A + B) / B := by field_simp; ring
  rw [e2]
  field_simp
  ring

/-! ## The reference at an index -/

section Ref

variable (x0 : FVec Ideal S8x24x128 .f32) (x1 : FVec Ideal S8x512 .f32) (x2 : FVec Ideal S8x128x128 .f32) (x4 : FVec Ideal S2x512 .f32)

theorem v35_zero (y : Fin 512) : val_main_v35 (F := Ideal) x1 (ix2 0 y) = ∑ d, x1 (ix2 d y) := by
  unfold val_main_v35
  rw [window_zero]
  pointwise [val_main_v34, val_main_v33, val_main_v32, val_main_cst_11, val_main_cst_12, val_main_call1_call0_v0, val_main_call1_call0_cst]
  trace_state
  try simp

theorem v35_one (y : Fin 512) : val_main_v35 (F := Ideal) x1 (ix2 1 y) = 0 := by
  unfold val_main_v35
  rw [window_one]
  pointwise [val_main_v34, val_main_v33, val_main_v32, val_main_cst_11, val_main_cst_12, val_main_call1_call0_v0, val_main_call1_call0_cst]
  trace_state
  try simp

/-- The largest of two logits, a real number. -/
theorem max_real (y : Fin 512) (h0 : IsR (x4 (ix2 0 y))) (h1 : IsR (x4 (ix2 1 y))) :
    (max (Ideal.ofBits FTy.f32 4286578688#32) (Finset.fold max (Ideal.ofBits FTy.f32 4286578688#32) (fun i => x4 (ix2 i y)) Finset.univ) : EReal)
      = ((max (EReal.toReal (x4 (ix2 0 y))) (EReal.toReal (x4 (ix2 1 y))) : ℝ) : EReal) := by
  rw [show Ideal.ofBits FTy.f32 4286578688#32 = ⊥ from Cert.AttnModel.bits_bot]
  rw [show (Finset.univ : Finset (Fin 2)) = {0, 1} from rfl]
  rw [Finset.fold_insert (by decide), Finset.fold_singleton]
  rw [EReal.coe_strictMono.monotone.map_max, ← show x4 (ix2 0 y) = _ from h0, ← show x4 (ix2 1 y) = _ from h1]
  simp

theorem v47_zero (y : Fin 512) (h0 : IsR (x4 (ix2 0 y))) (h1 : IsR (x4 (ix2 1 y))) (hd : ∀ d, IsR (x1 (ix2 d y))) :
    val_main_v47 (F := Ideal) x1 x4 (ix2 0 y) = (∑ d, x1 (ix2 d y)) * Ideal.div 1 (1 + Ideal.exp (0 - ((x4 (ix2 0 y) : EReal) - x4 (ix2 1 y))))
      * (1 - Ideal.div 1 (1 + Ideal.exp (0 - ((x4 (ix2 0 y) : EReal) - x4 (ix2 1 y))))) := by
  pointwise [val_main_v47, val_main_v46, val_main_v45, val_main_v44, val_main_v43, val_main_v42, val_main_v41, val_main_v40, val_main_v39, val_main_v38, val_main_v37, val_main_v36, val_main_v29, val_main_v28, val_main_v27, val_main_v24, val_main_v25, val_main_cst_10, val_main_cst_13, val_main_cst_14, val_main_v22, val_main_v23, val_main_v21, val_main_v20, val_main_v19, val_main_v9, val_main_v8, val_main_v2, val_main_cst_1, val_main_cst_3, val_main_cst_9]
  rw [max_real x4 y h0 h1]
  simp only [Fin.sum_univ_two, Fin.sum_univ_one, v35_zero, v35_one]
  rw [h0, h1, IsR.sum _ hd]
  exact grad_zero _ _ _ _

theorem v47_one (y : Fin 512) (h0 : IsR (x4 (ix2 0 y))) (h1 : IsR (x4 (ix2 1 y))) (hd : ∀ d, IsR (x1 (ix2 d y))) :
    val_main_v47 (F := Ideal) x1 x4 (ix2 1 y) = Ideal.ofBits .f32 0xBF800000#32 * (∑ d, x1 (ix2 d y)) * Ideal.div 1 (1 + Ideal.exp (0 - ((x4 (ix2 1 y) : EReal) - x4 (ix2 0 y))))
      * (1 - Ideal.div 1 (1 + Ideal.exp (0 - ((x4 (ix2 1 y) : EReal) - x4 (ix2 0 y))))) := by
  pointwise [val_main_v47, val_main_v46, val_main_v45, val_main_v44, val_main_v43, val_main_v42, val_main_v41, val_main_v40, val_main_v39, val_main_v38, val_main_v37, val_main_v36, val_main_v29, val_main_v28, val_main_v27, val_main_v24, val_main_v25, val_main_cst_10, val_main_cst_13, val_main_cst_14, val_main_v22, val_main_v23, val_main_v21, val_main_v20, val_main_v19, val_main_v9, val_main_v8, val_main_v2, val_main_cst_1, val_main_cst_3, val_main_cst_9]
  rw [max_real x4 y h0 h1]
  simp only [Fin.sum_univ_two, Fin.sum_univ_one, v35_zero, v35_one]
  rw [h0, h1, IsR.sum _ hd, bits_neg_one]
  exact grad_one _ _ _ _

end Ref

/-! ## The packed gradients -/

section Packed

variable (x0 : FVec Ideal S8x24x128 .f32) (x1 : FVec Ideal S8x512 .f32) (x2 : FVec Ideal S8x128x128 .f32)

/-- The gradients of all devices as the kernel finds them packed. -/
def packed : FVec Ideal S8x160x128 .f32 :=
  concatenate S8x160x128 1 [⟨S8x24x128, x0⟩, ⟨S8x4x128, shapeCast S8x4x128 x1 shapeCasts_S8x512_S8x4x128⟩,
    ⟨S8x4x128, broadcastInDim S8x4x128 ![] bcast_S_S8x4x128 (constant S_ .f32 0x00000000#32)⟩, ⟨S8x128x128, x2⟩] concatenates_S8x24x128_S8x4x128_S8x4x128_S8x128x128_S8x160x128_d1

theorem packed_a (d : Fin 8) (r : Fin 160) (l : Fin 128) (h : r.val < 24) : packed x0 x1 x2 (ix3 d r l) = x0 (ix3 d ⟨r.val, h⟩ l) := by
  pointwise [packed]
  rw [dif_pos h]

theorem packed_l (d : Fin 8) (r : Fin 160) (l : Fin 128) (h1 : 24 ≤ r.val) (h2 : r.val < 28) :
    packed x0 x1 x2 (ix3 d r l) = x1 (ix2 d ⟨(r.val - 24) * 128 + l.val, by omega⟩) := by
  have a : ¬ r.val < 24 := by omega
  have b : r.val - 24 < 4 := by omega
  pointwise [packed]
  rw [dif_neg a, dif_pos b]

theorem packed_z (d : Fin 8) (r : Fin 160) (l : Fin 128) (h1 : 28 ≤ r.val) (h2 : r.val < 32) : packed x0 x1 x2 (ix3 d r l) = 0 := by
  have a : ¬ r.val < 24 := by omega
  have b : ¬ r.val - 24 < 4 := by omega
  have e : r.val - 24 - 4 < 4 := by omega
  pointwise [packed]
  rw [dif_neg a, dif_neg b, dif_pos e]

theorem packed_b (d : Fin 8) (r : Fin 160) (l : Fin 128) (h : 32 ≤ r.val) : packed x0 x1 x2 (ix3 d r l) = x2 (ix3 d ⟨r.val - 24 - 4 - 4, by omega⟩ l) := by
  have a : ¬ r.val < 24 := by omega
  have b : ¬ r.val - 24 < 4 := by omega
  have e : ¬ r.val - 24 - 4 < 4 := by omega
  pointwise [packed]
  rw [dif_neg a, dif_neg b, dif_neg e]

end Packed

/-! ## The two gradients compared -/

section Key

variable (x0 : FVec Ideal S8x24x128 .f32) (x1 : FVec Ideal S8x512 .f32) (x2 : FVec Ideal S8x128x128 .f32) (x4 : FVec Ideal S2x512 .f32)
  (v : FVec Ideal S160x128 .f32) (w : FVec Ideal S8x128 .f32)

set_option maxHeartbeats 2000000 in
theorem key (hv : ∀ r l, v (ix2 r l) = ∑ d, packed x0 x1 x2 (ix3 d r l))
    (hw : ∀ (k : Fin 8) (l : Fin 128), w (ix2 k l) = x4 (ix2 ⟨k.val / 4, by omega⟩ ⟨k.val % 4 * 128 + l.val, by omega⟩))
    (h4 : ∀ i, IsR (x4 i)) (h1 : ∀ i, IsR (x1 i)) (r : Fin 160) (l : Fin 128) :
    k0_pay5 (F := Ideal) v w (ix2 r l) = val_main_v51 (F := Ideal) x0 x1 x2 x4 (ix2 r l) := by
  have hl := l.isLt
  have hr := r.isLt
  pointwise [k0_pay5, val_main_v51, val_main_v50, val_main_v0, val_main_cst, val_main_v1, val_main_cst_0]
  have vl : ∀ q : Fin 160, (p1 : 24 ≤ q.val) → (p2 : q.val < 28) → v (ix2 q l) = ∑ d, x1 (ix2 d ⟨(q.val - 24) * 128 + l.val, by omega⟩) := fun q p1 p2 =>
    (hv q l).trans (Finset.sum_congr rfl fun d _ => packed_l x0 x1 x2 d q l p1 p2)
  have vz : ∀ q : Fin 160, 28 ≤ q.val → q.val < 32 → v (ix2 q l) = 0 := fun q p1 p2 =>
    (hv q l).trans ((Finset.sum_congr rfl fun d _ => packed_z x0 x1 x2 d q l p1 p2).trans Finset.sum_const_zero)
  by_cases a : r.val < 24
  · rw [dif_pos a, dif_pos a, hv]
    exact Finset.sum_congr rfl fun d _ => packed_a x0 x1 x2 d r l a
  rw [dif_neg a, dif_neg a]
  by_cases b : r.val - 24 < 8
  · rw [dif_pos b, dif_pos b]
    by_cases e : r.val - 24 < 4
    · have ec : IntOp.cmpi CmpIPredicate.slt (BitVec.ofNat 32 (r.val - 24)) 4#32 = 1#1 := by
        generalize r.val - 24 = k at e
        interval_cases k <;> rfl
      have q0 : (⟨(r.val - 24) / 4, by omega⟩ : Fin 2) = 0 := Fin.ext (show (r.val - 24) / 4 = 0 by omega)
      have q1 : ∀ p, (⟨(r.val - 24 + 8 - 4) % 8 / 4, p⟩ : Fin 2) = 1 := fun p => Fin.ext (show (r.val - 24 + 8 - 4) % 8 / 4 = 1 by omega)
      have q2 : ∀ p, (⟨(r.val - 24 + 8 - 4) % 8 % 4 * 128 + l.val, p⟩ : Fin 512) = ⟨(r.val - 24) % 4 * 128 + l.val, by omega⟩ := fun p => Fin.ext (show (r.val - 24 + 8 - 4) % 8 % 4 * 128 + l.val = (r.val - 24) % 4 * 128 + l.val by omega)
      have q3 : ∀ p, (⟨(24 + (r.val - 24) - 24) * 128 + l.val, p⟩ : Fin 512) = ⟨(r.val - 24) % 4 * 128 + l.val, by omega⟩ := fun p => Fin.ext (show (24 + (r.val - 24) - 24) * 128 + l.val = (r.val - 24) % 4 * 128 + l.val by omega)
      refine Eq.trans ?_ (Eq.symm ((congrArg (fun q => val_main_v47 (F := Ideal) x1 x4 (ix2 q ⟨(r.val - 24) % 4 * 128 + l.val, by omega⟩)) q0).trans (v47_zero x1 x4 ⟨(r.val - 24) % 4 * 128 + l.val, by omega⟩ (h4 _) (h4 _) (fun d => h1 _))))
      rw [ec, hw, hw, vl ⟨24 + (r.val - 24), by omega⟩ (show 24 ≤ 24 + (r.val - 24) by omega) (show 24 + (r.val - 24) < 28 by omega), vz ⟨24 + (r.val - 24 + 8 - 4) % 8, by omega⟩ (show 28 ≤ 24 + (r.val - 24 + 8 - 4) % 8 by omega) (show 24 + (r.val - 24 + 8 - 4) % 8 < 32 by omega)]
      simp only [q0, q1, q2]
      simp only [q3]
      rw [add_zero, show ∀ u v : EReal, Scalar.select (1#1) u v = u from fun _ _ => rfl, one_mul]
    · have ec : IntOp.cmpi CmpIPredicate.slt (BitVec.ofNat 32 (r.val - 24)) 4#32 = 0#1 := by
        generalize r.val - 24 = k at e b
        interval_cases k <;> first | rfl | omega
      have q0 : ∀ p, (⟨(r.val - 24) / 4, p⟩ : Fin 2) = 1 := fun p => Fin.ext (show (r.val - 24) / 4 = 1 by omega)
      have q1 : ∀ p, (⟨(r.val - 24 + 8 - 4) % 8 / 4, p⟩ : Fin 2) = 0 := fun p => Fin.ext (show (r.val - 24 + 8 - 4) % 8 / 4 = 0 by omega)
      have q2 : ∀ p, (⟨(r.val - 24 + 8 - 4) % 8 % 4 * 128 + l.val, p⟩ : Fin 512) = ⟨(r.val - 24) % 4 * 128 + l.val, by omega⟩ := fun p => Fin.ext (show (r.val - 24 + 8 - 4) % 8 % 4 * 128 + l.val = (r.val - 24) % 4 * 128 + l.val by omega)
      have q3 : ∀ p, (⟨(24 + (r.val - 24 + 8 - 4) % 8 - 24) * 128 + l.val, p⟩ : Fin 512) = ⟨(r.val - 24) % 4 * 128 + l.val, by omega⟩ := fun p => Fin.ext (show (24 + (r.val - 24 + 8 - 4) % 8 - 24) * 128 + l.val = (r.val - 24) % 4 * 128 + l.val by omega)
      refine Eq.trans ?_ (Eq.symm ((congrArg (fun q => val_main_v47 (F := Ideal) x1 x4 (ix2 q ⟨(r.val - 24) % 4 * 128 + l.val, by omega⟩)) (q0 (by omega))).trans (v47_one x1 x4 ⟨(r.val - 24) % 4 * 128 + l.val, by omega⟩ (h4 _) (h4 _) (fun d => h1 _))))
      rw [ec, hw, hw, vz ⟨24 + (r.val - 24), by omega⟩ (show 28 ≤ 24 + (r.val - 24) by omega) (show 24 + (r.val - 24) < 32 by omega), vl ⟨24 + (r.val - 24 + 8 - 4) % 8, by omega⟩ (show 24 ≤ 24 + (r.val - 24 + 8 - 4) % 8 by omega) (show 24 + (r.val - 24 + 8 - 4) % 8 < 28 by omega)]
      simp only [q0, q1, q2]
      simp only [q3]
      rw [zero_add, show ∀ u v : EReal, Scalar.select (0#1) u v = v from fun _ _ => rfl]
  · rw [dif_neg b, dif_neg b, hv]
    refine Finset.sum_congr rfl fun d _ => (packed_b x0 x1 x2 d _ l (show 32 ≤ 32 + (r.val - 24 - 8) by omega)).trans (congrArg x2 ?_)
    exact congrArg (fun q => ix3 d q l) (Fin.ext (show 32 + (r.val - 24 - 8) - 24 - 4 - 4 = r.val - 24 - 8 by omega))

end Key

/-! ## The kernel's arrays -/

variable (m : (ℓ : Loc nD τ sig) → Buf (Elt Ideal) ℓ) (c : Dev nD)

theorem idx : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

theorem in0 (t : Fin cfg0.N) (d : Fin 8) (r : Fin 160) (l : Fin 128) :
    (show FVec Ideal S8x160x128 .f32 from iblk m c 0 t) (ix3 d r l)
      = packed (m ((c.tc : Thread nD τ).loc main_arg0)) (m ((c.tc : Thread nD τ).loc main_arg1)) (m ((c.tc : Thread nD τ).loc main_arg2)) (ix3 d r l) := by
  refine Eq.trans (b := V m c main_v2 (((cfg0.win 0).blk t).view.emb (ix3 d r l))) rfl ?_
  have e : ((cfg0.win 0).blk t).view.emb (ix3 d r l) = ix3 d r l := by blk_ext [idx t]
  rw [e]
  rfl

theorem inO (t : Fin cfg0.N) (y0 : Fin 160) (y1 : Fin 128) :
    (show FVec Ideal S160x128 .f32 from iblk m c 1 t) (ix2 y0 y1) = val_main_v53 (F := Ideal) (m ((c.tc : Thread nD τ).loc main_arg3)) (m ((c.tc : Thread nD τ).loc main_arg4)) (m ((c.tc : Thread nD τ).loc main_arg5)) (ix2 y0 y1) := by
  blk_point [iblk, V, idx t]

theorem in2 (t : Fin cfg0.N) (y0 : Fin 160) (y1 : Fin 128) :
    (show FVec Ideal S160x128 .f32 from iblk m c 2 t) (ix2 y0 y1) = m ((c.tc : Thread nD τ).loc main_arg6) (ix2 y0 y1) := by
  blk_point [iblk, V, idx t]

theorem in3 (t : Fin cfg0.N) (y0 : Fin 160) (y1 : Fin 128) :
    (show FVec Ideal S160x128 .f32 from iblk m c 3 t) (ix2 y0 y1) = m ((c.tc : Thread nD τ).loc main_arg7) (ix2 y0 y1) := by
  blk_point [iblk, V, idx t]

theorem rd0 (t : Fin cfg0.N) (i : S8x160x128.Idx) :
    View.read (Elt Ideal) (View.whole cc0_stg0_0) ((hs0_0 t).unread (iblk m c 0 t)) i = (show FVec Ideal S8x160x128 .f32 from iblk m c 0 t) i :=
  congrFun (Memref.IsWhole.read_unread _ _) _

theorem rd1 (t : Fin cfg0.N) (i : S160x128.Idx) :
    View.read (Elt Ideal) (View.whole cc0_stg1_0) ((hs0_1 t).unread (iblk m c 1 t)) i = (show FVec Ideal S160x128 .f32 from iblk m c 1 t) i :=
  congrFun (Memref.IsWhole.read_unread _ _) _

theorem rd2 (t : Fin cfg0.N) (i : S160x128.Idx) :
    View.read (Elt Ideal) (View.whole cc0_stg2_0) ((hs0_2 t).unread (iblk m c 2 t)) i = (show FVec Ideal S160x128 .f32 from iblk m c 2 t) i :=
  congrFun (Memref.IsWhole.read_unread _ _) _

theorem rd3 (t : Fin cfg0.N) (i : S160x128.Idx) :
    View.read (Elt Ideal) (View.whole cc0_stg3_0) ((hs0_3 t).unread (iblk m c 3 t)) i = (show FVec Ideal S160x128 .f32 from iblk m c 3 t) i :=
  congrFun (Memref.IsWhole.read_unread _ _) _

/-- The logits' rows of the packed weights. -/
theorem packed_logits (t : Fin cfg0.N) (k : Fin 8) (l : Fin 128) :
    (show FVec Ideal S160x128 .f32 from iblk m c 1 t) (ix2 ⟨24 + k.val, by omega⟩ l) = m ((c.tc : Thread nD τ).loc main_arg4) (ix2 ⟨k.val / 4, by omega⟩ ⟨k.val % 4 * 128 + l.val, by omega⟩) := by
  rw [inO]
  have hk := k.isLt
  pointwise [val_main_v53, val_main_v52]

theorem pay7_eq (v22 : FVec Ideal S160x128 .f32) (v31 : Vec Ideal S8x128 .f32) (v62 : Vec Ideal S160x128 .f32) :
    k0_pay7 (F := Ideal) v22 v31 v62 = addf (mulf (broadcast S160x128 (Scalar.ofBits .f32 0x3F666666#32)) v62) (mulf (broadcast S160x128 (Scalar.ofBits .f32 0x3DCCCCCD#32)) (k0_pay5 v22 v31)) := rfl

/-- The arguments the gradient of the logits reads hold real numbers. -/
structure Real : Prop where
  h1 : ∀ i, IsR (m ((c.tc : Thread nD τ).loc main_arg1) i)
  h4 : ∀ i, IsR (m ((c.tc : Thread nD τ).loc main_arg4) i)

theorem final4 (H : Real m c) : (dats m 0 c).arrAt 4 (cfgs 0).N = val_main_v51 (F := Ideal) (m ((c.tc : Thread nD τ).loc main_arg0)) (m ((c.tc : Thread nD τ).loc main_arg1)) (m ((c.tc : Thread nD τ).loc main_arg2)) (m ((c.tc : Thread nD τ).loc main_arg4)) := by
  refine (dats m 0 c).arrAt_eq_of_covers 4 _ (by decide +kernel) fun t hw y => ?_
  idx_vars y
  blk_simp [idx t]
  have e2 : ((cfg0.win 4).blk t).view.emb (ix2 y0 y1) = ix2 y0 y1 := by
    blk_ext [idx t]
  refine Eq.trans ?_ (Eq.symm (congrArg _ e2))
  rw [after0_4]
  simp only [outsAt0]
  frame_out
  generalize hG : k0_pay5 (F := Ideal) _ _ = G
  have hg : ∀ r l, G (ix2 r l) = val_main_v51 (F := Ideal) (m ((c.tc : Thread nD τ).loc main_arg0)) (m ((c.tc : Thread nD τ).loc main_arg1)) (m ((c.tc : Thread nD τ).loc main_arg2)) (m ((c.tc : Thread nD τ).loc main_arg4)) (ix2 r l) := by
    intro r l
    rw [← hG]
    refine key _ _ _ _ _ _ (fun r l => ?_) (fun k l => ?_) H.h4 H.h1 r l
    · pointwise [k0_pay3]
      simp only [rd0, in0, Fin.sum_univ_eight]
    · refine Eq.trans ?_ (packed_logits m c t k l)
      pointwise []
      exact rd1 m c t _
  exact hg y0 y1

theorem final5 (H : Real m c) : (dats m 0 c).arrAt 5 (cfgs 0).N = val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 5 _ (by decide +kernel) fun t hw y => ?_
  idx_vars y
  blk_simp [idx t]
  have e2 : ((cfg0.win 5).blk t).view.emb (ix2 y0 y1) = ix2 y0 y1 := by
    blk_ext [idx t]
  refine Eq.trans ?_ (Eq.symm (congrArg _ e2))
  rw [after0_5]
  simp only [outsAt0]
  frame_out
  rw [pay7_eq]
  generalize hG : k0_pay5 (F := Ideal) _ _ = G
  have hg : ∀ r l, G (ix2 r l) = val_main_v51 (F := Ideal) (m ((c.tc : Thread nD τ).loc main_arg0)) (m ((c.tc : Thread nD τ).loc main_arg1)) (m ((c.tc : Thread nD τ).loc main_arg2)) (m ((c.tc : Thread nD τ).loc main_arg4)) (ix2 r l) := by
    intro r l
    rw [← hG]
    refine key _ _ _ _ _ _ (fun r l => ?_) (fun k l => ?_) H.h4 H.h1 r l
    · pointwise [k0_pay3]
      simp only [rd0, in0, Fin.sum_univ_eight]
    · refine Eq.trans ?_ (packed_logits m c t k l)
      pointwise []
      exact rd1 m c t _
  pointwise [k0_pay1, k0_pay2, k0_pay6, val_main_cst_16, val_main_v54, val_main_v55, val_main_cst_17, val_main_v56, val_main_v57, val_main_v58, val_main_cst_18, val_main_v59, val_main_v60, val_main_v61, val_main_cst_19, val_main_v62, val_main_v63, val_main_v64, val_main_cst_20, val_main_v65, val_main_v66, val_main_cst_21, val_main_v67, val_main_v68, val_main_v69, val_main_cst_22, val_main_v70, val_main_v71, val_main_v72, val_main_cst_23, val_main_v73, val_main_v74, val_main_v75, val_main_cst_24, val_main_v76, val_main_v77]
  simp only [rd1, rd2, rd3, inO, in2, in3, hg]

theorem final6 (H : Real m c) : (dats m 0 c).arrAt 6 (cfgs 0).N = val_main_v58 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) := by
  refine (dats m 0 c).arrAt_eq_of_covers 6 _ (by decide +kernel) fun t hw y => ?_
  idx_vars y
  blk_simp [idx t]
  have e2 : ((cfg0.win 6).blk t).view.emb (ix2 y0 y1) = ix2 y0 y1 := by
    blk_ext [idx t]
  refine Eq.trans ?_ (Eq.symm (congrArg _ e2))
  rw [after0_6]
  simp only [outsAt0]
  frame_out
  rw [pay7_eq]
  generalize hG : k0_pay5 (F := Ideal) _ _ = G
  have hg : ∀ r l, G (ix2 r l) = val_main_v51 (F := Ideal) (m ((c.tc : Thread nD τ).loc main_arg0)) (m ((c.tc : Thread nD τ).loc main_arg1)) (m ((c.tc : Thread nD τ).loc main_arg2)) (m ((c.tc : Thread nD τ).loc main_arg4)) (ix2 r l) := by
    intro r l
    rw [← hG]
    refine key _ _ _ _ _ _ (fun r l => ?_) (fun k l => ?_) H.h4 H.h1 r l
    · pointwise [k0_pay3]
      simp only [rd0, in0, Fin.sum_univ_eight]
    · refine Eq.trans ?_ (packed_logits m c t k l)
      pointwise []
      exact rd1 m c t _
  pointwise [val_main_cst_16, val_main_v54, val_main_v55, val_main_cst_17, val_main_v56, val_main_v57, val_main_v58, val_main_cst_18, val_main_v59, val_main_v60, val_main_v61, val_main_cst_19, val_main_v62, val_main_v63, val_main_v64, val_main_cst_20, val_main_v65, val_main_v66, val_main_cst_21, val_main_v67, val_main_v68, val_main_v69, val_main_cst_22, val_main_v70, val_main_v71, val_main_v72, val_main_cst_23, val_main_v73, val_main_v74, val_main_v75, val_main_cst_24, val_main_v76, val_main_v77]
  simp only [rd1, rd2, rd3, inO, in2, in3, hg]

theorem final7 (H : Real m c) : (dats m 0 c).arrAt 7 (cfgs 0).N = val_main_v64 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg7)) := by
  refine (dats m 0 c).arrAt_eq_of_covers 7 _ (by decide +kernel) fun t hw y => ?_
  idx_vars y
  blk_simp [idx t]
  have e2 : ((cfg0.win 7).blk t).view.emb (ix2 y0 y1) = ix2 y0 y1 := by
    blk_ext [idx t]
  refine Eq.trans ?_ (Eq.symm (congrArg _ e2))
  rw [after0_7]
  simp only [outsAt0]
  frame_out
  generalize hG : k0_pay5 (F := Ideal) _ _ = G
  have hg : ∀ r l, G (ix2 r l) = val_main_v51 (F := Ideal) (m ((c.tc : Thread nD τ).loc main_arg0)) (m ((c.tc : Thread nD τ).loc main_arg1)) (m ((c.tc : Thread nD τ).loc main_arg2)) (m ((c.tc : Thread nD τ).loc main_arg4)) (ix2 r l) := by
    intro r l
    rw [← hG]
    refine key _ _ _ _ _ _ (fun r l => ?_) (fun k l => ?_) H.h4 H.h1 r l
    · pointwise [k0_pay3]
      simp only [rd0, in0, Fin.sum_univ_eight]
    · refine Eq.trans ?_ (packed_logits m c t k l)
      pointwise []
      exact rd1 m c t _
  pointwise [k0_pay1, val_main_cst_16, val_main_v54, val_main_v55, val_main_cst_17, val_main_v56, val_main_v57, val_main_v58, val_main_cst_18, val_main_v59, val_main_v60, val_main_v61, val_main_cst_19, val_main_v62, val_main_v63, val_main_v64, val_main_cst_20, val_main_v65, val_main_v66, val_main_cst_21, val_main_v67, val_main_v68, val_main_v69, val_main_cst_22, val_main_v70, val_main_v71, val_main_v72, val_main_cst_23, val_main_v73, val_main_v74, val_main_v75, val_main_cst_24, val_main_v76, val_main_v77]
  simp only [rd1, rd2, rd3, inO, in2, in3, hg]

theorem final8 : (dats m 0 c).arrAt 8 (cfgs 0).N = val_main_v78 (F := Ideal) (m ((c.tc : Thread nD τ).loc main_arg0)) := by
  refine (dats m 0 c).arrAt_eq_of_covers 8 _ (by decide +kernel) fun t hw y => ?_
  idx_vars y
  blk_simp [idx t]
  have e2 : ((cfg0.win 8).blk t).view.emb (ix2 y0 y1) = ix2 y0 y1 := by
    blk_ext [idx t]
  refine Eq.trans ?_ (Eq.symm (congrArg _ e2))
  rw [after0_8]
  simp only [outsAt0]
  frame_out
  pointwise [k0_pay3, k0_pay4, val_main_v78, val_main_v49, val_main_v48, val_main_v0, val_main_cst, val_main_cst_15]
  refine Finset.sum_congr (M := EReal) rfl fun r _ => Finset.sum_congr (M := EReal) rfl fun l _ => ?_
  have hr := r.isLt
  simp only [rd0, in0]
  refine Eq.trans ?_ (Finset.sum_congr (M := EReal) rfl fun d _ => packed_a _ (m ((c.tc : Thread nD τ).loc main_arg1)) (m ((c.tc : Thread nD τ).loc main_arg2)) d ⟨r.val, by omega⟩ l (show r.val < 24 by omega))
  rw [Fin.sum_univ_eight]

end Cert.NormS

end
-- ==== Proof.ClaimS.lean ====
/- The value claim of the update of the small parameters: the two programs, each run to its results, and the results compared. -/
module

public import proofs.«01_k».proof.Defs
public import proofs.«01_k».proof.Proof.NormS
public import proofs.«01_k».proof.Proof.Gen.KernelSIdeal.Value
public import proofs.«01_k».proof.Proof.Gen.ReferenceSIdeal.Run
public import proofs.«01_k».proof.Proof.Gen.ReferenceSIdeal.Read
public import proofs.«01_k».proof.Proof.Gen.Pre_finite_s
public import Idealize.ShloMosaic.Lib.Claim
public import Idealize.ShloMosaic.Lib.Quiescent

@[expose] public section

set_option maxRecDepth 16384

noncomputable section

namespace Cert.ClaimS

open Idealize.ShloMosaic Idealize.ShloMosaic.TcCoe Idealize.SL.Sem Cert.RealLift

theorem real_of_pre (m : (ℓ : Loc Cert.KernelSIdeal.nD Cert.KernelSIdeal.τ Cert.KernelSIdeal.sig) → Buf (Elt Ideal) ℓ)
    (hpre : Pre_KernelSIdeal_finite_s m) (c : Dev Cert.KernelSIdeal.nD) : Cert.NormS.Real m c := by
  have h := congrFun (hpre c) ix0
  dsimp only [Cert.Pre_finite_s.fn] at h
  obtain ⟨a0, a1⟩ := andi_one h
  exact ⟨entries_real _ _ _ _ _ _ _ a0, entries_real _ _ _ _ _ _ _ a1⟩

/-- The reference's run, each result named by the stage that computes it. -/
theorem runRef (m : (ℓ : Loc Cert.ReferenceSIdeal.nD Cert.ReferenceSIdeal.τ Cert.ReferenceSIdeal.sig) → Buf (Elt Ideal) ℓ) (ρ : Dev Cert.ReferenceSIdeal.nD → PrngReg) :
    θ_run Cert.ReferenceSIdeal.defs (onTc (τ := Cert.ReferenceSIdeal.τ) (Cert.ReferenceSIdeal.main (F := Ideal))) ⟨m, fun _ => 0, ρ⟩ fun r => ∀ c : Dev Cert.ReferenceSIdeal.nD,
      r.2.mem ((c.tc : Thread Cert.ReferenceSIdeal.nD Cert.ReferenceSIdeal.τ).loc Cert.ReferenceSIdeal.main_v51) = Cert.ReferenceSIdeal.Read.val_main_v51 (F := Ideal) (m ((c.tc : Thread Cert.ReferenceSIdeal.nD Cert.ReferenceSIdeal.τ).loc Cert.ReferenceSIdeal.main_arg0)) (m ((c.tc : Thread Cert.ReferenceSIdeal.nD Cert.ReferenceSIdeal.τ).loc Cert.ReferenceSIdeal.main_arg1)) (m ((c.tc : Thread Cert.ReferenceSIdeal.nD Cert.ReferenceSIdeal.τ).loc Cert.ReferenceSIdeal.main_arg2)) (m ((c.tc : Thread Cert.ReferenceSIdeal.nD Cert.ReferenceSIdeal.τ).loc Cert.ReferenceSIdeal.main_arg4))
      ∧      r.2.mem ((c.tc : Thread Cert.ReferenceSIdeal.nD Cert.ReferenceSIdeal.τ).loc Cert.ReferenceSIdeal.main_v77) = Cert.ReferenceSIdeal.Read.val_main_v77 (F := Ideal) (m ((c.tc : Thread Cert.ReferenceSIdeal.nD Cert.ReferenceSIdeal.τ).loc Cert.ReferenceSIdeal.main_arg0)) (m ((c.tc : Thread Cert.ReferenceSIdeal.nD Cert.ReferenceSIdeal.τ).loc Cert.ReferenceSIdeal.main_arg1)) (m ((c.tc : Thread Cert.ReferenceSIdeal.nD Cert.ReferenceSIdeal.τ).loc Cert.ReferenceSIdeal.main_arg2)) (m ((c.tc : Thread Cert.ReferenceSIdeal.nD Cert.ReferenceSIdeal.τ).loc Cert.ReferenceSIdeal.main_arg3)) (m ((c.tc : Thread Cert.ReferenceSIdeal.nD Cert.ReferenceSIdeal.τ).loc Cert.ReferenceSIdeal.main_arg4)) (m ((c.tc : Thread Cert.ReferenceSIdeal.nD Cert.ReferenceSIdeal.τ).loc Cert.ReferenceSIdeal.main_arg5)) (m ((c.tc : Thread Cert.ReferenceSIdeal.nD Cert.ReferenceSIdeal.τ).loc Cert.ReferenceSIdeal.main_arg6)) (m ((c.tc : Thread Cert.ReferenceSIdeal.nD Cert.ReferenceSIdeal.τ).loc Cert.ReferenceSIdeal.main_arg7))
      ∧      r.2.mem ((c.tc : Thread Cert.ReferenceSIdeal.nD Cert.ReferenceSIdeal.τ).loc Cert.ReferenceSIdeal.main_v58) = Cert.ReferenceSIdeal.Read.val_main_v58 (F := Ideal) (m ((c.tc : Thread Cert.ReferenceSIdeal.nD Cert.ReferenceSIdeal.τ).loc Cert.ReferenceSIdeal.main_arg0)) (m ((c.tc : Thread Cert.ReferenceSIdeal.nD Cert.ReferenceSIdeal.τ).loc Cert.ReferenceSIdeal.main_arg1)) (m ((c.tc : Thread Cert.ReferenceSIdeal.nD Cert.ReferenceSIdeal.τ).loc Cert.ReferenceSIdeal.main_arg2)) (m ((c.tc : Thread Cert.ReferenceSIdeal.nD Cert.ReferenceSIdeal.τ).loc Cert.ReferenceSIdeal.main_arg4)) (m ((c.tc : Thread Cert.ReferenceSIdeal.nD Cert.ReferenceSIdeal.τ).loc Cert.ReferenceSIdeal.main_arg6))
      ∧      r.2.mem ((c.tc : Thread Cert.ReferenceSIdeal.nD Cert.ReferenceSIdeal.τ).loc Cert.ReferenceSIdeal.main_v64) = Cert.ReferenceSIdeal.Read.val_main_v64 (F := Ideal) (m ((c.tc : Thread Cert.ReferenceSIdeal.nD Cert.ReferenceSIdeal.τ).loc Cert.ReferenceSIdeal.main_arg0)) (m ((c.tc : Thread Cert.ReferenceSIdeal.nD Cert.ReferenceSIdeal.τ).loc Cert.ReferenceSIdeal.main_arg1)) (m ((c.tc : Thread Cert.ReferenceSIdeal.nD Cert.ReferenceSIdeal.τ).loc Cert.ReferenceSIdeal.main_arg2)) (m ((c.tc : Thread Cert.ReferenceSIdeal.nD Cert.ReferenceSIdeal.τ).loc Cert.ReferenceSIdeal.main_arg4)) (m ((c.tc : Thread Cert.ReferenceSIdeal.nD Cert.ReferenceSIdeal.τ).loc Cert.ReferenceSIdeal.main_arg7))
      ∧      r.2.mem ((c.tc : Thread Cert.ReferenceSIdeal.nD Cert.ReferenceSIdeal.τ).loc Cert.ReferenceSIdeal.main_v78) = Cert.ReferenceSIdeal.Read.val_main_v78 (F := Ideal) (m ((c.tc : Thread Cert.ReferenceSIdeal.nD Cert.ReferenceSIdeal.τ).loc Cert.ReferenceSIdeal.main_arg0))
      ∧r.2.mem ((c.tc : Thread Cert.ReferenceSIdeal.nD Cert.ReferenceSIdeal.τ).loc Cert.ReferenceSIdeal.main_arg0) = m ((c.tc : Thread Cert.ReferenceSIdeal.nD Cert.ReferenceSIdeal.τ).loc Cert.ReferenceSIdeal.main_arg0) ∧ r.2.mem ((c.tc : Thread Cert.ReferenceSIdeal.nD Cert.ReferenceSIdeal.τ).loc Cert.ReferenceSIdeal.main_arg1) = m ((c.tc : Thread Cert.ReferenceSIdeal.nD Cert.ReferenceSIdeal.τ).loc Cert.ReferenceSIdeal.main_arg1) ∧ r.2.mem ((c.tc : Thread Cert.ReferenceSIdeal.nD Cert.ReferenceSIdeal.τ).loc Cert.ReferenceSIdeal.main_arg2) = m ((c.tc : Thread Cert.ReferenceSIdeal.nD Cert.ReferenceSIdeal.τ).loc Cert.ReferenceSIdeal.main_arg2) ∧ r.2.mem ((c.tc : Thread Cert.ReferenceSIdeal.nD Cert.ReferenceSIdeal.τ).loc Cert.ReferenceSIdeal.main_arg3) = m ((c.tc : Thread Cert.ReferenceSIdeal.nD Cert.ReferenceSIdeal.τ).loc Cert.ReferenceSIdeal.main_arg3) ∧ r.2.mem ((c.tc : Thread Cert.ReferenceSIdeal.nD Cert.ReferenceSIdeal.τ).loc Cert.ReferenceSIdeal.main_arg4) = m ((c.tc : Thread Cert.ReferenceSIdeal.nD Cert.ReferenceSIdeal.τ).loc Cert.ReferenceSIdeal.main_arg4) ∧ r.2.mem ((c.tc : Thread Cert.ReferenceSIdeal.nD Cert.ReferenceSIdeal.τ).loc Cert.ReferenceSIdeal.main_arg5) = m ((c.tc : Thread Cert.ReferenceSIdeal.nD Cert.ReferenceSIdeal.τ).loc Cert.ReferenceSIdeal.main_arg5) ∧ r.2.mem ((c.tc : Thread Cert.ReferenceSIdeal.nD Cert.ReferenceSIdeal.τ).loc Cert.ReferenceSIdeal.main_arg6) = m ((c.tc : Thread Cert.ReferenceSIdeal.nD Cert.ReferenceSIdeal.τ).loc Cert.ReferenceSIdeal.main_arg6) ∧ r.2.mem ((c.tc : Thread Cert.ReferenceSIdeal.nD Cert.ReferenceSIdeal.τ).loc Cert.ReferenceSIdeal.main_arg7) = m ((c.tc : Thread Cert.ReferenceSIdeal.nD Cert.ReferenceSIdeal.τ).loc Cert.ReferenceSIdeal.main_arg7) :=
  (θ_run Cert.ReferenceSIdeal.defs _ _).mono (fun _ h c => ⟨(h c).1.trans (Cert.ReferenceSIdeal.Read.val_main_v51_eq m c),
    (h c).2.1.trans (Cert.ReferenceSIdeal.Read.val_main_v77_eq m c),
    (h c).2.2.1.trans (Cert.ReferenceSIdeal.Read.val_main_v58_eq m c),
    (h c).2.2.2.1.trans (Cert.ReferenceSIdeal.Read.val_main_v64_eq m c),
    (h c).2.2.2.2.1.trans (Cert.ReferenceSIdeal.Read.val_main_v78_eq (m ((c.tc : Thread Cert.ReferenceSIdeal.nD Cert.ReferenceSIdeal.τ).loc Cert.ReferenceSIdeal.main_arg0))),
    (h c).2.2.2.2.2⟩)
    (Cert.ReferenceSIdeal.Value.run m ρ)

theorem algebraic : algebraic_KernelSIdeal_ReferenceSIdeal_pre_finite_s := by
  pair_intro
  · run_from Cert.KernelSIdeal.Value.run_blocks m g
  · run_from runRef m' g'
    · exact (Cert.NormS.final4 m c (real_of_pre m hpre c)).symm
    · exact (Cert.NormS.final5 m c (real_of_pre m hpre c)).symm
    · exact (Cert.NormS.final6 m c (real_of_pre m hpre c)).symm
    · exact (Cert.NormS.final7 m c (real_of_pre m hpre c)).symm
    · exact (Cert.NormS.final8 m c).symm

/-- The reference leaves its arguments alone, and declares no counter. -/
theorem frameRef : quiescent_ReferenceSIdeal := fun m g _ =>
  (θ_run Cert.ReferenceSIdeal.defs _ _).mono (fun r h => ⟨fun c => (h c).2.2.2.2.2, sem_eq_zero_of_no_sems (by decide) r.2⟩)
    (Cert.ReferenceSIdeal.Value.run m g)

theorem frameRefPre : quiescent_ReferenceSIdeal_pre_finite_s := fun m g _ => frameRef m g trivial

end Cert.ClaimS

end
-- ==== Proof.lean ====
/- The proof of the certificate's claims: the frames are the generated ones, the value claims are those of the
   modules `Claim…`, one for each pair of programs. -/
module

public import proofs.«01_k».proof.Defs
public import proofs.«01_k».proof.Proof.Gen.KernelV
public import proofs.«01_k».proof.Proof.Gen.KernelV.Skeleton
public import proofs.«01_k».proof.Proof.Gen.KernelV.Launch
public import proofs.«01_k».proof.Proof.Gen.KernelV.Points
public import proofs.«01_k».proof.Proof.Gen.KernelV.Frame
public import proofs.«01_k».proof.Proof.Gen.KernelVIdeal
public import proofs.«01_k».proof.Proof.Gen.KernelVIdeal.Skeleton
public import proofs.«01_k».proof.Proof.Gen.KernelVIdeal.Launch
public import proofs.«01_k».proof.Proof.Gen.KernelVIdeal.Points
public import proofs.«01_k».proof.Proof.Gen.KernelVIdeal.Frame
public import proofs.«01_k».proof.Proof.Gen.KernelVIdeal.Value
public import proofs.«01_k».proof.Proof.Gen.ReferenceVIdeal
public import proofs.«01_k».proof.Proof.Gen.ReferenceVIdeal.Run
public import proofs.«01_k».proof.Proof.Gen.ReferenceVIdeal.Read
public import proofs.«01_k».proof.Proof.Gen.Pre_finite_v
public import proofs.«01_k».proof.Proof.ClaimV
public import proofs.«01_k».proof.Proof.Gen.KernelU
public import proofs.«01_k».proof.Proof.Gen.KernelU.Skeleton
public import proofs.«01_k».proof.Proof.Gen.KernelU.Launch
public import proofs.«01_k».proof.Proof.Gen.KernelU.Points
public import proofs.«01_k».proof.Proof.Gen.KernelU.Frame
public import proofs.«01_k».proof.Proof.Gen.KernelUIdeal
public import proofs.«01_k».proof.Proof.Gen.KernelUIdeal.Skeleton
public import proofs.«01_k».proof.Proof.Gen.KernelUIdeal.Launch
public import proofs.«01_k».proof.Proof.Gen.KernelUIdeal.Points
public import proofs.«01_k».proof.Proof.Gen.KernelUIdeal.Frame
public import proofs.«01_k».proof.Proof.Gen.KernelUIdeal.Value
public import proofs.«01_k».proof.Proof.Gen.ReferenceUIdeal
public import proofs.«01_k».proof.Proof.Gen.ReferenceUIdeal.Run
public import proofs.«01_k».proof.Proof.Gen.ReferenceUIdeal.Read
public import proofs.«01_k».proof.Proof.Gen.Pre_finite_u
public import proofs.«01_k».proof.Proof.ClaimU
public import proofs.«01_k».proof.Proof.Gen.KernelD
public import proofs.«01_k».proof.Proof.Gen.KernelD.Skeleton
public import proofs.«01_k».proof.Proof.Gen.KernelD.Launch
public import proofs.«01_k».proof.Proof.Gen.KernelD.Points
public import proofs.«01_k».proof.Proof.Gen.KernelD.Frame
public import proofs.«01_k».proof.Proof.Gen.KernelDIdeal
public import proofs.«01_k».proof.Proof.Gen.KernelDIdeal.Skeleton
public import proofs.«01_k».proof.Proof.Gen.KernelDIdeal.Launch
public import proofs.«01_k».proof.Proof.Gen.KernelDIdeal.Points
public import proofs.«01_k».proof.Proof.Gen.KernelDIdeal.Frame
public import proofs.«01_k».proof.Proof.Gen.KernelDIdeal.Value
public import proofs.«01_k».proof.Proof.Gen.ReferenceDIdeal
public import proofs.«01_k».proof.Proof.Gen.ReferenceDIdeal.Run
public import proofs.«01_k».proof.Proof.Gen.ReferenceDIdeal.Read
public import proofs.«01_k».proof.Proof.Gen.Pre_finite_d
public import proofs.«01_k».proof.Proof.ClaimD
public import proofs.«01_k».proof.Proof.Gen.KernelA
public import proofs.«01_k».proof.Proof.Gen.KernelA.Skeleton
public import proofs.«01_k».proof.Proof.Gen.KernelA.Launch
public import proofs.«01_k».proof.Proof.Gen.KernelA.Points
public import proofs.«01_k».proof.Proof.Gen.KernelA.Frame
public import proofs.«01_k».proof.Proof.Gen.KernelAIdeal
public import proofs.«01_k».proof.Proof.Gen.KernelAIdeal.Skeleton
public import proofs.«01_k».proof.Proof.Gen.KernelAIdeal.Launch
public import proofs.«01_k».proof.Proof.Gen.KernelAIdeal.Points
public import proofs.«01_k».proof.Proof.Gen.KernelAIdeal.Frame
public import proofs.«01_k».proof.Proof.AttnFrame
public import proofs.«01_k».proof.Proof.Gen.ReferenceAIdeal
public import proofs.«01_k».proof.Proof.Gen.ReferenceAIdeal.Run
public import proofs.«01_k».proof.Proof.Gen.ReferenceAIdeal.Read
public import proofs.«01_k».proof.Proof.Gen.Pre_finite_a
public import proofs.«01_k».proof.Proof.ClaimA
public import proofs.«01_k».proof.Proof.Gen.KernelM
public import proofs.«01_k».proof.Proof.Gen.KernelM.Skeleton
public import proofs.«01_k».proof.Proof.Gen.KernelM.Launch
public import proofs.«01_k».proof.Proof.Gen.KernelM.Points
public import proofs.«01_k».proof.Proof.Gen.KernelM.Frame
public import proofs.«01_k».proof.Proof.Gen.KernelMIdeal
public import proofs.«01_k».proof.Proof.Gen.KernelMIdeal.Skeleton
public import proofs.«01_k».proof.Proof.Gen.KernelMIdeal.Launch
public import proofs.«01_k».proof.Proof.Gen.KernelMIdeal.Points
public import proofs.«01_k».proof.Proof.Gen.KernelMIdeal.Frame
public import proofs.«01_k».proof.Proof.Gen.KernelMIdeal.Value
public import proofs.«01_k».proof.Proof.Gen.ReferenceMIdeal
public import proofs.«01_k».proof.Proof.Gen.ReferenceMIdeal.Run
public import proofs.«01_k».proof.Proof.Gen.ReferenceMIdeal.Read
public import proofs.«01_k».proof.Proof.Gen.Pre_finite_m
public import proofs.«01_k».proof.Proof.ClaimM
public import proofs.«01_k».proof.Proof.Gen.KernelF
public import proofs.«01_k».proof.Proof.Gen.KernelF.Skeleton
public import proofs.«01_k».proof.Proof.Gen.KernelF.Launch
public import proofs.«01_k».proof.Proof.Gen.KernelF.Points
public import proofs.«01_k».proof.Proof.Gen.KernelF.Frame
public import proofs.«01_k».proof.Proof.Gen.KernelFIdeal
public import proofs.«01_k».proof.Proof.Gen.KernelFIdeal.Skeleton
public import proofs.«01_k».proof.Proof.Gen.KernelFIdeal.Launch
public import proofs.«01_k».proof.Proof.Gen.KernelFIdeal.Points
public import proofs.«01_k».proof.Proof.Gen.KernelFIdeal.Frame
public import proofs.«01_k».proof.Proof.Gen.KernelFIdeal.Value
public import proofs.«01_k».proof.Proof.Gen.ReferenceFIdeal
public import proofs.«01_k».proof.Proof.Gen.ReferenceFIdeal.Run
public import proofs.«01_k».proof.Proof.Gen.ReferenceFIdeal.Read
public import proofs.«01_k».proof.Proof.Gen.Pre_finite_f
public import proofs.«01_k».proof.Proof.ClaimF
public import proofs.«01_k».proof.Proof.Gen.KernelT
public import proofs.«01_k».proof.Proof.Gen.KernelT.Skeleton
public import proofs.«01_k».proof.Proof.Gen.KernelT.Launch
public import proofs.«01_k».proof.Proof.Gen.KernelT.Points
public import proofs.«01_k».proof.Proof.Gen.KernelT.Frame
public import proofs.«01_k».proof.Proof.Gen.KernelTIdeal
public import proofs.«01_k».proof.Proof.Gen.KernelTIdeal.Skeleton
public import proofs.«01_k».proof.Proof.Gen.KernelTIdeal.Launch
public import proofs.«01_k».proof.Proof.Gen.KernelTIdeal.Points
public import proofs.«01_k».proof.Proof.Gen.KernelTIdeal.Frame
public import proofs.«01_k».proof.Proof.Gen.KernelTIdeal.Value
public import proofs.«01_k».proof.Proof.Gen.ReferenceTIdeal
public import proofs.«01_k».proof.Proof.Gen.ReferenceTIdeal.Run
public import proofs.«01_k».proof.Proof.Gen.ReferenceTIdeal.Read
public import proofs.«01_k».proof.Proof.Gen.Pre_finite_t
public import proofs.«01_k».proof.Proof.ClaimT
public import proofs.«01_k».proof.Proof.Gen.KernelX
public import proofs.«01_k».proof.Proof.Gen.KernelX.Skeleton
public import proofs.«01_k».proof.Proof.Gen.KernelX.Launch
public import proofs.«01_k».proof.Proof.Gen.KernelX.Points
public import proofs.«01_k».proof.Proof.Gen.KernelX.Frame
public import proofs.«01_k».proof.Proof.Gen.KernelXIdeal
public import proofs.«01_k».proof.Proof.Gen.KernelXIdeal.Skeleton
public import proofs.«01_k».proof.Proof.Gen.KernelXIdeal.Launch
public import proofs.«01_k».proof.Proof.Gen.KernelXIdeal.Points
public import proofs.«01_k».proof.Proof.Gen.KernelXIdeal.Frame
public import proofs.«01_k».proof.Proof.Gen.KernelXIdeal.Value
public import proofs.«01_k».proof.Proof.Gen.ReferenceXIdeal
public import proofs.«01_k».proof.Proof.Gen.ReferenceXIdeal.Run
public import proofs.«01_k».proof.Proof.Gen.ReferenceXIdeal.Read
public import proofs.«01_k».proof.Proof.ClaimX
public import proofs.«01_k».proof.Proof.Gen.KernelO
public import proofs.«01_k».proof.Proof.Gen.KernelO.Skeleton
public import proofs.«01_k».proof.Proof.Gen.KernelO.Launch
public import proofs.«01_k».proof.Proof.Gen.KernelO.Points
public import proofs.«01_k».proof.Proof.Gen.KernelO.Frame
public import proofs.«01_k».proof.Proof.Gen.KernelOIdeal
public import proofs.«01_k».proof.Proof.Gen.KernelOIdeal.Skeleton
public import proofs.«01_k».proof.Proof.Gen.KernelOIdeal.Launch
public import proofs.«01_k».proof.Proof.Gen.KernelOIdeal.Points
public import proofs.«01_k».proof.Proof.Gen.KernelOIdeal.Frame
public import proofs.«01_k».proof.Proof.Gen.KernelOIdeal.Value
public import proofs.«01_k».proof.Proof.Gen.ReferenceOIdeal
public import proofs.«01_k».proof.Proof.Gen.ReferenceOIdeal.Run
public import proofs.«01_k».proof.Proof.Gen.ReferenceOIdeal.Read
public import proofs.«01_k».proof.Proof.ClaimO
public import proofs.«01_k».proof.Proof.Gen.KernelI
public import proofs.«01_k».proof.Proof.Gen.KernelI.Skeleton
public import proofs.«01_k».proof.Proof.Gen.KernelI.Launch
public import proofs.«01_k».proof.Proof.Gen.KernelI.Points
public import proofs.«01_k».proof.Proof.Gen.KernelI.Frame
public import proofs.«01_k».proof.Proof.Gen.KernelIIdeal
public import proofs.«01_k».proof.Proof.Gen.KernelIIdeal.Skeleton
public import proofs.«01_k».proof.Proof.Gen.KernelIIdeal.Launch
public import proofs.«01_k».proof.Proof.Gen.KernelIIdeal.Points
public import proofs.«01_k».proof.Proof.Gen.KernelIIdeal.Frame
public import proofs.«01_k».proof.Proof.Gen.KernelIIdeal.Value
public import proofs.«01_k».proof.Proof.Gen.ReferenceIIdeal
public import proofs.«01_k».proof.Proof.Gen.ReferenceIIdeal.Run
public import proofs.«01_k».proof.Proof.Gen.ReferenceIIdeal.Read
public import proofs.«01_k».proof.Proof.ClaimI
public import proofs.«01_k».proof.Proof.Gen.KernelL
public import proofs.«01_k».proof.Proof.Gen.KernelL.Skeleton
public import proofs.«01_k».proof.Proof.Gen.KernelL.Launch
public import proofs.«01_k».proof.Proof.Gen.KernelL.Points
public import proofs.«01_k».proof.Proof.Gen.KernelL.Frame
public import proofs.«01_k».proof.Proof.Gen.KernelLIdeal
public import proofs.«01_k».proof.Proof.Gen.KernelLIdeal.Skeleton
public import proofs.«01_k».proof.Proof.Gen.KernelLIdeal.Launch
public import proofs.«01_k».proof.Proof.Gen.KernelLIdeal.Points
public import proofs.«01_k».proof.Proof.Gen.KernelLIdeal.Frame
public import proofs.«01_k».proof.Proof.Gen.KernelLIdeal.Value
public import proofs.«01_k».proof.Proof.Gen.ReferenceLIdeal
public import proofs.«01_k».proof.Proof.Gen.ReferenceLIdeal.Run
public import proofs.«01_k».proof.Proof.Gen.ReferenceLIdeal.Read
public import proofs.«01_k».proof.Proof.Gen.Pre_finite_l
public import proofs.«01_k».proof.Proof.ClaimL
public import proofs.«01_k».proof.Proof.Gen.KernelP
public import proofs.«01_k».proof.Proof.Gen.KernelP.Skeleton
public import proofs.«01_k».proof.Proof.Gen.KernelP.Launch
public import proofs.«01_k».proof.Proof.Gen.KernelP.Points
public import proofs.«01_k».proof.Proof.Gen.KernelP.Frame
public import proofs.«01_k».proof.Proof.Gen.KernelPIdeal
public import proofs.«01_k».proof.Proof.Gen.KernelPIdeal.Skeleton
public import proofs.«01_k».proof.Proof.Gen.KernelPIdeal.Launch
public import proofs.«01_k».proof.Proof.Gen.KernelPIdeal.Points
public import proofs.«01_k».proof.Proof.Gen.KernelPIdeal.Frame
public import proofs.«01_k».proof.Proof.Gen.KernelPIdeal.Value
public import proofs.«01_k».proof.Proof.Gen.ReferencePIdeal
public import proofs.«01_k».proof.Proof.Gen.ReferencePIdeal.Run
public import proofs.«01_k».proof.Proof.Gen.ReferencePIdeal.Read
public import proofs.«01_k».proof.Proof.ClaimP
public import proofs.«01_k».proof.Proof.Gen.KernelQ
public import proofs.«01_k».proof.Proof.Gen.KernelQ.Skeleton
public import proofs.«01_k».proof.Proof.Gen.KernelQ.Launch
public import proofs.«01_k».proof.Proof.Gen.KernelQ.Points
public import proofs.«01_k».proof.Proof.Gen.KernelQ.Frame
public import proofs.«01_k».proof.Proof.Gen.KernelQIdeal
public import proofs.«01_k».proof.Proof.Gen.KernelQIdeal.Skeleton
public import proofs.«01_k».proof.Proof.Gen.KernelQIdeal.Launch
public import proofs.«01_k».proof.Proof.Gen.KernelQIdeal.Points
public import proofs.«01_k».proof.Proof.Gen.KernelQIdeal.Frame
public import proofs.«01_k».proof.Proof.Gen.KernelQIdeal.Value
public import proofs.«01_k».proof.Proof.Gen.ReferenceQIdeal
public import proofs.«01_k».proof.Proof.Gen.ReferenceQIdeal.Run
public import proofs.«01_k».proof.Proof.Gen.ReferenceQIdeal.Read
public import proofs.«01_k».proof.Proof.ClaimQ
public import proofs.«01_k».proof.Proof.Gen.KernelB
public import proofs.«01_k».proof.Proof.Gen.KernelB.Skeleton
public import proofs.«01_k».proof.Proof.Gen.KernelB.Launch
public import proofs.«01_k».proof.Proof.Gen.KernelB.Points
public import proofs.«01_k».proof.Proof.Gen.KernelB.Frame
public import proofs.«01_k».proof.Proof.Gen.KernelBIdeal
public import proofs.«01_k».proof.Proof.Gen.KernelBIdeal.Skeleton
public import proofs.«01_k».proof.Proof.Gen.KernelBIdeal.Launch
public import proofs.«01_k».proof.Proof.Gen.KernelBIdeal.Points
public import proofs.«01_k».proof.Proof.Gen.KernelBIdeal.Frame
public import proofs.«01_k».proof.Proof.Gen.KernelBIdeal.Value
public import proofs.«01_k».proof.Proof.Gen.ReferenceBIdeal
public import proofs.«01_k».proof.Proof.Gen.ReferenceBIdeal.Run
public import proofs.«01_k».proof.Proof.Gen.ReferenceBIdeal.Read
public import proofs.«01_k».proof.Proof.ClaimB
public import proofs.«01_k».proof.Proof.Gen.KernelC
public import proofs.«01_k».proof.Proof.Gen.KernelC.Skeleton
public import proofs.«01_k».proof.Proof.Gen.KernelC.Launch
public import proofs.«01_k».proof.Proof.Gen.KernelC.Points
public import proofs.«01_k».proof.Proof.Gen.KernelC.Frame
public import proofs.«01_k».proof.Proof.Gen.KernelCIdeal
public import proofs.«01_k».proof.Proof.Gen.KernelCIdeal.Skeleton
public import proofs.«01_k».proof.Proof.Gen.KernelCIdeal.Launch
public import proofs.«01_k».proof.Proof.Gen.KernelCIdeal.Points
public import proofs.«01_k».proof.Proof.Gen.KernelCIdeal.Frame
public import proofs.«01_k».proof.Proof.Gen.KernelCIdeal.Value
public import proofs.«01_k».proof.Proof.Gen.ReferenceCIdeal
public import proofs.«01_k».proof.Proof.Gen.ReferenceCIdeal.Run
public import proofs.«01_k».proof.Proof.Gen.ReferenceCIdeal.Read
public import proofs.«01_k».proof.Proof.ClaimC
public import proofs.«01_k».proof.Proof.Gen.KernelS
public import proofs.«01_k».proof.Proof.Gen.KernelS.Skeleton
public import proofs.«01_k».proof.Proof.Gen.KernelS.Launch
public import proofs.«01_k».proof.Proof.Gen.KernelS.Points
public import proofs.«01_k».proof.Proof.Gen.KernelS.Frame
public import proofs.«01_k».proof.Proof.Gen.KernelSIdeal
public import proofs.«01_k».proof.Proof.Gen.KernelSIdeal.Skeleton
public import proofs.«01_k».proof.Proof.Gen.KernelSIdeal.Launch
public import proofs.«01_k».proof.Proof.Gen.KernelSIdeal.Points
public import proofs.«01_k».proof.Proof.Gen.KernelSIdeal.Frame
public import proofs.«01_k».proof.Proof.Gen.KernelSIdeal.Value
public import proofs.«01_k».proof.Proof.Gen.ReferenceSIdeal
public import proofs.«01_k».proof.Proof.Gen.ReferenceSIdeal.Run
public import proofs.«01_k».proof.Proof.Gen.ReferenceSIdeal.Read
public import proofs.«01_k».proof.Proof.Gen.Pre_finite_s
public import proofs.«01_k».proof.Proof.ClaimS
public import proofs.«01_k».proof.Proof.Gen.KernelG
public import proofs.«01_k».proof.Proof.Gen.KernelG.Skeleton
public import proofs.«01_k».proof.Proof.Gen.KernelG.Launch
public import proofs.«01_k».proof.Proof.Gen.KernelG.Points
public import proofs.«01_k».proof.Proof.Gen.KernelG.Frame
public import proofs.«01_k».proof.Proof.Gen.KernelH
public import proofs.«01_k».proof.Proof.Gen.KernelH.Skeleton
public import proofs.«01_k».proof.Proof.Gen.KernelH.Launch
public import proofs.«01_k».proof.Proof.Gen.KernelH.Points
public import proofs.«01_k».proof.Proof.Gen.KernelH.Frame
public import proofs.«01_k».proof.Proof.Gen.KernelHIdeal
public import proofs.«01_k».proof.Proof.Gen.KernelHIdeal.Skeleton
public import proofs.«01_k».proof.Proof.Gen.KernelHIdeal.Launch
public import proofs.«01_k».proof.Proof.Gen.KernelHIdeal.Points
public import proofs.«01_k».proof.Proof.Gen.KernelHIdeal.Frame
public import Idealize.ShloMosaic.Lib.Claim
public import Idealize.ShloMosaic.Adequacy
public import Idealize.ShloMosaic.Init

@[expose] public section

noncomputable section

namespace Cert.Proof

open Idealize.ShloMosaic Idealize.SL.Sem Cert.KernelV

theorem claim : Cert.Claim := ⟨Cert.KernelV.Gen.facts, Cert.KernelVIdeal.Gen.facts, Cert.ReferenceVIdeal.Gen.facts, Cert.KernelU.Gen.facts, Cert.KernelUIdeal.Gen.facts, Cert.ReferenceUIdeal.Gen.facts, Cert.KernelD.Gen.facts, Cert.KernelDIdeal.Gen.facts, Cert.ReferenceDIdeal.Gen.facts, Cert.KernelA.Gen.facts, Cert.KernelAIdeal.Gen.facts, Cert.ReferenceAIdeal.Gen.facts, Cert.KernelM.Gen.facts, Cert.KernelMIdeal.Gen.facts, Cert.ReferenceMIdeal.Gen.facts, Cert.KernelF.Gen.facts, Cert.KernelFIdeal.Gen.facts, Cert.ReferenceFIdeal.Gen.facts, Cert.KernelT.Gen.facts, Cert.KernelTIdeal.Gen.facts, Cert.ReferenceTIdeal.Gen.facts, Cert.KernelX.Gen.facts, Cert.KernelXIdeal.Gen.facts, Cert.ReferenceXIdeal.Gen.facts, Cert.KernelO.Gen.facts, Cert.KernelOIdeal.Gen.facts, Cert.ReferenceOIdeal.Gen.facts, Cert.KernelI.Gen.facts, Cert.KernelIIdeal.Gen.facts, Cert.ReferenceIIdeal.Gen.facts, Cert.KernelL.Gen.facts, Cert.KernelLIdeal.Gen.facts, Cert.ReferenceLIdeal.Gen.facts, Cert.KernelP.Gen.facts, Cert.KernelPIdeal.Gen.facts, Cert.ReferencePIdeal.Gen.facts, Cert.KernelQ.Gen.facts, Cert.KernelQIdeal.Gen.facts, Cert.ReferenceQIdeal.Gen.facts, Cert.KernelB.Gen.facts, Cert.KernelBIdeal.Gen.facts, Cert.ReferenceBIdeal.Gen.facts, Cert.KernelC.Gen.facts, Cert.KernelCIdeal.Gen.facts, Cert.ReferenceCIdeal.Gen.facts, Cert.KernelS.Gen.facts, Cert.KernelSIdeal.Gen.facts, Cert.ReferenceSIdeal.Gen.facts, Cert.KernelG.Gen.facts, Cert.KernelH.Gen.facts, Cert.KernelHIdeal.Gen.facts, Cert.Pre_finite_v.Gen.facts, Cert.Pre_finite_u.Gen.facts, Cert.Pre_finite_d.Gen.facts, Cert.Pre_finite_a.Gen.facts, Cert.Pre_finite_m.Gen.facts, Cert.Pre_finite_f.Gen.facts, Cert.Pre_finite_t.Gen.facts, Cert.Pre_finite_l.Gen.facts, Cert.Pre_finite_s.Gen.facts,
  fun m ρ _ => Cert.KernelV.Gen.frame m ρ, fun m ρ _ => Cert.KernelVIdeal.Gen.frame m ρ, fun m ρ _ => Cert.KernelVIdeal.Gen.frame m ρ,
  Cert.ClaimV.frameRef, Cert.ClaimV.frameRefPre,
  fun m ρ _ => Cert.KernelU.Gen.frame m ρ, fun m ρ _ => Cert.KernelUIdeal.Gen.frame m ρ, fun m ρ _ => Cert.KernelUIdeal.Gen.frame m ρ,
  Cert.ClaimU.frameRef, Cert.ClaimU.frameRefPre,
  fun m ρ _ => Cert.KernelD.Gen.frame m ρ, fun m ρ _ => Cert.KernelDIdeal.Gen.frame m ρ, fun m ρ _ => Cert.KernelDIdeal.Gen.frame m ρ,
  Cert.ClaimD.frameRef, Cert.ClaimD.frameRefPre,
  fun m ρ _ => Cert.Attn.frame_bits m ρ, fun m ρ _ => Cert.Attn.frame (F := Ideal) m ρ, fun m ρ _ => Cert.Attn.frame (F := Ideal) m ρ,
  Cert.ClaimA.frameRef, Cert.ClaimA.frameRefPre,
  fun m ρ _ => Cert.KernelM.Gen.frame m ρ, fun m ρ _ => Cert.KernelMIdeal.Gen.frame m ρ, fun m ρ _ => Cert.KernelMIdeal.Gen.frame m ρ,
  Cert.ClaimM.frameRef, Cert.ClaimM.frameRefPre,
  fun m ρ _ => Cert.KernelF.Gen.frame m ρ, fun m ρ _ => Cert.KernelFIdeal.Gen.frame m ρ, fun m ρ _ => Cert.KernelFIdeal.Gen.frame m ρ,
  Cert.ClaimF.frameRef, Cert.ClaimF.frameRefPre,
  fun m ρ _ => Cert.KernelT.Gen.frame m ρ, fun m ρ _ => Cert.KernelTIdeal.Gen.frame m ρ, fun m ρ _ => Cert.KernelTIdeal.Gen.frame m ρ,
  Cert.ClaimT.frameRef, Cert.ClaimT.frameRefPre,
  fun m ρ _ => Cert.KernelX.Gen.frame m ρ, fun m ρ _ => Cert.KernelXIdeal.Gen.frame m ρ,
  Cert.ClaimX.frameRef,
  fun m ρ _ => Cert.KernelO.Gen.frame m ρ, fun m ρ _ => Cert.KernelOIdeal.Gen.frame m ρ,
  Cert.ClaimO.frameRef,
  fun m ρ _ => Cert.KernelI.Gen.frame m ρ, fun m ρ _ => Cert.KernelIIdeal.Gen.frame m ρ,
  Cert.ClaimI.frameRef,
  fun m ρ _ => Cert.KernelL.Gen.frame m ρ, fun m ρ _ => Cert.KernelLIdeal.Gen.frame m ρ, fun m ρ _ => Cert.KernelLIdeal.Gen.frame m ρ,
  Cert.ClaimL.frameRef, Cert.ClaimL.frameRefPre,
  fun m ρ _ => Cert.KernelP.Gen.frame m ρ, fun m ρ _ => Cert.KernelPIdeal.Gen.frame m ρ,
  Cert.ClaimP.frameRef,
  fun m ρ _ => Cert.KernelQ.Gen.frame m ρ, fun m ρ _ => Cert.KernelQIdeal.Gen.frame m ρ,
  Cert.ClaimQ.frameRef,
  fun m ρ _ => Cert.KernelB.Gen.frame m ρ, fun m ρ _ => Cert.KernelBIdeal.Gen.frame m ρ,
  Cert.ClaimB.frameRef,
  fun m ρ _ => Cert.KernelC.Gen.frame m ρ, fun m ρ _ => Cert.KernelCIdeal.Gen.frame m ρ,
  Cert.ClaimC.frameRef,
  fun m ρ _ => Cert.KernelS.Gen.frame m ρ, fun m ρ _ => Cert.KernelSIdeal.Gen.frame m ρ, fun m ρ _ => Cert.KernelSIdeal.Gen.frame m ρ,
  Cert.ClaimS.frameRef, Cert.ClaimS.frameRefPre,
  fun m ρ _ => Cert.KernelG.Gen.frame m ρ,
  fun m ρ _ => Cert.KernelH.Gen.frame m ρ, fun m ρ _ => Cert.KernelHIdeal.Gen.frame m ρ,
  trivial, Cert.ClaimV.algebraic, trivial, Cert.ClaimU.algebraic, trivial, Cert.ClaimD.algebraic, IdealRules.named_const.statement Cert.KernelAIdeal.κ "mask" .f32 0xF149F2CA#32 ⊥ rfl, Cert.ClaimA.algebraic, trivial, Cert.ClaimM.algebraic, trivial, Cert.ClaimF.algebraic, IdealRules.named_const.statement Cert.KernelTIdeal.κ "mask" .f32 0xF149F2CA#32 ⊥ rfl, Cert.ClaimT.algebraic, trivial, Cert.ClaimX.algebraic, trivial, Cert.ClaimO.algebraic, trivial, Cert.ClaimI.algebraic, trivial, Cert.ClaimL.algebraic, trivial, Cert.ClaimP.algebraic, trivial, Cert.ClaimQ.algebraic, trivial, Cert.ClaimB.algebraic, trivial, Cert.ClaimC.algebraic, trivial, Cert.ClaimS.algebraic, trivial⟩

end Cert.Proof

end
